-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_dpooled_finite [hPre_dpooled_finite : Cert.Pre_dpooled_finite.Facts] (m : (ℓ : Loc Cert.KernelIdeal.nD Cert.KernelIdeal.τ Cert.KernelIdeal.sig) → Buf (Elt Ideal) ℓ) : Prop :=
  ∀ c : Dev Cert.KernelIdeal.nD,
    (Cert.Pre_dpooled_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_dpooled_finite [hPre_dpooled_finite : Cert.Pre_dpooled_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_dpooled_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_gate_bwd_finite [hPre_gate_bwd_finite : Cert.Pre_gate_bwd_finite.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_gate_bwd_finite.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))) = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_gate_bwd_finite [hPre_gate_bwd_finite : Cert.Pre_gate_bwd_finite.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_gate_bwd_finite.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4))) = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_first_finite [hPre_first_finite : Cert.Pre_first_finite.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_first_finite.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3))) = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_first_finite [hPre_first_finite : Cert.Pre_first_finite.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_first_finite.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3))) = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_mid_finite [hPre_mid_finite : Cert.Pre_mid_finite.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_mid_finite.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))) = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_mid_finite [hPre_mid_finite : Cert.Pre_mid_finite.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_mid_finite.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))) = (fun _ => 1#1)

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Kernel5Ideal_head_finite [hPre_head_finite : Cert.Pre_head_finite.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_head_finite.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3))) = (fun _ => 1#1)

def Pre_Reference5Ideal (m : (ℓ : Loc Cert.Reference5Ideal.nD Cert.Reference5Ideal.τ Cert.Reference5Ideal.sig) → Buf (Elt Ideal) ℓ) : Prop :=
  True

def Pre_Reference5Ideal_head_finite [hPre_head_finite : Cert.Pre_head_finite.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_head_finite.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_proj_finite [hPre_proj_finite : Cert.Pre_proj_finite.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_proj_finite.fn (F := Ideal) (m ((c.tc : Thread Cert.Kernel8Ideal.nD Cert.Kernel8Ideal.τ).loc Cert.Kernel8Ideal.main_arg0))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_proj_finite [hPre_proj_finite : Cert.Pre_proj_finite.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_proj_finite.fn (F := Ideal) (m ((c.tc : Thread Cert.Reference8Ideal.nD Cert.Reference8Ideal.τ).loc Cert.Reference8Ideal.main_arg0))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def Pre_Kernel26 (m : (ℓ : Loc Cert.Kernel26.nD Cert.Kernel26.τ Cert.Kernel26.sig) → Buf (Elt Bits) ℓ) : Prop :=
  True

def Pre_Kernel26Ideal (m : (ℓ : Loc Cert.Kernel26Ideal.nD Cert.Kernel26Ideal.τ Cert.Kernel26Ideal.sig) → Buf (Elt Ideal) ℓ) : Prop :=
  True

def Pre_Reference26Ideal (m : (ℓ : Loc Cert.Reference26Ideal.nD Cert.Reference26Ideal.τ Cert.Reference26Ideal.sig) → Buf (Elt Ideal) ℓ) : Prop :=
  True

def Pre_Kernel27 [hPre_b_w_out_named : Cert.Pre_b_w_out_named.Facts] (m : (ℓ : Loc Cert.Kernel27.nD Cert.Kernel27.τ Cert.Kernel27.sig) → Buf (Elt Bits) ℓ) : Prop :=
  ∀ c : Dev Cert.Kernel27.nD,
    (Cert.Pre_b_w_out_named.fn (F := Bits) (m ((c.tc : Thread Cert.Kernel27.nD Cert.Kernel27.τ).loc Cert.Kernel27.main_arg0)) (m ((c.tc : Thread Cert.Kernel27.nD Cert.Kernel27.τ).loc Cert.Kernel27.main_arg1)) (m ((c.tc : Thread Cert.Kernel27.nD Cert.Kernel27.τ).loc Cert.Kernel27.main_arg2)) (m ((c.tc : Thread Cert.Kernel27.nD Cert.Kernel27.τ).loc Cert.Kernel27.main_arg3)) (m ((c.tc : Thread Cert.Kernel27.nD Cert.Kernel27.τ).loc Cert.Kernel27.main_arg4)) (m ((c.tc : Thread Cert.Kernel27.nD Cert.Kernel27.τ).loc Cert.Kernel27.main_arg5)) (m ((c.tc : Thread Cert.Kernel27.nD Cert.Kernel27.τ).loc Cert.Kernel27.main_arg6))) = (fun _ => 1#1)

def Pre_Kernel27Ideal [hPre_b_w_out_named : Cert.Pre_b_w_out_named.Facts] (m : (ℓ : Loc Cert.Kernel27Ideal.nD Cert.Kernel27Ideal.τ Cert.Kernel27Ideal.sig) → Buf (Elt Ideal) ℓ) : Prop :=
  ∀ c : Dev Cert.Kernel27Ideal.nD,
    (Cert.Pre_b_w_out_named.fn (F := Ideal) (m ((c.tc : Thread Cert.Kernel27Ideal.nD Cert.Kernel27Ideal.τ).loc Cert.Kernel27Ideal.main_arg0)) (m ((c.tc : Thread Cert.Kernel27Ideal.nD Cert.Kernel27Ideal.τ).loc Cert.Kernel27Ideal.main_arg1)) (m ((c.tc : Thread Cert.Kernel27Ideal.nD Cert.Kernel27Ideal.τ).loc Cert.Kernel27Ideal.main_arg2)) (m ((c.tc : Thread Cert.Kernel27Ideal.nD Cert.Kernel27Ideal.τ).loc Cert.Kernel27Ideal.main_arg3)) (m ((c.tc : Thread Cert.Kernel27Ideal.nD Cert.Kernel27Ideal.τ).loc Cert.Kernel27Ideal.main_arg4)) (m ((c.tc : Thread Cert.Kernel27Ideal.nD Cert.Kernel27Ideal.τ).loc Cert.Kernel27Ideal.main_arg5)) (m ((c.tc : Thread Cert.Kernel27Ideal.nD Cert.Kernel27Ideal.τ).loc Cert.Kernel27Ideal.main_arg6))) = (fun _ => 1#1)

def Pre_Reference27Ideal (m : (ℓ : Loc Cert.Reference27Ideal.nD Cert.Reference27Ideal.τ Cert.Reference27Ideal.sig) → Buf (Elt Ideal) ℓ) : Prop :=
  True

def Pre_Reference27Ideal_b_w_out_named [hPre_b_w_out_named : Cert.Pre_b_w_out_named.Facts] (m : (ℓ : Loc Cert.Reference27Ideal.nD Cert.Reference27Ideal.τ Cert.Reference27Ideal.sig) → Buf (Elt Ideal) ℓ) : Prop :=
  ∀ c : Dev Cert.Reference27Ideal.nD,
    (Cert.Pre_b_w_out_named.fn (F := Ideal) (m ((c.tc : Thread Cert.Reference27Ideal.nD Cert.Reference27Ideal.τ).loc Cert.Reference27Ideal.main_arg0)) (m ((c.tc : Thread Cert.Reference27Ideal.nD Cert.Reference27Ideal.τ).loc Cert.Reference27Ideal.main_arg1)) (m ((c.tc : Thread Cert.Reference27Ideal.nD Cert.Reference27Ideal.τ).loc Cert.Reference27Ideal.main_arg2)) (m ((c.tc : Thread Cert.Reference27Ideal.nD Cert.Reference27Ideal.τ).loc Cert.Reference27Ideal.main_arg3)) (m ((c.tc : Thread Cert.Reference27Ideal.nD Cert.Reference27Ideal.τ).loc Cert.Reference27Ideal.main_arg4)) (m ((c.tc : Thread Cert.Reference27Ideal.nD Cert.Reference27Ideal.τ).loc Cert.Reference27Ideal.main_arg5)) (m ((c.tc : Thread Cert.Reference27Ideal.nD Cert.Reference27Ideal.τ).loc Cert.Reference27Ideal.main_arg6))) = (fun _ => 1#1)

def Pre_Kernel28 [hPre_b_w_grp_named : Cert.Pre_b_w_grp_named.Facts] (m : (ℓ : Loc Cert.Kernel28.nD Cert.Kernel28.τ Cert.Kernel28.sig) → Buf (Elt Bits) ℓ) : Prop :=
  ∀ c : Dev Cert.Kernel28.nD,
    (Cert.Pre_b_w_grp_named.fn (F := Bits) (m ((c.tc : Thread Cert.Kernel28.nD Cert.Kernel28.τ).loc Cert.Kernel28.main_arg0)) (m ((c.tc : Thread Cert.Kernel28.nD Cert.Kernel28.τ).loc Cert.Kernel28.main_arg1)) (m ((c.tc : Thread Cert.Kernel28.nD Cert.Kernel28.τ).loc Cert.Kernel28.main_arg2)) (m ((c.tc : Thread Cert.Kernel28.nD Cert.Kernel28.τ).loc Cert.Kernel28.main_arg3)) (m ((c.tc : Thread Cert.Kernel28.nD Cert.Kernel28.τ).loc Cert.Kernel28.main_arg4)) (m ((c.tc : Thread Cert.Kernel28.nD Cert.Kernel28.τ).loc Cert.Kernel28.main_arg5)) (m ((c.tc : Thread Cert.Kernel28.nD Cert.Kernel28.τ).loc Cert.Kernel28.main_arg6))) = (fun _ => 1#1)

def Pre_Kernel28Ideal [hPre_b_w_grp_named : Cert.Pre_b_w_grp_named.Facts] (m : (ℓ : Loc Cert.Kernel28Ideal.nD Cert.Kernel28Ideal.τ Cert.Kernel28Ideal.sig) → Buf (Elt Ideal) ℓ) : Prop :=
  ∀ c : Dev Cert.Kernel28Ideal.nD,
    (Cert.Pre_b_w_grp_named.fn (F := Ideal) (m ((c.tc : Thread Cert.Kernel28Ideal.nD Cert.Kernel28Ideal.τ).loc Cert.Kernel28Ideal.main_arg0)) (m ((c.tc : Thread Cert.Kernel28Ideal.nD Cert.Kernel28Ideal.τ).loc Cert.Kernel28Ideal.main_arg1)) (m ((c.tc : Thread Cert.Kernel28Ideal.nD Cert.Kernel28Ideal.τ).loc Cert.Kernel28Ideal.main_arg2)) (m ((c.tc : Thread Cert.Kernel28Ideal.nD Cert.Kernel28Ideal.τ).loc Cert.Kernel28Ideal.main_arg3)) (m ((c.tc : Thread Cert.Kernel28Ideal.nD Cert.Kernel28Ideal.τ).loc Cert.Kernel28Ideal.main_arg4)) (m ((c.tc : Thread Cert.Kernel28Ideal.nD Cert.Kernel28Ideal.τ).loc Cert.Kernel28Ideal.main_arg5)) (m ((c.tc : Thread Cert.Kernel28Ideal.nD Cert.Kernel28Ideal.τ).loc Cert.Kernel28Ideal.main_arg6))) = (fun _ => 1#1)

def Pre_Reference28Ideal (m : (ℓ : Loc Cert.Reference28Ideal.nD Cert.Reference28Ideal.τ Cert.Reference28Ideal.sig) → Buf (Elt Ideal) ℓ) : Prop :=
  True

def Pre_Reference28Ideal_b_w_grp_named [hPre_b_w_grp_named : Cert.Pre_b_w_grp_named.Facts] (m : (ℓ : Loc Cert.Reference28Ideal.nD Cert.Reference28Ideal.τ Cert.Reference28Ideal.sig) → Buf (Elt Ideal) ℓ) : Prop :=
  ∀ c : Dev Cert.Reference28Ideal.nD,
    (Cert.Pre_b_w_grp_named.fn (F := Ideal) (m ((c.tc : Thread Cert.Reference28Ideal.nD Cert.Reference28Ideal.τ).loc Cert.Reference28Ideal.main_arg0)) (m ((c.tc : Thread Cert.Reference28Ideal.nD Cert.Reference28Ideal.τ).loc Cert.Reference28Ideal.main_arg1)) (m ((c.tc : Thread Cert.Reference28Ideal.nD Cert.Reference28Ideal.τ).loc Cert.Reference28Ideal.main_arg2)) (m ((c.tc : Thread Cert.Reference28Ideal.nD Cert.Reference28Ideal.τ).loc Cert.Reference28Ideal.main_arg3)) (m ((c.tc : Thread Cert.Reference28Ideal.nD Cert.Reference28Ideal.τ).loc Cert.Reference28Ideal.main_arg4)) (m ((c.tc : Thread Cert.Reference28Ideal.nD Cert.Reference28Ideal.τ).loc Cert.Reference28Ideal.main_arg5)) (m ((c.tc : Thread Cert.Reference28Ideal.nD Cert.Reference28Ideal.τ).loc Cert.Reference28Ideal.main_arg6))) = (fun _ => 1#1)

def Pre_Kernel29 [hPre_b_w_in_named : Cert.Pre_b_w_in_named.Facts] (m : (ℓ : Loc Cert.Kernel29.nD Cert.Kernel29.τ Cert.Kernel29.sig) → Buf (Elt Bits) ℓ) : Prop :=
  ∀ c : Dev Cert.Kernel29.nD,
    (Cert.Pre_b_w_in_named.fn (F := Bits) (m ((c.tc : Thread Cert.Kernel29.nD Cert.Kernel29.τ).loc Cert.Kernel29.main_arg0)) (m ((c.tc : Thread Cert.Kernel29.nD Cert.Kernel29.τ).loc Cert.Kernel29.main_arg1)) (m ((c.tc : Thread Cert.Kernel29.nD Cert.Kernel29.τ).loc Cert.Kernel29.main_arg2)) (m ((c.tc : Thread Cert.Kernel29.nD Cert.Kernel29.τ).loc Cert.Kernel29.main_arg3)) (m ((c.tc : Thread Cert.Kernel29.nD Cert.Kernel29.τ).loc Cert.Kernel29.main_arg4)) (m ((c.tc : Thread Cert.Kernel29.nD Cert.Kernel29.τ).loc Cert.Kernel29.main_arg5)) (m ((c.tc : Thread Cert.Kernel29.nD Cert.Kernel29.τ).loc Cert.Kernel29.main_arg6))) = (fun _ => 1#1)

def Pre_Kernel29Ideal [hPre_b_w_in_named : Cert.Pre_b_w_in_named.Facts] (m : (ℓ : Loc Cert.Kernel29Ideal.nD Cert.Kernel29Ideal.τ Cert.Kernel29Ideal.sig) → Buf (Elt Ideal) ℓ) : Prop :=
  ∀ c : Dev Cert.Kernel29Ideal.nD,
    (Cert.Pre_b_w_in_named.fn (F := Ideal) (m ((c.tc : Thread Cert.Kernel29Ideal.nD Cert.Kernel29Ideal.τ).loc Cert.Kernel29Ideal.main_arg0)) (m ((c.tc : Thread Cert.Kernel29Ideal.nD Cert.Kernel29Ideal.τ).loc Cert.Kernel29Ideal.main_arg1)) (m ((c.tc : Thread Cert.Kernel29Ideal.nD Cert.Kernel29Ideal.τ).loc Cert.Kernel29Ideal.main_arg2)) (m ((c.tc : Thread Cert.Kernel29Ideal.nD Cert.Kernel29Ideal.τ).loc Cert.Kernel29Ideal.main_arg3)) (m ((c.tc : Thread Cert.Kernel29Ideal.nD Cert.Kernel29Ideal.τ).loc Cert.Kernel29Ideal.main_arg4)) (m ((c.tc : Thread Cert.Kernel29Ideal.nD Cert.Kernel29Ideal.τ).loc Cert.Kernel29Ideal.main_arg5)) (m ((c.tc : Thread Cert.Kernel29Ideal.nD Cert.Kernel29Ideal.τ).loc Cert.Kernel29Ideal.main_arg6))) = (fun _ => 1#1)

def Pre_Reference29Ideal (m : (ℓ : Loc Cert.Reference29Ideal.nD Cert.Reference29Ideal.τ Cert.Reference29Ideal.sig) → Buf (Elt Ideal) ℓ) : Prop :=
  True

def Pre_Reference29Ideal_b_w_in_named [hPre_b_w_in_named : Cert.Pre_b_w_in_named.Facts] (m : (ℓ : Loc Cert.Reference29Ideal.nD Cert.Reference29Ideal.τ Cert.Reference29Ideal.sig) → Buf (Elt Ideal) ℓ) : Prop :=
  ∀ c : Dev Cert.Reference29Ideal.nD,
    (Cert.Pre_b_w_in_named.fn (F := Ideal) (m ((c.tc : Thread Cert.Reference29Ideal.nD Cert.Reference29Ideal.τ).loc Cert.Reference29Ideal.main_arg0)) (m ((c.tc : Thread Cert.Reference29Ideal.nD Cert.Reference29Ideal.τ).loc Cert.Reference29Ideal.main_arg1)) (m ((c.tc : Thread Cert.Reference29Ideal.nD Cert.Reference29Ideal.τ).loc Cert.Reference29Ideal.main_arg2)) (m ((c.tc : Thread Cert.Reference29Ideal.nD Cert.Reference29Ideal.τ).loc Cert.Reference29Ideal.main_arg3)) (m ((c.tc : Thread Cert.Reference29Ideal.nD Cert.Reference29Ideal.τ).loc Cert.Reference29Ideal.main_arg4)) (m ((c.tc : Thread Cert.Reference29Ideal.nD Cert.Reference29Ideal.τ).loc Cert.Reference29Ideal.main_arg5)) (m ((c.tc : Thread Cert.Reference29Ideal.nD Cert.Reference29Ideal.τ).loc Cert.Reference29Ideal.main_arg6))) = (fun _ => 1#1)

def Pre_Kernel30 [hPre_a_w_in_named : Cert.Pre_a_w_in_named.Facts] (m : (ℓ : Loc Cert.Kernel30.nD Cert.Kernel30.τ Cert.Kernel30.sig) → Buf (Elt Bits) ℓ) : Prop :=
  ∀ c : Dev Cert.Kernel30.nD,
    (Cert.Pre_a_w_in_named.fn (F := Bits) (m ((c.tc : Thread Cert.Kernel30.nD Cert.Kernel30.τ).loc Cert.Kernel30.main_arg0)) (m ((c.tc : Thread Cert.Kernel30.nD Cert.Kernel30.τ).loc Cert.Kernel30.main_arg1)) (m ((c.tc : Thread Cert.Kernel30.nD Cert.Kernel30.τ).loc Cert.Kernel30.main_arg2)) (m ((c.tc : Thread Cert.Kernel30.nD Cert.Kernel30.τ).loc Cert.Kernel30.main_arg3)) (m ((c.tc : Thread Cert.Kernel30.nD Cert.Kernel30.τ).loc Cert.Kernel30.main_arg4)) (m ((c.tc : Thread Cert.Kernel30.nD Cert.Kernel30.τ).loc Cert.Kernel30.main_arg5)) (m ((c.tc : Thread Cert.Kernel30.nD Cert.Kernel30.τ).loc Cert.Kernel30.main_arg6))) = (fun _ => 1#1)

def Pre_Kernel30Ideal [hPre_a_w_in_named : Cert.Pre_a_w_in_named.Facts] (m : (ℓ : Loc Cert.Kernel30Ideal.nD Cert.Kernel30Ideal.τ Cert.Kernel30Ideal.sig) → Buf (Elt Ideal) ℓ) : Prop :=
  ∀ c : Dev Cert.Kernel30Ideal.nD,
    (Cert.Pre_a_w_in_named.fn (F := Ideal) (m ((c.tc : Thread Cert.Kernel30Ideal.nD Cert.Kernel30Ideal.τ).loc Cert.Kernel30Ideal.main_arg0)) (m ((c.tc : Thread Cert.Kernel30Ideal.nD Cert.Kernel30Ideal.τ).loc Cert.Kernel30Ideal.main_arg1)) (m ((c.tc : Thread Cert.Kernel30Ideal.nD Cert.Kernel30Ideal.τ).loc Cert.Kernel30Ideal.main_arg2)) (m ((c.tc : Thread Cert.Kernel30Ideal.nD Cert.Kernel30Ideal.τ).loc Cert.Kernel30Ideal.main_arg3)) (m ((c.tc : Thread Cert.Kernel30Ideal.nD Cert.Kernel30Ideal.τ).loc Cert.Kernel30Ideal.main_arg4)) (m ((c.tc : Thread Cert.Kernel30Ideal.nD Cert.Kernel30Ideal.τ).loc Cert.Kernel30Ideal.main_arg5)) (m ((c.tc : Thread Cert.Kernel30Ideal.nD Cert.Kernel30Ideal.τ).loc Cert.Kernel30Ideal.main_arg6))) = (fun _ => 1#1)

def Pre_Reference30Ideal (m : (ℓ : Loc Cert.Reference30Ideal.nD Cert.Reference30Ideal.τ Cert.Reference30Ideal.sig) → Buf (Elt Ideal) ℓ) : Prop :=
  True

def Pre_Reference30Ideal_a_w_in_named [hPre_a_w_in_named : Cert.Pre_a_w_in_named.Facts] (m : (ℓ : Loc Cert.Reference30Ideal.nD Cert.Reference30Ideal.τ Cert.Reference30Ideal.sig) → Buf (Elt Ideal) ℓ) : Prop :=
  ∀ c : Dev Cert.Reference30Ideal.nD,
    (Cert.Pre_a_w_in_named.fn (F := Ideal) (m ((c.tc : Thread Cert.Reference30Ideal.nD Cert.Reference30Ideal.τ).loc Cert.Reference30Ideal.main_arg0)) (m ((c.tc : Thread Cert.Reference30Ideal.nD Cert.Reference30Ideal.τ).loc Cert.Reference30Ideal.main_arg1)) (m ((c.tc : Thread Cert.Reference30Ideal.nD Cert.Reference30Ideal.τ).loc Cert.Reference30Ideal.main_arg2)) (m ((c.tc : Thread Cert.Reference30Ideal.nD Cert.Reference30Ideal.τ).loc Cert.Reference30Ideal.main_arg3)) (m ((c.tc : Thread Cert.Reference30Ideal.nD Cert.Reference30Ideal.τ).loc Cert.Reference30Ideal.main_arg4)) (m ((c.tc : Thread Cert.Reference30Ideal.nD Cert.Reference30Ideal.τ).loc Cert.Reference30Ideal.main_arg5)) (m ((c.tc : Thread Cert.Reference30Ideal.nD Cert.Reference30Ideal.τ).loc Cert.Reference30Ideal.main_arg6))) = (fun _ => 1#1)

def Pre_Kernel31 [hPre_b_b_grp_named : Cert.Pre_b_b_grp_named.Facts] (m : (ℓ : Loc Cert.Kernel31.nD Cert.Kernel31.τ Cert.Kernel31.sig) → Buf (Elt Bits) ℓ) : Prop :=
  ∀ c : Dev Cert.Kernel31.nD,
    (Cert.Pre_b_b_grp_named.fn (F := Bits) (m ((c.tc : Thread Cert.Kernel31.nD Cert.Kernel31.τ).loc Cert.Kernel31.main_arg0)) (m ((c.tc : Thread Cert.Kernel31.nD Cert.Kernel31.τ).loc Cert.Kernel31.main_arg1)) (m ((c.tc : Thread Cert.Kernel31.nD Cert.Kernel31.τ).loc Cert.Kernel31.main_arg2)) (m ((c.tc : Thread Cert.Kernel31.nD Cert.Kernel31.τ).loc Cert.Kernel31.main_arg3)) (m ((c.tc : Thread Cert.Kernel31.nD Cert.Kernel31.τ).loc Cert.Kernel31.main_arg4)) (m ((c.tc : Thread Cert.Kernel31.nD Cert.Kernel31.τ).loc Cert.Kernel31.main_arg5)) (m ((c.tc : Thread Cert.Kernel31.nD Cert.Kernel31.τ).loc Cert.Kernel31.main_arg6))) = (fun _ => 1#1)

def Pre_Kernel31Ideal [hPre_b_b_grp_named : Cert.Pre_b_b_grp_named.Facts] (m : (ℓ : Loc Cert.Kernel31Ideal.nD Cert.Kernel31Ideal.τ Cert.Kernel31Ideal.sig) → Buf (Elt Ideal) ℓ) : Prop :=
  ∀ c : Dev Cert.Kernel31Ideal.nD,
    (Cert.Pre_b_b_grp_named.fn (F := Ideal) (m ((c.tc : Thread Cert.Kernel31Ideal.nD Cert.Kernel31Ideal.τ).loc Cert.Kernel31Ideal.main_arg0)) (m ((c.tc : Thread Cert.Kernel31Ideal.nD Cert.Kernel31Ideal.τ).loc Cert.Kernel31Ideal.main_arg1)) (m ((c.tc : Thread Cert.Kernel31Ideal.nD Cert.Kernel31Ideal.τ).loc Cert.Kernel31Ideal.main_arg2)) (m ((c.tc : Thread Cert.Kernel31Ideal.nD Cert.Kernel31Ideal.τ).loc Cert.Kernel31Ideal.main_arg3)) (m ((c.tc : Thread Cert.Kernel31Ideal.nD Cert.Kernel31Ideal.τ).loc Cert.Kernel31Ideal.main_arg4)) (m ((c.tc : Thread Cert.Kernel31Ideal.nD Cert.Kernel31Ideal.τ).loc Cert.Kernel31Ideal.main_arg5)) (m ((c.tc : Thread Cert.Kernel31Ideal.nD Cert.Kernel31Ideal.τ).loc Cert.Kernel31Ideal.main_arg6))) = (fun _ => 1#1)

def Pre_Reference31Ideal (m : (ℓ : Loc Cert.Reference31Ideal.nD Cert.Reference31Ideal.τ Cert.Reference31Ideal.sig) → Buf (Elt Ideal) ℓ) : Prop :=
  True

def Pre_Reference31Ideal_b_b_grp_named [hPre_b_b_grp_named : Cert.Pre_b_b_grp_named.Facts] (m : (ℓ : Loc Cert.Reference31Ideal.nD Cert.Reference31Ideal.τ Cert.Reference31Ideal.sig) → Buf (Elt Ideal) ℓ) : Prop :=
  ∀ c : Dev Cert.Reference31Ideal.nD,
    (Cert.Pre_b_b_grp_named.fn (F := Ideal) (m ((c.tc : Thread Cert.Reference31Ideal.nD Cert.Reference31Ideal.τ).loc Cert.Reference31Ideal.main_arg0)) (m ((c.tc : Thread Cert.Reference31Ideal.nD Cert.Reference31Ideal.τ).loc Cert.Reference31Ideal.main_arg1)) (m ((c.tc : Thread Cert.Reference31Ideal.nD Cert.Reference31Ideal.τ).loc Cert.Reference31Ideal.main_arg2)) (m ((c.tc : Thread Cert.Reference31Ideal.nD Cert.Reference31Ideal.τ).loc Cert.Reference31Ideal.main_arg3)) (m ((c.tc : Thread Cert.Reference31Ideal.nD Cert.Reference31Ideal.τ).loc Cert.Reference31Ideal.main_arg4)) (m ((c.tc : Thread Cert.Reference31Ideal.nD Cert.Reference31Ideal.τ).loc Cert.Reference31Ideal.main_arg5)) (m ((c.tc : Thread Cert.Reference31Ideal.nD Cert.Reference31Ideal.τ).loc Cert.Reference31Ideal.main_arg6))) = (fun _ => 1#1)

def Pre_Kernel32 [hPre_b_scale_named : Cert.Pre_b_scale_named.Facts] (m : (ℓ : Loc Cert.Kernel32.nD Cert.Kernel32.τ Cert.Kernel32.sig) → Buf (Elt Bits) ℓ) : Prop :=
  ∀ c : Dev Cert.Kernel32.nD,
    (Cert.Pre_b_scale_named.fn (F := Bits) (m ((c.tc : Thread Cert.Kernel32.nD Cert.Kernel32.τ).loc Cert.Kernel32.main_arg0)) (m ((c.tc : Thread Cert.Kernel32.nD Cert.Kernel32.τ).loc Cert.Kernel32.main_arg1)) (m ((c.tc : Thread Cert.Kernel32.nD Cert.Kernel32.τ).loc Cert.Kernel32.main_arg2)) (m ((c.tc : Thread Cert.Kernel32.nD Cert.Kernel32.τ).loc Cert.Kernel32.main_arg3)) (m ((c.tc : Thread Cert.Kernel32.nD Cert.Kernel32.τ).loc Cert.Kernel32.main_arg4)) (m ((c.tc : Thread Cert.Kernel32.nD Cert.Kernel32.τ).loc Cert.Kernel32.main_arg5)) (m ((c.tc : Thread Cert.Kernel32.nD Cert.Kernel32.τ).loc Cert.Kernel32.main_arg6))) = (fun _ => 1#1)

def Pre_Kernel32Ideal [hPre_b_scale_named : Cert.Pre_b_scale_named.Facts] (m : (ℓ : Loc Cert.Kernel32Ideal.nD Cert.Kernel32Ideal.τ Cert.Kernel32Ideal.sig) → Buf (Elt Ideal) ℓ) : Prop :=
  ∀ c : Dev Cert.Kernel32Ideal.nD,
    (Cert.Pre_b_scale_named.fn (F := Ideal) (m ((c.tc : Thread Cert.Kernel32Ideal.nD Cert.Kernel32Ideal.τ).loc Cert.Kernel32Ideal.main_arg0)) (m ((c.tc : Thread Cert.Kernel32Ideal.nD Cert.Kernel32Ideal.τ).loc Cert.Kernel32Ideal.main_arg1)) (m ((c.tc : Thread Cert.Kernel32Ideal.nD Cert.Kernel32Ideal.τ).loc Cert.Kernel32Ideal.main_arg2)) (m ((c.tc : Thread Cert.Kernel32Ideal.nD Cert.Kernel32Ideal.τ).loc Cert.Kernel32Ideal.main_arg3)) (m ((c.tc : Thread Cert.Kernel32Ideal.nD Cert.Kernel32Ideal.τ).loc Cert.Kernel32Ideal.main_arg4)) (m ((c.tc : Thread Cert.Kernel32Ideal.nD Cert.Kernel32Ideal.τ).loc Cert.Kernel32Ideal.main_arg5)) (m ((c.tc : Thread Cert.Kernel32Ideal.nD Cert.Kernel32Ideal.τ).loc Cert.Kernel32Ideal.main_arg6))) = (fun _ => 1#1)

def Pre_Reference32Ideal (m : (ℓ : Loc Cert.Reference32Ideal.nD Cert.Reference32Ideal.τ Cert.Reference32Ideal.sig) → Buf (Elt Ideal) ℓ) : Prop :=
  True

def Pre_Reference32Ideal_b_scale_named [hPre_b_scale_named : Cert.Pre_b_scale_named.Facts] (m : (ℓ : Loc Cert.Reference32Ideal.nD Cert.Reference32Ideal.τ Cert.Reference32Ideal.sig) → Buf (Elt Ideal) ℓ) : Prop :=
  ∀ c : Dev Cert.Reference32Ideal.nD,
    (Cert.Pre_b_scale_named.fn (F := Ideal) (m ((c.tc : Thread Cert.Reference32Ideal.nD Cert.Reference32Ideal.τ).loc Cert.Reference32Ideal.main_arg0)) (m ((c.tc : Thread Cert.Reference32Ideal.nD Cert.Reference32Ideal.τ).loc Cert.Reference32Ideal.main_arg1)) (m ((c.tc : Thread Cert.Reference32Ideal.nD Cert.Reference32Ideal.τ).loc Cert.Reference32Ideal.main_arg2)) (m ((c.tc : Thread Cert.Reference32Ideal.nD Cert.Reference32Ideal.τ).loc Cert.Reference32Ideal.main_arg3)) (m ((c.tc : Thread Cert.Reference32Ideal.nD Cert.Reference32Ideal.τ).loc Cert.Reference32Ideal.main_arg4)) (m ((c.tc : Thread Cert.Reference32Ideal.nD Cert.Reference32Ideal.τ).loc Cert.Reference32Ideal.main_arg5)) (m ((c.tc : Thread Cert.Reference32Ideal.nD Cert.Reference32Ideal.τ).loc Cert.Reference32Ideal.main_arg6))) = (fun _ => 1#1)

def Pre_Kernel33 [hPre_b_w_out_chips_named : Cert.Pre_b_w_out_chips_named.Facts] (m : (ℓ : Loc Cert.Kernel33.nD Cert.Kernel33.τ Cert.Kernel33.sig) → Buf (Elt Bits) ℓ) : Prop :=
  ∀ c : Dev Cert.Kernel33.nD,
    (Cert.Pre_b_w_out_chips_named.fn (F := Bits) (m ((c.tc : Thread Cert.Kernel33.nD Cert.Kernel33.τ).loc Cert.Kernel33.main_arg0)) (m ((c.tc : Thread Cert.Kernel33.nD Cert.Kernel33.τ).loc Cert.Kernel33.main_arg1)) (m ((c.tc : Thread Cert.Kernel33.nD Cert.Kernel33.τ).loc Cert.Kernel33.main_arg2))) = (fun _ => 1#1)

def Pre_Kernel33Ideal [hPre_b_w_out_chips_named : Cert.Pre_b_w_out_chips_named.Facts] (m : (ℓ : Loc Cert.Kernel33Ideal.nD Cert.Kernel33Ideal.τ Cert.Kernel33Ideal.sig) → Buf (Elt Ideal) ℓ) : Prop :=
  ∀ c : Dev Cert.Kernel33Ideal.nD,
    (Cert.Pre_b_w_out_chips_named.fn (F := Ideal) (m ((c.tc : Thread Cert.Kernel33Ideal.nD Cert.Kernel33Ideal.τ).loc Cert.Kernel33Ideal.main_arg0)) (m ((c.tc : Thread Cert.Kernel33Ideal.nD Cert.Kernel33Ideal.τ).loc Cert.Kernel33Ideal.main_arg1)) (m ((c.tc : Thread Cert.Kernel33Ideal.nD Cert.Kernel33Ideal.τ).loc Cert.Kernel33Ideal.main_arg2))) = (fun _ => 1#1)

def Pre_Reference33Ideal (m : (ℓ : Loc Cert.Reference33Ideal.nD Cert.Reference33Ideal.τ Cert.Reference33Ideal.sig) → Buf (Elt Ideal) ℓ) : Prop :=
  True

def Pre_Reference33Ideal_b_w_out_chips_named [hPre_b_w_out_chips_named : Cert.Pre_b_w_out_chips_named.Facts] (m : (ℓ : Loc Cert.Reference33Ideal.nD Cert.Reference33Ideal.τ Cert.Reference33Ideal.sig) → Buf (Elt Ideal) ℓ) : Prop :=
  ∀ c : Dev Cert.Reference33Ideal.nD,
    (Cert.Pre_b_w_out_chips_named.fn (F := Ideal) (m ((c.tc : Thread Cert.Reference33Ideal.nD Cert.Reference33Ideal.τ).loc Cert.Reference33Ideal.main_arg0)) (m ((c.tc : Thread Cert.Reference33Ideal.nD Cert.Reference33Ideal.τ).loc Cert.Reference33Ideal.main_arg1)) (m ((c.tc : Thread Cert.Reference33Ideal.nD Cert.Reference33Ideal.τ).loc Cert.Reference33Ideal.main_arg2))) = (fun _ => 1#1)

def Pre_Kernel34 [hPre_b_w_grp_chips_named : Cert.Pre_b_w_grp_chips_named.Facts] (m : (ℓ : Loc Cert.Kernel34.nD Cert.Kernel34.τ Cert.Kernel34.sig) → Buf (Elt Bits) ℓ) : Prop :=
  ∀ c : Dev Cert.Kernel34.nD,
    (Cert.Pre_b_w_grp_chips_named.fn (F := Bits) (m ((c.tc : Thread Cert.Kernel34.nD Cert.Kernel34.τ).loc Cert.Kernel34.main_arg0)) (m ((c.tc : Thread Cert.Kernel34.nD Cert.Kernel34.τ).loc Cert.Kernel34.main_arg1)) (m ((c.tc : Thread Cert.Kernel34.nD Cert.Kernel34.τ).loc Cert.Kernel34.main_arg2))) = (fun _ => 1#1)

def Pre_Kernel34Ideal [hPre_b_w_grp_chips_named : Cert.Pre_b_w_grp_chips_named.Facts] (m : (ℓ : Loc Cert.Kernel34Ideal.nD Cert.Kernel34Ideal.τ Cert.Kernel34Ideal.sig) → Buf (Elt Ideal) ℓ) : Prop :=
  ∀ c : Dev Cert.Kernel34Ideal.nD,
    (Cert.Pre_b_w_grp_chips_named.fn (F := Ideal) (m ((c.tc : Thread Cert.Kernel34Ideal.nD Cert.Kernel34Ideal.τ).loc Cert.Kernel34Ideal.main_arg0)) (m ((c.tc : Thread Cert.Kernel34Ideal.nD Cert.Kernel34Ideal.τ).loc Cert.Kernel34Ideal.main_arg1)) (m ((c.tc : Thread Cert.Kernel34Ideal.nD Cert.Kernel34Ideal.τ).loc Cert.Kernel34Ideal.main_arg2))) = (fun _ => 1#1)

def Pre_Reference34Ideal (m : (ℓ : Loc Cert.Reference34Ideal.nD Cert.Reference34Ideal.τ Cert.Reference34Ideal.sig) → Buf (Elt Ideal) ℓ) : Prop :=
  True

def Pre_Reference34Ideal_b_w_grp_chips_named [hPre_b_w_grp_chips_named : Cert.Pre_b_w_grp_chips_named.Facts] (m : (ℓ : Loc Cert.Reference34Ideal.nD Cert.Reference34Ideal.τ Cert.Reference34Ideal.sig) → Buf (Elt Ideal) ℓ) : Prop :=
  ∀ c : Dev Cert.Reference34Ideal.nD,
    (Cert.Pre_b_w_grp_chips_named.fn (F := Ideal) (m ((c.tc : Thread Cert.Reference34Ideal.nD Cert.Reference34Ideal.τ).loc Cert.Reference34Ideal.main_arg0)) (m ((c.tc : Thread Cert.Reference34Ideal.nD Cert.Reference34Ideal.τ).loc Cert.Reference34Ideal.main_arg1)) (m ((c.tc : Thread Cert.Reference34Ideal.nD Cert.Reference34Ideal.τ).loc Cert.Reference34Ideal.main_arg2))) = (fun _ => 1#1)

def Pre_Kernel35 [hPre_b_w_in_chips_named : Cert.Pre_b_w_in_chips_named.Facts] (m : (ℓ : Loc Cert.Kernel35.nD Cert.Kernel35.τ Cert.Kernel35.sig) → Buf (Elt Bits) ℓ) : Prop :=
  ∀ c : Dev Cert.Kernel35.nD,
    (Cert.Pre_b_w_in_chips_named.fn (F := Bits) (m ((c.tc : Thread Cert.Kernel35.nD Cert.Kernel35.τ).loc Cert.Kernel35.main_arg0)) (m ((c.tc : Thread Cert.Kernel35.nD Cert.Kernel35.τ).loc Cert.Kernel35.main_arg1)) (m ((c.tc : Thread Cert.Kernel35.nD Cert.Kernel35.τ).loc Cert.Kernel35.main_arg2))) = (fun _ => 1#1)

def Pre_Kernel35Ideal [hPre_b_w_in_chips_named : Cert.Pre_b_w_in_chips_named.Facts] (m : (ℓ : Loc Cert.Kernel35Ideal.nD Cert.Kernel35Ideal.τ Cert.Kernel35Ideal.sig) → Buf (Elt Ideal) ℓ) : Prop :=
  ∀ c : Dev Cert.Kernel35Ideal.nD,
    (Cert.Pre_b_w_in_chips_named.fn (F := Ideal) (m ((c.tc : Thread Cert.Kernel35Ideal.nD Cert.Kernel35Ideal.τ).loc Cert.Kernel35Ideal.main_arg0)) (m ((c.tc : Thread Cert.Kernel35Ideal.nD Cert.Kernel35Ideal.τ).loc Cert.Kernel35Ideal.main_arg1)) (m ((c.tc : Thread Cert.Kernel35Ideal.nD Cert.Kernel35Ideal.τ).loc Cert.Kernel35Ideal.main_arg2))) = (fun _ => 1#1)

def Pre_Reference35Ideal (m : (ℓ : Loc Cert.Reference35Ideal.nD Cert.Reference35Ideal.τ Cert.Reference35Ideal.sig) → Buf (Elt Ideal) ℓ) : Prop :=
  True

def Pre_Reference35Ideal_b_w_in_chips_named [hPre_b_w_in_chips_named : Cert.Pre_b_w_in_chips_named.Facts] (m : (ℓ : Loc Cert.Reference35Ideal.nD Cert.Reference35Ideal.τ Cert.Reference35Ideal.sig) → Buf (Elt Ideal) ℓ) : Prop :=
  ∀ c : Dev Cert.Reference35Ideal.nD,
    (Cert.Pre_b_w_in_chips_named.fn (F := Ideal) (m ((c.tc : Thread Cert.Reference35Ideal.nD Cert.Reference35Ideal.τ).loc Cert.Reference35Ideal.main_arg0)) (m ((c.tc : Thread Cert.Reference35Ideal.nD Cert.Reference35Ideal.τ).loc Cert.Reference35Ideal.main_arg1)) (m ((c.tc : Thread Cert.Reference35Ideal.nD Cert.Reference35Ideal.τ).loc Cert.Reference35Ideal.main_arg2))) = (fun _ => 1#1)

def Pre_Kernel36 [hPre_a_w_in_chips_named : Cert.Pre_a_w_in_chips_named.Facts] (m : (ℓ : Loc Cert.Kernel36.nD Cert.Kernel36.τ Cert.Kernel36.sig) → Buf (Elt Bits) ℓ) : Prop :=
  ∀ c : Dev Cert.Kernel36.nD,
    (Cert.Pre_a_w_in_chips_named.fn (F := Bits) (m ((c.tc : Thread Cert.Kernel36.nD Cert.Kernel36.τ).loc Cert.Kernel36.main_arg0)) (m ((c.tc : Thread Cert.Kernel36.nD Cert.Kernel36.τ).loc Cert.Kernel36.main_arg1)) (m ((c.tc : Thread Cert.Kernel36.nD Cert.Kernel36.τ).loc Cert.Kernel36.main_arg2))) = (fun _ => 1#1)

def Pre_Kernel36Ideal [hPre_a_w_in_chips_named : Cert.Pre_a_w_in_chips_named.Facts] (m : (ℓ : Loc Cert.Kernel36Ideal.nD Cert.Kernel36Ideal.τ Cert.Kernel36Ideal.sig) → Buf (Elt Ideal) ℓ) : Prop :=
  ∀ c : Dev Cert.Kernel36Ideal.nD,
    (Cert.Pre_a_w_in_chips_named.fn (F := Ideal) (m ((c.tc : Thread Cert.Kernel36Ideal.nD Cert.Kernel36Ideal.τ).loc Cert.Kernel36Ideal.main_arg0)) (m ((c.tc : Thread Cert.Kernel36Ideal.nD Cert.Kernel36Ideal.τ).loc Cert.Kernel36Ideal.main_arg1)) (m ((c.tc : Thread Cert.Kernel36Ideal.nD Cert.Kernel36Ideal.τ).loc Cert.Kernel36Ideal.main_arg2))) = (fun _ => 1#1)

def Pre_Reference36Ideal (m : (ℓ : Loc Cert.Reference36Ideal.nD Cert.Reference36Ideal.τ Cert.Reference36Ideal.sig) → Buf (Elt Ideal) ℓ) : Prop :=
  True

def Pre_Reference36Ideal_a_w_in_chips_named [hPre_a_w_in_chips_named : Cert.Pre_a_w_in_chips_named.Facts] (m : (ℓ : Loc Cert.Reference36Ideal.nD Cert.Reference36Ideal.τ Cert.Reference36Ideal.sig) → Buf (Elt Ideal) ℓ) : Prop :=
  ∀ c : Dev Cert.Reference36Ideal.nD,
    (Cert.Pre_a_w_in_chips_named.fn (F := Ideal) (m ((c.tc : Thread Cert.Reference36Ideal.nD Cert.Reference36Ideal.τ).loc Cert.Reference36Ideal.main_arg0)) (m ((c.tc : Thread Cert.Reference36Ideal.nD Cert.Reference36Ideal.τ).loc Cert.Reference36Ideal.main_arg1)) (m ((c.tc : Thread Cert.Reference36Ideal.nD Cert.Reference36Ideal.τ).loc Cert.Reference36Ideal.main_arg2))) = (fun _ => 1#1)

def Pre_Kernel37 [hPre_b_b_grp_chips_named : Cert.Pre_b_b_grp_chips_named.Facts] (m : (ℓ : Loc Cert.Kernel37.nD Cert.Kernel37.τ Cert.Kernel37.sig) → Buf (Elt Bits) ℓ) : Prop :=
  ∀ c : Dev Cert.Kernel37.nD,
    (Cert.Pre_b_b_grp_chips_named.fn (F := Bits) (m ((c.tc : Thread Cert.Kernel37.nD Cert.Kernel37.τ).loc Cert.Kernel37.main_arg0)) (m ((c.tc : Thread Cert.Kernel37.nD Cert.Kernel37.τ).loc Cert.Kernel37.main_arg1)) (m ((c.tc : Thread Cert.Kernel37.nD Cert.Kernel37.τ).loc Cert.Kernel37.main_arg2))) = (fun _ => 1#1)

def Pre_Kernel37Ideal [hPre_b_b_grp_chips_named : Cert.Pre_b_b_grp_chips_named.Facts] (m : (ℓ : Loc Cert.Kernel37Ideal.nD Cert.Kernel37Ideal.τ Cert.Kernel37Ideal.sig) → Buf (Elt Ideal) ℓ) : Prop :=
  ∀ c : Dev Cert.Kernel37Ideal.nD,
    (Cert.Pre_b_b_grp_chips_named.fn (F := Ideal) (m ((c.tc : Thread Cert.Kernel37Ideal.nD Cert.Kernel37Ideal.τ).loc Cert.Kernel37Ideal.main_arg0)) (m ((c.tc : Thread Cert.Kernel37Ideal.nD Cert.Kernel37Ideal.τ).loc Cert.Kernel37Ideal.main_arg1)) (m ((c.tc : Thread Cert.Kernel37Ideal.nD Cert.Kernel37Ideal.τ).loc Cert.Kernel37Ideal.main_arg2))) = (fun _ => 1#1)

def Pre_Reference37Ideal (m : (ℓ : Loc Cert.Reference37Ideal.nD Cert.Reference37Ideal.τ Cert.Reference37Ideal.sig) → Buf (Elt Ideal) ℓ) : Prop :=
  True

def Pre_Reference37Ideal_b_b_grp_chips_named [hPre_b_b_grp_chips_named : Cert.Pre_b_b_grp_chips_named.Facts] (m : (ℓ : Loc Cert.Reference37Ideal.nD Cert.Reference37Ideal.τ Cert.Reference37Ideal.sig) → Buf (Elt Ideal) ℓ) : Prop :=
  ∀ c : Dev Cert.Reference37Ideal.nD,
    (Cert.Pre_b_b_grp_chips_named.fn (F := Ideal) (m ((c.tc : Thread Cert.Reference37Ideal.nD Cert.Reference37Ideal.τ).loc Cert.Reference37Ideal.main_arg0)) (m ((c.tc : Thread Cert.Reference37Ideal.nD Cert.Reference37Ideal.τ).loc Cert.Reference37Ideal.main_arg1)) (m ((c.tc : Thread Cert.Reference37Ideal.nD Cert.Reference37Ideal.τ).loc Cert.Reference37Ideal.main_arg2))) = (fun _ => 1#1)

def Pre_Kernel38 [hPre_b_scale_chips_named : Cert.Pre_b_scale_chips_named.Facts] (m : (ℓ : Loc Cert.Kernel38.nD Cert.Kernel38.τ Cert.Kernel38.sig) → Buf (Elt Bits) ℓ) : Prop :=
  ∀ c : Dev Cert.Kernel38.nD,
    (Cert.Pre_b_scale_chips_named.fn (F := Bits) (m ((c.tc : Thread Cert.Kernel38.nD Cert.Kernel38.τ).loc Cert.Kernel38.main_arg0)) (m ((c.tc : Thread Cert.Kernel38.nD Cert.Kernel38.τ).loc Cert.Kernel38.main_arg1)) (m ((c.tc : Thread Cert.Kernel38.nD Cert.Kernel38.τ).loc Cert.Kernel38.main_arg2))) = (fun _ => 1#1)

def Pre_Kernel38Ideal [hPre_b_scale_chips_named : Cert.Pre_b_scale_chips_named.Facts] (m : (ℓ : Loc Cert.Kernel38Ideal.nD Cert.Kernel38Ideal.τ Cert.Kernel38Ideal.sig) → Buf (Elt Ideal) ℓ) : Prop :=
  ∀ c : Dev Cert.Kernel38Ideal.nD,
    (Cert.Pre_b_scale_chips_named.fn (F := Ideal) (m ((c.tc : Thread Cert.Kernel38Ideal.nD Cert.Kernel38Ideal.τ).loc Cert.Kernel38Ideal.main_arg0)) (m ((c.tc : Thread Cert.Kernel38Ideal.nD Cert.Kernel38Ideal.τ).loc Cert.Kernel38Ideal.main_arg1)) (m ((c.tc : Thread Cert.Kernel38Ideal.nD Cert.Kernel38Ideal.τ).loc Cert.Kernel38Ideal.main_arg2))) = (fun _ => 1#1)

def Pre_Reference38Ideal (m : (ℓ : Loc Cert.Reference38Ideal.nD Cert.Reference38Ideal.τ Cert.Reference38Ideal.sig) → Buf (Elt Ideal) ℓ) : Prop :=
  True

def Pre_Reference38Ideal_b_scale_chips_named [hPre_b_scale_chips_named : Cert.Pre_b_scale_chips_named.Facts] (m : (ℓ : Loc Cert.Reference38Ideal.nD Cert.Reference38Ideal.τ Cert.Reference38Ideal.sig) → Buf (Elt Ideal) ℓ) : Prop :=
  ∀ c : Dev Cert.Reference38Ideal.nD,
    (Cert.Pre_b_scale_chips_named.fn (F := Ideal) (m ((c.tc : Thread Cert.Reference38Ideal.nD Cert.Reference38Ideal.τ).loc Cert.Reference38Ideal.main_arg0)) (m ((c.tc : Thread Cert.Reference38Ideal.nD Cert.Reference38Ideal.τ).loc Cert.Reference38Ideal.main_arg1)) (m ((c.tc : Thread Cert.Reference38Ideal.nD Cert.Reference38Ideal.τ).loc Cert.Reference38Ideal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_dpooled_finite [hKernelIdeal : Cert.KernelIdeal.Facts] [hPre_dpooled_finite : Cert.Pre_dpooled_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_dpooled_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_dpooled_finite [hReferenceIdeal : Cert.ReferenceIdeal.Facts] [hPre_dpooled_finite : Cert.Pre_dpooled_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_dpooled_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Kernel2Ideal_pre_gate_bwd_finite [hKernel2Ideal : Cert.Kernel2Ideal.Facts] [hPre_gate_bwd_finite : Cert.Pre_gate_bwd_finite.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_gate_bwd_finite m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Reference2Ideal_pre_gate_bwd_finite [hReference2Ideal : Cert.Reference2Ideal.Facts] [hPre_gate_bwd_finite : Cert.Pre_gate_bwd_finite.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_gate_bwd_finite m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Kernel3Ideal_pre_first_finite [hKernel3Ideal : Cert.Kernel3Ideal.Facts] [hPre_first_finite : Cert.Pre_first_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_first_finite m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Reference3Ideal_pre_first_finite [hReference3Ideal : Cert.Reference3Ideal.Facts] [hPre_first_finite : Cert.Pre_first_finite.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_first_finite m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_mid_finite [hKernel4Ideal : Cert.Kernel4Ideal.Facts] [hPre_mid_finite : Cert.Pre_mid_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_mid_finite m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_mid_finite [hReference4Ideal : Cert.Reference4Ideal.Facts] [hPre_mid_finite : Cert.Pre_mid_finite.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_mid_finite m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Kernel5Ideal_pre_head_finite [hKernel5Ideal : Cert.Kernel5Ideal.Facts] [hPre_head_finite : Cert.Pre_head_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal_head_finite m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Reference5Ideal_pre_head_finite [hReference5Ideal : Cert.Reference5Ideal.Facts] [hPre_head_finite : Cert.Pre_head_finite.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal_head_finite m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Kernel8Ideal_pre_proj_finite [hKernel8Ideal : Cert.Kernel8Ideal.Facts] [hPre_proj_finite : Cert.Pre_proj_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_proj_finite m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Reference8Ideal_pre_proj_finite [hReference8Ideal : Cert.Reference8Ideal.Facts] [hPre_proj_finite : Cert.Pre_proj_finite.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_proj_finite m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1))
      ∧ r.2.sem = fun _ => 0)

def quiescent_Kernel26 [hKernel26 : Cert.Kernel26.Facts] : Prop :=
  ∀ (m : (ℓ : Loc Cert.Kernel26.nD Cert.Kernel26.τ Cert.Kernel26.sig) → Buf (Elt Bits) ℓ) (g : Dev Cert.Kernel26.nD → PrngReg), Pre_Kernel26 m →
    θ_run (Cert.Kernel26.defs (F := Bits)) (onTc (τ := Cert.Kernel26.τ) (Cert.Kernel26.main (F := Bits))) ⟨m, fun _ => 0, g⟩ (fun r => (∀ c : Dev Cert.Kernel26.nD,
      r.2.mem ((c.tc : Thread Cert.Kernel26.nD Cert.Kernel26.τ).loc Cert.Kernel26.main_arg0) = m ((c.tc : Thread Cert.Kernel26.nD Cert.Kernel26.τ).loc Cert.Kernel26.main_arg0)
      ∧ r.2.mem ((c.tc : Thread Cert.Kernel26.nD Cert.Kernel26.τ).loc Cert.Kernel26.main_arg1) = m ((c.tc : Thread Cert.Kernel26.nD Cert.Kernel26.τ).loc Cert.Kernel26.main_arg1)
      ∧ r.2.mem ((c.tc : Thread Cert.Kernel26.nD Cert.Kernel26.τ).loc Cert.Kernel26.main_arg2) = m ((c.tc : Thread Cert.Kernel26.nD Cert.Kernel26.τ).loc Cert.Kernel26.main_arg2)
      ∧ r.2.mem ((c.tc : Thread Cert.Kernel26.nD Cert.Kernel26.τ).loc Cert.Kernel26.main_arg3) = m ((c.tc : Thread Cert.Kernel26.nD Cert.Kernel26.τ).loc Cert.Kernel26.main_arg3)
      ∧ r.2.mem ((c.tc : Thread Cert.Kernel26.nD Cert.Kernel26.τ).loc Cert.Kernel26.main_arg4) = m ((c.tc : Thread Cert.Kernel26.nD Cert.Kernel26.τ).loc Cert.Kernel26.main_arg4))
      ∧ r.2.sem = fun _ => 0)

def quiescent_Kernel26Ideal [hKernel26Ideal : Cert.Kernel26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg), Pre_Kernel26Ideal m →
    θ_run (Cert.Kernel26Ideal.defs (F := Ideal)) (onTc (τ := Cert.Kernel26Ideal.τ) (Cert.Kernel26Ideal.main (F := Ideal))) ⟨m, fun _ => 0, g⟩ (fun r => (∀ c : Dev Cert.Kernel26Ideal.nD,
      r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
      ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
      ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
      ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
      ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ r.2.sem = fun _ => 0)

def quiescent_Reference26Ideal [hReference26Ideal : Cert.Reference26Ideal.Facts] : Prop :=
  ∀ (m : (ℓ : Loc Cert.Reference26Ideal.nD Cert.Reference26Ideal.τ Cert.Reference26Ideal.sig) → Buf (Elt Ideal) ℓ) (g : Dev Cert.Reference26Ideal.nD → PrngReg), Pre_Reference26Ideal m →
    θ_run (Cert.Reference26Ideal.defs (F := Ideal)) (onTc (τ := Cert.Reference26Ideal.τ) (Cert.Reference26Ideal.main (F := Ideal))) ⟨m, fun _ => 0, g⟩ (fun r => (∀ c : Dev Cert.Reference26Ideal.nD,
      r.2.mem ((c.tc : Thread Cert.Reference26Ideal.nD Cert.Reference26Ideal.τ).loc Cert.Reference26Ideal.main_arg0) = m ((c.tc : Thread Cert.Reference26Ideal.nD Cert.Reference26Ideal.τ).loc Cert.Reference26Ideal.main_arg0)
      ∧ r.2.mem ((c.tc : Thread Cert.Reference26Ideal.nD Cert.Reference26Ideal.τ).loc Cert.Reference26Ideal.main_arg1) = m ((c.tc : Thread Cert.Reference26Ideal.nD Cert.Reference26Ideal.τ).loc Cert.Reference26Ideal.main_arg1)
      ∧ r.2.mem ((c.tc : Thread Cert.Reference26Ideal.nD Cert.Reference26Ideal.τ).loc Cert.Reference26Ideal.main_arg2) = m ((c.tc : Thread Cert.Reference26Ideal.nD Cert.Reference26Ideal.τ).loc Cert.Reference26Ideal.main_arg2)
      ∧ r.2.mem ((c.tc : Thread Cert.Reference26Ideal.nD Cert.Reference26Ideal.τ).loc Cert.Reference26Ideal.main_arg3) = m ((c.tc : Thread Cert.Reference26Ideal.nD Cert.Reference26Ideal.τ).loc Cert.Reference26Ideal.main_arg3)
      ∧ r.2.mem ((c.tc : Thread Cert.Reference26Ideal.nD Cert.Reference26Ideal.τ).loc Cert.Reference26Ideal.main_arg4) = m ((c.tc : Thread Cert.Reference26Ideal.nD Cert.Reference26Ideal.τ).loc Cert.Reference26Ideal.main_arg4))
      ∧ r.2.sem = fun _ => 0)

def quiescent_Kernel27 [hKernel27 : Cert.Kernel27.Facts] [hPre_b_w_out_named : Cert.Pre_b_w_out_named.Facts] : Prop :=
  ∀ (m : (ℓ : Loc Cert.Kernel27.nD Cert.Kernel27.τ Cert.Kernel27.sig) → Buf (Elt Bits) ℓ) (g : Dev Cert.Kernel27.nD → PrngReg), Pre_Kernel27 m →
    θ_run (Cert.Kernel27.defs (F := Bits)) (onTc (τ := Cert.Kernel27.τ) (Cert.Kernel27.main (F := Bits))) ⟨m, fun _ => 0, g⟩ (fun r => (∀ c : Dev Cert.Kernel27.nD,
      r.2.mem ((c.tc : Thread Cert.Kernel27.nD Cert.Kernel27.τ).loc Cert.Kernel27.main_arg0) = m ((c.tc : Thread Cert.Kernel27.nD Cert.Kernel27.τ).loc Cert.Kernel27.main_arg0)
      ∧ r.2.mem ((c.tc : Thread Cert.Kernel27.nD Cert.Kernel27.τ).loc Cert.Kernel27.main_arg1) = m ((c.tc : Thread Cert.Kernel27.nD Cert.Kernel27.τ).loc Cert.Kernel27.main_arg1)
      ∧ r.2.mem ((c.tc : Thread Cert.Kernel27.nD Cert.Kernel27.τ).loc Cert.Kernel27.main_arg2) = m ((c.tc : Thread Cert.Kernel27.nD Cert.Kernel27.τ).loc Cert.Kernel27.main_arg2)
      ∧ r.2.mem ((c.tc : Thread Cert.Kernel27.nD Cert.Kernel27.τ).loc Cert.Kernel27.main_arg3) = m ((c.tc : Thread Cert.Kernel27.nD Cert.Kernel27.τ).loc Cert.Kernel27.main_arg3)
      ∧ r.2.mem ((c.tc : Thread Cert.Kernel27.nD Cert.Kernel27.τ).loc Cert.Kernel27.main_arg4) = m ((c.tc : Thread Cert.Kernel27.nD Cert.Kernel27.τ).loc Cert.Kernel27.main_arg4)
      ∧ r.2.mem ((c.tc : Thread Cert.Kernel27.nD Cert.Kernel27.τ).loc Cert.Kernel27.main_arg5) = m ((c.tc : Thread Cert.Kernel27.nD Cert.Kernel27.τ).loc Cert.Kernel27.main_arg5)
      ∧ r.2.mem ((c.tc : Thread Cert.Kernel27.nD Cert.Kernel27.τ).loc Cert.Kernel27.main_arg6) = m ((c.tc : Thread Cert.Kernel27.nD Cert.Kernel27.τ).loc Cert.Kernel27.main_arg6))
      ∧ r.2.sem = fun _ => 0)

def quiescent_Kernel27Ideal [hKernel27Ideal : Cert.Kernel27Ideal.Facts] [hPre_b_w_out_named : Cert.Pre_b_w_out_named.Facts] : Prop :=
  ∀ (m : (ℓ : Loc Cert.Kernel27Ideal.nD Cert.Kernel27Ideal.τ Cert.Kernel27Ideal.sig) → Buf (Elt Ideal) ℓ) (g : Dev Cert.Kernel27Ideal.nD → PrngReg), Pre_Kernel27Ideal m →
    θ_run (Cert.Kernel27Ideal.defs (F := Ideal)) (onTc (τ := Cert.Kernel27Ideal.τ) (Cert.Kernel27Ideal.main (F := Ideal))) ⟨m, fun _ => 0, g⟩ (fun r => (∀ c : Dev Cert.Kernel27Ideal.nD,
      r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
      ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
      ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
      ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
      ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
      ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
      ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ r.2.sem = fun _ => 0)

def quiescent_Reference27Ideal [hReference27Ideal : Cert.Reference27Ideal.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6))
      ∧ r.2.sem = fun _ => 0)

def quiescent_Reference27Ideal_pre_b_w_out_named [hReference27Ideal : Cert.Reference27Ideal.Facts] [hPre_b_w_out_named : Cert.Pre_b_w_out_named.Facts] : Prop :=
  ∀ (m : (ℓ : Loc Cert.Reference27Ideal.nD Cert.Reference27Ideal.τ Cert.Reference27Ideal.sig) → Buf (Elt Ideal) ℓ) (g : Dev Cert.Reference27Ideal.nD → PrngReg), Pre_Reference27Ideal_b_w_out_named m →
    θ_run (Cert.Reference27Ideal.defs (F := Ideal)) (onTc (τ := Cert.Reference27Ideal.τ) (Cert.Reference27Ideal.main (F := Ideal))) ⟨m, fun _ => 0, g⟩ (fun r => (∀ c : Dev Cert.Reference27Ideal.nD,
      r.2.mem ((c.tc : Thread Cert.Reference27Ideal.nD Cert.Reference27Ideal.τ).loc Cert.Reference27Ideal.main_arg0) = m ((c.tc : Thread Cert.Reference27Ideal.nD Cert.Reference27Ideal.τ).loc Cert.Reference27Ideal.main_arg0)
      ∧ r.2.mem ((c.tc : Thread Cert.Reference27Ideal.nD Cert.Reference27Ideal.τ).loc Cert.Reference27Ideal.main_arg1) = m ((c.tc : Thread Cert.Reference27Ideal.nD Cert.Reference27Ideal.τ).loc Cert.Reference27Ideal.main_arg1)
      ∧ r.2.mem ((c.tc : Thread Cert.Reference27Ideal.nD Cert.Reference27Ideal.τ).loc Cert.Reference27Ideal.main_arg2) = m ((c.tc : Thread Cert.Reference27Ideal.nD Cert.Reference27Ideal.τ).loc Cert.Reference27Ideal.main_arg2)
      ∧ r.2.mem ((c.tc : Thread Cert.Reference27Ideal.nD Cert.Reference27Ideal.τ).loc Cert.Reference27Ideal.main_arg3) = m ((c.tc : Thread Cert.Reference27Ideal.nD Cert.Reference27Ideal.τ).loc Cert.Reference27Ideal.main_arg3)
      ∧ r.2.mem ((c.tc : Thread Cert.Reference27Ideal.nD Cert.Reference27Ideal.τ).loc Cert.Reference27Ideal.main_arg4) = m ((c.tc : Thread Cert.Reference27Ideal.nD Cert.Reference27Ideal.τ).loc Cert.Reference27Ideal.main_arg4)
      ∧ r.2.mem ((c.tc : Thread Cert.Reference27Ideal.nD Cert.Reference27Ideal.τ).loc Cert.Reference27Ideal.main_arg5) = m ((c.tc : Thread Cert.Reference27Ideal.nD Cert.Reference27Ideal.τ).loc Cert.Reference27Ideal.main_arg5)
      ∧ r.2.mem ((c.tc : Thread Cert.Reference27Ideal.nD Cert.Reference27Ideal.τ).loc Cert.Reference27Ideal.main_arg6) = m ((c.tc : Thread Cert.Reference27Ideal.nD Cert.Reference27Ideal.τ).loc Cert.Reference27Ideal.main_arg6))
      ∧ r.2.sem = fun _ => 0)

def quiescent_Kernel28 [hKernel28 : Cert.Kernel28.Facts] [hPre_b_w_grp_named : Cert.Pre_b_w_grp_named.Facts] : Prop :=
  ∀ (m : (ℓ : Loc Cert.Kernel28.nD Cert.Kernel28.τ Cert.Kernel28.sig) → Buf (Elt Bits) ℓ) (g : Dev Cert.Kernel28.nD → PrngReg), Pre_Kernel28 m →
    θ_run (Cert.Kernel28.defs (F := Bits)) (onTc (τ := Cert.Kernel28.τ) (Cert.Kernel28.main (F := Bits))) ⟨m, fun _ => 0, g⟩ (fun r => (∀ c : Dev Cert.Kernel28.nD,
      r.2.mem ((c.tc : Thread Cert.Kernel28.nD Cert.Kernel28.τ).loc Cert.Kernel28.main_arg0) = m ((c.tc : Thread Cert.Kernel28.nD Cert.Kernel28.τ).loc Cert.Kernel28.main_arg0)
      ∧ r.2.mem ((c.tc : Thread Cert.Kernel28.nD Cert.Kernel28.τ).loc Cert.Kernel28.main_arg1) = m ((c.tc : Thread Cert.Kernel28.nD Cert.Kernel28.τ).loc Cert.Kernel28.main_arg1)
      ∧ r.2.mem ((c.tc : Thread Cert.Kernel28.nD Cert.Kernel28.τ).loc Cert.Kernel28.main_arg2) = m ((c.tc : Thread Cert.Kernel28.nD Cert.Kernel28.τ).loc Cert.Kernel28.main_arg2)
      ∧ r.2.mem ((c.tc : Thread Cert.Kernel28.nD Cert.Kernel28.τ).loc Cert.Kernel28.main_arg3) = m ((c.tc : Thread Cert.Kernel28.nD Cert.Kernel28.τ).loc Cert.Kernel28.main_arg3)
      ∧ r.2.mem ((c.tc : Thread Cert.Kernel28.nD Cert.Kernel28.τ).loc Cert.Kernel28.main_arg4) = m ((c.tc : Thread Cert.Kernel28.nD Cert.Kernel28.τ).loc Cert.Kernel28.main_arg4)
      ∧ r.2.mem ((c.tc : Thread Cert.Kernel28.nD Cert.Kernel28.τ).loc Cert.Kernel28.main_arg5) = m ((c.tc : Thread Cert.Kernel28.nD Cert.Kernel28.τ).loc Cert.Kernel28.main_arg5)
      ∧ r.2.mem ((c.tc : Thread Cert.Kernel28.nD Cert.Kernel28.τ).loc Cert.Kernel28.main_arg6) = m ((c.tc : Thread Cert.Kernel28.nD Cert.Kernel28.τ).loc Cert.Kernel28.main_arg6))
      ∧ r.2.sem = fun _ => 0)

def quiescent_Kernel28Ideal [hKernel28Ideal : Cert.Kernel28Ideal.Facts] [hPre_b_w_grp_named : Cert.Pre_b_w_grp_named.Facts] : Prop :=
  ∀ (m : (ℓ : Loc Cert.Kernel28Ideal.nD Cert.Kernel28Ideal.τ Cert.Kernel28Ideal.sig) → Buf (Elt Ideal) ℓ) (g : Dev Cert.Kernel28Ideal.nD → PrngReg), Pre_Kernel28Ideal m →
    θ_run (Cert.Kernel28Ideal.defs (F := Ideal)) (onTc (τ := Cert.Kernel28Ideal.τ) (Cert.Kernel28Ideal.main (F := Ideal))) ⟨m, fun _ => 0, g⟩ (fun r => (∀ c : Dev Cert.Kernel28Ideal.nD,
      r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
      ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
      ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
      ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
      ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
      ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
      ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6))
      ∧ r.2.sem = fun _ => 0)

def quiescent_Reference28Ideal [hReference28Ideal : Cert.Reference28Ideal.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6))
      ∧ r.2.sem = fun _ => 0)

def quiescent_Reference28Ideal_pre_b_w_grp_named [hReference28Ideal : Cert.Reference28Ideal.Facts] [hPre_b_w_grp_named : Cert.Pre_b_w_grp_named.Facts] : Prop :=
  ∀ (m : (ℓ : Loc Cert.Reference28Ideal.nD Cert.Reference28Ideal.τ Cert.Reference28Ideal.sig) → Buf (Elt Ideal) ℓ) (g : Dev Cert.Reference28Ideal.nD → PrngReg), Pre_Reference28Ideal_b_w_grp_named m →
    θ_run (Cert.Reference28Ideal.defs (F := Ideal)) (onTc (τ := Cert.Reference28Ideal.τ) (Cert.Reference28Ideal.main (F := Ideal))) ⟨m, fun _ => 0, g⟩ (fun r => (∀ c : Dev Cert.Reference28Ideal.nD,
      r.2.mem ((c.tc : Thread Cert.Reference28Ideal.nD Cert.Reference28Ideal.τ).loc Cert.Reference28Ideal.main_arg0) = m ((c.tc : Thread Cert.Reference28Ideal.nD Cert.Reference28Ideal.τ).loc Cert.Reference28Ideal.main_arg0)
      ∧ r.2.mem ((c.tc : Thread Cert.Reference28Ideal.nD Cert.Reference28Ideal.τ).loc Cert.Reference28Ideal.main_arg1) = m ((c.tc : Thread Cert.Reference28Ideal.nD Cert.Reference28Ideal.τ).loc Cert.Reference28Ideal.main_arg1)
      ∧ r.2.mem ((c.tc : Thread Cert.Reference28Ideal.nD Cert.Reference28Ideal.τ).loc Cert.Reference28Ideal.main_arg2) = m ((c.tc : Thread Cert.Reference28Ideal.nD Cert.Reference28Ideal.τ).loc Cert.Reference28Ideal.main_arg2)
      ∧ r.2.mem ((c.tc : Thread Cert.Reference28Ideal.nD Cert.Reference28Ideal.τ).loc Cert.Reference28Ideal.main_arg3) = m ((c.tc : Thread Cert.Reference28Ideal.nD Cert.Reference28Ideal.τ).loc Cert.Reference28Ideal.main_arg3)
      ∧ r.2.mem ((c.tc : Thread Cert.Reference28Ideal.nD Cert.Reference28Ideal.τ).loc Cert.Reference28Ideal.main_arg4) = m ((c.tc : Thread Cert.Reference28Ideal.nD Cert.Reference28Ideal.τ).loc Cert.Reference28Ideal.main_arg4)
      ∧ r.2.mem ((c.tc : Thread Cert.Reference28Ideal.nD Cert.Reference28Ideal.τ).loc Cert.Reference28Ideal.main_arg5) = m ((c.tc : Thread Cert.Reference28Ideal.nD Cert.Reference28Ideal.τ).loc Cert.Reference28Ideal.main_arg5)
      ∧ r.2.mem ((c.tc : Thread Cert.Reference28Ideal.nD Cert.Reference28Ideal.τ).loc Cert.Reference28Ideal.main_arg6) = m ((c.tc : Thread Cert.Reference28Ideal.nD Cert.Reference28Ideal.τ).loc Cert.Reference28Ideal.main_arg6))
      ∧ r.2.sem = fun _ => 0)

def quiescent_Kernel29 [hKernel29 : Cert.Kernel29.Facts] [hPre_b_w_in_named : Cert.Pre_b_w_in_named.Facts] : Prop :=
  ∀ (m : (ℓ : Loc Cert.Kernel29.nD Cert.Kernel29.τ Cert.Kernel29.sig) → Buf (Elt Bits) ℓ) (g : Dev Cert.Kernel29.nD → PrngReg), Pre_Kernel29 m →
    θ_run (Cert.Kernel29.defs (F := Bits)) (onTc (τ := Cert.Kernel29.τ) (Cert.Kernel29.main (F := Bits))) ⟨m, fun _ => 0, g⟩ (fun r => (∀ c : Dev Cert.Kernel29.nD,
      r.2.mem ((c.tc : Thread Cert.Kernel29.nD Cert.Kernel29.τ).loc Cert.Kernel29.main_arg0) = m ((c.tc : Thread Cert.Kernel29.nD Cert.Kernel29.τ).loc Cert.Kernel29.main_arg0)
      ∧ r.2.mem ((c.tc : Thread Cert.Kernel29.nD Cert.Kernel29.τ).loc Cert.Kernel29.main_arg1) = m ((c.tc : Thread Cert.Kernel29.nD Cert.Kernel29.τ).loc Cert.Kernel29.main_arg1)
      ∧ r.2.mem ((c.tc : Thread Cert.Kernel29.nD Cert.Kernel29.τ).loc Cert.Kernel29.main_arg2) = m ((c.tc : Thread Cert.Kernel29.nD Cert.Kernel29.τ).loc Cert.Kernel29.main_arg2)
      ∧ r.2.mem ((c.tc : Thread Cert.Kernel29.nD Cert.Kernel29.τ).loc Cert.Kernel29.main_arg3) = m ((c.tc : Thread Cert.Kernel29.nD Cert.Kernel29.τ).loc Cert.Kernel29.main_arg3)
      ∧ r.2.mem ((c.tc : Thread Cert.Kernel29.nD Cert.Kernel29.τ).loc Cert.Kernel29.main_arg4) = m ((c.tc : Thread Cert.Kernel29.nD Cert.Kernel29.τ).loc Cert.Kernel29.main_arg4)
      ∧ r.2.mem ((c.tc : Thread Cert.Kernel29.nD Cert.Kernel29.τ).loc Cert.Kernel29.main_arg5) = m ((c.tc : Thread Cert.Kernel29.nD Cert.Kernel29.τ).loc Cert.Kernel29.main_arg5)
      ∧ r.2.mem ((c.tc : Thread Cert.Kernel29.nD Cert.Kernel29.τ).loc Cert.Kernel29.main_arg6) = m ((c.tc : Thread Cert.Kernel29.nD Cert.Kernel29.τ).loc Cert.Kernel29.main_arg6))
      ∧ r.2.sem = fun _ => 0)

def quiescent_Kernel29Ideal [hKernel29Ideal : Cert.Kernel29Ideal.Facts] [hPre_b_w_in_named : Cert.Pre_b_w_in_named.Facts] : Prop :=
  ∀ (m : (ℓ : Loc Cert.Kernel29Ideal.nD Cert.Kernel29Ideal.τ Cert.Kernel29Ideal.sig) → Buf (Elt Ideal) ℓ) (g : Dev Cert.Kernel29Ideal.nD → PrngReg), Pre_Kernel29Ideal m →
    θ_run (Cert.Kernel29Ideal.defs (F := Ideal)) (onTc (τ := Cert.Kernel29Ideal.τ) (Cert.Kernel29Ideal.main (F := Ideal))) ⟨m, fun _ => 0, g⟩ (fun r => (∀ c : Dev Cert.Kernel29Ideal.nD,
      r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
      ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
      ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
      ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
      ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
      ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
      ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ r.2.sem = fun _ => 0)

def quiescent_Reference29Ideal [hReference29Ideal : Cert.Reference29Ideal.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6))
      ∧ r.2.sem = fun _ => 0)

def quiescent_Reference29Ideal_pre_b_w_in_named [hReference29Ideal : Cert.Reference29Ideal.Facts] [hPre_b_w_in_named : Cert.Pre_b_w_in_named.Facts] : Prop :=
  ∀ (m : (ℓ : Loc Cert.Reference29Ideal.nD Cert.Reference29Ideal.τ Cert.Reference29Ideal.sig) → Buf (Elt Ideal) ℓ) (g : Dev Cert.Reference29Ideal.nD → PrngReg), Pre_Reference29Ideal_b_w_in_named m →
    θ_run (Cert.Reference29Ideal.defs (F := Ideal)) (onTc (τ := Cert.Reference29Ideal.τ) (Cert.Reference29Ideal.main (F := Ideal))) ⟨m, fun _ => 0, g⟩ (fun r => (∀ c : Dev Cert.Reference29Ideal.nD,
      r.2.mem ((c.tc : Thread Cert.Reference29Ideal.nD Cert.Reference29Ideal.τ).loc Cert.Reference29Ideal.main_arg0) = m ((c.tc : Thread Cert.Reference29Ideal.nD Cert.Reference29Ideal.τ).loc Cert.Reference29Ideal.main_arg0)
      ∧ r.2.mem ((c.tc : Thread Cert.Reference29Ideal.nD Cert.Reference29Ideal.τ).loc Cert.Reference29Ideal.main_arg1) = m ((c.tc : Thread Cert.Reference29Ideal.nD Cert.Reference29Ideal.τ).loc Cert.Reference29Ideal.main_arg1)
      ∧ r.2.mem ((c.tc : Thread Cert.Reference29Ideal.nD Cert.Reference29Ideal.τ).loc Cert.Reference29Ideal.main_arg2) = m ((c.tc : Thread Cert.Reference29Ideal.nD Cert.Reference29Ideal.τ).loc Cert.Reference29Ideal.main_arg2)
      ∧ r.2.mem ((c.tc : Thread Cert.Reference29Ideal.nD Cert.Reference29Ideal.τ).loc Cert.Reference29Ideal.main_arg3) = m ((c.tc : Thread Cert.Reference29Ideal.nD Cert.Reference29Ideal.τ).loc Cert.Reference29Ideal.main_arg3)
      ∧ r.2.mem ((c.tc : Thread Cert.Reference29Ideal.nD Cert.Reference29Ideal.τ).loc Cert.Reference29Ideal.main_arg4) = m ((c.tc : Thread Cert.Reference29Ideal.nD Cert.Reference29Ideal.τ).loc Cert.Reference29Ideal.main_arg4)
      ∧ r.2.mem ((c.tc : Thread Cert.Reference29Ideal.nD Cert.Reference29Ideal.τ).loc Cert.Reference29Ideal.main_arg5) = m ((c.tc : Thread Cert.Reference29Ideal.nD Cert.Reference29Ideal.τ).loc Cert.Reference29Ideal.main_arg5)
      ∧ r.2.mem ((c.tc : Thread Cert.Reference29Ideal.nD Cert.Reference29Ideal.τ).loc Cert.Reference29Ideal.main_arg6) = m ((c.tc : Thread Cert.Reference29Ideal.nD Cert.Reference29Ideal.τ).loc Cert.Reference29Ideal.main_arg6))
      ∧ r.2.sem = fun _ => 0)

def quiescent_Kernel30 [hKernel30 : Cert.Kernel30.Facts] [hPre_a_w_in_named : Cert.Pre_a_w_in_named.Facts] : Prop :=
  ∀ (m : (ℓ : Loc Cert.Kernel30.nD Cert.Kernel30.τ Cert.Kernel30.sig) → Buf (Elt Bits) ℓ) (g : Dev Cert.Kernel30.nD → PrngReg), Pre_Kernel30 m →
    θ_run (Cert.Kernel30.defs (F := Bits)) (onTc (τ := Cert.Kernel30.τ) (Cert.Kernel30.main (F := Bits))) ⟨m, fun _ => 0, g⟩ (fun r => (∀ c : Dev Cert.Kernel30.nD,
      r.2.mem ((c.tc : Thread Cert.Kernel30.nD Cert.Kernel30.τ).loc Cert.Kernel30.main_arg0) = m ((c.tc : Thread Cert.Kernel30.nD Cert.Kernel30.τ).loc Cert.Kernel30.main_arg0)
      ∧ r.2.mem ((c.tc : Thread Cert.Kernel30.nD Cert.Kernel30.τ).loc Cert.Kernel30.main_arg1) = m ((c.tc : Thread Cert.Kernel30.nD Cert.Kernel30.τ).loc Cert.Kernel30.main_arg1)
      ∧ r.2.mem ((c.tc : Thread Cert.Kernel30.nD Cert.Kernel30.τ).loc Cert.Kernel30.main_arg2) = m ((c.tc : Thread Cert.Kernel30.nD Cert.Kernel30.τ).loc Cert.Kernel30.main_arg2)
      ∧ r.2.mem ((c.tc : Thread Cert.Kernel30.nD Cert.Kernel30.τ).loc Cert.Kernel30.main_arg3) = m ((c.tc : Thread Cert.Kernel30.nD Cert.Kernel30.τ).loc Cert.Kernel30.main_arg3)
      ∧ r.2.mem ((c.tc : Thread Cert.Kernel30.nD Cert.Kernel30.τ).loc Cert.Kernel30.main_arg4) = m ((c.tc : Thread Cert.Kernel30.nD Cert.Kernel30.τ).loc Cert.Kernel30.main_arg4)
      ∧ r.2.mem ((c.tc : Thread Cert.Kernel30.nD Cert.Kernel30.τ).loc Cert.Kernel30.main_arg5) = m ((c.tc : Thread Cert.Kernel30.nD Cert.Kernel30.τ).loc Cert.Kernel30.main_arg5)
      ∧ r.2.mem ((c.tc : Thread Cert.Kernel30.nD Cert.Kernel30.τ).loc Cert.Kernel30.main_arg6) = m ((c.tc : Thread Cert.Kernel30.nD Cert.Kernel30.τ).loc Cert.Kernel30.main_arg6))
      ∧ r.2.sem = fun _ => 0)

def quiescent_Kernel30Ideal [hKernel30Ideal : Cert.Kernel30Ideal.Facts] [hPre_a_w_in_named : Cert.Pre_a_w_in_named.Facts] : Prop :=
  ∀ (m : (ℓ : Loc Cert.Kernel30Ideal.nD Cert.Kernel30Ideal.τ Cert.Kernel30Ideal.sig) → Buf (Elt Ideal) ℓ) (g : Dev Cert.Kernel30Ideal.nD → PrngReg), Pre_Kernel30Ideal m →
    θ_run (Cert.Kernel30Ideal.defs (F := Ideal)) (onTc (τ := Cert.Kernel30Ideal.τ) (Cert.Kernel30Ideal.main (F := Ideal))) ⟨m, fun _ => 0, g⟩ (fun r => (∀ c : Dev Cert.Kernel30Ideal.nD,
      r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
      ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
      ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
      ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
      ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
      ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
      ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6))
      ∧ r.2.sem = fun _ => 0)

def quiescent_Reference30Ideal [hReference30Ideal : Cert.Reference30Ideal.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6))
      ∧ r.2.sem = fun _ => 0)

def quiescent_Reference30Ideal_pre_a_w_in_named [hReference30Ideal : Cert.Reference30Ideal.Facts] [hPre_a_w_in_named : Cert.Pre_a_w_in_named.Facts] : Prop :=
  ∀ (m : (ℓ : Loc Cert.Reference30Ideal.nD Cert.Reference30Ideal.τ Cert.Reference30Ideal.sig) → Buf (Elt Ideal) ℓ) (g : Dev Cert.Reference30Ideal.nD → PrngReg), Pre_Reference30Ideal_a_w_in_named m →
    θ_run (Cert.Reference30Ideal.defs (F := Ideal)) (onTc (τ := Cert.Reference30Ideal.τ) (Cert.Reference30Ideal.main (F := Ideal))) ⟨m, fun _ => 0, g⟩ (fun r => (∀ c : Dev Cert.Reference30Ideal.nD,
      r.2.mem ((c.tc : Thread Cert.Reference30Ideal.nD Cert.Reference30Ideal.τ).loc Cert.Reference30Ideal.main_arg0) = m ((c.tc : Thread Cert.Reference30Ideal.nD Cert.Reference30Ideal.τ).loc Cert.Reference30Ideal.main_arg0)
      ∧ r.2.mem ((c.tc : Thread Cert.Reference30Ideal.nD Cert.Reference30Ideal.τ).loc Cert.Reference30Ideal.main_arg1) = m ((c.tc : Thread Cert.Reference30Ideal.nD Cert.Reference30Ideal.τ).loc Cert.Reference30Ideal.main_arg1)
      ∧ r.2.mem ((c.tc : Thread Cert.Reference30Ideal.nD Cert.Reference30Ideal.τ).loc Cert.Reference30Ideal.main_arg2) = m ((c.tc : Thread Cert.Reference30Ideal.nD Cert.Reference30Ideal.τ).loc Cert.Reference30Ideal.main_arg2)
      ∧ r.2.mem ((c.tc : Thread Cert.Reference30Ideal.nD Cert.Reference30Ideal.τ).loc Cert.Reference30Ideal.main_arg3) = m ((c.tc : Thread Cert.Reference30Ideal.nD Cert.Reference30Ideal.τ).loc Cert.Reference30Ideal.main_arg3)
      ∧ r.2.mem ((c.tc : Thread Cert.Reference30Ideal.nD Cert.Reference30Ideal.τ).loc Cert.Reference30Ideal.main_arg4) = m ((c.tc : Thread Cert.Reference30Ideal.nD Cert.Reference30Ideal.τ).loc Cert.Reference30Ideal.main_arg4)
      ∧ r.2.mem ((c.tc : Thread Cert.Reference30Ideal.nD Cert.Reference30Ideal.τ).loc Cert.Reference30Ideal.main_arg5) = m ((c.tc : Thread Cert.Reference30Ideal.nD Cert.Reference30Ideal.τ).loc Cert.Reference30Ideal.main_arg5)
      ∧ r.2.mem ((c.tc : Thread Cert.Reference30Ideal.nD Cert.Reference30Ideal.τ).loc Cert.Reference30Ideal.main_arg6) = m ((c.tc : Thread Cert.Reference30Ideal.nD Cert.Reference30Ideal.τ).loc Cert.Reference30Ideal.main_arg6))
      ∧ r.2.sem = fun _ => 0)

def quiescent_Kernel31 [hKernel31 : Cert.Kernel31.Facts] [hPre_b_b_grp_named : Cert.Pre_b_b_grp_named.Facts] : Prop :=
  ∀ (m : (ℓ : Loc Cert.Kernel31.nD Cert.Kernel31.τ Cert.Kernel31.sig) → Buf (Elt Bits) ℓ) (g : Dev Cert.Kernel31.nD → PrngReg), Pre_Kernel31 m →
    θ_run (Cert.Kernel31.defs (F := Bits)) (onTc (τ := Cert.Kernel31.τ) (Cert.Kernel31.main (F := Bits))) ⟨m, fun _ => 0, g⟩ (fun r => (∀ c : Dev Cert.Kernel31.nD,
      r.2.mem ((c.tc : Thread Cert.Kernel31.nD Cert.Kernel31.τ).loc Cert.Kernel31.main_arg0) = m ((c.tc : Thread Cert.Kernel31.nD Cert.Kernel31.τ).loc Cert.Kernel31.main_arg0)
      ∧ r.2.mem ((c.tc : Thread Cert.Kernel31.nD Cert.Kernel31.τ).loc Cert.Kernel31.main_arg1) = m ((c.tc : Thread Cert.Kernel31.nD Cert.Kernel31.τ).loc Cert.Kernel31.main_arg1)
      ∧ r.2.mem ((c.tc : Thread Cert.Kernel31.nD Cert.Kernel31.τ).loc Cert.Kernel31.main_arg2) = m ((c.tc : Thread Cert.Kernel31.nD Cert.Kernel31.τ).loc Cert.Kernel31.main_arg2)
      ∧ r.2.mem ((c.tc : Thread Cert.Kernel31.nD Cert.Kernel31.τ).loc Cert.Kernel31.main_arg3) = m ((c.tc : Thread Cert.Kernel31.nD Cert.Kernel31.τ).loc Cert.Kernel31.main_arg3)
      ∧ r.2.mem ((c.tc : Thread Cert.Kernel31.nD Cert.Kernel31.τ).loc Cert.Kernel31.main_arg4) = m ((c.tc : Thread Cert.Kernel31.nD Cert.Kernel31.τ).loc Cert.Kernel31.main_arg4)
      ∧ r.2.mem ((c.tc : Thread Cert.Kernel31.nD Cert.Kernel31.τ).loc Cert.Kernel31.main_arg5) = m ((c.tc : Thread Cert.Kernel31.nD Cert.Kernel31.τ).loc Cert.Kernel31.main_arg5)
      ∧ r.2.mem ((c.tc : Thread Cert.Kernel31.nD Cert.Kernel31.τ).loc Cert.Kernel31.main_arg6) = m ((c.tc : Thread Cert.Kernel31.nD Cert.Kernel31.τ).loc Cert.Kernel31.main_arg6))
      ∧ r.2.sem = fun _ => 0)

def quiescent_Kernel31Ideal [hKernel31Ideal : Cert.Kernel31Ideal.Facts] [hPre_b_b_grp_named : Cert.Pre_b_b_grp_named.Facts] : Prop :=
  ∀ (m : (ℓ : Loc Cert.Kernel31Ideal.nD Cert.Kernel31Ideal.τ Cert.Kernel31Ideal.sig) → Buf (Elt Ideal) ℓ) (g : Dev Cert.Kernel31Ideal.nD → PrngReg), Pre_Kernel31Ideal m →
    θ_run (Cert.Kernel31Ideal.defs (F := Ideal)) (onTc (τ := Cert.Kernel31Ideal.τ) (Cert.Kernel31Ideal.main (F := Ideal))) ⟨m, fun _ => 0, g⟩ (fun r => (∀ c : Dev Cert.Kernel31Ideal.nD,
      r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
      ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
      ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
      ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
      ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
      ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
      ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ r.2.sem = fun _ => 0)

def quiescent_Reference31Ideal [hReference31Ideal : Cert.Reference31Ideal.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def quiescent_Reference31Ideal_pre_b_b_grp_named [hReference31Ideal : Cert.Reference31Ideal.Facts] [hPre_b_b_grp_named : Cert.Pre_b_b_grp_named.Facts] : Prop :=
  ∀ (m : (ℓ : Loc Cert.Reference31Ideal.nD Cert.Reference31Ideal.τ Cert.Reference31Ideal.sig) → Buf (Elt Ideal) ℓ) (g : Dev Cert.Reference31Ideal.nD → PrngReg), Pre_Reference31Ideal_b_b_grp_named m →
    θ_run (Cert.Reference31Ideal.defs (F := Ideal)) (onTc (τ := Cert.Reference31Ideal.τ) (Cert.Reference31Ideal.main (F := Ideal))) ⟨m, fun _ => 0, g⟩ (fun r => (∀ c : Dev Cert.Reference31Ideal.nD,
      r.2.mem ((c.tc : Thread Cert.Reference31Ideal.nD Cert.Reference31Ideal.τ).loc Cert.Reference31Ideal.main_arg0) = m ((c.tc : Thread Cert.Reference31Ideal.nD Cert.Reference31Ideal.τ).loc Cert.Reference31Ideal.main_arg0)
      ∧ r.2.mem ((c.tc : Thread Cert.Reference31Ideal.nD Cert.Reference31Ideal.τ).loc Cert.Reference31Ideal.main_arg1) = m ((c.tc : Thread Cert.Reference31Ideal.nD Cert.Reference31Ideal.τ).loc Cert.Reference31Ideal.main_arg1)
      ∧ r.2.mem ((c.tc : Thread Cert.Reference31Ideal.nD Cert.Reference31Ideal.τ).loc Cert.Reference31Ideal.main_arg2) = m ((c.tc : Thread Cert.Reference31Ideal.nD Cert.Reference31Ideal.τ).loc Cert.Reference31Ideal.main_arg2)
      ∧ r.2.mem ((c.tc : Thread Cert.Reference31Ideal.nD Cert.Reference31Ideal.τ).loc Cert.Reference31Ideal.main_arg3) = m ((c.tc : Thread Cert.Reference31Ideal.nD Cert.Reference31Ideal.τ).loc Cert.Reference31Ideal.main_arg3)
      ∧ r.2.mem ((c.tc : Thread Cert.Reference31Ideal.nD Cert.Reference31Ideal.τ).loc Cert.Reference31Ideal.main_arg4) = m ((c.tc : Thread Cert.Reference31Ideal.nD Cert.Reference31Ideal.τ).loc Cert.Reference31Ideal.main_arg4)
      ∧ r.2.mem ((c.tc : Thread Cert.Reference31Ideal.nD Cert.Reference31Ideal.τ).loc Cert.Reference31Ideal.main_arg5) = m ((c.tc : Thread Cert.Reference31Ideal.nD Cert.Reference31Ideal.τ).loc Cert.Reference31Ideal.main_arg5)
      ∧ r.2.mem ((c.tc : Thread Cert.Reference31Ideal.nD Cert.Reference31Ideal.τ).loc Cert.Reference31Ideal.main_arg6) = m ((c.tc : Thread Cert.Reference31Ideal.nD Cert.Reference31Ideal.τ).loc Cert.Reference31Ideal.main_arg6))
      ∧ r.2.sem = fun _ => 0)

def quiescent_Kernel32 [hKernel32 : Cert.Kernel32.Facts] [hPre_b_scale_named : Cert.Pre_b_scale_named.Facts] : Prop :=
  ∀ (m : (ℓ : Loc Cert.Kernel32.nD Cert.Kernel32.τ Cert.Kernel32.sig) → Buf (Elt Bits) ℓ) (g : Dev Cert.Kernel32.nD → PrngReg), Pre_Kernel32 m →
    θ_run (Cert.Kernel32.defs (F := Bits)) (onTc (τ := Cert.Kernel32.τ) (Cert.Kernel32.main (F := Bits))) ⟨m, fun _ => 0, g⟩ (fun r => (∀ c : Dev Cert.Kernel32.nD,
      r.2.mem ((c.tc : Thread Cert.Kernel32.nD Cert.Kernel32.τ).loc Cert.Kernel32.main_arg0) = m ((c.tc : Thread Cert.Kernel32.nD Cert.Kernel32.τ).loc Cert.Kernel32.main_arg0)
      ∧ r.2.mem ((c.tc : Thread Cert.Kernel32.nD Cert.Kernel32.τ).loc Cert.Kernel32.main_arg1) = m ((c.tc : Thread Cert.Kernel32.nD Cert.Kernel32.τ).loc Cert.Kernel32.main_arg1)
      ∧ r.2.mem ((c.tc : Thread Cert.Kernel32.nD Cert.Kernel32.τ).loc Cert.Kernel32.main_arg2) = m ((c.tc : Thread Cert.Kernel32.nD Cert.Kernel32.τ).loc Cert.Kernel32.main_arg2)
      ∧ r.2.mem ((c.tc : Thread Cert.Kernel32.nD Cert.Kernel32.τ).loc Cert.Kernel32.main_arg3) = m ((c.tc : Thread Cert.Kernel32.nD Cert.Kernel32.τ).loc Cert.Kernel32.main_arg3)
      ∧ r.2.mem ((c.tc : Thread Cert.Kernel32.nD Cert.Kernel32.τ).loc Cert.Kernel32.main_arg4) = m ((c.tc : Thread Cert.Kernel32.nD Cert.Kernel32.τ).loc Cert.Kernel32.main_arg4)
      ∧ r.2.mem ((c.tc : Thread Cert.Kernel32.nD Cert.Kernel32.τ).loc Cert.Kernel32.main_arg5) = m ((c.tc : Thread Cert.Kernel32.nD Cert.Kernel32.τ).loc Cert.Kernel32.main_arg5)
      ∧ r.2.mem ((c.tc : Thread Cert.Kernel32.nD Cert.Kernel32.τ).loc Cert.Kernel32.main_arg6) = m ((c.tc : Thread Cert.Kernel32.nD Cert.Kernel32.τ).loc Cert.Kernel32.main_arg6))
      ∧ r.2.sem = fun _ => 0)

def quiescent_Kernel32Ideal [hKernel32Ideal : Cert.Kernel32Ideal.Facts] [hPre_b_scale_named : Cert.Pre_b_scale_named.Facts] : Prop :=
  ∀ (m : (ℓ : Loc Cert.Kernel32Ideal.nD Cert.Kernel32Ideal.τ Cert.Kernel32Ideal.sig) → Buf (Elt Ideal) ℓ) (g : Dev Cert.Kernel32Ideal.nD → PrngReg), Pre_Kernel32Ideal m →
    θ_run (Cert.Kernel32Ideal.defs (F := Ideal)) (onTc (τ := Cert.Kernel32Ideal.τ) (Cert.Kernel32Ideal.main (F := Ideal))) ⟨m, fun _ => 0, g⟩ (fun r => (∀ c : Dev Cert.Kernel32Ideal.nD,
      r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
      ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
      ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
      ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
      ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
      ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
      ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6))
      ∧ r.2.sem = fun _ => 0)

def quiescent_Reference32Ideal [hReference32Ideal : Cert.Reference32Ideal.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6))
      ∧ r.2.sem = fun _ => 0)

def quiescent_Reference32Ideal_pre_b_scale_named [hReference32Ideal : Cert.Reference32Ideal.Facts] [hPre_b_scale_named : Cert.Pre_b_scale_named.Facts] : Prop :=
  ∀ (m : (ℓ : Loc Cert.Reference32Ideal.nD Cert.Reference32Ideal.τ Cert.Reference32Ideal.sig) → Buf (Elt Ideal) ℓ) (g : Dev Cert.Reference32Ideal.nD → PrngReg), Pre_Reference32Ideal_b_scale_named m →
    θ_run (Cert.Reference32Ideal.defs (F := Ideal)) (onTc (τ := Cert.Reference32Ideal.τ) (Cert.Reference32Ideal.main (F := Ideal))) ⟨m, fun _ => 0, g⟩ (fun r => (∀ c : Dev Cert.Reference32Ideal.nD,
      r.2.mem ((c.tc : Thread Cert.Reference32Ideal.nD Cert.Reference32Ideal.τ).loc Cert.Reference32Ideal.main_arg0) = m ((c.tc : Thread Cert.Reference32Ideal.nD Cert.Reference32Ideal.τ).loc Cert.Reference32Ideal.main_arg0)
      ∧ r.2.mem ((c.tc : Thread Cert.Reference32Ideal.nD Cert.Reference32Ideal.τ).loc Cert.Reference32Ideal.main_arg1) = m ((c.tc : Thread Cert.Reference32Ideal.nD Cert.Reference32Ideal.τ).loc Cert.Reference32Ideal.main_arg1)
      ∧ r.2.mem ((c.tc : Thread Cert.Reference32Ideal.nD Cert.Reference32Ideal.τ).loc Cert.Reference32Ideal.main_arg2) = m ((c.tc : Thread Cert.Reference32Ideal.nD Cert.Reference32Ideal.τ).loc Cert.Reference32Ideal.main_arg2)
      ∧ r.2.mem ((c.tc : Thread Cert.Reference32Ideal.nD Cert.Reference32Ideal.τ).loc Cert.Reference32Ideal.main_arg3) = m ((c.tc : Thread Cert.Reference32Ideal.nD Cert.Reference32Ideal.τ).loc Cert.Reference32Ideal.main_arg3)
      ∧ r.2.mem ((c.tc : Thread Cert.Reference32Ideal.nD Cert.Reference32Ideal.τ).loc Cert.Reference32Ideal.main_arg4) = m ((c.tc : Thread Cert.Reference32Ideal.nD Cert.Reference32Ideal.τ).loc Cert.Reference32Ideal.main_arg4)
      ∧ r.2.mem ((c.tc : Thread Cert.Reference32Ideal.nD Cert.Reference32Ideal.τ).loc Cert.Reference32Ideal.main_arg5) = m ((c.tc : Thread Cert.Reference32Ideal.nD Cert.Reference32Ideal.τ).loc Cert.Reference32Ideal.main_arg5)
      ∧ r.2.mem ((c.tc : Thread Cert.Reference32Ideal.nD Cert.Reference32Ideal.τ).loc Cert.Reference32Ideal.main_arg6) = m ((c.tc : Thread Cert.Reference32Ideal.nD Cert.Reference32Ideal.τ).loc Cert.Reference32Ideal.main_arg6))
      ∧ r.2.sem = fun _ => 0)

def quiescent_Kernel33 [hKernel33 : Cert.Kernel33.Facts] [hPre_b_w_out_chips_named : Cert.Pre_b_w_out_chips_named.Facts] : Prop :=
  ∀ (m : (ℓ : Loc Cert.Kernel33.nD Cert.Kernel33.τ Cert.Kernel33.sig) → Buf (Elt Bits) ℓ) (g : Dev Cert.Kernel33.nD → PrngReg), Pre_Kernel33 m →
    θ_run (Cert.Kernel33.defs (F := Bits)) (onTc (τ := Cert.Kernel33.τ) (Cert.Kernel33.main (F := Bits))) ⟨m, fun _ => 0, g⟩ (fun r => (∀ c : Dev Cert.Kernel33.nD,
      r.2.mem ((c.tc : Thread Cert.Kernel33.nD Cert.Kernel33.τ).loc Cert.Kernel33.main_arg0) = m ((c.tc : Thread Cert.Kernel33.nD Cert.Kernel33.τ).loc Cert.Kernel33.main_arg0)
      ∧ r.2.mem ((c.tc : Thread Cert.Kernel33.nD Cert.Kernel33.τ).loc Cert.Kernel33.main_arg1) = m ((c.tc : Thread Cert.Kernel33.nD Cert.Kernel33.τ).loc Cert.Kernel33.main_arg1)
      ∧ r.2.mem ((c.tc : Thread Cert.Kernel33.nD Cert.Kernel33.τ).loc Cert.Kernel33.main_arg2) = m ((c.tc : Thread Cert.Kernel33.nD Cert.Kernel33.τ).loc Cert.Kernel33.main_arg2))
      ∧ r.2.sem = fun _ => 0)

def quiescent_Kernel33Ideal [hKernel33Ideal : Cert.Kernel33Ideal.Facts] [hPre_b_w_out_chips_named : Cert.Pre_b_w_out_chips_named.Facts] : Prop :=
  ∀ (m : (ℓ : Loc Cert.Kernel33Ideal.nD Cert.Kernel33Ideal.τ Cert.Kernel33Ideal.sig) → Buf (Elt Ideal) ℓ) (g : Dev Cert.Kernel33Ideal.nD → PrngReg), Pre_Kernel33Ideal m →
    θ_run (Cert.Kernel33Ideal.defs (F := Ideal)) (onTc (τ := Cert.Kernel33Ideal.τ) (Cert.Kernel33Ideal.main (F := Ideal))) ⟨m, fun _ => 0, g⟩ (fun r => (∀ c : Dev Cert.Kernel33Ideal.nD,
      r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
      ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
      ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ r.2.sem = fun _ => 0)

def quiescent_Reference33Ideal [hReference33Ideal : Cert.Reference33Ideal.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Reference33Ideal_pre_b_w_out_chips_named [hReference33Ideal : Cert.Reference33Ideal.Facts] [hPre_b_w_out_chips_named : Cert.Pre_b_w_out_chips_named.Facts] : Prop :=
  ∀ (m : (ℓ : Loc Cert.Reference33Ideal.nD Cert.Reference33Ideal.τ Cert.Reference33Ideal.sig) → Buf (Elt Ideal) ℓ) (g : Dev Cert.Reference33Ideal.nD → PrngReg), Pre_Reference33Ideal_b_w_out_chips_named m →
    θ_run (Cert.Reference33Ideal.defs (F := Ideal)) (onTc (τ := Cert.Reference33Ideal.τ) (Cert.Reference33Ideal.main (F := Ideal))) ⟨m, fun _ => 0, g⟩ (fun r => (∀ c : Dev Cert.Reference33Ideal.nD,
      r.2.mem ((c.tc : Thread Cert.Reference33Ideal.nD Cert.Reference33Ideal.τ).loc Cert.Reference33Ideal.main_arg0) = m ((c.tc : Thread Cert.Reference33Ideal.nD Cert.Reference33Ideal.τ).loc Cert.Reference33Ideal.main_arg0)
      ∧ r.2.mem ((c.tc : Thread Cert.Reference33Ideal.nD Cert.Reference33Ideal.τ).loc Cert.Reference33Ideal.main_arg1) = m ((c.tc : Thread Cert.Reference33Ideal.nD Cert.Reference33Ideal.τ).loc Cert.Reference33Ideal.main_arg1)
      ∧ r.2.mem ((c.tc : Thread Cert.Reference33Ideal.nD Cert.Reference33Ideal.τ).loc Cert.Reference33Ideal.main_arg2) = m ((c.tc : Thread Cert.Reference33Ideal.nD Cert.Reference33Ideal.τ).loc Cert.Reference33Ideal.main_arg2))
      ∧ r.2.sem = fun _ => 0)

def quiescent_Kernel34 [hKernel34 : Cert.Kernel34.Facts] [hPre_b_w_grp_chips_named : Cert.Pre_b_w_grp_chips_named.Facts] : Prop :=
  ∀ (m : (ℓ : Loc Cert.Kernel34.nD Cert.Kernel34.τ Cert.Kernel34.sig) → Buf (Elt Bits) ℓ) (g : Dev Cert.Kernel34.nD → PrngReg), Pre_Kernel34 m →
    θ_run (Cert.Kernel34.defs (F := Bits)) (onTc (τ := Cert.Kernel34.τ) (Cert.Kernel34.main (F := Bits))) ⟨m, fun _ => 0, g⟩ (fun r => (∀ c : Dev Cert.Kernel34.nD,
      r.2.mem ((c.tc : Thread Cert.Kernel34.nD Cert.Kernel34.τ).loc Cert.Kernel34.main_arg0) = m ((c.tc : Thread Cert.Kernel34.nD Cert.Kernel34.τ).loc Cert.Kernel34.main_arg0)
      ∧ r.2.mem ((c.tc : Thread Cert.Kernel34.nD Cert.Kernel34.τ).loc Cert.Kernel34.main_arg1) = m ((c.tc : Thread Cert.Kernel34.nD Cert.Kernel34.τ).loc Cert.Kernel34.main_arg1)
      ∧ r.2.mem ((c.tc : Thread Cert.Kernel34.nD Cert.Kernel34.τ).loc Cert.Kernel34.main_arg2) = m ((c.tc : Thread Cert.Kernel34.nD Cert.Kernel34.τ).loc Cert.Kernel34.main_arg2))
      ∧ r.2.sem = fun _ => 0)

def quiescent_Kernel34Ideal [hKernel34Ideal : Cert.Kernel34Ideal.Facts] [hPre_b_w_grp_chips_named : Cert.Pre_b_w_grp_chips_named.Facts] : Prop :=
  ∀ (m : (ℓ : Loc Cert.Kernel34Ideal.nD Cert.Kernel34Ideal.τ Cert.Kernel34Ideal.sig) → Buf (Elt Ideal) ℓ) (g : Dev Cert.Kernel34Ideal.nD → PrngReg), Pre_Kernel34Ideal m →
    θ_run (Cert.Kernel34Ideal.defs (F := Ideal)) (onTc (τ := Cert.Kernel34Ideal.τ) (Cert.Kernel34Ideal.main (F := Ideal))) ⟨m, fun _ => 0, g⟩ (fun r => (∀ c : Dev Cert.Kernel34Ideal.nD,
      r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
      ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
      ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ r.2.sem = fun _ => 0)

def quiescent_Reference34Ideal [hReference34Ideal : Cert.Reference34Ideal.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Reference34Ideal_pre_b_w_grp_chips_named [hReference34Ideal : Cert.Reference34Ideal.Facts] [hPre_b_w_grp_chips_named : Cert.Pre_b_w_grp_chips_named.Facts] : Prop :=
  ∀ (m : (ℓ : Loc Cert.Reference34Ideal.nD Cert.Reference34Ideal.τ Cert.Reference34Ideal.sig) → Buf (Elt Ideal) ℓ) (g : Dev Cert.Reference34Ideal.nD → PrngReg), Pre_Reference34Ideal_b_w_grp_chips_named m →
    θ_run (Cert.Reference34Ideal.defs (F := Ideal)) (onTc (τ := Cert.Reference34Ideal.τ) (Cert.Reference34Ideal.main (F := Ideal))) ⟨m, fun _ => 0, g⟩ (fun r => (∀ c : Dev Cert.Reference34Ideal.nD,
      r.2.mem ((c.tc : Thread Cert.Reference34Ideal.nD Cert.Reference34Ideal.τ).loc Cert.Reference34Ideal.main_arg0) = m ((c.tc : Thread Cert.Reference34Ideal.nD Cert.Reference34Ideal.τ).loc Cert.Reference34Ideal.main_arg0)
      ∧ r.2.mem ((c.tc : Thread Cert.Reference34Ideal.nD Cert.Reference34Ideal.τ).loc Cert.Reference34Ideal.main_arg1) = m ((c.tc : Thread Cert.Reference34Ideal.nD Cert.Reference34Ideal.τ).loc Cert.Reference34Ideal.main_arg1)
      ∧ r.2.mem ((c.tc : Thread Cert.Reference34Ideal.nD Cert.Reference34Ideal.τ).loc Cert.Reference34Ideal.main_arg2) = m ((c.tc : Thread Cert.Reference34Ideal.nD Cert.Reference34Ideal.τ).loc Cert.Reference34Ideal.main_arg2))
      ∧ r.2.sem = fun _ => 0)

def quiescent_Kernel35 [hKernel35 : Cert.Kernel35.Facts] [hPre_b_w_in_chips_named : Cert.Pre_b_w_in_chips_named.Facts] : Prop :=
  ∀ (m : (ℓ : Loc Cert.Kernel35.nD Cert.Kernel35.τ Cert.Kernel35.sig) → Buf (Elt Bits) ℓ) (g : Dev Cert.Kernel35.nD → PrngReg), Pre_Kernel35 m →
    θ_run (Cert.Kernel35.defs (F := Bits)) (onTc (τ := Cert.Kernel35.τ) (Cert.Kernel35.main (F := Bits))) ⟨m, fun _ => 0, g⟩ (fun r => (∀ c : Dev Cert.Kernel35.nD,
      r.2.mem ((c.tc : Thread Cert.Kernel35.nD Cert.Kernel35.τ).loc Cert.Kernel35.main_arg0) = m ((c.tc : Thread Cert.Kernel35.nD Cert.Kernel35.τ).loc Cert.Kernel35.main_arg0)
      ∧ r.2.mem ((c.tc : Thread Cert.Kernel35.nD Cert.Kernel35.τ).loc Cert.Kernel35.main_arg1) = m ((c.tc : Thread Cert.Kernel35.nD Cert.Kernel35.τ).loc Cert.Kernel35.main_arg1)
      ∧ r.2.mem ((c.tc : Thread Cert.Kernel35.nD Cert.Kernel35.τ).loc Cert.Kernel35.main_arg2) = m ((c.tc : Thread Cert.Kernel35.nD Cert.Kernel35.τ).loc Cert.Kernel35.main_arg2))
      ∧ r.2.sem = fun _ => 0)

def quiescent_Kernel35Ideal [hKernel35Ideal : Cert.Kernel35Ideal.Facts] [hPre_b_w_in_chips_named : Cert.Pre_b_w_in_chips_named.Facts] : Prop :=
  ∀ (m : (ℓ : Loc Cert.Kernel35Ideal.nD Cert.Kernel35Ideal.τ Cert.Kernel35Ideal.sig) → Buf (Elt Ideal) ℓ) (g : Dev Cert.Kernel35Ideal.nD → PrngReg), Pre_Kernel35Ideal m →
    θ_run (Cert.Kernel35Ideal.defs (F := Ideal)) (onTc (τ := Cert.Kernel35Ideal.τ) (Cert.Kernel35Ideal.main (F := Ideal))) ⟨m, fun _ => 0, g⟩ (fun r => (∀ c : Dev Cert.Kernel35Ideal.nD,
      r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
      ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
      ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ r.2.sem = fun _ => 0)

def quiescent_Reference35Ideal [hReference35Ideal : Cert.Reference35Ideal.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Reference35Ideal_pre_b_w_in_chips_named [hReference35Ideal : Cert.Reference35Ideal.Facts] [hPre_b_w_in_chips_named : Cert.Pre_b_w_in_chips_named.Facts] : Prop :=
  ∀ (m : (ℓ : Loc Cert.Reference35Ideal.nD Cert.Reference35Ideal.τ Cert.Reference35Ideal.sig) → Buf (Elt Ideal) ℓ) (g : Dev Cert.Reference35Ideal.nD → PrngReg), Pre_Reference35Ideal_b_w_in_chips_named m →
    θ_run (Cert.Reference35Ideal.defs (F := Ideal)) (onTc (τ := Cert.Reference35Ideal.τ) (Cert.Reference35Ideal.main (F := Ideal))) ⟨m, fun _ => 0, g⟩ (fun r => (∀ c : Dev Cert.Reference35Ideal.nD,
      r.2.mem ((c.tc : Thread Cert.Reference35Ideal.nD Cert.Reference35Ideal.τ).loc Cert.Reference35Ideal.main_arg0) = m ((c.tc : Thread Cert.Reference35Ideal.nD Cert.Reference35Ideal.τ).loc Cert.Reference35Ideal.main_arg0)
      ∧ r.2.mem ((c.tc : Thread Cert.Reference35Ideal.nD Cert.Reference35Ideal.τ).loc Cert.Reference35Ideal.main_arg1) = m ((c.tc : Thread Cert.Reference35Ideal.nD Cert.Reference35Ideal.τ).loc Cert.Reference35Ideal.main_arg1)
      ∧ r.2.mem ((c.tc : Thread Cert.Reference35Ideal.nD Cert.Reference35Ideal.τ).loc Cert.Reference35Ideal.main_arg2) = m ((c.tc : Thread Cert.Reference35Ideal.nD Cert.Reference35Ideal.τ).loc Cert.Reference35Ideal.main_arg2))
      ∧ r.2.sem = fun _ => 0)

def quiescent_Kernel36 [hKernel36 : Cert.Kernel36.Facts] [hPre_a_w_in_chips_named : Cert.Pre_a_w_in_chips_named.Facts] : Prop :=
  ∀ (m : (ℓ : Loc Cert.Kernel36.nD Cert.Kernel36.τ Cert.Kernel36.sig) → Buf (Elt Bits) ℓ) (g : Dev Cert.Kernel36.nD → PrngReg), Pre_Kernel36 m →
    θ_run (Cert.Kernel36.defs (F := Bits)) (onTc (τ := Cert.Kernel36.τ) (Cert.Kernel36.main (F := Bits))) ⟨m, fun _ => 0, g⟩ (fun r => (∀ c : Dev Cert.Kernel36.nD,
      r.2.mem ((c.tc : Thread Cert.Kernel36.nD Cert.Kernel36.τ).loc Cert.Kernel36.main_arg0) = m ((c.tc : Thread Cert.Kernel36.nD Cert.Kernel36.τ).loc Cert.Kernel36.main_arg0)
      ∧ r.2.mem ((c.tc : Thread Cert.Kernel36.nD Cert.Kernel36.τ).loc Cert.Kernel36.main_arg1) = m ((c.tc : Thread Cert.Kernel36.nD Cert.Kernel36.τ).loc Cert.Kernel36.main_arg1)
      ∧ r.2.mem ((c.tc : Thread Cert.Kernel36.nD Cert.Kernel36.τ).loc Cert.Kernel36.main_arg2) = m ((c.tc : Thread Cert.Kernel36.nD Cert.Kernel36.τ).loc Cert.Kernel36.main_arg2))
      ∧ r.2.sem = fun _ => 0)

def quiescent_Kernel36Ideal [hKernel36Ideal : Cert.Kernel36Ideal.Facts] [hPre_a_w_in_chips_named : Cert.Pre_a_w_in_chips_named.Facts] : Prop :=
  ∀ (m : (ℓ : Loc Cert.Kernel36Ideal.nD Cert.Kernel36Ideal.τ Cert.Kernel36Ideal.sig) → Buf (Elt Ideal) ℓ) (g : Dev Cert.Kernel36Ideal.nD → PrngReg), Pre_Kernel36Ideal m →
    θ_run (Cert.Kernel36Ideal.defs (F := Ideal)) (onTc (τ := Cert.Kernel36Ideal.τ) (Cert.Kernel36Ideal.main (F := Ideal))) ⟨m, fun _ => 0, g⟩ (fun r => (∀ c : Dev Cert.Kernel36Ideal.nD,
      r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
      ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
      ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ r.2.sem = fun _ => 0)

def quiescent_Reference36Ideal [hReference36Ideal : Cert.Reference36Ideal.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Reference36Ideal_pre_a_w_in_chips_named [hReference36Ideal : Cert.Reference36Ideal.Facts] [hPre_a_w_in_chips_named : Cert.Pre_a_w_in_chips_named.Facts] : Prop :=
  ∀ (m : (ℓ : Loc Cert.Reference36Ideal.nD Cert.Reference36Ideal.τ Cert.Reference36Ideal.sig) → Buf (Elt Ideal) ℓ) (g : Dev Cert.Reference36Ideal.nD → PrngReg), Pre_Reference36Ideal_a_w_in_chips_named m →
    θ_run (Cert.Reference36Ideal.defs (F := Ideal)) (onTc (τ := Cert.Reference36Ideal.τ) (Cert.Reference36Ideal.main (F := Ideal))) ⟨m, fun _ => 0, g⟩ (fun r => (∀ c : Dev Cert.Reference36Ideal.nD,
      r.2.mem ((c.tc : Thread Cert.Reference36Ideal.nD Cert.Reference36Ideal.τ).loc Cert.Reference36Ideal.main_arg0) = m ((c.tc : Thread Cert.Reference36Ideal.nD Cert.Reference36Ideal.τ).loc Cert.Reference36Ideal.main_arg0)
      ∧ r.2.mem ((c.tc : Thread Cert.Reference36Ideal.nD Cert.Reference36Ideal.τ).loc Cert.Reference36Ideal.main_arg1) = m ((c.tc : Thread Cert.Reference36Ideal.nD Cert.Reference36Ideal.τ).loc Cert.Reference36Ideal.main_arg1)
      ∧ r.2.mem ((c.tc : Thread Cert.Reference36Ideal.nD Cert.Reference36Ideal.τ).loc Cert.Reference36Ideal.main_arg2) = m ((c.tc : Thread Cert.Reference36Ideal.nD Cert.Reference36Ideal.τ).loc Cert.Reference36Ideal.main_arg2))
      ∧ r.2.sem = fun _ => 0)

def quiescent_Kernel37 [hKernel37 : Cert.Kernel37.Facts] [hPre_b_b_grp_chips_named : Cert.Pre_b_b_grp_chips_named.Facts] : Prop :=
  ∀ (m : (ℓ : Loc Cert.Kernel37.nD Cert.Kernel37.τ Cert.Kernel37.sig) → Buf (Elt Bits) ℓ) (g : Dev Cert.Kernel37.nD → PrngReg), Pre_Kernel37 m →
    θ_run (Cert.Kernel37.defs (F := Bits)) (onTc (τ := Cert.Kernel37.τ) (Cert.Kernel37.main (F := Bits))) ⟨m, fun _ => 0, g⟩ (fun r => (∀ c : Dev Cert.Kernel37.nD,
      r.2.mem ((c.tc : Thread Cert.Kernel37.nD Cert.Kernel37.τ).loc Cert.Kernel37.main_arg0) = m ((c.tc : Thread Cert.Kernel37.nD Cert.Kernel37.τ).loc Cert.Kernel37.main_arg0)
      ∧ r.2.mem ((c.tc : Thread Cert.Kernel37.nD Cert.Kernel37.τ).loc Cert.Kernel37.main_arg1) = m ((c.tc : Thread Cert.Kernel37.nD Cert.Kernel37.τ).loc Cert.Kernel37.main_arg1)
      ∧ r.2.mem ((c.tc : Thread Cert.Kernel37.nD Cert.Kernel37.τ).loc Cert.Kernel37.main_arg2) = m ((c.tc : Thread Cert.Kernel37.nD Cert.Kernel37.τ).loc Cert.Kernel37.main_arg2))
      ∧ r.2.sem = fun _ => 0)

def quiescent_Kernel37Ideal [hKernel37Ideal : Cert.Kernel37Ideal.Facts] [hPre_b_b_grp_chips_named : Cert.Pre_b_b_grp_chips_named.Facts] : Prop :=
  ∀ (m : (ℓ : Loc Cert.Kernel37Ideal.nD Cert.Kernel37Ideal.τ Cert.Kernel37Ideal.sig) → Buf (Elt Ideal) ℓ) (g : Dev Cert.Kernel37Ideal.nD → PrngReg), Pre_Kernel37Ideal m →
    θ_run (Cert.Kernel37Ideal.defs (F := Ideal)) (onTc (τ := Cert.Kernel37Ideal.τ) (Cert.Kernel37Ideal.main (F := Ideal))) ⟨m, fun _ => 0, g⟩ (fun r => (∀ c : Dev Cert.Kernel37Ideal.nD,
      r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
      ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
      ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ r.2.sem = fun _ => 0)

def quiescent_Reference37Ideal [hReference37Ideal : Cert.Reference37Ideal.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Reference37Ideal_pre_b_b_grp_chips_named [hReference37Ideal : Cert.Reference37Ideal.Facts] [hPre_b_b_grp_chips_named : Cert.Pre_b_b_grp_chips_named.Facts] : Prop :=
  ∀ (m : (ℓ : Loc Cert.Reference37Ideal.nD Cert.Reference37Ideal.τ Cert.Reference37Ideal.sig) → Buf (Elt Ideal) ℓ) (g : Dev Cert.Reference37Ideal.nD → PrngReg), Pre_Reference37Ideal_b_b_grp_chips_named m →
    θ_run (Cert.Reference37Ideal.defs (F := Ideal)) (onTc (τ := Cert.Reference37Ideal.τ) (Cert.Reference37Ideal.main (F := Ideal))) ⟨m, fun _ => 0, g⟩ (fun r => (∀ c : Dev Cert.Reference37Ideal.nD,
      r.2.mem ((c.tc : Thread Cert.Reference37Ideal.nD Cert.Reference37Ideal.τ).loc Cert.Reference37Ideal.main_arg0) = m ((c.tc : Thread Cert.Reference37Ideal.nD Cert.Reference37Ideal.τ).loc Cert.Reference37Ideal.main_arg0)
      ∧ r.2.mem ((c.tc : Thread Cert.Reference37Ideal.nD Cert.Reference37Ideal.τ).loc Cert.Reference37Ideal.main_arg1) = m ((c.tc : Thread Cert.Reference37Ideal.nD Cert.Reference37Ideal.τ).loc Cert.Reference37Ideal.main_arg1)
      ∧ r.2.mem ((c.tc : Thread Cert.Reference37Ideal.nD Cert.Reference37Ideal.τ).loc Cert.Reference37Ideal.main_arg2) = m ((c.tc : Thread Cert.Reference37Ideal.nD Cert.Reference37Ideal.τ).loc Cert.Reference37Ideal.main_arg2))
      ∧ r.2.sem = fun _ => 0)

def quiescent_Kernel38 [hKernel38 : Cert.Kernel38.Facts] [hPre_b_scale_chips_named : Cert.Pre_b_scale_chips_named.Facts] : Prop :=
  ∀ (m : (ℓ : Loc Cert.Kernel38.nD Cert.Kernel38.τ Cert.Kernel38.sig) → Buf (Elt Bits) ℓ) (g : Dev Cert.Kernel38.nD → PrngReg), Pre_Kernel38 m →
    θ_run (Cert.Kernel38.defs (F := Bits)) (onTc (τ := Cert.Kernel38.τ) (Cert.Kernel38.main (F := Bits))) ⟨m, fun _ => 0, g⟩ (fun r => (∀ c : Dev Cert.Kernel38.nD,
      r.2.mem ((c.tc : Thread Cert.Kernel38.nD Cert.Kernel38.τ).loc Cert.Kernel38.main_arg0) = m ((c.tc : Thread Cert.Kernel38.nD Cert.Kernel38.τ).loc Cert.Kernel38.main_arg0)
      ∧ r.2.mem ((c.tc : Thread Cert.Kernel38.nD Cert.Kernel38.τ).loc Cert.Kernel38.main_arg1) = m ((c.tc : Thread Cert.Kernel38.nD Cert.Kernel38.τ).loc Cert.Kernel38.main_arg1)
      ∧ r.2.mem ((c.tc : Thread Cert.Kernel38.nD Cert.Kernel38.τ).loc Cert.Kernel38.main_arg2) = m ((c.tc : Thread Cert.Kernel38.nD Cert.Kernel38.τ).loc Cert.Kernel38.main_arg2))
      ∧ r.2.sem = fun _ => 0)

def quiescent_Kernel38Ideal [hKernel38Ideal : Cert.Kernel38Ideal.Facts] [hPre_b_scale_chips_named : Cert.Pre_b_scale_chips_named.Facts] : Prop :=
  ∀ (m : (ℓ : Loc Cert.Kernel38Ideal.nD Cert.Kernel38Ideal.τ Cert.Kernel38Ideal.sig) → Buf (Elt Ideal) ℓ) (g : Dev Cert.Kernel38Ideal.nD → PrngReg), Pre_Kernel38Ideal m →
    θ_run (Cert.Kernel38Ideal.defs (F := Ideal)) (onTc (τ := Cert.Kernel38Ideal.τ) (Cert.Kernel38Ideal.main (F := Ideal))) ⟨m, fun _ => 0, g⟩ (fun r => (∀ c : Dev Cert.Kernel38Ideal.nD,
      r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
      ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
      ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ r.2.sem = fun _ => 0)

def quiescent_Reference38Ideal [hReference38Ideal : Cert.Reference38Ideal.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def quiescent_Reference38Ideal_pre_b_scale_chips_named [hReference38Ideal : Cert.Reference38Ideal.Facts] [hPre_b_scale_chips_named : Cert.Pre_b_scale_chips_named.Facts] : Prop :=
  ∀ (m : (ℓ : Loc Cert.Reference38Ideal.nD Cert.Reference38Ideal.τ Cert.Reference38Ideal.sig) → Buf (Elt Ideal) ℓ) (g : Dev Cert.Reference38Ideal.nD → PrngReg), Pre_Reference38Ideal_b_scale_chips_named m →
    θ_run (Cert.Reference38Ideal.defs (F := Ideal)) (onTc (τ := Cert.Reference38Ideal.τ) (Cert.Reference38Ideal.main (F := Ideal))) ⟨m, fun _ => 0, g⟩ (fun r => (∀ c : Dev Cert.Reference38Ideal.nD,
      r.2.mem ((c.tc : Thread Cert.Reference38Ideal.nD Cert.Reference38Ideal.τ).loc Cert.Reference38Ideal.main_arg0) = m ((c.tc : Thread Cert.Reference38Ideal.nD Cert.Reference38Ideal.τ).loc Cert.Reference38Ideal.main_arg0)
      ∧ r.2.mem ((c.tc : Thread Cert.Reference38Ideal.nD Cert.Reference38Ideal.τ).loc Cert.Reference38Ideal.main_arg1) = m ((c.tc : Thread Cert.Reference38Ideal.nD Cert.Reference38Ideal.τ).loc Cert.Reference38Ideal.main_arg1)
      ∧ r.2.mem ((c.tc : Thread Cert.Reference38Ideal.nD Cert.Reference38Ideal.τ).loc Cert.Reference38Ideal.main_arg2) = m ((c.tc : Thread Cert.Reference38Ideal.nD Cert.Reference38Ideal.τ).loc Cert.Reference38Ideal.main_arg2))
      ∧ r.2.sem = fun _ => 0)

def preserves_Kernel_KernelIdeal : Prop :=
  True

def algebraic_KernelIdeal_ReferenceIdeal_pre_dpooled_finite [hKernelIdeal : Cert.KernelIdeal.Facts] [hReferenceIdeal : Cert.ReferenceIdeal.Facts] [hPre_dpooled_finite : Cert.Pre_dpooled_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_dpooled_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v129) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal_on_z_columns_pre_gate_bwd_finite [hKernel2Ideal : Cert.Kernel2Ideal.Facts] [hReference2Ideal : Cert.Reference2Ideal.Facts] [hPre_gate_bwd_finite : Cert.Pre_gate_bwd_finite.Facts] [hOn_z_columns : Cert.On_z_columns.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_gate_bwd_finite m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v0_0)) (v1 : (c : Dev Cert.Kernel2Ideal.nD) → Buf (Elt Ideal) ((c.tc : Thread Cert.Kernel2Ideal.nD Cert.Kernel2Ideal.τ).loc Cert.Kernel2Ideal.main_v0_1)) (v2 : (c : Dev Cert.Kernel2Ideal.nD) → Buf (Elt Ideal) ((c.tc : Thread Cert.Kernel2Ideal.nD Cert.Kernel2Ideal.τ).loc Cert.Kernel2Ideal.main_v0_2)) (v3 : (c : Dev Cert.Kernel2Ideal.nD) → Buf (Elt Ideal) ((c.tc : Thread Cert.Kernel2Ideal.nD Cert.Kernel2Ideal.τ).loc Cert.Kernel2Ideal.main_v0_3)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          (∀ i : (⟨2, ![4096, 8192]⟩ : Shape).Idx, (Cert.On_z_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 i = 1#1 → r.2.mem ((c.tc : Thread Cert.Kernel2Ideal.nD Cert.Kernel2Ideal.τ).loc Cert.Kernel2Ideal.main_v0_0) i = v0 c i)
          ∧ (∀ i : (⟨2, ![4096, 16384]⟩ : Shape).Idx, (Cert.On_z_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 i = 1#1 → r.2.mem ((c.tc : Thread Cert.Kernel2Ideal.nD Cert.Kernel2Ideal.τ).loc Cert.Kernel2Ideal.main_v0_1) i = v1 c i)
          ∧ (∀ i : (⟨2, ![1, 8192]⟩ : Shape).Idx, (Cert.On_z_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 i = 1#1 → r.2.mem ((c.tc : Thread Cert.Kernel2Ideal.nD Cert.Kernel2Ideal.τ).loc Cert.Kernel2Ideal.main_v0_2) i = v2 c i)
          ∧ (∀ i : (⟨2, ![1, 8192]⟩ : Shape).Idx, (Cert.On_z_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 i = 1#1 → r.2.mem ((c.tc : Thread Cert.Kernel2Ideal.nD Cert.Kernel2Ideal.τ).loc Cert.Kernel2Ideal.main_v0_3) i = v3 c i)
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          (∀ i : (⟨2, ![4096, 8192]⟩ : Shape).Idx, (Cert.On_z_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).1 i = 1#1 → r.2.mem ((c.tc : Thread Cert.Reference2Ideal.nD Cert.Reference2Ideal.τ).loc Cert.Reference2Ideal.main_v28) i = v0 c i)
          ∧ (∀ i : (⟨2, ![4096, 16384]⟩ : Shape).Idx, (Cert.On_z_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.1 i = 1#1 → r.2.mem ((c.tc : Thread Cert.Reference2Ideal.nD Cert.Reference2Ideal.τ).loc Cert.Reference2Ideal.main_v29) i = v1 c i)
          ∧ (∀ i : (⟨2, ![1, 8192]⟩ : Shape).Idx, (Cert.On_z_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.1 i = 1#1 → r.2.mem ((c.tc : Thread Cert.Reference2Ideal.nD Cert.Reference2Ideal.τ).loc Cert.Reference2Ideal.main_v30) i = v2 c i)
          ∧ (∀ i : (⟨2, ![1, 8192]⟩ : Shape).Idx, (Cert.On_z_columns.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4))).2.2.2 i = 1#1 → r.2.mem ((c.tc : Thread Cert.Reference2Ideal.nD Cert.Reference2Ideal.τ).loc Cert.Reference2Ideal.main_v31) i = v3 c i)
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal_pre_first_finite [hKernel3Ideal : Cert.Kernel3Ideal.Facts] [hReference3Ideal : Cert.Reference3Ideal.Facts] [hPre_first_finite : Cert.Pre_first_finite.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_first_finite m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v0_0)) (v1 : (c : Dev Cert.Kernel3Ideal.nD) → Buf (Elt Ideal) ((c.tc : Thread Cert.Kernel3Ideal.nD Cert.Kernel3Ideal.τ).loc Cert.Kernel3Ideal.main_v0_1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0_0) = v0 c
          ∧ r.2.mem ((c.tc : Thread Cert.Kernel3Ideal.nD Cert.Kernel3Ideal.τ).loc Cert.Kernel3Ideal.main_v0_1) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v37) = v0 c
          ∧ r.2.mem ((c.tc : Thread Cert.Reference3Ideal.nD Cert.Reference3Ideal.τ).loc Cert.Reference3Ideal.main_v38) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal_pre_mid_finite [hKernel4Ideal : Cert.Kernel4Ideal.Facts] [hReference4Ideal : Cert.Reference4Ideal.Facts] [hPre_mid_finite : Cert.Pre_mid_finite.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_mid_finite m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v0_0)) (v1 : (c : Dev Cert.Kernel4Ideal.nD) → Buf (Elt Ideal) ((c.tc : Thread Cert.Kernel4Ideal.nD Cert.Kernel4Ideal.τ).loc Cert.Kernel4Ideal.main_v0_1)) (v2 : (c : Dev Cert.Kernel4Ideal.nD) → Buf (Elt Ideal) ((c.tc : Thread Cert.Kernel4Ideal.nD Cert.Kernel4Ideal.τ).loc Cert.Kernel4Ideal.main_v0_2)) (v3 : (c : Dev Cert.Kernel4Ideal.nD) → Buf (Elt Ideal) ((c.tc : Thread Cert.Kernel4Ideal.nD Cert.Kernel4Ideal.τ).loc Cert.Kernel4Ideal.main_v0_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0_0) = v0 c
          ∧ r.2.mem ((c.tc : Thread Cert.Kernel4Ideal.nD Cert.Kernel4Ideal.τ).loc Cert.Kernel4Ideal.main_v0_1) = v1 c
          ∧ r.2.mem ((c.tc : Thread Cert.Kernel4Ideal.nD Cert.Kernel4Ideal.τ).loc Cert.Kernel4Ideal.main_v0_2) = v2 c
          ∧ r.2.mem ((c.tc : Thread Cert.Kernel4Ideal.nD Cert.Kernel4Ideal.τ).loc Cert.Kernel4Ideal.main_v0_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v37) = v0 c
          ∧ r.2.mem ((c.tc : Thread Cert.Reference4Ideal.nD Cert.Reference4Ideal.τ).loc Cert.Reference4Ideal.main_v75) = v1 c
          ∧ r.2.mem ((c.tc : Thread Cert.Reference4Ideal.nD Cert.Reference4Ideal.τ).loc Cert.Reference4Ideal.main_v76) = v2 c
          ∧ r.2.mem ((c.tc : Thread Cert.Reference4Ideal.nD Cert.Reference4Ideal.τ).loc Cert.Reference4Ideal.main_v77) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal_pre_head_finite [hKernel5Ideal : Cert.Kernel5Ideal.Facts] [hReference5Ideal : Cert.Reference5Ideal.Facts] [hPre_head_finite : Cert.Pre_head_finite.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal_head_finite m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v0_0)) (v1 : (c : Dev Cert.Kernel5Ideal.nD) → Buf (Elt Ideal) ((c.tc : Thread Cert.Kernel5Ideal.nD Cert.Kernel5Ideal.τ).loc Cert.Kernel5Ideal.main_v0_1)) (v2 : (c : Dev Cert.Kernel5Ideal.nD) → Buf (Elt Ideal) ((c.tc : Thread Cert.Kernel5Ideal.nD Cert.Kernel5Ideal.τ).loc Cert.Kernel5Ideal.main_v0_2)) (v3 : (c : Dev Cert.Kernel5Ideal.nD) → Buf (Elt Ideal) ((c.tc : Thread Cert.Kernel5Ideal.nD Cert.Kernel5Ideal.τ).loc Cert.Kernel5Ideal.main_v0_3)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0_0) = v0 c
          ∧ r.2.mem ((c.tc : Thread Cert.Kernel5Ideal.nD Cert.Kernel5Ideal.τ).loc Cert.Kernel5Ideal.main_v0_1) = v1 c
          ∧ r.2.mem ((c.tc : Thread Cert.Kernel5Ideal.nD Cert.Kernel5Ideal.τ).loc Cert.Kernel5Ideal.main_v0_2) = v2 c
          ∧ r.2.mem ((c.tc : Thread Cert.Kernel5Ideal.nD Cert.Kernel5Ideal.τ).loc Cert.Kernel5Ideal.main_v0_3) = v3 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v54) = v0 c
          ∧ r.2.mem ((c.tc : Thread Cert.Reference5Ideal.nD Cert.Reference5Ideal.τ).loc Cert.Reference5Ideal.main_v32) = v1 c
          ∧ r.2.mem ((c.tc : Thread Cert.Reference5Ideal.nD Cert.Reference5Ideal.τ).loc Cert.Reference5Ideal.main_v55) = v2 c
          ∧ r.2.mem ((c.tc : Thread Cert.Reference5Ideal.nD Cert.Reference5Ideal.τ).loc Cert.Reference5Ideal.main_v56) = v3 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v6) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v11) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal_pre_proj_finite [hKernel8Ideal : Cert.Kernel8Ideal.Facts] [hReference8Ideal : Cert.Reference8Ideal.Facts] [hPre_proj_finite : Cert.Pre_proj_finite.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_proj_finite m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v68) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v6) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v0)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v0) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v9) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v14) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)) →
    ∃ (v0 : (c : Dev Cert.Kernel13Ideal.nD) → Buf (Elt Ideal) ((c.tc : Thread Cert.Kernel13Ideal.nD Cert.Kernel13Ideal.τ).loc Cert.Kernel13Ideal.main_v0_0)) (v1 : (c : Dev Cert.Kernel13Ideal.nD) → Buf (Elt Ideal) ((c.tc : Thread Cert.Kernel13Ideal.nD Cert.Kernel13Ideal.τ).loc Cert.Kernel13Ideal.main_v0_1)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0_0) = v0 c
          ∧ r.2.mem ((c.tc : Thread Cert.Kernel13Ideal.nD Cert.Kernel13Ideal.τ).loc Cert.Kernel13Ideal.main_v0_1) = v1 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v14) = v0 c
          ∧ r.2.mem ((c.tc : Thread Cert.Reference13Ideal.nD Cert.Reference13Ideal.τ).loc Cert.Reference13Ideal.main_v29) = v1 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v0)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v0) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v5) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v5) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v0)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v0) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v5) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v0)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v0) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v11) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)) →
    ∃ (v0 : (c : Dev Cert.Kernel20Ideal.nD) → Buf (Elt Ideal) ((c.tc : Thread Cert.Kernel20Ideal.nD Cert.Kernel20Ideal.τ).loc Cert.Kernel20Ideal.main_v0)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v0) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v8) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v0)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v0) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v6) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v0)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v0) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v6) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)) →
    ∃ (v0 : (c : Dev Cert.Kernel25Ideal.nD) → Buf (Elt Ideal) ((c.tc : Thread Cert.Kernel25Ideal.nD Cert.Kernel25Ideal.τ).loc Cert.Kernel25Ideal.main_v0)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v0) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v8) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1))

def preserves_Kernel26_Kernel26Ideal : Prop :=
  True

def algebraic_Kernel26Ideal_Reference26Ideal [hKernel26Ideal : Cert.Kernel26Ideal.Facts] [hReference26Ideal : Cert.Reference26Ideal.Facts] : Prop :=
  ∀ (m : (ℓ : Loc Cert.Kernel26Ideal.nD Cert.Kernel26Ideal.τ Cert.Kernel26Ideal.sig) → Buf (Elt Ideal) ℓ) (g : Dev Cert.Kernel26Ideal.nD → PrngReg)
    (m' : (ℓ : Loc Cert.Reference26Ideal.nD Cert.Reference26Ideal.τ Cert.Reference26Ideal.sig) → Buf (Elt Ideal) ℓ) (g' : Dev Cert.Reference26Ideal.nD → PrngReg), Pre_Kernel26Ideal m →
    (∀ c : Dev Cert.Kernel26Ideal.nD,
      m' ((c.tc : Thread Cert.Reference26Ideal.nD Cert.Reference26Ideal.τ).loc Cert.Reference26Ideal.main_arg0) = m ((c.tc : Thread Cert.Kernel26Ideal.nD Cert.Kernel26Ideal.τ).loc Cert.Kernel26Ideal.main_arg0)
      ∧ m' ((c.tc : Thread Cert.Reference26Ideal.nD Cert.Reference26Ideal.τ).loc Cert.Reference26Ideal.main_arg1) = m ((c.tc : Thread Cert.Kernel26Ideal.nD Cert.Kernel26Ideal.τ).loc Cert.Kernel26Ideal.main_arg1)
      ∧ m' ((c.tc : Thread Cert.Reference26Ideal.nD Cert.Reference26Ideal.τ).loc Cert.Reference26Ideal.main_arg2) = m ((c.tc : Thread Cert.Kernel26Ideal.nD Cert.Kernel26Ideal.τ).loc Cert.Kernel26Ideal.main_arg2)
      ∧ m' ((c.tc : Thread Cert.Reference26Ideal.nD Cert.Reference26Ideal.τ).loc Cert.Reference26Ideal.main_arg3) = m ((c.tc : Thread Cert.Kernel26Ideal.nD Cert.Kernel26Ideal.τ).loc Cert.Kernel26Ideal.main_arg3)
      ∧ m' ((c.tc : Thread Cert.Reference26Ideal.nD Cert.Reference26Ideal.τ).loc Cert.Reference26Ideal.main_arg4) = m ((c.tc : Thread Cert.Kernel26Ideal.nD Cert.Kernel26Ideal.τ).loc Cert.Kernel26Ideal.main_arg4)) →
    ∃ (v0 : (c : Dev Cert.Kernel26Ideal.nD) → Buf (Elt Ideal) ((c.tc : Thread Cert.Kernel26Ideal.nD Cert.Kernel26Ideal.τ).loc Cert.Kernel26Ideal.main_v0_0)) (v1 : (c : Dev Cert.Kernel26Ideal.nD) → Buf (Elt Ideal) ((c.tc : Thread Cert.Kernel26Ideal.nD Cert.Kernel26Ideal.τ).loc Cert.Kernel26Ideal.main_v0_1)) (v2 : (c : Dev Cert.Kernel26Ideal.nD) → Buf (Elt Ideal) ((c.tc : Thread Cert.Kernel26Ideal.nD Cert.Kernel26Ideal.τ).loc Cert.Kernel26Ideal.main_v0_2)) (v3 : (c : Dev Cert.Kernel26Ideal.nD) → Buf (Elt Ideal) ((c.tc : Thread Cert.Kernel26Ideal.nD Cert.Kernel26Ideal.τ).loc Cert.Kernel26Ideal.main_v0_3)),
      θ_run (Cert.Kernel26Ideal.defs (F := Ideal)) (onTc (τ := Cert.Kernel26Ideal.τ) (Cert.Kernel26Ideal.main (F := Ideal))) ⟨m, fun _ => 0, g⟩ (fun r => ∀ c : Dev Cert.Kernel26Ideal.nD,
          r.2.mem ((c.tc : Thread Cert.Kernel26Ideal.nD Cert.Kernel26Ideal.τ).loc Cert.Kernel26Ideal.main_v0_0) = v0 c
          ∧ r.2.mem ((c.tc : Thread Cert.Kernel26Ideal.nD Cert.Kernel26Ideal.τ).loc Cert.Kernel26Ideal.main_v0_1) = v1 c
          ∧ r.2.mem ((c.tc : Thread Cert.Kernel26Ideal.nD Cert.Kernel26Ideal.τ).loc Cert.Kernel26Ideal.main_v0_2) = v2 c
          ∧ r.2.mem ((c.tc : Thread Cert.Kernel26Ideal.nD Cert.Kernel26Ideal.τ).loc Cert.Kernel26Ideal.main_v0_3) = v3 c
          ∧ r.2.mem ((c.tc : Thread Cert.Kernel26Ideal.nD Cert.Kernel26Ideal.τ).loc Cert.Kernel26Ideal.main_arg0) = m ((c.tc : Thread Cert.Kernel26Ideal.nD Cert.Kernel26Ideal.τ).loc Cert.Kernel26Ideal.main_arg0)
          ∧ r.2.mem ((c.tc : Thread Cert.Kernel26Ideal.nD Cert.Kernel26Ideal.τ).loc Cert.Kernel26Ideal.main_arg1) = m ((c.tc : Thread Cert.Kernel26Ideal.nD Cert.Kernel26Ideal.τ).loc Cert.Kernel26Ideal.main_arg1)
          ∧ r.2.mem ((c.tc : Thread Cert.Kernel26Ideal.nD Cert.Kernel26Ideal.τ).loc Cert.Kernel26Ideal.main_arg2) = m ((c.tc : Thread Cert.Kernel26Ideal.nD Cert.Kernel26Ideal.τ).loc Cert.Kernel26Ideal.main_arg2)
          ∧ r.2.mem ((c.tc : Thread Cert.Kernel26Ideal.nD Cert.Kernel26Ideal.τ).loc Cert.Kernel26Ideal.main_arg3) = m ((c.tc : Thread Cert.Kernel26Ideal.nD Cert.Kernel26Ideal.τ).loc Cert.Kernel26Ideal.main_arg3)
          ∧ r.2.mem ((c.tc : Thread Cert.Kernel26Ideal.nD Cert.Kernel26Ideal.τ).loc Cert.Kernel26Ideal.main_arg4) = m ((c.tc : Thread Cert.Kernel26Ideal.nD Cert.Kernel26Ideal.τ).loc Cert.Kernel26Ideal.main_arg4))
      ∧ θ_run (Cert.Reference26Ideal.defs (F := Ideal)) (onTc (τ := Cert.Reference26Ideal.τ) (Cert.Reference26Ideal.main (F := Ideal))) ⟨m', fun _ => 0, g'⟩ (fun r => ∀ c : Dev Cert.Reference26Ideal.nD,
          r.2.mem ((c.tc : Thread Cert.Reference26Ideal.nD Cert.Reference26Ideal.τ).loc Cert.Reference26Ideal.main_v1) = v0 c
          ∧ r.2.mem ((c.tc : Thread Cert.Reference26Ideal.nD Cert.Reference26Ideal.τ).loc Cert.Reference26Ideal.main_v25) = v1 c
          ∧ r.2.mem ((c.tc : Thread Cert.Reference26Ideal.nD Cert.Reference26Ideal.τ).loc Cert.Reference26Ideal.main_v6) = v2 c
          ∧ r.2.mem ((c.tc : Thread Cert.Reference26Ideal.nD Cert.Reference26Ideal.τ).loc Cert.Reference26Ideal.main_v12) = v3 c
          ∧ r.2.mem ((c.tc : Thread Cert.Reference26Ideal.nD Cert.Reference26Ideal.τ).loc Cert.Reference26Ideal.main_arg0) = m' ((c.tc : Thread Cert.Reference26Ideal.nD Cert.Reference26Ideal.τ).loc Cert.Reference26Ideal.main_arg0)
          ∧ r.2.mem ((c.tc : Thread Cert.Reference26Ideal.nD Cert.Reference26Ideal.τ).loc Cert.Reference26Ideal.main_arg1) = m' ((c.tc : Thread Cert.Reference26Ideal.nD Cert.Reference26Ideal.τ).loc Cert.Reference26Ideal.main_arg1)
          ∧ r.2.mem ((c.tc : Thread Cert.Reference26Ideal.nD Cert.Reference26Ideal.τ).loc Cert.Reference26Ideal.main_arg2) = m' ((c.tc : Thread Cert.Reference26Ideal.nD Cert.Reference26Ideal.τ).loc Cert.Reference26Ideal.main_arg2)
          ∧ r.2.mem ((c.tc : Thread Cert.Reference26Ideal.nD Cert.Reference26Ideal.τ).loc Cert.Reference26Ideal.main_arg3) = m' ((c.tc : Thread Cert.Reference26Ideal.nD Cert.Reference26Ideal.τ).loc Cert.Reference26Ideal.main_arg3)
          ∧ r.2.mem ((c.tc : Thread Cert.Reference26Ideal.nD Cert.Reference26Ideal.τ).loc Cert.Reference26Ideal.main_arg4) = m' ((c.tc : Thread Cert.Reference26Ideal.nD Cert.Reference26Ideal.τ).loc Cert.Reference26Ideal.main_arg4))

def preserves_Kernel27_Kernel27Ideal : Prop :=
  True

def algebraic_Kernel27Ideal_Reference27Ideal [hKernel27Ideal : Cert.Kernel27Ideal.Facts] [hReference27Ideal : Cert.Reference27Ideal.Facts] [hPre_b_w_out_named : Cert.Pre_b_w_out_named.Facts] : Prop :=
  ∀ (m : (ℓ : Loc Cert.Kernel27Ideal.nD Cert.Kernel27Ideal.τ Cert.Kernel27Ideal.sig) → Buf (Elt Ideal) ℓ) (g : Dev Cert.Kernel27Ideal.nD → PrngReg)
    (m' : (ℓ : Loc Cert.Reference27Ideal.nD Cert.Reference27Ideal.τ Cert.Reference27Ideal.sig) → Buf (Elt Ideal) ℓ) (g' : Dev Cert.Reference27Ideal.nD → PrngReg), Pre_Kernel27Ideal m →
    (∀ c : Dev Cert.Kernel27Ideal.nD,
      m' ((c.tc : Thread Cert.Reference27Ideal.nD Cert.Reference27Ideal.τ).loc Cert.Reference27Ideal.main_arg0) = m ((c.tc : Thread Cert.Kernel27Ideal.nD Cert.Kernel27Ideal.τ).loc Cert.Kernel27Ideal.main_arg0)
      ∧ m' ((c.tc : Thread Cert.Reference27Ideal.nD Cert.Reference27Ideal.τ).loc Cert.Reference27Ideal.main_arg1) = m ((c.tc : Thread Cert.Kernel27Ideal.nD Cert.Kernel27Ideal.τ).loc Cert.Kernel27Ideal.main_arg1)
      ∧ m' ((c.tc : Thread Cert.Reference27Ideal.nD Cert.Reference27Ideal.τ).loc Cert.Reference27Ideal.main_arg2) = m ((c.tc : Thread Cert.Kernel27Ideal.nD Cert.Kernel27Ideal.τ).loc Cert.Kernel27Ideal.main_arg2)
      ∧ m' ((c.tc : Thread Cert.Reference27Ideal.nD Cert.Reference27Ideal.τ).loc Cert.Reference27Ideal.main_arg3) = m ((c.tc : Thread Cert.Kernel27Ideal.nD Cert.Kernel27Ideal.τ).loc Cert.Kernel27Ideal.main_arg3)
      ∧ m' ((c.tc : Thread Cert.Reference27Ideal.nD Cert.Reference27Ideal.τ).loc Cert.Reference27Ideal.main_arg4) = m ((c.tc : Thread Cert.Kernel27Ideal.nD Cert.Kernel27Ideal.τ).loc Cert.Kernel27Ideal.main_arg4)
      ∧ m' ((c.tc : Thread Cert.Reference27Ideal.nD Cert.Reference27Ideal.τ).loc Cert.Reference27Ideal.main_arg5) = m ((c.tc : Thread Cert.Kernel27Ideal.nD Cert.Kernel27Ideal.τ).loc Cert.Kernel27Ideal.main_arg5)
      ∧ m' ((c.tc : Thread Cert.Reference27Ideal.nD Cert.Reference27Ideal.τ).loc Cert.Reference27Ideal.main_arg6) = m ((c.tc : Thread Cert.Kernel27Ideal.nD Cert.Kernel27Ideal.τ).loc Cert.Kernel27Ideal.main_arg6)) →
    ∃ (v0 : (c : Dev Cert.Kernel27Ideal.nD) → Buf (Elt Ideal) ((c.tc : Thread Cert.Kernel27Ideal.nD Cert.Kernel27Ideal.τ).loc Cert.Kernel27Ideal.main_v0_0)) (v1 : (c : Dev Cert.Kernel27Ideal.nD) → Buf (Elt Ideal) ((c.tc : Thread Cert.Kernel27Ideal.nD Cert.Kernel27Ideal.τ).loc Cert.Kernel27Ideal.main_v0_1)) (v2 : (c : Dev Cert.Kernel27Ideal.nD) → Buf (Elt Ideal) ((c.tc : Thread Cert.Kernel27Ideal.nD Cert.Kernel27Ideal.τ).loc Cert.Kernel27Ideal.main_v0_2)) (v3 : (c : Dev Cert.Kernel27Ideal.nD) → Buf (Elt Ideal) ((c.tc : Thread Cert.Kernel27Ideal.nD Cert.Kernel27Ideal.τ).loc Cert.Kernel27Ideal.main_v0_3)),
      θ_run (Cert.Kernel27Ideal.defs (F := Ideal)) (onTc (τ := Cert.Kernel27Ideal.τ) (Cert.Kernel27Ideal.main (F := Ideal))) ⟨m, fun _ => 0, g⟩ (fun r => ∀ c : Dev Cert.Kernel27Ideal.nD,
          r.2.mem ((c.tc : Thread Cert.Kernel27Ideal.nD Cert.Kernel27Ideal.τ).loc Cert.Kernel27Ideal.main_v0_0) = v0 c
          ∧ r.2.mem ((c.tc : Thread Cert.Kernel27Ideal.nD Cert.Kernel27Ideal.τ).loc Cert.Kernel27Ideal.main_v0_1) = v1 c
          ∧ r.2.mem ((c.tc : Thread Cert.Kernel27Ideal.nD Cert.Kernel27Ideal.τ).loc Cert.Kernel27Ideal.main_v0_2) = v2 c
          ∧ r.2.mem ((c.tc : Thread Cert.Kernel27Ideal.nD Cert.Kernel27Ideal.τ).loc Cert.Kernel27Ideal.main_v0_3) = v3 c
          ∧ r.2.mem ((c.tc : Thread Cert.Kernel27Ideal.nD Cert.Kernel27Ideal.τ).loc Cert.Kernel27Ideal.main_arg0) = m ((c.tc : Thread Cert.Kernel27Ideal.nD Cert.Kernel27Ideal.τ).loc Cert.Kernel27Ideal.main_arg0)
          ∧ r.2.mem ((c.tc : Thread Cert.Kernel27Ideal.nD Cert.Kernel27Ideal.τ).loc Cert.Kernel27Ideal.main_arg1) = m ((c.tc : Thread Cert.Kernel27Ideal.nD Cert.Kernel27Ideal.τ).loc Cert.Kernel27Ideal.main_arg1)
          ∧ r.2.mem ((c.tc : Thread Cert.Kernel27Ideal.nD Cert.Kernel27Ideal.τ).loc Cert.Kernel27Ideal.main_arg2) = m ((c.tc : Thread Cert.Kernel27Ideal.nD Cert.Kernel27Ideal.τ).loc Cert.Kernel27Ideal.main_arg2)
          ∧ r.2.mem ((c.tc : Thread Cert.Kernel27Ideal.nD Cert.Kernel27Ideal.τ).loc Cert.Kernel27Ideal.main_arg3) = m ((c.tc : Thread Cert.Kernel27Ideal.nD Cert.Kernel27Ideal.τ).loc Cert.Kernel27Ideal.main_arg3)
          ∧ r.2.mem ((c.tc : Thread Cert.Kernel27Ideal.nD Cert.Kernel27Ideal.τ).loc Cert.Kernel27Ideal.main_arg4) = m ((c.tc : Thread Cert.Kernel27Ideal.nD Cert.Kernel27Ideal.τ).loc Cert.Kernel27Ideal.main_arg4)
          ∧ r.2.mem ((c.tc : Thread Cert.Kernel27Ideal.nD Cert.Kernel27Ideal.τ).loc Cert.Kernel27Ideal.main_arg5) = m ((c.tc : Thread Cert.Kernel27Ideal.nD Cert.Kernel27Ideal.τ).loc Cert.Kernel27Ideal.main_arg5)
          ∧ r.2.mem ((c.tc : Thread Cert.Kernel27Ideal.nD Cert.Kernel27Ideal.τ).loc Cert.Kernel27Ideal.main_arg6) = m ((c.tc : Thread Cert.Kernel27Ideal.nD Cert.Kernel27Ideal.τ).loc Cert.Kernel27Ideal.main_arg6))
      ∧ θ_run (Cert.Reference27Ideal.defs (F := Ideal)) (onTc (τ := Cert.Reference27Ideal.τ) (Cert.Reference27Ideal.main (F := Ideal))) ⟨m', fun _ => 0, g'⟩ (fun r => ∀ c : Dev Cert.Reference27Ideal.nD,
          r.2.mem ((c.tc : Thread Cert.Reference27Ideal.nD Cert.Reference27Ideal.τ).loc Cert.Reference27Ideal.main_v19) = v0 c
          ∧ r.2.mem ((c.tc : Thread Cert.Reference27Ideal.nD Cert.Reference27Ideal.τ).loc Cert.Reference27Ideal.main_v43) = v1 c
          ∧ r.2.mem ((c.tc : Thread Cert.Reference27Ideal.nD Cert.Reference27Ideal.τ).loc Cert.Reference27Ideal.main_v24) = v2 c
          ∧ r.2.mem ((c.tc : Thread Cert.Reference27Ideal.nD Cert.Reference27Ideal.τ).loc Cert.Reference27Ideal.main_v30) = v3 c
          ∧ r.2.mem ((c.tc : Thread Cert.Reference27Ideal.nD Cert.Reference27Ideal.τ).loc Cert.Reference27Ideal.main_arg0) = m' ((c.tc : Thread Cert.Reference27Ideal.nD Cert.Reference27Ideal.τ).loc Cert.Reference27Ideal.main_arg0)
          ∧ r.2.mem ((c.tc : Thread Cert.Reference27Ideal.nD Cert.Reference27Ideal.τ).loc Cert.Reference27Ideal.main_arg1) = m' ((c.tc : Thread Cert.Reference27Ideal.nD Cert.Reference27Ideal.τ).loc Cert.Reference27Ideal.main_arg1)
          ∧ r.2.mem ((c.tc : Thread Cert.Reference27Ideal.nD Cert.Reference27Ideal.τ).loc Cert.Reference27Ideal.main_arg2) = m' ((c.tc : Thread Cert.Reference27Ideal.nD Cert.Reference27Ideal.τ).loc Cert.Reference27Ideal.main_arg2)
          ∧ r.2.mem ((c.tc : Thread Cert.Reference27Ideal.nD Cert.Reference27Ideal.τ).loc Cert.Reference27Ideal.main_arg3) = m' ((c.tc : Thread Cert.Reference27Ideal.nD Cert.Reference27Ideal.τ).loc Cert.Reference27Ideal.main_arg3)
          ∧ r.2.mem ((c.tc : Thread Cert.Reference27Ideal.nD Cert.Reference27Ideal.τ).loc Cert.Reference27Ideal.main_arg4) = m' ((c.tc : Thread Cert.Reference27Ideal.nD Cert.Reference27Ideal.τ).loc Cert.Reference27Ideal.main_arg4)
          ∧ r.2.mem ((c.tc : Thread Cert.Reference27Ideal.nD Cert.Reference27Ideal.τ).loc Cert.Reference27Ideal.main_arg5) = m' ((c.tc : Thread Cert.Reference27Ideal.nD Cert.Reference27Ideal.τ).loc Cert.Reference27Ideal.main_arg5)
          ∧ r.2.mem ((c.tc : Thread Cert.Reference27Ideal.nD Cert.Reference27Ideal.τ).loc Cert.Reference27Ideal.main_arg6) = m' ((c.tc : Thread Cert.Reference27Ideal.nD Cert.Reference27Ideal.τ).loc Cert.Reference27Ideal.main_arg6))

def preserves_Kernel28_Kernel28Ideal : Prop :=
  True

def algebraic_Kernel28Ideal_Reference28Ideal [hKernel28Ideal : Cert.Kernel28Ideal.Facts] [hReference28Ideal : Cert.Reference28Ideal.Facts] [hPre_b_w_grp_named : Cert.Pre_b_w_grp_named.Facts] : Prop :=
  ∀ (m : (ℓ : Loc Cert.Kernel28Ideal.nD Cert.Kernel28Ideal.τ Cert.Kernel28Ideal.sig) → Buf (Elt Ideal) ℓ) (g : Dev Cert.Kernel28Ideal.nD → PrngReg)
    (m' : (ℓ : Loc Cert.Reference28Ideal.nD Cert.Reference28Ideal.τ Cert.Reference28Ideal.sig) → Buf (Elt Ideal) ℓ) (g' : Dev Cert.Reference28Ideal.nD → PrngReg), Pre_Kernel28Ideal m →
    (∀ c : Dev Cert.Kernel28Ideal.nD,
      m' ((c.tc : Thread Cert.Reference28Ideal.nD Cert.Reference28Ideal.τ).loc Cert.Reference28Ideal.main_arg0) = m ((c.tc : Thread Cert.Kernel28Ideal.nD Cert.Kernel28Ideal.τ).loc Cert.Kernel28Ideal.main_arg0)
      ∧ m' ((c.tc : Thread Cert.Reference28Ideal.nD Cert.Reference28Ideal.τ).loc Cert.Reference28Ideal.main_arg1) = m ((c.tc : Thread Cert.Kernel28Ideal.nD Cert.Kernel28Ideal.τ).loc Cert.Kernel28Ideal.main_arg1)
      ∧ m' ((c.tc : Thread Cert.Reference28Ideal.nD Cert.Reference28Ideal.τ).loc Cert.Reference28Ideal.main_arg2) = m ((c.tc : Thread Cert.Kernel28Ideal.nD Cert.Kernel28Ideal.τ).loc Cert.Kernel28Ideal.main_arg2)
      ∧ m' ((c.tc : Thread Cert.Reference28Ideal.nD Cert.Reference28Ideal.τ).loc Cert.Reference28Ideal.main_arg3) = m ((c.tc : Thread Cert.Kernel28Ideal.nD Cert.Kernel28Ideal.τ).loc Cert.Kernel28Ideal.main_arg3)
      ∧ m' ((c.tc : Thread Cert.Reference28Ideal.nD Cert.Reference28Ideal.τ).loc Cert.Reference28Ideal.main_arg4) = m ((c.tc : Thread Cert.Kernel28Ideal.nD Cert.Kernel28Ideal.τ).loc Cert.Kernel28Ideal.main_arg4)
      ∧ m' ((c.tc : Thread Cert.Reference28Ideal.nD Cert.Reference28Ideal.τ).loc Cert.Reference28Ideal.main_arg5) = m ((c.tc : Thread Cert.Kernel28Ideal.nD Cert.Kernel28Ideal.τ).loc Cert.Kernel28Ideal.main_arg5)
      ∧ m' ((c.tc : Thread Cert.Reference28Ideal.nD Cert.Reference28Ideal.τ).loc Cert.Reference28Ideal.main_arg6) = m ((c.tc : Thread Cert.Kernel28Ideal.nD Cert.Kernel28Ideal.τ).loc Cert.Kernel28Ideal.main_arg6)) →
    ∃ (v0 : (c : Dev Cert.Kernel28Ideal.nD) → Buf (Elt Ideal) ((c.tc : Thread Cert.Kernel28Ideal.nD Cert.Kernel28Ideal.τ).loc Cert.Kernel28Ideal.main_v0_0)) (v1 : (c : Dev Cert.Kernel28Ideal.nD) → Buf (Elt Ideal) ((c.tc : Thread Cert.Kernel28Ideal.nD Cert.Kernel28Ideal.τ).loc Cert.Kernel28Ideal.main_v0_1)) (v2 : (c : Dev Cert.Kernel28Ideal.nD) → Buf (Elt Ideal) ((c.tc : Thread Cert.Kernel28Ideal.nD Cert.Kernel28Ideal.τ).loc Cert.Kernel28Ideal.main_v0_2)) (v3 : (c : Dev Cert.Kernel28Ideal.nD) → Buf (Elt Ideal) ((c.tc : Thread Cert.Kernel28Ideal.nD Cert.Kernel28Ideal.τ).loc Cert.Kernel28Ideal.main_v0_3)),
      θ_run (Cert.Kernel28Ideal.defs (F := Ideal)) (onTc (τ := Cert.Kernel28Ideal.τ) (Cert.Kernel28Ideal.main (F := Ideal))) ⟨m, fun _ => 0, g⟩ (fun r => ∀ c : Dev Cert.Kernel28Ideal.nD,
          r.2.mem ((c.tc : Thread Cert.Kernel28Ideal.nD Cert.Kernel28Ideal.τ).loc Cert.Kernel28Ideal.main_v0_0) = v0 c
          ∧ r.2.mem ((c.tc : Thread Cert.Kernel28Ideal.nD Cert.Kernel28Ideal.τ).loc Cert.Kernel28Ideal.main_v0_1) = v1 c
          ∧ r.2.mem ((c.tc : Thread Cert.Kernel28Ideal.nD Cert.Kernel28Ideal.τ).loc Cert.Kernel28Ideal.main_v0_2) = v2 c
          ∧ r.2.mem ((c.tc : Thread Cert.Kernel28Ideal.nD Cert.Kernel28Ideal.τ).loc Cert.Kernel28Ideal.main_v0_3) = v3 c
          ∧ r.2.mem ((c.tc : Thread Cert.Kernel28Ideal.nD Cert.Kernel28Ideal.τ).loc Cert.Kernel28Ideal.main_arg0) = m ((c.tc : Thread Cert.Kernel28Ideal.nD Cert.Kernel28Ideal.τ).loc Cert.Kernel28Ideal.main_arg0)
          ∧ r.2.mem ((c.tc : Thread Cert.Kernel28Ideal.nD Cert.Kernel28Ideal.τ).loc Cert.Kernel28Ideal.main_arg1) = m ((c.tc : Thread Cert.Kernel28Ideal.nD Cert.Kernel28Ideal.τ).loc Cert.Kernel28Ideal.main_arg1)
          ∧ r.2.mem ((c.tc : Thread Cert.Kernel28Ideal.nD Cert.Kernel28Ideal.τ).loc Cert.Kernel28Ideal.main_arg2) = m ((c.tc : Thread Cert.Kernel28Ideal.nD Cert.Kernel28Ideal.τ).loc Cert.Kernel28Ideal.main_arg2)
          ∧ r.2.mem ((c.tc : Thread Cert.Kernel28Ideal.nD Cert.Kernel28Ideal.τ).loc Cert.Kernel28Ideal.main_arg3) = m ((c.tc : Thread Cert.Kernel28Ideal.nD Cert.Kernel28Ideal.τ).loc Cert.Kernel28Ideal.main_arg3)
          ∧ r.2.mem ((c.tc : Thread Cert.Kernel28Ideal.nD Cert.Kernel28Ideal.τ).loc Cert.Kernel28Ideal.main_arg4) = m ((c.tc : Thread Cert.Kernel28Ideal.nD Cert.Kernel28Ideal.τ).loc Cert.Kernel28Ideal.main_arg4)
          ∧ r.2.mem ((c.tc : Thread Cert.Kernel28Ideal.nD Cert.Kernel28Ideal.τ).loc Cert.Kernel28Ideal.main_arg5) = m ((c.tc : Thread Cert.Kernel28Ideal.nD Cert.Kernel28Ideal.τ).loc Cert.Kernel28Ideal.main_arg5)
          ∧ r.2.mem ((c.tc : Thread Cert.Kernel28Ideal.nD Cert.Kernel28Ideal.τ).loc Cert.Kernel28Ideal.main_arg6) = m ((c.tc : Thread Cert.Kernel28Ideal.nD Cert.Kernel28Ideal.τ).loc Cert.Kernel28Ideal.main_arg6))
      ∧ θ_run (Cert.Reference28Ideal.defs (F := Ideal)) (onTc (τ := Cert.Reference28Ideal.τ) (Cert.Reference28Ideal.main (F := Ideal))) ⟨m', fun _ => 0, g'⟩ (fun r => ∀ c : Dev Cert.Reference28Ideal.nD,
          r.2.mem ((c.tc : Thread Cert.Reference28Ideal.nD Cert.Reference28Ideal.τ).loc Cert.Reference28Ideal.main_v19) = v0 c
          ∧ r.2.mem ((c.tc : Thread Cert.Reference28Ideal.nD Cert.Reference28Ideal.τ).loc Cert.Reference28Ideal.main_v43) = v1 c
          ∧ r.2.mem ((c.tc : Thread Cert.Reference28Ideal.nD Cert.Reference28Ideal.τ).loc Cert.Reference28Ideal.main_v24) = v2 c
          ∧ r.2.mem ((c.tc : Thread Cert.Reference28Ideal.nD Cert.Reference28Ideal.τ).loc Cert.Reference28Ideal.main_v30) = v3 c
          ∧ r.2.mem ((c.tc : Thread Cert.Reference28Ideal.nD Cert.Reference28Ideal.τ).loc Cert.Reference28Ideal.main_arg0) = m' ((c.tc : Thread Cert.Reference28Ideal.nD Cert.Reference28Ideal.τ).loc Cert.Reference28Ideal.main_arg0)
          ∧ r.2.mem ((c.tc : Thread Cert.Reference28Ideal.nD Cert.Reference28Ideal.τ).loc Cert.Reference28Ideal.main_arg1) = m' ((c.tc : Thread Cert.Reference28Ideal.nD Cert.Reference28Ideal.τ).loc Cert.Reference28Ideal.main_arg1)
          ∧ r.2.mem ((c.tc : Thread Cert.Reference28Ideal.nD Cert.Reference28Ideal.τ).loc Cert.Reference28Ideal.main_arg2) = m' ((c.tc : Thread Cert.Reference28Ideal.nD Cert.Reference28Ideal.τ).loc Cert.Reference28Ideal.main_arg2)
          ∧ r.2.mem ((c.tc : Thread Cert.Reference28Ideal.nD Cert.Reference28Ideal.τ).loc Cert.Reference28Ideal.main_arg3) = m' ((c.tc : Thread Cert.Reference28Ideal.nD Cert.Reference28Ideal.τ).loc Cert.Reference28Ideal.main_arg3)
          ∧ r.2.mem ((c.tc : Thread Cert.Reference28Ideal.nD Cert.Reference28Ideal.τ).loc Cert.Reference28Ideal.main_arg4) = m' ((c.tc : Thread Cert.Reference28Ideal.nD Cert.Reference28Ideal.τ).loc Cert.Reference28Ideal.main_arg4)
          ∧ r.2.mem ((c.tc : Thread Cert.Reference28Ideal.nD Cert.Reference28Ideal.τ).loc Cert.Reference28Ideal.main_arg5) = m' ((c.tc : Thread Cert.Reference28Ideal.nD Cert.Reference28Ideal.τ).loc Cert.Reference28Ideal.main_arg5)
          ∧ r.2.mem ((c.tc : Thread Cert.Reference28Ideal.nD Cert.Reference28Ideal.τ).loc Cert.Reference28Ideal.main_arg6) = m' ((c.tc : Thread Cert.Reference28Ideal.nD Cert.Reference28Ideal.τ).loc Cert.Reference28Ideal.main_arg6))

def preserves_Kernel29_Kernel29Ideal : Prop :=
  True

def algebraic_Kernel29Ideal_Reference29Ideal [hKernel29Ideal : Cert.Kernel29Ideal.Facts] [hReference29Ideal : Cert.Reference29Ideal.Facts] [hPre_b_w_in_named : Cert.Pre_b_w_in_named.Facts] : Prop :=
  ∀ (m : (ℓ : Loc Cert.Kernel29Ideal.nD Cert.Kernel29Ideal.τ Cert.Kernel29Ideal.sig) → Buf (Elt Ideal) ℓ) (g : Dev Cert.Kernel29Ideal.nD → PrngReg)
    (m' : (ℓ : Loc Cert.Reference29Ideal.nD Cert.Reference29Ideal.τ Cert.Reference29Ideal.sig) → Buf (Elt Ideal) ℓ) (g' : Dev Cert.Reference29Ideal.nD → PrngReg), Pre_Kernel29Ideal m →
    (∀ c : Dev Cert.Kernel29Ideal.nD,
      m' ((c.tc : Thread Cert.Reference29Ideal.nD Cert.Reference29Ideal.τ).loc Cert.Reference29Ideal.main_arg0) = m ((c.tc : Thread Cert.Kernel29Ideal.nD Cert.Kernel29Ideal.τ).loc Cert.Kernel29Ideal.main_arg0)
      ∧ m' ((c.tc : Thread Cert.Reference29Ideal.nD Cert.Reference29Ideal.τ).loc Cert.Reference29Ideal.main_arg1) = m ((c.tc : Thread Cert.Kernel29Ideal.nD Cert.Kernel29Ideal.τ).loc Cert.Kernel29Ideal.main_arg1)
      ∧ m' ((c.tc : Thread Cert.Reference29Ideal.nD Cert.Reference29Ideal.τ).loc Cert.Reference29Ideal.main_arg2) = m ((c.tc : Thread Cert.Kernel29Ideal.nD Cert.Kernel29Ideal.τ).loc Cert.Kernel29Ideal.main_arg2)
      ∧ m' ((c.tc : Thread Cert.Reference29Ideal.nD Cert.Reference29Ideal.τ).loc Cert.Reference29Ideal.main_arg3) = m ((c.tc : Thread Cert.Kernel29Ideal.nD Cert.Kernel29Ideal.τ).loc Cert.Kernel29Ideal.main_arg3)
      ∧ m' ((c.tc : Thread Cert.Reference29Ideal.nD Cert.Reference29Ideal.τ).loc Cert.Reference29Ideal.main_arg4) = m ((c.tc : Thread Cert.Kernel29Ideal.nD Cert.Kernel29Ideal.τ).loc Cert.Kernel29Ideal.main_arg4)
      ∧ m' ((c.tc : Thread Cert.Reference29Ideal.nD Cert.Reference29Ideal.τ).loc Cert.Reference29Ideal.main_arg5) = m ((c.tc : Thread Cert.Kernel29Ideal.nD Cert.Kernel29Ideal.τ).loc Cert.Kernel29Ideal.main_arg5)
      ∧ m' ((c.tc : Thread Cert.Reference29Ideal.nD Cert.Reference29Ideal.τ).loc Cert.Reference29Ideal.main_arg6) = m ((c.tc : Thread Cert.Kernel29Ideal.nD Cert.Kernel29Ideal.τ).loc Cert.Kernel29Ideal.main_arg6)) →
    ∃ (v0 : (c : Dev Cert.Kernel29Ideal.nD) → Buf (Elt Ideal) ((c.tc : Thread Cert.Kernel29Ideal.nD Cert.Kernel29Ideal.τ).loc Cert.Kernel29Ideal.main_v0_0)) (v1 : (c : Dev Cert.Kernel29Ideal.nD) → Buf (Elt Ideal) ((c.tc : Thread Cert.Kernel29Ideal.nD Cert.Kernel29Ideal.τ).loc Cert.Kernel29Ideal.main_v0_1)) (v2 : (c : Dev Cert.Kernel29Ideal.nD) → Buf (Elt Ideal) ((c.tc : Thread Cert.Kernel29Ideal.nD Cert.Kernel29Ideal.τ).loc Cert.Kernel29Ideal.main_v0_2)) (v3 : (c : Dev Cert.Kernel29Ideal.nD) → Buf (Elt Ideal) ((c.tc : Thread Cert.Kernel29Ideal.nD Cert.Kernel29Ideal.τ).loc Cert.Kernel29Ideal.main_v0_3)),
      θ_run (Cert.Kernel29Ideal.defs (F := Ideal)) (onTc (τ := Cert.Kernel29Ideal.τ) (Cert.Kernel29Ideal.main (F := Ideal))) ⟨m, fun _ => 0, g⟩ (fun r => ∀ c : Dev Cert.Kernel29Ideal.nD,
          r.2.mem ((c.tc : Thread Cert.Kernel29Ideal.nD Cert.Kernel29Ideal.τ).loc Cert.Kernel29Ideal.main_v0_0) = v0 c
          ∧ r.2.mem ((c.tc : Thread Cert.Kernel29Ideal.nD Cert.Kernel29Ideal.τ).loc Cert.Kernel29Ideal.main_v0_1) = v1 c
          ∧ r.2.mem ((c.tc : Thread Cert.Kernel29Ideal.nD Cert.Kernel29Ideal.τ).loc Cert.Kernel29Ideal.main_v0_2) = v2 c
          ∧ r.2.mem ((c.tc : Thread Cert.Kernel29Ideal.nD Cert.Kernel29Ideal.τ).loc Cert.Kernel29Ideal.main_v0_3) = v3 c
          ∧ r.2.mem ((c.tc : Thread Cert.Kernel29Ideal.nD Cert.Kernel29Ideal.τ).loc Cert.Kernel29Ideal.main_arg0) = m ((c.tc : Thread Cert.Kernel29Ideal.nD Cert.Kernel29Ideal.τ).loc Cert.Kernel29Ideal.main_arg0)
          ∧ r.2.mem ((c.tc : Thread Cert.Kernel29Ideal.nD Cert.Kernel29Ideal.τ).loc Cert.Kernel29Ideal.main_arg1) = m ((c.tc : Thread Cert.Kernel29Ideal.nD Cert.Kernel29Ideal.τ).loc Cert.Kernel29Ideal.main_arg1)
          ∧ r.2.mem ((c.tc : Thread Cert.Kernel29Ideal.nD Cert.Kernel29Ideal.τ).loc Cert.Kernel29Ideal.main_arg2) = m ((c.tc : Thread Cert.Kernel29Ideal.nD Cert.Kernel29Ideal.τ).loc Cert.Kernel29Ideal.main_arg2)
          ∧ r.2.mem ((c.tc : Thread Cert.Kernel29Ideal.nD Cert.Kernel29Ideal.τ).loc Cert.Kernel29Ideal.main_arg3) = m ((c.tc : Thread Cert.Kernel29Ideal.nD Cert.Kernel29Ideal.τ).loc Cert.Kernel29Ideal.main_arg3)
          ∧ r.2.mem ((c.tc : Thread Cert.Kernel29Ideal.nD Cert.Kernel29Ideal.τ).loc Cert.Kernel29Ideal.main_arg4) = m ((c.tc : Thread Cert.Kernel29Ideal.nD Cert.Kernel29Ideal.τ).loc Cert.Kernel29Ideal.main_arg4)
          ∧ r.2.mem ((c.tc : Thread Cert.Kernel29Ideal.nD Cert.Kernel29Ideal.τ).loc Cert.Kernel29Ideal.main_arg5) = m ((c.tc : Thread Cert.Kernel29Ideal.nD Cert.Kernel29Ideal.τ).loc Cert.Kernel29Ideal.main_arg5)
          ∧ r.2.mem ((c.tc : Thread Cert.Kernel29Ideal.nD Cert.Kernel29Ideal.τ).loc Cert.Kernel29Ideal.main_arg6) = m ((c.tc : Thread Cert.Kernel29Ideal.nD Cert.Kernel29Ideal.τ).loc Cert.Kernel29Ideal.main_arg6))
      ∧ θ_run (Cert.Reference29Ideal.defs (F := Ideal)) (onTc (τ := Cert.Reference29Ideal.τ) (Cert.Reference29Ideal.main (F := Ideal))) ⟨m', fun _ => 0, g'⟩ (fun r => ∀ c : Dev Cert.Reference29Ideal.nD,
          r.2.mem ((c.tc : Thread Cert.Reference29Ideal.nD Cert.Reference29Ideal.τ).loc Cert.Reference29Ideal.main_v19) = v0 c
          ∧ r.2.mem ((c.tc : Thread Cert.Reference29Ideal.nD Cert.Reference29Ideal.τ).loc Cert.Reference29Ideal.main_v43) = v1 c
          ∧ r.2.mem ((c.tc : Thread Cert.Reference29Ideal.nD Cert.Reference29Ideal.τ).loc Cert.Reference29Ideal.main_v24) = v2 c
          ∧ r.2.mem ((c.tc : Thread Cert.Reference29Ideal.nD Cert.Reference29Ideal.τ).loc Cert.Reference29Ideal.main_v30) = v3 c
          ∧ r.2.mem ((c.tc : Thread Cert.Reference29Ideal.nD Cert.Reference29Ideal.τ).loc Cert.Reference29Ideal.main_arg0) = m' ((c.tc : Thread Cert.Reference29Ideal.nD Cert.Reference29Ideal.τ).loc Cert.Reference29Ideal.main_arg0)
          ∧ r.2.mem ((c.tc : Thread Cert.Reference29Ideal.nD Cert.Reference29Ideal.τ).loc Cert.Reference29Ideal.main_arg1) = m' ((c.tc : Thread Cert.Reference29Ideal.nD Cert.Reference29Ideal.τ).loc Cert.Reference29Ideal.main_arg1)
          ∧ r.2.mem ((c.tc : Thread Cert.Reference29Ideal.nD Cert.Reference29Ideal.τ).loc Cert.Reference29Ideal.main_arg2) = m' ((c.tc : Thread Cert.Reference29Ideal.nD Cert.Reference29Ideal.τ).loc Cert.Reference29Ideal.main_arg2)
          ∧ r.2.mem ((c.tc : Thread Cert.Reference29Ideal.nD Cert.Reference29Ideal.τ).loc Cert.Reference29Ideal.main_arg3) = m' ((c.tc : Thread Cert.Reference29Ideal.nD Cert.Reference29Ideal.τ).loc Cert.Reference29Ideal.main_arg3)
          ∧ r.2.mem ((c.tc : Thread Cert.Reference29Ideal.nD Cert.Reference29Ideal.τ).loc Cert.Reference29Ideal.main_arg4) = m' ((c.tc : Thread Cert.Reference29Ideal.nD Cert.Reference29Ideal.τ).loc Cert.Reference29Ideal.main_arg4)
          ∧ r.2.mem ((c.tc : Thread Cert.Reference29Ideal.nD Cert.Reference29Ideal.τ).loc Cert.Reference29Ideal.main_arg5) = m' ((c.tc : Thread Cert.Reference29Ideal.nD Cert.Reference29Ideal.τ).loc Cert.Reference29Ideal.main_arg5)
          ∧ r.2.mem ((c.tc : Thread Cert.Reference29Ideal.nD Cert.Reference29Ideal.τ).loc Cert.Reference29Ideal.main_arg6) = m' ((c.tc : Thread Cert.Reference29Ideal.nD Cert.Reference29Ideal.τ).loc Cert.Reference29Ideal.main_arg6))

def preserves_Kernel30_Kernel30Ideal : Prop :=
  True

def algebraic_Kernel30Ideal_Reference30Ideal [hKernel30Ideal : Cert.Kernel30Ideal.Facts] [hReference30Ideal : Cert.Reference30Ideal.Facts] [hPre_a_w_in_named : Cert.Pre_a_w_in_named.Facts] : Prop :=
  ∀ (m : (ℓ : Loc Cert.Kernel30Ideal.nD Cert.Kernel30Ideal.τ Cert.Kernel30Ideal.sig) → Buf (Elt Ideal) ℓ) (g : Dev Cert.Kernel30Ideal.nD → PrngReg)
    (m' : (ℓ : Loc Cert.Reference30Ideal.nD Cert.Reference30Ideal.τ Cert.Reference30Ideal.sig) → Buf (Elt Ideal) ℓ) (g' : Dev Cert.Reference30Ideal.nD → PrngReg), Pre_Kernel30Ideal m →
    (∀ c : Dev Cert.Kernel30Ideal.nD,
      m' ((c.tc : Thread Cert.Reference30Ideal.nD Cert.Reference30Ideal.τ).loc Cert.Reference30Ideal.main_arg0) = m ((c.tc : Thread Cert.Kernel30Ideal.nD Cert.Kernel30Ideal.τ).loc Cert.Kernel30Ideal.main_arg0)
      ∧ m' ((c.tc : Thread Cert.Reference30Ideal.nD Cert.Reference30Ideal.τ).loc Cert.Reference30Ideal.main_arg1) = m ((c.tc : Thread Cert.Kernel30Ideal.nD Cert.Kernel30Ideal.τ).loc Cert.Kernel30Ideal.main_arg1)
      ∧ m' ((c.tc : Thread Cert.Reference30Ideal.nD Cert.Reference30Ideal.τ).loc Cert.Reference30Ideal.main_arg2) = m ((c.tc : Thread Cert.Kernel30Ideal.nD Cert.Kernel30Ideal.τ).loc Cert.Kernel30Ideal.main_arg2)
      ∧ m' ((c.tc : Thread Cert.Reference30Ideal.nD Cert.Reference30Ideal.τ).loc Cert.Reference30Ideal.main_arg3) = m ((c.tc : Thread Cert.Kernel30Ideal.nD Cert.Kernel30Ideal.τ).loc Cert.Kernel30Ideal.main_arg3)
      ∧ m' ((c.tc : Thread Cert.Reference30Ideal.nD Cert.Reference30Ideal.τ).loc Cert.Reference30Ideal.main_arg4) = m ((c.tc : Thread Cert.Kernel30Ideal.nD Cert.Kernel30Ideal.τ).loc Cert.Kernel30Ideal.main_arg4)
      ∧ m' ((c.tc : Thread Cert.Reference30Ideal.nD Cert.Reference30Ideal.τ).loc Cert.Reference30Ideal.main_arg5) = m ((c.tc : Thread Cert.Kernel30Ideal.nD Cert.Kernel30Ideal.τ).loc Cert.Kernel30Ideal.main_arg5)
      ∧ m' ((c.tc : Thread Cert.Reference30Ideal.nD Cert.Reference30Ideal.τ).loc Cert.Reference30Ideal.main_arg6) = m ((c.tc : Thread Cert.Kernel30Ideal.nD Cert.Kernel30Ideal.τ).loc Cert.Kernel30Ideal.main_arg6)) →
    ∃ (v0 : (c : Dev Cert.Kernel30Ideal.nD) → Buf (Elt Ideal) ((c.tc : Thread Cert.Kernel30Ideal.nD Cert.Kernel30Ideal.τ).loc Cert.Kernel30Ideal.main_v0_0)) (v1 : (c : Dev Cert.Kernel30Ideal.nD) → Buf (Elt Ideal) ((c.tc : Thread Cert.Kernel30Ideal.nD Cert.Kernel30Ideal.τ).loc Cert.Kernel30Ideal.main_v0_1)) (v2 : (c : Dev Cert.Kernel30Ideal.nD) → Buf (Elt Ideal) ((c.tc : Thread Cert.Kernel30Ideal.nD Cert.Kernel30Ideal.τ).loc Cert.Kernel30Ideal.main_v0_2)) (v3 : (c : Dev Cert.Kernel30Ideal.nD) → Buf (Elt Ideal) ((c.tc : Thread Cert.Kernel30Ideal.nD Cert.Kernel30Ideal.τ).loc Cert.Kernel30Ideal.main_v0_3)),
      θ_run (Cert.Kernel30Ideal.defs (F := Ideal)) (onTc (τ := Cert.Kernel30Ideal.τ) (Cert.Kernel30Ideal.main (F := Ideal))) ⟨m, fun _ => 0, g⟩ (fun r => ∀ c : Dev Cert.Kernel30Ideal.nD,
          r.2.mem ((c.tc : Thread Cert.Kernel30Ideal.nD Cert.Kernel30Ideal.τ).loc Cert.Kernel30Ideal.main_v0_0) = v0 c
          ∧ r.2.mem ((c.tc : Thread Cert.Kernel30Ideal.nD Cert.Kernel30Ideal.τ).loc Cert.Kernel30Ideal.main_v0_1) = v1 c
          ∧ r.2.mem ((c.tc : Thread Cert.Kernel30Ideal.nD Cert.Kernel30Ideal.τ).loc Cert.Kernel30Ideal.main_v0_2) = v2 c
          ∧ r.2.mem ((c.tc : Thread Cert.Kernel30Ideal.nD Cert.Kernel30Ideal.τ).loc Cert.Kernel30Ideal.main_v0_3) = v3 c
          ∧ r.2.mem ((c.tc : Thread Cert.Kernel30Ideal.nD Cert.Kernel30Ideal.τ).loc Cert.Kernel30Ideal.main_arg0) = m ((c.tc : Thread Cert.Kernel30Ideal.nD Cert.Kernel30Ideal.τ).loc Cert.Kernel30Ideal.main_arg0)
          ∧ r.2.mem ((c.tc : Thread Cert.Kernel30Ideal.nD Cert.Kernel30Ideal.τ).loc Cert.Kernel30Ideal.main_arg1) = m ((c.tc : Thread Cert.Kernel30Ideal.nD Cert.Kernel30Ideal.τ).loc Cert.Kernel30Ideal.main_arg1)
          ∧ r.2.mem ((c.tc : Thread Cert.Kernel30Ideal.nD Cert.Kernel30Ideal.τ).loc Cert.Kernel30Ideal.main_arg2) = m ((c.tc : Thread Cert.Kernel30Ideal.nD Cert.Kernel30Ideal.τ).loc Cert.Kernel30Ideal.main_arg2)
          ∧ r.2.mem ((c.tc : Thread Cert.Kernel30Ideal.nD Cert.Kernel30Ideal.τ).loc Cert.Kernel30Ideal.main_arg3) = m ((c.tc : Thread Cert.Kernel30Ideal.nD Cert.Kernel30Ideal.τ).loc Cert.Kernel30Ideal.main_arg3)
          ∧ r.2.mem ((c.tc : Thread Cert.Kernel30Ideal.nD Cert.Kernel30Ideal.τ).loc Cert.Kernel30Ideal.main_arg4) = m ((c.tc : Thread Cert.Kernel30Ideal.nD Cert.Kernel30Ideal.τ).loc Cert.Kernel30Ideal.main_arg4)
          ∧ r.2.mem ((c.tc : Thread Cert.Kernel30Ideal.nD Cert.Kernel30Ideal.τ).loc Cert.Kernel30Ideal.main_arg5) = m ((c.tc : Thread Cert.Kernel30Ideal.nD Cert.Kernel30Ideal.τ).loc Cert.Kernel30Ideal.main_arg5)
          ∧ r.2.mem ((c.tc : Thread Cert.Kernel30Ideal.nD Cert.Kernel30Ideal.τ).loc Cert.Kernel30Ideal.main_arg6) = m ((c.tc : Thread Cert.Kernel30Ideal.nD Cert.Kernel30Ideal.τ).loc Cert.Kernel30Ideal.main_arg6))
      ∧ θ_run (Cert.Reference30Ideal.defs (F := Ideal)) (onTc (τ := Cert.Reference30Ideal.τ) (Cert.Reference30Ideal.main (F := Ideal))) ⟨m', fun _ => 0, g'⟩ (fun r => ∀ c : Dev Cert.Reference30Ideal.nD,
          r.2.mem ((c.tc : Thread Cert.Reference30Ideal.nD Cert.Reference30Ideal.τ).loc Cert.Reference30Ideal.main_v19) = v0 c
          ∧ r.2.mem ((c.tc : Thread Cert.Reference30Ideal.nD Cert.Reference30Ideal.τ).loc Cert.Reference30Ideal.main_v43) = v1 c
          ∧ r.2.mem ((c.tc : Thread Cert.Reference30Ideal.nD Cert.Reference30Ideal.τ).loc Cert.Reference30Ideal.main_v24) = v2 c
          ∧ r.2.mem ((c.tc : Thread Cert.Reference30Ideal.nD Cert.Reference30Ideal.τ).loc Cert.Reference30Ideal.main_v30) = v3 c
          ∧ r.2.mem ((c.tc : Thread Cert.Reference30Ideal.nD Cert.Reference30Ideal.τ).loc Cert.Reference30Ideal.main_arg0) = m' ((c.tc : Thread Cert.Reference30Ideal.nD Cert.Reference30Ideal.τ).loc Cert.Reference30Ideal.main_arg0)
          ∧ r.2.mem ((c.tc : Thread Cert.Reference30Ideal.nD Cert.Reference30Ideal.τ).loc Cert.Reference30Ideal.main_arg1) = m' ((c.tc : Thread Cert.Reference30Ideal.nD Cert.Reference30Ideal.τ).loc Cert.Reference30Ideal.main_arg1)
          ∧ r.2.mem ((c.tc : Thread Cert.Reference30Ideal.nD Cert.Reference30Ideal.τ).loc Cert.Reference30Ideal.main_arg2) = m' ((c.tc : Thread Cert.Reference30Ideal.nD Cert.Reference30Ideal.τ).loc Cert.Reference30Ideal.main_arg2)
          ∧ r.2.mem ((c.tc : Thread Cert.Reference30Ideal.nD Cert.Reference30Ideal.τ).loc Cert.Reference30Ideal.main_arg3) = m' ((c.tc : Thread Cert.Reference30Ideal.nD Cert.Reference30Ideal.τ).loc Cert.Reference30Ideal.main_arg3)
          ∧ r.2.mem ((c.tc : Thread Cert.Reference30Ideal.nD Cert.Reference30Ideal.τ).loc Cert.Reference30Ideal.main_arg4) = m' ((c.tc : Thread Cert.Reference30Ideal.nD Cert.Reference30Ideal.τ).loc Cert.Reference30Ideal.main_arg4)
          ∧ r.2.mem ((c.tc : Thread Cert.Reference30Ideal.nD Cert.Reference30Ideal.τ).loc Cert.Reference30Ideal.main_arg5) = m' ((c.tc : Thread Cert.Reference30Ideal.nD Cert.Reference30Ideal.τ).loc Cert.Reference30Ideal.main_arg5)
          ∧ r.2.mem ((c.tc : Thread Cert.Reference30Ideal.nD Cert.Reference30Ideal.τ).loc Cert.Reference30Ideal.main_arg6) = m' ((c.tc : Thread Cert.Reference30Ideal.nD Cert.Reference30Ideal.τ).loc Cert.Reference30Ideal.main_arg6))

def preserves_Kernel31_Kernel31Ideal : Prop :=
  True

def algebraic_Kernel31Ideal_Reference31Ideal [hKernel31Ideal : Cert.Kernel31Ideal.Facts] [hReference31Ideal : Cert.Reference31Ideal.Facts] [hPre_b_b_grp_named : Cert.Pre_b_b_grp_named.Facts] : Prop :=
  ∀ (m : (ℓ : Loc Cert.Kernel31Ideal.nD Cert.Kernel31Ideal.τ Cert.Kernel31Ideal.sig) → Buf (Elt Ideal) ℓ) (g : Dev Cert.Kernel31Ideal.nD → PrngReg)
    (m' : (ℓ : Loc Cert.Reference31Ideal.nD Cert.Reference31Ideal.τ Cert.Reference31Ideal.sig) → Buf (Elt Ideal) ℓ) (g' : Dev Cert.Reference31Ideal.nD → PrngReg), Pre_Kernel31Ideal m →
    (∀ c : Dev Cert.Kernel31Ideal.nD,
      m' ((c.tc : Thread Cert.Reference31Ideal.nD Cert.Reference31Ideal.τ).loc Cert.Reference31Ideal.main_arg0) = m ((c.tc : Thread Cert.Kernel31Ideal.nD Cert.Kernel31Ideal.τ).loc Cert.Kernel31Ideal.main_arg0)
      ∧ m' ((c.tc : Thread Cert.Reference31Ideal.nD Cert.Reference31Ideal.τ).loc Cert.Reference31Ideal.main_arg1) = m ((c.tc : Thread Cert.Kernel31Ideal.nD Cert.Kernel31Ideal.τ).loc Cert.Kernel31Ideal.main_arg1)
      ∧ m' ((c.tc : Thread Cert.Reference31Ideal.nD Cert.Reference31Ideal.τ).loc Cert.Reference31Ideal.main_arg2) = m ((c.tc : Thread Cert.Kernel31Ideal.nD Cert.Kernel31Ideal.τ).loc Cert.Kernel31Ideal.main_arg2)
      ∧ m' ((c.tc : Thread Cert.Reference31Ideal.nD Cert.Reference31Ideal.τ).loc Cert.Reference31Ideal.main_arg3) = m ((c.tc : Thread Cert.Kernel31Ideal.nD Cert.Kernel31Ideal.τ).loc Cert.Kernel31Ideal.main_arg3)
      ∧ m' ((c.tc : Thread Cert.Reference31Ideal.nD Cert.Reference31Ideal.τ).loc Cert.Reference31Ideal.main_arg4) = m ((c.tc : Thread Cert.Kernel31Ideal.nD Cert.Kernel31Ideal.τ).loc Cert.Kernel31Ideal.main_arg4)
      ∧ m' ((c.tc : Thread Cert.Reference31Ideal.nD Cert.Reference31Ideal.τ).loc Cert.Reference31Ideal.main_arg5) = m ((c.tc : Thread Cert.Kernel31Ideal.nD Cert.Kernel31Ideal.τ).loc Cert.Kernel31Ideal.main_arg5)
      ∧ m' ((c.tc : Thread Cert.Reference31Ideal.nD Cert.Reference31Ideal.τ).loc Cert.Reference31Ideal.main_arg6) = m ((c.tc : Thread Cert.Kernel31Ideal.nD Cert.Kernel31Ideal.τ).loc Cert.Kernel31Ideal.main_arg6)) →
    ∃ (v0 : (c : Dev Cert.Kernel31Ideal.nD) → Buf (Elt Ideal) ((c.tc : Thread Cert.Kernel31Ideal.nD Cert.Kernel31Ideal.τ).loc Cert.Kernel31Ideal.main_v0_0)) (v1 : (c : Dev Cert.Kernel31Ideal.nD) → Buf (Elt Ideal) ((c.tc : Thread Cert.Kernel31Ideal.nD Cert.Kernel31Ideal.τ).loc Cert.Kernel31Ideal.main_v0_1)) (v2 : (c : Dev Cert.Kernel31Ideal.nD) → Buf (Elt Ideal) ((c.tc : Thread Cert.Kernel31Ideal.nD Cert.Kernel31Ideal.τ).loc Cert.Kernel31Ideal.main_v0_2)) (v3 : (c : Dev Cert.Kernel31Ideal.nD) → Buf (Elt Ideal) ((c.tc : Thread Cert.Kernel31Ideal.nD Cert.Kernel31Ideal.τ).loc Cert.Kernel31Ideal.main_v0_3)),
      θ_run (Cert.Kernel31Ideal.defs (F := Ideal)) (onTc (τ := Cert.Kernel31Ideal.τ) (Cert.Kernel31Ideal.main (F := Ideal))) ⟨m, fun _ => 0, g⟩ (fun r => ∀ c : Dev Cert.Kernel31Ideal.nD,
          r.2.mem ((c.tc : Thread Cert.Kernel31Ideal.nD Cert.Kernel31Ideal.τ).loc Cert.Kernel31Ideal.main_v0_0) = v0 c
          ∧ r.2.mem ((c.tc : Thread Cert.Kernel31Ideal.nD Cert.Kernel31Ideal.τ).loc Cert.Kernel31Ideal.main_v0_1) = v1 c
          ∧ r.2.mem ((c.tc : Thread Cert.Kernel31Ideal.nD Cert.Kernel31Ideal.τ).loc Cert.Kernel31Ideal.main_v0_2) = v2 c
          ∧ r.2.mem ((c.tc : Thread Cert.Kernel31Ideal.nD Cert.Kernel31Ideal.τ).loc Cert.Kernel31Ideal.main_v0_3) = v3 c
          ∧ r.2.mem ((c.tc : Thread Cert.Kernel31Ideal.nD Cert.Kernel31Ideal.τ).loc Cert.Kernel31Ideal.main_arg0) = m ((c.tc : Thread Cert.Kernel31Ideal.nD Cert.Kernel31Ideal.τ).loc Cert.Kernel31Ideal.main_arg0)
          ∧ r.2.mem ((c.tc : Thread Cert.Kernel31Ideal.nD Cert.Kernel31Ideal.τ).loc Cert.Kernel31Ideal.main_arg1) = m ((c.tc : Thread Cert.Kernel31Ideal.nD Cert.Kernel31Ideal.τ).loc Cert.Kernel31Ideal.main_arg1)
          ∧ r.2.mem ((c.tc : Thread Cert.Kernel31Ideal.nD Cert.Kernel31Ideal.τ).loc Cert.Kernel31Ideal.main_arg2) = m ((c.tc : Thread Cert.Kernel31Ideal.nD Cert.Kernel31Ideal.τ).loc Cert.Kernel31Ideal.main_arg2)
          ∧ r.2.mem ((c.tc : Thread Cert.Kernel31Ideal.nD Cert.Kernel31Ideal.τ).loc Cert.Kernel31Ideal.main_arg3) = m ((c.tc : Thread Cert.Kernel31Ideal.nD Cert.Kernel31Ideal.τ).loc Cert.Kernel31Ideal.main_arg3)
          ∧ r.2.mem ((c.tc : Thread Cert.Kernel31Ideal.nD Cert.Kernel31Ideal.τ).loc Cert.Kernel31Ideal.main_arg4) = m ((c.tc : Thread Cert.Kernel31Ideal.nD Cert.Kernel31Ideal.τ).loc Cert.Kernel31Ideal.main_arg4)
          ∧ r.2.mem ((c.tc : Thread Cert.Kernel31Ideal.nD Cert.Kernel31Ideal.τ).loc Cert.Kernel31Ideal.main_arg5) = m ((c.tc : Thread Cert.Kernel31Ideal.nD Cert.Kernel31Ideal.τ).loc Cert.Kernel31Ideal.main_arg5)
          ∧ r.2.mem ((c.tc : Thread Cert.Kernel31Ideal.nD Cert.Kernel31Ideal.τ).loc Cert.Kernel31Ideal.main_arg6) = m ((c.tc : Thread Cert.Kernel31Ideal.nD Cert.Kernel31Ideal.τ).loc Cert.Kernel31Ideal.main_arg6))
      ∧ θ_run (Cert.Reference31Ideal.defs (F := Ideal)) (onTc (τ := Cert.Reference31Ideal.τ) (Cert.Reference31Ideal.main (F := Ideal))) ⟨m', fun _ => 0, g'⟩ (fun r => ∀ c : Dev Cert.Reference31Ideal.nD,
          r.2.mem ((c.tc : Thread Cert.Reference31Ideal.nD Cert.Reference31Ideal.τ).loc Cert.Reference31Ideal.main_v16) = v0 c
          ∧ r.2.mem ((c.tc : Thread Cert.Reference31Ideal.nD Cert.Reference31Ideal.τ).loc Cert.Reference31Ideal.main_v40) = v1 c
          ∧ r.2.mem ((c.tc : Thread Cert.Reference31Ideal.nD Cert.Reference31Ideal.τ).loc Cert.Reference31Ideal.main_v21) = v2 c
          ∧ r.2.mem ((c.tc : Thread Cert.Reference31Ideal.nD Cert.Reference31Ideal.τ).loc Cert.Reference31Ideal.main_v27) = v3 c
          ∧ r.2.mem ((c.tc : Thread Cert.Reference31Ideal.nD Cert.Reference31Ideal.τ).loc Cert.Reference31Ideal.main_arg0) = m' ((c.tc : Thread Cert.Reference31Ideal.nD Cert.Reference31Ideal.τ).loc Cert.Reference31Ideal.main_arg0)
          ∧ r.2.mem ((c.tc : Thread Cert.Reference31Ideal.nD Cert.Reference31Ideal.τ).loc Cert.Reference31Ideal.main_arg1) = m' ((c.tc : Thread Cert.Reference31Ideal.nD Cert.Reference31Ideal.τ).loc Cert.Reference31Ideal.main_arg1)
          ∧ r.2.mem ((c.tc : Thread Cert.Reference31Ideal.nD Cert.Reference31Ideal.τ).loc Cert.Reference31Ideal.main_arg2) = m' ((c.tc : Thread Cert.Reference31Ideal.nD Cert.Reference31Ideal.τ).loc Cert.Reference31Ideal.main_arg2)
          ∧ r.2.mem ((c.tc : Thread Cert.Reference31Ideal.nD Cert.Reference31Ideal.τ).loc Cert.Reference31Ideal.main_arg3) = m' ((c.tc : Thread Cert.Reference31Ideal.nD Cert.Reference31Ideal.τ).loc Cert.Reference31Ideal.main_arg3)
          ∧ r.2.mem ((c.tc : Thread Cert.Reference31Ideal.nD Cert.Reference31Ideal.τ).loc Cert.Reference31Ideal.main_arg4) = m' ((c.tc : Thread Cert.Reference31Ideal.nD Cert.Reference31Ideal.τ).loc Cert.Reference31Ideal.main_arg4)
          ∧ r.2.mem ((c.tc : Thread Cert.Reference31Ideal.nD Cert.Reference31Ideal.τ).loc Cert.Reference31Ideal.main_arg5) = m' ((c.tc : Thread Cert.Reference31Ideal.nD Cert.Reference31Ideal.τ).loc Cert.Reference31Ideal.main_arg5)
          ∧ r.2.mem ((c.tc : Thread Cert.Reference31Ideal.nD Cert.Reference31Ideal.τ).loc Cert.Reference31Ideal.main_arg6) = m' ((c.tc : Thread Cert.Reference31Ideal.nD Cert.Reference31Ideal.τ).loc Cert.Reference31Ideal.main_arg6))

def preserves_Kernel32_Kernel32Ideal : Prop :=
  True

def algebraic_Kernel32Ideal_Reference32Ideal [hKernel32Ideal : Cert.Kernel32Ideal.Facts] [hReference32Ideal : Cert.Reference32Ideal.Facts] [hPre_b_scale_named : Cert.Pre_b_scale_named.Facts] : Prop :=
  ∀ (m : (ℓ : Loc Cert.Kernel32Ideal.nD Cert.Kernel32Ideal.τ Cert.Kernel32Ideal.sig) → Buf (Elt Ideal) ℓ) (g : Dev Cert.Kernel32Ideal.nD → PrngReg)
    (m' : (ℓ : Loc Cert.Reference32Ideal.nD Cert.Reference32Ideal.τ Cert.Reference32Ideal.sig) → Buf (Elt Ideal) ℓ) (g' : Dev Cert.Reference32Ideal.nD → PrngReg), Pre_Kernel32Ideal m →
    (∀ c : Dev Cert.Kernel32Ideal.nD,
      m' ((c.tc : Thread Cert.Reference32Ideal.nD Cert.Reference32Ideal.τ).loc Cert.Reference32Ideal.main_arg0) = m ((c.tc : Thread Cert.Kernel32Ideal.nD Cert.Kernel32Ideal.τ).loc Cert.Kernel32Ideal.main_arg0)
      ∧ m' ((c.tc : Thread Cert.Reference32Ideal.nD Cert.Reference32Ideal.τ).loc Cert.Reference32Ideal.main_arg1) = m ((c.tc : Thread Cert.Kernel32Ideal.nD Cert.Kernel32Ideal.τ).loc Cert.Kernel32Ideal.main_arg1)
      ∧ m' ((c.tc : Thread Cert.Reference32Ideal.nD Cert.Reference32Ideal.τ).loc Cert.Reference32Ideal.main_arg2) = m ((c.tc : Thread Cert.Kernel32Ideal.nD Cert.Kernel32Ideal.τ).loc Cert.Kernel32Ideal.main_arg2)
      ∧ m' ((c.tc : Thread Cert.Reference32Ideal.nD Cert.Reference32Ideal.τ).loc Cert.Reference32Ideal.main_arg3) = m ((c.tc : Thread Cert.Kernel32Ideal.nD Cert.Kernel32Ideal.τ).loc Cert.Kernel32Ideal.main_arg3)
      ∧ m' ((c.tc : Thread Cert.Reference32Ideal.nD Cert.Reference32Ideal.τ).loc Cert.Reference32Ideal.main_arg4) = m ((c.tc : Thread Cert.Kernel32Ideal.nD Cert.Kernel32Ideal.τ).loc Cert.Kernel32Ideal.main_arg4)
      ∧ m' ((c.tc : Thread Cert.Reference32Ideal.nD Cert.Reference32Ideal.τ).loc Cert.Reference32Ideal.main_arg5) = m ((c.tc : Thread Cert.Kernel32Ideal.nD Cert.Kernel32Ideal.τ).loc Cert.Kernel32Ideal.main_arg5)
      ∧ m' ((c.tc : Thread Cert.Reference32Ideal.nD Cert.Reference32Ideal.τ).loc Cert.Reference32Ideal.main_arg6) = m ((c.tc : Thread Cert.Kernel32Ideal.nD Cert.Kernel32Ideal.τ).loc Cert.Kernel32Ideal.main_arg6)) →
    ∃ (v0 : (c : Dev Cert.Kernel32Ideal.nD) → Buf (Elt Ideal) ((c.tc : Thread Cert.Kernel32Ideal.nD Cert.Kernel32Ideal.τ).loc Cert.Kernel32Ideal.main_v0_0)) (v1 : (c : Dev Cert.Kernel32Ideal.nD) → Buf (Elt Ideal) ((c.tc : Thread Cert.Kernel32Ideal.nD Cert.Kernel32Ideal.τ).loc Cert.Kernel32Ideal.main_v0_1)) (v2 : (c : Dev Cert.Kernel32Ideal.nD) → Buf (Elt Ideal) ((c.tc : Thread Cert.Kernel32Ideal.nD Cert.Kernel32Ideal.τ).loc Cert.Kernel32Ideal.main_v0_2)) (v3 : (c : Dev Cert.Kernel32Ideal.nD) → Buf (Elt Ideal) ((c.tc : Thread Cert.Kernel32Ideal.nD Cert.Kernel32Ideal.τ).loc Cert.Kernel32Ideal.main_v0_3)),
      θ_run (Cert.Kernel32Ideal.defs (F := Ideal)) (onTc (τ := Cert.Kernel32Ideal.τ) (Cert.Kernel32Ideal.main (F := Ideal))) ⟨m, fun _ => 0, g⟩ (fun r => ∀ c : Dev Cert.Kernel32Ideal.nD,
          r.2.mem ((c.tc : Thread Cert.Kernel32Ideal.nD Cert.Kernel32Ideal.τ).loc Cert.Kernel32Ideal.main_v0_0) = v0 c
          ∧ r.2.mem ((c.tc : Thread Cert.Kernel32Ideal.nD Cert.Kernel32Ideal.τ).loc Cert.Kernel32Ideal.main_v0_1) = v1 c
          ∧ r.2.mem ((c.tc : Thread Cert.Kernel32Ideal.nD Cert.Kernel32Ideal.τ).loc Cert.Kernel32Ideal.main_v0_2) = v2 c
          ∧ r.2.mem ((c.tc : Thread Cert.Kernel32Ideal.nD Cert.Kernel32Ideal.τ).loc Cert.Kernel32Ideal.main_v0_3) = v3 c
          ∧ r.2.mem ((c.tc : Thread Cert.Kernel32Ideal.nD Cert.Kernel32Ideal.τ).loc Cert.Kernel32Ideal.main_arg0) = m ((c.tc : Thread Cert.Kernel32Ideal.nD Cert.Kernel32Ideal.τ).loc Cert.Kernel32Ideal.main_arg0)
          ∧ r.2.mem ((c.tc : Thread Cert.Kernel32Ideal.nD Cert.Kernel32Ideal.τ).loc Cert.Kernel32Ideal.main_arg1) = m ((c.tc : Thread Cert.Kernel32Ideal.nD Cert.Kernel32Ideal.τ).loc Cert.Kernel32Ideal.main_arg1)
          ∧ r.2.mem ((c.tc : Thread Cert.Kernel32Ideal.nD Cert.Kernel32Ideal.τ).loc Cert.Kernel32Ideal.main_arg2) = m ((c.tc : Thread Cert.Kernel32Ideal.nD Cert.Kernel32Ideal.τ).loc Cert.Kernel32Ideal.main_arg2)
          ∧ r.2.mem ((c.tc : Thread Cert.Kernel32Ideal.nD Cert.Kernel32Ideal.τ).loc Cert.Kernel32Ideal.main_arg3) = m ((c.tc : Thread Cert.Kernel32Ideal.nD Cert.Kernel32Ideal.τ).loc Cert.Kernel32Ideal.main_arg3)
          ∧ r.2.mem ((c.tc : Thread Cert.Kernel32Ideal.nD Cert.Kernel32Ideal.τ).loc Cert.Kernel32Ideal.main_arg4) = m ((c.tc : Thread Cert.Kernel32Ideal.nD Cert.Kernel32Ideal.τ).loc Cert.Kernel32Ideal.main_arg4)
          ∧ r.2.mem ((c.tc : Thread Cert.Kernel32Ideal.nD Cert.Kernel32Ideal.τ).loc Cert.Kernel32Ideal.main_arg5) = m ((c.tc : Thread Cert.Kernel32Ideal.nD Cert.Kernel32Ideal.τ).loc Cert.Kernel32Ideal.main_arg5)
          ∧ r.2.mem ((c.tc : Thread Cert.Kernel32Ideal.nD Cert.Kernel32Ideal.τ).loc Cert.Kernel32Ideal.main_arg6) = m ((c.tc : Thread Cert.Kernel32Ideal.nD Cert.Kernel32Ideal.τ).loc Cert.Kernel32Ideal.main_arg6))
      ∧ θ_run (Cert.Reference32Ideal.defs (F := Ideal)) (onTc (τ := Cert.Reference32Ideal.τ) (Cert.Reference32Ideal.main (F := Ideal))) ⟨m', fun _ => 0, g'⟩ (fun r => ∀ c : Dev Cert.Reference32Ideal.nD,
          r.2.mem ((c.tc : Thread Cert.Reference32Ideal.nD Cert.Reference32Ideal.τ).loc Cert.Reference32Ideal.main_v16) = v0 c
          ∧ r.2.mem ((c.tc : Thread Cert.Reference32Ideal.nD Cert.Reference32Ideal.τ).loc Cert.Reference32Ideal.main_v40) = v1 c
          ∧ r.2.mem ((c.tc : Thread Cert.Reference32Ideal.nD Cert.Reference32Ideal.τ).loc Cert.Reference32Ideal.main_v21) = v2 c
          ∧ r.2.mem ((c.tc : Thread Cert.Reference32Ideal.nD Cert.Reference32Ideal.τ).loc Cert.Reference32Ideal.main_v27) = v3 c
          ∧ r.2.mem ((c.tc : Thread Cert.Reference32Ideal.nD Cert.Reference32Ideal.τ).loc Cert.Reference32Ideal.main_arg0) = m' ((c.tc : Thread Cert.Reference32Ideal.nD Cert.Reference32Ideal.τ).loc Cert.Reference32Ideal.main_arg0)
          ∧ r.2.mem ((c.tc : Thread Cert.Reference32Ideal.nD Cert.Reference32Ideal.τ).loc Cert.Reference32Ideal.main_arg1) = m' ((c.tc : Thread Cert.Reference32Ideal.nD Cert.Reference32Ideal.τ).loc Cert.Reference32Ideal.main_arg1)
          ∧ r.2.mem ((c.tc : Thread Cert.Reference32Ideal.nD Cert.Reference32Ideal.τ).loc Cert.Reference32Ideal.main_arg2) = m' ((c.tc : Thread Cert.Reference32Ideal.nD Cert.Reference32Ideal.τ).loc Cert.Reference32Ideal.main_arg2)
          ∧ r.2.mem ((c.tc : Thread Cert.Reference32Ideal.nD Cert.Reference32Ideal.τ).loc Cert.Reference32Ideal.main_arg3) = m' ((c.tc : Thread Cert.Reference32Ideal.nD Cert.Reference32Ideal.τ).loc Cert.Reference32Ideal.main_arg3)
          ∧ r.2.mem ((c.tc : Thread Cert.Reference32Ideal.nD Cert.Reference32Ideal.τ).loc Cert.Reference32Ideal.main_arg4) = m' ((c.tc : Thread Cert.Reference32Ideal.nD Cert.Reference32Ideal.τ).loc Cert.Reference32Ideal.main_arg4)
          ∧ r.2.mem ((c.tc : Thread Cert.Reference32Ideal.nD Cert.Reference32Ideal.τ).loc Cert.Reference32Ideal.main_arg5) = m' ((c.tc : Thread Cert.Reference32Ideal.nD Cert.Reference32Ideal.τ).loc Cert.Reference32Ideal.main_arg5)
          ∧ r.2.mem ((c.tc : Thread Cert.Reference32Ideal.nD Cert.Reference32Ideal.τ).loc Cert.Reference32Ideal.main_arg6) = m' ((c.tc : Thread Cert.Reference32Ideal.nD Cert.Reference32Ideal.τ).loc Cert.Reference32Ideal.main_arg6))

def preserves_Kernel33_Kernel33Ideal : Prop :=
  True

def algebraic_Kernel33Ideal_Reference33Ideal [hKernel33Ideal : Cert.Kernel33Ideal.Facts] [hReference33Ideal : Cert.Reference33Ideal.Facts] [hPre_b_w_out_chips_named : Cert.Pre_b_w_out_chips_named.Facts] : Prop :=
  ∀ (m : (ℓ : Loc Cert.Kernel33Ideal.nD Cert.Kernel33Ideal.τ Cert.Kernel33Ideal.sig) → Buf (Elt Ideal) ℓ) (g : Dev Cert.Kernel33Ideal.nD → PrngReg)
    (m' : (ℓ : Loc Cert.Reference33Ideal.nD Cert.Reference33Ideal.τ Cert.Reference33Ideal.sig) → Buf (Elt Ideal) ℓ) (g' : Dev Cert.Reference33Ideal.nD → PrngReg), Pre_Kernel33Ideal m →
    (∀ c : Dev Cert.Kernel33Ideal.nD,
      m' ((c.tc : Thread Cert.Reference33Ideal.nD Cert.Reference33Ideal.τ).loc Cert.Reference33Ideal.main_arg0) = m ((c.tc : Thread Cert.Kernel33Ideal.nD Cert.Kernel33Ideal.τ).loc Cert.Kernel33Ideal.main_arg0)
      ∧ m' ((c.tc : Thread Cert.Reference33Ideal.nD Cert.Reference33Ideal.τ).loc Cert.Reference33Ideal.main_arg1) = m ((c.tc : Thread Cert.Kernel33Ideal.nD Cert.Kernel33Ideal.τ).loc Cert.Kernel33Ideal.main_arg1)
      ∧ m' ((c.tc : Thread Cert.Reference33Ideal.nD Cert.Reference33Ideal.τ).loc Cert.Reference33Ideal.main_arg2) = m ((c.tc : Thread Cert.Kernel33Ideal.nD Cert.Kernel33Ideal.τ).loc Cert.Kernel33Ideal.main_arg2)) →
    ∃ (v0 : (c : Dev Cert.Kernel33Ideal.nD) → Buf (Elt Ideal) ((c.tc : Thread Cert.Kernel33Ideal.nD Cert.Kernel33Ideal.τ).loc Cert.Kernel33Ideal.main_v0)),
      θ_run (Cert.Kernel33Ideal.defs (F := Ideal)) (onTc (τ := Cert.Kernel33Ideal.τ) (Cert.Kernel33Ideal.main (F := Ideal))) ⟨m, fun _ => 0, g⟩ (fun r => ∀ c : Dev Cert.Kernel33Ideal.nD,
          r.2.mem ((c.tc : Thread Cert.Kernel33Ideal.nD Cert.Kernel33Ideal.τ).loc Cert.Kernel33Ideal.main_v0) = v0 c
          ∧ r.2.mem ((c.tc : Thread Cert.Kernel33Ideal.nD Cert.Kernel33Ideal.τ).loc Cert.Kernel33Ideal.main_arg0) = m ((c.tc : Thread Cert.Kernel33Ideal.nD Cert.Kernel33Ideal.τ).loc Cert.Kernel33Ideal.main_arg0)
          ∧ r.2.mem ((c.tc : Thread Cert.Kernel33Ideal.nD Cert.Kernel33Ideal.τ).loc Cert.Kernel33Ideal.main_arg1) = m ((c.tc : Thread Cert.Kernel33Ideal.nD Cert.Kernel33Ideal.τ).loc Cert.Kernel33Ideal.main_arg1)
          ∧ r.2.mem ((c.tc : Thread Cert.Kernel33Ideal.nD Cert.Kernel33Ideal.τ).loc Cert.Kernel33Ideal.main_arg2) = m ((c.tc : Thread Cert.Kernel33Ideal.nD Cert.Kernel33Ideal.τ).loc Cert.Kernel33Ideal.main_arg2))
      ∧ θ_run (Cert.Reference33Ideal.defs (F := Ideal)) (onTc (τ := Cert.Reference33Ideal.τ) (Cert.Reference33Ideal.main (F := Ideal))) ⟨m', fun _ => 0, g'⟩ (fun r => ∀ c : Dev Cert.Reference33Ideal.nD,
          r.2.mem ((c.tc : Thread Cert.Reference33Ideal.nD Cert.Reference33Ideal.τ).loc Cert.Reference33Ideal.main_v67) = v0 c
          ∧ r.2.mem ((c.tc : Thread Cert.Reference33Ideal.nD Cert.Reference33Ideal.τ).loc Cert.Reference33Ideal.main_arg0) = m' ((c.tc : Thread Cert.Reference33Ideal.nD Cert.Reference33Ideal.τ).loc Cert.Reference33Ideal.main_arg0)
          ∧ r.2.mem ((c.tc : Thread Cert.Reference33Ideal.nD Cert.Reference33Ideal.τ).loc Cert.Reference33Ideal.main_arg1) = m' ((c.tc : Thread Cert.Reference33Ideal.nD Cert.Reference33Ideal.τ).loc Cert.Reference33Ideal.main_arg1)
          ∧ r.2.mem ((c.tc : Thread Cert.Reference33Ideal.nD Cert.Reference33Ideal.τ).loc Cert.Reference33Ideal.main_arg2) = m' ((c.tc : Thread Cert.Reference33Ideal.nD Cert.Reference33Ideal.τ).loc Cert.Reference33Ideal.main_arg2))

def preserves_Kernel34_Kernel34Ideal : Prop :=
  True

def algebraic_Kernel34Ideal_Reference34Ideal [hKernel34Ideal : Cert.Kernel34Ideal.Facts] [hReference34Ideal : Cert.Reference34Ideal.Facts] [hPre_b_w_grp_chips_named : Cert.Pre_b_w_grp_chips_named.Facts] : Prop :=
  ∀ (m : (ℓ : Loc Cert.Kernel34Ideal.nD Cert.Kernel34Ideal.τ Cert.Kernel34Ideal.sig) → Buf (Elt Ideal) ℓ) (g : Dev Cert.Kernel34Ideal.nD → PrngReg)
    (m' : (ℓ : Loc Cert.Reference34Ideal.nD Cert.Reference34Ideal.τ Cert.Reference34Ideal.sig) → Buf (Elt Ideal) ℓ) (g' : Dev Cert.Reference34Ideal.nD → PrngReg), Pre_Kernel34Ideal m →
    (∀ c : Dev Cert.Kernel34Ideal.nD,
      m' ((c.tc : Thread Cert.Reference34Ideal.nD Cert.Reference34Ideal.τ).loc Cert.Reference34Ideal.main_arg0) = m ((c.tc : Thread Cert.Kernel34Ideal.nD Cert.Kernel34Ideal.τ).loc Cert.Kernel34Ideal.main_arg0)
      ∧ m' ((c.tc : Thread Cert.Reference34Ideal.nD Cert.Reference34Ideal.τ).loc Cert.Reference34Ideal.main_arg1) = m ((c.tc : Thread Cert.Kernel34Ideal.nD Cert.Kernel34Ideal.τ).loc Cert.Kernel34Ideal.main_arg1)
      ∧ m' ((c.tc : Thread Cert.Reference34Ideal.nD Cert.Reference34Ideal.τ).loc Cert.Reference34Ideal.main_arg2) = m ((c.tc : Thread Cert.Kernel34Ideal.nD Cert.Kernel34Ideal.τ).loc Cert.Kernel34Ideal.main_arg2)) →
    ∃ (v0 : (c : Dev Cert.Kernel34Ideal.nD) → Buf (Elt Ideal) ((c.tc : Thread Cert.Kernel34Ideal.nD Cert.Kernel34Ideal.τ).loc Cert.Kernel34Ideal.main_v0)),
      θ_run (Cert.Kernel34Ideal.defs (F := Ideal)) (onTc (τ := Cert.Kernel34Ideal.τ) (Cert.Kernel34Ideal.main (F := Ideal))) ⟨m, fun _ => 0, g⟩ (fun r => ∀ c : Dev Cert.Kernel34Ideal.nD,
          r.2.mem ((c.tc : Thread Cert.Kernel34Ideal.nD Cert.Kernel34Ideal.τ).loc Cert.Kernel34Ideal.main_v0) = v0 c
          ∧ r.2.mem ((c.tc : Thread Cert.Kernel34Ideal.nD Cert.Kernel34Ideal.τ).loc Cert.Kernel34Ideal.main_arg0) = m ((c.tc : Thread Cert.Kernel34Ideal.nD Cert.Kernel34Ideal.τ).loc Cert.Kernel34Ideal.main_arg0)
          ∧ r.2.mem ((c.tc : Thread Cert.Kernel34Ideal.nD Cert.Kernel34Ideal.τ).loc Cert.Kernel34Ideal.main_arg1) = m ((c.tc : Thread Cert.Kernel34Ideal.nD Cert.Kernel34Ideal.τ).loc Cert.Kernel34Ideal.main_arg1)
          ∧ r.2.mem ((c.tc : Thread Cert.Kernel34Ideal.nD Cert.Kernel34Ideal.τ).loc Cert.Kernel34Ideal.main_arg2) = m ((c.tc : Thread Cert.Kernel34Ideal.nD Cert.Kernel34Ideal.τ).loc Cert.Kernel34Ideal.main_arg2))
      ∧ θ_run (Cert.Reference34Ideal.defs (F := Ideal)) (onTc (τ := Cert.Reference34Ideal.τ) (Cert.Reference34Ideal.main (F := Ideal))) ⟨m', fun _ => 0, g'⟩ (fun r => ∀ c : Dev Cert.Reference34Ideal.nD,
          r.2.mem ((c.tc : Thread Cert.Reference34Ideal.nD Cert.Reference34Ideal.τ).loc Cert.Reference34Ideal.main_v67) = v0 c
          ∧ r.2.mem ((c.tc : Thread Cert.Reference34Ideal.nD Cert.Reference34Ideal.τ).loc Cert.Reference34Ideal.main_arg0) = m' ((c.tc : Thread Cert.Reference34Ideal.nD Cert.Reference34Ideal.τ).loc Cert.Reference34Ideal.main_arg0)
          ∧ r.2.mem ((c.tc : Thread Cert.Reference34Ideal.nD Cert.Reference34Ideal.τ).loc Cert.Reference34Ideal.main_arg1) = m' ((c.tc : Thread Cert.Reference34Ideal.nD Cert.Reference34Ideal.τ).loc Cert.Reference34Ideal.main_arg1)
          ∧ r.2.mem ((c.tc : Thread Cert.Reference34Ideal.nD Cert.Reference34Ideal.τ).loc Cert.Reference34Ideal.main_arg2) = m' ((c.tc : Thread Cert.Reference34Ideal.nD Cert.Reference34Ideal.τ).loc Cert.Reference34Ideal.main_arg2))

def preserves_Kernel35_Kernel35Ideal : Prop :=
  True

def algebraic_Kernel35Ideal_Reference35Ideal [hKernel35Ideal : Cert.Kernel35Ideal.Facts] [hReference35Ideal : Cert.Reference35Ideal.Facts] [hPre_b_w_in_chips_named : Cert.Pre_b_w_in_chips_named.Facts] : Prop :=
  ∀ (m : (ℓ : Loc Cert.Kernel35Ideal.nD Cert.Kernel35Ideal.τ Cert.Kernel35Ideal.sig) → Buf (Elt Ideal) ℓ) (g : Dev Cert.Kernel35Ideal.nD → PrngReg)
    (m' : (ℓ : Loc Cert.Reference35Ideal.nD Cert.Reference35Ideal.τ Cert.Reference35Ideal.sig) → Buf (Elt Ideal) ℓ) (g' : Dev Cert.Reference35Ideal.nD → PrngReg), Pre_Kernel35Ideal m →
    (∀ c : Dev Cert.Kernel35Ideal.nD,
      m' ((c.tc : Thread Cert.Reference35Ideal.nD Cert.Reference35Ideal.τ).loc Cert.Reference35Ideal.main_arg0) = m ((c.tc : Thread Cert.Kernel35Ideal.nD Cert.Kernel35Ideal.τ).loc Cert.Kernel35Ideal.main_arg0)
      ∧ m' ((c.tc : Thread Cert.Reference35Ideal.nD Cert.Reference35Ideal.τ).loc Cert.Reference35Ideal.main_arg1) = m ((c.tc : Thread Cert.Kernel35Ideal.nD Cert.Kernel35Ideal.τ).loc Cert.Kernel35Ideal.main_arg1)
      ∧ m' ((c.tc : Thread Cert.Reference35Ideal.nD Cert.Reference35Ideal.τ).loc Cert.Reference35Ideal.main_arg2) = m ((c.tc : Thread Cert.Kernel35Ideal.nD Cert.Kernel35Ideal.τ).loc Cert.Kernel35Ideal.main_arg2)) →
    ∃ (v0 : (c : Dev Cert.Kernel35Ideal.nD) → Buf (Elt Ideal) ((c.tc : Thread Cert.Kernel35Ideal.nD Cert.Kernel35Ideal.τ).loc Cert.Kernel35Ideal.main_v0)),
      θ_run (Cert.Kernel35Ideal.defs (F := Ideal)) (onTc (τ := Cert.Kernel35Ideal.τ) (Cert.Kernel35Ideal.main (F := Ideal))) ⟨m, fun _ => 0, g⟩ (fun r => ∀ c : Dev Cert.Kernel35Ideal.nD,
          r.2.mem ((c.tc : Thread Cert.Kernel35Ideal.nD Cert.Kernel35Ideal.τ).loc Cert.Kernel35Ideal.main_v0) = v0 c
          ∧ r.2.mem ((c.tc : Thread Cert.Kernel35Ideal.nD Cert.Kernel35Ideal.τ).loc Cert.Kernel35Ideal.main_arg0) = m ((c.tc : Thread Cert.Kernel35Ideal.nD Cert.Kernel35Ideal.τ).loc Cert.Kernel35Ideal.main_arg0)
          ∧ r.2.mem ((c.tc : Thread Cert.Kernel35Ideal.nD Cert.Kernel35Ideal.τ).loc Cert.Kernel35Ideal.main_arg1) = m ((c.tc : Thread Cert.Kernel35Ideal.nD Cert.Kernel35Ideal.τ).loc Cert.Kernel35Ideal.main_arg1)
          ∧ r.2.mem ((c.tc : Thread Cert.Kernel35Ideal.nD Cert.Kernel35Ideal.τ).loc Cert.Kernel35Ideal.main_arg2) = m ((c.tc : Thread Cert.Kernel35Ideal.nD Cert.Kernel35Ideal.τ).loc Cert.Kernel35Ideal.main_arg2))
      ∧ θ_run (Cert.Reference35Ideal.defs (F := Ideal)) (onTc (τ := Cert.Reference35Ideal.τ) (Cert.Reference35Ideal.main (F := Ideal))) ⟨m', fun _ => 0, g'⟩ (fun r => ∀ c : Dev Cert.Reference35Ideal.nD,
          r.2.mem ((c.tc : Thread Cert.Reference35Ideal.nD Cert.Reference35Ideal.τ).loc Cert.Reference35Ideal.main_v67) = v0 c
          ∧ r.2.mem ((c.tc : Thread Cert.Reference35Ideal.nD Cert.Reference35Ideal.τ).loc Cert.Reference35Ideal.main_arg0) = m' ((c.tc : Thread Cert.Reference35Ideal.nD Cert.Reference35Ideal.τ).loc Cert.Reference35Ideal.main_arg0)
          ∧ r.2.mem ((c.tc : Thread Cert.Reference35Ideal.nD Cert.Reference35Ideal.τ).loc Cert.Reference35Ideal.main_arg1) = m' ((c.tc : Thread Cert.Reference35Ideal.nD Cert.Reference35Ideal.τ).loc Cert.Reference35Ideal.main_arg1)
          ∧ r.2.mem ((c.tc : Thread Cert.Reference35Ideal.nD Cert.Reference35Ideal.τ).loc Cert.Reference35Ideal.main_arg2) = m' ((c.tc : Thread Cert.Reference35Ideal.nD Cert.Reference35Ideal.τ).loc Cert.Reference35Ideal.main_arg2))

def preserves_Kernel36_Kernel36Ideal : Prop :=
  True

def algebraic_Kernel36Ideal_Reference36Ideal [hKernel36Ideal : Cert.Kernel36Ideal.Facts] [hReference36Ideal : Cert.Reference36Ideal.Facts] [hPre_a_w_in_chips_named : Cert.Pre_a_w_in_chips_named.Facts] : Prop :=
  ∀ (m : (ℓ : Loc Cert.Kernel36Ideal.nD Cert.Kernel36Ideal.τ Cert.Kernel36Ideal.sig) → Buf (Elt Ideal) ℓ) (g : Dev Cert.Kernel36Ideal.nD → PrngReg)
    (m' : (ℓ : Loc Cert.Reference36Ideal.nD Cert.Reference36Ideal.τ Cert.Reference36Ideal.sig) → Buf (Elt Ideal) ℓ) (g' : Dev Cert.Reference36Ideal.nD → PrngReg), Pre_Kernel36Ideal m →
    (∀ c : Dev Cert.Kernel36Ideal.nD,
      m' ((c.tc : Thread Cert.Reference36Ideal.nD Cert.Reference36Ideal.τ).loc Cert.Reference36Ideal.main_arg0) = m ((c.tc : Thread Cert.Kernel36Ideal.nD Cert.Kernel36Ideal.τ).loc Cert.Kernel36Ideal.main_arg0)
      ∧ m' ((c.tc : Thread Cert.Reference36Ideal.nD Cert.Reference36Ideal.τ).loc Cert.Reference36Ideal.main_arg1) = m ((c.tc : Thread Cert.Kernel36Ideal.nD Cert.Kernel36Ideal.τ).loc Cert.Kernel36Ideal.main_arg1)
      ∧ m' ((c.tc : Thread Cert.Reference36Ideal.nD Cert.Reference36Ideal.τ).loc Cert.Reference36Ideal.main_arg2) = m ((c.tc : Thread Cert.Kernel36Ideal.nD Cert.Kernel36Ideal.τ).loc Cert.Kernel36Ideal.main_arg2)) →
    ∃ (v0 : (c : Dev Cert.Kernel36Ideal.nD) → Buf (Elt Ideal) ((c.tc : Thread Cert.Kernel36Ideal.nD Cert.Kernel36Ideal.τ).loc Cert.Kernel36Ideal.main_v0)),
      θ_run (Cert.Kernel36Ideal.defs (F := Ideal)) (onTc (τ := Cert.Kernel36Ideal.τ) (Cert.Kernel36Ideal.main (F := Ideal))) ⟨m, fun _ => 0, g⟩ (fun r => ∀ c : Dev Cert.Kernel36Ideal.nD,
          r.2.mem ((c.tc : Thread Cert.Kernel36Ideal.nD Cert.Kernel36Ideal.τ).loc Cert.Kernel36Ideal.main_v0) = v0 c
          ∧ r.2.mem ((c.tc : Thread Cert.Kernel36Ideal.nD Cert.Kernel36Ideal.τ).loc Cert.Kernel36Ideal.main_arg0) = m ((c.tc : Thread Cert.Kernel36Ideal.nD Cert.Kernel36Ideal.τ).loc Cert.Kernel36Ideal.main_arg0)
          ∧ r.2.mem ((c.tc : Thread Cert.Kernel36Ideal.nD Cert.Kernel36Ideal.τ).loc Cert.Kernel36Ideal.main_arg1) = m ((c.tc : Thread Cert.Kernel36Ideal.nD Cert.Kernel36Ideal.τ).loc Cert.Kernel36Ideal.main_arg1)
          ∧ r.2.mem ((c.tc : Thread Cert.Kernel36Ideal.nD Cert.Kernel36Ideal.τ).loc Cert.Kernel36Ideal.main_arg2) = m ((c.tc : Thread Cert.Kernel36Ideal.nD Cert.Kernel36Ideal.τ).loc Cert.Kernel36Ideal.main_arg2))
      ∧ θ_run (Cert.Reference36Ideal.defs (F := Ideal)) (onTc (τ := Cert.Reference36Ideal.τ) (Cert.Reference36Ideal.main (F := Ideal))) ⟨m', fun _ => 0, g'⟩ (fun r => ∀ c : Dev Cert.Reference36Ideal.nD,
          r.2.mem ((c.tc : Thread Cert.Reference36Ideal.nD Cert.Reference36Ideal.τ).loc Cert.Reference36Ideal.main_v55) = v0 c
          ∧ r.2.mem ((c.tc : Thread Cert.Reference36Ideal.nD Cert.Reference36Ideal.τ).loc Cert.Reference36Ideal.main_arg0) = m' ((c.tc : Thread Cert.Reference36Ideal.nD Cert.Reference36Ideal.τ).loc Cert.Reference36Ideal.main_arg0)
          ∧ r.2.mem ((c.tc : Thread Cert.Reference36Ideal.nD Cert.Reference36Ideal.τ).loc Cert.Reference36Ideal.main_arg1) = m' ((c.tc : Thread Cert.Reference36Ideal.nD Cert.Reference36Ideal.τ).loc Cert.Reference36Ideal.main_arg1)
          ∧ r.2.mem ((c.tc : Thread Cert.Reference36Ideal.nD Cert.Reference36Ideal.τ).loc Cert.Reference36Ideal.main_arg2) = m' ((c.tc : Thread Cert.Reference36Ideal.nD Cert.Reference36Ideal.τ).loc Cert.Reference36Ideal.main_arg2))

def preserves_Kernel37_Kernel37Ideal : Prop :=
  True

def algebraic_Kernel37Ideal_Reference37Ideal [hKernel37Ideal : Cert.Kernel37Ideal.Facts] [hReference37Ideal : Cert.Reference37Ideal.Facts] [hPre_b_b_grp_chips_named : Cert.Pre_b_b_grp_chips_named.Facts] : Prop :=
  ∀ (m : (ℓ : Loc Cert.Kernel37Ideal.nD Cert.Kernel37Ideal.τ Cert.Kernel37Ideal.sig) → Buf (Elt Ideal) ℓ) (g : Dev Cert.Kernel37Ideal.nD → PrngReg)
    (m' : (ℓ : Loc Cert.Reference37Ideal.nD Cert.Reference37Ideal.τ Cert.Reference37Ideal.sig) → Buf (Elt Ideal) ℓ) (g' : Dev Cert.Reference37Ideal.nD → PrngReg), Pre_Kernel37Ideal m →
    (∀ c : Dev Cert.Kernel37Ideal.nD,
      m' ((c.tc : Thread Cert.Reference37Ideal.nD Cert.Reference37Ideal.τ).loc Cert.Reference37Ideal.main_arg0) = m ((c.tc : Thread Cert.Kernel37Ideal.nD Cert.Kernel37Ideal.τ).loc Cert.Kernel37Ideal.main_arg0)
      ∧ m' ((c.tc : Thread Cert.Reference37Ideal.nD Cert.Reference37Ideal.τ).loc Cert.Reference37Ideal.main_arg1) = m ((c.tc : Thread Cert.Kernel37Ideal.nD Cert.Kernel37Ideal.τ).loc Cert.Kernel37Ideal.main_arg1)
      ∧ m' ((c.tc : Thread Cert.Reference37Ideal.nD Cert.Reference37Ideal.τ).loc Cert.Reference37Ideal.main_arg2) = m ((c.tc : Thread Cert.Kernel37Ideal.nD Cert.Kernel37Ideal.τ).loc Cert.Kernel37Ideal.main_arg2)) →
    ∃ (v0 : (c : Dev Cert.Kernel37Ideal.nD) → Buf (Elt Ideal) ((c.tc : Thread Cert.Kernel37Ideal.nD Cert.Kernel37Ideal.τ).loc Cert.Kernel37Ideal.main_v0)),
      θ_run (Cert.Kernel37Ideal.defs (F := Ideal)) (onTc (τ := Cert.Kernel37Ideal.τ) (Cert.Kernel37Ideal.main (F := Ideal))) ⟨m, fun _ => 0, g⟩ (fun r => ∀ c : Dev Cert.Kernel37Ideal.nD,
          r.2.mem ((c.tc : Thread Cert.Kernel37Ideal.nD Cert.Kernel37Ideal.τ).loc Cert.Kernel37Ideal.main_v0) = v0 c
          ∧ r.2.mem ((c.tc : Thread Cert.Kernel37Ideal.nD Cert.Kernel37Ideal.τ).loc Cert.Kernel37Ideal.main_arg0) = m ((c.tc : Thread Cert.Kernel37Ideal.nD Cert.Kernel37Ideal.τ).loc Cert.Kernel37Ideal.main_arg0)
          ∧ r.2.mem ((c.tc : Thread Cert.Kernel37Ideal.nD Cert.Kernel37Ideal.τ).loc Cert.Kernel37Ideal.main_arg1) = m ((c.tc : Thread Cert.Kernel37Ideal.nD Cert.Kernel37Ideal.τ).loc Cert.Kernel37Ideal.main_arg1)
          ∧ r.2.mem ((c.tc : Thread Cert.Kernel37Ideal.nD Cert.Kernel37Ideal.τ).loc Cert.Kernel37Ideal.main_arg2) = m ((c.tc : Thread Cert.Kernel37Ideal.nD Cert.Kernel37Ideal.τ).loc Cert.Kernel37Ideal.main_arg2))
      ∧ θ_run (Cert.Reference37Ideal.defs (F := Ideal)) (onTc (τ := Cert.Reference37Ideal.τ) (Cert.Reference37Ideal.main (F := Ideal))) ⟨m', fun _ => 0, g'⟩ (fun r => ∀ c : Dev Cert.Reference37Ideal.nD,
          r.2.mem ((c.tc : Thread Cert.Reference37Ideal.nD Cert.Reference37Ideal.τ).loc Cert.Reference37Ideal.main_v60) = v0 c
          ∧ r.2.mem ((c.tc : Thread Cert.Reference37Ideal.nD Cert.Reference37Ideal.τ).loc Cert.Reference37Ideal.main_arg0) = m' ((c.tc : Thread Cert.Reference37Ideal.nD Cert.Reference37Ideal.τ).loc Cert.Reference37Ideal.main_arg0)
          ∧ r.2.mem ((c.tc : Thread Cert.Reference37Ideal.nD Cert.Reference37Ideal.τ).loc Cert.Reference37Ideal.main_arg1) = m' ((c.tc : Thread Cert.Reference37Ideal.nD Cert.Reference37Ideal.τ).loc Cert.Reference37Ideal.main_arg1)
          ∧ r.2.mem ((c.tc : Thread Cert.Reference37Ideal.nD Cert.Reference37Ideal.τ).loc Cert.Reference37Ideal.main_arg2) = m' ((c.tc : Thread Cert.Reference37Ideal.nD Cert.Reference37Ideal.τ).loc Cert.Reference37Ideal.main_arg2))

def preserves_Kernel38_Kernel38Ideal : Prop :=
  True

def algebraic_Kernel38Ideal_Reference38Ideal [hKernel38Ideal : Cert.Kernel38Ideal.Facts] [hReference38Ideal : Cert.Reference38Ideal.Facts] [hPre_b_scale_chips_named : Cert.Pre_b_scale_chips_named.Facts] : Prop :=
  ∀ (m : (ℓ : Loc Cert.Kernel38Ideal.nD Cert.Kernel38Ideal.τ Cert.Kernel38Ideal.sig) → Buf (Elt Ideal) ℓ) (g : Dev Cert.Kernel38Ideal.nD → PrngReg)
    (m' : (ℓ : Loc Cert.Reference38Ideal.nD Cert.Reference38Ideal.τ Cert.Reference38Ideal.sig) → Buf (Elt Ideal) ℓ) (g' : Dev Cert.Reference38Ideal.nD → PrngReg), Pre_Kernel38Ideal m →
    (∀ c : Dev Cert.Kernel38Ideal.nD,
      m' ((c.tc : Thread Cert.Reference38Ideal.nD Cert.Reference38Ideal.τ).loc Cert.Reference38Ideal.main_arg0) = m ((c.tc : Thread Cert.Kernel38Ideal.nD Cert.Kernel38Ideal.τ).loc Cert.Kernel38Ideal.main_arg0)
      ∧ m' ((c.tc : Thread Cert.Reference38Ideal.nD Cert.Reference38Ideal.τ).loc Cert.Reference38Ideal.main_arg1) = m ((c.tc : Thread Cert.Kernel38Ideal.nD Cert.Kernel38Ideal.τ).loc Cert.Kernel38Ideal.main_arg1)
      ∧ m' ((c.tc : Thread Cert.Reference38Ideal.nD Cert.Reference38Ideal.τ).loc Cert.Reference38Ideal.main_arg2) = m ((c.tc : Thread Cert.Kernel38Ideal.nD Cert.Kernel38Ideal.τ).loc Cert.Kernel38Ideal.main_arg2)) →
    ∃ (v0 : (c : Dev Cert.Kernel38Ideal.nD) → Buf (Elt Ideal) ((c.tc : Thread Cert.Kernel38Ideal.nD Cert.Kernel38Ideal.τ).loc Cert.Kernel38Ideal.main_v0)),
      θ_run (Cert.Kernel38Ideal.defs (F := Ideal)) (onTc (τ := Cert.Kernel38Ideal.τ) (Cert.Kernel38Ideal.main (F := Ideal))) ⟨m, fun _ => 0, g⟩ (fun r => ∀ c : Dev Cert.Kernel38Ideal.nD,
          r.2.mem ((c.tc : Thread Cert.Kernel38Ideal.nD Cert.Kernel38Ideal.τ).loc Cert.Kernel38Ideal.main_v0) = v0 c
          ∧ r.2.mem ((c.tc : Thread Cert.Kernel38Ideal.nD Cert.Kernel38Ideal.τ).loc Cert.Kernel38Ideal.main_arg0) = m ((c.tc : Thread Cert.Kernel38Ideal.nD Cert.Kernel38Ideal.τ).loc Cert.Kernel38Ideal.main_arg0)
          ∧ r.2.mem ((c.tc : Thread Cert.Kernel38Ideal.nD Cert.Kernel38Ideal.τ).loc Cert.Kernel38Ideal.main_arg1) = m ((c.tc : Thread Cert.Kernel38Ideal.nD Cert.Kernel38Ideal.τ).loc Cert.Kernel38Ideal.main_arg1)
          ∧ r.2.mem ((c.tc : Thread Cert.Kernel38Ideal.nD Cert.Kernel38Ideal.τ).loc Cert.Kernel38Ideal.main_arg2) = m ((c.tc : Thread Cert.Kernel38Ideal.nD Cert.Kernel38Ideal.τ).loc Cert.Kernel38Ideal.main_arg2))
      ∧ θ_run (Cert.Reference38Ideal.defs (F := Ideal)) (onTc (τ := Cert.Reference38Ideal.τ) (Cert.Reference38Ideal.main (F := Ideal))) ⟨m', fun _ => 0, g'⟩ (fun r => ∀ c : Dev Cert.Reference38Ideal.nD,
          r.2.mem ((c.tc : Thread Cert.Reference38Ideal.nD Cert.Reference38Ideal.τ).loc Cert.Reference38Ideal.main_v60) = v0 c
          ∧ r.2.mem ((c.tc : Thread Cert.Reference38Ideal.nD Cert.Reference38Ideal.τ).loc Cert.Reference38Ideal.main_arg0) = m' ((c.tc : Thread Cert.Reference38Ideal.nD Cert.Reference38Ideal.τ).loc Cert.Reference38Ideal.main_arg0)
          ∧ r.2.mem ((c.tc : Thread Cert.Reference38Ideal.nD Cert.Reference38Ideal.τ).loc Cert.Reference38Ideal.main_arg1) = m' ((c.tc : Thread Cert.Reference38Ideal.nD Cert.Reference38Ideal.τ).loc Cert.Reference38Ideal.main_arg1)
          ∧ r.2.mem ((c.tc : Thread Cert.Reference38Ideal.nD Cert.Reference38Ideal.τ).loc Cert.Reference38Ideal.main_arg2) = m' ((c.tc : Thread Cert.Reference38Ideal.nD Cert.Reference38Ideal.τ).loc Cert.Reference38Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel25 : Cert.Kernel25.Facts) (hKernel25Ideal : Cert.Kernel25Ideal.Facts) (hReference25Ideal : Cert.Reference25Ideal.Facts) (hKernel26 : Cert.Kernel26.Facts) (hKernel26Ideal : Cert.Kernel26Ideal.Facts) (hReference26Ideal : Cert.Reference26Ideal.Facts) (hKernel27 : Cert.Kernel27.Facts) (hKernel27Ideal : Cert.Kernel27Ideal.Facts) (hReference27Ideal : Cert.Reference27Ideal.Facts) (hKernel28 : Cert.Kernel28.Facts) (hKernel28Ideal : Cert.Kernel28Ideal.Facts) (hReference28Ideal : Cert.Reference28Ideal.Facts) (hKernel29 : Cert.Kernel29.Facts) (hKernel29Ideal : Cert.Kernel29Ideal.Facts) (hReference29Ideal : Cert.Reference29Ideal.Facts) (hKernel30 : Cert.Kernel30.Facts) (hKernel30Ideal : Cert.Kernel30Ideal.Facts) (hReference30Ideal : Cert.Reference30Ideal.Facts) (hKernel31 : Cert.Kernel31.Facts) (hKernel31Ideal : Cert.Kernel31Ideal.Facts) (hReference31Ideal : Cert.Reference31Ideal.Facts) (hKernel32 : Cert.Kernel32.Facts) (hKernel32Ideal : Cert.Kernel32Ideal.Facts) (hReference32Ideal : Cert.Reference32Ideal.Facts) (hKernel33 : Cert.Kernel33.Facts) (hKernel33Ideal : Cert.Kernel33Ideal.Facts) (hReference33Ideal : Cert.Reference33Ideal.Facts) (hKernel34 : Cert.Kernel34.Facts) (hKernel34Ideal : Cert.Kernel34Ideal.Facts) (hReference34Ideal : Cert.Reference34Ideal.Facts) (hKernel35 : Cert.Kernel35.Facts) (hKernel35Ideal : Cert.Kernel35Ideal.Facts) (hReference35Ideal : Cert.Reference35Ideal.Facts) (hKernel36 : Cert.Kernel36.Facts) (hKernel36Ideal : Cert.Kernel36Ideal.Facts) (hReference36Ideal : Cert.Reference36Ideal.Facts) (hKernel37 : Cert.Kernel37.Facts) (hKernel37Ideal : Cert.Kernel37Ideal.Facts) (hReference37Ideal : Cert.Reference37Ideal.Facts) (hKernel38 : Cert.Kernel38.Facts) (hKernel38Ideal : Cert.Kernel38Ideal.Facts) (hReference38Ideal : Cert.Reference38Ideal.Facts) (hPre_dpooled_finite : Cert.Pre_dpooled_finite.Facts) (hPre_gate_bwd_finite : Cert.Pre_gate_bwd_finite.Facts) (hPre_first_finite : Cert.Pre_first_finite.Facts) (hPre_mid_finite : Cert.Pre_mid_finite.Facts) (hPre_head_finite : Cert.Pre_head_finite.Facts) (hPre_proj_finite : Cert.Pre_proj_finite.Facts) (hPre_b_w_out_named : Cert.Pre_b_w_out_named.Facts) (hPre_b_w_grp_named : Cert.Pre_b_w_grp_named.Facts) (hPre_b_w_in_named : Cert.Pre_b_w_in_named.Facts) (hPre_a_w_in_named : Cert.Pre_a_w_in_named.Facts) (hPre_b_b_grp_named : Cert.Pre_b_b_grp_named.Facts) (hPre_b_scale_named : Cert.Pre_b_scale_named.Facts) (hPre_b_w_out_chips_named : Cert.Pre_b_w_out_chips_named.Facts) (hPre_b_w_grp_chips_named : Cert.Pre_b_w_grp_chips_named.Facts) (hPre_b_w_in_chips_named : Cert.Pre_b_w_in_chips_named.Facts) (hPre_a_w_in_chips_named : Cert.Pre_a_w_in_chips_named.Facts) (hPre_b_b_grp_chips_named : Cert.Pre_b_b_grp_chips_named.Facts) (hPre_b_scale_chips_named : Cert.Pre_b_scale_chips_named.Facts) (hOn_z_columns : Cert.On_z_columns.Facts),
    quiescent_Kernel (hKernel := hKernel)
    ∧ quiescent_KernelIdeal (hKernelIdeal := hKernelIdeal)
    ∧ quiescent_KernelIdeal_pre_dpooled_finite (hKernelIdeal := hKernelIdeal) (hPre_dpooled_finite := hPre_dpooled_finite)
    ∧ quiescent_ReferenceIdeal (hReferenceIdeal := hReferenceIdeal)
    ∧ quiescent_ReferenceIdeal_pre_dpooled_finite (hReferenceIdeal := hReferenceIdeal) (hPre_dpooled_finite := hPre_dpooled_finite)
    ∧ quiescent_Kernel2 (hKernel2 := hKernel2)
    ∧ quiescent_Kernel2Ideal (hKernel2Ideal := hKernel2Ideal)
    ∧ quiescent_Kernel2Ideal_pre_gate_bwd_finite (hKernel2Ideal := hKernel2Ideal) (hPre_gate_bwd_finite := hPre_gate_bwd_finite)
    ∧ quiescent_Reference2Ideal (hReference2Ideal := hReference2Ideal)
    ∧ quiescent_Reference2Ideal_pre_gate_bwd_finite (hReference2Ideal := hReference2Ideal) (hPre_gate_bwd_finite := hPre_gate_bwd_finite)
    ∧ quiescent_Kernel3 (hKernel3 := hKernel3)
    ∧ quiescent_Kernel3Ideal (hKernel3Ideal := hKernel3Ideal)
    ∧ quiescent_Kernel3Ideal_pre_first_finite (hKernel3Ideal := hKernel3Ideal) (hPre_first_finite := hPre_first_finite)
    ∧ quiescent_Reference3Ideal (hReference3Ideal := hReference3Ideal)
    ∧ quiescent_Reference3Ideal_pre_first_finite (hReference3Ideal := hReference3Ideal) (hPre_first_finite := hPre_first_finite)
    ∧ quiescent_Kernel4 (hKernel4 := hKernel4)
    ∧ quiescent_Kernel4Ideal (hKernel4Ideal := hKernel4Ideal)
    ∧ quiescent_Kernel4Ideal_pre_mid_finite (hKernel4Ideal := hKernel4Ideal) (hPre_mid_finite := hPre_mid_finite)
    ∧ quiescent_Reference4Ideal (hReference4Ideal := hReference4Ideal)
    ∧ quiescent_Reference4Ideal_pre_mid_finite (hReference4Ideal := hReference4Ideal) (hPre_mid_finite := hPre_mid_finite)
    ∧ quiescent_Kernel5 (hKernel5 := hKernel5)
    ∧ quiescent_Kernel5Ideal (hKernel5Ideal := hKernel5Ideal)
    ∧ quiescent_Kernel5Ideal_pre_head_finite (hKernel5Ideal := hKernel5Ideal) (hPre_head_finite := hPre_head_finite)
    ∧ quiescent_Reference5Ideal (hReference5Ideal := hReference5Ideal)
    ∧ quiescent_Reference5Ideal_pre_head_finite (hReference5Ideal := hReference5Ideal) (hPre_head_finite := hPre_head_finite)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_proj_finite (hKernel8Ideal := hKernel8Ideal) (hPre_proj_finite := hPre_proj_finite)
    ∧ quiescent_Reference8Ideal (hReference8Ideal := hReference8Ideal)
    ∧ quiescent_Reference8Ideal_pre_proj_finite (hReference8Ideal := hReference8Ideal) (hPre_proj_finite := hPre_proj_finite)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel25 (hKernel25 := hKernel25)
    ∧ quiescent_Kernel25Ideal (hKernel25Ideal := hKernel25Ideal)
    ∧ quiescent_Reference25Ideal (hReference25Ideal := hReference25Ideal)
    ∧ quiescent_Kernel26 (hKernel26 := hKernel26)
    ∧ quiescent_Kernel26Ideal (hKernel26Ideal := hKernel26Ideal)
    ∧ quiescent_Reference26Ideal (hReference26Ideal := hReference26Ideal)
    ∧ quiescent_Kernel27 (hKernel27 := hKernel27) (hPre_b_w_out_named := hPre_b_w_out_named)
    ∧ quiescent_Kernel27Ideal (hKernel27Ideal := hKernel27Ideal) (hPre_b_w_out_named := hPre_b_w_out_named)
    ∧ quiescent_Reference27Ideal (hReference27Ideal := hReference27Ideal)
    ∧ quiescent_Reference27Ideal_pre_b_w_out_named (hReference27Ideal := hReference27Ideal) (hPre_b_w_out_named := hPre_b_w_out_named)
    ∧ quiescent_Kernel28 (hKernel28 := hKernel28) (hPre_b_w_grp_named := hPre_b_w_grp_named)
    ∧ quiescent_Kernel28Ideal (hKernel28Ideal := hKernel28Ideal) (hPre_b_w_grp_named := hPre_b_w_grp_named)
    ∧ quiescent_Reference28Ideal (hReference28Ideal := hReference28Ideal)
    ∧ quiescent_Reference28Ideal_pre_b_w_grp_named (hReference28Ideal := hReference28Ideal) (hPre_b_w_grp_named := hPre_b_w_grp_named)
    ∧ quiescent_Kernel29 (hKernel29 := hKernel29) (hPre_b_w_in_named := hPre_b_w_in_named)
    ∧ quiescent_Kernel29Ideal (hKernel29Ideal := hKernel29Ideal) (hPre_b_w_in_named := hPre_b_w_in_named)
    ∧ quiescent_Reference29Ideal (hReference29Ideal := hReference29Ideal)
    ∧ quiescent_Reference29Ideal_pre_b_w_in_named (hReference29Ideal := hReference29Ideal) (hPre_b_w_in_named := hPre_b_w_in_named)
    ∧ quiescent_Kernel30 (hKernel30 := hKernel30) (hPre_a_w_in_named := hPre_a_w_in_named)
    ∧ quiescent_Kernel30Ideal (hKernel30Ideal := hKernel30Ideal) (hPre_a_w_in_named := hPre_a_w_in_named)
    ∧ quiescent_Reference30Ideal (hReference30Ideal := hReference30Ideal)
    ∧ quiescent_Reference30Ideal_pre_a_w_in_named (hReference30Ideal := hReference30Ideal) (hPre_a_w_in_named := hPre_a_w_in_named)
    ∧ quiescent_Kernel31 (hKernel31 := hKernel31) (hPre_b_b_grp_named := hPre_b_b_grp_named)
    ∧ quiescent_Kernel31Ideal (hKernel31Ideal := hKernel31Ideal) (hPre_b_b_grp_named := hPre_b_b_grp_named)
    ∧ quiescent_Reference31Ideal (hReference31Ideal := hReference31Ideal)
    ∧ quiescent_Reference31Ideal_pre_b_b_grp_named (hReference31Ideal := hReference31Ideal) (hPre_b_b_grp_named := hPre_b_b_grp_named)
    ∧ quiescent_Kernel32 (hKernel32 := hKernel32) (hPre_b_scale_named := hPre_b_scale_named)
    ∧ quiescent_Kernel32Ideal (hKernel32Ideal := hKernel32Ideal) (hPre_b_scale_named := hPre_b_scale_named)
    ∧ quiescent_Reference32Ideal (hReference32Ideal := hReference32Ideal)
    ∧ quiescent_Reference32Ideal_pre_b_scale_named (hReference32Ideal := hReference32Ideal) (hPre_b_scale_named := hPre_b_scale_named)
    ∧ quiescent_Kernel33 (hKernel33 := hKernel33) (hPre_b_w_out_chips_named := hPre_b_w_out_chips_named)
    ∧ quiescent_Kernel33Ideal (hKernel33Ideal := hKernel33Ideal) (hPre_b_w_out_chips_named := hPre_b_w_out_chips_named)
    ∧ quiescent_Reference33Ideal (hReference33Ideal := hReference33Ideal)
    ∧ quiescent_Reference33Ideal_pre_b_w_out_chips_named (hReference33Ideal := hReference33Ideal) (hPre_b_w_out_chips_named := hPre_b_w_out_chips_named)
    ∧ quiescent_Kernel34 (hKernel34 := hKernel34) (hPre_b_w_grp_chips_named := hPre_b_w_grp_chips_named)
    ∧ quiescent_Kernel34Ideal (hKernel34Ideal := hKernel34Ideal) (hPre_b_w_grp_chips_named := hPre_b_w_grp_chips_named)
    ∧ quiescent_Reference34Ideal (hReference34Ideal := hReference34Ideal)
    ∧ quiescent_Reference34Ideal_pre_b_w_grp_chips_named (hReference34Ideal := hReference34Ideal) (hPre_b_w_grp_chips_named := hPre_b_w_grp_chips_named)
    ∧ quiescent_Kernel35 (hKernel35 := hKernel35) (hPre_b_w_in_chips_named := hPre_b_w_in_chips_named)
    ∧ quiescent_Kernel35Ideal (hKernel35Ideal := hKernel35Ideal) (hPre_b_w_in_chips_named := hPre_b_w_in_chips_named)
    ∧ quiescent_Reference35Ideal (hReference35Ideal := hReference35Ideal)
    ∧ quiescent_Reference35Ideal_pre_b_w_in_chips_named (hReference35Ideal := hReference35Ideal) (hPre_b_w_in_chips_named := hPre_b_w_in_chips_named)
    ∧ quiescent_Kernel36 (hKernel36 := hKernel36) (hPre_a_w_in_chips_named := hPre_a_w_in_chips_named)
    ∧ quiescent_Kernel36Ideal (hKernel36Ideal := hKernel36Ideal) (hPre_a_w_in_chips_named := hPre_a_w_in_chips_named)
    ∧ quiescent_Reference36Ideal (hReference36Ideal := hReference36Ideal)
    ∧ quiescent_Reference36Ideal_pre_a_w_in_chips_named (hReference36Ideal := hReference36Ideal) (hPre_a_w_in_chips_named := hPre_a_w_in_chips_named)
    ∧ quiescent_Kernel37 (hKernel37 := hKernel37) (hPre_b_b_grp_chips_named := hPre_b_b_grp_chips_named)
    ∧ quiescent_Kernel37Ideal (hKernel37Ideal := hKernel37Ideal) (hPre_b_b_grp_chips_named := hPre_b_b_grp_chips_named)
    ∧ quiescent_Reference37Ideal (hReference37Ideal := hReference37Ideal)
    ∧ quiescent_Reference37Ideal_pre_b_b_grp_chips_named (hReference37Ideal := hReference37Ideal) (hPre_b_b_grp_chips_named := hPre_b_b_grp_chips_named)
    ∧ quiescent_Kernel38 (hKernel38 := hKernel38) (hPre_b_scale_chips_named := hPre_b_scale_chips_named)
    ∧ quiescent_Kernel38Ideal (hKernel38Ideal := hKernel38Ideal) (hPre_b_scale_chips_named := hPre_b_scale_chips_named)
    ∧ quiescent_Reference38Ideal (hReference38Ideal := hReference38Ideal)
    ∧ quiescent_Reference38Ideal_pre_b_scale_chips_named (hReference38Ideal := hReference38Ideal) (hPre_b_scale_chips_named := hPre_b_scale_chips_named)
    ∧ preserves_Kernel_KernelIdeal
    ∧ algebraic_KernelIdeal_ReferenceIdeal_pre_dpooled_finite (hKernelIdeal := hKernelIdeal) (hReferenceIdeal := hReferenceIdeal) (hPre_dpooled_finite := hPre_dpooled_finite)
    ∧ preserves_Kernel2_Kernel2Ideal
    ∧ algebraic_Kernel2Ideal_Reference2Ideal_on_z_columns_pre_gate_bwd_finite (hKernel2Ideal := hKernel2Ideal) (hReference2Ideal := hReference2Ideal) (hPre_gate_bwd_finite := hPre_gate_bwd_finite) (hOn_z_columns := hOn_z_columns)
    ∧ preserves_Kernel3_Kernel3Ideal
    ∧ algebraic_Kernel3Ideal_Reference3Ideal_pre_first_finite (hKernel3Ideal := hKernel3Ideal) (hReference3Ideal := hReference3Ideal) (hPre_first_finite := hPre_first_finite)
    ∧ preserves_Kernel4_Kernel4Ideal
    ∧ algebraic_Kernel4Ideal_Reference4Ideal_pre_mid_finite (hKernel4Ideal := hKernel4Ideal) (hReference4Ideal := hReference4Ideal) (hPre_mid_finite := hPre_mid_finite)
    ∧ preserves_Kernel5_Kernel5Ideal
    ∧ algebraic_Kernel5Ideal_Reference5Ideal_pre_head_finite (hKernel5Ideal := hKernel5Ideal) (hReference5Ideal := hReference5Ideal) (hPre_head_finite := hPre_head_finite)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_proj_finite (hKernel8Ideal := hKernel8Ideal) (hReference8Ideal := hReference8Ideal) (hPre_proj_finite := hPre_proj_finite)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel25_Kernel25Ideal
    ∧ algebraic_Kernel25Ideal_Reference25Ideal (hKernel25Ideal := hKernel25Ideal) (hReference25Ideal := hReference25Ideal)
    ∧ preserves_Kernel26_Kernel26Ideal
    ∧ algebraic_Kernel26Ideal_Reference26Ideal (hKernel26Ideal := hKernel26Ideal) (hReference26Ideal := hReference26Ideal)
    ∧ preserves_Kernel27_Kernel27Ideal
    ∧ algebraic_Kernel27Ideal_Reference27Ideal (hKernel27Ideal := hKernel27Ideal) (hReference27Ideal := hReference27Ideal) (hPre_b_w_out_named := hPre_b_w_out_named)
    ∧ preserves_Kernel28_Kernel28Ideal
    ∧ algebraic_Kernel28Ideal_Reference28Ideal (hKernel28Ideal := hKernel28Ideal) (hReference28Ideal := hReference28Ideal) (hPre_b_w_grp_named := hPre_b_w_grp_named)
    ∧ preserves_Kernel29_Kernel29Ideal
    ∧ algebraic_Kernel29Ideal_Reference29Ideal (hKernel29Ideal := hKernel29Ideal) (hReference29Ideal := hReference29Ideal) (hPre_b_w_in_named := hPre_b_w_in_named)
    ∧ preserves_Kernel30_Kernel30Ideal
    ∧ algebraic_Kernel30Ideal_Reference30Ideal (hKernel30Ideal := hKernel30Ideal) (hReference30Ideal := hReference30Ideal) (hPre_a_w_in_named := hPre_a_w_in_named)
    ∧ preserves_Kernel31_Kernel31Ideal
    ∧ algebraic_Kernel31Ideal_Reference31Ideal (hKernel31Ideal := hKernel31Ideal) (hReference31Ideal := hReference31Ideal) (hPre_b_b_grp_named := hPre_b_b_grp_named)
    ∧ preserves_Kernel32_Kernel32Ideal
    ∧ algebraic_Kernel32Ideal_Reference32Ideal (hKernel32Ideal := hKernel32Ideal) (hReference32Ideal := hReference32Ideal) (hPre_b_scale_named := hPre_b_scale_named)
    ∧ preserves_Kernel33_Kernel33Ideal
    ∧ algebraic_Kernel33Ideal_Reference33Ideal (hKernel33Ideal := hKernel33Ideal) (hReference33Ideal := hReference33Ideal) (hPre_b_w_out_chips_named := hPre_b_w_out_chips_named)
    ∧ preserves_Kernel34_Kernel34Ideal
    ∧ algebraic_Kernel34Ideal_Reference34Ideal (hKernel34Ideal := hKernel34Ideal) (hReference34Ideal := hReference34Ideal) (hPre_b_w_grp_chips_named := hPre_b_w_grp_chips_named)
    ∧ preserves_Kernel35_Kernel35Ideal
    ∧ algebraic_Kernel35Ideal_Reference35Ideal (hKernel35Ideal := hKernel35Ideal) (hReference35Ideal := hReference35Ideal) (hPre_b_w_in_chips_named := hPre_b_w_in_chips_named)
    ∧ preserves_Kernel36_Kernel36Ideal
    ∧ algebraic_Kernel36Ideal_Reference36Ideal (hKernel36Ideal := hKernel36Ideal) (hReference36Ideal := hReference36Ideal) (hPre_a_w_in_chips_named := hPre_a_w_in_chips_named)
    ∧ preserves_Kernel37_Kernel37Ideal
    ∧ algebraic_Kernel37Ideal_Reference37Ideal (hKernel37Ideal := hKernel37Ideal) (hReference37Ideal := hReference37Ideal) (hPre_b_b_grp_chips_named := hPre_b_b_grp_chips_named)
    ∧ preserves_Kernel38_Kernel38Ideal
    ∧ algebraic_Kernel38Ideal_Reference38Ideal (hKernel38Ideal := hKernel38Ideal) (hReference38Ideal := hReference38Ideal) (hPre_b_scale_chips_named := hPre_b_scale_chips_named)
-- ==== On_z_columns.lean ====
abbrev S4096x8192 : Shape := ⟨2, ![4096, 8192]⟩
abbrev S4096x16384 : Shape := ⟨2, ![4096, 16384]⟩
abbrev S1x8192 : Shape := ⟨2, ![1, 8192]⟩
abbrev S_ : Shape := ⟨0, ![]⟩

class Facts : Prop where
  bcast_S_S4096x8192 : S_.BroadcastsInDim S4096x8192 (![] : Fin 0 → Fin S4096x8192.rank)
  bcast_S_S4096x16384 : S_.BroadcastsInDim S4096x16384 (![] : Fin 0 → Fin S4096x16384.rank)
  bcast_S_S1x8192 : S_.BroadcastsInDim S1x8192 (![] : Fin 0 → Fin S1x8192.rank)

variable [Facts]

def fn {F : FTy → Type} [FloatOps F] (main_arg0 : FVec F S4096x8192 .bf16) (main_arg1 : FVec F S4096x8192 .bf16) (main_arg2 : FVec F S4096x16384 .bf16) (main_arg3 : FVec F S1x8192 .f32) (main_arg4 : FVec F S1x8192 .f32) : IVec S4096x8192 1 × IVec S4096x16384 1 × IVec S1x8192 1 × IVec S1x8192 1 :=
  let main_c : IVec S_ 1 := constantI S_ 1 1#1
  let main_v0 : IVec S4096x8192 1 := broadcastInDim S4096x8192 ![] bcast_S_S4096x8192 main_c
  let main_v1 : IVec S4096x16384 32 := iotaInDim S4096x16384 32 1
  let main_c_0 : IVec S_ 32 := constantI S_ 32 8192#32
  let main_v2 : IVec S4096x16384 32 := broadcastInDim S4096x16384 ![] bcast_S_S4096x16384 main_c_0
  let main_v3 : IVec S4096x16384 1 := cmpi .sge main_v1 main_v2
  let main_c_1 : IVec S_ 1 := constantI S_ 1 1#1
  let main_v4 : IVec S1x8192 1 := broadcastInDim S1x8192 ![] bcast_S_S1x8192 main_c_1
  let main_c_2 : IVec S_ 1 := constantI S_ 1 1#1
  let main_v5 : IVec S1x8192 1 := broadcastInDim S1x8192 ![] bcast_S_S1x8192 main_c_2
  (main_v0, main_v3, main_v4, main_v5)
-- ==== Pre_a_w_in_chips_named.lean ====
abbrev S8 : Shape := ⟨1, ![8]⟩
abbrev S4x4096x3072 : Shape := ⟨3, ![4, 4096, 3072]⟩
abbrev S1 : Shape := ⟨1, ![1]⟩
abbrev S_ : Shape := ⟨0, ![]⟩

class Facts : Prop where
  slices_S8_S1_0 : S8.Slices ![0] S1
  shapeCasts_S1_S_ : S1.ShapeCasts S_
  slices_S8_S1_1 : S8.Slices ![1] S1
  slices_S8_S1_2 : S8.Slices ![2] S1

variable [Facts]

def fn_part1 {F : FTy → Type} [FloatOps F] (main_v14 : IVec S_ 1) (main_v17 : IVec S_ 1) (main_v18 : IVec S1 32) : IVec S_ 1 :=
  let main_v19 : IVec S_ 32 := shapeCast S_ main_v18 shapeCasts_S1_S_
  let main_c_4 : IVec S_ 32 := constantI S_ 32 4#32
  let main_v20 : IVec S_ 1 := cmpi .slt main_v19 main_c_4
  let main_v21 : IVec S_ 1 := andi main_v17 main_v20
  let main_v22 : IVec S_ 1 := andi main_v14 main_v21
  main_v22

def fn {F : FTy → Type} [FloatOps F] (main_arg0 : IVec S8 32) (main_arg1 : FVec F S4x4096x3072 .bf16) (main_arg2 : FVec F S4x4096x3072 .bf16) : IVec S_ 1 :=
  let main_v0 : IVec S1 32 := (extractStridedSlice S1 ![0] · slices_S8_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S8_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S8_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![1] · slices_S8_S1_1) main_arg0
  let main_v11 : IVec S_ 32 := shapeCast S_ main_v10 shapeCasts_S1_S_
  let main_c_2 : IVec S_ 32 := constantI S_ 32 4#32
  let main_v12 : IVec S_ 1 := cmpi .slt main_v11 main_c_2
  let main_v13 : IVec S_ 1 := andi main_v9 main_v12
  let main_v14 : IVec S_ 1 := andi main_v6 main_v13
  let main_v15 : IVec S1 32 := (extractStridedSlice S1 ![2] · slices_S8_S1_2) main_arg0
  let main_v16 : IVec S_ 32 := shapeCast S_ main_v15 shapeCasts_S1_S_
  let main_c_3 : IVec S_ 32 := constantI S_ 32 0#32
  let main_v17 : IVec S_ 1 := cmpi .sge main_v16 main_c_3
  let main_v18 : IVec S1 32 := (extractStridedSlice S1 ![2] · slices_S8_S1_2) main_arg0
  fn_part1 (F := F) main_v14 main_v17 main_v18
-- ==== Pre_a_w_in_named.lean ====
abbrev S8 : Shape := ⟨1, ![8]⟩
abbrev S4x4096x3072 : Shape := ⟨3, ![4, 4096, 3072]⟩
abbrev S3x4096x3072 : Shape := ⟨3, ![3, 4096, 3072]⟩
abbrev S4096x3072 : Shape := ⟨2, ![4096, 3072]⟩
abbrev S1 : Shape := ⟨1, ![1]⟩
abbrev S_ : Shape := ⟨0, ![]⟩

class Facts : Prop where
  slices_S8_S1_4 : S8.Slices ![4] S1
  shapeCasts_S1_S_ : S1.ShapeCasts S_

variable [Facts]

def fn {F : FTy → Type} [FloatOps F] (main_arg0 : IVec S8 32) (main_arg1 : FVec F S4x4096x3072 .bf16) (main_arg2 : FVec F S4x4096x3072 .bf16) (main_arg3 : FVec F S3x4096x3072 .bf16) (main_arg4 : FVec F S4096x3072 .f32) (main_arg5 : FVec F S4096x3072 .f32) (main_arg6 : FVec F S4096x3072 .f32) : IVec S_ 1 :=
  let main_v0 : IVec S1 32 := (extractStridedSlice S1 ![4] · slices_S8_S1_4) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![4] · slices_S8_S1_4) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  main_v6
-- ==== Pre_b_b_grp_chips_named.lean ====
abbrev S8 : Shape := ⟨1, ![8]⟩
abbrev S8x4x256 : Shape := ⟨3, ![8, 4, 256]⟩
abbrev S4x4x256 : Shape := ⟨3, ![4, 4, 256]⟩
abbrev S1 : Shape := ⟨1, ![1]⟩
abbrev S_ : Shape := ⟨0, ![]⟩

class Facts : Prop where
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1

variable [Facts]

def fn_part1 {F : FTy → Type} [FloatOps F] (main_arg0 : IVec S8 32) (main_v14 : IVec S_ 1) (main_v17 : IVec S_ 1) (main_v18 : IVec S1 32) : IVec S_ 1 :=
  let main_v19 : IVec S_ 32 := shapeCast S_ main_v18 shapeCasts_S1_S_
  let main_c_4 : IVec S_ 32 := constantI S_ 32 4#32
  let main_v20 : IVec S_ 1 := cmpi .slt main_v19 main_c_4
  let main_v21 : IVec S_ 1 := andi main_v17 main_v20
  let main_v22 : IVec S_ 1 := andi main_v14 main_v21
  let main_v23 : IVec S1 32 := (extractStridedSlice S1 ![3] · slices_S8_S1_3) main_arg0
  let main_v24 : IVec S_ 32 := shapeCast S_ main_v23 shapeCasts_S1_S_
  let main_c_5 : IVec S_ 32 := constantI S_ 32 0#32
  let main_v25 : IVec S_ 1 := cmpi .sge main_v24 main_c_5
  let main_v26 : IVec S1 32 := (extractStridedSlice S1 ![3] · slices_S8_S1_3) main_arg0
  let main_v27 : IVec S_ 32 := shapeCast S_ main_v26 shapeCasts_S1_S_
  let main_c_6 : IVec S_ 32 := constantI S_ 32 2#32
  let main_v28 : IVec S_ 1 := cmpi .slt main_v27 main_c_6
  let main_v29 : IVec S_ 1 := andi main_v25 main_v28
  let main_v30 : IVec S_ 1 := andi main_v22 main_v29
  main_v30

def fn {F : FTy → Type} [FloatOps F] (main_arg0 : IVec S8 32) (main_arg1 : FVec F S8x4x256 .f32) (main_arg2 : FVec F S4x4x256 .f32) : IVec S_ 1 :=
  let main_v0 : IVec S1 32 := (extractStridedSlice S1 ![0] · slices_S8_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S8_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S8_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![1] · slices_S8_S1_1) main_arg0
  let main_v11 : IVec S_ 32 := shapeCast S_ main_v10 shapeCasts_S1_S_
  let main_c_2 : IVec S_ 32 := constantI S_ 32 4#32
  let main_v12 : IVec S_ 1 := cmpi .slt main_v11 main_c_2
  let main_v13 : IVec S_ 1 := andi main_v9 main_v12
  let main_v14 : IVec S_ 1 := andi main_v6 main_v13
  let main_v15 : IVec S1 32 := (extractStridedSlice S1 ![2] · slices_S8_S1_2) main_arg0
  let main_v16 : IVec S_ 32 := shapeCast S_ main_v15 shapeCasts_S1_S_
  let main_c_3 : IVec S_ 32 := constantI S_ 32 0#32
  let main_v17 : IVec S_ 1 := cmpi .sge main_v16 main_c_3
  let main_v18 : IVec S1 32 := (extractStridedSlice S1 ![2] · slices_S8_S1_2) main_arg0
  fn_part1 (F := F) main_arg0 main_v14 main_v17 main_v18
-- ==== Pre_b_b_grp_named.lean ====
abbrev S8 : Shape := ⟨1, ![8]⟩
abbrev S8x4x256 : Shape := ⟨3, ![8, 4, 256]⟩
abbrev S4x4x256 : Shape := ⟨3, ![4, 4, 256]⟩
abbrev S3x4x256 : Shape := ⟨3, ![3, 4, 256]⟩
abbrev S4x256 : Shape := ⟨2, ![4, 256]⟩
abbrev S1 : Shape := ⟨1, ![1]⟩
abbrev S_ : Shape := ⟨0, ![]⟩

class Facts : Prop where
  slices_S8_S1_4 : S8.Slices ![4] S1
  shapeCasts_S1_S_ : S1.ShapeCasts S_
  slices_S8_S1_5 : S8.Slices ![5] S1

variable [Facts]

def fn {F : FTy → Type} [FloatOps F] (main_arg0 : IVec S8 32) (main_arg1 : FVec F S8x4x256 .f32) (main_arg2 : FVec F S4x4x256 .f32) (main_arg3 : FVec F S3x4x256 .f32) (main_arg4 : FVec F S4x256 .f32) (main_arg5 : FVec F S4x256 .f32) (main_arg6 : FVec F S4x256 .f32) : IVec S_ 1 :=
  let main_v0 : IVec S1 32 := (extractStridedSlice S1 ![4] · slices_S8_S1_4) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![4] · slices_S8_S1_4) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![5] · slices_S8_S1_5) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![5] · slices_S8_S1_5) main_arg0
  let main_v11 : IVec S_ 32 := shapeCast S_ main_v10 shapeCasts_S1_S_
  let main_c_2 : IVec S_ 32 := constantI S_ 32 8#32
  let main_v12 : IVec S_ 1 := cmpi .slt main_v11 main_c_2
  let main_v13 : IVec S_ 1 := andi main_v9 main_v12
  let main_v14 : IVec S_ 1 := andi main_v6 main_v13
  main_v14
-- ==== Pre_b_scale_chips_named.lean ====
abbrev S8 : Shape := ⟨1, ![8]⟩
abbrev S8x1x1024 : Shape := ⟨3, ![8, 1, 1024]⟩
abbrev S4x1x1024 : Shape := ⟨3, ![4, 1, 1024]⟩
abbrev S1 : Shape := ⟨1, ![1]⟩
abbrev S_ : Shape := ⟨0, ![]⟩

class Facts : Prop where
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1

variable [Facts]

def fn_part1 {F : FTy → Type} [FloatOps F] (main_arg0 : IVec S8 32) (main_v14 : IVec S_ 1) (main_v17 : IVec S_ 1) (main_v18 : IVec S1 32) : IVec S_ 1 :=
  let main_v19 : IVec S_ 32 := shapeCast S_ main_v18 shapeCasts_S1_S_
  let main_c_4 : IVec S_ 32 := constantI S_ 32 4#32
  let main_v20 : IVec S_ 1 := cmpi .slt main_v19 main_c_4
  let main_v21 : IVec S_ 1 := andi main_v17 main_v20
  let main_v22 : IVec S_ 1 := andi main_v14 main_v21
  let main_v23 : IVec S1 32 := (extractStridedSlice S1 ![3] · slices_S8_S1_3) main_arg0
  let main_v24 : IVec S_ 32 := shapeCast S_ main_v23 shapeCasts_S1_S_
  let main_c_5 : IVec S_ 32 := constantI S_ 32 0#32
  let main_v25 : IVec S_ 1 := cmpi .sge main_v24 main_c_5
  let main_v26 : IVec S1 32 := (extractStridedSlice S1 ![3] · slices_S8_S1_3) main_arg0
  let main_v27 : IVec S_ 32 := shapeCast S_ main_v26 shapeCasts_S1_S_
  let main_c_6 : IVec S_ 32 := constantI S_ 32 2#32
  let main_v28 : IVec S_ 1 := cmpi .slt main_v27 main_c_6
  let main_v29 : IVec S_ 1 := andi main_v25 main_v28
  let main_v30 : IVec S_ 1 := andi main_v22 main_v29
  main_v30

def fn {F : FTy → Type} [FloatOps F] (main_arg0 : IVec S8 32) (main_arg1 : FVec F S8x1x1024 .f32) (main_arg2 : FVec F S4x1x1024 .f32) : IVec S_ 1 :=
  let main_v0 : IVec S1 32 := (extractStridedSlice S1 ![0] · slices_S8_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S8_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S8_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![1] · slices_S8_S1_1) main_arg0
  let main_v11 : IVec S_ 32 := shapeCast S_ main_v10 shapeCasts_S1_S_
  let main_c_2 : IVec S_ 32 := constantI S_ 32 4#32
  let main_v12 : IVec S_ 1 := cmpi .slt main_v11 main_c_2
  let main_v13 : IVec S_ 1 := andi main_v9 main_v12
  let main_v14 : IVec S_ 1 := andi main_v6 main_v13
  let main_v15 : IVec S1 32 := (extractStridedSlice S1 ![2] · slices_S8_S1_2) main_arg0
  let main_v16 : IVec S_ 32 := shapeCast S_ main_v15 shapeCasts_S1_S_
  let main_c_3 : IVec S_ 32 := constantI S_ 32 0#32
  let main_v17 : IVec S_ 1 := cmpi .sge main_v16 main_c_3
  let main_v18 : IVec S1 32 := (extractStridedSlice S1 ![2] · slices_S8_S1_2) main_arg0
  fn_part1 (F := F) main_arg0 main_v14 main_v17 main_v18
-- ==== Pre_b_scale_named.lean ====
abbrev S8 : Shape := ⟨1, ![8]⟩
abbrev S8x1x1024 : Shape := ⟨3, ![8, 1, 1024]⟩
abbrev S4x1x1024 : Shape := ⟨3, ![4, 1, 1024]⟩
abbrev S3x1x1024 : Shape := ⟨3, ![3, 1, 1024]⟩
abbrev S1x1024 : Shape := ⟨2, ![1, 1024]⟩
abbrev S1 : Shape := ⟨1, ![1]⟩
abbrev S_ : Shape := ⟨0, ![]⟩

class Facts : Prop where
  slices_S8_S1_4 : S8.Slices ![4] S1
  shapeCasts_S1_S_ : S1.ShapeCasts S_
  slices_S8_S1_5 : S8.Slices ![5] S1

variable [Facts]

def fn {F : FTy → Type} [FloatOps F] (main_arg0 : IVec S8 32) (main_arg1 : FVec F S8x1x1024 .f32) (main_arg2 : FVec F S4x1x1024 .f32) (main_arg3 : FVec F S3x1x1024 .f32) (main_arg4 : FVec F S1x1024 .f32) (main_arg5 : FVec F S1x1024 .f32) (main_arg6 : FVec F S1x1024 .f32) : IVec S_ 1 :=
  let main_v0 : IVec S1 32 := (extractStridedSlice S1 ![4] · slices_S8_S1_4) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![4] · slices_S8_S1_4) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![5] · slices_S8_S1_5) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![5] · slices_S8_S1_5) main_arg0
  let main_v11 : IVec S_ 32 := shapeCast S_ main_v10 shapeCasts_S1_S_
  let main_c_2 : IVec S_ 32 := constantI S_ 32 8#32
  let main_v12 : IVec S_ 1 := cmpi .slt main_v11 main_c_2
  let main_v13 : IVec S_ 1 := andi main_v9 main_v12
  let main_v14 : IVec S_ 1 := andi main_v6 main_v13
  main_v14
-- ==== Pre_b_w_grp_chips_named.lean ====
abbrev S8 : Shape := ⟨1, ![8]⟩
abbrev S8x1024x2048 : Shape := ⟨3, ![8, 1024, 2048]⟩
abbrev S4x1024x2048 : Shape := ⟨3, ![4, 1024, 2048]⟩
abbrev S1 : Shape := ⟨1, ![1]⟩
abbrev S_ : Shape := ⟨0, ![]⟩

class Facts : Prop where
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1

variable [Facts]

def fn_part1 {F : FTy → Type} [FloatOps F] (main_arg0 : IVec S8 32) (main_v14 : IVec S_ 1) (main_v17 : IVec S_ 1) (main_v18 : IVec S1 32) : IVec S_ 1 :=
  let main_v19 : IVec S_ 32 := shapeCast S_ main_v18 shapeCasts_S1_S_
  let main_c_4 : IVec S_ 32 := constantI S_ 32 4#32
  let main_v20 : IVec S_ 1 := cmpi .slt main_v19 main_c_4
  let main_v21 : IVec S_ 1 := andi main_v17 main_v20
  let main_v22 : IVec S_ 1 := andi main_v14 main_v21
  let main_v23 : IVec S1 32 := (extractStridedSlice S1 ![3] · slices_S8_S1_3) main_arg0
  let main_v24 : IVec S_ 32 := shapeCast S_ main_v23 shapeCasts_S1_S_
  let main_c_5 : IVec S_ 32 := constantI S_ 32 0#32
  let main_v25 : IVec S_ 1 := cmpi .sge main_v24 main_c_5
  let main_v26 : IVec S1 32 := (extractStridedSlice S1 ![3] · slices_S8_S1_3) main_arg0
  let main_v27 : IVec S_ 32 := shapeCast S_ main_v26 shapeCasts_S1_S_
  let main_c_6 : IVec S_ 32 := constantI S_ 32 2#32
  let main_v28 : IVec S_ 1 := cmpi .slt main_v27 main_c_6
  let main_v29 : IVec S_ 1 := andi main_v25 main_v28
  let main_v30 : IVec S_ 1 := andi main_v22 main_v29
  main_v30

def fn {F : FTy → Type} [FloatOps F] (main_arg0 : IVec S8 32) (main_arg1 : FVec F S8x1024x2048 .bf16) (main_arg2 : FVec F S4x1024x2048 .bf16) : IVec S_ 1 :=
  let main_v0 : IVec S1 32 := (extractStridedSlice S1 ![0] · slices_S8_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S8_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S8_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![1] · slices_S8_S1_1) main_arg0
  let main_v11 : IVec S_ 32 := shapeCast S_ main_v10 shapeCasts_S1_S_
  let main_c_2 : IVec S_ 32 := constantI S_ 32 4#32
  let main_v12 : IVec S_ 1 := cmpi .slt main_v11 main_c_2
  let main_v13 : IVec S_ 1 := andi main_v9 main_v12
  let main_v14 : IVec S_ 1 := andi main_v6 main_v13
  let main_v15 : IVec S1 32 := (extractStridedSlice S1 ![2] · slices_S8_S1_2) main_arg0
  let main_v16 : IVec S_ 32 := shapeCast S_ main_v15 shapeCasts_S1_S_
  let main_c_3 : IVec S_ 32 := constantI S_ 32 0#32
  let main_v17 : IVec S_ 1 := cmpi .sge main_v16 main_c_3
  let main_v18 : IVec S1 32 := (extractStridedSlice S1 ![2] · slices_S8_S1_2) main_arg0
  fn_part1 (F := F) main_arg0 main_v14 main_v17 main_v18
-- ==== Pre_b_w_grp_named.lean ====
abbrev S8 : Shape := ⟨1, ![8]⟩
abbrev S8x1024x2048 : Shape := ⟨3, ![8, 1024, 2048]⟩
abbrev S4x1024x2048 : Shape := ⟨3, ![4, 1024, 2048]⟩
abbrev S3x1024x2048 : Shape := ⟨3, ![3, 1024, 2048]⟩
abbrev S1024x2048 : Shape := ⟨2, ![1024, 2048]⟩
abbrev S1 : Shape := ⟨1, ![1]⟩
abbrev S_ : Shape := ⟨0, ![]⟩

class Facts : Prop where
  slices_S8_S1_4 : S8.Slices ![4] S1
  shapeCasts_S1_S_ : S1.ShapeCasts S_
  slices_S8_S1_5 : S8.Slices ![5] S1

variable [Facts]

def fn {F : FTy → Type} [FloatOps F] (main_arg0 : IVec S8 32) (main_arg1 : FVec F S8x1024x2048 .bf16) (main_arg2 : FVec F S4x1024x2048 .bf16) (main_arg3 : FVec F S3x1024x2048 .bf16) (main_arg4 : FVec F S1024x2048 .f32) (main_arg5 : FVec F S1024x2048 .f32) (main_arg6 : FVec F S1024x2048 .f32) : IVec S_ 1 :=
  let main_v0 : IVec S1 32 := (extractStridedSlice S1 ![4] · slices_S8_S1_4) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![4] · slices_S8_S1_4) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![5] · slices_S8_S1_5) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![5] · slices_S8_S1_5) main_arg0
  let main_v11 : IVec S_ 32 := shapeCast S_ main_v10 shapeCasts_S1_S_
  let main_c_2 : IVec S_ 32 := constantI S_ 32 8#32
  let main_v12 : IVec S_ 1 := cmpi .slt main_v11 main_c_2
  let main_v13 : IVec S_ 1 := andi main_v9 main_v12
  let main_v14 : IVec S_ 1 := andi main_v6 main_v13
  main_v14
-- ==== Pre_b_w_in_chips_named.lean ====
abbrev S8 : Shape := ⟨1, ![8]⟩
abbrev S8x4096x2048 : Shape := ⟨3, ![8, 4096, 2048]⟩
abbrev S4x4096x2048 : Shape := ⟨3, ![4, 4096, 2048]⟩
abbrev S1 : Shape := ⟨1, ![1]⟩
abbrev S_ : Shape := ⟨0, ![]⟩

class Facts : Prop where
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1

variable [Facts]

def fn_part1 {F : FTy → Type} [FloatOps F] (main_arg0 : IVec S8 32) (main_v14 : IVec S_ 1) (main_v17 : IVec S_ 1) (main_v18 : IVec S1 32) : IVec S_ 1 :=
  let main_v19 : IVec S_ 32 := shapeCast S_ main_v18 shapeCasts_S1_S_
  let main_c_4 : IVec S_ 32 := constantI S_ 32 4#32
  let main_v20 : IVec S_ 1 := cmpi .slt main_v19 main_c_4
  let main_v21 : IVec S_ 1 := andi main_v17 main_v20
  let main_v22 : IVec S_ 1 := andi main_v14 main_v21
  let main_v23 : IVec S1 32 := (extractStridedSlice S1 ![3] · slices_S8_S1_3) main_arg0
  let main_v24 : IVec S_ 32 := shapeCast S_ main_v23 shapeCasts_S1_S_
  let main_c_5 : IVec S_ 32 := constantI S_ 32 0#32
  let main_v25 : IVec S_ 1 := cmpi .sge main_v24 main_c_5
  let main_v26 : IVec S1 32 := (extractStridedSlice S1 ![3] · slices_S8_S1_3) main_arg0
  let main_v27 : IVec S_ 32 := shapeCast S_ main_v26 shapeCasts_S1_S_
  let main_c_6 : IVec S_ 32 := constantI S_ 32 2#32
  let main_v28 : IVec S_ 1 := cmpi .slt main_v27 main_c_6
  let main_v29 : IVec S_ 1 := andi main_v25 main_v28
  let main_v30 : IVec S_ 1 := andi main_v22 main_v29
  main_v30

def fn {F : FTy → Type} [FloatOps F] (main_arg0 : IVec S8 32) (main_arg1 : FVec F S8x4096x2048 .bf16) (main_arg2 : FVec F S4x4096x2048 .bf16) : IVec S_ 1 :=
  let main_v0 : IVec S1 32 := (extractStridedSlice S1 ![0] · slices_S8_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S8_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S8_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![1] · slices_S8_S1_1) main_arg0
  let main_v11 : IVec S_ 32 := shapeCast S_ main_v10 shapeCasts_S1_S_
  let main_c_2 : IVec S_ 32 := constantI S_ 32 4#32
  let main_v12 : IVec S_ 1 := cmpi .slt main_v11 main_c_2
  let main_v13 : IVec S_ 1 := andi main_v9 main_v12
  let main_v14 : IVec S_ 1 := andi main_v6 main_v13
  let main_v15 : IVec S1 32 := (extractStridedSlice S1 ![2] · slices_S8_S1_2) main_arg0
  let main_v16 : IVec S_ 32 := shapeCast S_ main_v15 shapeCasts_S1_S_
  let main_c_3 : IVec S_ 32 := constantI S_ 32 0#32
  let main_v17 : IVec S_ 1 := cmpi .sge main_v16 main_c_3
  let main_v18 : IVec S1 32 := (extractStridedSlice S1 ![2] · slices_S8_S1_2) main_arg0
  fn_part1 (F := F) main_arg0 main_v14 main_v17 main_v18
-- ==== Pre_b_w_in_named.lean ====
abbrev S8 : Shape := ⟨1, ![8]⟩
abbrev S8x4096x2048 : Shape := ⟨3, ![8, 4096, 2048]⟩
abbrev S4x4096x2048 : Shape := ⟨3, ![4, 4096, 2048]⟩
abbrev S3x4096x2048 : Shape := ⟨3, ![3, 4096, 2048]⟩
abbrev S4096x2048 : Shape := ⟨2, ![4096, 2048]⟩
abbrev S1 : Shape := ⟨1, ![1]⟩
abbrev S_ : Shape := ⟨0, ![]⟩

class Facts : Prop where
  slices_S8_S1_4 : S8.Slices ![4] S1
  shapeCasts_S1_S_ : S1.ShapeCasts S_
  slices_S8_S1_5 : S8.Slices ![5] S1

variable [Facts]

def fn {F : FTy → Type} [FloatOps F] (main_arg0 : IVec S8 32) (main_arg1 : FVec F S8x4096x2048 .bf16) (main_arg2 : FVec F S4x4096x2048 .bf16) (main_arg3 : FVec F S3x4096x2048 .bf16) (main_arg4 : FVec F S4096x2048 .f32) (main_arg5 : FVec F S4096x2048 .f32) (main_arg6 : FVec F S4096x2048 .f32) : IVec S_ 1 :=
  let main_v0 : IVec S1 32 := (extractStridedSlice S1 ![4] · slices_S8_S1_4) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![4] · slices_S8_S1_4) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![5] · slices_S8_S1_5) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![5] · slices_S8_S1_5) main_arg0
  let main_v11 : IVec S_ 32 := shapeCast S_ main_v10 shapeCasts_S1_S_
  let main_c_2 : IVec S_ 32 := constantI S_ 32 8#32
  let main_v12 : IVec S_ 1 := cmpi .slt main_v11 main_c_2
  let main_v13 : IVec S_ 1 := andi main_v9 main_v12
  let main_v14 : IVec S_ 1 := andi main_v6 main_v13
  main_v14
-- ==== Pre_b_w_out_chips_named.lean ====
abbrev S8 : Shape := ⟨1, ![8]⟩
abbrev S8x1024x4096 : Shape := ⟨3, ![8, 1024, 4096]⟩
abbrev S4x1024x4096 : Shape := ⟨3, ![4, 1024, 4096]⟩
abbrev S1 : Shape := ⟨1, ![1]⟩
abbrev S_ : Shape := ⟨0, ![]⟩

class Facts : Prop where
  slices_S8_S1_0 : S8.Slices ![0] S1
  shapeCasts_S1_S_ : S1.ShapeCasts S_
  slices_S8_S1_1 : S8.Slices ![1] S1
  slices_S8_S1_2 : S8.Slices ![2] S1
  slices_S8_S1_3 : S8.Slices ![3] S1

variable [Facts]

def fn_part1 {F : FTy → Type} [FloatOps F] (main_arg0 : IVec S8 32) (main_v14 : IVec S_ 1) (main_v17 : IVec S_ 1) (main_v18 : IVec S1 32) : IVec S_ 1 :=
  let main_v19 : IVec S_ 32 := shapeCast S_ main_v18 shapeCasts_S1_S_
  let main_c_4 : IVec S_ 32 := constantI S_ 32 4#32
  let main_v20 : IVec S_ 1 := cmpi .slt main_v19 main_c_4
  let main_v21 : IVec S_ 1 := andi main_v17 main_v20
  let main_v22 : IVec S_ 1 := andi main_v14 main_v21
  let main_v23 : IVec S1 32 := (extractStridedSlice S1 ![3] · slices_S8_S1_3) main_arg0
  let main_v24 : IVec S_ 32 := shapeCast S_ main_v23 shapeCasts_S1_S_
  let main_c_5 : IVec S_ 32 := constantI S_ 32 0#32
  let main_v25 : IVec S_ 1 := cmpi .sge main_v24 main_c_5
  let main_v26 : IVec S1 32 := (extractStridedSlice S1 ![3] · slices_S8_S1_3) main_arg0
  let main_v27 : IVec S_ 32 := shapeCast S_ main_v26 shapeCasts_S1_S_
  let main_c_6 : IVec S_ 32 := constantI S_ 32 2#32
  let main_v28 : IVec S_ 1 := cmpi .slt main_v27 main_c_6
  let main_v29 : IVec S_ 1 := andi main_v25 main_v28
  let main_v30 : IVec S_ 1 := andi main_v22 main_v29
  main_v30

def fn {F : FTy → Type} [FloatOps F] (main_arg0 : IVec S8 32) (main_arg1 : FVec F S8x1024x4096 .bf16) (main_arg2 : FVec F S4x1024x4096 .bf16) : IVec S_ 1 :=
  let main_v0 : IVec S1 32 := (extractStridedSlice S1 ![0] · slices_S8_S1_0) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![0] · slices_S8_S1_0) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![1] · slices_S8_S1_1) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![1] · slices_S8_S1_1) main_arg0
  let main_v11 : IVec S_ 32 := shapeCast S_ main_v10 shapeCasts_S1_S_
  let main_c_2 : IVec S_ 32 := constantI S_ 32 4#32
  let main_v12 : IVec S_ 1 := cmpi .slt main_v11 main_c_2
  let main_v13 : IVec S_ 1 := andi main_v9 main_v12
  let main_v14 : IVec S_ 1 := andi main_v6 main_v13
  let main_v15 : IVec S1 32 := (extractStridedSlice S1 ![2] · slices_S8_S1_2) main_arg0
  let main_v16 : IVec S_ 32 := shapeCast S_ main_v15 shapeCasts_S1_S_
  let main_c_3 : IVec S_ 32 := constantI S_ 32 0#32
  let main_v17 : IVec S_ 1 := cmpi .sge main_v16 main_c_3
  let main_v18 : IVec S1 32 := (extractStridedSlice S1 ![2] · slices_S8_S1_2) main_arg0
  fn_part1 (F := F) main_arg0 main_v14 main_v17 main_v18
-- ==== Pre_b_w_out_named.lean ====
abbrev S8 : Shape := ⟨1, ![8]⟩
abbrev S8x1024x4096 : Shape := ⟨3, ![8, 1024, 4096]⟩
abbrev S4x1024x4096 : Shape := ⟨3, ![4, 1024, 4096]⟩
abbrev S3x1024x4096 : Shape := ⟨3, ![3, 1024, 4096]⟩
abbrev S1024x4096 : Shape := ⟨2, ![1024, 4096]⟩
abbrev S1 : Shape := ⟨1, ![1]⟩
abbrev S_ : Shape := ⟨0, ![]⟩

class Facts : Prop where
  slices_S8_S1_4 : S8.Slices ![4] S1
  shapeCasts_S1_S_ : S1.ShapeCasts S_
  slices_S8_S1_5 : S8.Slices ![5] S1

variable [Facts]

def fn {F : FTy → Type} [FloatOps F] (main_arg0 : IVec S8 32) (main_arg1 : FVec F S8x1024x4096 .bf16) (main_arg2 : FVec F S4x1024x4096 .bf16) (main_arg3 : FVec F S3x1024x4096 .bf16) (main_arg4 : FVec F S1024x4096 .f32) (main_arg5 : FVec F S1024x4096 .f32) (main_arg6 : FVec F S1024x4096 .f32) : IVec S_ 1 :=
  let main_v0 : IVec S1 32 := (extractStridedSlice S1 ![4] · slices_S8_S1_4) main_arg0
  let main_v1 : IVec S_ 32 := shapeCast S_ main_v0 shapeCasts_S1_S_
  let main_c : IVec S_ 32 := constantI S_ 32 0#32
  let main_v2 : IVec S_ 1 := cmpi .sge main_v1 main_c
  let main_v3 : IVec S1 32 := (extractStridedSlice S1 ![4] · slices_S8_S1_4) main_arg0
  let main_v4 : IVec S_ 32 := shapeCast S_ main_v3 shapeCasts_S1_S_
  let main_c_0 : IVec S_ 32 := constantI S_ 32 4#32
  let main_v5 : IVec S_ 1 := cmpi .slt main_v4 main_c_0
  let main_v6 : IVec S_ 1 := andi main_v2 main_v5
  let main_v7 : IVec S1 32 := (extractStridedSlice S1 ![5] · slices_S8_S1_5) main_arg0
  let main_v8 : IVec S_ 32 := shapeCast S_ main_v7 shapeCasts_S1_S_
  let main_c_1 : IVec S_ 32 := constantI S_ 32 0#32
  let main_v9 : IVec S_ 1 := cmpi .sge main_v8 main_c_1
  let main_v10 : IVec S1 32 := (extractStridedSlice S1 ![5] · slices_S8_S1_5) main_arg0
  let main_v11 : IVec S_ 32 := shapeCast S_ main_v10 shapeCasts_S1_S_
  let main_c_2 : IVec S_ 32 := constantI S_ 32 8#32
  let main_v12 : IVec S_ 1 := cmpi .slt main_v11 main_c_2
  let main_v13 : IVec S_ 1 := andi main_v9 main_v12
  let main_v14 : IVec S_ 1 := andi main_v6 main_v13
  main_v14
-- ==== Pre_dpooled_finite.lean ====
abbrev S4096x8192 : Shape := ⟨2, ![4096, 8192]⟩
abbrev S4096x16384 : Shape := ⟨2, ![4096, 16384]⟩
abbrev S_ : Shape := ⟨0, ![]⟩

class Facts : Prop where
  bcast_S_S4096x8192 : S_.BroadcastsInDim S4096x8192 (![] : Fin 0 → Fin S4096x8192.rank)

variable [Facts]

def fn {F : FTy → Type} [FloatOps F] (main_arg0 : FVec F S4096x8192 .f32) (main_arg1 : FVec F S4096x16384 .bf16) : IVec S4096x8192 1 :=
  let main_v0 : FVec F S4096x8192 .f32 := Host.absf main_arg0
  let main_cst : FVec F S_ .f32 := constant S_ .f32 0x7F800000#32
  let main_v1 : FVec F S4096x8192 .f32 := broadcastInDim S4096x8192 ![] bcast_S_S4096x8192 main_cst
  let main_v2 : IVec S4096x8192 1 := cmpf .olt main_v0 main_v1
  main_v2
-- ==== Pre_first_finite.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)

variable [Facts]

def fn {F : FTy → Type} [FloatOps F] (main_arg0 : FVec F S4096x4096 .f32) (main_arg1 : FVec F S4096x4096 .f32) (main_arg2 : FVec F S4096x4096 .f32) (main_arg3 : FVec F S1x4096 .f32) : IVec S4096x4096 1 :=
  let main_v0 : FVec F S4096x4096 .f32 := Host.absf main_arg1
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x4096 .f32 := Host.absf main_arg2
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : IVec S4096x4096 1 := andi main_v2 main_v5
  let main_v7 : FVec F S1x4096 .f32 := Host.absf main_arg3
  let main_cst_1 : FVec F S_ .f32 := constant S_ .f32 0x7F800000#32
  let main_v8 : FVec F S1x4096 .f32 := broadcastInDim S1x4096 ![] bcast_S_S1x4096 main_cst_1
  let main_v9 : IVec S1x4096 1 := cmpf .olt main_v7 main_v8
  let main_v10 : IVec S4096x4096 1 := broadcastInDim S4096x4096 ![0, 1] bcast_S1x4096_S4096x4096_0_1 main_v9
  let main_v11 : IVec S4096x4096 1 := andi main_v6 main_v10
  main_v11
-- ==== Pre_gate_bwd_finite.lean ====
abbrev S4096x8192 : Shape := ⟨2, ![4096, 8192]⟩
abbrev S4096x16384 : Shape := ⟨2, ![4096, 16384]⟩
abbrev S1x8192 : Shape := ⟨2, ![1, 8192]⟩
abbrev S_ : Shape := ⟨0, ![]⟩

class Facts : Prop where
  bitsLt_bf16_f32 : FTy.bits .bf16 < FTy.bits .f32
  bcast_S_S4096x8192 : S_.BroadcastsInDim S4096x8192 (![] : Fin 0 → Fin S4096x8192.rank)
  bcast_S_S1x8192 : S_.BroadcastsInDim S1x8192 (![] : Fin 0 → Fin S1x8192.rank)
  bcast_S1x8192_S4096x8192_0_1 : S1x8192.BroadcastsInDim S4096x8192 (![0, 1] : Fin 2 → Fin S4096x8192.rank)

variable [Facts]

def fn {F : FTy → Type} [FloatOps F] (main_arg0 : FVec F S4096x8192 .bf16) (main_arg1 : FVec F S4096x8192 .bf16) (main_arg2 : FVec F S4096x16384 .bf16) (main_arg3 : FVec F S1x8192 .f32) (main_arg4 : FVec F S1x8192 .f32) : IVec S4096x8192 1 :=
  let main_v0 : FVec F S4096x8192 .f32 := (extf .f32 · bitsLt_bf16_f32) main_arg0
  let main_v1 : FVec F S4096x8192 .f32 := Host.absf main_v0
  let main_cst : FVec F S_ .f32 := constant S_ .f32 0x7F800000#32
  let main_v2 : FVec F S4096x8192 .f32 := broadcastInDim S4096x8192 ![] bcast_S_S4096x8192 main_cst
  let main_v3 : IVec S4096x8192 1 := cmpf .olt main_v1 main_v2
  let main_v4 : FVec F S4096x8192 .f32 := (extf .f32 · bitsLt_bf16_f32) main_arg1
  let main_v5 : FVec F S4096x8192 .f32 := Host.absf main_v4
  let main_cst_0 : FVec F S_ .f32 := constant S_ .f32 0x7F800000#32
  let main_v6 : FVec F S4096x8192 .f32 := broadcastInDim S4096x8192 ![] bcast_S_S4096x8192 main_cst_0
  let main_v7 : IVec S4096x8192 1 := cmpf .olt main_v5 main_v6
  let main_v8 : IVec S4096x8192 1 := andi main_v3 main_v7
  let main_v9 : FVec F S1x8192 .f32 := Host.absf main_arg3
  let main_cst_1 : FVec F S_ .f32 := constant S_ .f32 0x7F800000#32
  let main_v10 : FVec F S1x8192 .f32 := broadcastInDim S1x8192 ![] bcast_S_S1x8192 main_cst_1
  let main_v11 : IVec S1x8192 1 := cmpf .olt main_v9 main_v10
  let main_v12 : IVec S4096x8192 1 := broadcastInDim S4096x8192 ![0, 1] bcast_S1x8192_S4096x8192_0_1 main_v11
  let main_v13 : IVec S4096x8192 1 := andi main_v8 main_v12
  let main_v14 : FVec F S1x8192 .f32 := Host.absf main_arg4
  let main_cst_2 : FVec F S_ .f32 := constant S_ .f32 0x7F800000#32
  let main_v15 : FVec F S1x8192 .f32 := broadcastInDim S1x8192 ![] bcast_S_S1x8192 main_cst_2
  let main_v16 : IVec S1x8192 1 := cmpf .olt main_v14 main_v15
  let main_v17 : IVec S4096x8192 1 := broadcastInDim S4096x8192 ![0, 1] bcast_S1x8192_S4096x8192_0_1 main_v16
  let main_v18 : IVec S4096x8192 1 := andi main_v13 main_v17
  main_v18
-- ==== Pre_head_finite.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)

variable [Facts]

def fn {F : FTy → Type} [FloatOps F] (main_arg0 : FVec F S4096x4096 .f32) (main_arg1 : FVec F S4096x4096 .f32) (main_arg2 : FVec F S4096x4096 .f32) (main_arg3 : FVec F S1x4096 .f32) : IVec S4096x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : IVec S4096x4096 1 := andi main_v2 main_v5
  let main_v7 : FVec F S4096x4096 .f32 := Host.absf main_arg2
  let main_cst_1 : FVec F S_ .f32 := constant S_ .f32 0x7F800000#32
  let main_v8 : FVec F S4096x4096 .f32 := broadcastInDim S4096x4096 ![] bcast_S_S4096x4096 main_cst_1
  let main_v9 : IVec S4096x4096 1 := cmpf .olt main_v7 main_v8
  let main_v10 : IVec S4096x4096 1 := andi main_v6 main_v9
  let main_v11 : FVec F S1x4096 .f32 := Host.absf main_arg3
  let main_cst_2 : FVec F S_ .f32 := constant S_ .f32 0x7F800000#32
  let main_v12 : FVec F S1x4096 .f32 := broadcastInDim S1x4096 ![] bcast_S_S1x4096 main_cst_2
  let main_v13 : IVec S1x4096 1 := cmpf .olt main_v11 main_v12
  let main_v14 : IVec S4096x4096 1 := broadcastInDim S4096x4096 ![0, 1] bcast_S1x4096_S4096x4096_0_1 main_v13
  let main_v15 : IVec S4096x4096 1 := andi main_v10 main_v14
  main_v15
-- ==== Pre_mid_finite.lean ====
abbrev S4096x4096 : Shape := ⟨2, ![4096, 4096]⟩
abbrev S1x4096 : Shape := ⟨2, ![1, 4096]⟩
abbrev S_ : Shape := ⟨0, ![]⟩

class Facts : Prop where
  bcast_S_S4096x4096 : S_.BroadcastsInDim S4096x4096 (![] : Fin 0 → Fin S4096x4096.rank)
  bcast_S_S1x4096 : S_.BroadcastsInDim S1x4096 (![] : Fin 0 → Fin S1x4096.rank)
  bcast_S1x4096_S4096x4096_0_1 : S1x4096.BroadcastsInDim S4096x4096 (![0, 1] : Fin 2 → Fin S4096x4096.rank)

variable [Facts]

def fn_part1 {F : FTy → Type} [FloatOps F] (main_arg5 : FVec F S1x4096 .f32) (main_v15 : IVec S4096x4096 1) (main_v18 : IVec S4096x4096 1) : IVec S4096x4096 1 :=
  let main_v19 : IVec S4096x4096 1 := andi main_v15 main_v18
  let main_v20 : FVec F S1x4096 .f32 := Host.absf main_arg5
  let main_cst_4 : FVec F S_ .f32 := constant S_ .f32 0x7F800000#32
  let main_v21 : FVec F S1x4096 .f32 := broadcastInDim S1x4096 ![] bcast_S_S1x4096 main_cst_4
  let main_v22 : IVec S1x4096 1 := cmpf .olt main_v20 main_v21
  let main_v23 : IVec S4096x4096 1 := broadcastInDim S4096x4096 ![0, 1] bcast_S1x4096_S4096x4096_0_1 main_v22
  let main_v24 : IVec S4096x4096 1 := andi main_v19 main_v23
  main_v24

def fn {F : FTy → Type} [FloatOps F] (main_arg0 : FVec F S4096x4096 .f32) (main_arg1 : FVec F S4096x4096 .f32) (main_arg2 : FVec F S4096x4096 .f32) (main_arg3 : FVec F S1x4096 .f32) (main_arg4 : FVec F S4096x4096 .f32) (main_arg5 : FVec F S1x4096 .f32) : IVec S4096x4096 1 :=
  let main_v0 : FVec F S4096x4096 .f32 := Host.absf main_arg0
  let main_cst : FVec F S_ .f32 := constant S_ .f32 0x7F800000#32
  let main_v1 : FVec F S4096x4096 .f32 := broadcastInDim S4096x4096 ![] bcast_S_S4096x4096 main_cst
  let main_v2 : IVec S4096x4096 1 := cmpf .olt main_v0 main_v1
  let main_v3 : FVec F S4096x4096 .f32 := Host.absf main_arg1
  let main_cst_0 : FVec F S_ .f32 := constant S_ .f32 0x7F800000#32
  let main_v4 : FVec F S4096x4096 .f32 := broadcastInDim S4096x4096 ![] bcast_S_S4096x4096 main_cst_0
  let main_v5 : IVec S4096x4096 1 := cmpf .olt main_v3 main_v4
  let main_v6 : IVec S4096x4096 1 := andi main_v2 main_v5
  let main_v7 : FVec F S4096x4096 .f32 := Host.absf main_arg2
  let main_cst_1 : FVec F S_ .f32 := constant S_ .f32 0x7F800000#32
  let main_v8 : FVec F S4096x4096 .f32 := broadcastInDim S4096x4096 ![] bcast_S_S4096x4096 main_cst_1
  let main_v9 : IVec S4096x4096 1 := cmpf .olt main_v7 main_v8
  let main_v10 : IVec S4096x4096 1 := andi main_v6 main_v9
  let main_v11 : FVec F S1x4096 .f32 := Host.absf main_arg3
  let main_cst_2 : FVec F S_ .f32 := constant S_ .f32 0x7F800000#32
  let main_v12 : FVec F S1x4096 .f32 := broadcastInDim S1x4096 ![] bcast_S_S1x4096 main_cst_2
  let main_v13 : IVec S1x4096 1 := cmpf .olt main_v11 main_v12
  let main_v14 : IVec S4096x4096 1 := broadcastInDim S4096x4096 ![0, 1] bcast_S1x4096_S4096x4096_0_1 main_v13
  let main_v15 : IVec S4096x4096 1 := andi main_v10 main_v14
  let main_v16 : FVec F S4096x4096 .f32 := Host.absf main_arg4
  let main_cst_3 : FVec F S_ .f32 := constant S_ .f32 0x7F800000#32
  let main_v17 : FVec F S4096x4096 .f32 := broadcastInDim S4096x4096 ![] bcast_S_S4096x4096 main_cst_3
  let main_v18 : IVec S4096x4096 1 := cmpf .olt main_v16 main_v17
  fn_part1 (F := F) main_arg5 main_v15 main_v18
-- ==== Pre_proj_finite.lean ====
abbrev S4096x16384 : Shape := ⟨2, ![4096, 16384]⟩
abbrev S4096x8192 : Shape := ⟨2, ![4096, 8192]⟩
abbrev S_ : Shape := ⟨0, ![]⟩

class Facts : Prop where
  slices_S4096x16384_S4096x8192_0_0 : S4096x16384.Slices ![0, 0] S4096x8192
  bitsLt_bf16_f32 : FTy.bits .bf16 < FTy.bits .f32
  bcast_S_S4096x8192 : S_.BroadcastsInDim S4096x8192 (![] : Fin 0 → Fin S4096x8192.rank)

variable [Facts]

def fn {F : FTy → Type} [FloatOps F] (main_arg0 : FVec F S4096x16384 .bf16) : IVec S4096x8192 1 :=
  let main_v0 : FVec F S4096x8192 .bf16 := (extractStridedSlice S4096x8192 ![0, 0] · slices_S4096x16384_S4096x8192_0_0) main_arg0
  let main_v1 : FVec F S4096x8192 .f32 := (extf .f32 · bitsLt_bf16_f32) main_v0
  let main_v2 : FVec F S4096x8192 .f32 := Host.absf main_v1
  let main_cst : FVec F S_ .f32 := constant S_ .f32 0x7F800000#32
  let main_v3 : FVec F S4096x8192 .f32 := broadcastInDim S4096x8192 ![] bcast_S_S4096x8192 main_cst
  let main_v4 : IVec S4096x8192 1 := cmpf .olt main_v2 main_v3
  main_v4
-- ==== Kernel.lean ====
abbrev S4096x8192 : Shape := ⟨2, ![4096, 8192]⟩
abbrev S4096x16384 : Shape := ⟨2, ![4096, 16384]⟩
abbrev S512x1024 : Shape := ⟨2, ![512, 1024]⟩
abbrev S16x1024 : Shape := ⟨2, ![16, 1024]⟩
abbrev S512x1 : Shape := ⟨2, ![512, 1]⟩
abbrev S528x1024 : Shape := ⟨2, ![528, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .f32⟩
  | .hbm, ⟨1, _⟩ => ⟨S4096x16384, .bf16⟩
  | .hbm, ⟨2, _⟩ => ⟨S4096x16384, .bf16⟩
  | .local _ .vmem, ⟨0, _⟩ => ⟨S512x1024, .f32⟩
  | .local _ .vmem, ⟨1, _⟩ => ⟨S512x1024, .f32⟩
  | .local _ .vmem, ⟨2, _⟩ => ⟨S16x1024, .f32⟩
  | .local _ .vmem, ⟨3, _⟩ => ⟨S16x1024, .f32⟩
  | .local _ .vmem, ⟨4, _⟩ => ⟨S512x1024, .bf16⟩
  | .local _ .vmem, ⟨5, _⟩ => ⟨S512x1024, .bf16⟩
  | _, _ => ⟨S4096x8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_19 : BitVec 32 := 0#32
  let v46 : BitVec 1 := Scalar.cmpi .eq v16 c0_i32_19
  let v47 : BitVec 32 := Scalar.extui v46
  let c0_i32_20 : BitVec 32 := 0#32
  let v48 : BitVec 1 := Scalar.cmpi .ne v47 c0_i32_20
  v48

def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_21 : BitVec 32 := 1#32
  let v49 : BitVec 1 := Scalar.cmpi .eq v16 c1_i32_21
  let v50 : BitVec 32 := Scalar.extui v49
  let c0_i32_22 : BitVec 32 := 0#32
  let v51 : BitVec 1 := Scalar.cmpi .ne v50 c0_i32_22
  v51

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c2_i32_23 : BitVec 32 := 2#32
  let v52 : BitVec 1 := Scalar.cmpi .eq v16 c2_i32_23
  let v53 : BitVec 32 := Scalar.extui v52
  let c0_i32_24 : BitVec 32 := 0#32
  let v54 : BitVec 1 := Scalar.cmpi .ne v53 c0_i32_24
  v54

def k0_cond4 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c3_i32 : BitVec 32 := 3#32
  let v55 : BitVec 1 := Scalar.cmpi .eq v16 c3_i32
  let v56 : BitVec 32 := Scalar.extui v55
  let c0_i32_25 : BitVec 32 := 0#32
  let v57 : BitVec 1 := Scalar.cmpi .ne v56 c0_i32_25
  v57

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c1_i32 : BitVec 32 := 1#32
  let v0 : BitVec 32 := Scalar.addi arg0 c1_i32
  let c32_i32 : BitVec 32 := 32#32
  let v1 : BitVec 32 := Scalar.muli v0 c32_i32
  let c255_i32 : BitVec 32 := 255#32
  let v2 : BitVec 32 := Scalar.minsi v1 c255_i32
  let c0_i32 : BitVec 32 := 0#32
  ![v2.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== ReferenceIdeal.lean ====
abbrev S4096x8192 : Shape := ⟨2, ![4096, 8192]⟩
abbrev S4096x16384 : Shape := ⟨2, ![4096, 16384]⟩
abbrev S_ : Shape := ⟨0, ![]⟩
abbrev S2x2048x8192 : Shape := ⟨3, ![2, 2048, 8192]⟩
abbrev S2x2048x4x2048 : Shape := ⟨4, ![2, 2048, 4, 2048]⟩
abbrev S2048 : Shape := ⟨1, ![2048]⟩
abbrev S2x2048x1x2048 : Shape := ⟨4, ![2, 2048, 1, 2048]⟩
abbrev S2x2048x2048 : Shape := ⟨3, ![2, 2048, 2048]⟩
abbrev S2x2x2048 : Shape := ⟨3, ![2, 2, 2048]⟩
abbrev S2x2046x2048 : Shape := ⟨3, ![2, 2046, 2048]⟩
abbrev S2048x1 : Shape := ⟨2, ![2048, 1]⟩
abbrev S1x2048x1 : Shape := ⟨3, ![1, 2048, 1]⟩
abbrev S2x4x2048 : Shape := ⟨3, ![2, 4, 2048]⟩
abbrev S2x2044x2048 : Shape := ⟨3, ![2, 2044, 2048]⟩
abbrev S2x8x2048 : Shape := ⟨3, ![2, 8, 2048]⟩
abbrev S2x2040x2048 : Shape := ⟨3, ![2, 2040, 2048]⟩
abbrev S2x16x2048 : Shape := ⟨3, ![2, 16, 2048]⟩
abbrev S2x2032x2048 : Shape := ⟨3, ![2, 2032, 2048]⟩

abbrev nBuf : Space → Nat
  | .hbm => 158
  | .vmem => 0
  | .smem => 0
  | _ => 0

abbrev hbmTy0_0 (i : Nat) : BufTy := match i % 128 with
  | 0 => ⟨S4096x8192, .f32⟩
  | 1 => ⟨S4096x16384, .bf16⟩
  | 2 => ⟨S_, .bf16⟩
  | 3 => ⟨S2x2048x8192, .bf16⟩
  | 4 => ⟨S2x2048x4x2048, .bf16⟩
  | 5 => ⟨S2x2048x4x2048, .f32⟩
  | 6 => ⟨S_, .f32⟩
  | 7 => ⟨S_, .f32⟩
  | 8 => ⟨S2x2048x4x2048, .f32⟩
  | 9 => ⟨S2048, .f32⟩
  | 10 => ⟨S_, .f32⟩
  | 11 => ⟨S2048, .f32⟩
  | 12 => ⟨S2048, .f32⟩
  | 13 => ⟨S2x2048x1x2048, .f32⟩
  | 14 => ⟨S2x2048x2048, .f32⟩
  | 15 => ⟨S2x2x2048, .f32⟩
  | 16 => ⟨S_, .f32⟩
  | 17 => ⟨S2x2x2048, .f32⟩
  | 18 => ⟨S2x2046x2048, .f32⟩
  | 19 => ⟨S2x2048x2048, .f32⟩
  | 20 => ⟨S_, .f32⟩
  | 21 => ⟨S2x2x2048, .f32⟩
  | 22 => ⟨S_, .f32⟩
  | 23 => ⟨S2048, .f32⟩
  | 24 => ⟨S2048, .f32⟩
  | 25 => ⟨S2048x1, .f32⟩
  | 26 => ⟨S2x2048x2048, .f32⟩
  | 27 => ⟨S1x2048x1, .f32⟩
  | 28 => ⟨S2x2048x2048, .f32⟩
  | 29 => ⟨S2x2048x2048, .f32⟩
  | 30 => ⟨S2x2048x1x2048, .f32⟩
  | 31 => ⟨S2x2048x2048, .f32⟩
  | 32 => ⟨S2x4x2048, .f32⟩
  | 33 => ⟨S_, .f32⟩
  | 34 => ⟨S2x4x2048, .f32⟩
  | 35 => ⟨S2x2044x2048, .f32⟩
  | 36 => ⟨S2x2048x2048, .f32⟩
  | 37 => ⟨S_, .f32⟩
  | 38 => ⟨S2x4x2048, .f32⟩
  | 39 => ⟨S_, .f32⟩
  | 40 => ⟨S2048, .f32⟩
  | 41 => ⟨S2048, .f32⟩
  | 42 => ⟨S2048x1, .f32⟩
  | 43 => ⟨S2x2048x2048, .f32⟩
  | 44 => ⟨S1x2048x1, .f32⟩
  | 45 => ⟨S2x2048x2048, .f32⟩
  | 46 => ⟨S2x2048x2048, .f32⟩
  | 47 => ⟨S2x2048x1x2048, .f32⟩
  | 48 => ⟨S2x2048x2048, .f32⟩
  | 49 => ⟨S2x8x2048, .f32⟩
  | 50 => ⟨S_, .f32⟩
  | 51 => ⟨S2x8x2048, .f32⟩
  | 52 => ⟨S2x2040x2048, .f32⟩
  | 53 => ⟨S2x2048x2048, .f32⟩
  | 54 => ⟨S_, .f32⟩
  | 55 => ⟨S2x8x2048, .f32⟩
  | 56 => ⟨S_, .f32⟩
  | 57 => ⟨S2048, .f32⟩
  | 58 => ⟨S2048, .f32⟩
  | 59 => ⟨S2048x1, .f32⟩
  | 60 => ⟨S2x2048x2048, .f32⟩
  | 61 => ⟨S1x2048x1, .f32⟩
  | 62 => ⟨S2x2048x2048, .f32⟩
  | 63 => ⟨S2x2048x2048, .f32⟩
  | 64 => ⟨S2x2048x1x2048, .f32⟩
  | 65 => ⟨S2x2048x2048, .f32⟩
  | 66 => ⟨S2x16x2048, .f32⟩
  | 67 => ⟨S_, .f32⟩
  | 68 => ⟨S2x16x2048, .f32⟩
  | 69 => ⟨S2x2032x2048, .f32⟩
  | 70 => ⟨S2x2048x2048, .f32⟩
  | 71 => ⟨S_, .f32⟩
  | 72 => ⟨S2x16x2048, .f32⟩
  | 73 => ⟨S_, .f32⟩
  | 74 => ⟨S2048, .f32⟩
  | 75 => ⟨S2048, .f32⟩
  | 76 => ⟨S2048x1, .f32⟩
  | 77 => ⟨S2x2048x2048, .f32⟩
  | 78 => ⟨S1x2048x1, .f32⟩
  | 79 => ⟨S2x2048x2048, .f32⟩
  | 80 => ⟨S2x2048x2048, .f32⟩
  | 81 => ⟨S2x2048x1x2048, .f32⟩
  | 82 => ⟨S2x2048x1x2048, .f32⟩
  | 83 => ⟨S2x2048x1x2048, .f32⟩
  | 84 => ⟨S2x2048x1x2048, .f32⟩
  | 85 => ⟨S2x2048x4x2048, .f32⟩
  | 86 => ⟨S2x2048x4x2048, .f32⟩
  | 87 => ⟨S2x2048x4x2048, .bf16⟩
  | 88 => ⟨S2x2048x8192, .bf16⟩
  | 89 => ⟨S4096x8192, .bf16⟩
  | 90 => ⟨S2x2048x8192, .bf16⟩
  | 91 => ⟨S2x2048x4x2048, .bf16⟩
  | 92 => ⟨S2x2048x4x2048, .f32⟩
  | 93 => ⟨S2x2048x4x2048, .f32⟩
  | 94 => ⟨S2x2048x1x2048, .f32⟩
  | 95 => ⟨S2x2048x2048, .f32⟩
  | 96 => ⟨S2x2048x1x2048, .f32⟩
  | 97 => ⟨S2x2048x2048, .f32⟩
  | 98 => ⟨S2x2048x1x2048, .f32⟩
  | 99 => ⟨S2x2048x2048, .f32⟩
  | 100 => ⟨S2x2048x1x2048, .f32⟩
  | 101 => ⟨S2x2048x2048, .f32⟩
  | 102 => ⟨S2x2048x2048, .f32⟩
  | 103 => ⟨S2x2048x2048, .f32⟩
  | 104 => ⟨S2x2048x2048, .f32⟩
  | 105 => ⟨S2x16x2048, .f32⟩
  | 106 => ⟨S2x2032x2048, .f32⟩
  | 107 => ⟨S_, .f32⟩
  | 108 => ⟨S2x2048x2048, .f32⟩
  | 109 => ⟨S2x2048x2048, .f32⟩
  | 110 => ⟨S2x2048x1x2048, .f32⟩
  | 111 => ⟨S_, .f32⟩
  | 112 => ⟨S2x2048x4x2048, .f32⟩
  | 113 => ⟨S2x2048x2048, .f32⟩
  | 114 => ⟨S2x2048x2048, .f32⟩
  | 115 => ⟨S2x2048x2048, .f32⟩
  | 116 => ⟨S2x8x2048, .f32⟩
  | 117 => ⟨S2x2040x2048, .f32⟩
  | 118 => ⟨S_, .f32⟩
  | 119 => ⟨S2x2048x2048, .f32⟩
  | 120 => ⟨S2x2048x2048, .f32⟩
  | 121 => ⟨S2x2048x1x2048, .f32⟩
  | 122 => ⟨S_, .f32⟩
  | 123 => ⟨S2x2048x4x2048, .f32⟩
  | 124 => ⟨S2x2048x4x2048, .f32⟩
  | 125 => ⟨S2x2048x2048, .f32⟩
  | 126 => ⟨S2x2048x2048, .f32⟩
  | 127 => ⟨S2x2048x2048, .f32⟩
  | _ => ⟨S4096x8192, .f32⟩

abbrev hbmTy0_1 (i : Nat) : BufTy := match i % 128 with
  | 0 => ⟨S2x4x2048, .f32⟩
  | 1 => ⟨S2x2044x2048, .f32⟩
  | 2 => ⟨S_, .f32⟩
  | 3 => ⟨S2x2048x2048, .f32⟩
  | 4 => ⟨S2x2048x2048, .f32⟩
  | 5 => ⟨S2x2048x1x2048, .f32⟩
  | 6 => ⟨S_, .f32⟩
  | 7 => ⟨S2x2048x4x2048, .f32⟩
  | 8 => ⟨S2x2048x4x2048, .f32⟩
  | 9 => ⟨S2x2048x2048, .f32⟩
  | 10 => ⟨S2x2048x2048, .f32⟩
  | 11 => ⟨S2x2048x2048, .f32⟩
  | 12 => ⟨S2x2x2048, .f32⟩
  | 13 => ⟨S2x2046x2048, .f32⟩
  | 14 => ⟨S_, .f32⟩
  | 15 => ⟨S2x2048x2048, .f32⟩
  | 16 => ⟨S2x2048x2048, .f32⟩
  | 17 => ⟨S2x2048x1x2048, .f32⟩
  | 18 => ⟨S_, .f32⟩
  | 19 => ⟨S2x2048x4x2048, .f32⟩
  | 20 => ⟨S2x2048x4x2048, .f32⟩
  | 21 => ⟨S_, .f32⟩
  | 22 => ⟨S_, .f32⟩
  | 23 => ⟨S2x2048x4x2048, .f32⟩
  | 24 => ⟨S2x2048x4x2048, .f32⟩
  | 25 => ⟨S2x2048x4x2048, .bf16⟩
  | 26 => ⟨S2x2048x8192, .bf16⟩
  | 27 => ⟨S4096x8192, .bf16⟩
  | 28 => ⟨S4096x8192, .bf16⟩
  | 29 => ⟨S4096x16384, .bf16⟩
  | _ => ⟨S4096x8192, .f32⟩

abbrev hbmTy (i : Nat) : BufTy := match i / 128 with
  | 0 => hbmTy0_0 i
  | 1 => hbmTy0_1 i
  | _ => ⟨S4096x8192, .f32⟩

abbrev bufTy : (tb : Table) → Fin (tcTables nBuf tb) → BufTy
  | .hbm, ⟨i, _⟩ => hbmTy i
  | _, _ => ⟨S4096x8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_call0_call0_cst : Ref sig .tc := ⟨.hbm, 6, rfl⟩
abbrev main_call0_call0_v0 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_cst_1 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_cst_2 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_4 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_5 : Ref sig .tc := ⟨.hbm, 37, rfl⟩
abbrev main_v27 : Ref sig .tc := ⟨.hbm, 38, rfl⟩
abbrev main_cst_6 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_cst_7 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩
abbrev main_cst_8 : Ref sig .tc := ⟨.hbm, 54, rfl⟩
abbrev main_v41 : Ref sig .tc := ⟨.hbm, 55, rfl⟩
abbrev main_cst_9 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_cst_10 : Ref sig .tc := ⟨.hbm, 67, rfl⟩
abbrev main_v52 : Ref sig .tc := ⟨.hbm, 68, rfl⟩
abbrev main_v53 : Ref sig .tc := ⟨.hbm, 69, rfl⟩
abbrev main_v54 : Ref sig .tc := ⟨.hbm, 70, rfl⟩
abbrev main_cst_11 : Ref sig .tc := ⟨.hbm, 71, rfl⟩
abbrev main_v55 : Ref sig .tc := ⟨.hbm, 72, rfl⟩
abbrev main_cst_12 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_v63 : Ref sig .tc := ⟨.hbm, 81, rfl⟩
abbrev main_v64 : Ref sig .tc := ⟨.hbm, 82, rfl⟩
abbrev main_v65 : Ref sig .tc := ⟨.hbm, 83, rfl⟩
abbrev main_v66 : Ref sig .tc := ⟨.hbm, 84, rfl⟩
abbrev main_v67 : Ref sig .tc := ⟨.hbm, 85, rfl⟩
abbrev main_v68 : Ref sig .tc := ⟨.hbm, 86, rfl⟩
abbrev main_v69 : Ref sig .tc := ⟨.hbm, 87, rfl⟩
abbrev main_v70 : Ref sig .tc := ⟨.hbm, 88, rfl⟩
abbrev main_v71 : Ref sig .tc := ⟨.hbm, 89, rfl⟩
abbrev main_v72 : Ref sig .tc := ⟨.hbm, 90, rfl⟩
abbrev main_v73 : Ref sig .tc := ⟨.hbm, 91, rfl⟩
abbrev main_v74 : Ref sig .tc := ⟨.hbm, 92, rfl⟩
abbrev main_v75 : Ref sig .tc := ⟨.hbm, 93, rfl⟩
abbrev main_v76 : Ref sig .tc := ⟨.hbm, 94, rfl⟩
abbrev main_v77 : Ref sig .tc := ⟨.hbm, 95, rfl⟩
abbrev main_v78 : Ref sig .tc := ⟨.hbm, 96, rfl⟩
abbrev main_v79 : Ref sig .tc := ⟨.hbm, 97, rfl⟩
abbrev main_v80 : Ref sig .tc := ⟨.hbm, 98, rfl⟩
abbrev main_v81 : Ref sig .tc := ⟨.hbm, 99, rfl⟩
abbrev main_v82 : Ref sig .tc := ⟨.hbm, 100, rfl⟩
abbrev main_v83 : Ref sig .tc := ⟨.hbm, 101, rfl⟩
abbrev main_v84 : Ref sig .tc := ⟨.hbm, 102, rfl⟩
abbrev main_v85 : Ref sig .tc := ⟨.hbm, 103, rfl⟩
abbrev main_v86 : Ref sig .tc := ⟨.hbm, 104, rfl⟩
abbrev main_v87 : Ref sig .tc := ⟨.hbm, 105, rfl⟩
abbrev main_v88 : Ref sig .tc := ⟨.hbm, 106, rfl⟩
abbrev main_cst_13 : Ref sig .tc := ⟨.hbm, 107, rfl⟩
abbrev main_v89 : Ref sig .tc := ⟨.hbm, 108, rfl⟩
abbrev main_v90 : Ref sig .tc := ⟨.hbm, 109, rfl⟩
abbrev main_v91 : Ref sig .tc := ⟨.hbm, 110, rfl⟩
abbrev main_cst_14 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_cst_15 : Ref sig .tc := ⟨.hbm, 118, rfl⟩
abbrev main_v98 : Ref sig .tc := ⟨.hbm, 119, rfl⟩
abbrev main_v99 : Ref sig .tc := ⟨.hbm, 120, rfl⟩
abbrev main_v100 : Ref sig .tc := ⟨.hbm, 121, rfl⟩
abbrev main_cst_16 : Ref sig .tc := ⟨.hbm, 122, rfl⟩
abbrev main_v101 : Ref sig .tc := ⟨.hbm, 123, rfl⟩
abbrev main_v102 : Ref sig .tc := ⟨.hbm, 124, rfl⟩
abbrev main_v103 : Ref sig .tc := ⟨.hbm, 125, rfl⟩
abbrev main_v104 : Ref sig .tc := ⟨.hbm, 126, rfl⟩
abbrev main_v105 : Ref sig .tc := ⟨.hbm, 127, rfl⟩
abbrev main_v106 : Ref sig .tc := ⟨.hbm, 128, rfl⟩
abbrev main_v107 : Ref sig .tc := ⟨.hbm, 129, rfl⟩
abbrev main_cst_17 : Ref sig .tc := ⟨.hbm, 130, rfl⟩
abbrev main_v108 : Ref sig .tc := ⟨.hbm, 131, rfl⟩
abbrev main_v109 : Ref sig .tc := ⟨.hbm, 132, rfl⟩
abbrev main_v110 : Ref sig .tc := ⟨.hbm, 133, rfl⟩
abbrev main_cst_18 : Ref sig .tc := ⟨.hbm, 134, rfl⟩
abbrev main_v111 : Ref sig .tc := ⟨.hbm, 135, rfl⟩
abbrev main_v112 : Ref sig .tc := ⟨.hbm, 136, rfl⟩
abbrev main_v113 : Ref sig .tc := ⟨.hbm, 137, rfl⟩
abbrev main_v114 : Ref sig .tc := ⟨.hbm, 138, rfl⟩
abbrev main_v115 : Ref sig .tc := ⟨.hbm, 139, rfl⟩
abbrev main_v116 : Ref sig .tc := ⟨.hbm, 140, rfl⟩
abbrev main_v117 : Ref sig .tc := ⟨.hbm, 141, rfl⟩
abbrev main_cst_19 : Ref sig .tc := ⟨.hbm, 142, rfl⟩
abbrev main_v118 : Ref sig .tc := ⟨.hbm, 143, rfl⟩
abbrev main_v119 : Ref sig .tc := ⟨.hbm, 144, rfl⟩
abbrev main_v120 : Ref sig .tc := ⟨.hbm, 145, rfl⟩
abbrev main_cst_20 : Ref sig .tc := ⟨.hbm, 146, rfl⟩
abbrev main_v121 : Ref sig .tc := ⟨.hbm, 147, rfl⟩
abbrev main_v122 : Ref sig .tc := ⟨.hbm, 148, rfl⟩
abbrev main_call1_call0_cst : Ref sig .tc := ⟨.hbm, 149, rfl⟩
abbrev main_call1_call0_v0 : Ref sig .tc := ⟨.hbm, 150, rfl⟩
abbrev main_v123 : Ref sig .tc := ⟨.hbm, 151, rfl⟩
abbrev main_v124 : Ref sig .tc := ⟨.hbm, 152, rfl⟩
abbrev main_v125 : Ref sig .tc := ⟨.hbm, 153, rfl⟩
abbrev main_v126 : Ref sig .tc := ⟨.hbm, 154, rfl⟩
abbrev main_v127 : Ref sig .tc := ⟨.hbm, 155, rfl⟩
abbrev main_v128 : Ref sig .tc := ⟨.hbm, 156, rfl⟩
abbrev main_v129 : Ref sig .tc := ⟨.hbm, 157, rfl⟩

abbrev nD : Nat := 1
abbrev τ : Topo := Topo.v7x

variable {F : FTy → Type} [FloatOps F]
-- ==== Kernel2.lean ====
abbrev S4096x8192 : Shape := ⟨2, ![4096, 8192]⟩
abbrev S4096x16384 : Shape := ⟨2, ![4096, 16384]⟩
abbrev S1x8192 : Shape := ⟨2, ![1, 8192]⟩
abbrev S256x1024 : Shape := ⟨2, ![256, 1024]⟩
abbrev S1x1024 : Shape := ⟨2, ![1, 1024]⟩
abbrev S1024 : Shape := ⟨1, ![1024]⟩

abbrev nBuf : Space → Nat
  | .hbm => 9
  | .vmem => 18
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x16384, .bf16⟩
  | .hbm, ⟨3, _⟩ => ⟨S1x8192, .f32⟩
  | .hbm, ⟨4, _⟩ => ⟨S1x8192, .f32⟩
  | .hbm, ⟨5, _⟩ => ⟨S4096x8192, .bf16⟩
  | .hbm, ⟨6, _⟩ => ⟨S4096x16384, .bf16⟩
  | .hbm, ⟨7, _⟩ => ⟨S1x8192, .f32⟩
  | .hbm, ⟨8, _⟩ => ⟨S1x8192, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .vmem, ⟨10, _⟩ => ⟨S256x1024, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | .local _ .vmem, ⟨14, _⟩ => ⟨S1x1024, .f32⟩
  | .local _ .vmem, ⟨15, _⟩ => ⟨S1x1024, .f32⟩
  | .local _ .vmem, ⟨16, _⟩ => ⟨S1x1024, .f32⟩
  | .local _ .vmem, ⟨17, _⟩ => ⟨S1x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg0
  let c0_i32 : BitVec 32 := 0#32
  ![arg1.toNat, v0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S256x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S256x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4096x8192 : Shape := ⟨2, ![4096, 8192]⟩
abbrev S4096x16384 : Shape := ⟨2, ![4096, 16384]⟩
abbrev S1x8192 : Shape := ⟨2, ![1, 8192]⟩
abbrev S8192 : Shape := ⟨1, ![8192]⟩
abbrev S_ : Shape := ⟨0, ![]⟩

abbrev nBuf : Space → Nat
  | .hbm => 57
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x16384, .bf16⟩
  | .hbm, ⟨3, _⟩ => ⟨S1x8192, .f32⟩
  | .hbm, ⟨4, _⟩ => ⟨S1x8192, .f32⟩
  | .hbm, ⟨5, _⟩ => ⟨S4096x8192, .bf16⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S8192, .f32⟩
  | .hbm, ⟨10, _⟩ => ⟨S8192, .f32⟩
  | .hbm, ⟨11, _⟩ => ⟨S1x8192, .f32⟩
  | .hbm, ⟨12, _⟩ => ⟨S4096x8192, .f32⟩
  | .hbm, ⟨13, _⟩ => ⟨S4096x8192, .f32⟩
  | .hbm, ⟨14, _⟩ => ⟨S1x8192, .f32⟩
  | .hbm, ⟨15, _⟩ => ⟨S4096x8192, .f32⟩
  | .hbm, ⟨16, _⟩ => ⟨S4096x8192, .f32⟩
  | .hbm, ⟨17, _⟩ => ⟨S4096x8192, .f32⟩
  | .hbm, ⟨18, _⟩ => ⟨S4096x8192, .f32⟩
  | .hbm, ⟨19, _⟩ => ⟨S_, .f32⟩
  | .hbm, ⟨20, _⟩ => ⟨S4096x8192, .f32⟩
  | .hbm, ⟨21, _⟩ => ⟨S4096x8192, .f32⟩
  | .hbm, ⟨22, _⟩ => ⟨S_, .f32⟩
  | .hbm, ⟨23, _⟩ => ⟨S4096x8192, .f32⟩
  | .hbm, ⟨24, _⟩ => ⟨S4096x8192, .f32⟩
  | .hbm, ⟨25, _⟩ => ⟨S_, .f32⟩
  | .hbm, ⟨26, _⟩ => ⟨S4096x8192, .f32⟩
  | .hbm, ⟨27, _⟩ => ⟨S4096x8192, .f32⟩
  | .hbm, ⟨28, _⟩ => ⟨S4096x8192, .f32⟩
  | .hbm, ⟨29, _⟩ => ⟨S4096x8192, .f32⟩
  | .hbm, ⟨30, _⟩ => ⟨S4096x8192, .f32⟩
  | .hbm, ⟨31, _⟩ => ⟨S4096x8192, .f32⟩
  | .hbm, ⟨32, _⟩ => ⟨S4096x8192, .f32⟩
  | .hbm, ⟨33, _⟩ => ⟨S4096x8192, .f32⟩
  | .hbm, ⟨34, _⟩ => ⟨S4096x8192, .f32⟩
  | .hbm, ⟨35, _⟩ => ⟨S4096x8192, .f32⟩
  | .hbm, ⟨36, _⟩ => ⟨S4096x8192, .f32⟩
  | .hbm, ⟨37, _⟩ => ⟨S4096x8192, .f32⟩
  | .hbm, ⟨38, _⟩ => ⟨S_, .f32⟩
  | .hbm, ⟨39, _⟩ => ⟨S8192, .f32⟩
  | .hbm, ⟨40, _⟩ => ⟨S1x8192, .f32⟩
  | .hbm, ⟨41, _⟩ => ⟨S4096x8192, .f32⟩
  | .hbm, ⟨42, _⟩ => ⟨S4096x8192, .f32⟩
  | .hbm, ⟨43, _⟩ => ⟨S_, .f32⟩
  | .hbm, ⟨44, _⟩ => ⟨S8192, .f32⟩
  | .hbm, ⟨45, _⟩ => ⟨S_, .f32⟩
  | .hbm, ⟨46, _⟩ => ⟨S8192, .f32⟩
  | .hbm, ⟨47, _⟩ => ⟨S1x8192, .f32⟩
  | .hbm, ⟨48, _⟩ => ⟨S_, .f32⟩
  | .hbm, ⟨49, _⟩ => ⟨S8192, .f32⟩
  | .hbm, ⟨50, _⟩ => ⟨S_, .f32⟩
  | .hbm, ⟨51, _⟩ => ⟨S4096x8192, .f32⟩
  | .hbm, ⟨52, _⟩ => ⟨S4096x16384, .f32⟩
  | .hbm, ⟨53, _⟩ => ⟨S4096x8192, .bf16⟩
  | .hbm, ⟨54, _⟩ => ⟨S4096x16384, .bf16⟩
  | .hbm, ⟨55, _⟩ => ⟨S1x8192, .f32⟩
  | .hbm, ⟨56, _⟩ => ⟨S1x8192, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_call0_v0 : Ref sig .tc := ⟨.hbm, 17, rfl⟩
abbrev main_call0_v1 : Ref sig .tc := ⟨.hbm, 18, rfl⟩
abbrev main_call0_cst : Ref sig .tc := ⟨.hbm, 19, rfl⟩
abbrev main_call0_v2 : Ref sig .tc := ⟨.hbm, 20, rfl⟩
abbrev main_call0_v3 : Ref sig .tc := ⟨.hbm, 21, rfl⟩
abbrev main_call0_cst_0 : Ref sig .tc := ⟨.hbm, 22, rfl⟩
abbrev main_call0_v4 : Ref sig .tc := ⟨.hbm, 23, rfl⟩
abbrev main_v12_2 : Ref sig .tc := ⟨.hbm, 24, rfl⟩
abbrev main_call0_cst_1 : Ref sig .tc := ⟨.hbm, 25, rfl⟩
abbrev main_call0_v6 : Ref sig .tc := ⟨.hbm, 26, rfl⟩
abbrev main_call0_v7 : Ref sig .tc := ⟨.hbm, 27, rfl⟩
abbrev main_v12_1 : Ref sig .tc := ⟨.hbm, 28, rfl⟩
abbrev main_v12_0 : Ref sig .tc := ⟨.hbm, 29, rfl⟩
abbrev main_v13 : Ref sig .tc := ⟨.hbm, 30, rfl⟩
abbrev main_v14 : Ref sig .tc := ⟨.hbm, 31, rfl⟩
abbrev main_v15 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_v16 : Ref sig .tc := ⟨.hbm, 36, rfl⟩
abbrev main_v17 : Ref sig .tc := ⟨.hbm, 37, rfl⟩
abbrev main_cst : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_0 : Ref sig .tc := ⟨.hbm, 43, rfl⟩
abbrev main_v22 : Ref sig .tc := ⟨.hbm, 44, rfl⟩
abbrev main_cst_1 : Ref sig .tc := ⟨.hbm, 45, rfl⟩
abbrev main_v23 : Ref sig .tc := ⟨.hbm, 46, rfl⟩
abbrev main_v24 : Ref sig .tc := ⟨.hbm, 47, rfl⟩
abbrev main_cst_2 : Ref sig .tc := ⟨.hbm, 48, rfl⟩
abbrev main_v25 : Ref sig .tc := ⟨.hbm, 49, rfl⟩
abbrev main_cst_3 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩

abbrev nD : Nat := 1
abbrev τ : Topo := Topo.v7x

variable {F : FTy → Type} [FloatOps F]
-- ==== Kernel3.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]
-- ==== Reference3Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 52
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S_, .f32⟩
  | .hbm, ⟨27, _⟩ => ⟨S4096, .f32⟩
  | .hbm, ⟨28, _⟩ => ⟨S1x4096, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S4096x4096, .f32⟩
  | .hbm, ⟨34, _⟩ => ⟨S_, .f32⟩
  | .hbm, ⟨35, _⟩ => ⟨S4096, .f32⟩
  | .hbm, ⟨36, _⟩ => ⟨S4096x1, .f32⟩
  | .hbm, ⟨37, _⟩ => ⟨S4096x4096, .f32⟩
  | .hbm, ⟨38, _⟩ => ⟨S4096x4096, .f32⟩
  | .hbm, ⟨39, _⟩ => ⟨S4096x4096, .f32⟩
  | .hbm, ⟨40, _⟩ => ⟨S4096x1, .f32⟩
  | .hbm, ⟨41, _⟩ => ⟨S_, .f32⟩
  | .hbm, ⟨42, _⟩ => ⟨S4096x1, .f32⟩
  | .hbm, ⟨43, _⟩ => ⟨S4096x1, .f32⟩
  | .hbm, ⟨44, _⟩ => ⟨S_, .f32⟩
  | .hbm, ⟨45, _⟩ => ⟨S4096, .f32⟩
  | .hbm, ⟨46, _⟩ => ⟨S4096x4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_3 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_v23 : Ref sig .tc := ⟨.hbm, 33, rfl⟩
abbrev main_cst_5 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_6 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩

abbrev nD : Nat := 1
abbrev τ : Topo := Topo.v7x

variable {F : FTy → Type} [FloatOps F]
-- ==== Kernel4.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 10
  | .vmem => 16
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S1x4096, .f32⟩
  | .hbm, ⟨6, _⟩ => ⟨S4096x4096, .f32⟩
  | .hbm, ⟨7, _⟩ => ⟨S4096x4096, .bf16⟩
  | .hbm, ⟨8, _⟩ => ⟨S1x4096, .f32⟩
  | .hbm, ⟨9, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S128x4096, .f32⟩
  | .local _ .vmem, ⟨8, _⟩ => ⟨S128x4096, .f32⟩
  | .local _ .vmem, ⟨9, _⟩ => ⟨S1x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .bf16⟩
  | .local _ .vmem, ⟨13, _⟩ => ⟨S128x4096, .bf16⟩
  | .local _ .vmem, ⟨14, _⟩ => ⟨S1x4096, .f32⟩
  | .local _ .vmem, ⟨15, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg9_0 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc0_sem5_0 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem9_0 : DmaSem sig := 15

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4096 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== Reference4Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 102
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096x4096, .f32⟩
  | .hbm, ⟨5, _⟩ => ⟨S1x4096, .f32⟩
  | .hbm, ⟨6, _⟩ => ⟨S4096, .f32⟩
  | .hbm, ⟨7, _⟩ => ⟨S4096x4096, .f32⟩
  | .hbm, ⟨8, _⟩ => ⟨S_, .f32⟩
  | .hbm, ⟨9, _⟩ => ⟨S4096, .f32⟩
  | .hbm, ⟨10, _⟩ => ⟨S4096x1, .f32⟩
  | .hbm, ⟨11, _⟩ => ⟨S_, .f32⟩
  | .hbm, ⟨12, _⟩ => ⟨S4096x1, .f32⟩
  | .hbm, ⟨13, _⟩ => ⟨S4096x1, .f32⟩
  | .hbm, ⟨14, _⟩ => ⟨S_, .f32⟩
  | .hbm, ⟨15, _⟩ => ⟨S4096x1, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x4096, .f32⟩
  | .hbm, ⟨23, _⟩ => ⟨S4096x4096, .f32⟩
  | .hbm, ⟨24, _⟩ => ⟨S1x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096, .f32⟩
  | .hbm, ⟨30, _⟩ => ⟨S1x4096, .f32⟩
  | .hbm, ⟨31, _⟩ => ⟨S4096x4096, .f32⟩
  | .hbm, ⟨32, _⟩ => ⟨S4096x4096, .f32⟩
  | .hbm, ⟨33, _⟩ => ⟨S_, .f32⟩
  | .hbm, ⟨34, _⟩ => ⟨S4096, .f32⟩
  | .hbm, ⟨35, _⟩ => ⟨S4096x4096, .f32⟩
  | .hbm, ⟨36, _⟩ => ⟨S_, .f32⟩
  | .hbm, ⟨37, _⟩ => ⟨S4096, .f32⟩
  | .hbm, ⟨38, _⟩ => ⟨S4096x1, .f32⟩
  | .hbm, ⟨39, _⟩ => ⟨S4096x4096, .f32⟩
  | .hbm, ⟨40, _⟩ => ⟨S4096x4096, .f32⟩
  | .hbm, ⟨41, _⟩ => ⟨S4096x4096, .f32⟩
  | .hbm, ⟨42, _⟩ => ⟨S4096x1, .f32⟩
  | .hbm, ⟨43, _⟩ => ⟨S_, .f32⟩
  | .hbm, ⟨44, _⟩ => ⟨S4096x1, .f32⟩
  | .hbm, ⟨45, _⟩ => ⟨S4096x1, .f32⟩
  | .hbm, ⟨46, _⟩ => ⟨S_, .f32⟩
  | .hbm, ⟨47, _⟩ => ⟨S4096, .f32⟩
  | .hbm, ⟨48, _⟩ => ⟨S4096x4096, .f32⟩
  | .hbm, ⟨49, _⟩ => ⟨S4096x4096, .f32⟩
  | .hbm, ⟨50, _⟩ => ⟨S4096x4096, .f32⟩
  | .hbm, ⟨51, _⟩ => ⟨S4096x4096, .f32⟩
  | .hbm, ⟨52, _⟩ => ⟨S4096x4096, .f32⟩
  | .hbm, ⟨53, _⟩ => ⟨S4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S4096x1, .f32⟩
  | .hbm, ⟨58, _⟩ => ⟨S_, .f32⟩
  | .hbm, ⟨59, _⟩ => ⟨S4096x1, .f32⟩
  | .hbm, ⟨60, _⟩ => ⟨S4096x1, .f32⟩
  | .hbm, ⟨61, _⟩ => ⟨S_, .f32⟩
  | .hbm, ⟨62, _⟩ => ⟨S4096x1, .f32⟩
  | .hbm, ⟨63, _⟩ => ⟨S4096x1, .f32⟩
  | .hbm, ⟨64, _⟩ => ⟨S4096x1, .f32⟩
  | .hbm, ⟨65, _⟩ => ⟨S4096x1, .f32⟩
  | .hbm, ⟨66, _⟩ => ⟨S_, .f32⟩
  | .hbm, ⟨67, _⟩ => ⟨S4096x1, .f32⟩
  | .hbm, ⟨68, _⟩ => ⟨S4096x1, .f32⟩
  | .hbm, ⟨69, _⟩ => ⟨S4096x4096, .f32⟩
  | .hbm, ⟨70, _⟩ => ⟨S4096x4096, .f32⟩
  | .hbm, ⟨71, _⟩ => ⟨S1x4096, .f32⟩
  | .hbm, ⟨72, _⟩ => ⟨S4096x4096, .f32⟩
  | .hbm, ⟨73, _⟩ => ⟨S4096x4096, .f32⟩
  | .hbm, ⟨74, _⟩ => ⟨S4096x4096, .f32⟩
  | .hbm, ⟨75, _⟩ => ⟨S_, .f32⟩
  | .hbm, ⟨76, _⟩ => ⟨S4096, .f32⟩
  | .hbm, ⟨77, _⟩ => ⟨S1x4096, .f32⟩
  | .hbm, ⟨78, _⟩ => ⟨S4096x4096, .f32⟩
  | .hbm, ⟨79, _⟩ => ⟨S4096x4096, .f32⟩
  | .hbm, ⟨80, _⟩ => ⟨S_, .f32⟩
  | .hbm, ⟨81, _⟩ => ⟨S4096, .f32⟩
  | .hbm, ⟨82, _⟩ => ⟨S4096x4096, .f32⟩
  | .hbm, ⟨83, _⟩ => ⟨S_, .f32⟩
  | .hbm, ⟨84, _⟩ => ⟨S4096, .f32⟩
  | .hbm, ⟨85, _⟩ => ⟨S4096x1, .f32⟩
  | .hbm, ⟨86, _⟩ => ⟨S4096x4096, .f32⟩
  | .hbm, ⟨87, _⟩ => ⟨S4096x4096, .f32⟩
  | .hbm, ⟨88, _⟩ => ⟨S4096x1, .f32⟩
  | .hbm, ⟨89, _⟩ => ⟨S_, .f32⟩
  | .hbm, ⟨90, _⟩ => ⟨S4096x1, .f32⟩
  | .hbm, ⟨91, _⟩ => ⟨S4096x1, .f32⟩
  | .hbm, ⟨92, _⟩ => ⟨S_, .f32⟩
  | .hbm, ⟨93, _⟩ => ⟨S4096, .f32⟩
  | .hbm, ⟨94, _⟩ => ⟨S4096x4096, .f32⟩
  | .hbm, ⟨95, _⟩ => ⟨S4096x4096, .f32⟩
  | .hbm, ⟨96, _⟩ => ⟨S4096x4096, .f32⟩
  | .hbm, ⟨97, _⟩ => ⟨S4096x4096, .f32⟩
  | .hbm, ⟨98, _⟩ => ⟨S4096x4096, .f32⟩
  | .hbm, ⟨99, _⟩ => ⟨S4096x4096, .bf16⟩
  | .hbm, ⟨100, _⟩ => ⟨S1x4096, .f32⟩
  | .hbm, ⟨101, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_cst_4 : Ref sig .tc := ⟨.hbm, 33, rfl⟩
abbrev main_v22 : Ref sig .tc := ⟨.hbm, 34, rfl⟩
abbrev main_v23 : Ref sig .tc := ⟨.hbm, 35, rfl⟩
abbrev main_cst_5 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_cst_6 : Ref sig .tc := ⟨.hbm, 43, rfl⟩
abbrev main_v30 : Ref sig .tc := ⟨.hbm, 44, rfl⟩
abbrev main_v31 : Ref sig .tc := ⟨.hbm, 45, rfl⟩
abbrev main_cst_7 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_8 : Ref sig .tc := ⟨.hbm, 55, rfl⟩
abbrev main_v40 : Ref sig .tc := ⟨.hbm, 56, rfl⟩
abbrev main_v41 : Ref sig .tc := ⟨.hbm, 57, rfl⟩
abbrev main_cst_9 : Ref sig .tc := ⟨.hbm, 58, rfl⟩
abbrev main_v42 : Ref sig .tc := ⟨.hbm, 59, rfl⟩
abbrev main_v43 : Ref sig .tc := ⟨.hbm, 60, rfl⟩
abbrev main_cst_10 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_cst_11 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_12 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_cst_13 : Ref sig .tc := ⟨.hbm, 80, rfl⟩
abbrev main_v60 : Ref sig .tc := ⟨.hbm, 81, rfl⟩
abbrev main_v61 : Ref sig .tc := ⟨.hbm, 82, rfl⟩
abbrev main_cst_14 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_cst_15 : Ref sig .tc := ⟨.hbm, 89, rfl⟩
abbrev main_v67 : Ref sig .tc := ⟨.hbm, 90, rfl⟩
abbrev main_v68 : Ref sig .tc := ⟨.hbm, 91, rfl⟩
abbrev main_cst_16 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩

abbrev nD : Nat := 1
abbrev τ : Topo := Topo.v7x

variable {F : FTy → Type} [FloatOps F]
-- ==== Kernel5.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩
abbrev S4096 : Shape := ⟨1, ![4096]⟩

abbrev nBuf : Space → Nat
  | .hbm => 8
  | .vmem => 13
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S1x4096, .f32⟩
  | .hbm, ⟨5, _⟩ => ⟨S4096x4096, .f32⟩
  | .hbm, ⟨6, _⟩ => ⟨S4096x4096, .bf16⟩
  | .hbm, ⟨7, _⟩ => ⟨S1x4096, .f32⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S128x4096, .f32⟩
  | .local _ .vmem, ⟨5, _⟩ => ⟨S128x4096, .f32⟩
  | .local _ .vmem, ⟨6, _⟩ => ⟨S1x4096, .f32⟩
  | .local _ .vmem, ⟨7, _⟩ => ⟨S1x4096, .f32⟩
  | .local _ .vmem, ⟨8, _⟩ => ⟨S128x4096, .f32⟩
  | .local _ .vmem, ⟨9, _⟩ => ⟨S128x4096, .f32⟩
  | .local _ .vmem, ⟨10, _⟩ => ⟨S128x4096, .bf16⟩
  | .local _ .vmem, ⟨11, _⟩ => ⟨S128x4096, .bf16⟩
  | .local _ .vmem, ⟨12, _⟩ => ⟨S1x4096, .f32⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev main_v0_3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x4096 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x4096 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 79
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S4096x4096, .f32⟩
  | .hbm, ⟨3, _⟩ => ⟨S1x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S_, .f32⟩
  | .hbm, ⟨18, _⟩ => ⟨S4096x1, .f32⟩
  | .hbm, ⟨19, _⟩ => ⟨S4096x1, .f32⟩
  | .hbm, ⟨20, _⟩ => ⟨S4096x4096, .f32⟩
  | .hbm, ⟨21, _⟩ => ⟨S4096x4096, .f32⟩
  | .hbm, ⟨22, _⟩ => ⟨S1x4096, .f32⟩
  | .hbm, ⟨23, _⟩ => ⟨S4096x4096, .f32⟩
  | .hbm, ⟨24, _⟩ => ⟨S4096x4096, .f32⟩
  | .hbm, ⟨25, _⟩ => ⟨S4096x4096, .f32⟩
  | .hbm, ⟨26, _⟩ => ⟨S4096x4096, .f32⟩
  | .hbm, ⟨27, _⟩ => ⟨S4096x4096, .f32⟩
  | .hbm, ⟨28, _⟩ => ⟨S_, .f32⟩
  | .hbm, ⟨29, _⟩ => ⟨S4096x4096, .f32⟩
  | .hbm, ⟨30, _⟩ => ⟨S4096x4096, .f32⟩
  | .hbm, ⟨31, _⟩ => ⟨S_, .f32⟩
  | .hbm, ⟨32, _⟩ => ⟨S4096, .f32⟩
  | .hbm, ⟨33, _⟩ => ⟨S_, .f32⟩
  | .hbm, ⟨34, _⟩ => ⟨S4096, .f32⟩
  | .hbm, ⟨35, _⟩ => ⟨S4096, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S4096, .f32⟩
  | .hbm, ⟨44, _⟩ => ⟨S_, .f32⟩
  | .hbm, ⟨45, _⟩ => ⟨S4096, .f32⟩
  | .hbm, ⟨46, _⟩ => ⟨S4096, .f32⟩
  | .hbm, ⟨47, _⟩ => ⟨S4096x4096, .f32⟩
  | .hbm, ⟨48, _⟩ => ⟨S4096x4096, .f32⟩
  | .hbm, ⟨49, _⟩ => ⟨S4096x4096, .f32⟩
  | .hbm, ⟨50, _⟩ => ⟨S_, .f32⟩
  | .hbm, ⟨51, _⟩ => ⟨S4096, .f32⟩
  | .hbm, ⟨52, _⟩ => ⟨S1x4096, .f32⟩
  | .hbm, ⟨53, _⟩ => ⟨S4096x4096, .f32⟩
  | .hbm, ⟨54, _⟩ => ⟨S4096x4096, .f32⟩
  | .hbm, ⟨55, _⟩ => ⟨S_, .f32⟩
  | .hbm, ⟨56, _⟩ => ⟨S4096, .f32⟩
  | .hbm, ⟨57, _⟩ => ⟨S4096x4096, .f32⟩
  | .hbm, ⟨58, _⟩ => ⟨S_, .f32⟩
  | .hbm, ⟨59, _⟩ => ⟨S4096, .f32⟩
  | .hbm, ⟨60, _⟩ => ⟨S4096x1, .f32⟩
  | .hbm, ⟨61, _⟩ => ⟨S4096x4096, .f32⟩
  | .hbm, ⟨62, _⟩ => ⟨S4096x4096, .f32⟩
  | .hbm, ⟨63, _⟩ => ⟨S4096x1, .f32⟩
  | .hbm, ⟨64, _⟩ => ⟨S_, .f32⟩
  | .hbm, ⟨65, _⟩ => ⟨S4096x1, .f32⟩
  | .hbm, ⟨66, _⟩ => ⟨S4096x1, .f32⟩
  | .hbm, ⟨67, _⟩ => ⟨S_, .f32⟩
  | .hbm, ⟨68, _⟩ => ⟨S4096, .f32⟩
  | .hbm, ⟨69, _⟩ => ⟨S4096x4096, .f32⟩
  | .hbm, ⟨70, _⟩ => ⟨S4096x4096, .f32⟩
  | .hbm, ⟨71, _⟩ => ⟨S4096x4096, .f32⟩
  | .hbm, ⟨72, _⟩ => ⟨S4096x4096, .f32⟩
  | .hbm, ⟨73, _⟩ => ⟨S4096x4096, .f32⟩
  | .hbm, ⟨74, _⟩ => ⟨S_, .f32⟩
  | .hbm, ⟨75, _⟩ => ⟨S4096, .f32⟩
  | .hbm, ⟨76, _⟩ => ⟨S1x4096, .f32⟩
  | .hbm, ⟨77, _⟩ => ⟨S4096x4096, .bf16⟩
  | .hbm, ⟨78, _⟩ => ⟨S1x4096, .f32⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_cst_3 : Ref sig .tc := ⟨.hbm, 28, rfl⟩
abbrev main_v20 : Ref sig .tc := ⟨.hbm, 29, rfl⟩
abbrev main_v21 : Ref sig .tc := ⟨.hbm, 30, rfl⟩
abbrev main_cst_4 : Ref sig .tc := ⟨.hbm, 31, rfl⟩
abbrev main_v22 : Ref sig .tc := ⟨.hbm, 32, rfl⟩
abbrev main_cst_5 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_cst_7 : Ref sig .tc := ⟨.hbm, 38, rfl⟩
abbrev main_v26 : Ref sig .tc := ⟨.hbm, 39, rfl⟩
abbrev main_cst_8 : Ref sig .tc := ⟨.hbm, 40, rfl⟩
abbrev main_cst_9 : Ref sig .tc := ⟨.hbm, 41, rfl⟩
abbrev main_v27 : Ref sig .tc := ⟨.hbm, 42, rfl⟩
abbrev main_v28 : Ref sig .tc := ⟨.hbm, 43, rfl⟩
abbrev main_cst_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_cst_11 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_12 : Ref sig .tc := ⟨.hbm, 55, rfl⟩
abbrev main_v38 : Ref sig .tc := ⟨.hbm, 56, rfl⟩
abbrev main_v39 : Ref sig .tc := ⟨.hbm, 57, rfl⟩
abbrev main_cst_13 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_cst_14 : Ref sig .tc := ⟨.hbm, 64, rfl⟩
abbrev main_v45 : Ref sig .tc := ⟨.hbm, 65, rfl⟩
abbrev main_v46 : Ref sig .tc := ⟨.hbm, 66, rfl⟩
abbrev main_cst_15 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_16 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel6.lean ====
abbrev S4096x8192 : Shape := ⟨2, ![4096, 8192]⟩
abbrev S4096x4096 : Shape := ⟨2, ![4096, 4096]⟩
abbrev S8192x4096 : Shape := ⟨2, ![8192, 4096]⟩
abbrev S4096x1024 : Shape := ⟨2, ![4096, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S8192x4096, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S4096x8192 : Shape := ⟨2, ![4096, 8192]⟩
abbrev S4096x4096 : Shape := ⟨2, ![4096, 4096]⟩
abbrev S_ : Shape := ⟨0, ![]⟩
abbrev S8192x4096 : Shape := ⟨2, ![8192, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x4096, .bf16⟩
  | .hbm, ⟨2, _⟩ => ⟨S4096x8192, .f32⟩
  | .hbm, ⟨3, _⟩ => ⟨S4096x4096, .f32⟩
  | .hbm, ⟨4, _⟩ => ⟨S_, .f32⟩
  | .hbm, ⟨5, _⟩ => ⟨S8192x4096, .f32⟩
  | .hbm, ⟨6, _⟩ => ⟨S4096x4096, .f32⟩
  | .hbm, ⟨7, _⟩ => ⟨S4096x8192, .f32⟩
  | .hbm, ⟨8, _⟩ => ⟨S8192x4096, .f32⟩
  | .hbm, ⟨9, _⟩ => ⟨S8192x4096, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel7.lean ====
abbrev S4096x8192 : Shape := ⟨2, ![4096, 8192]⟩
abbrev S4x2048x2048 : Shape := ⟨3, ![4, 2048, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4x2048x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 2, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg1
  let c0_i32 : BitVec 32 := 0#32
  let c0_i32_0 : BitVec 32 := 0#32
  ![c0_i32.toNat, v1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  let c0_i32_0 : BitVec 32 := 0#32
  ![c0_i32.toNat, v1.toNat]

def cc0_transform_2 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat, arg2.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference7Ideal.lean ====
abbrev S4096x8192 : Shape := ⟨2, ![4096, 8192]⟩
abbrev S_ : Shape := ⟨0, ![]⟩
abbrev S4x2048x2048 : Shape := ⟨3, ![4, 2048, 2048]⟩
abbrev S2x2048x4x2048 : Shape := ⟨4, ![2, 2048, 4, 2048]⟩
abbrev S4x2048x2x2048 : Shape := ⟨4, ![4, 2048, 2, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x8192, .bf16⟩
  | .hbm, ⟨2, _⟩ => ⟨S4096x8192, .f32⟩
  | .hbm, ⟨3, _⟩ => ⟨S4096x8192, .f32⟩
  | .hbm, ⟨4, _⟩ => ⟨S_, .f32⟩
  | .hbm, ⟨5, _⟩ => ⟨S4x2048x2048, .f32⟩
  | .hbm, ⟨6, _⟩ => ⟨S2x2048x4x2048, .f32⟩
  | .hbm, ⟨7, _⟩ => ⟨S4x2048x2x2048, .f32⟩
  | .hbm, ⟨8, _⟩ => ⟨S2x2048x4x2048, .f32⟩
  | .hbm, ⟨9, _⟩ => ⟨S4096x8192, .f32⟩
  | .hbm, ⟨10, _⟩ => ⟨S2x2048x4x2048, .f32⟩
  | .hbm, ⟨11, _⟩ => ⟨S4x2048x2x2048, .f32⟩
  | .hbm, ⟨12, _⟩ => ⟨S4x2048x2048, .f32⟩
  | .hbm, ⟨13, _⟩ => ⟨S4x2048x2048, .f32⟩
  | .hbm, ⟨14, _⟩ => ⟨S4x2048x2048, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel8.lean ====
abbrev S4096x16384 : Shape := ⟨2, ![4096, 16384]⟩
abbrev S4096x8192 : Shape := ⟨2, ![4096, 8192]⟩
abbrev S512x1024 : Shape := ⟨2, ![512, 1024]⟩
abbrev S16x1024 : Shape := ⟨2, ![16, 1024]⟩
abbrev S528x1024 : Shape := ⟨2, ![528, 1024]⟩
abbrev S512x1 : Shape := ⟨2, ![512, 1]⟩

abbrev nBuf : Space → Nat
  | .hbm => 2
  | .vmem => 6
  | .smem => 0
  | _ => 0

abbrev bufTy : (tb : Table) → Fin (tcTables nBuf tb) → BufTy
  | .hbm, ⟨0, _⟩ => ⟨S4096x16384, .bf16⟩
  | .hbm, ⟨1, _⟩ => ⟨S4096x8192, .bf16⟩
  | .local _ .vmem, ⟨0, _⟩ => ⟨S512x1024, .bf16⟩
  | .local _ .vmem, ⟨1, _⟩ => ⟨S512x1024, .bf16⟩
  | .local _ .vmem, ⟨2, _⟩ => ⟨S16x1024, .bf16⟩
  | .local _ .vmem, ⟨3, _⟩ => ⟨S16x1024, .bf16⟩
  | .local _ .vmem, ⟨4, _⟩ => ⟨S512x1024, .bf16⟩
  | .local _ .vmem, ⟨5, _⟩ => ⟨S512x1024, .bf16⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 8], ![false, false]⟩

def k0_cond1 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c0_i32_14 : BitVec 32 := 0#32
  let v41 : BitVec 1 := Scalar.cmpi .eq v16 c0_i32_14
  let v42 : BitVec 32 := Scalar.extui v41
  let c0_i32_15 : BitVec 32 := 0#32
  let v43 : BitVec 1 := Scalar.cmpi .ne v42 c0_i32_15
  v43

def k0_cond2 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c1_i32_16 : BitVec 32 := 1#32
  let v44 : BitVec 1 := Scalar.cmpi .eq v16 c1_i32_16
  let v45 : BitVec 32 := Scalar.extui v44
  let c0_i32_17 : BitVec 32 := 0#32
  let v46 : BitVec 1 := Scalar.cmpi .ne v45 c0_i32_17
  v46

def k0_cond3 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c2_i32_18 : BitVec 32 := 2#32
  let v47 : BitVec 1 := Scalar.cmpi .eq v16 c2_i32_18
  let v48 : BitVec 32 := Scalar.extui v47
  let c0_i32_19 : BitVec 32 := 0#32
  let v49 : BitVec 1 := Scalar.cmpi .ne v48 c0_i32_19
  v49

def k0_cond4 (i : grid0.Coords) : BitVec 1 :=
  let arg1 : BitVec 32 := BitVec.ofNat 32 (i 1).val
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c2_i32 : BitVec 32 := 2#32
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let v0 : BitVec 32 := Scalar.divsi arg1 c2_i32
  let c1_i32 : BitVec 32 := 1#32
  let v15 : BitVec 32 := Scalar.subi v0 c1_i32
  let v16 : BitVec 32 := Scalar.select v14 v15 v0
  let c3_i32 : BitVec 32 := 3#32
  let v50 : BitVec 1 := Scalar.cmpi .eq v16 c3_i32
  let v51 : BitVec 32 := Scalar.extui v50
  let c0_i32_20 : BitVec 32 := 0#32
  let v52 : BitVec 1 := Scalar.cmpi .ne v51 c0_i32_20
  v52

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let c1_i32 : BitVec 32 := 1#32
  let v1 : BitVec 32 := Scalar.subi v0 c1_i32
  let c0_i32 : BitVec 32 := 0#32
  let v2 : BitVec 32 := Scalar.maxsi v1 c0_i32
  let c0_i32_0 : BitVec 32 := 0#32
  ![v2.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S16x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference8Ideal.lean ====
abbrev S4096x16384 : Shape := ⟨2, ![4096, 16384]⟩
abbrev S4096x8192 : Shape := ⟨2, ![4096, 8192]⟩
abbrev S2x2048x8192 : Shape := ⟨3, ![2, 2048, 8192]⟩
abbrev S2x2048x4x2048 : Shape := ⟨4, ![2, 2048, 4, 2048]⟩
abbrev S_ : Shape := ⟨0, ![]⟩
abbrev S2048 : Shape := ⟨1, ![2048]⟩
abbrev S2x2048x1x2048 : Shape := ⟨4, ![2, 2048, 1, 2048]⟩
abbrev S2x2048x2048 : Shape := ⟨3, ![2, 2048, 2048]⟩
abbrev S2x2x2048 : Shape := ⟨3, ![2, 2, 2048]⟩
abbrev S2x2046x2048 : Shape := ⟨3, ![2, 2046, 2048]⟩
abbrev S2048x1 : Shape := ⟨2, ![2048, 1]⟩
abbrev S1x2048x1 : Shape := ⟨3, ![1, 2048, 1]⟩
abbrev S2x4x2048 : Shape := ⟨3, ![2, 4, 2048]⟩
abbrev S2x2044x2048 : Shape := ⟨3, ![2, 2044, 2048]⟩
abbrev S2x8x2048 : Shape := ⟨3, ![2, 8, 2048]⟩
abbrev S2x2040x2048 : Shape := ⟨3, ![2, 2040, 2048]⟩
abbrev S2x16x2048 : Shape := ⟨3, ![2, 16, 2048]⟩
abbrev S2x2032x2048 : Shape := ⟨3, ![2, 2032, 2048]⟩

abbrev nBuf : Space → Nat
  | .hbm => 81
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S4096x8192, .bf16⟩
  | .hbm, ⟨2, _⟩ => ⟨S2x2048x8192, .bf16⟩
  | .hbm, ⟨3, _⟩ => ⟨S2x2048x4x2048, .bf16⟩
  | .hbm, ⟨4, _⟩ => ⟨S2x2048x4x2048, .f32⟩
  | .hbm, ⟨5, _⟩ => ⟨S_, .f32⟩
  | .hbm, ⟨6, _⟩ => ⟨S_, .f32⟩
  | .hbm, ⟨7, _⟩ => ⟨S2x2048x4x2048, .f32⟩
  | .hbm, ⟨8, _⟩ => ⟨S2048, .f32⟩
  | .hbm, ⟨9, _⟩ => ⟨S_, .f32⟩
  | .hbm, ⟨10, _⟩ => ⟨S2048, .f32⟩
  | .hbm, ⟨11, _⟩ => ⟨S2048, .f32⟩
  | .hbm, ⟨12, _⟩ => ⟨S2x2048x1x2048, .f32⟩
  | .hbm, ⟨13, _⟩ => ⟨S2x2048x2048, .f32⟩
  | .hbm, ⟨14, _⟩ => ⟨S2x2x2048, .f32⟩
  | .hbm, ⟨15, _⟩ => ⟨S_, .f32⟩
  | .hbm, ⟨16, _⟩ => ⟨S2x2x2048, .f32⟩
  | .hbm, ⟨17, _⟩ => ⟨S2x2046x2048, .f32⟩
  | .hbm, ⟨18, _⟩ => ⟨S2x2048x2048, .f32⟩
  | .hbm, ⟨19, _⟩ => ⟨S_, .f32⟩
  | .hbm, ⟨20, _⟩ => ⟨S2048, .f32⟩
  | .hbm, ⟨21, _⟩ => ⟨S2048, .f32⟩
  | .hbm, ⟨22, _⟩ => ⟨S2048x1, .f32⟩
  | .hbm, ⟨23, _⟩ => ⟨S2x2048x2048, .f32⟩
  | .hbm, ⟨24, _⟩ => ⟨S1x2048x1, .f32⟩
  | .hbm, ⟨25, _⟩ => ⟨S2x2048x2048, .f32⟩
  | .hbm, ⟨26, _⟩ => ⟨S2x2048x2048, .f32⟩
  | .hbm, ⟨27, _⟩ => ⟨S2x2048x1x2048, .f32⟩
  | .hbm, ⟨28, _⟩ => ⟨S2x2048x2048, .f32⟩
  | .hbm, ⟨29, _⟩ => ⟨S2x4x2048, .f32⟩
  | .hbm, ⟨30, _⟩ => ⟨S_, .f32⟩
  | .hbm, ⟨31, _⟩ => ⟨S2x4x2048, .f32⟩
  | .hbm, ⟨32, _⟩ => ⟨S2x2044x2048, .f32⟩
  | .hbm, ⟨33, _⟩ => ⟨S2x2048x2048, .f32⟩
  | .hbm, ⟨34, _⟩ => ⟨S_, .f32⟩
  | .hbm, ⟨35, _⟩ => ⟨S2048, .f32⟩
  | .hbm, ⟨36, _⟩ => ⟨S2048, .f32⟩
  | .hbm, ⟨37, _⟩ => ⟨S2048x1, .f32⟩
  | .hbm, ⟨38, _⟩ => ⟨S2x2048x2048, .f32⟩
  | .hbm, ⟨39, _⟩ => ⟨S1x2048x1, .f32⟩
  | .hbm, ⟨40, _⟩ => ⟨S2x2048x2048, .f32⟩
  | .hbm, ⟨41, _⟩ => ⟨S2x2048x2048, .f32⟩
  | .hbm, ⟨42, _⟩ => ⟨S2x2048x1x2048, .f32⟩
  | .hbm, ⟨43, _⟩ => ⟨S2x2048x2048, .f32⟩
  | .hbm, ⟨44, _⟩ => ⟨S2x8x2048, .f32⟩
  | .hbm, ⟨45, _⟩ => ⟨S_, .f32⟩
  | .hbm, ⟨46, _⟩ => ⟨S2x8x2048, .f32⟩
  | .hbm, ⟨47, _⟩ => ⟨S2x2040x2048, .f32⟩
  | .hbm, ⟨48, _⟩ => ⟨S2x2048x2048, .f32⟩
  | .hbm, ⟨49, _⟩ => ⟨S_, .f32⟩
  | .hbm, ⟨50, _⟩ => ⟨S2048, .f32⟩
  | .hbm, ⟨51, _⟩ => ⟨S2048, .f32⟩
  | .hbm, ⟨52, _⟩ => ⟨S2048x1, .f32⟩
  | .hbm, ⟨53, _⟩ => ⟨S2x2048x2048, .f32⟩
  | .hbm, ⟨54, _⟩ => ⟨S1x2048x1, .f32⟩
  | .hbm, ⟨55, _⟩ => ⟨S2x2048x2048, .f32⟩
  | .hbm, ⟨56, _⟩ => ⟨S2x2048x2048, .f32⟩
  | .hbm, ⟨57, _⟩ => ⟨S2x2048x1x2048, .f32⟩
  | .hbm, ⟨58, _⟩ => ⟨S2x2048x2048, .f32⟩
  | .hbm, ⟨59, _⟩ => ⟨S2x16x2048, .f32⟩
  | .hbm, ⟨60, _⟩ => ⟨S_, .f32⟩
  | .hbm, ⟨61, _⟩ => ⟨S2x16x2048, .f32⟩
  | .hbm, ⟨62, _⟩ => ⟨S2x2032x2048, .f32⟩
  | .hbm, ⟨63, _⟩ => ⟨S2x2048x2048, .f32⟩
  | .hbm, ⟨64, _⟩ => ⟨S_, .f32⟩
  | .hbm, ⟨65, _⟩ => ⟨S2048, .f32⟩
  | .hbm, ⟨66, _⟩ => ⟨S2048, .f32⟩
  | .hbm, ⟨67, _⟩ => ⟨S2048x1, .f32⟩
  | .hbm, ⟨68, _⟩ => ⟨S2x2048x2048, .f32⟩
  | .hbm, ⟨69, _⟩ => ⟨S1x2048x1, .f32⟩
  | .hbm, ⟨70, _⟩ => ⟨S2x2048x2048, .f32⟩
  | .hbm, ⟨71, _⟩ => ⟨S2x2048x2048, .f32⟩
  | .hbm, ⟨72, _⟩ => ⟨S2x2048x1x2048, .f32⟩
  | .hbm, ⟨73, _⟩ => ⟨S2x2048x1x2048, .f32⟩
  | .hbm, ⟨74, _⟩ => ⟨S2x2048x1x2048, .f32⟩
  | .hbm, ⟨75, _⟩ => ⟨S2x2048x1x2048, .f32⟩
  | .hbm, ⟨76, _⟩ => ⟨S2x2048x4x2048, .f32⟩
  | .hbm, ⟨77, _⟩ => ⟨S2x2048x4x2048, .f32⟩
  | .hbm, ⟨78, _⟩ => ⟨S2x2048x4x2048, .bf16⟩
  | .hbm, ⟨79, _⟩ => ⟨S2x2048x8192, .bf16⟩
  | .hbm, ⟨80, _⟩ => ⟨S4096x8192, .bf16⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_call0_call0_cst : Ref sig .tc := ⟨.hbm, 5, rfl⟩
abbrev main_call0_call0_v0 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_cst_0 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst_1 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_2 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_cst_3 : Ref sig .tc := ⟨.hbm, 34, rfl⟩
abbrev main_v27 : Ref sig .tc := ⟨.hbm, 35, rfl⟩
abbrev main_v28 : Ref sig .tc := ⟨.hbm, 36, rfl⟩
abbrev main_v29 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_cst_4 : Ref sig .tc := ⟨.hbm, 45, rfl⟩
abbrev main_v37 : Ref sig .tc := ⟨.hbm, 46, rfl⟩
abbrev main_v38 : Ref sig .tc := ⟨.hbm, 47, rfl⟩
abbrev main_v39 : Ref sig .tc := ⟨.hbm, 48, rfl⟩
abbrev main_cst_5 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_cst_6 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_cst_7 : Ref sig .tc := ⟨.hbm, 64, rfl⟩
abbrev main_v53 : Ref sig .tc := ⟨.hbm, 65, rfl⟩
abbrev main_v54 : Ref sig .tc := ⟨.hbm, 66, rfl⟩
abbrev main_v55 : Ref sig .tc := ⟨.hbm, 67, rfl⟩
abbrev main_v56 : Ref sig .tc := ⟨.hbm, 68, rfl⟩
abbrev main_v57 : Ref sig .tc := ⟨.hbm, 69, rfl⟩
abbrev main_v58 : Ref sig .tc := ⟨.hbm, 70, rfl⟩
abbrev main_v59 : Ref sig .tc := ⟨.hbm, 71, rfl⟩
abbrev main_v60 : Ref sig .tc := ⟨.hbm, 72, rfl⟩
abbrev main_v61 : Ref sig .tc := ⟨.hbm, 73, rfl⟩
abbrev main_v62 : Ref sig .tc := ⟨.hbm, 74, rfl⟩
abbrev main_v63 : Ref sig .tc := ⟨.hbm, 75, rfl⟩
abbrev main_v64 : Ref sig .tc := ⟨.hbm, 76, rfl⟩
abbrev main_v65 : Ref sig .tc := ⟨.hbm, 77, rfl⟩
abbrev main_v66 : Ref sig .tc := ⟨.hbm, 78, rfl⟩
abbrev main_v67 : Ref sig .tc := ⟨.hbm, 79, rfl⟩
abbrev main_v68 : Ref sig .tc := ⟨.hbm, 80, rfl⟩

abbrev nD : Nat := 1
abbrev τ : Topo := Topo.v7x

variable {F : FTy → Type} [FloatOps F]
-- ==== Kernel9.lean ====
abbrev S4096x8192 : Shape := ⟨2, ![4096, 8192]⟩
abbrev S4x2048x2048 : Shape := ⟨3, ![4, 2048, 2048]⟩
abbrev S1024x2048 : Shape := ⟨2, ![1024, 2048]⟩
abbrev S1x2048x1024 : Shape := ⟨3, ![1, 2048, 1024]⟩
abbrev S1024x1024 : Shape := ⟨2, ![1024, 1024]⟩
abbrev S2048x1024 : Shape := ⟨2, ![2048, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x8192, .bf16⟩
  | .local _ .vmem, ⟨0, _⟩ => ⟨S1024x2048, .bf16⟩
  | .local _ .vmem, ⟨1, _⟩ => ⟨S1024x2048, .bf16⟩
  | .local _ .vmem, ⟨2, _⟩ => ⟨S1x2048x1024, .bf16⟩
  | .local _ .vmem, ⟨3, _⟩ => ⟨S1x2048x1024, .bf16⟩
  | .local _ .vmem, ⟨4, _⟩ => ⟨S1024x1024, .bf16⟩
  | .local _ .vmem, ⟨5, _⟩ => ⟨S1024x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x2048x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference9Ideal.lean ====
abbrev S4096x8192 : Shape := ⟨2, ![4096, 8192]⟩
abbrev S4x2048x2048 : Shape := ⟨3, ![4, 2048, 2048]⟩
abbrev S2x2048x4x2048 : Shape := ⟨4, ![2, 2048, 4, 2048]⟩
abbrev S4x2048x2x2048 : Shape := ⟨4, ![4, 2048, 2, 2048]⟩

abbrev nBuf : Space → Nat
  | .hbm => 9
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x8192, .f32⟩
  | .hbm, ⟨3, _⟩ => ⟨S4x2048x2048, .f32⟩
  | .hbm, ⟨4, _⟩ => ⟨S2x2048x4x2048, .f32⟩
  | .hbm, ⟨5, _⟩ => ⟨S4x2048x2x2048, .f32⟩
  | .hbm, ⟨6, _⟩ => ⟨S2x2048x4x2048, .f32⟩
  | .hbm, ⟨7, _⟩ => ⟨S4096x8192, .f32⟩
  | .hbm, ⟨8, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩

abbrev nD : Nat := 1
abbrev τ : Topo := Topo.v7x

variable {F : FTy → Type} [FloatOps F]
-- ==== Kernel10.lean ====
abbrev S4096x8192 : Shape := ⟨2, ![4096, 8192]⟩
abbrev S4096x16384 : Shape := ⟨2, ![4096, 16384]⟩
abbrev S1x8192 : Shape := ⟨2, ![1, 8192]⟩
abbrev S256x1024 : Shape := ⟨2, ![256, 1024]⟩
abbrev S1x1024 : Shape := ⟨2, ![1, 1024]⟩

abbrev nBuf : Space → Nat
  | .hbm => 5
  | .vmem => 10
  | .smem => 0
  | _ => 0

abbrev bufTy : (tb : Table) → Fin (tcTables nBuf tb) → BufTy
  | .hbm, ⟨0, _⟩ => ⟨S4096x8192, .bf16⟩
  | .hbm, ⟨1, _⟩ => ⟨S4096x16384, .bf16⟩
  | .hbm, ⟨2, _⟩ => ⟨S1x8192, .f32⟩
  | .hbm, ⟨3, _⟩ => ⟨S1x8192, .f32⟩
  | .hbm, ⟨4, _⟩ => ⟨S4096x8192, .bf16⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S256x1024, .bf16⟩
  | .local _ .vmem, ⟨9, _⟩ => ⟨S256x1024, .bf16⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c8_i32 : BitVec 32 := 8#32
  let v0 : BitVec 32 := Scalar.addi c8_i32 arg1
  let c0_i32 : BitVec 32 := 0#32
  ![arg0.toNat, v0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== Reference10Ideal.lean ====
abbrev S4096x8192 : Shape := ⟨2, ![4096, 8192]⟩
abbrev S4096x16384 : Shape := ⟨2, ![4096, 16384]⟩
abbrev S1x8192 : Shape := ⟨2, ![1, 8192]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4096x16384, .bf16⟩
  | .hbm, ⟨2, _⟩ => ⟨S1x8192, .f32⟩
  | .hbm, ⟨3, _⟩ => ⟨S1x8192, .f32⟩
  | .hbm, ⟨4, _⟩ => ⟨S4096x8192, .bf16⟩
  | .hbm, ⟨5, _⟩ => ⟨S4096x8192, .f32⟩
  | .hbm, ⟨6, _⟩ => ⟨S4096x8192, .f32⟩
  | .hbm, ⟨7, _⟩ => ⟨S4096x8192, .f32⟩
  | .hbm, ⟨8, _⟩ => ⟨S4096x8192, .f32⟩
  | .hbm, ⟨9, _⟩ => ⟨S4096x8192, .f32⟩
  | .hbm, ⟨10, _⟩ => ⟨S4096x8192, .f32⟩
  | .hbm, ⟨11, _⟩ => ⟨S4096x8192, .f32⟩
  | .hbm, ⟨12, _⟩ => ⟨S4096x8192, .f32⟩
  | .hbm, ⟨13, _⟩ => ⟨S_, .f32⟩
  | .hbm, ⟨14, _⟩ => ⟨S4096x8192, .f32⟩
  | .hbm, ⟨15, _⟩ => ⟨S4096x8192, .f32⟩
  | .hbm, ⟨16, _⟩ => ⟨S_, .f32⟩
  | .hbm, ⟨17, _⟩ => ⟨S4096x8192, .f32⟩
  | .hbm, ⟨18, _⟩ => ⟨S4096x8192, .f32⟩
  | .hbm, ⟨19, _⟩ => ⟨S4096x8192, .f32⟩
  | .hbm, ⟨20, _⟩ => ⟨S4096x8192, .f32⟩
  | .hbm, ⟨21, _⟩ => ⟨S4096x8192, .bf16⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩

abbrev nD : Nat := 1
abbrev τ : Topo := Topo.v7x

variable {F : FTy → Type} [FloatOps F]
-- ==== Kernel11.lean ====
abbrev S4096x8192 : Shape := ⟨2, ![4096, 8192]⟩
abbrev S8192x4096 : Shape := ⟨2, ![8192, 4096]⟩
abbrev S4096x4096 : Shape := ⟨2, ![4096, 4096]⟩
abbrev S1024x4096 : Shape := ⟨2, ![1024, 4096]⟩
abbrev S4096x1024 : Shape := ⟨2, ![4096, 1024]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x8192, .bf16⟩
  | .hbm, ⟨1, _⟩ => ⟨S8192x4096, .bf16⟩
  | .hbm, ⟨2, _⟩ => ⟨S4096x4096, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def k0_cond3 (i : grid0.Coords) : BitVec 1 :=
  let arg2 : BitVec 32 := BitVec.ofNat 32 (i 2).val
  let c1_i32_6 : BitVec 32 := 1#32
  let v11 : BitVec 1 := Scalar.cmpi .eq arg2 c1_i32_6
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S4096x8192 : Shape := ⟨2, ![4096, 8192]⟩
abbrev S8192x4096 : Shape := ⟨2, ![8192, 4096]⟩
abbrev S4096x4096 : Shape := ⟨2, ![4096, 4096]⟩

abbrev nBuf : Space → Nat
  | .hbm => 5
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S8192x4096, .bf16⟩
  | .hbm, ⟨2, _⟩ => ⟨S4096x8192, .f32⟩
  | .hbm, ⟨3, _⟩ => ⟨S8192x4096, .f32⟩
  | .hbm, ⟨4, _⟩ => ⟨S4096x4096, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 3
  | .vmem => 5
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S1x4096, .f32⟩
  | .local _ .vmem, ⟨3, _⟩ => ⟨S128x4096, .bf16⟩
  | .local _ .vmem, ⟨4, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S128x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference12Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 20
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S1x4096, .f32⟩
  | .hbm, ⟨2, _⟩ => ⟨S4096, .f32⟩
  | .hbm, ⟨3, _⟩ => ⟨S4096x4096, .f32⟩
  | .hbm, ⟨4, _⟩ => ⟨S_, .f32⟩
  | .hbm, ⟨5, _⟩ => ⟨S4096, .f32⟩
  | .hbm, ⟨6, _⟩ => ⟨S4096x1, .f32⟩
  | .hbm, ⟨7, _⟩ => ⟨S_, .f32⟩
  | .hbm, ⟨8, _⟩ => ⟨S4096x1, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S4096x1, .f32⟩
  | .hbm, ⟨14, _⟩ => ⟨S4096x4096, .f32⟩
  | .hbm, ⟨15, _⟩ => ⟨S4096x4096, .f32⟩
  | .hbm, ⟨16, _⟩ => ⟨S1x4096, .f32⟩
  | .hbm, ⟨17, _⟩ => ⟨S4096x4096, .f32⟩
  | .hbm, ⟨18, _⟩ => ⟨S4096x4096, .f32⟩
  | .hbm, ⟨19, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel13.lean ====
abbrev S4096x4096 : Shape := ⟨2, ![4096, 4096]⟩
abbrev S1x4096 : Shape := ⟨2, ![1, 4096]⟩
abbrev S128x4096 : Shape := ⟨2, ![128, 4096]⟩
abbrev S128 : Shape := ⟨1, ![128]⟩
abbrev S128x1 : Shape := ⟨2, ![128, 1]⟩

abbrev nBuf : Space → Nat
  | .hbm => 6
  | .vmem => 10
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096x4096, .f32⟩
  | .hbm, ⟨5, _⟩ => ⟨S4096x4096, .bf16⟩
  | .local _ .vmem, ⟨0, _⟩ => ⟨S128x4096, .f32⟩
  | .local _ .vmem, ⟨1, _⟩ => ⟨S128x4096, .f32⟩
  | .local _ .vmem, ⟨2, _⟩ => ⟨S128x4096, .f32⟩
  | .local _ .vmem, ⟨3, _⟩ => ⟨S128x4096, .f32⟩
  | .local _ .vmem, ⟨4, _⟩ => ⟨S1x4096, .f32⟩
  | .local _ .vmem, ⟨5, _⟩ => ⟨S1x4096, .f32⟩
  | .local _ .vmem, ⟨6, _⟩ => ⟨S128x4096, .f32⟩
  | .local _ .vmem, ⟨7, _⟩ => ⟨S128x4096, .f32⟩
  | .local _ .vmem, ⟨8, _⟩ => ⟨S128x4096, .bf16⟩
  | .local _ .vmem, ⟨9, _⟩ => ⟨S128x4096, .bf16⟩
  | _, _ => ⟨S4096x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S128x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x4096 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference13Ideal.lean ====
abbrev S4096x4096 : Shape := ⟨2, ![4096, 4096]⟩
abbrev S1x4096 : Shape := ⟨2, ![1, 4096]⟩
abbrev S4096 : Shape := ⟨1, ![4096]⟩
abbrev S_ : Shape := ⟨0, ![]⟩
abbrev S4096x1 : Shape := ⟨2, ![4096, 1]⟩

abbrev nBuf : Space → Nat
  | .hbm => 40
  | .vmem => 0
  | .smem => 0
  | _ => 0

abbrev bufTy : (tb : Table) → Fin (tcTables nBuf tb) → BufTy
  | .hbm, ⟨0, _⟩ => ⟨S4096x4096, .f32⟩
  | .hbm, ⟨1, _⟩ => ⟨S4096x4096, .f32⟩
  | .hbm, ⟨2, _⟩ => ⟨S1x4096, .f32⟩
  | .hbm, ⟨3, _⟩ => ⟨S1x4096, .f32⟩
  | .hbm, ⟨4, _⟩ => ⟨S4096, .f32⟩
  | .hbm, ⟨5, _⟩ => ⟨S4096x4096, .f32⟩
  | .hbm, ⟨6, _⟩ => ⟨S_, .f32⟩
  | .hbm, ⟨7, _⟩ => ⟨S4096, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S4096x1, .f32⟩
  | .hbm, ⟨16, _⟩ => ⟨S4096x4096, .f32⟩
  | .hbm, ⟨17, _⟩ => ⟨S4096x4096, .f32⟩
  | .hbm, ⟨18, _⟩ => ⟨S1x4096, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S4096, .f32⟩
  | .hbm, ⟨23, _⟩ => ⟨S4096x4096, .f32⟩
  | .hbm, ⟨24, _⟩ => ⟨S_, .f32⟩
  | .hbm, ⟨25, _⟩ => ⟨S4096, .f32⟩
  | .hbm, ⟨26, _⟩ => ⟨S4096x1, .f32⟩
  | .hbm, ⟨27, _⟩ => ⟨S_, .f32⟩
  | .hbm, ⟨28, _⟩ => ⟨S4096x1, .f32⟩
  | .hbm, ⟨29, _⟩ => ⟨S4096x1, .f32⟩
  | .hbm, ⟨30, _⟩ => ⟨S_, .f32⟩
  | .hbm, ⟨31, _⟩ => ⟨S4096x1, .f32⟩
  | .hbm, ⟨32, _⟩ => ⟨S4096x1, .f32⟩
  | .hbm, ⟨33, _⟩ => ⟨S4096x1, .f32⟩
  | .hbm, ⟨34, _⟩ => ⟨S4096x4096, .f32⟩
  | .hbm, ⟨35, _⟩ => ⟨S4096x4096, .f32⟩
  | .hbm, ⟨36, _⟩ => ⟨S1x4096, .f32⟩
  | .hbm, ⟨37, _⟩ => ⟨S4096x4096, .f32⟩
  | .hbm, ⟨38, _⟩ => ⟨S4096x4096, .f32⟩
  | .hbm, ⟨39, _⟩ => ⟨S4096x4096, .bf16⟩
  | _, _ => ⟨S4096x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_cst_3 : Ref sig .tc := ⟨.hbm, 27, rfl⟩
abbrev main_v19 : Ref sig .tc := ⟨.hbm, 28, rfl⟩
abbrev main_v20 : Ref sig .tc := ⟨.hbm, 29, rfl⟩
abbrev main_cst_4 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩

abbrev nD : Nat := 1
abbrev τ : Topo := Topo.v7x

variable {F : FTy → Type} [FloatOps F]
-- ==== Kernel16.lean ====
abbrev S4096x4096 : Shape := ⟨2, ![4096, 4096]⟩
abbrev S8x4096x3072 : Shape := ⟨3, ![8, 4096, 3072]⟩
abbrev S4096x24576 : Shape := ⟨2, ![4096, 24576]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x3072, .bf16⟩
  | .hbm, ⟨2, _⟩ => ⟨S4096x24576, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference16Ideal.lean ====
abbrev S4096x4096 : Shape := ⟨2, ![4096, 4096]⟩
abbrev S8x4096x3072 : Shape := ⟨3, ![8, 4096, 3072]⟩
abbrev S4096x8x3072 : Shape := ⟨3, ![4096, 8, 3072]⟩
abbrev S4096x24576 : Shape := ⟨2, ![4096, 24576]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x3072, .bf16⟩
  | .hbm, ⟨2, _⟩ => ⟨S4096x8x3072, .bf16⟩
  | .hbm, ⟨3, _⟩ => ⟨S4096x24576, .bf16⟩
  | .hbm, ⟨4, _⟩ => ⟨S4096x4096, .f32⟩
  | .hbm, ⟨5, _⟩ => ⟨S4096x24576, .f32⟩
  | .hbm, ⟨6, _⟩ => ⟨S4096x24576, .f32⟩
  | .hbm, ⟨7, _⟩ => ⟨S4096x24576, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel17.lean ====
abbrev S4096x4096 : Shape := ⟨2, ![4096, 4096]⟩
abbrev S8x4096x2048 : Shape := ⟨3, ![8, 4096, 2048]⟩
abbrev S4096x16384 : Shape := ⟨2, ![4096, 16384]⟩
abbrev S1024x4096 : Shape := ⟨2, ![1024, 4096]⟩
abbrev S1x4096x1024 : Shape := ⟨3, ![1, 4096, 1024]⟩
abbrev S1024x1024 : Shape := ⟨2, ![1024, 1024]⟩
abbrev S4096x1024 : Shape := ⟨2, ![4096, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x16384, .bf16⟩
  | .local _ .vmem, ⟨0, _⟩ => ⟨S1024x4096, .bf16⟩
  | .local _ .vmem, ⟨1, _⟩ => ⟨S1024x4096, .bf16⟩
  | .local _ .vmem, ⟨2, _⟩ => ⟨S1x4096x1024, .bf16⟩
  | .local _ .vmem, ⟨3, _⟩ => ⟨S1x4096x1024, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S4096x4096 : Shape := ⟨2, ![4096, 4096]⟩
abbrev S8x4096x2048 : Shape := ⟨3, ![8, 4096, 2048]⟩
abbrev S4096x8x2048 : Shape := ⟨3, ![4096, 8, 2048]⟩
abbrev S4096x16384 : Shape := ⟨2, ![4096, 16384]⟩

abbrev nBuf : Space → Nat
  | .hbm => 8
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8x4096x2048, .bf16⟩
  | .hbm, ⟨2, _⟩ => ⟨S4096x8x2048, .bf16⟩
  | .hbm, ⟨3, _⟩ => ⟨S4096x16384, .bf16⟩
  | .hbm, ⟨4, _⟩ => ⟨S4096x4096, .f32⟩
  | .hbm, ⟨5, _⟩ => ⟨S4096x16384, .f32⟩
  | .hbm, ⟨6, _⟩ => ⟨S4096x16384, .f32⟩
  | .hbm, ⟨7, _⟩ => ⟨S4096x16384, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩

abbrev nD : Nat := 1
abbrev τ : Topo := Topo.v7x

variable {F : FTy → Type} [FloatOps F]
-- ==== Kernel18.lean ====
abbrev S4096x4096 : Shape := ⟨2, ![4096, 4096]⟩
abbrev S8192x4096 : Shape := ⟨2, ![8192, 4096]⟩
abbrev S4096x8192 : Shape := ⟨2, ![4096, 8192]⟩
abbrev S1024x4096 : Shape := ⟨2, ![1024, 4096]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S8192x4096, .bf16⟩
  | .hbm, ⟨2, _⟩ => ⟨S4096x8192, .bf16⟩
  | .local _ .vmem, ⟨0, _⟩ => ⟨S1024x4096, .bf16⟩
  | .local _ .vmem, ⟨1, _⟩ => ⟨S1024x4096, .bf16⟩
  | .local _ .vmem, ⟨2, _⟩ => ⟨S1024x4096, .bf16⟩
  | .local _ .vmem, ⟨3, _⟩ => ⟨S1024x4096, .bf16⟩
  | .local _ .vmem, ⟨4, _⟩ => ⟨S1024x1024, .bf16⟩
  | .local _ .vmem, ⟨5, _⟩ => ⟨S1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference18Ideal.lean ====
abbrev S4096x4096 : Shape := ⟨2, ![4096, 4096]⟩
abbrev S8192x4096 : Shape := ⟨2, ![8192, 4096]⟩
abbrev S_ : Shape := ⟨0, ![]⟩
abbrev S4096x8192 : Shape := ⟨2, ![4096, 8192]⟩

abbrev nBuf : Space → Nat
  | .hbm => 9
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S8192x4096, .bf16⟩
  | .hbm, ⟨2, _⟩ => ⟨S4096x4096, .f32⟩
  | .hbm, ⟨3, _⟩ => ⟨S8192x4096, .f32⟩
  | .hbm, ⟨4, _⟩ => ⟨S_, .f32⟩
  | .hbm, ⟨5, _⟩ => ⟨S4096x8192, .f32⟩
  | .hbm, ⟨6, _⟩ => ⟨S4096x4096, .f32⟩
  | .hbm, ⟨7, _⟩ => ⟨S4096x8192, .f32⟩
  | .hbm, ⟨8, _⟩ => ⟨S4096x8192, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Kernel19.lean ====
abbrev S4096x8192 : Shape := ⟨2, ![4096, 8192]⟩
abbrev S4x2048x2048 : Shape := ⟨3, ![4, 2048, 2048]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x8192, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | _, _ => ⟨S4096x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg0.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![arg1.toNat, v1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, false]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]
-- ==== Reference19Ideal.lean ====
abbrev S4096x8192 : Shape := ⟨2, ![4096, 8192]⟩
abbrev S4x2048x2048 : Shape := ⟨3, ![4, 2048, 2048]⟩
abbrev S_ : Shape := ⟨0, ![]⟩
abbrev S2x2048x4x2048 : Shape := ⟨4, ![2, 2048, 4, 2048]⟩
abbrev S4x2048x2x2048 : Shape := ⟨4, ![4, 2048, 2, 2048]⟩
abbrev S4x2x2048x2048 : Shape := ⟨4, ![4, 2, 2048, 2048]⟩

abbrev nBuf : Space → Nat
  | .hbm => 15
  | .vmem => 0
  | .smem => 0
  | _ => 0

abbrev bufTy : (tb : Table) → Fin (tcTables nBuf tb) → BufTy
  | .hbm, ⟨0, _⟩ => ⟨S4096x8192, .bf16⟩
  | .hbm, ⟨1, _⟩ => ⟨S4x2048x2048, .bf16⟩
  | .hbm, ⟨2, _⟩ => ⟨S4096x8192, .f32⟩
  | .hbm, ⟨3, _⟩ => ⟨S4x2048x2048, .f32⟩
  | .hbm, ⟨4, _⟩ => ⟨S_, .f32⟩
  | .hbm, ⟨5, _⟩ => ⟨S4096x8192, .f32⟩
  | .hbm, ⟨6, _⟩ => ⟨S2x2048x4x2048, .f32⟩
  | .hbm, ⟨7, _⟩ => ⟨S4x2048x2x2048, .f32⟩
  | .hbm, ⟨8, _⟩ => ⟨S2x2048x4x2048, .f32⟩
  | .hbm, ⟨9, _⟩ => ⟨S4096x8192, .f32⟩
  | .hbm, ⟨10, _⟩ => ⟨S2x2048x4x2048, .f32⟩
  | .hbm, ⟨11, _⟩ => ⟨S4x2048x2x2048, .f32⟩
  | .hbm, ⟨12, _⟩ => ⟨S4x2x2048x2048, .f32⟩
  | .hbm, ⟨13, _⟩ => ⟨S2x2048x4x2048, .f32⟩
  | .hbm, ⟨14, _⟩ => ⟨S4096x8192, .f32⟩
  | _, _ => ⟨S4096x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩

abbrev nD : Nat := 1
abbrev τ : Topo := Topo.v7x

variable {F : FTy → Type} [FloatOps F]
-- ==== Kernel20.lean ====
abbrev S4096x4096 : Shape := ⟨2, ![4096, 4096]⟩
abbrev S4096x16384 : Shape := ⟨2, ![4096, 16384]⟩
abbrev S8x4096x2048 : Shape := ⟨3, ![8, 4096, 2048]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S8x4096x2048, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg1 c2_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg1 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference20Ideal.lean ====
abbrev S4096x4096 : Shape := ⟨2, ![4096, 4096]⟩
abbrev S4096x16384 : Shape := ⟨2, ![4096, 16384]⟩
abbrev S_ : Shape := ⟨0, ![]⟩
abbrev S16384x4096 : Shape := ⟨2, ![16384, 4096]⟩
abbrev S4096x8x2048 : Shape := ⟨3, ![4096, 8, 2048]⟩
abbrev S8x4096x2048 : Shape := ⟨3, ![8, 4096, 2048]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x16384, .bf16⟩
  | .hbm, ⟨2, _⟩ => ⟨S4096x4096, .f32⟩
  | .hbm, ⟨3, _⟩ => ⟨S4096x16384, .f32⟩
  | .hbm, ⟨4, _⟩ => ⟨S_, .f32⟩
  | .hbm, ⟨5, _⟩ => ⟨S4096x16384, .f32⟩
  | .hbm, ⟨6, _⟩ => ⟨S4096x16384, .f32⟩
  | .hbm, ⟨7, _⟩ => ⟨S16384x4096, .f32⟩
  | .hbm, ⟨8, _⟩ => ⟨S4096x16384, .f32⟩
  | .hbm, ⟨9, _⟩ => ⟨S4096x8x2048, .f32⟩
  | .hbm, ⟨10, _⟩ => ⟨S8x4096x2048, .f32⟩
  | .hbm, ⟨11, _⟩ => ⟨S8x4096x2048, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel21.lean ====
abbrev S4096x16384 : Shape := ⟨2, ![4096, 16384]⟩
abbrev S8x4096x2048 : Shape := ⟨3, ![8, 4096, 2048]⟩
abbrev S4096x4096 : Shape := ⟨2, ![4096, 4096]⟩
abbrev S1024x2048 : Shape := ⟨2, ![1024, 2048]⟩
abbrev S1x1024x2048 : Shape := ⟨3, ![1, 1024, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S4096x4096, .f32⟩
  | .local _ .vmem, ⟨0, _⟩ => ⟨S1024x2048, .bf16⟩
  | .local _ .vmem, ⟨1, _⟩ => ⟨S1024x2048, .bf16⟩
  | .local _ .vmem, ⟨2, _⟩ => ⟨S1x1024x2048, .bf16⟩
  | .local _ .vmem, ⟨3, _⟩ => ⟨S1x1024x2048, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_7 : BitVec 32 := 7#32
  let v12 : BitVec 1 := Scalar.cmpi .eq arg2 c7_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S4096x16384 : Shape := ⟨2, ![4096, 16384]⟩
abbrev S8x4096x2048 : Shape := ⟨3, ![8, 4096, 2048]⟩
abbrev S4096x8x2048 : Shape := ⟨3, ![4096, 8, 2048]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x16384, .bf16⟩
  | .hbm, ⟨1, _⟩ => ⟨S8x4096x2048, .bf16⟩
  | .hbm, ⟨2, _⟩ => ⟨S4096x8x2048, .bf16⟩
  | .hbm, ⟨3, _⟩ => ⟨S4096x16384, .bf16⟩
  | .hbm, ⟨4, _⟩ => ⟨S4096x16384, .f32⟩
  | .hbm, ⟨5, _⟩ => ⟨S4096x16384, .f32⟩
  | .hbm, ⟨6, _⟩ => ⟨S_, .f32⟩
  | .hbm, ⟨7, _⟩ => ⟨S4096x4096, .f32⟩
  | .hbm, ⟨8, _⟩ => ⟨S4096x16384, .f32⟩
  | .hbm, ⟨9, _⟩ => ⟨S4096x4096, .f32⟩
  | _, _ => ⟨S4096x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel22.lean ====
abbrev S4096x24576 : Shape := ⟨2, ![4096, 24576]⟩
abbrev S8x4096x3072 : Shape := ⟨3, ![8, 4096, 3072]⟩
abbrev S4096x4096 : Shape := ⟨2, ![4096, 4096]⟩
abbrev S1024x3072 : Shape := ⟨2, ![1024, 3072]⟩
abbrev S1x1024x3072 : Shape := ⟨3, ![1, 1024, 3072]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S4096x24576, .bf16⟩
  | .hbm, ⟨1, _⟩ => ⟨S8x4096x3072, .bf16⟩
  | .hbm, ⟨2, _⟩ => ⟨S4096x4096, .f32⟩
  | .local _ .vmem, ⟨0, _⟩ => ⟨S1024x3072, .bf16⟩
  | .local _ .vmem, ⟨1, _⟩ => ⟨S1024x3072, .bf16⟩
  | .local _ .vmem, ⟨2, _⟩ => ⟨S1x1024x3072, .bf16⟩
  | .local _ .vmem, ⟨3, _⟩ => ⟨S1x1024x3072, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S4096x24576, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![4, 4, 8], ![false, false, false]⟩

def k0_cond3 (i : grid0.Coords) : BitVec 1 :=
  let arg2 : BitVec 32 := BitVec.ofNat 32 (i 2).val
  let c7_i32_7 : BitVec 32 := 7#32
  let v12 : BitVec 1 := Scalar.cmpi .eq arg2 c7_i32_7
  let v13 : BitVec 32 := Scalar.extui v12
  let c0_i32_8 : BitVec 32 := 0#32
  let v14 : BitVec 1 := Scalar.cmpi .ne v13 c0_i32_8
  v14

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, arg1.toNat, c0_i32.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S4096x24576 : Shape := ⟨2, ![4096, 24576]⟩
abbrev S8x4096x3072 : Shape := ⟨3, ![8, 4096, 3072]⟩
abbrev S4096x8x3072 : Shape := ⟨3, ![4096, 8, 3072]⟩
abbrev S_ : Shape := ⟨0, ![]⟩
abbrev S4096x4096 : Shape := ⟨2, ![4096, 4096]⟩

abbrev nBuf : Space → Nat
  | .hbm => 10
  | .vmem => 0
  | .smem => 0
  | _ => 0

abbrev bufTy : (tb : Table) → Fin (tcTables nBuf tb) → BufTy
  | .hbm, ⟨0, _⟩ => ⟨S4096x24576, .bf16⟩
  | .hbm, ⟨1, _⟩ => ⟨S8x4096x3072, .bf16⟩
  | .hbm, ⟨2, _⟩ => ⟨S4096x8x3072, .bf16⟩
  | .hbm, ⟨3, _⟩ => ⟨S4096x24576, .bf16⟩
  | .hbm, ⟨4, _⟩ => ⟨S4096x24576, .f32⟩
  | .hbm, ⟨5, _⟩ => ⟨S4096x24576, .f32⟩
  | .hbm, ⟨6, _⟩ => ⟨S_, .f32⟩
  | .hbm, ⟨7, _⟩ => ⟨S4096x4096, .f32⟩
  | .hbm, ⟨8, _⟩ => ⟨S4096x24576, .f32⟩
  | .hbm, ⟨9, _⟩ => ⟨S4096x4096, .f32⟩
  | _, _ => ⟨S4096x24576, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_cst : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩

abbrev nD : Nat := 1
abbrev τ : Topo := Topo.v7x

variable {F : FTy → Type} [FloatOps F]
-- ==== Kernel25.lean ====
abbrev S4096x4096 : Shape := ⟨2, ![4096, 4096]⟩
abbrev S4096x24576 : Shape := ⟨2, ![4096, 24576]⟩
abbrev S8x4096x3072 : Shape := ⟨3, ![8, 4096, 3072]⟩
abbrev S4096x1024 : Shape := ⟨2, ![4096, 1024]⟩
abbrev S1x1024x1024 : Shape := ⟨3, ![1, 1024, 1024]⟩
abbrev S1024x1024 : Shape := ⟨2, ![1024, 1024]⟩

abbrev nBuf : Space → Nat
  | .hbm => 3
  | .vmem => 6
  | .smem => 0
  | _ => 0

abbrev bufTy : (tb : Table) → Fin (tcTables nBuf tb) → BufTy
  | .hbm, ⟨0, _⟩ => ⟨S4096x4096, .bf16⟩
  | .hbm, ⟨1, _⟩ => ⟨S4096x24576, .bf16⟩
  | .hbm, ⟨2, _⟩ => ⟨S8x4096x3072, .bf16⟩
  | .local _ .vmem, ⟨0, _⟩ => ⟨S4096x1024, .bf16⟩
  | .local _ .vmem, ⟨1, _⟩ => ⟨S4096x1024, .bf16⟩
  | .local _ .vmem, ⟨2, _⟩ => ⟨S4096x1024, .bf16⟩
  | .local _ .vmem, ⟨3, _⟩ => ⟨S4096x1024, .bf16⟩
  | .local _ .vmem, ⟨4, _⟩ => ⟨S1x1024x1024, .bf16⟩
  | .local _ .vmem, ⟨5, _⟩ => ⟨S1x1024x1024, .bf16⟩
  | _, _ => ⟨S4096x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.divsi arg1 c3_i32
  let c0_i32 : BitVec 32 := 0#32
  let v1 : BitVec 1 := Scalar.cmpi .sgt arg1 c0_i32
  let v2 : BitVec 32 := Scalar.extui v1
  let c0_i32_0 : BitVec 32 := 0#32
  let v3 : BitVec 1 := Scalar.cmpi .slt arg1 c0_i32_0
  let v4 : BitVec 32 := Scalar.extui v3
  let v5 : BitVec 32 := Scalar.subi v2 v4
  let c0_i32_1 : BitVec 32 := 0#32
  let v6 : BitVec 1 := Scalar.cmpi .sgt c3_i32 c0_i32_1
  let v7 : BitVec 32 := Scalar.extui v6
  let c0_i32_2 : BitVec 32 := 0#32
  let v8 : BitVec 1 := Scalar.cmpi .slt c3_i32 c0_i32_2
  let v9 : BitVec 32 := Scalar.extui v8
  let v10 : BitVec 32 := Scalar.subi v7 v9
  let v11 : BitVec 1 := Scalar.cmpi .ne v5 v10
  let v12 : BitVec 32 := Scalar.remsi arg1 c3_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c3_i32_4 : BitVec 32 := 3#32
  let c0_i32_5 : BitVec 32 := 0#32
  let v17 : BitVec 1 := Scalar.cmpi .eq c3_i32_4 c0_i32_5
  let c1_i32_6 : BitVec 32 := 1#32
  let v18 : BitVec 32 := Scalar.select v17 c1_i32_6 c3_i32_4
  let v19 : BitVec 32 := Scalar.remsi arg1 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, arg0.toNat, v26.toNat]

abbrev stage0_0 : Fin 2 → Memref sig .tc .vmem S4096x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference25Ideal.lean ====
abbrev S4096x4096 : Shape := ⟨2, ![4096, 4096]⟩
abbrev S4096x24576 : Shape := ⟨2, ![4096, 24576]⟩
abbrev S_ : Shape := ⟨0, ![]⟩
abbrev S24576x4096 : Shape := ⟨2, ![24576, 4096]⟩
abbrev S4096x8x3072 : Shape := ⟨3, ![4096, 8, 3072]⟩
abbrev S8x4096x3072 : Shape := ⟨3, ![8, 4096, 3072]⟩

abbrev nBuf : Space → Nat
  | .hbm => 12
  | .vmem => 0
  | .smem => 0
  | _ => 0

abbrev bufTy : (tb : Table) → Fin (tcTables nBuf tb) → BufTy
  | .hbm, ⟨0, _⟩ => ⟨S4096x4096, .bf16⟩
  | .hbm, ⟨1, _⟩ => ⟨S4096x24576, .bf16⟩
  | .hbm, ⟨2, _⟩ => ⟨S4096x4096, .f32⟩
  | .hbm, ⟨3, _⟩ => ⟨S4096x24576, .f32⟩
  | .hbm, ⟨4, _⟩ => ⟨S_, .f32⟩
  | .hbm, ⟨5, _⟩ => ⟨S4096x24576, .f32⟩
  | .hbm, ⟨6, _⟩ => ⟨S4096x24576, .f32⟩
  | .hbm, ⟨7, _⟩ => ⟨S24576x4096, .f32⟩
  | .hbm, ⟨8, _⟩ => ⟨S4096x24576, .f32⟩
  | .hbm, ⟨9, _⟩ => ⟨S4096x8x3072, .f32⟩
  | .hbm, ⟨10, _⟩ => ⟨S8x4096x3072, .f32⟩
  | .hbm, ⟨11, _⟩ => ⟨S8x4096x3072, .bf16⟩
  | _, _ => ⟨S4096x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩

abbrev nD : Nat := 1
abbrev τ : Topo := Topo.v7x

variable {F : FTy → Type} [FloatOps F]
-- ==== Kernel26.lean ====
abbrev S8x2320x128 : Shape := ⟨3, ![8, 2320, 128]⟩
abbrev S2320x128 : Shape := ⟨2, ![2320, 128]⟩
abbrev S1x2320x128 : Shape := ⟨3, ![1, 2320, 128]⟩

abbrev nBuf : Space → Nat
  | .hbm => 9
  | .vmem => 9
  | .smem => 0
  | _ => 0

abbrev bufTy : (tb : Table) → Fin (tcTables nBuf tb) → BufTy
  | .hbm, ⟨0, _⟩ => ⟨S8x2320x128, .f32⟩
  | .hbm, ⟨1, _⟩ => ⟨S2320x128, .f32⟩
  | .hbm, ⟨2, _⟩ => ⟨S2320x128, .f32⟩
  | .hbm, ⟨3, _⟩ => ⟨S2320x128, .f32⟩
  | .hbm, ⟨4, _⟩ => ⟨S2320x128, .f32⟩
  | .hbm, ⟨5, _⟩ => ⟨S2320x128, .f32⟩
  | .hbm, ⟨6, _⟩ => ⟨S2320x128, .f32⟩
  | .hbm, ⟨7, _⟩ => ⟨S2320x128, .f32⟩
  | .hbm, ⟨8, _⟩ => ⟨S2320x128, .f32⟩
  | .local _ .vmem, ⟨0, _⟩ => ⟨S8x2320x128, .f32⟩
  | .local _ .vmem, ⟨1, _⟩ => ⟨S2320x128, .f32⟩
  | .local _ .vmem, ⟨2, _⟩ => ⟨S2320x128, .f32⟩
  | .local _ .vmem, ⟨3, _⟩ => ⟨S2320x128, .f32⟩
  | .local _ .vmem, ⟨4, _⟩ => ⟨S2320x128, .f32⟩
  | .local _ .vmem, ⟨5, _⟩ => ⟨S2320x128, .f32⟩
  | .local _ .vmem, ⟨6, _⟩ => ⟨S2320x128, .f32⟩
  | .local _ .vmem, ⟨7, _⟩ => ⟨S2320x128, .f32⟩
  | .local _ .vmem, ⟨8, _⟩ => ⟨S2320x128, .f32⟩
  | _, _ => ⟨S8x2320x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S8x2320x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2320x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2320x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2320x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2320x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2320x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2320x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2320x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2320x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Reference26Ideal.lean ====
abbrev S8x2320x128 : Shape := ⟨3, ![8, 2320, 128]⟩
abbrev S2320x128 : Shape := ⟨2, ![2320, 128]⟩
abbrev S_ : Shape := ⟨0, ![]⟩

abbrev nBuf : Space → Nat
  | .hbm => 41
  | .vmem => 0
  | .smem => 0
  | _ => 0

abbrev bufTy : (tb : Table) → Fin (tcTables nBuf tb) → BufTy
  | .hbm, ⟨0, _⟩ => ⟨S8x2320x128, .f32⟩
  | .hbm, ⟨1, _⟩ => ⟨S2320x128, .f32⟩
  | .hbm, ⟨2, _⟩ => ⟨S2320x128, .f32⟩
  | .hbm, ⟨3, _⟩ => ⟨S2320x128, .f32⟩
  | .hbm, ⟨4, _⟩ => ⟨S2320x128, .f32⟩
  | .hbm, ⟨5, _⟩ => ⟨S_, .f32⟩
  | .hbm, ⟨6, _⟩ => ⟨S2320x128, .f32⟩
  | .hbm, ⟨7, _⟩ => ⟨S2320x128, .f32⟩
  | .hbm, ⟨8, _⟩ => ⟨S_, .f32⟩
  | .hbm, ⟨9, _⟩ => ⟨S2320x128, .f32⟩
  | .hbm, ⟨10, _⟩ => ⟨S2320x128, .f32⟩
  | .hbm, ⟨11, _⟩ => ⟨S_, .f32⟩
  | .hbm, ⟨12, _⟩ => ⟨S2320x128, .f32⟩
  | .hbm, ⟨13, _⟩ => ⟨S2320x128, .f32⟩
  | .hbm, ⟨14, _⟩ => ⟨S2320x128, .f32⟩
  | .hbm, ⟨15, _⟩ => ⟨S_, .f32⟩
  | .hbm, ⟨16, _⟩ => ⟨S2320x128, .f32⟩
  | .hbm, ⟨17, _⟩ => ⟨S2320x128, .f32⟩
  | .hbm, ⟨18, _⟩ => ⟨S2320x128, .f32⟩
  | .hbm, ⟨19, _⟩ => ⟨S_, .f32⟩
  | .hbm, ⟨20, _⟩ => ⟨S2320x128, .f32⟩
  | .hbm, ⟨21, _⟩ => ⟨S2320x128, .f32⟩
  | .hbm, ⟨22, _⟩ => ⟨S2320x128, .f32⟩
  | .hbm, ⟨23, _⟩ => ⟨S_, .f32⟩
  | .hbm, ⟨24, _⟩ => ⟨S2320x128, .f32⟩
  | .hbm, ⟨25, _⟩ => ⟨S2320x128, .f32⟩
  | .hbm, ⟨26, _⟩ => ⟨S_, .f32⟩
  | .hbm, ⟨27, _⟩ => ⟨S2320x128, .f32⟩
  | .hbm, ⟨28, _⟩ => ⟨S2320x128, .f32⟩
  | .hbm, ⟨29, _⟩ => ⟨S2320x128, .f32⟩
  | .hbm, ⟨30, _⟩ => ⟨S_, .f32⟩
  | .hbm, ⟨31, _⟩ => ⟨S2320x128, .f32⟩
  | .hbm, ⟨32, _⟩ => ⟨S2320x128, .f32⟩
  | .hbm, ⟨33, _⟩ => ⟨S2320x128, .f32⟩
  | .hbm, ⟨34, _⟩ => ⟨S_, .f32⟩
  | .hbm, ⟨35, _⟩ => ⟨S2320x128, .f32⟩
  | .hbm, ⟨36, _⟩ => ⟨S2320x128, .f32⟩
  | .hbm, ⟨37, _⟩ => ⟨S2320x128, .f32⟩
  | .hbm, ⟨38, _⟩ => ⟨S_, .f32⟩
  | .hbm, ⟨39, _⟩ => ⟨S2320x128, .f32⟩
  | .hbm, ⟨40, _⟩ => ⟨S2320x128, .f32⟩
  | _, _ => ⟨S8x2320x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_v1 : Ref sig .tc := ⟨.hbm, 7, rfl⟩
abbrev main_cst_0 : Ref sig .tc := ⟨.hbm, 8, rfl⟩
abbrev main_v2 : Ref sig .tc := ⟨.hbm, 9, rfl⟩
abbrev main_v3 : Ref sig .tc := ⟨.hbm, 10, rfl⟩
abbrev main_cst_1 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_cst_2 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_3 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_cst_4 : Ref sig .tc := ⟨.hbm, 23, rfl⟩
abbrev main_v13 : Ref sig .tc := ⟨.hbm, 24, rfl⟩
abbrev main_v14 : Ref sig .tc := ⟨.hbm, 25, rfl⟩
abbrev main_cst_5 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst_6 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_cst_7 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_cst_8 : Ref sig .tc := ⟨.hbm, 38, rfl⟩
abbrev main_v24 : Ref sig .tc := ⟨.hbm, 39, rfl⟩
abbrev main_v25 : Ref sig .tc := ⟨.hbm, 40, rfl⟩

abbrev nD : Nat := 1
abbrev τ : Topo := Topo.v7x

variable {F : FTy → Type} [FloatOps F]
-- ==== Kernel27.lean ====
abbrev S8 : Shape := ⟨1, ![8]⟩
abbrev S8x1024x4096 : Shape := ⟨3, ![8, 1024, 4096]⟩
abbrev S4x1024x4096 : Shape := ⟨3, ![4, 1024, 4096]⟩
abbrev S3x1024x4096 : Shape := ⟨3, ![3, 1024, 4096]⟩
abbrev S1024x4096 : Shape := ⟨2, ![1024, 4096]⟩
abbrev S1x64x4096 : Shape := ⟨3, ![1, 64, 4096]⟩
abbrev S1 : Shape := ⟨1, ![1]⟩
abbrev S3x64x4096 : Shape := ⟨3, ![3, 64, 4096]⟩
abbrev S64x4096 : Shape := ⟨2, ![64, 4096]⟩

abbrev nBuf : Space → Nat
  | .hbm => 10
  | .vmem => 20
  | .smem => 1
  | _ => 0

abbrev bufTy : (tb : Table) → Fin (tcTables nBuf tb) → BufTy
  | .hbm, ⟨0, _⟩ => ⟨S8x1024x4096, .bf16⟩
  | .hbm, ⟨1, _⟩ => ⟨S4x1024x4096, .bf16⟩
  | .hbm, ⟨2, _⟩ => ⟨S3x1024x4096, .bf16⟩
  | .hbm, ⟨3, _⟩ => ⟨S1024x4096, .f32⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1024x4096, .f32⟩
  | .hbm, ⟨8, _⟩ => ⟨S1024x4096, .f32⟩
  | .hbm, ⟨9, _⟩ => ⟨S1024x4096, .f32⟩
  | .local _ .vmem, ⟨0, _⟩ => ⟨S1x64x4096, .bf16⟩
  | .local _ .vmem, ⟨1, _⟩ => ⟨S1x64x4096, .bf16⟩
  | .local _ .vmem, ⟨2, _⟩ => ⟨S1x64x4096, .bf16⟩
  | .local _ .vmem, ⟨3, _⟩ => ⟨S1x64x4096, .bf16⟩
  | .local _ .vmem, ⟨4, _⟩ => ⟨S3x64x4096, .bf16⟩
  | .local _ .vmem, ⟨5, _⟩ => ⟨S3x64x4096, .bf16⟩
  | .local _ .vmem, ⟨6, _⟩ => ⟨S64x4096, .f32⟩
  | .local _ .vmem, ⟨7, _⟩ => ⟨S64x4096, .f32⟩
  | .local _ .vmem, ⟨8, _⟩ => ⟨S64x4096, .f32⟩
  | .local _ .vmem, ⟨9, _⟩ => ⟨S64x4096, .f32⟩
  | .local _ .vmem, ⟨10, _⟩ => ⟨S64x4096, .f32⟩
  | .local _ .vmem, ⟨11, _⟩ => ⟨S64x4096, .f32⟩
  | .local _ .vmem, ⟨12, _⟩ => ⟨S64x4096, .f32⟩
  | .local _ .vmem, ⟨13, _⟩ => ⟨S64x4096, .f32⟩
  | .local _ .vmem, ⟨14, _⟩ => ⟨S64x4096, .f32⟩
  | .local _ .vmem, ⟨15, _⟩ => ⟨S64x4096, .f32⟩
  | .local _ .vmem, ⟨16, _⟩ => ⟨S64x4096, .f32⟩
  | .local _ .vmem, ⟨17, _⟩ => ⟨S64x4096, .f32⟩
  | .local _ .vmem, ⟨18, _⟩ => ⟨S64x4096, .f32⟩
  | .local _ .vmem, ⟨19, _⟩ => ⟨S64x4096, .f32⟩
  | .local _ .smem, ⟨0, _⟩ => ⟨S8, .i32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![16], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S8_S1_5 : ∀ a, (![5] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c5 : Index := 5#32
  let v0 : BitVec 32 := pf.at 0 (Rect.unit (s := S8) ![5] S1.size inb_S8_S1_5) numel1_S1
  let c0_i32 : BitVec 32 := 0#32
  let c0_i32_0 : BitVec 32 := 0#32
  ![v0.toNat, arg0.toNat, c0_i32.toNat]

def cc0_transform_1 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S64x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S64x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S64x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S64x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S64x4096 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S64x4096 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference27Ideal.lean ====
abbrev S8 : Shape := ⟨1, ![8]⟩
abbrev S8x1024x4096 : Shape := ⟨3, ![8, 1024, 4096]⟩
abbrev S4x1024x4096 : Shape := ⟨3, ![4, 1024, 4096]⟩
abbrev S3x1024x4096 : Shape := ⟨3, ![3, 1024, 4096]⟩
abbrev S1024x4096 : Shape := ⟨2, ![1024, 4096]⟩
abbrev S1 : Shape := ⟨1, ![1]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x1024x4096, .bf16⟩
  | .hbm, ⟨2, _⟩ => ⟨S4x1024x4096, .bf16⟩
  | .hbm, ⟨3, _⟩ => ⟨S3x1024x4096, .bf16⟩
  | .hbm, ⟨4, _⟩ => ⟨S1024x4096, .f32⟩
  | .hbm, ⟨5, _⟩ => ⟨S1024x4096, .f32⟩
  | .hbm, ⟨6, _⟩ => ⟨S1024x4096, .f32⟩
  | .hbm, ⟨7, _⟩ => ⟨S1, .i32⟩
  | .hbm, ⟨8, _⟩ => ⟨S_, .i32⟩
  | .hbm, ⟨9, _⟩ => ⟨S8x1024x4096, .i32⟩
  | .hbm, ⟨10, _⟩ => ⟨S8x1024x4096, .i32⟩
  | .hbm, ⟨11, _⟩ => ⟨S8x1024x4096, .i1⟩
  | .hbm, ⟨12, _⟩ => ⟨S8x1024x4096, .f32⟩
  | .hbm, ⟨13, _⟩ => ⟨S_, .f32⟩
  | .hbm, ⟨14, _⟩ => ⟨S_, .f32⟩
  | .hbm, ⟨15, _⟩ => ⟨S8x1024x4096, .f32⟩
  | .hbm, ⟨16, _⟩ => ⟨S8x1024x4096, .f32⟩
  | .hbm, ⟨17, _⟩ => ⟨S_, .f32⟩
  | .hbm, ⟨18, _⟩ => ⟨S1024x4096, .f32⟩
  | .hbm, ⟨19, _⟩ => ⟨S1, .i32⟩
  | .hbm, ⟨20, _⟩ => ⟨S_, .i32⟩
  | .hbm, ⟨21, _⟩ => ⟨S4x1024x4096, .i32⟩
  | .hbm, ⟨22, _⟩ => ⟨S4x1024x4096, .i32⟩
  | .hbm, ⟨23, _⟩ => ⟨S4x1024x4096, .i1⟩
  | .hbm, ⟨24, _⟩ => ⟨S4x1024x4096, .f32⟩
  | .hbm, ⟨25, _⟩ => ⟨S_, .f32⟩
  | .hbm, ⟨26, _⟩ => ⟨S_, .f32⟩
  | .hbm, ⟨27, _⟩ => ⟨S4x1024x4096, .f32⟩
  | .hbm, ⟨28, _⟩ => ⟨S4x1024x4096, .f32⟩
  | .hbm, ⟨29, _⟩ => ⟨S_, .f32⟩
  | .hbm, ⟨30, _⟩ => ⟨S1024x4096, .f32⟩
  | .hbm, ⟨31, _⟩ => ⟨S1024x4096, .f32⟩
  | .hbm, ⟨32, _⟩ => ⟨S3x1024x4096, .f32⟩
  | .hbm, ⟨33, _⟩ => ⟨S_, .f32⟩
  | .hbm, ⟨34, _⟩ => ⟨S1024x4096, .f32⟩
  | .hbm, ⟨35, _⟩ => ⟨S1024x4096, .f32⟩
  | .hbm, ⟨36, _⟩ => ⟨S_, .f32⟩
  | .hbm, ⟨37, _⟩ => ⟨S1024x4096, .f32⟩
  | .hbm, ⟨38, _⟩ => ⟨S1024x4096, .f32⟩
  | .hbm, ⟨39, _⟩ => ⟨S_, .f32⟩
  | .hbm, ⟨40, _⟩ => ⟨S1024x4096, .f32⟩
  | .hbm, ⟨41, _⟩ => ⟨S1024x4096, .f32⟩
  | .hbm, ⟨42, _⟩ => ⟨S1024x4096, .f32⟩
  | .hbm, ⟨43, _⟩ => ⟨S_, .f32⟩
  | .hbm, ⟨44, _⟩ => ⟨S1024x4096, .f32⟩
  | .hbm, ⟨45, _⟩ => ⟨S1024x4096, .f32⟩
  | .hbm, ⟨46, _⟩ => ⟨S1024x4096, .f32⟩
  | .hbm, ⟨47, _⟩ => ⟨S_, .f32⟩
  | .hbm, ⟨48, _⟩ => ⟨S1024x4096, .f32⟩
  | .hbm, ⟨49, _⟩ => ⟨S1024x4096, .f32⟩
  | .hbm, ⟨50, _⟩ => ⟨S1024x4096, .f32⟩
  | .hbm, ⟨51, _⟩ => ⟨S_, .f32⟩
  | .hbm, ⟨52, _⟩ => ⟨S1024x4096, .f32⟩
  | .hbm, ⟨53, _⟩ => ⟨S1024x4096, .f32⟩
  | .hbm, ⟨54, _⟩ => ⟨S_, .f32⟩
  | .hbm, ⟨55, _⟩ => ⟨S1024x4096, .f32⟩
  | .hbm, ⟨56, _⟩ => ⟨S1024x4096, .f32⟩
  | .hbm, ⟨57, _⟩ => ⟨S1024x4096, .f32⟩
  | .hbm, ⟨58, _⟩ => ⟨S_, .f32⟩
  | .hbm, ⟨59, _⟩ => ⟨S1024x4096, .f32⟩
  | .hbm, ⟨60, _⟩ => ⟨S1024x4096, .f32⟩
  | .hbm, ⟨61, _⟩ => ⟨S1024x4096, .f32⟩
  | .hbm, ⟨62, _⟩ => ⟨S_, .f32⟩
  | .hbm, ⟨63, _⟩ => ⟨S1024x4096, .f32⟩
  | .hbm, ⟨64, _⟩ => ⟨S1024x4096, .f32⟩
  | .hbm, ⟨65, _⟩ => ⟨S1024x4096, .f32⟩
  | .hbm, ⟨66, _⟩ => ⟨S_, .f32⟩
  | .hbm, ⟨67, _⟩ => ⟨S1024x4096, .f32⟩
  | .hbm, ⟨68, _⟩ => ⟨S1024x4096, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Kernel28.lean ====
abbrev S8 : Shape := ⟨1, ![8]⟩
abbrev S8x1024x2048 : Shape := ⟨3, ![8, 1024, 2048]⟩
abbrev S4x1024x2048 : Shape := ⟨3, ![4, 1024, 2048]⟩
abbrev S3x1024x2048 : Shape := ⟨3, ![3, 1024, 2048]⟩
abbrev S1024x2048 : Shape := ⟨2, ![1024, 2048]⟩
abbrev S1x128x2048 : Shape := ⟨3, ![1, 128, 2048]⟩
abbrev S1 : Shape := ⟨1, ![1]⟩
abbrev S3x128x2048 : Shape := ⟨3, ![3, 128, 2048]⟩
abbrev S128x2048 : Shape := ⟨2, ![128, 2048]⟩

abbrev nBuf : Space → Nat
  | .hbm => 10
  | .vmem => 20
  | .smem => 1
  | _ => 0

abbrev bufTy : (tb : Table) → Fin (tcTables nBuf tb) → BufTy
  | .hbm, ⟨0, _⟩ => ⟨S8x1024x2048, .bf16⟩
  | .hbm, ⟨1, _⟩ => ⟨S4x1024x2048, .bf16⟩
  | .hbm, ⟨2, _⟩ => ⟨S3x1024x2048, .bf16⟩
  | .hbm, ⟨3, _⟩ => ⟨S1024x2048, .f32⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1024x2048, .f32⟩
  | .hbm, ⟨8, _⟩ => ⟨S1024x2048, .f32⟩
  | .hbm, ⟨9, _⟩ => ⟨S1024x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S3x128x2048, .bf16⟩
  | .local _ .vmem, ⟨5, _⟩ => ⟨S3x128x2048, .bf16⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .smem, ⟨0, _⟩ => ⟨S8, .i32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![8], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S8_S1_5 : ∀ a, (![5] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c5 : Index := 5#32
  let v0 : BitVec 32 := pf.at 0 (Rect.unit (s := S8) ![5] S1.size inb_S8_S1_5) numel1_S1
  let c0_i32 : BitVec 32 := 0#32
  let c0_i32_0 : BitVec 32 := 0#32
  ![v0.toNat, arg0.toNat, c0_i32.toNat]

def cc0_transform_1 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference28Ideal.lean ====
abbrev S8 : Shape := ⟨1, ![8]⟩
abbrev S8x1024x2048 : Shape := ⟨3, ![8, 1024, 2048]⟩
abbrev S4x1024x2048 : Shape := ⟨3, ![4, 1024, 2048]⟩
abbrev S3x1024x2048 : Shape := ⟨3, ![3, 1024, 2048]⟩
abbrev S1024x2048 : Shape := ⟨2, ![1024, 2048]⟩
abbrev S1 : Shape := ⟨1, ![1]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x1024x2048, .bf16⟩
  | .hbm, ⟨2, _⟩ => ⟨S4x1024x2048, .bf16⟩
  | .hbm, ⟨3, _⟩ => ⟨S3x1024x2048, .bf16⟩
  | .hbm, ⟨4, _⟩ => ⟨S1024x2048, .f32⟩
  | .hbm, ⟨5, _⟩ => ⟨S1024x2048, .f32⟩
  | .hbm, ⟨6, _⟩ => ⟨S1024x2048, .f32⟩
  | .hbm, ⟨7, _⟩ => ⟨S1, .i32⟩
  | .hbm, ⟨8, _⟩ => ⟨S_, .i32⟩
  | .hbm, ⟨9, _⟩ => ⟨S8x1024x2048, .i32⟩
  | .hbm, ⟨10, _⟩ => ⟨S8x1024x2048, .i32⟩
  | .hbm, ⟨11, _⟩ => ⟨S8x1024x2048, .i1⟩
  | .hbm, ⟨12, _⟩ => ⟨S8x1024x2048, .f32⟩
  | .hbm, ⟨13, _⟩ => ⟨S_, .f32⟩
  | .hbm, ⟨14, _⟩ => ⟨S_, .f32⟩
  | .hbm, ⟨15, _⟩ => ⟨S8x1024x2048, .f32⟩
  | .hbm, ⟨16, _⟩ => ⟨S8x1024x2048, .f32⟩
  | .hbm, ⟨17, _⟩ => ⟨S_, .f32⟩
  | .hbm, ⟨18, _⟩ => ⟨S1024x2048, .f32⟩
  | .hbm, ⟨19, _⟩ => ⟨S1, .i32⟩
  | .hbm, ⟨20, _⟩ => ⟨S_, .i32⟩
  | .hbm, ⟨21, _⟩ => ⟨S4x1024x2048, .i32⟩
  | .hbm, ⟨22, _⟩ => ⟨S4x1024x2048, .i32⟩
  | .hbm, ⟨23, _⟩ => ⟨S4x1024x2048, .i1⟩
  | .hbm, ⟨24, _⟩ => ⟨S4x1024x2048, .f32⟩
  | .hbm, ⟨25, _⟩ => ⟨S_, .f32⟩
  | .hbm, ⟨26, _⟩ => ⟨S_, .f32⟩
  | .hbm, ⟨27, _⟩ => ⟨S4x1024x2048, .f32⟩
  | .hbm, ⟨28, _⟩ => ⟨S4x1024x2048, .f32⟩
  | .hbm, ⟨29, _⟩ => ⟨S_, .f32⟩
  | .hbm, ⟨30, _⟩ => ⟨S1024x2048, .f32⟩
  | .hbm, ⟨31, _⟩ => ⟨S1024x2048, .f32⟩
  | .hbm, ⟨32, _⟩ => ⟨S3x1024x2048, .f32⟩
  | .hbm, ⟨33, _⟩ => ⟨S_, .f32⟩
  | .hbm, ⟨34, _⟩ => ⟨S1024x2048, .f32⟩
  | .hbm, ⟨35, _⟩ => ⟨S1024x2048, .f32⟩
  | .hbm, ⟨36, _⟩ => ⟨S_, .f32⟩
  | .hbm, ⟨37, _⟩ => ⟨S1024x2048, .f32⟩
  | .hbm, ⟨38, _⟩ => ⟨S1024x2048, .f32⟩
  | .hbm, ⟨39, _⟩ => ⟨S_, .f32⟩
  | .hbm, ⟨40, _⟩ => ⟨S1024x2048, .f32⟩
  | .hbm, ⟨41, _⟩ => ⟨S1024x2048, .f32⟩
  | .hbm, ⟨42, _⟩ => ⟨S1024x2048, .f32⟩
  | .hbm, ⟨43, _⟩ => ⟨S_, .f32⟩
  | .hbm, ⟨44, _⟩ => ⟨S1024x2048, .f32⟩
  | .hbm, ⟨45, _⟩ => ⟨S1024x2048, .f32⟩
  | .hbm, ⟨46, _⟩ => ⟨S1024x2048, .f32⟩
  | .hbm, ⟨47, _⟩ => ⟨S_, .f32⟩
  | .hbm, ⟨48, _⟩ => ⟨S1024x2048, .f32⟩
  | .hbm, ⟨49, _⟩ => ⟨S1024x2048, .f32⟩
  | .hbm, ⟨50, _⟩ => ⟨S1024x2048, .f32⟩
  | .hbm, ⟨51, _⟩ => ⟨S_, .f32⟩
  | .hbm, ⟨52, _⟩ => ⟨S1024x2048, .f32⟩
  | .hbm, ⟨53, _⟩ => ⟨S1024x2048, .f32⟩
  | .hbm, ⟨54, _⟩ => ⟨S_, .f32⟩
  | .hbm, ⟨55, _⟩ => ⟨S1024x2048, .f32⟩
  | .hbm, ⟨56, _⟩ => ⟨S1024x2048, .f32⟩
  | .hbm, ⟨57, _⟩ => ⟨S1024x2048, .f32⟩
  | .hbm, ⟨58, _⟩ => ⟨S_, .f32⟩
  | .hbm, ⟨59, _⟩ => ⟨S1024x2048, .f32⟩
  | .hbm, ⟨60, _⟩ => ⟨S1024x2048, .f32⟩
  | .hbm, ⟨61, _⟩ => ⟨S1024x2048, .f32⟩
  | .hbm, ⟨62, _⟩ => ⟨S_, .f32⟩
  | .hbm, ⟨63, _⟩ => ⟨S1024x2048, .f32⟩
  | .hbm, ⟨64, _⟩ => ⟨S1024x2048, .f32⟩
  | .hbm, ⟨65, _⟩ => ⟨S1024x2048, .f32⟩
  | .hbm, ⟨66, _⟩ => ⟨S_, .f32⟩
  | .hbm, ⟨67, _⟩ => ⟨S1024x2048, .f32⟩
  | .hbm, ⟨68, _⟩ => ⟨S1024x2048, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Kernel29.lean ====
abbrev S8 : Shape := ⟨1, ![8]⟩
abbrev S8x4096x2048 : Shape := ⟨3, ![8, 4096, 2048]⟩
abbrev S4x4096x2048 : Shape := ⟨3, ![4, 4096, 2048]⟩
abbrev S3x4096x2048 : Shape := ⟨3, ![3, 4096, 2048]⟩
abbrev S4096x2048 : Shape := ⟨2, ![4096, 2048]⟩
abbrev S1x128x2048 : Shape := ⟨3, ![1, 128, 2048]⟩
abbrev S1 : Shape := ⟨1, ![1]⟩
abbrev S3x128x2048 : Shape := ⟨3, ![3, 128, 2048]⟩
abbrev S128x2048 : Shape := ⟨2, ![128, 2048]⟩

abbrev nBuf : Space → Nat
  | .hbm => 10
  | .vmem => 20
  | .smem => 1
  | _ => 0

abbrev bufTy : (tb : Table) → Fin (tcTables nBuf tb) → BufTy
  | .hbm, ⟨0, _⟩ => ⟨S8x4096x2048, .bf16⟩
  | .hbm, ⟨1, _⟩ => ⟨S4x4096x2048, .bf16⟩
  | .hbm, ⟨2, _⟩ => ⟨S3x4096x2048, .bf16⟩
  | .hbm, ⟨3, _⟩ => ⟨S4096x2048, .f32⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S4096x2048, .f32⟩
  | .hbm, ⟨8, _⟩ => ⟨S4096x2048, .f32⟩
  | .hbm, ⟨9, _⟩ => ⟨S4096x2048, .f32⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S3x128x2048, .bf16⟩
  | .local _ .vmem, ⟨5, _⟩ => ⟨S3x128x2048, .bf16⟩
  | .local _ .vmem, ⟨6, _⟩ => ⟨S128x2048, .f32⟩
  | .local _ .vmem, ⟨7, _⟩ => ⟨S128x2048, .f32⟩
  | .local _ .vmem, ⟨8, _⟩ => ⟨S128x2048, .f32⟩
  | .local _ .vmem, ⟨9, _⟩ => ⟨S128x2048, .f32⟩
  | .local _ .vmem, ⟨10, _⟩ => ⟨S128x2048, .f32⟩
  | .local _ .vmem, ⟨11, _⟩ => ⟨S128x2048, .f32⟩
  | .local _ .vmem, ⟨12, _⟩ => ⟨S128x2048, .f32⟩
  | .local _ .vmem, ⟨13, _⟩ => ⟨S128x2048, .f32⟩
  | .local _ .vmem, ⟨14, _⟩ => ⟨S128x2048, .f32⟩
  | .local _ .vmem, ⟨15, _⟩ => ⟨S128x2048, .f32⟩
  | .local _ .vmem, ⟨16, _⟩ => ⟨S128x2048, .f32⟩
  | .local _ .vmem, ⟨17, _⟩ => ⟨S128x2048, .f32⟩
  | .local _ .vmem, ⟨18, _⟩ => ⟨S128x2048, .f32⟩
  | .local _ .vmem, ⟨19, _⟩ => ⟨S128x2048, .f32⟩
  | .local _ .smem, ⟨0, _⟩ => ⟨S8, .i32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S8_S1_5 : ∀ a, (![5] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c5 : Index := 5#32
  let v0 : BitVec 32 := pf.at 0 (Rect.unit (s := S8) ![5] S1.size inb_S8_S1_5) numel1_S1
  let c0_i32 : BitVec 32 := 0#32
  let c0_i32_0 : BitVec 32 := 0#32
  ![v0.toNat, arg0.toNat, c0_i32.toNat]

def cc0_transform_1 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x2048 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference29Ideal.lean ====
abbrev S8 : Shape := ⟨1, ![8]⟩
abbrev S8x4096x2048 : Shape := ⟨3, ![8, 4096, 2048]⟩
abbrev S4x4096x2048 : Shape := ⟨3, ![4, 4096, 2048]⟩
abbrev S3x4096x2048 : Shape := ⟨3, ![3, 4096, 2048]⟩
abbrev S4096x2048 : Shape := ⟨2, ![4096, 2048]⟩
abbrev S1 : Shape := ⟨1, ![1]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x4096x2048, .bf16⟩
  | .hbm, ⟨2, _⟩ => ⟨S4x4096x2048, .bf16⟩
  | .hbm, ⟨3, _⟩ => ⟨S3x4096x2048, .bf16⟩
  | .hbm, ⟨4, _⟩ => ⟨S4096x2048, .f32⟩
  | .hbm, ⟨5, _⟩ => ⟨S4096x2048, .f32⟩
  | .hbm, ⟨6, _⟩ => ⟨S4096x2048, .f32⟩
  | .hbm, ⟨7, _⟩ => ⟨S1, .i32⟩
  | .hbm, ⟨8, _⟩ => ⟨S_, .i32⟩
  | .hbm, ⟨9, _⟩ => ⟨S8x4096x2048, .i32⟩
  | .hbm, ⟨10, _⟩ => ⟨S8x4096x2048, .i32⟩
  | .hbm, ⟨11, _⟩ => ⟨S8x4096x2048, .i1⟩
  | .hbm, ⟨12, _⟩ => ⟨S8x4096x2048, .f32⟩
  | .hbm, ⟨13, _⟩ => ⟨S_, .f32⟩
  | .hbm, ⟨14, _⟩ => ⟨S_, .f32⟩
  | .hbm, ⟨15, _⟩ => ⟨S8x4096x2048, .f32⟩
  | .hbm, ⟨16, _⟩ => ⟨S8x4096x2048, .f32⟩
  | .hbm, ⟨17, _⟩ => ⟨S_, .f32⟩
  | .hbm, ⟨18, _⟩ => ⟨S4096x2048, .f32⟩
  | .hbm, ⟨19, _⟩ => ⟨S1, .i32⟩
  | .hbm, ⟨20, _⟩ => ⟨S_, .i32⟩
  | .hbm, ⟨21, _⟩ => ⟨S4x4096x2048, .i32⟩
  | .hbm, ⟨22, _⟩ => ⟨S4x4096x2048, .i32⟩
  | .hbm, ⟨23, _⟩ => ⟨S4x4096x2048, .i1⟩
  | .hbm, ⟨24, _⟩ => ⟨S4x4096x2048, .f32⟩
  | .hbm, ⟨25, _⟩ => ⟨S_, .f32⟩
  | .hbm, ⟨26, _⟩ => ⟨S_, .f32⟩
  | .hbm, ⟨27, _⟩ => ⟨S4x4096x2048, .f32⟩
  | .hbm, ⟨28, _⟩ => ⟨S4x4096x2048, .f32⟩
  | .hbm, ⟨29, _⟩ => ⟨S_, .f32⟩
  | .hbm, ⟨30, _⟩ => ⟨S4096x2048, .f32⟩
  | .hbm, ⟨31, _⟩ => ⟨S4096x2048, .f32⟩
  | .hbm, ⟨32, _⟩ => ⟨S3x4096x2048, .f32⟩
  | .hbm, ⟨33, _⟩ => ⟨S_, .f32⟩
  | .hbm, ⟨34, _⟩ => ⟨S4096x2048, .f32⟩
  | .hbm, ⟨35, _⟩ => ⟨S4096x2048, .f32⟩
  | .hbm, ⟨36, _⟩ => ⟨S_, .f32⟩
  | .hbm, ⟨37, _⟩ => ⟨S4096x2048, .f32⟩
  | .hbm, ⟨38, _⟩ => ⟨S4096x2048, .f32⟩
  | .hbm, ⟨39, _⟩ => ⟨S_, .f32⟩
  | .hbm, ⟨40, _⟩ => ⟨S4096x2048, .f32⟩
  | .hbm, ⟨41, _⟩ => ⟨S4096x2048, .f32⟩
  | .hbm, ⟨42, _⟩ => ⟨S4096x2048, .f32⟩
  | .hbm, ⟨43, _⟩ => ⟨S_, .f32⟩
  | .hbm, ⟨44, _⟩ => ⟨S4096x2048, .f32⟩
  | .hbm, ⟨45, _⟩ => ⟨S4096x2048, .f32⟩
  | .hbm, ⟨46, _⟩ => ⟨S4096x2048, .f32⟩
  | .hbm, ⟨47, _⟩ => ⟨S_, .f32⟩
  | .hbm, ⟨48, _⟩ => ⟨S4096x2048, .f32⟩
  | .hbm, ⟨49, _⟩ => ⟨S4096x2048, .f32⟩
  | .hbm, ⟨50, _⟩ => ⟨S4096x2048, .f32⟩
  | .hbm, ⟨51, _⟩ => ⟨S_, .f32⟩
  | .hbm, ⟨52, _⟩ => ⟨S4096x2048, .f32⟩
  | .hbm, ⟨53, _⟩ => ⟨S4096x2048, .f32⟩
  | .hbm, ⟨54, _⟩ => ⟨S_, .f32⟩
  | .hbm, ⟨55, _⟩ => ⟨S4096x2048, .f32⟩
  | .hbm, ⟨56, _⟩ => ⟨S4096x2048, .f32⟩
  | .hbm, ⟨57, _⟩ => ⟨S4096x2048, .f32⟩
  | .hbm, ⟨58, _⟩ => ⟨S_, .f32⟩
  | .hbm, ⟨59, _⟩ => ⟨S4096x2048, .f32⟩
  | .hbm, ⟨60, _⟩ => ⟨S4096x2048, .f32⟩
  | .hbm, ⟨61, _⟩ => ⟨S4096x2048, .f32⟩
  | .hbm, ⟨62, _⟩ => ⟨S_, .f32⟩
  | .hbm, ⟨63, _⟩ => ⟨S4096x2048, .f32⟩
  | .hbm, ⟨64, _⟩ => ⟨S4096x2048, .f32⟩
  | .hbm, ⟨65, _⟩ => ⟨S4096x2048, .f32⟩
  | .hbm, ⟨66, _⟩ => ⟨S_, .f32⟩
  | .hbm, ⟨67, _⟩ => ⟨S4096x2048, .f32⟩
  | .hbm, ⟨68, _⟩ => ⟨S4096x2048, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Kernel30.lean ====
abbrev S8 : Shape := ⟨1, ![8]⟩
abbrev S4x4096x3072 : Shape := ⟨3, ![4, 4096, 3072]⟩
abbrev S3x4096x3072 : Shape := ⟨3, ![3, 4096, 3072]⟩
abbrev S4096x3072 : Shape := ⟨2, ![4096, 3072]⟩
abbrev S1x128x3072 : Shape := ⟨3, ![1, 128, 3072]⟩
abbrev S1 : Shape := ⟨1, ![1]⟩
abbrev S3x128x3072 : Shape := ⟨3, ![3, 128, 3072]⟩
abbrev S128x3072 : Shape := ⟨2, ![128, 3072]⟩

abbrev nBuf : Space → Nat
  | .hbm => 10
  | .vmem => 20
  | .smem => 1
  | _ => 0

abbrev bufTy : (tb : Table) → Fin (tcTables nBuf tb) → BufTy
  | .hbm, ⟨0, _⟩ => ⟨S4x4096x3072, .bf16⟩
  | .hbm, ⟨1, _⟩ => ⟨S4x4096x3072, .bf16⟩
  | .hbm, ⟨2, _⟩ => ⟨S3x4096x3072, .bf16⟩
  | .hbm, ⟨3, _⟩ => ⟨S4096x3072, .f32⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S4096x3072, .f32⟩
  | .hbm, ⟨8, _⟩ => ⟨S4096x3072, .f32⟩
  | .hbm, ⟨9, _⟩ => ⟨S4096x3072, .f32⟩
  | .local _ .vmem, ⟨0, _⟩ => ⟨S1x128x3072, .bf16⟩
  | .local _ .vmem, ⟨1, _⟩ => ⟨S1x128x3072, .bf16⟩
  | .local _ .vmem, ⟨2, _⟩ => ⟨S1x128x3072, .bf16⟩
  | .local _ .vmem, ⟨3, _⟩ => ⟨S1x128x3072, .bf16⟩
  | .local _ .vmem, ⟨4, _⟩ => ⟨S3x128x3072, .bf16⟩
  | .local _ .vmem, ⟨5, _⟩ => ⟨S3x128x3072, .bf16⟩
  | .local _ .vmem, ⟨6, _⟩ => ⟨S128x3072, .f32⟩
  | .local _ .vmem, ⟨7, _⟩ => ⟨S128x3072, .f32⟩
  | .local _ .vmem, ⟨8, _⟩ => ⟨S128x3072, .f32⟩
  | .local _ .vmem, ⟨9, _⟩ => ⟨S128x3072, .f32⟩
  | .local _ .vmem, ⟨10, _⟩ => ⟨S128x3072, .f32⟩
  | .local _ .vmem, ⟨11, _⟩ => ⟨S128x3072, .f32⟩
  | .local _ .vmem, ⟨12, _⟩ => ⟨S128x3072, .f32⟩
  | .local _ .vmem, ⟨13, _⟩ => ⟨S128x3072, .f32⟩
  | .local _ .vmem, ⟨14, _⟩ => ⟨S128x3072, .f32⟩
  | .local _ .vmem, ⟨15, _⟩ => ⟨S128x3072, .f32⟩
  | .local _ .vmem, ⟨16, _⟩ => ⟨S128x3072, .f32⟩
  | .local _ .vmem, ⟨17, _⟩ => ⟨S128x3072, .f32⟩
  | .local _ .vmem, ⟨18, _⟩ => ⟨S128x3072, .f32⟩
  | .local _ .vmem, ⟨19, _⟩ => ⟨S128x3072, .f32⟩
  | .local _ .smem, ⟨0, _⟩ => ⟨S8, .i32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19

abbrev nD : Nat := 1
abbrev τ : Topo := Topo.v7x

variable {F : FTy → Type} [FloatOps F]

abbrev grid0 : Pipeline.Grid := ⟨1, ![32], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, arg0.toNat, c0_i32.toNat]

def cc0_transform_1 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x3072 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x3072 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x3072 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x3072 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x3072 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S128x3072 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S128x3072 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== Reference30Ideal.lean ====
abbrev S8 : Shape := ⟨1, ![8]⟩
abbrev S4x4096x3072 : Shape := ⟨3, ![4, 4096, 3072]⟩
abbrev S3x4096x3072 : Shape := ⟨3, ![3, 4096, 3072]⟩
abbrev S4096x3072 : Shape := ⟨2, ![4096, 3072]⟩
abbrev S1 : Shape := ⟨1, ![1]⟩
abbrev S_ : Shape := ⟨0, ![]⟩

abbrev nBuf : Space → Nat
  | .hbm => 69
  | .vmem => 0
  | .smem => 0
  | _ => 0

abbrev bufTy : (tb : Table) → Fin (tcTables nBuf tb) → BufTy
  | .hbm, ⟨0, _⟩ => ⟨S8, .i32⟩
  | .hbm, ⟨1, _⟩ => ⟨S4x4096x3072, .bf16⟩
  | .hbm, ⟨2, _⟩ => ⟨S4x4096x3072, .bf16⟩
  | .hbm, ⟨3, _⟩ => ⟨S3x4096x3072, .bf16⟩
  | .hbm, ⟨4, _⟩ => ⟨S4096x3072, .f32⟩
  | .hbm, ⟨5, _⟩ => ⟨S4096x3072, .f32⟩
  | .hbm, ⟨6, _⟩ => ⟨S4096x3072, .f32⟩
  | .hbm, ⟨7, _⟩ => ⟨S1, .i32⟩
  | .hbm, ⟨8, _⟩ => ⟨S_, .i32⟩
  | .hbm, ⟨9, _⟩ => ⟨S4x4096x3072, .i32⟩
  | .hbm, ⟨10, _⟩ => ⟨S4x4096x3072, .i32⟩
  | .hbm, ⟨11, _⟩ => ⟨S4x4096x3072, .i1⟩
  | .hbm, ⟨12, _⟩ => ⟨S4x4096x3072, .f32⟩
  | .hbm, ⟨13, _⟩ => ⟨S_, .f32⟩
  | .hbm, ⟨14, _⟩ => ⟨S_, .f32⟩
  | .hbm, ⟨15, _⟩ => ⟨S4x4096x3072, .f32⟩
  | .hbm, ⟨16, _⟩ => ⟨S4x4096x3072, .f32⟩
  | .hbm, ⟨17, _⟩ => ⟨S_, .f32⟩
  | .hbm, ⟨18, _⟩ => ⟨S4096x3072, .f32⟩
  | .hbm, ⟨19, _⟩ => ⟨S1, .i32⟩
  | .hbm, ⟨20, _⟩ => ⟨S_, .i32⟩
  | .hbm, ⟨21, _⟩ => ⟨S4x4096x3072, .i32⟩
  | .hbm, ⟨22, _⟩ => ⟨S4x4096x3072, .i32⟩
  | .hbm, ⟨23, _⟩ => ⟨S4x4096x3072, .i1⟩
  | .hbm, ⟨24, _⟩ => ⟨S4x4096x3072, .f32⟩
  | .hbm, ⟨25, _⟩ => ⟨S_, .f32⟩
  | .hbm, ⟨26, _⟩ => ⟨S_, .f32⟩
  | .hbm, ⟨27, _⟩ => ⟨S4x4096x3072, .f32⟩
  | .hbm, ⟨28, _⟩ => ⟨S4x4096x3072, .f32⟩
  | .hbm, ⟨29, _⟩ => ⟨S_, .f32⟩
  | .hbm, ⟨30, _⟩ => ⟨S4096x3072, .f32⟩
  | .hbm, ⟨31, _⟩ => ⟨S4096x3072, .f32⟩
  | .hbm, ⟨32, _⟩ => ⟨S3x4096x3072, .f32⟩
  | .hbm, ⟨33, _⟩ => ⟨S_, .f32⟩
  | .hbm, ⟨34, _⟩ => ⟨S4096x3072, .f32⟩
  | .hbm, ⟨35, _⟩ => ⟨S4096x3072, .f32⟩
  | .hbm, ⟨36, _⟩ => ⟨S_, .f32⟩
  | .hbm, ⟨37, _⟩ => ⟨S4096x3072, .f32⟩
  | .hbm, ⟨38, _⟩ => ⟨S4096x3072, .f32⟩
  | .hbm, ⟨39, _⟩ => ⟨S_, .f32⟩
  | .hbm, ⟨40, _⟩ => ⟨S4096x3072, .f32⟩
  | .hbm, ⟨41, _⟩ => ⟨S4096x3072, .f32⟩
  | .hbm, ⟨42, _⟩ => ⟨S4096x3072, .f32⟩
  | .hbm, ⟨43, _⟩ => ⟨S_, .f32⟩
  | .hbm, ⟨44, _⟩ => ⟨S4096x3072, .f32⟩
  | .hbm, ⟨45, _⟩ => ⟨S4096x3072, .f32⟩
  | .hbm, ⟨46, _⟩ => ⟨S4096x3072, .f32⟩
  | .hbm, ⟨47, _⟩ => ⟨S_, .f32⟩
  | .hbm, ⟨48, _⟩ => ⟨S4096x3072, .f32⟩
  | .hbm, ⟨49, _⟩ => ⟨S4096x3072, .f32⟩
  | .hbm, ⟨50, _⟩ => ⟨S4096x3072, .f32⟩
  | .hbm, ⟨51, _⟩ => ⟨S_, .f32⟩
  | .hbm, ⟨52, _⟩ => ⟨S4096x3072, .f32⟩
  | .hbm, ⟨53, _⟩ => ⟨S4096x3072, .f32⟩
  | .hbm, ⟨54, _⟩ => ⟨S_, .f32⟩
  | .hbm, ⟨55, _⟩ => ⟨S4096x3072, .f32⟩
  | .hbm, ⟨56, _⟩ => ⟨S4096x3072, .f32⟩
  | .hbm, ⟨57, _⟩ => ⟨S4096x3072, .f32⟩
  | .hbm, ⟨58, _⟩ => ⟨S_, .f32⟩
  | .hbm, ⟨59, _⟩ => ⟨S4096x3072, .f32⟩
  | .hbm, ⟨60, _⟩ => ⟨S4096x3072, .f32⟩
  | .hbm, ⟨61, _⟩ => ⟨S4096x3072, .f32⟩
  | .hbm, ⟨62, _⟩ => ⟨S_, .f32⟩
  | .hbm, ⟨63, _⟩ => ⟨S4096x3072, .f32⟩
  | .hbm, ⟨64, _⟩ => ⟨S4096x3072, .f32⟩
  | .hbm, ⟨65, _⟩ => ⟨S4096x3072, .f32⟩
  | .hbm, ⟨66, _⟩ => ⟨S_, .f32⟩
  | .hbm, ⟨67, _⟩ => ⟨S4096x3072, .f32⟩
  | .hbm, ⟨68, _⟩ => ⟨S4096x3072, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v6 : Ref sig .tc := ⟨.hbm, 16, rfl⟩
abbrev main_cst_0 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_cst_1 : Ref sig .tc := ⟨.hbm, 25, rfl⟩
abbrev main_call1_v0 : Ref sig .tc := ⟨.hbm, 26, rfl⟩
abbrev main_call1_v1 : Ref sig .tc := ⟨.hbm, 27, rfl⟩
abbrev main_v14 : Ref sig .tc := ⟨.hbm, 28, rfl⟩
abbrev main_cst_2 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_cst_3 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_cst_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_cst_6 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_cst_7 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_cst_8 : Ref sig .tc := ⟨.hbm, 51, rfl⟩
abbrev main_v31 : Ref sig .tc := ⟨.hbm, 52, rfl⟩
abbrev main_v32 : Ref sig .tc := ⟨.hbm, 53, rfl⟩
abbrev main_cst_9 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_cst_10 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_cst_11 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_cst_12 : Ref sig .tc := ⟨.hbm, 66, rfl⟩
abbrev main_v42 : Ref sig .tc := ⟨.hbm, 67, rfl⟩
abbrev main_v43 : Ref sig .tc := ⟨.hbm, 68, rfl⟩

abbrev nD : Nat := 1
abbrev τ : Topo := Topo.v7x

variable {F : FTy → Type} [FloatOps F]
-- ==== Kernel31.lean ====
abbrev S8 : Shape := ⟨1, ![8]⟩
abbrev S8x4x256 : Shape := ⟨3, ![8, 4, 256]⟩
abbrev S4x4x256 : Shape := ⟨3, ![4, 4, 256]⟩
abbrev S3x4x256 : Shape := ⟨3, ![3, 4, 256]⟩
abbrev S4x256 : Shape := ⟨2, ![4, 256]⟩
abbrev S1x4x256 : Shape := ⟨3, ![1, 4, 256]⟩
abbrev S1 : Shape := ⟨1, ![1]⟩

abbrev nBuf : Space → Nat
  | .hbm => 10
  | .vmem => 10
  | .smem => 1
  | _ => 0

abbrev bufTy : (tb : Table) → Fin (tcTables nBuf tb) → BufTy
  | .hbm, ⟨0, _⟩ => ⟨S8x4x256, .f32⟩
  | .hbm, ⟨1, _⟩ => ⟨S4x4x256, .f32⟩
  | .hbm, ⟨2, _⟩ => ⟨S3x4x256, .f32⟩
  | .hbm, ⟨3, _⟩ => ⟨S4x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S4x256, .f32⟩
  | .hbm, ⟨8, _⟩ => ⟨S4x256, .f32⟩
  | .hbm, ⟨9, _⟩ => ⟨S4x256, .f32⟩
  | .local _ .vmem, ⟨0, _⟩ => ⟨S1x4x256, .f32⟩
  | .local _ .vmem, ⟨1, _⟩ => ⟨S1x4x256, .f32⟩
  | .local _ .vmem, ⟨2, _⟩ => ⟨S3x4x256, .f32⟩
  | .local _ .vmem, ⟨3, _⟩ => ⟨S4x256, .f32⟩
  | .local _ .vmem, ⟨4, _⟩ => ⟨S4x256, .f32⟩
  | .local _ .vmem, ⟨5, _⟩ => ⟨S4x256, .f32⟩
  | .local _ .vmem, ⟨6, _⟩ => ⟨S4x256, .f32⟩
  | .local _ .vmem, ⟨7, _⟩ => ⟨S4x256, .f32⟩
  | .local _ .vmem, ⟨8, _⟩ => ⟨S4x256, .f32⟩
  | .local _ .vmem, ⟨9, _⟩ => ⟨S4x256, .f32⟩
  | .local _ .smem, ⟨0, _⟩ => ⟨S8, .i32⟩
  | _, _ => ⟨S8x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S8_S1_5 : ∀ a, (![5] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c5 : Index := 5#32
  let v0 : BitVec 32 := pf.at 0 (Rect.unit (s := S8) ![5] S1.size inb_S8_S1_5) numel1_S1
  let c0_i32 : BitVec 32 := 0#32
  let c0_i32_0 : BitVec 32 := 0#32
  ![v0.toNat, arg0.toNat, c0_i32.toNat]

def cc0_transform_1 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x4x256 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x4x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x4x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S4x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S4x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S4x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S4x256 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S4x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference31Ideal.lean ====
abbrev S8 : Shape := ⟨1, ![8]⟩
abbrev S8x4x256 : Shape := ⟨3, ![8, 4, 256]⟩
abbrev S4x4x256 : Shape := ⟨3, ![4, 4, 256]⟩
abbrev S3x4x256 : Shape := ⟨3, ![3, 4, 256]⟩
abbrev S4x256 : Shape := ⟨2, ![4, 256]⟩
abbrev S1 : Shape := ⟨1, ![1]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x4x256, .f32⟩
  | .hbm, ⟨2, _⟩ => ⟨S4x4x256, .f32⟩
  | .hbm, ⟨3, _⟩ => ⟨S3x4x256, .f32⟩
  | .hbm, ⟨4, _⟩ => ⟨S4x256, .f32⟩
  | .hbm, ⟨5, _⟩ => ⟨S4x256, .f32⟩
  | .hbm, ⟨6, _⟩ => ⟨S4x256, .f32⟩
  | .hbm, ⟨7, _⟩ => ⟨S1, .i32⟩
  | .hbm, ⟨8, _⟩ => ⟨S_, .i32⟩
  | .hbm, ⟨9, _⟩ => ⟨S8x4x256, .i32⟩
  | .hbm, ⟨10, _⟩ => ⟨S8x4x256, .i32⟩
  | .hbm, ⟨11, _⟩ => ⟨S8x4x256, .i1⟩
  | .hbm, ⟨12, _⟩ => ⟨S_, .f32⟩
  | .hbm, ⟨13, _⟩ => ⟨S_, .f32⟩
  | .hbm, ⟨14, _⟩ => ⟨S8x4x256, .f32⟩
  | .hbm, ⟨15, _⟩ => ⟨S8x4x256, .f32⟩
  | .hbm, ⟨16, _⟩ => ⟨S_, .f32⟩
  | .hbm, ⟨17, _⟩ => ⟨S4x256, .f32⟩
  | .hbm, ⟨18, _⟩ => ⟨S1, .i32⟩
  | .hbm, ⟨19, _⟩ => ⟨S_, .i32⟩
  | .hbm, ⟨20, _⟩ => ⟨S4x4x256, .i32⟩
  | .hbm, ⟨21, _⟩ => ⟨S4x4x256, .i32⟩
  | .hbm, ⟨22, _⟩ => ⟨S4x4x256, .i1⟩
  | .hbm, ⟨23, _⟩ => ⟨S_, .f32⟩
  | .hbm, ⟨24, _⟩ => ⟨S_, .f32⟩
  | .hbm, ⟨25, _⟩ => ⟨S4x4x256, .f32⟩
  | .hbm, ⟨26, _⟩ => ⟨S4x4x256, .f32⟩
  | .hbm, ⟨27, _⟩ => ⟨S_, .f32⟩
  | .hbm, ⟨28, _⟩ => ⟨S4x256, .f32⟩
  | .hbm, ⟨29, _⟩ => ⟨S4x256, .f32⟩
  | .hbm, ⟨30, _⟩ => ⟨S_, .f32⟩
  | .hbm, ⟨31, _⟩ => ⟨S4x256, .f32⟩
  | .hbm, ⟨32, _⟩ => ⟨S4x256, .f32⟩
  | .hbm, ⟨33, _⟩ => ⟨S_, .f32⟩
  | .hbm, ⟨34, _⟩ => ⟨S4x256, .f32⟩
  | .hbm, ⟨35, _⟩ => ⟨S4x256, .f32⟩
  | .hbm, ⟨36, _⟩ => ⟨S_, .f32⟩
  | .hbm, ⟨37, _⟩ => ⟨S4x256, .f32⟩
  | .hbm, ⟨38, _⟩ => ⟨S4x256, .f32⟩
  | .hbm, ⟨39, _⟩ => ⟨S4x256, .f32⟩
  | .hbm, ⟨40, _⟩ => ⟨S_, .f32⟩
  | .hbm, ⟨41, _⟩ => ⟨S4x256, .f32⟩
  | .hbm, ⟨42, _⟩ => ⟨S4x256, .f32⟩
  | .hbm, ⟨43, _⟩ => ⟨S4x256, .f32⟩
  | .hbm, ⟨44, _⟩ => ⟨S_, .f32⟩
  | .hbm, ⟨45, _⟩ => ⟨S4x256, .f32⟩
  | .hbm, ⟨46, _⟩ => ⟨S4x256, .f32⟩
  | .hbm, ⟨47, _⟩ => ⟨S4x256, .f32⟩
  | .hbm, ⟨48, _⟩ => ⟨S_, .f32⟩
  | .hbm, ⟨49, _⟩ => ⟨S4x256, .f32⟩
  | .hbm, ⟨50, _⟩ => ⟨S4x256, .f32⟩
  | .hbm, ⟨51, _⟩ => ⟨S_, .f32⟩
  | .hbm, ⟨52, _⟩ => ⟨S4x256, .f32⟩
  | .hbm, ⟨53, _⟩ => ⟨S4x256, .f32⟩
  | .hbm, ⟨54, _⟩ => ⟨S4x256, .f32⟩
  | .hbm, ⟨55, _⟩ => ⟨S_, .f32⟩
  | .hbm, ⟨56, _⟩ => ⟨S4x256, .f32⟩
  | .hbm, ⟨57, _⟩ => ⟨S4x256, .f32⟩
  | .hbm, ⟨58, _⟩ => ⟨S4x256, .f32⟩
  | .hbm, ⟨59, _⟩ => ⟨S_, .f32⟩
  | .hbm, ⟨60, _⟩ => ⟨S4x256, .f32⟩
  | .hbm, ⟨61, _⟩ => ⟨S4x256, .f32⟩
  | .hbm, ⟨62, _⟩ => ⟨S4x256, .f32⟩
  | .hbm, ⟨63, _⟩ => ⟨S_, .f32⟩
  | .hbm, ⟨64, _⟩ => ⟨S4x256, .f32⟩
  | .hbm, ⟨65, _⟩ => ⟨S4x256, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Kernel32.lean ====
abbrev S8 : Shape := ⟨1, ![8]⟩
abbrev S8x1x1024 : Shape := ⟨3, ![8, 1, 1024]⟩
abbrev S4x1x1024 : Shape := ⟨3, ![4, 1, 1024]⟩
abbrev S3x1x1024 : Shape := ⟨3, ![3, 1, 1024]⟩
abbrev S1x1024 : Shape := ⟨2, ![1, 1024]⟩
abbrev S1x1x1024 : Shape := ⟨3, ![1, 1, 1024]⟩
abbrev S1 : Shape := ⟨1, ![1]⟩

abbrev nBuf : Space → Nat
  | .hbm => 10
  | .vmem => 10
  | .smem => 1
  | _ => 0

abbrev bufTy : (tb : Table) → Fin (tcTables nBuf tb) → BufTy
  | .hbm, ⟨0, _⟩ => ⟨S8x1x1024, .f32⟩
  | .hbm, ⟨1, _⟩ => ⟨S4x1x1024, .f32⟩
  | .hbm, ⟨2, _⟩ => ⟨S3x1x1024, .f32⟩
  | .hbm, ⟨3, _⟩ => ⟨S1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1024, .f32⟩
  | .local _ .vmem, ⟨0, _⟩ => ⟨S1x1x1024, .f32⟩
  | .local _ .vmem, ⟨1, _⟩ => ⟨S1x1x1024, .f32⟩
  | .local _ .vmem, ⟨2, _⟩ => ⟨S3x1x1024, .f32⟩
  | .local _ .vmem, ⟨3, _⟩ => ⟨S1x1024, .f32⟩
  | .local _ .vmem, ⟨4, _⟩ => ⟨S1x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S1x1024, .f32⟩
  | .local _ .vmem, ⟨9, _⟩ => ⟨S1x1024, .f32⟩
  | .local _ .smem, ⟨0, _⟩ => ⟨S8, .i32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_arg3 : Ref sig .tc := ⟨.hbm, 2, rfl⟩
abbrev main_arg4 : Ref sig .tc := ⟨.hbm, 3, rfl⟩
abbrev main_arg5 : Ref sig .tc := ⟨.hbm, 4, rfl⟩
abbrev main_arg6 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev main_arg0 : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def cc0_transform_0 (inb_S8_S1_5 : ∀ a, (![5] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c5 : Index := 5#32
  let v0 : BitVec 32 := pf.at 0 (Rect.unit (s := S8) ![5] S1.size inb_S8_S1_5) numel1_S1
  let c0_i32 : BitVec 32 := 0#32
  let c0_i32_0 : BitVec 32 := 0#32
  ![v0.toNat, arg0.toNat, c0_i32.toNat]

def cc0_transform_1 (inb_S8_S1_4 : ∀ a, (![4] : Fin 1 → Nat) a + S1.size a ≤ S8.size a) (numel1_S1 : S1.numel = 1) (pf : pre0.Contents (Elt F)) (i : grid0.Coords) : Fin 3 → Nat :=
  let arg0 : BitVec 32 := BitVec.ofNat 32 (i 0).val
  let c4 : Index := 4#32
  let v0 : BitVec 32 := pf.at 0 (Rect.unit (s := S8) ![4] S1.size inb_S8_S1_4) numel1_S1
  let c0_i32 : BitVec 32 := 0#32
  let c0_i32_0 : BitVec 32 := 0#32
  ![v0.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S1x1x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S3x1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![true]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S1x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S1x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]
-- ==== Reference32Ideal.lean ====
abbrev S8 : Shape := ⟨1, ![8]⟩
abbrev S8x1x1024 : Shape := ⟨3, ![8, 1, 1024]⟩
abbrev S4x1x1024 : Shape := ⟨3, ![4, 1, 1024]⟩
abbrev S3x1x1024 : Shape := ⟨3, ![3, 1, 1024]⟩
abbrev S1x1024 : Shape := ⟨2, ![1, 1024]⟩
abbrev S1 : Shape := ⟨1, ![1]⟩
abbrev S_ : Shape := ⟨0, ![]⟩

abbrev nBuf : Space → Nat
  | .hbm => 66
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x1x1024, .f32⟩
  | .hbm, ⟨2, _⟩ => ⟨S4x1x1024, .f32⟩
  | .hbm, ⟨3, _⟩ => ⟨S3x1x1024, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1, .i32⟩
  | .hbm, ⟨8, _⟩ => ⟨S_, .i32⟩
  | .hbm, ⟨9, _⟩ => ⟨S8x1x1024, .i32⟩
  | .hbm, ⟨10, _⟩ => ⟨S8x1x1024, .i32⟩
  | .hbm, ⟨11, _⟩ => ⟨S8x1x1024, .i1⟩
  | .hbm, ⟨12, _⟩ => ⟨S_, .f32⟩
  | .hbm, ⟨13, _⟩ => ⟨S_, .f32⟩
  | .hbm, ⟨14, _⟩ => ⟨S8x1x1024, .f32⟩
  | .hbm, ⟨15, _⟩ => ⟨S8x1x1024, .f32⟩
  | .hbm, ⟨16, _⟩ => ⟨S_, .f32⟩
  | .hbm, ⟨17, _⟩ => ⟨S1x1024, .f32⟩
  | .hbm, ⟨18, _⟩ => ⟨S1, .i32⟩
  | .hbm, ⟨19, _⟩ => ⟨S_, .i32⟩
  | .hbm, ⟨20, _⟩ => ⟨S4x1x1024, .i32⟩
  | .hbm, ⟨21, _⟩ => ⟨S4x1x1024, .i32⟩
  | .hbm, ⟨22, _⟩ => ⟨S4x1x1024, .i1⟩
  | .hbm, ⟨23, _⟩ => ⟨S_, .f32⟩
  | .hbm, ⟨24, _⟩ => ⟨S_, .f32⟩
  | .hbm, ⟨25, _⟩ => ⟨S4x1x1024, .f32⟩
  | .hbm, ⟨26, _⟩ => ⟨S4x1x1024, .f32⟩
  | .hbm, ⟨27, _⟩ => ⟨S_, .f32⟩
  | .hbm, ⟨28, _⟩ => ⟨S1x1024, .f32⟩
  | .hbm, ⟨29, _⟩ => ⟨S1x1024, .f32⟩
  | .hbm, ⟨30, _⟩ => ⟨S_, .f32⟩
  | .hbm, ⟨31, _⟩ => ⟨S1x1024, .f32⟩
  | .hbm, ⟨32, _⟩ => ⟨S1x1024, .f32⟩
  | .hbm, ⟨33, _⟩ => ⟨S_, .f32⟩
  | .hbm, ⟨34, _⟩ => ⟨S1x1024, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S1x1024, .f32⟩
  | .hbm, ⟨39, _⟩ => ⟨S1x1024, .f32⟩
  | .hbm, ⟨40, _⟩ => ⟨S_, .f32⟩
  | .hbm, ⟨41, _⟩ => ⟨S1x1024, .f32⟩
  | .hbm, ⟨42, _⟩ => ⟨S1x1024, .f32⟩
  | .hbm, ⟨43, _⟩ => ⟨S1x1024, .f32⟩
  | .hbm, ⟨44, _⟩ => ⟨S_, .f32⟩
  | .hbm, ⟨45, _⟩ => ⟨S1x1024, .f32⟩
  | .hbm, ⟨46, _⟩ => ⟨S1x1024, .f32⟩
  | .hbm, ⟨47, _⟩ => ⟨S1x1024, .f32⟩
  | .hbm, ⟨48, _⟩ => ⟨S_, .f32⟩
  | .hbm, ⟨49, _⟩ => ⟨S1x1024, .f32⟩
  | .hbm, ⟨50, _⟩ => ⟨S1x1024, .f32⟩
  | .hbm, ⟨51, _⟩ => ⟨S_, .f32⟩
  | .hbm, ⟨52, _⟩ => ⟨S1x1024, .f32⟩
  | .hbm, ⟨53, _⟩ => ⟨S1x1024, .f32⟩
  | .hbm, ⟨54, _⟩ => ⟨S1x1024, .f32⟩
  | .hbm, ⟨55, _⟩ => ⟨S_, .f32⟩
  | .hbm, ⟨56, _⟩ => ⟨S1x1024, .f32⟩
  | .hbm, ⟨57, _⟩ => ⟨S1x1024, .f32⟩
  | .hbm, ⟨58, _⟩ => ⟨S1x1024, .f32⟩
  | .hbm, ⟨59, _⟩ => ⟨S_, .f32⟩
  | .hbm, ⟨60, _⟩ => ⟨S1x1024, .f32⟩
  | .hbm, ⟨61, _⟩ => ⟨S1x1024, .f32⟩
  | .hbm, ⟨62, _⟩ => ⟨S1x1024, .f32⟩
  | .hbm, ⟨63, _⟩ => ⟨S_, .f32⟩
  | .hbm, ⟨64, _⟩ => ⟨S1x1024, .f32⟩
  | .hbm, ⟨65, _⟩ => ⟨S1x1024, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_call0_v0 : Ref sig .tc := ⟨.hbm, 13, rfl⟩
abbrev main_call0_v1 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst_1 : Ref sig .tc := ⟨.hbm, 23, rfl⟩
abbrev main_call1_v0 : Ref sig .tc := ⟨.hbm, 24, rfl⟩
abbrev main_call1_v1 : Ref sig .tc := ⟨.hbm, 25, rfl⟩
abbrev main_v12 : Ref sig .tc := ⟨.hbm, 26, rfl⟩
abbrev main_cst_2 : Ref sig .tc := ⟨.hbm, 27, rfl⟩
abbrev main_v13 : Ref sig .tc := ⟨.hbm, 28, rfl⟩
abbrev main_v14 : Ref sig .tc := ⟨.hbm, 29, rfl⟩
abbrev main_cst_3 : Ref sig .tc := ⟨.hbm, 30, rfl⟩
abbrev main_v15 : Ref sig .tc := ⟨.hbm, 31, rfl⟩
abbrev main_v16 : Ref sig .tc := ⟨.hbm, 32, rfl⟩
abbrev main_cst_4 : Ref sig .tc := ⟨.hbm, 33, rfl⟩
abbrev main_v17 : Ref sig .tc := ⟨.hbm, 34, rfl⟩
abbrev main_v18 : Ref sig .tc := ⟨.hbm, 35, rfl⟩
abbrev main_cst_5 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_cst_6 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_cst_7 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_cst_8 : Ref sig .tc := ⟨.hbm, 48, rfl⟩
abbrev main_v28 : Ref sig .tc := ⟨.hbm, 49, rfl⟩
abbrev main_v29 : Ref sig .tc := ⟨.hbm, 50, rfl⟩
abbrev main_cst_9 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_cst_10 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_cst_11 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_cst_12 : Ref sig .tc := ⟨.hbm, 63, rfl⟩
abbrev main_v39 : Ref sig .tc := ⟨.hbm, 64, rfl⟩
abbrev main_v40 : Ref sig .tc := ⟨.hbm, 65, rfl⟩

abbrev nD : Nat := 1
abbrev τ : Topo := Topo.v7x

variable {F : FTy → Type} [FloatOps F]
-- ==== Kernel33.lean ====
abbrev S8 : Shape := ⟨1, ![8]⟩
abbrev S8x1024x4096 : Shape := ⟨3, ![8, 1024, 4096]⟩
abbrev S4x1024x4096 : Shape := ⟨3, ![4, 1024, 4096]⟩
abbrev S3x1024x4096 : Shape := ⟨3, ![3, 1024, 4096]⟩
abbrev S1x64x4096 : Shape := ⟨3, ![1, 64, 4096]⟩
abbrev S1 : Shape := ⟨1, ![1]⟩
abbrev S64x4096 : Shape := ⟨2, ![64, 4096]⟩

abbrev nBuf : Space → Nat
  | .hbm => 3
  | .vmem => 6
  | .smem => 1
  | _ => 0

abbrev bufTy : (tb : Table) → Fin (tcTables nBuf tb) → BufTy
  | .hbm, ⟨0, _⟩ => ⟨S8x1024x4096, .bf16⟩
  | .hbm, ⟨1, _⟩ => ⟨S4x1024x4096, .bf16⟩
  | .hbm, ⟨2, _⟩ => ⟨S3x1024x4096, .bf16⟩
  | .local _ .vmem, ⟨0, _⟩ => ⟨S1x64x4096, .bf16⟩
  | .local _ .vmem, ⟨1, _⟩ => ⟨S1x64x4096, .bf16⟩
  | .local _ .vmem, ⟨2, _⟩ => ⟨S1x64x4096, .bf16⟩
  | .local _ .vmem, ⟨3, _⟩ => ⟨S1x64x4096, .bf16⟩
  | .local _ .vmem, ⟨4, _⟩ => ⟨S1x64x4096, .bf16⟩
  | .local _ .vmem, ⟨5, _⟩ => ⟨S1x64x4096, .bf16⟩
  | .local _ .smem, ⟨0, _⟩ => ⟨S8, .i32⟩
  | _, _ => ⟨S8x1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 16], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8.size a) (numel1_S1 : S1.numel = 1) (inb_S8_S1_3 : ∀ a, (![3] : Fin 1 → Nat) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c2_i32 : BitVec 32 := 2#32
  let v2 : BitVec 32 := Scalar.muli c2_i32 v1
  let c3 : Index := 3#32
  let v3 : BitVec 32 := pf.at 0 (Rect.unit (s := S8) ![3] S1.size inb_S8_S1_3) numel1_S1
  let v4 : BitVec 32 := Scalar.addi v2 v3
  let c0_i32 : BitVec 32 := 0#32
  let c0_i32_0 : BitVec 32 := 0#32
  ![v4.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x64x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x64x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x64x4096 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference33Ideal.lean ====
abbrev S8 : Shape := ⟨1, ![8]⟩
abbrev S8x1024x4096 : Shape := ⟨3, ![8, 1024, 4096]⟩
abbrev S4x1024x4096 : Shape := ⟨3, ![4, 1024, 4096]⟩
abbrev S1 : Shape := ⟨1, ![1]⟩
abbrev S_ : Shape := ⟨0, ![]⟩
abbrev S1024x4096 : Shape := ⟨2, ![1024, 4096]⟩
abbrev S1x1024x4096 : Shape := ⟨3, ![1, 1024, 4096]⟩
abbrev S3x1024x4096 : Shape := ⟨3, ![3, 1024, 4096]⟩

abbrev nBuf : Space → Nat
  | .hbm => 98
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x1024x4096, .bf16⟩
  | .hbm, ⟨2, _⟩ => ⟨S4x1024x4096, .bf16⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S8x1024x4096, .i32⟩
  | .hbm, ⟨11, _⟩ => ⟨S8x1024x4096, .i32⟩
  | .hbm, ⟨12, _⟩ => ⟨S8x1024x4096, .i1⟩
  | .hbm, ⟨13, _⟩ => ⟨S8x1024x4096, .f32⟩
  | .hbm, ⟨14, _⟩ => ⟨S_, .f32⟩
  | .hbm, ⟨15, _⟩ => ⟨S_, .f32⟩
  | .hbm, ⟨16, _⟩ => ⟨S8x1024x4096, .f32⟩
  | .hbm, ⟨17, _⟩ => ⟨S8x1024x4096, .f32⟩
  | .hbm, ⟨18, _⟩ => ⟨S_, .f32⟩
  | .hbm, ⟨19, _⟩ => ⟨S1024x4096, .f32⟩
  | .hbm, ⟨20, _⟩ => ⟨S1, .i32⟩
  | .hbm, ⟨21, _⟩ => ⟨S_, .i32⟩
  | .hbm, ⟨22, _⟩ => ⟨S4x1024x4096, .i32⟩
  | .hbm, ⟨23, _⟩ => ⟨S4x1024x4096, .i32⟩
  | .hbm, ⟨24, _⟩ => ⟨S4x1024x4096, .i1⟩
  | .hbm, ⟨25, _⟩ => ⟨S4x1024x4096, .f32⟩
  | .hbm, ⟨26, _⟩ => ⟨S_, .f32⟩
  | .hbm, ⟨27, _⟩ => ⟨S_, .f32⟩
  | .hbm, ⟨28, _⟩ => ⟨S4x1024x4096, .f32⟩
  | .hbm, ⟨29, _⟩ => ⟨S4x1024x4096, .f32⟩
  | .hbm, ⟨30, _⟩ => ⟨S_, .f32⟩
  | .hbm, ⟨31, _⟩ => ⟨S1024x4096, .f32⟩
  | .hbm, ⟨32, _⟩ => ⟨S1024x4096, .f32⟩
  | .hbm, ⟨33, _⟩ => ⟨S1, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S_, .i32⟩
  | .hbm, ⟨40, _⟩ => ⟨S8x1024x4096, .i32⟩
  | .hbm, ⟨41, _⟩ => ⟨S8x1024x4096, .i32⟩
  | .hbm, ⟨42, _⟩ => ⟨S8x1024x4096, .i1⟩
  | .hbm, ⟨43, _⟩ => ⟨S8x1024x4096, .f32⟩
  | .hbm, ⟨44, _⟩ => ⟨S_, .f32⟩
  | .hbm, ⟨45, _⟩ => ⟨S_, .f32⟩
  | .hbm, ⟨46, _⟩ => ⟨S8x1024x4096, .f32⟩
  | .hbm, ⟨47, _⟩ => ⟨S8x1024x4096, .f32⟩
  | .hbm, ⟨48, _⟩ => ⟨S_, .f32⟩
  | .hbm, ⟨49, _⟩ => ⟨S1024x4096, .f32⟩
  | .hbm, ⟨50, _⟩ => ⟨S1, .i32⟩
  | .hbm, ⟨51, _⟩ => ⟨S_, .i32⟩
  | .hbm, ⟨52, _⟩ => ⟨S4x1024x4096, .i32⟩
  | .hbm, ⟨53, _⟩ => ⟨S4x1024x4096, .i32⟩
  | .hbm, ⟨54, _⟩ => ⟨S4x1024x4096, .i1⟩
  | .hbm, ⟨55, _⟩ => ⟨S4x1024x4096, .f32⟩
  | .hbm, ⟨56, _⟩ => ⟨S_, .f32⟩
  | .hbm, ⟨57, _⟩ => ⟨S_, .f32⟩
  | .hbm, ⟨58, _⟩ => ⟨S4x1024x4096, .f32⟩
  | .hbm, ⟨59, _⟩ => ⟨S4x1024x4096, .f32⟩
  | .hbm, ⟨60, _⟩ => ⟨S_, .f32⟩
  | .hbm, ⟨61, _⟩ => ⟨S1024x4096, .f32⟩
  | .hbm, ⟨62, _⟩ => ⟨S1024x4096, .f32⟩
  | .hbm, ⟨63, _⟩ => ⟨S1, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S_, .i32⟩
  | .hbm, ⟨70, _⟩ => ⟨S8x1024x4096, .i32⟩
  | .hbm, ⟨71, _⟩ => ⟨S8x1024x4096, .i32⟩
  | .hbm, ⟨72, _⟩ => ⟨S8x1024x4096, .i1⟩
  | .hbm, ⟨73, _⟩ => ⟨S8x1024x4096, .f32⟩
  | .hbm, ⟨74, _⟩ => ⟨S_, .f32⟩
  | .hbm, ⟨75, _⟩ => ⟨S_, .f32⟩
  | .hbm, ⟨76, _⟩ => ⟨S8x1024x4096, .f32⟩
  | .hbm, ⟨77, _⟩ => ⟨S8x1024x4096, .f32⟩
  | .hbm, ⟨78, _⟩ => ⟨S_, .f32⟩
  | .hbm, ⟨79, _⟩ => ⟨S1024x4096, .f32⟩
  | .hbm, ⟨80, _⟩ => ⟨S1, .i32⟩
  | .hbm, ⟨81, _⟩ => ⟨S_, .i32⟩
  | .hbm, ⟨82, _⟩ => ⟨S4x1024x4096, .i32⟩
  | .hbm, ⟨83, _⟩ => ⟨S4x1024x4096, .i32⟩
  | .hbm, ⟨84, _⟩ => ⟨S4x1024x4096, .i1⟩
  | .hbm, ⟨85, _⟩ => ⟨S4x1024x4096, .f32⟩
  | .hbm, ⟨86, _⟩ => ⟨S_, .f32⟩
  | .hbm, ⟨87, _⟩ => ⟨S_, .f32⟩
  | .hbm, ⟨88, _⟩ => ⟨S4x1024x4096, .f32⟩
  | .hbm, ⟨89, _⟩ => ⟨S4x1024x4096, .f32⟩
  | .hbm, ⟨90, _⟩ => ⟨S_, .f32⟩
  | .hbm, ⟨91, _⟩ => ⟨S1024x4096, .f32⟩
  | .hbm, ⟨92, _⟩ => ⟨S1024x4096, .f32⟩
  | .hbm, ⟨93, _⟩ => ⟨S1x1024x4096, .f32⟩
  | .hbm, ⟨94, _⟩ => ⟨S1x1024x4096, .f32⟩
  | .hbm, ⟨95, _⟩ => ⟨S1x1024x4096, .f32⟩
  | .hbm, ⟨96, _⟩ => ⟨S3x1024x4096, .f32⟩
  | .hbm, ⟨97, _⟩ => ⟨S3x1024x4096, .bf16⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_call3_v0 : Ref sig .tc := ⟨.hbm, 57, rfl⟩
abbrev main_call3_v1 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_call4_v0 : Ref sig .tc := ⟨.hbm, 75, rfl⟩
abbrev main_call4_v1 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_call5_v0 : Ref sig .tc := ⟨.hbm, 87, rfl⟩
abbrev main_call5_v1 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Kernel34.lean ====
abbrev S8 : Shape := ⟨1, ![8]⟩
abbrev S8x1024x2048 : Shape := ⟨3, ![8, 1024, 2048]⟩
abbrev S4x1024x2048 : Shape := ⟨3, ![4, 1024, 2048]⟩
abbrev S3x1024x2048 : Shape := ⟨3, ![3, 1024, 2048]⟩
abbrev S1x128x2048 : Shape := ⟨3, ![1, 128, 2048]⟩
abbrev S1 : Shape := ⟨1, ![1]⟩
abbrev S128x2048 : Shape := ⟨2, ![128, 2048]⟩

abbrev nBuf : Space → Nat
  | .hbm => 3
  | .vmem => 6
  | .smem => 1
  | _ => 0

abbrev bufTy : (tb : Table) → Fin (tcTables nBuf tb) → BufTy
  | .hbm, ⟨0, _⟩ => ⟨S8x1024x2048, .bf16⟩
  | .hbm, ⟨1, _⟩ => ⟨S4x1024x2048, .bf16⟩
  | .hbm, ⟨2, _⟩ => ⟨S3x1024x2048, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .smem, ⟨0, _⟩ => ⟨S8, .i32⟩
  | _, _ => ⟨S8x1024x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 8], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8.size a) (numel1_S1 : S1.numel = 1) (inb_S8_S1_3 : ∀ a, (![3] : Fin 1 → Nat) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c2_i32 : BitVec 32 := 2#32
  let v2 : BitVec 32 := Scalar.muli c2_i32 v1
  let c3 : Index := 3#32
  let v3 : BitVec 32 := pf.at 0 (Rect.unit (s := S8) ![3] S1.size inb_S8_S1_3) numel1_S1
  let v4 : BitVec 32 := Scalar.addi v2 v3
  let c0_i32 : BitVec 32 := 0#32
  let c0_i32_0 : BitVec 32 := 0#32
  ![v4.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference34Ideal.lean ====
abbrev S8 : Shape := ⟨1, ![8]⟩
abbrev S8x1024x2048 : Shape := ⟨3, ![8, 1024, 2048]⟩
abbrev S4x1024x2048 : Shape := ⟨3, ![4, 1024, 2048]⟩
abbrev S1 : Shape := ⟨1, ![1]⟩
abbrev S_ : Shape := ⟨0, ![]⟩
abbrev S1024x2048 : Shape := ⟨2, ![1024, 2048]⟩
abbrev S1x1024x2048 : Shape := ⟨3, ![1, 1024, 2048]⟩
abbrev S3x1024x2048 : Shape := ⟨3, ![3, 1024, 2048]⟩

abbrev nBuf : Space → Nat
  | .hbm => 98
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x1024x2048, .bf16⟩
  | .hbm, ⟨2, _⟩ => ⟨S4x1024x2048, .bf16⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S8x1024x2048, .i32⟩
  | .hbm, ⟨11, _⟩ => ⟨S8x1024x2048, .i32⟩
  | .hbm, ⟨12, _⟩ => ⟨S8x1024x2048, .i1⟩
  | .hbm, ⟨13, _⟩ => ⟨S8x1024x2048, .f32⟩
  | .hbm, ⟨14, _⟩ => ⟨S_, .f32⟩
  | .hbm, ⟨15, _⟩ => ⟨S_, .f32⟩
  | .hbm, ⟨16, _⟩ => ⟨S8x1024x2048, .f32⟩
  | .hbm, ⟨17, _⟩ => ⟨S8x1024x2048, .f32⟩
  | .hbm, ⟨18, _⟩ => ⟨S_, .f32⟩
  | .hbm, ⟨19, _⟩ => ⟨S1024x2048, .f32⟩
  | .hbm, ⟨20, _⟩ => ⟨S1, .i32⟩
  | .hbm, ⟨21, _⟩ => ⟨S_, .i32⟩
  | .hbm, ⟨22, _⟩ => ⟨S4x1024x2048, .i32⟩
  | .hbm, ⟨23, _⟩ => ⟨S4x1024x2048, .i32⟩
  | .hbm, ⟨24, _⟩ => ⟨S4x1024x2048, .i1⟩
  | .hbm, ⟨25, _⟩ => ⟨S4x1024x2048, .f32⟩
  | .hbm, ⟨26, _⟩ => ⟨S_, .f32⟩
  | .hbm, ⟨27, _⟩ => ⟨S_, .f32⟩
  | .hbm, ⟨28, _⟩ => ⟨S4x1024x2048, .f32⟩
  | .hbm, ⟨29, _⟩ => ⟨S4x1024x2048, .f32⟩
  | .hbm, ⟨30, _⟩ => ⟨S_, .f32⟩
  | .hbm, ⟨31, _⟩ => ⟨S1024x2048, .f32⟩
  | .hbm, ⟨32, _⟩ => ⟨S1024x2048, .f32⟩
  | .hbm, ⟨33, _⟩ => ⟨S1, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S_, .i32⟩
  | .hbm, ⟨40, _⟩ => ⟨S8x1024x2048, .i32⟩
  | .hbm, ⟨41, _⟩ => ⟨S8x1024x2048, .i32⟩
  | .hbm, ⟨42, _⟩ => ⟨S8x1024x2048, .i1⟩
  | .hbm, ⟨43, _⟩ => ⟨S8x1024x2048, .f32⟩
  | .hbm, ⟨44, _⟩ => ⟨S_, .f32⟩
  | .hbm, ⟨45, _⟩ => ⟨S_, .f32⟩
  | .hbm, ⟨46, _⟩ => ⟨S8x1024x2048, .f32⟩
  | .hbm, ⟨47, _⟩ => ⟨S8x1024x2048, .f32⟩
  | .hbm, ⟨48, _⟩ => ⟨S_, .f32⟩
  | .hbm, ⟨49, _⟩ => ⟨S1024x2048, .f32⟩
  | .hbm, ⟨50, _⟩ => ⟨S1, .i32⟩
  | .hbm, ⟨51, _⟩ => ⟨S_, .i32⟩
  | .hbm, ⟨52, _⟩ => ⟨S4x1024x2048, .i32⟩
  | .hbm, ⟨53, _⟩ => ⟨S4x1024x2048, .i32⟩
  | .hbm, ⟨54, _⟩ => ⟨S4x1024x2048, .i1⟩
  | .hbm, ⟨55, _⟩ => ⟨S4x1024x2048, .f32⟩
  | .hbm, ⟨56, _⟩ => ⟨S_, .f32⟩
  | .hbm, ⟨57, _⟩ => ⟨S_, .f32⟩
  | .hbm, ⟨58, _⟩ => ⟨S4x1024x2048, .f32⟩
  | .hbm, ⟨59, _⟩ => ⟨S4x1024x2048, .f32⟩
  | .hbm, ⟨60, _⟩ => ⟨S_, .f32⟩
  | .hbm, ⟨61, _⟩ => ⟨S1024x2048, .f32⟩
  | .hbm, ⟨62, _⟩ => ⟨S1024x2048, .f32⟩
  | .hbm, ⟨63, _⟩ => ⟨S1, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S_, .i32⟩
  | .hbm, ⟨70, _⟩ => ⟨S8x1024x2048, .i32⟩
  | .hbm, ⟨71, _⟩ => ⟨S8x1024x2048, .i32⟩
  | .hbm, ⟨72, _⟩ => ⟨S8x1024x2048, .i1⟩
  | .hbm, ⟨73, _⟩ => ⟨S8x1024x2048, .f32⟩
  | .hbm, ⟨74, _⟩ => ⟨S_, .f32⟩
  | .hbm, ⟨75, _⟩ => ⟨S_, .f32⟩
  | .hbm, ⟨76, _⟩ => ⟨S8x1024x2048, .f32⟩
  | .hbm, ⟨77, _⟩ => ⟨S8x1024x2048, .f32⟩
  | .hbm, ⟨78, _⟩ => ⟨S_, .f32⟩
  | .hbm, ⟨79, _⟩ => ⟨S1024x2048, .f32⟩
  | .hbm, ⟨80, _⟩ => ⟨S1, .i32⟩
  | .hbm, ⟨81, _⟩ => ⟨S_, .i32⟩
  | .hbm, ⟨82, _⟩ => ⟨S4x1024x2048, .i32⟩
  | .hbm, ⟨83, _⟩ => ⟨S4x1024x2048, .i32⟩
  | .hbm, ⟨84, _⟩ => ⟨S4x1024x2048, .i1⟩
  | .hbm, ⟨85, _⟩ => ⟨S4x1024x2048, .f32⟩
  | .hbm, ⟨86, _⟩ => ⟨S_, .f32⟩
  | .hbm, ⟨87, _⟩ => ⟨S_, .f32⟩
  | .hbm, ⟨88, _⟩ => ⟨S4x1024x2048, .f32⟩
  | .hbm, ⟨89, _⟩ => ⟨S4x1024x2048, .f32⟩
  | .hbm, ⟨90, _⟩ => ⟨S_, .f32⟩
  | .hbm, ⟨91, _⟩ => ⟨S1024x2048, .f32⟩
  | .hbm, ⟨92, _⟩ => ⟨S1024x2048, .f32⟩
  | .hbm, ⟨93, _⟩ => ⟨S1x1024x2048, .f32⟩
  | .hbm, ⟨94, _⟩ => ⟨S1x1024x2048, .f32⟩
  | .hbm, ⟨95, _⟩ => ⟨S1x1024x2048, .f32⟩
  | .hbm, ⟨96, _⟩ => ⟨S3x1024x2048, .f32⟩
  | .hbm, ⟨97, _⟩ => ⟨S3x1024x2048, .bf16⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_call3_v0 : Ref sig .tc := ⟨.hbm, 57, rfl⟩
abbrev main_call3_v1 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_call4_v0 : Ref sig .tc := ⟨.hbm, 75, rfl⟩
abbrev main_call4_v1 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_call5_v0 : Ref sig .tc := ⟨.hbm, 87, rfl⟩
abbrev main_call5_v1 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Kernel35.lean ====
abbrev S8 : Shape := ⟨1, ![8]⟩
abbrev S8x4096x2048 : Shape := ⟨3, ![8, 4096, 2048]⟩
abbrev S4x4096x2048 : Shape := ⟨3, ![4, 4096, 2048]⟩
abbrev S3x4096x2048 : Shape := ⟨3, ![3, 4096, 2048]⟩
abbrev S1x128x2048 : Shape := ⟨3, ![1, 128, 2048]⟩
abbrev S1 : Shape := ⟨1, ![1]⟩
abbrev S128x2048 : Shape := ⟨2, ![128, 2048]⟩

abbrev nBuf : Space → Nat
  | .hbm => 3
  | .vmem => 6
  | .smem => 1
  | _ => 0

abbrev bufTy : (tb : Table) → Fin (tcTables nBuf tb) → BufTy
  | .hbm, ⟨0, _⟩ => ⟨S8x4096x2048, .bf16⟩
  | .hbm, ⟨1, _⟩ => ⟨S4x4096x2048, .bf16⟩
  | .hbm, ⟨2, _⟩ => ⟨S3x4096x2048, .bf16⟩
  | .local _ .vmem, ⟨0, _⟩ => ⟨S1x128x2048, .bf16⟩
  | .local _ .vmem, ⟨1, _⟩ => ⟨S1x128x2048, .bf16⟩
  | .local _ .vmem, ⟨2, _⟩ => ⟨S1x128x2048, .bf16⟩
  | .local _ .vmem, ⟨3, _⟩ => ⟨S1x128x2048, .bf16⟩
  | .local _ .vmem, ⟨4, _⟩ => ⟨S1x128x2048, .bf16⟩
  | .local _ .vmem, ⟨5, _⟩ => ⟨S1x128x2048, .bf16⟩
  | .local _ .smem, ⟨0, _⟩ => ⟨S8, .i32⟩
  | _, _ => ⟨S8x4096x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8.size a) (numel1_S1 : S1.numel = 1) (inb_S8_S1_3 : ∀ a, (![3] : Fin 1 → Nat) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c2_i32 : BitVec 32 := 2#32
  let v2 : BitVec 32 := Scalar.muli c2_i32 v1
  let c3 : Index := 3#32
  let v3 : BitVec 32 := pf.at 0 (Rect.unit (s := S8) ![3] S1.size inb_S8_S1_3) numel1_S1
  let v4 : BitVec 32 := Scalar.addi v2 v3
  let c0_i32 : BitVec 32 := 0#32
  let c0_i32_0 : BitVec 32 := 0#32
  ![v4.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference35Ideal.lean ====
abbrev S8 : Shape := ⟨1, ![8]⟩
abbrev S8x4096x2048 : Shape := ⟨3, ![8, 4096, 2048]⟩
abbrev S4x4096x2048 : Shape := ⟨3, ![4, 4096, 2048]⟩
abbrev S1 : Shape := ⟨1, ![1]⟩
abbrev S_ : Shape := ⟨0, ![]⟩
abbrev S4096x2048 : Shape := ⟨2, ![4096, 2048]⟩
abbrev S1x4096x2048 : Shape := ⟨3, ![1, 4096, 2048]⟩
abbrev S3x4096x2048 : Shape := ⟨3, ![3, 4096, 2048]⟩

abbrev nBuf : Space → Nat
  | .hbm => 98
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x4096x2048, .bf16⟩
  | .hbm, ⟨2, _⟩ => ⟨S4x4096x2048, .bf16⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S8x4096x2048, .i32⟩
  | .hbm, ⟨11, _⟩ => ⟨S8x4096x2048, .i32⟩
  | .hbm, ⟨12, _⟩ => ⟨S8x4096x2048, .i1⟩
  | .hbm, ⟨13, _⟩ => ⟨S8x4096x2048, .f32⟩
  | .hbm, ⟨14, _⟩ => ⟨S_, .f32⟩
  | .hbm, ⟨15, _⟩ => ⟨S_, .f32⟩
  | .hbm, ⟨16, _⟩ => ⟨S8x4096x2048, .f32⟩
  | .hbm, ⟨17, _⟩ => ⟨S8x4096x2048, .f32⟩
  | .hbm, ⟨18, _⟩ => ⟨S_, .f32⟩
  | .hbm, ⟨19, _⟩ => ⟨S4096x2048, .f32⟩
  | .hbm, ⟨20, _⟩ => ⟨S1, .i32⟩
  | .hbm, ⟨21, _⟩ => ⟨S_, .i32⟩
  | .hbm, ⟨22, _⟩ => ⟨S4x4096x2048, .i32⟩
  | .hbm, ⟨23, _⟩ => ⟨S4x4096x2048, .i32⟩
  | .hbm, ⟨24, _⟩ => ⟨S4x4096x2048, .i1⟩
  | .hbm, ⟨25, _⟩ => ⟨S4x4096x2048, .f32⟩
  | .hbm, ⟨26, _⟩ => ⟨S_, .f32⟩
  | .hbm, ⟨27, _⟩ => ⟨S_, .f32⟩
  | .hbm, ⟨28, _⟩ => ⟨S4x4096x2048, .f32⟩
  | .hbm, ⟨29, _⟩ => ⟨S4x4096x2048, .f32⟩
  | .hbm, ⟨30, _⟩ => ⟨S_, .f32⟩
  | .hbm, ⟨31, _⟩ => ⟨S4096x2048, .f32⟩
  | .hbm, ⟨32, _⟩ => ⟨S4096x2048, .f32⟩
  | .hbm, ⟨33, _⟩ => ⟨S1, .i32⟩
  | .hbm, ⟨34, _⟩ => ⟨S_, .i32⟩
  | .hbm, ⟨35, _⟩ => ⟨S_, .i32⟩
  | .hbm, ⟨36, _⟩ => ⟨S_, .i32⟩
  | .hbm, ⟨37, _⟩ => ⟨S1, .i32⟩
  | .hbm, ⟨38, _⟩ => ⟨S_, .i32⟩
  | .hbm, ⟨39, _⟩ => ⟨S_, .i32⟩
  | .hbm, ⟨40, _⟩ => ⟨S8x4096x2048, .i32⟩
  | .hbm, ⟨41, _⟩ => ⟨S8x4096x2048, .i32⟩
  | .hbm, ⟨42, _⟩ => ⟨S8x4096x2048, .i1⟩
  | .hbm, ⟨43, _⟩ => ⟨S8x4096x2048, .f32⟩
  | .hbm, ⟨44, _⟩ => ⟨S_, .f32⟩
  | .hbm, ⟨45, _⟩ => ⟨S_, .f32⟩
  | .hbm, ⟨46, _⟩ => ⟨S8x4096x2048, .f32⟩
  | .hbm, ⟨47, _⟩ => ⟨S8x4096x2048, .f32⟩
  | .hbm, ⟨48, _⟩ => ⟨S_, .f32⟩
  | .hbm, ⟨49, _⟩ => ⟨S4096x2048, .f32⟩
  | .hbm, ⟨50, _⟩ => ⟨S1, .i32⟩
  | .hbm, ⟨51, _⟩ => ⟨S_, .i32⟩
  | .hbm, ⟨52, _⟩ => ⟨S4x4096x2048, .i32⟩
  | .hbm, ⟨53, _⟩ => ⟨S4x4096x2048, .i32⟩
  | .hbm, ⟨54, _⟩ => ⟨S4x4096x2048, .i1⟩
  | .hbm, ⟨55, _⟩ => ⟨S4x4096x2048, .f32⟩
  | .hbm, ⟨56, _⟩ => ⟨S_, .f32⟩
  | .hbm, ⟨57, _⟩ => ⟨S_, .f32⟩
  | .hbm, ⟨58, _⟩ => ⟨S4x4096x2048, .f32⟩
  | .hbm, ⟨59, _⟩ => ⟨S4x4096x2048, .f32⟩
  | .hbm, ⟨60, _⟩ => ⟨S_, .f32⟩
  | .hbm, ⟨61, _⟩ => ⟨S4096x2048, .f32⟩
  | .hbm, ⟨62, _⟩ => ⟨S4096x2048, .f32⟩
  | .hbm, ⟨63, _⟩ => ⟨S1, .i32⟩
  | .hbm, ⟨64, _⟩ => ⟨S_, .i32⟩
  | .hbm, ⟨65, _⟩ => ⟨S_, .i32⟩
  | .hbm, ⟨66, _⟩ => ⟨S_, .i32⟩
  | .hbm, ⟨67, _⟩ => ⟨S1, .i32⟩
  | .hbm, ⟨68, _⟩ => ⟨S_, .i32⟩
  | .hbm, ⟨69, _⟩ => ⟨S_, .i32⟩
  | .hbm, ⟨70, _⟩ => ⟨S8x4096x2048, .i32⟩
  | .hbm, ⟨71, _⟩ => ⟨S8x4096x2048, .i32⟩
  | .hbm, ⟨72, _⟩ => ⟨S8x4096x2048, .i1⟩
  | .hbm, ⟨73, _⟩ => ⟨S8x4096x2048, .f32⟩
  | .hbm, ⟨74, _⟩ => ⟨S_, .f32⟩
  | .hbm, ⟨75, _⟩ => ⟨S_, .f32⟩
  | .hbm, ⟨76, _⟩ => ⟨S8x4096x2048, .f32⟩
  | .hbm, ⟨77, _⟩ => ⟨S8x4096x2048, .f32⟩
  | .hbm, ⟨78, _⟩ => ⟨S_, .f32⟩
  | .hbm, ⟨79, _⟩ => ⟨S4096x2048, .f32⟩
  | .hbm, ⟨80, _⟩ => ⟨S1, .i32⟩
  | .hbm, ⟨81, _⟩ => ⟨S_, .i32⟩
  | .hbm, ⟨82, _⟩ => ⟨S4x4096x2048, .i32⟩
  | .hbm, ⟨83, _⟩ => ⟨S4x4096x2048, .i32⟩
  | .hbm, ⟨84, _⟩ => ⟨S4x4096x2048, .i1⟩
  | .hbm, ⟨85, _⟩ => ⟨S4x4096x2048, .f32⟩
  | .hbm, ⟨86, _⟩ => ⟨S_, .f32⟩
  | .hbm, ⟨87, _⟩ => ⟨S_, .f32⟩
  | .hbm, ⟨88, _⟩ => ⟨S4x4096x2048, .f32⟩
  | .hbm, ⟨89, _⟩ => ⟨S4x4096x2048, .f32⟩
  | .hbm, ⟨90, _⟩ => ⟨S_, .f32⟩
  | .hbm, ⟨91, _⟩ => ⟨S4096x2048, .f32⟩
  | .hbm, ⟨92, _⟩ => ⟨S4096x2048, .f32⟩
  | .hbm, ⟨93, _⟩ => ⟨S1x4096x2048, .f32⟩
  | .hbm, ⟨94, _⟩ => ⟨S1x4096x2048, .f32⟩
  | .hbm, ⟨95, _⟩ => ⟨S1x4096x2048, .f32⟩
  | .hbm, ⟨96, _⟩ => ⟨S3x4096x2048, .f32⟩
  | .hbm, ⟨97, _⟩ => ⟨S3x4096x2048, .bf16⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst : Ref sig .tc := ⟨.hbm, 14, rfl⟩
abbrev main_call0_v0 : Ref sig .tc := ⟨.hbm, 15, rfl⟩
abbrev main_call0_v1 : Ref sig .tc := ⟨.hbm, 16, rfl⟩
abbrev main_v10 : Ref sig .tc := ⟨.hbm, 17, rfl⟩
abbrev main_cst_0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_cst_1 : Ref sig .tc := ⟨.hbm, 26, rfl⟩
abbrev main_call1_v0 : Ref sig .tc := ⟨.hbm, 27, rfl⟩
abbrev main_call1_v1 : Ref sig .tc := ⟨.hbm, 28, rfl⟩
abbrev main_v18 : Ref sig .tc := ⟨.hbm, 29, rfl⟩
abbrev main_cst_2 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_c_3 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_cst_4 : Ref sig .tc := ⟨.hbm, 44, rfl⟩
abbrev main_call2_v0 : Ref sig .tc := ⟨.hbm, 45, rfl⟩
abbrev main_call2_v1 : Ref sig .tc := ⟨.hbm, 46, rfl⟩
abbrev main_v31 : Ref sig .tc := ⟨.hbm, 47, rfl⟩
abbrev main_cst_5 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_6 : Ref sig .tc := ⟨.hbm, 56, rfl⟩
abbrev main_call3_v0 : Ref sig .tc := ⟨.hbm, 57, rfl⟩
abbrev main_call3_v1 : Ref sig .tc := ⟨.hbm, 58, rfl⟩
abbrev main_v39 : Ref sig .tc := ⟨.hbm, 59, rfl⟩
abbrev main_cst_7 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_c_8 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_cst_9 : Ref sig .tc := ⟨.hbm, 74, rfl⟩
abbrev main_call4_v0 : Ref sig .tc := ⟨.hbm, 75, rfl⟩
abbrev main_call4_v1 : Ref sig .tc := ⟨.hbm, 76, rfl⟩
abbrev main_v52 : Ref sig .tc := ⟨.hbm, 77, rfl⟩
abbrev main_cst_10 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_v56 : Ref sig .tc := ⟨.hbm, 82, rfl⟩
abbrev main_v57 : Ref sig .tc := ⟨.hbm, 83, rfl⟩
abbrev main_v58 : Ref sig .tc := ⟨.hbm, 84, rfl⟩
abbrev main_v59 : Ref sig .tc := ⟨.hbm, 85, rfl⟩
abbrev main_cst_11 : Ref sig .tc := ⟨.hbm, 86, rfl⟩
abbrev main_call5_v0 : Ref sig .tc := ⟨.hbm, 87, rfl⟩
abbrev main_call5_v1 : Ref sig .tc := ⟨.hbm, 88, rfl⟩
abbrev main_v60 : Ref sig .tc := ⟨.hbm, 89, rfl⟩
abbrev main_cst_12 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩

abbrev nD : Nat := 1
abbrev τ : Topo := Topo.v7x

variable {F : FTy → Type} [FloatOps F]
-- ==== Kernel36.lean ====
abbrev S8 : Shape := ⟨1, ![8]⟩
abbrev S4x4096x3072 : Shape := ⟨3, ![4, 4096, 3072]⟩
abbrev S3x4096x3072 : Shape := ⟨3, ![3, 4096, 3072]⟩
abbrev S1x128x3072 : Shape := ⟨3, ![1, 128, 3072]⟩
abbrev S1 : Shape := ⟨1, ![1]⟩
abbrev S128x3072 : Shape := ⟨2, ![128, 3072]⟩

abbrev nBuf : Space → Nat
  | .hbm => 3
  | .vmem => 6
  | .smem => 1
  | _ => 0

abbrev bufTy : (tb : Table) → Fin (tcTables nBuf tb) → BufTy
  | .hbm, ⟨0, _⟩ => ⟨S4x4096x3072, .bf16⟩
  | .hbm, ⟨1, _⟩ => ⟨S4x4096x3072, .bf16⟩
  | .hbm, ⟨2, _⟩ => ⟨S3x4096x3072, .bf16⟩
  | .local _ .vmem, ⟨0, _⟩ => ⟨S1x128x3072, .bf16⟩
  | .local _ .vmem, ⟨1, _⟩ => ⟨S1x128x3072, .bf16⟩
  | .local _ .vmem, ⟨2, _⟩ => ⟨S1x128x3072, .bf16⟩
  | .local _ .vmem, ⟨3, _⟩ => ⟨S1x128x3072, .bf16⟩
  | .local _ .vmem, ⟨4, _⟩ => ⟨S1x128x3072, .bf16⟩
  | .local _ .vmem, ⟨5, _⟩ => ⟨S1x128x3072, .bf16⟩
  | .local _ .smem, ⟨0, _⟩ => ⟨S8, .i32⟩
  | _, _ => ⟨S4x4096x3072, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 32], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x128x3072 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x128x3072 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x128x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference36Ideal.lean ====
abbrev S8 : Shape := ⟨1, ![8]⟩
abbrev S4x4096x3072 : Shape := ⟨3, ![4, 4096, 3072]⟩
abbrev S1 : Shape := ⟨1, ![1]⟩
abbrev S_ : Shape := ⟨0, ![]⟩
abbrev S4096x3072 : Shape := ⟨2, ![4096, 3072]⟩
abbrev S1x4096x3072 : Shape := ⟨3, ![1, 4096, 3072]⟩
abbrev S3x4096x3072 : Shape := ⟨3, ![3, 4096, 3072]⟩

abbrev nBuf : Space → Nat
  | .hbm => 83
  | .vmem => 0
  | .smem => 0
  | _ => 0

abbrev bufTy : (tb : Table) → Fin (tcTables nBuf tb) → BufTy
  | .hbm, ⟨0, _⟩ => ⟨S8, .i32⟩
  | .hbm, ⟨1, _⟩ => ⟨S4x4096x3072, .bf16⟩
  | .hbm, ⟨2, _⟩ => ⟨S4x4096x3072, .bf16⟩
  | .hbm, ⟨3, _⟩ => ⟨S1, .i32⟩
  | .hbm, ⟨4, _⟩ => ⟨S_, .i32⟩
  | .hbm, ⟨5, _⟩ => ⟨S4x4096x3072, .i32⟩
  | .hbm, ⟨6, _⟩ => ⟨S4x4096x3072, .i32⟩
  | .hbm, ⟨7, _⟩ => ⟨S4x4096x3072, .i1⟩
  | .hbm, ⟨8, _⟩ => ⟨S4x4096x3072, .f32⟩
  | .hbm, ⟨9, _⟩ => ⟨S_, .f32⟩
  | .hbm, ⟨10, _⟩ => ⟨S_, .f32⟩
  | .hbm, ⟨11, _⟩ => ⟨S4x4096x3072, .f32⟩
  | .hbm, ⟨12, _⟩ => ⟨S4x4096x3072, .f32⟩
  | .hbm, ⟨13, _⟩ => ⟨S_, .f32⟩
  | .hbm, ⟨14, _⟩ => ⟨S4096x3072, .f32⟩
  | .hbm, ⟨15, _⟩ => ⟨S1, .i32⟩
  | .hbm, ⟨16, _⟩ => ⟨S_, .i32⟩
  | .hbm, ⟨17, _⟩ => ⟨S4x4096x3072, .i32⟩
  | .hbm, ⟨18, _⟩ => ⟨S4x4096x3072, .i32⟩
  | .hbm, ⟨19, _⟩ => ⟨S4x4096x3072, .i1⟩
  | .hbm, ⟨20, _⟩ => ⟨S4x4096x3072, .f32⟩
  | .hbm, ⟨21, _⟩ => ⟨S_, .f32⟩
  | .hbm, ⟨22, _⟩ => ⟨S_, .f32⟩
  | .hbm, ⟨23, _⟩ => ⟨S4x4096x3072, .f32⟩
  | .hbm, ⟨24, _⟩ => ⟨S4x4096x3072, .f32⟩
  | .hbm, ⟨25, _⟩ => ⟨S_, .f32⟩
  | .hbm, ⟨26, _⟩ => ⟨S4096x3072, .f32⟩
  | .hbm, ⟨27, _⟩ => ⟨S4096x3072, .f32⟩
  | .hbm, ⟨28, _⟩ => ⟨S1, .i32⟩
  | .hbm, ⟨29, _⟩ => ⟨S_, .i32⟩
  | .hbm, ⟨30, _⟩ => ⟨S4x4096x3072, .i32⟩
  | .hbm, ⟨31, _⟩ => ⟨S4x4096x3072, .i32⟩
  | .hbm, ⟨32, _⟩ => ⟨S4x4096x3072, .i1⟩
  | .hbm, ⟨33, _⟩ => ⟨S4x4096x3072, .f32⟩
  | .hbm, ⟨34, _⟩ => ⟨S_, .f32⟩
  | .hbm, ⟨35, _⟩ => ⟨S_, .f32⟩
  | .hbm, ⟨36, _⟩ => ⟨S4x4096x3072, .f32⟩
  | .hbm, ⟨37, _⟩ => ⟨S4x4096x3072, .f32⟩
  | .hbm, ⟨38, _⟩ => ⟨S_, .f32⟩
  | .hbm, ⟨39, _⟩ => ⟨S4096x3072, .f32⟩
  | .hbm, ⟨40, _⟩ => ⟨S1, .i32⟩
  | .hbm, ⟨41, _⟩ => ⟨S_, .i32⟩
  | .hbm, ⟨42, _⟩ => ⟨S4x4096x3072, .i32⟩
  | .hbm, ⟨43, _⟩ => ⟨S4x4096x3072, .i32⟩
  | .hbm, ⟨44, _⟩ => ⟨S4x4096x3072, .i1⟩
  | .hbm, ⟨45, _⟩ => ⟨S4x4096x3072, .f32⟩
  | .hbm, ⟨46, _⟩ => ⟨S_, .f32⟩
  | .hbm, ⟨47, _⟩ => ⟨S_, .f32⟩
  | .hbm, ⟨48, _⟩ => ⟨S4x4096x3072, .f32⟩
  | .hbm, ⟨49, _⟩ => ⟨S4x4096x3072, .f32⟩
  | .hbm, ⟨50, _⟩ => ⟨S_, .f32⟩
  | .hbm, ⟨51, _⟩ => ⟨S4096x3072, .f32⟩
  | .hbm, ⟨52, _⟩ => ⟨S4096x3072, .f32⟩
  | .hbm, ⟨53, _⟩ => ⟨S1, .i32⟩
  | .hbm, ⟨54, _⟩ => ⟨S_, .i32⟩
  | .hbm, ⟨55, _⟩ => ⟨S4x4096x3072, .i32⟩
  | .hbm, ⟨56, _⟩ => ⟨S4x4096x3072, .i32⟩
  | .hbm, ⟨57, _⟩ => ⟨S4x4096x3072, .i1⟩
  | .hbm, ⟨58, _⟩ => ⟨S4x4096x3072, .f32⟩
  | .hbm, ⟨59, _⟩ => ⟨S_, .f32⟩
  | .hbm, ⟨60, _⟩ => ⟨S_, .f32⟩
  | .hbm, ⟨61, _⟩ => ⟨S4x4096x3072, .f32⟩
  | .hbm, ⟨62, _⟩ => ⟨S4x4096x3072, .f32⟩
  | .hbm, ⟨63, _⟩ => ⟨S_, .f32⟩
  | .hbm, ⟨64, _⟩ => ⟨S4096x3072, .f32⟩
  | .hbm, ⟨65, _⟩ => ⟨S1, .i32⟩
  | .hbm, ⟨66, _⟩ => ⟨S_, .i32⟩
  | .hbm, ⟨67, _⟩ => ⟨S4x4096x3072, .i32⟩
  | .hbm, ⟨68, _⟩ => ⟨S4x4096x3072, .i32⟩
  | .hbm, ⟨69, _⟩ => ⟨S4x4096x3072, .i1⟩
  | .hbm, ⟨70, _⟩ => ⟨S4x4096x3072, .f32⟩
  | .hbm, ⟨71, _⟩ => ⟨S_, .f32⟩
  | .hbm, ⟨72, _⟩ => ⟨S_, .f32⟩
  | .hbm, ⟨73, _⟩ => ⟨S4x4096x3072, .f32⟩
  | .hbm, ⟨74, _⟩ => ⟨S4x4096x3072, .f32⟩
  | .hbm, ⟨75, _⟩ => ⟨S_, .f32⟩
  | .hbm, ⟨76, _⟩ => ⟨S4096x3072, .f32⟩
  | .hbm, ⟨77, _⟩ => ⟨S4096x3072, .f32⟩
  | .hbm, ⟨78, _⟩ => ⟨S1x4096x3072, .f32⟩
  | .hbm, ⟨79, _⟩ => ⟨S1x4096x3072, .f32⟩
  | .hbm, ⟨80, _⟩ => ⟨S1x4096x3072, .f32⟩
  | .hbm, ⟨81, _⟩ => ⟨S3x4096x3072, .f32⟩
  | .hbm, ⟨82, _⟩ => ⟨S3x4096x3072, .bf16⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst : Ref sig .tc := ⟨.hbm, 9, rfl⟩
abbrev main_call0_v0 : Ref sig .tc := ⟨.hbm, 10, rfl⟩
abbrev main_call0_v1 : Ref sig .tc := ⟨.hbm, 11, rfl⟩
abbrev main_v6 : Ref sig .tc := ⟨.hbm, 12, rfl⟩
abbrev main_cst_0 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_1 : Ref sig .tc := ⟨.hbm, 21, rfl⟩
abbrev main_call1_v0 : Ref sig .tc := ⟨.hbm, 22, rfl⟩
abbrev main_call1_v1 : Ref sig .tc := ⟨.hbm, 23, rfl⟩
abbrev main_v14 : Ref sig .tc := ⟨.hbm, 24, rfl⟩
abbrev main_cst_2 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_3 : Ref sig .tc := ⟨.hbm, 34, rfl⟩
abbrev main_call2_v0 : Ref sig .tc := ⟨.hbm, 35, rfl⟩
abbrev main_call2_v1 : Ref sig .tc := ⟨.hbm, 36, rfl⟩
abbrev main_v23 : Ref sig .tc := ⟨.hbm, 37, rfl⟩
abbrev main_cst_4 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_cst_5 : Ref sig .tc := ⟨.hbm, 46, rfl⟩
abbrev main_call3_v0 : Ref sig .tc := ⟨.hbm, 47, rfl⟩
abbrev main_call3_v1 : Ref sig .tc := ⟨.hbm, 48, rfl⟩
abbrev main_v31 : Ref sig .tc := ⟨.hbm, 49, rfl⟩
abbrev main_cst_6 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_cst_7 : Ref sig .tc := ⟨.hbm, 59, rfl⟩
abbrev main_call4_v0 : Ref sig .tc := ⟨.hbm, 60, rfl⟩
abbrev main_call4_v1 : Ref sig .tc := ⟨.hbm, 61, rfl⟩
abbrev main_v40 : Ref sig .tc := ⟨.hbm, 62, rfl⟩
abbrev main_cst_8 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_cst_9 : Ref sig .tc := ⟨.hbm, 71, rfl⟩
abbrev main_call5_v0 : Ref sig .tc := ⟨.hbm, 72, rfl⟩
abbrev main_call5_v1 : Ref sig .tc := ⟨.hbm, 73, rfl⟩
abbrev main_v48 : Ref sig .tc := ⟨.hbm, 74, rfl⟩
abbrev main_cst_10 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩

abbrev nD : Nat := 1
abbrev τ : Topo := Topo.v7x

variable {F : FTy → Type} [FloatOps F]
-- ==== Kernel37.lean ====
abbrev S8 : Shape := ⟨1, ![8]⟩
abbrev S8x4x256 : Shape := ⟨3, ![8, 4, 256]⟩
abbrev S4x4x256 : Shape := ⟨3, ![4, 4, 256]⟩
abbrev S3x4x256 : Shape := ⟨3, ![3, 4, 256]⟩
abbrev S1x4x256 : Shape := ⟨3, ![1, 4, 256]⟩
abbrev S1 : Shape := ⟨1, ![1]⟩
abbrev S4x256 : Shape := ⟨2, ![4, 256]⟩

abbrev nBuf : Space → Nat
  | .hbm => 3
  | .vmem => 6
  | .smem => 1
  | _ => 0

abbrev bufTy : (tb : Table) → Fin (tcTables nBuf tb) → BufTy
  | .hbm, ⟨0, _⟩ => ⟨S8x4x256, .f32⟩
  | .hbm, ⟨1, _⟩ => ⟨S4x4x256, .f32⟩
  | .hbm, ⟨2, _⟩ => ⟨S3x4x256, .f32⟩
  | .local _ .vmem, ⟨0, _⟩ => ⟨S1x4x256, .f32⟩
  | .local _ .vmem, ⟨1, _⟩ => ⟨S1x4x256, .f32⟩
  | .local _ .vmem, ⟨2, _⟩ => ⟨S1x4x256, .f32⟩
  | .local _ .vmem, ⟨3, _⟩ => ⟨S1x4x256, .f32⟩
  | .local _ .vmem, ⟨4, _⟩ => ⟨S1x4x256, .f32⟩
  | .local _ .vmem, ⟨5, _⟩ => ⟨S1x4x256, .f32⟩
  | .local _ .smem, ⟨0, _⟩ => ⟨S8, .i32⟩
  | _, _ => ⟨S8x4x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8.size a) (numel1_S1 : S1.numel = 1) (inb_S8_S1_3 : ∀ a, (![3] : Fin 1 → Nat) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c2_i32 : BitVec 32 := 2#32
  let v2 : BitVec 32 := Scalar.muli c2_i32 v1
  let c3 : Index := 3#32
  let v3 : BitVec 32 := pf.at 0 (Rect.unit (s := S8) ![3] S1.size inb_S8_S1_3) numel1_S1
  let v4 : BitVec 32 := Scalar.addi v2 v3
  let c0_i32 : BitVec 32 := 0#32
  let c0_i32_0 : BitVec 32 := 0#32
  ![v4.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x4x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference37Ideal.lean ====
abbrev S8 : Shape := ⟨1, ![8]⟩
abbrev S8x4x256 : Shape := ⟨3, ![8, 4, 256]⟩
abbrev S4x4x256 : Shape := ⟨3, ![4, 4, 256]⟩
abbrev S1 : Shape := ⟨1, ![1]⟩
abbrev S_ : Shape := ⟨0, ![]⟩
abbrev S4x256 : Shape := ⟨2, ![4, 256]⟩
abbrev S1x4x256 : Shape := ⟨3, ![1, 4, 256]⟩
abbrev S3x4x256 : Shape := ⟨3, ![3, 4, 256]⟩

abbrev nBuf : Space → Nat
  | .hbm => 91
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x4x256, .f32⟩
  | .hbm, ⟨2, _⟩ => ⟨S4x4x256, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S8x4x256, .i32⟩
  | .hbm, ⟨11, _⟩ => ⟨S8x4x256, .i32⟩
  | .hbm, ⟨12, _⟩ => ⟨S8x4x256, .i1⟩
  | .hbm, ⟨13, _⟩ => ⟨S_, .f32⟩
  | .hbm, ⟨14, _⟩ => ⟨S_, .f32⟩
  | .hbm, ⟨15, _⟩ => ⟨S8x4x256, .f32⟩
  | .hbm, ⟨16, _⟩ => ⟨S8x4x256, .f32⟩
  | .hbm, ⟨17, _⟩ => ⟨S_, .f32⟩
  | .hbm, ⟨18, _⟩ => ⟨S4x256, .f32⟩
  | .hbm, ⟨19, _⟩ => ⟨S1, .i32⟩
  | .hbm, ⟨20, _⟩ => ⟨S_, .i32⟩
  | .hbm, ⟨21, _⟩ => ⟨S4x4x256, .i32⟩
  | .hbm, ⟨22, _⟩ => ⟨S4x4x256, .i32⟩
  | .hbm, ⟨23, _⟩ => ⟨S4x4x256, .i1⟩
  | .hbm, ⟨24, _⟩ => ⟨S_, .f32⟩
  | .hbm, ⟨25, _⟩ => ⟨S_, .f32⟩
  | .hbm, ⟨26, _⟩ => ⟨S4x4x256, .f32⟩
  | .hbm, ⟨27, _⟩ => ⟨S4x4x256, .f32⟩
  | .hbm, ⟨28, _⟩ => ⟨S_, .f32⟩
  | .hbm, ⟨29, _⟩ => ⟨S4x256, .f32⟩
  | .hbm, ⟨30, _⟩ => ⟨S4x256, .f32⟩
  | .hbm, ⟨31, _⟩ => ⟨S1, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S8x4x256, .i32⟩
  | .hbm, ⟨39, _⟩ => ⟨S8x4x256, .i32⟩
  | .hbm, ⟨40, _⟩ => ⟨S8x4x256, .i1⟩
  | .hbm, ⟨41, _⟩ => ⟨S_, .f32⟩
  | .hbm, ⟨42, _⟩ => ⟨S_, .f32⟩
  | .hbm, ⟨43, _⟩ => ⟨S8x4x256, .f32⟩
  | .hbm, ⟨44, _⟩ => ⟨S8x4x256, .f32⟩
  | .hbm, ⟨45, _⟩ => ⟨S_, .f32⟩
  | .hbm, ⟨46, _⟩ => ⟨S4x256, .f32⟩
  | .hbm, ⟨47, _⟩ => ⟨S1, .i32⟩
  | .hbm, ⟨48, _⟩ => ⟨S_, .i32⟩
  | .hbm, ⟨49, _⟩ => ⟨S4x4x256, .i32⟩
  | .hbm, ⟨50, _⟩ => ⟨S4x4x256, .i32⟩
  | .hbm, ⟨51, _⟩ => ⟨S4x4x256, .i1⟩
  | .hbm, ⟨52, _⟩ => ⟨S_, .f32⟩
  | .hbm, ⟨53, _⟩ => ⟨S_, .f32⟩
  | .hbm, ⟨54, _⟩ => ⟨S4x4x256, .f32⟩
  | .hbm, ⟨55, _⟩ => ⟨S4x4x256, .f32⟩
  | .hbm, ⟨56, _⟩ => ⟨S_, .f32⟩
  | .hbm, ⟨57, _⟩ => ⟨S4x256, .f32⟩
  | .hbm, ⟨58, _⟩ => ⟨S4x256, .f32⟩
  | .hbm, ⟨59, _⟩ => ⟨S1, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1, .i32⟩
  | .hbm, ⟨64, _⟩ => ⟨S_, .i32⟩
  | .hbm, ⟨65, _⟩ => ⟨S_, .i32⟩
  | .hbm, ⟨66, _⟩ => ⟨S8x4x256, .i32⟩
  | .hbm, ⟨67, _⟩ => ⟨S8x4x256, .i32⟩
  | .hbm, ⟨68, _⟩ => ⟨S8x4x256, .i1⟩
  | .hbm, ⟨69, _⟩ => ⟨S_, .f32⟩
  | .hbm, ⟨70, _⟩ => ⟨S_, .f32⟩
  | .hbm, ⟨71, _⟩ => ⟨S8x4x256, .f32⟩
  | .hbm, ⟨72, _⟩ => ⟨S8x4x256, .f32⟩
  | .hbm, ⟨73, _⟩ => ⟨S_, .f32⟩
  | .hbm, ⟨74, _⟩ => ⟨S4x256, .f32⟩
  | .hbm, ⟨75, _⟩ => ⟨S1, .i32⟩
  | .hbm, ⟨76, _⟩ => ⟨S_, .i32⟩
  | .hbm, ⟨77, _⟩ => ⟨S4x4x256, .i32⟩
  | .hbm, ⟨78, _⟩ => ⟨S4x4x256, .i32⟩
  | .hbm, ⟨79, _⟩ => ⟨S4x4x256, .i1⟩
  | .hbm, ⟨80, _⟩ => ⟨S_, .f32⟩
  | .hbm, ⟨81, _⟩ => ⟨S_, .f32⟩
  | .hbm, ⟨82, _⟩ => ⟨S4x4x256, .f32⟩
  | .hbm, ⟨83, _⟩ => ⟨S4x4x256, .f32⟩
  | .hbm, ⟨84, _⟩ => ⟨S_, .f32⟩
  | .hbm, ⟨85, _⟩ => ⟨S4x256, .f32⟩
  | .hbm, ⟨86, _⟩ => ⟨S4x256, .f32⟩
  | .hbm, ⟨87, _⟩ => ⟨S1x4x256, .f32⟩
  | .hbm, ⟨88, _⟩ => ⟨S1x4x256, .f32⟩
  | .hbm, ⟨89, _⟩ => ⟨S1x4x256, .f32⟩
  | .hbm, ⟨90, _⟩ => ⟨S3x4x256, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_call2_v0 : Ref sig .tc := ⟨.hbm, 42, rfl⟩
abbrev main_call2_v1 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_call3_v0 : Ref sig .tc := ⟨.hbm, 53, rfl⟩
abbrev main_call3_v1 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_call4_v0 : Ref sig .tc := ⟨.hbm, 70, rfl⟩
abbrev main_call4_v1 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_call5_v0 : Ref sig .tc := ⟨.hbm, 81, rfl⟩
abbrev main_call5_v1 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Kernel38.lean ====
abbrev S8 : Shape := ⟨1, ![8]⟩
abbrev S8x1x1024 : Shape := ⟨3, ![8, 1, 1024]⟩
abbrev S4x1x1024 : Shape := ⟨3, ![4, 1, 1024]⟩
abbrev S3x1x1024 : Shape := ⟨3, ![3, 1, 1024]⟩
abbrev S1x1x1024 : Shape := ⟨3, ![1, 1, 1024]⟩
abbrev S1 : Shape := ⟨1, ![1]⟩
abbrev S1x1024 : Shape := ⟨2, ![1, 1024]⟩

abbrev nBuf : Space → Nat
  | .hbm => 3
  | .vmem => 6
  | .smem => 1
  | _ => 0

abbrev bufTy : (tb : Table) → Fin (tcTables nBuf tb) → BufTy
  | .hbm, ⟨0, _⟩ => ⟨S8x1x1024, .f32⟩
  | .hbm, ⟨1, _⟩ => ⟨S4x1x1024, .f32⟩
  | .hbm, ⟨2, _⟩ => ⟨S3x1x1024, .f32⟩
  | .local _ .vmem, ⟨0, _⟩ => ⟨S1x1x1024, .f32⟩
  | .local _ .vmem, ⟨1, _⟩ => ⟨S1x1x1024, .f32⟩
  | .local _ .vmem, ⟨2, _⟩ => ⟨S1x1x1024, .f32⟩
  | .local _ .vmem, ⟨3, _⟩ => ⟨S1x1x1024, .f32⟩
  | .local _ .vmem, ⟨4, _⟩ => ⟨S1x1x1024, .f32⟩
  | .local _ .vmem, ⟨5, _⟩ => ⟨S1x1x1024, .f32⟩
  | .local _ .smem, ⟨0, _⟩ => ⟨S8, .i32⟩
  | _, _ => ⟨S8x1x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg1 : Ref sig .tc := ⟨.hbm, 0, rfl⟩
abbrev main_arg2 : Ref sig .tc := ⟨.hbm, 1, rfl⟩
abbrev main_v0 : Ref sig .tc := ⟨.hbm, 2, rfl⟩
abbrev main_arg0 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![3, 1], ![false, false]⟩

abbrev pre0 : Pipeline.Prefetch sig := ⟨1, ![main_arg0.idx], fun | 0 => main_arg0.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S8.size a) (numel1_S1 : S1.numel = 1) (inb_S8_S1_3 : ∀ a, (![3] : Fin 1 → Nat) a + S1.size a ≤ S8.size a) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c2_i32 : BitVec 32 := 2#32
  let v2 : BitVec 32 := Scalar.muli c2_i32 v1
  let c3 : Index := 3#32
  let v3 : BitVec 32 := pf.at 0 (Rect.unit (s := S8) ![3] S1.size inb_S8_S1_3) numel1_S1
  let v4 : BitVec 32 := Scalar.addi v2 v3
  let c0_i32 : BitVec 32 := 0#32
  let c0_i32_0 : BitVec 32 := 0#32
  ![v4.toNat, arg1.toNat, c0_i32.toNat]

def cc0_transform_1 (k0_off1_inb : ∀ i : grid0.Coords, ∀ a, (k0_off1 i) a + S1.size a ≤ S8.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg0
  let v1 : BitVec 32 := pf.at 0 (Rect.unit (s := S8) ![v0.toNat] S1.size (k0_off1_inb i)) numel1_S1
  let c0_i32 : BitVec 32 := 0#32
  let c0_i32_0 : BitVec 32 := 0#32
  ![v1.toNat, arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference38Ideal.lean ====
abbrev S8 : Shape := ⟨1, ![8]⟩
abbrev S8x1x1024 : Shape := ⟨3, ![8, 1, 1024]⟩
abbrev S4x1x1024 : Shape := ⟨3, ![4, 1, 1024]⟩
abbrev S1 : Shape := ⟨1, ![1]⟩
abbrev S_ : Shape := ⟨0, ![]⟩
abbrev S1x1024 : Shape := ⟨2, ![1, 1024]⟩
abbrev S1x1x1024 : Shape := ⟨3, ![1, 1, 1024]⟩
abbrev S3x1x1024 : Shape := ⟨3, ![3, 1, 1024]⟩

abbrev nBuf : Space → Nat
  | .hbm => 91
  | .vmem => 0
  | .smem => 0
  | _ => 0

abbrev bufTy : (tb : Table) → Fin (tcTables nBuf tb) → BufTy
  | .hbm, ⟨0, _⟩ => ⟨S8, .i32⟩
  | .hbm, ⟨1, _⟩ => ⟨S8x1x1024, .f32⟩
  | .hbm, ⟨2, _⟩ => ⟨S4x1x1024, .f32⟩
  | .hbm, ⟨3, _⟩ => ⟨S1, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S1, .i32⟩
  | .hbm, ⟨8, _⟩ => ⟨S_, .i32⟩
  | .hbm, ⟨9, _⟩ => ⟨S_, .i32⟩
  | .hbm, ⟨10, _⟩ => ⟨S8x1x1024, .i32⟩
  | .hbm, ⟨11, _⟩ => ⟨S8x1x1024, .i32⟩
  | .hbm, ⟨12, _⟩ => ⟨S8x1x1024, .i1⟩
  | .hbm, ⟨13, _⟩ => ⟨S_, .f32⟩
  | .hbm, ⟨14, _⟩ => ⟨S_, .f32⟩
  | .hbm, ⟨15, _⟩ => ⟨S8x1x1024, .f32⟩
  | .hbm, ⟨16, _⟩ => ⟨S8x1x1024, .f32⟩
  | .hbm, ⟨17, _⟩ => ⟨S_, .f32⟩
  | .hbm, ⟨18, _⟩ => ⟨S1x1024, .f32⟩
  | .hbm, ⟨19, _⟩ => ⟨S1, .i32⟩
  | .hbm, ⟨20, _⟩ => ⟨S_, .i32⟩
  | .hbm, ⟨21, _⟩ => ⟨S4x1x1024, .i32⟩
  | .hbm, ⟨22, _⟩ => ⟨S4x1x1024, .i32⟩
  | .hbm, ⟨23, _⟩ => ⟨S4x1x1024, .i1⟩
  | .hbm, ⟨24, _⟩ => ⟨S_, .f32⟩
  | .hbm, ⟨25, _⟩ => ⟨S_, .f32⟩
  | .hbm, ⟨26, _⟩ => ⟨S4x1x1024, .f32⟩
  | .hbm, ⟨27, _⟩ => ⟨S4x1x1024, .f32⟩
  | .hbm, ⟨28, _⟩ => ⟨S_, .f32⟩
  | .hbm, ⟨29, _⟩ => ⟨S1x1024, .f32⟩
  | .hbm, ⟨30, _⟩ => ⟨S1x1024, .f32⟩
  | .hbm, ⟨31, _⟩ => ⟨S1, .i32⟩
  | .hbm, ⟨32, _⟩ => ⟨S_, .i32⟩
  | .hbm, ⟨33, _⟩ => ⟨S_, .i32⟩
  | .hbm, ⟨34, _⟩ => ⟨S_, .i32⟩
  | .hbm, ⟨35, _⟩ => ⟨S1, .i32⟩
  | .hbm, ⟨36, _⟩ => ⟨S_, .i32⟩
  | .hbm, ⟨37, _⟩ => ⟨S_, .i32⟩
  | .hbm, ⟨38, _⟩ => ⟨S8x1x1024, .i32⟩
  | .hbm, ⟨39, _⟩ => ⟨S8x1x1024, .i32⟩
  | .hbm, ⟨40, _⟩ => ⟨S8x1x1024, .i1⟩
  | .hbm, ⟨41, _⟩ => ⟨S_, .f32⟩
  | .hbm, ⟨42, _⟩ => ⟨S_, .f32⟩
  | .hbm, ⟨43, _⟩ => ⟨S8x1x1024, .f32⟩
  | .hbm, ⟨44, _⟩ => ⟨S8x1x1024, .f32⟩
  | .hbm, ⟨45, _⟩ => ⟨S_, .f32⟩
  | .hbm, ⟨46, _⟩ => ⟨S1x1024, .f32⟩
  | .hbm, ⟨47, _⟩ => ⟨S1, .i32⟩
  | .hbm, ⟨48, _⟩ => ⟨S_, .i32⟩
  | .hbm, ⟨49, _⟩ => ⟨S4x1x1024, .i32⟩
  | .hbm, ⟨50, _⟩ => ⟨S4x1x1024, .i32⟩
  | .hbm, ⟨51, _⟩ => ⟨S4x1x1024, .i1⟩
  | .hbm, ⟨52, _⟩ => ⟨S_, .f32⟩
  | .hbm, ⟨53, _⟩ => ⟨S_, .f32⟩
  | .hbm, ⟨54, _⟩ => ⟨S4x1x1024, .f32⟩
  | .hbm, ⟨55, _⟩ => ⟨S4x1x1024, .f32⟩
  | .hbm, ⟨56, _⟩ => ⟨S_, .f32⟩
  | .hbm, ⟨57, _⟩ => ⟨S1x1024, .f32⟩
  | .hbm, ⟨58, _⟩ => ⟨S1x1024, .f32⟩
  | .hbm, ⟨59, _⟩ => ⟨S1, .i32⟩
  | .hbm, ⟨60, _⟩ => ⟨S_, .i32⟩
  | .hbm, ⟨61, _⟩ => ⟨S_, .i32⟩
  | .hbm, ⟨62, _⟩ => ⟨S_, .i32⟩
  | .hbm, ⟨63, _⟩ => ⟨S1, .i32⟩
  | .hbm, ⟨64, _⟩ => ⟨S_, .i32⟩
  | .hbm, ⟨65, _⟩ => ⟨S_, .i32⟩
  | .hbm, ⟨66, _⟩ => ⟨S8x1x1024, .i32⟩
  | .hbm, ⟨67, _⟩ => ⟨S8x1x1024, .i32⟩
  | .hbm, ⟨68, _⟩ => ⟨S8x1x1024, .i1⟩
  | .hbm, ⟨69, _⟩ => ⟨S_, .f32⟩
  | .hbm, ⟨70, _⟩ => ⟨S_, .f32⟩
  | .hbm, ⟨71, _⟩ => ⟨S8x1x1024, .f32⟩
  | .hbm, ⟨72, _⟩ => ⟨S8x1x1024, .f32⟩
  | .hbm, ⟨73, _⟩ => ⟨S_, .f32⟩
  | .hbm, ⟨74, _⟩ => ⟨S1x1024, .f32⟩
  | .hbm, ⟨75, _⟩ => ⟨S1, .i32⟩
  | .hbm, ⟨76, _⟩ => ⟨S_, .i32⟩
  | .hbm, ⟨77, _⟩ => ⟨S4x1x1024, .i32⟩
  | .hbm, ⟨78, _⟩ => ⟨S4x1x1024, .i32⟩
  | .hbm, ⟨79, _⟩ => ⟨S4x1x1024, .i1⟩
  | .hbm, ⟨80, _⟩ => ⟨S_, .f32⟩
  | .hbm, ⟨81, _⟩ => ⟨S_, .f32⟩
  | .hbm, ⟨82, _⟩ => ⟨S4x1x1024, .f32⟩
  | .hbm, ⟨83, _⟩ => ⟨S4x1x1024, .f32⟩
  | .hbm, ⟨84, _⟩ => ⟨S_, .f32⟩
  | .hbm, ⟨85, _⟩ => ⟨S1x1024, .f32⟩
  | .hbm, ⟨86, _⟩ => ⟨S1x1024, .f32⟩
  | .hbm, ⟨87, _⟩ => ⟨S1x1x1024, .f32⟩
  | .hbm, ⟨88, _⟩ => ⟨S1x1x1024, .f32⟩
  | .hbm, ⟨89, _⟩ => ⟨S1x1x1024, .f32⟩
  | .hbm, ⟨90, _⟩ => ⟨S3x1x1024, .f32⟩
  | _, _ => ⟨S8, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_cst : Ref sig .tc := ⟨.hbm, 13, rfl⟩
abbrev main_call0_v0 : Ref sig .tc := ⟨.hbm, 14, rfl⟩
abbrev main_call0_v1 : Ref sig .tc := ⟨.hbm, 15, rfl⟩
abbrev main_v9 : Ref sig .tc := ⟨.hbm, 16, rfl⟩
abbrev main_cst_0 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_cst_1 : Ref sig .tc := ⟨.hbm, 24, rfl⟩
abbrev main_call1_v0 : Ref sig .tc := ⟨.hbm, 25, rfl⟩
abbrev main_call1_v1 : Ref sig .tc := ⟨.hbm, 26, rfl⟩
abbrev main_v16 : Ref sig .tc := ⟨.hbm, 27, rfl⟩
abbrev main_cst_2 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_c_3 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_cst_4 : Ref sig .tc := ⟨.hbm, 41, rfl⟩
abbrev main_call2_v0 : Ref sig .tc := ⟨.hbm, 42, rfl⟩
abbrev main_call2_v1 : Ref sig .tc := ⟨.hbm, 43, rfl⟩
abbrev main_v28 : Ref sig .tc := ⟨.hbm, 44, rfl⟩
abbrev main_cst_5 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_cst_6 : Ref sig .tc := ⟨.hbm, 52, rfl⟩
abbrev main_call3_v0 : Ref sig .tc := ⟨.hbm, 53, rfl⟩
abbrev main_call3_v1 : Ref sig .tc := ⟨.hbm, 54, rfl⟩
abbrev main_v35 : Ref sig .tc := ⟨.hbm, 55, rfl⟩
abbrev main_cst_7 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_8 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_cst_9 : Ref sig .tc := ⟨.hbm, 69, rfl⟩
abbrev main_call4_v0 : Ref sig .tc := ⟨.hbm, 70, rfl⟩
abbrev main_call4_v1 : Ref sig .tc := ⟨.hbm, 71, rfl⟩
abbrev main_v47 : Ref sig .tc := ⟨.hbm, 72, rfl⟩
abbrev main_cst_10 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_cst_11 : Ref sig .tc := ⟨.hbm, 80, rfl⟩
abbrev main_call5_v0 : Ref sig .tc := ⟨.hbm, 81, rfl⟩
abbrev main_call5_v1 : Ref sig .tc := ⟨.hbm, 82, rfl⟩
abbrev main_v54 : Ref sig .tc := ⟨.hbm, 83, rfl⟩
abbrev main_cst_12 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩

abbrev nD : Nat := 1
abbrev τ : Topo := Topo.v7x

variable {F : FTy → Type} [FloatOps F]
-- ==== Proof.PoolMath.lean ====
/- The arithmetic of a causal moving window: a suffix sum of differences at distance `w` is a sum over a window of length `w`. -/
module

public import Mathlib.Algebra.BigOperators.Group.Finset.Basic
public import Mathlib.Algebra.BigOperators.Fin
public import Mathlib.Data.Real.Basic
public import Mathlib.Data.EReal.Operations

@[expose] public section

namespace Cert.Pool

open Finset

/-- Where `r` vanishes from `N` on, the differences `r (s + k) - r (s + k + w)` over `k < N` add up to the window of length `w` that starts at `s`. -/
theorem suffix_of_window (r : ℕ → ℝ) (N : ℕ) (hr : ∀ n, N ≤ n → r n = 0) (s w : ℕ) :
    ∑ k ∈ range N, (r (s + k) - r (s + k + w)) = ∑ u ∈ range w, r (s + u) := by
  induction w with
  | zero => simp
  | succ w ih =>
    have ht : ∑ k ∈ range N, (r (s + w + k) - r (s + w + (k + 1))) = r (s + w) := by
      rw [sum_range_sub' (fun k => r (s + w + k)) N, hr (s + w + N) (by omega)]
      simp
    rw [sum_range_succ, ← ih, ← ht, ← sum_add_distrib]
    refine sum_congr rfl fun k _ => ?_
    rw [show s + k + (w + 1) = s + w + (k + 1) by omega, show s + k + w = s + w + k by omega]
    ring

/-- A sum of real numbers, taken among the extended reals. -/
theorem coe_sum_range (f : ℕ → ℝ) (n : ℕ) : ((∑ k ∈ range n, f k : ℝ) : EReal) = ∑ k ∈ range n, (f k : EReal) := by
  induction n with
  | zero => simp
  | succ n ih => rw [sum_range_succ, sum_range_succ, EReal.coe_add, ih]

/-- What one row receives: of the gradient `d` of one channel of a sequence of `N` rows, row `s'` hands `d s' / min (s' + 1) w` to each row of its window. -/
noncomputable def share (N w : ℕ) (d : ℕ → ℝ) (s : ℕ) : ℝ := if s < N then d s * (1 / min ((s : ℝ) + 1) w) else 0

/-- The gradient of the pooled channel at row `s`: what the rows `s … s + w - 1` hand back, less the row's own. -/
noncomputable def poolGrad (N w : ℕ) (d : ℕ → ℝ) (s : ℕ) : ℝ := (∑ u ∈ range w, share N w d (s + u)) - d s

theorem share_of_le (N w : ℕ) (d : ℕ → ℝ) (s : ℕ) (h : N ≤ s) : share N w d s = 0 := if_neg (by omega)

/-- Two neighbouring windows of length `n` make one of length `2 n`. -/
theorem window_double (ρ : ℕ → ℝ) (n p : ℕ) :
    ∑ u ∈ range (n + n), ρ (p + u) = ∑ u ∈ range n, ρ (p + u) + ∑ u ∈ range n, ρ (p + n + u) := by
  rw [sum_range_add]
  simp only [add_assoc]

end Cert.Pool
-- ==== Proof.PoolShare.lean ====
/- A row's share of the gradient as the programs compute it, and the constants of the four windows. -/
module

public import proofs.«01_k».proof.Proof.PoolMath
public import Idealize.ShloMosaic.Lib.Pointwise
public import Idealize.ShloMosaic.Lib.IdealHost

@[expose] public section

namespace Cert.Pool

open Idealize.ShloMosaic

/-- A row's share, computed among the extended reals. -/
theorem div_count (a : ℝ) (s w : ℕ) (hw : 0 < w) (z : EReal) (hz : z = ((w : ℝ) : EReal)) :
    Ideal.div (a : EReal) (min (1 + ((s : ℝ) : EReal)) z) = ((a * (1 / min ((s : ℝ) + 1) w) : ℝ) : EReal) := by
  have hm : min (1 + ((s : ℝ) : EReal)) z = ((min ((s : ℝ) + 1) w : ℝ) : EReal) := by
    rw [hz, EReal.coe_strictMono.monotone.map_min, EReal.coe_add, EReal.coe_one, add_comm]
  have h0 : min ((s : ℝ) + 1) w ≠ 0 := ne_of_gt (lt_min (by positivity) (by exact_mod_cast hw))
  rw [hm, Ideal.div_coe h0, EReal.coe_mul]

/-- A row number as a word, read as a signed number. -/
theorem toInt_row (s : ℕ) (hs : s < 4096) : (((BitVec.ofNat 32 s).toInt : ℝ) : EReal) = ((s : ℝ) : EReal) := by
  rw [BitVec.toInt_eq_toNat_of_lt (by rw [BitVec.toNat_ofNat]; omega), BitVec.toNat_ofNat, Nat.mod_eq_of_lt (by omega)]
  simp

/-- The word of 2. -/
theorem bits_two : Ideal.ofBits .f32 0x40000000#32 = (((2 : ℕ) : ℝ) : EReal) := by
  simp [Ideal.ofBits, Ideal.ieee, -EReal.coe_mul]; norm_num

/-- The word of 1 / 2. -/
theorem bits_half : Ideal.ofBits .f32 0x3F000000#32 = ((1 / ((2 : ℕ) : ℝ) : ℝ) : EReal) := by
  simp [Ideal.ofBits, Ideal.ieee, -EReal.coe_mul]; norm_num

/-- The word of 4. -/
theorem bits_four : Ideal.ofBits .f32 0x40800000#32 = (((4 : ℕ) : ℝ) : EReal) := by
  simp [Ideal.ofBits, Ideal.ieee, -EReal.coe_mul]; norm_num

/-- The word of 1 / 4. -/
theorem bits_quarter : Ideal.ofBits .f32 0x3E800000#32 = ((1 / ((4 : ℕ) : ℝ) : ℝ) : EReal) := by
  simp [Ideal.ofBits, Ideal.ieee, -EReal.coe_mul]; norm_num

/-- The word of 8. -/
theorem bits_eight : Ideal.ofBits .f32 0x41000000#32 = (((8 : ℕ) : ℝ) : EReal) := by
  simp [Ideal.ofBits, Ideal.ieee, -EReal.coe_mul]; norm_num

/-- The word of 1 / 8. -/
theorem bits_eighth : Ideal.ofBits .f32 0x3E000000#32 = ((1 / ((8 : ℕ) : ℝ) : ℝ) : EReal) := by
  simp [Ideal.ofBits, Ideal.ieee, -EReal.coe_mul]; norm_num

/-- The word of 16. -/
theorem bits_sixteen : Ideal.ofBits .f32 0x41800000#32 = (((16 : ℕ) : ℝ) : EReal) := by
  simp [Ideal.ofBits, Ideal.ieee, -EReal.coe_mul]; norm_num

/-- The word of 1 / 16. -/
theorem bits_sixteenth : Ideal.ofBits .f32 0x3D800000#32 = ((1 / ((16 : ℕ) : ℝ) : ℝ) : EReal) := by
  simp [Ideal.ofBits, Ideal.ieee, -EReal.coe_mul]; norm_num

end Cert.Pool
-- ==== Proof.PoolBody.lean ====
/- The body of the pooling gradient at one grid point: its blocks of 512 rows and the 16 rows behind them, read at a row. -/
module

public import proofs.«01_k».proof.Proof.Gen.KernelIdeal.Skeleton
public import proofs.«01_k».proof.Proof.PoolShare

@[expose] public section

set_option maxRecDepth 16384

noncomputable section

namespace Cert.Pool

open Cert.KernelIdeal Cert.KernelIdeal.Gen Idealize.ShloMosaic Idealize.ShloMosaic.Pointwise Cert.KernelIdeal.Facts

/-- Whether the block of rows is the last of its sequence, as the body computes it from the first row behind the block. -/
def atEnd (v34 v36 : BitVec 32) : BitVec 1 :=
  Scalar.cmpi .eq (Scalar.select (Scalar.andi (Scalar.xori (Scalar.cmpi .slt (Scalar.remsi v34 v36) 0#32) (Scalar.cmpi .slt v36 0#32))
    (Scalar.cmpi .ne (Scalar.remsi v34 v36) 0#32)) (Scalar.addi (Scalar.remsi v34 v36) v36) (Scalar.remsi v34 v36)) 0#32

/-- The shares of the block's rows, and behind them those of the next 16 rows. -/
def shares (bits ibits : BitVec 32) (v28 : Vec Ideal S512x1024 .f32) (v32 : FVec Ideal S512x1 .f32) (v34 v36 : BitVec 32) (v64 : Vec Ideal S16x1024 .f32) :
    FVec Ideal S528x1024 .f32 :=
  concatenate S528x1024 0 [⟨S512x1024, divf v28 (broadcastTo S512x1024 (minimumf (addf v32 (broadcast S512x1 (Scalar.ofBits .f32 0x3F800000#32)))
      (broadcast S512x1 (Scalar.ofBits .f32 bits))) broadcasts_S512x1_S512x1024)⟩,
    ⟨S16x1024, mulf v64 (broadcast S16x1024 (Scalar.select (atEnd v34 v36) (Scalar.ofBits .f32 0x00000000#32) (Scalar.ofBits .f32 ibits)))⟩]
    concatenates_S512x1024_S16x1024_S528x1024_d0

/-- Each row plus the row `528 - n` places on. -/
def rollAdd (n : BitVec 32) (x : FVec Ideal S528x1024 .f32) : FVec Ideal S528x1024 .f32 := addf x (dynamicRotate 0 n none x rotates_S528x1024_d0)

/-- What the body stores: the rows' windows, less the gradient itself. -/
def stored (x : FVec Ideal S528x1024 .f32) (v28 : Vec Ideal S512x1024 .f32) : FVec Ideal S512x1024 .bf16 :=
  truncf .bf16 (subf (extractStridedSlice S512x1024 ![0, 0] x slices_S528x1024_o0_0_S512x1024) v28) bitsLt_bf16_f32

section
variable (v28 : Vec Ideal S512x1024 .f32) (v32 : FVec Ideal S512x1 .f32) (v34 v36 : BitVec 32) (v64 : Vec Ideal S16x1024 .f32)

theorem pay1_eq : k0_pay1 v28 v32 v34 v36 v64 = stored (rollAdd 527#32 (shares 0x40000000#32 0x3F000000#32 v28 v32 v34 v36 v64)) v28 := rfl
theorem pay2_eq : k0_pay2 v28 v32 v34 v36 v64 = stored (rollAdd 526#32 (rollAdd 527#32 (shares 0x40800000#32 0x3E800000#32 v28 v32 v34 v36 v64))) v28 := rfl
theorem pay3_eq : k0_pay3 v28 v32 v34 v36 v64 = stored (rollAdd 524#32 (rollAdd 526#32 (rollAdd 527#32 (shares 0x41000000#32 0x3E000000#32 v28 v32 v34 v36 v64)))) v28 := rfl
theorem pay4_eq : k0_pay4 v28 v32 v34 v36 v64 =
    stored (rollAdd 520#32 (rollAdd 524#32 (rollAdd 526#32 (rollAdd 527#32 (shares 0x41800000#32 0x3D800000#32 v28 v32 v34 v36 v64))))) v28 := rfl

/-- What a grid point's blocks hold in column `l`: the gradient `δ` of one channel of one sequence, from row `s0` on, the rows' numbers, and behind the block either the end of the sequence or its next 16 rows. -/
structure Blocks (δ : ℕ → ℝ) (s0 : ℕ) (l : Fin 1024) : Prop where
  rows : ∀ p : Fin 512, v28 (ix2 p l) = (δ (s0 + p.val) : EReal)
  pos : ∀ p : Fin 512, v32 (ix2 p 0) = (((s0 + p.val : ℕ) : ℝ) : EReal)
  inside : s0 + 512 ≤ 2048
  behind : (atEnd v34 v36 = 1#1 ∧ s0 + 512 = 2048) ∨
    (atEnd v34 v36 = 0#1 ∧ s0 + 528 ≤ 2048 ∧ ∀ q : Fin 16, v64 (ix2 q l) = (δ (s0 + 512 + q.val) : EReal))

variable {v28 v32 v34 v36 v64}

/-- The shares of the 528 rows. -/
theorem shares_at {δ : ℕ → ℝ} {s0 : ℕ} {l : Fin 1024} (h : Blocks v28 v32 v34 v36 v64 δ s0 l) (w : ℕ) (hw : 0 < w) (hw16 : w ≤ 16) (bits ibits : BitVec 32)
    (hb : Ideal.ofBits .f32 bits = ((w : ℝ) : EReal)) (hi : Ideal.ofBits .f32 ibits = ((1 / (w : ℝ) : ℝ) : EReal)) (p : Fin 528) :
    shares bits ibits v28 v32 v34 v36 v64 (ix2 p l) = ((share 2048 w δ (s0 + p.val) : ℝ) : EReal) := by
  have h0 := h.inside
  unfold shares
  pointwise
  by_cases hp : p.val < 512
  · rw [dif_pos hp, h.rows ⟨p.val, hp⟩, h.pos ⟨p.val, hp⟩, add_comm _ (1 : EReal), div_count _ _ w hw _ hb, share, if_pos (by omega)]
  · rw [dif_neg hp]
    rcases h.behind with ⟨he, hs⟩ | ⟨he, hs, hv⟩
    · rw [he, share_of_le _ _ _ _ (by omega)]
      rfl
    · have hm : min (((s0 + p.val : ℕ) : ℝ) + 1) (w : ℝ) = w := min_eq_right (by
        have h1 : w ≤ s0 + p.val + 1 := by omega
        exact_mod_cast h1)
      have hv' := hv ⟨p.val - 512, by omega⟩
      rw [show s0 + 512 + (p.val - 512) = s0 + p.val by omega] at hv'
      rw [he]
      refine (congrArg₂ (· * ·) hv' hi).trans ?_
      rw [share, if_pos (by omega), hm, EReal.coe_mul]

/-- One doubling of the window. -/
theorem rollAdd_at (x : FVec Ideal S528x1024 .f32) (l : Fin 1024) (ρ : ℕ → ℝ) (n : ℕ) (hn : n ≤ 8) (hn0 : 0 < n)
    (hx : ∀ p : Fin 528, p.val + n ≤ 528 → x (ix2 p l) = ((∑ u ∈ Finset.range n, ρ (p.val + u) : ℝ) : EReal)) (w : BitVec 32) (hw : w.toNat = 528 - n)
    (p : Fin 528) (hp : p.val + (n + n) ≤ 528) : rollAdd w x (ix2 p l) = ((∑ u ∈ Finset.range (n + n), ρ (p.val + u) : ℝ) : EReal) := by
  unfold rollAdd
  pointwise
  have hr : (⟨(p.val + 528 - w.toNat % 528) % 528, Nat.mod_lt _ (by omega)⟩ : Fin 528) = ⟨p.val + n, by omega⟩ := Fin.ext (by
    show (p.val + 528 - w.toNat % 528) % 528 = p.val + n
    rw [hw]; omega)
  rw [hx p (by omega)]
  refine (congrArg (fun r => ((∑ u ∈ Finset.range n, ρ (p.val + u) : ℝ) : EReal) + x (ix2 r l)) hr).trans ?_
  rw [hx ⟨p.val + n, by omega⟩ (by show p.val + n + n ≤ 528; omega), window_double, EReal.coe_add]

/-- A window of length one is the row itself. -/
theorem window_one (x : FVec Ideal S528x1024 .f32) (l : Fin 1024) (ρ : ℕ → ℝ) (hx : ∀ p : Fin 528, x (ix2 p l) = ((ρ p.val : ℝ) : EReal)) (p : Fin 528) (_ : p.val + 1 ≤ 528) :
    x (ix2 p l) = ((∑ u ∈ Finset.range 1, ρ (p.val + u) : ℝ) : EReal) := by
  rw [hx, Finset.sum_range_one, Nat.add_zero]

/-- The windows less the gradient are the gradient of the pooled channel. -/
theorem stored_at {δ : ℕ → ℝ} {s0 : ℕ} {l : Fin 1024} (h : Blocks v28 v32 v34 v36 v64 δ s0 l) (w : ℕ) (hw16 : w ≤ 16) (x : FVec Ideal S528x1024 .f32)
    (hx : ∀ p : Fin 528, p.val + w ≤ 528 → x (ix2 p l) = ((∑ u ∈ Finset.range w, share 2048 w δ (s0 + (p.val + u)) : ℝ) : EReal)) (r : Fin 512) :
    stored x v28 (ix2 r l) = ((poolGrad 2048 w δ (s0 + r.val) : ℝ) : EReal) := by
  unfold stored
  pointwise
  rw [h.rows r, poolGrad, EReal.coe_sub, hx ⟨r.val, by omega⟩ (by show r.val + w ≤ 528; omega)]
  simp only [add_assoc]

/-- What the body stores in group 0: the gradient through windows of 2. -/
theorem pay1_at {δ : ℕ → ℝ} {s0 : ℕ} {l : Fin 1024} (h : Blocks v28 v32 v34 v36 v64 δ s0 l) (r : Fin 512) :
    k0_pay1 v28 v32 v34 v36 v64 (ix2 r l) = ((poolGrad 2048 2 δ (s0 + r.val) : ℝ) : EReal) := by
  have h0 := window_one _ l (fun p => share 2048 2 δ (s0 + p)) (shares_at h 2 (by omega) (by omega) _ _ bits_two bits_half)
  have h1 := rollAdd_at _ l (fun p => share 2048 2 δ (s0 + p)) 1 (by omega) (by omega) h0 527#32 (by decide)
  rw [pay1_eq]
  exact stored_at h 2 (by omega) _ h1 r

/-- What the body stores in group 1: the gradient through windows of 4. -/
theorem pay2_at {δ : ℕ → ℝ} {s0 : ℕ} {l : Fin 1024} (h : Blocks v28 v32 v34 v36 v64 δ s0 l) (r : Fin 512) :
    k0_pay2 v28 v32 v34 v36 v64 (ix2 r l) = ((poolGrad 2048 4 δ (s0 + r.val) : ℝ) : EReal) := by
  have h0 := window_one _ l (fun p => share 2048 4 δ (s0 + p)) (shares_at h 4 (by omega) (by omega) _ _ bits_four bits_quarter)
  have h1 := rollAdd_at _ l (fun p => share 2048 4 δ (s0 + p)) 1 (by omega) (by omega) h0 527#32 (by decide)
  have h2 := rollAdd_at _ l (fun p => share 2048 4 δ (s0 + p)) 2 (by omega) (by omega) h1 526#32 (by decide)
  rw [pay2_eq]
  exact stored_at h 4 (by omega) _ h2 r

/-- What the body stores in group 2: the gradient through windows of 8. -/
theorem pay3_at {δ : ℕ → ℝ} {s0 : ℕ} {l : Fin 1024} (h : Blocks v28 v32 v34 v36 v64 δ s0 l) (r : Fin 512) :
    k0_pay3 v28 v32 v34 v36 v64 (ix2 r l) = ((poolGrad 2048 8 δ (s0 + r.val) : ℝ) : EReal) := by
  have h0 := window_one _ l (fun p => share 2048 8 δ (s0 + p)) (shares_at h 8 (by omega) (by omega) _ _ bits_eight bits_eighth)
  have h1 := rollAdd_at _ l (fun p => share 2048 8 δ (s0 + p)) 1 (by omega) (by omega) h0 527#32 (by decide)
  have h2 := rollAdd_at _ l (fun p => share 2048 8 δ (s0 + p)) 2 (by omega) (by omega) h1 526#32 (by decide)
  have h3 := rollAdd_at _ l (fun p => share 2048 8 δ (s0 + p)) 4 (by omega) (by omega) h2 524#32 (by decide)
  rw [pay3_eq]
  exact stored_at h 8 (by omega) _ h3 r

/-- What the body stores in group 3: the gradient through windows of 16. -/
theorem pay4_at {δ : ℕ → ℝ} {s0 : ℕ} {l : Fin 1024} (h : Blocks v28 v32 v34 v36 v64 δ s0 l) (r : Fin 512) :
    k0_pay4 v28 v32 v34 v36 v64 (ix2 r l) = ((poolGrad 2048 16 δ (s0 + r.val) : ℝ) : EReal) := by
  have h0 := window_one _ l (fun p => share 2048 16 δ (s0 + p)) (shares_at h 16 (by omega) (by omega) _ _ bits_sixteen bits_sixteenth)
  have h1 := rollAdd_at _ l (fun p => share 2048 16 δ (s0 + p)) 1 (by omega) (by omega) h0 527#32 (by decide)
  have h2 := rollAdd_at _ l (fun p => share 2048 16 δ (s0 + p)) 2 (by omega) (by omega) h1 526#32 (by decide)
  have h3 := rollAdd_at _ l (fun p => share 2048 16 δ (s0 + p)) 4 (by omega) (by omega) h2 524#32 (by decide)
  have h4 := rollAdd_at _ l (fun p => share 2048 16 δ (s0 + p)) 8 (by omega) (by omega) h3 520#32 (by decide)
  rw [pay4_eq]
  exact stored_at h 16 (by omega) _ h4 r

end
end Cert.Pool
-- ==== Proof.PoolKernel.lean ====
/- The pooling gradient's result array after the run: the pooled gradient in the columns of `p`, the columns of `z` as they came in. -/
module

public import proofs.«01_k».proof.Proof.Gen.KernelIdeal.Value
public import proofs.«01_k».proof.Proof.PoolBody
public import Idealize.ShloMosaic.Lib.Pipeline.ValueKit
public import Idealize.ShloMosaic.Lib.Claim

@[expose] public section

set_option maxRecDepth 16384

noncomputable section

namespace Cert.Pool

open Cert.KernelIdeal Cert.KernelIdeal.Gen Idealize.ShloMosaic Idealize.ShloMosaic.TcCoe Idealize.ShloMosaic.Pointwise Cert.KernelIdeal.Facts

variable (m : (ℓ : Loc nD τ sig) → Buf (Elt Ideal) ℓ)

/-- The blocks' indices at a grid point. -/
theorem idx : ∀ t : Fin cfg0.N, win0_0.index t = ![t.val / 8, t.val % 8] ∧ win0_1.index t = ![min ((t.val / 8 + 1) * 32) 255, t.val % 8] ∧ win0_2.index t = ![t.val / 8, t.val % 8] :=
  (by decide +kernel : ∀ t : Fin grid0.N, win0_0.index t = ![t.val / 8, t.val % 8] ∧ win0_1.index t = ![min ((t.val / 8 + 1) * 32) 255, t.val % 8] ∧ win0_2.index t = ![t.val / 8, t.val % 8])

/-- Entry `(R, C)` of the incoming gradient, as a real number. -/
def entry (x : FVec Ideal ⟨2, ![4096, 8192]⟩ .f32) (R C : ℕ) : ℝ := if h : R < 4096 ∧ C < 8192 then (x (ix2 ⟨R, h.1⟩ ⟨C, h.2⟩) : EReal).toReal else 0

/-- The gradient of the pooled channels at `(R, C)`: the channel's sequence is the 2048 rows around `R`, its window `2 ^ (C / 2048 + 1)`. -/
def pooled (x : FVec Ideal ⟨2, ![4096, 8192]⟩ .f32) (R C : ℕ) : EReal :=
  ((poolGrad 2048 (2 ^ (C / 2048 + 1)) (fun s => entry x (R / 2048 * 2048 + s) C) (R % 2048) : ℝ) : EReal)

/-- An array of real numbers is its entries. -/
theorem eq_entry (x : FVec Ideal ⟨2, ![4096, 8192]⟩ .f32) (hx : ∀ i, x i ≠ ⊤ ∧ x i ≠ ⊥) (r : Fin 4096) (l : Fin 8192) : x (ix2 r l) = (entry x r.val l.val : EReal) := by
  rw [entry, dif_pos ⟨r.isLt, l.isLt⟩]
  exact (EReal.coe_toReal (hx _).1 (hx _).2).symm

/-- The grid's coordinates. -/
theorem coords : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- The first row's number in its sequence, as the body computes it. -/
def firstRow (a : BitVec 32) : BitVec 32 :=
  let q := Scalar.muli a 512#32
  let n := Scalar.select (Scalar.cmpi .eq 2048#32 0#32) 1#32 2048#32
  let r := Scalar.remsi q n
  Scalar.select (Scalar.andi (Scalar.xori (Scalar.cmpi .slt r 0#32) (Scalar.cmpi .slt n 0#32)) (Scalar.cmpi .ne r 0#32)) (Scalar.addi r n) r

theorem firstRow_eq : ∀ i : Fin 8, firstRow (BitVec.ofNat 32 i.val) = BitVec.ofNat 32 (i.val % 4 * 512) := by decide +kernel

theorem atEnd_eq : ∀ i : Fin 8, atEnd (Scalar.muli (Scalar.addi (BitVec.ofNat 32 i.val) 1#32) 512#32) 2048#32 = if i.val % 4 = 3 then 1#1 else 0#1 := by decide +kernel

/-- The rows' numbers. -/
theorem pos_at (i : grid0.Coords) (p : Fin 512) : (k0_pay5 i : FVec Ideal S512x1 .f32) (ix2 p 0) = (((((i 0).val % 4 * 512 + p.val : ℕ)) : ℝ) : EReal) := by
  have e : (k0_pay5 i : FVec Ideal S512x1 .f32) = sitofp .f32 (addi (broadcast S512x1 (firstRow (BitVec.ofNat 32 (i 0).val))) (iota .tc S512x1 32 [0] iota_S512x1_d0_w32)) := rfl
  have hi : (i 0).val < 8 := (i 0).isLt
  rw [e, firstRow_eq ⟨(i 0).val, hi⟩]
  pointwise
  refine Eq.trans ?_ (toInt_row ((i 0).val % 4 * 512 + p.val) (by omega))
  rw [BitVec.ofNat_add]
  rfl

/-- Column `l` of the blocks at a grid point. -/
theorem blocks (c : Dev nD) (hx : ∀ i, m ((c.tc : Thread nD τ).loc main_arg0) i ≠ (⊤ : EReal) ∧ m ((c.tc : Thread nD τ).loc main_arg0) i ≠ (⊥ : EReal)) (t : Fin cfg0.N) (l : Fin 1024) :
    Blocks (iblk m c 0 t) (k0_pay5 (grid0.coords t)) (Scalar.muli (Scalar.addi (BitVec.ofNat 32 (grid0.coords t 0).val) 1#32) 512#32) 2048#32 (iblk m c 1 t)
      (fun s => entry (m ((c.tc : Thread nD τ).loc main_arg0)) (t.val / 32 * 2048 + s) (t.val % 8 * 1024 + l.val)) (t.val / 8 % 4 * 512) l := by
  have ht : t.val < 64 := t.isLt
  have hc := (coords t).1
  refine ⟨fun p => ?_, fun p => ?_, by omega, ?_⟩
  · rw [show t.val / 32 * 2048 + (t.val / 8 % 4 * 512 + p.val) = t.val / 8 * 512 + p.val by omega]
    refine Eq.trans ?_ (eq_entry _ hx ⟨t.val / 8 * 512 + p.val, by omega⟩ ⟨t.val % 8 * 1024 + l.val, by omega⟩)
    blk_ext [iblk, V, idx t]
  · rw [pos_at, hc]
  · rw [hc, atEnd_eq ⟨t.val / 8, by omega⟩]
    by_cases h : t.val / 8 % 4 = 3
    · exact .inl ⟨if_pos h, by omega⟩
    · refine .inr ⟨if_neg h, by omega, fun q => ?_⟩
      rw [show t.val / 32 * 2048 + (t.val / 8 % 4 * 512 + 512 + q.val) = (t.val / 8 + 1) * 512 + q.val by omega]
      refine Eq.trans ?_ (eq_entry _ hx ⟨(t.val / 8 + 1) * 512 + q.val, by omega⟩ ⟨t.val % 8 * 1024 + l.val, by omega⟩)
      have hm : min ((t.val / 8 + 1) * 32) 255 = (t.val / 8 + 1) * 32 := min_eq_left (by omega)
      blk_ext [iblk, V, idx t, hm]

/-- The gradient at a row of a grid point's block. -/
theorem pooled_block (x : FVec Ideal ⟨2, ![4096, 8192]⟩ .f32) (t r l : ℕ) (hr : r < 512) (hl : l < 1024) (w : ℕ) (hw : 2 ^ (t % 8 / 2 + 1) = w) :
    ((poolGrad 2048 w (fun s => entry x (t / 32 * 2048 + s) (t % 8 * 1024 + l)) (t / 8 % 4 * 512 + r) : ℝ) : EReal) = pooled x (t / 8 * 512 + r) (t % 8 * 1024 + l) := by
  unfold pooled
  rw [show (t / 8 * 512 + r) / 2048 = t / 32 by omega, show (t / 8 * 512 + r) % 2048 = t / 8 % 4 * 512 + r by omega, show (t % 8 * 1024 + l) / 2048 = t % 8 / 2 by omega, hw]

/-- What the run leaves in the result: the pooled channels' gradient, and beyond them what was there. -/
theorem final (c : Dev nD) (hx : ∀ i, m ((c.tc : Thread nD τ).loc main_arg0) i ≠ (⊤ : EReal) ∧ m ((c.tc : Thread nD τ).loc main_arg0) i ≠ (⊥ : EReal)) :
    (dats m 0 c).arrAt 2 cfg0.N = fun j => if (j 1).val < 8192 then pooled (m ((c.tc : Thread nD τ).loc main_arg0)) (j 0).val (j 1).val else V m c main_v0 j := by
  refine (dats m 0 c).arrAt_eq_of_coversWhere 2 _ (fun β => β 1 < 8) (by decide +kernel) (fun t hf y => ?_) (fun j => by blk_simp [Pipeline.Window.cell_apply]; omega)
  have ht : t.val < 64 := t.isLt
  obtain ⟨r, l, rfl⟩ : ∃ (r : Fin 512) (l : Fin 1024), y = ix2 r l := ⟨y 0, y 1, by funext a; fin_cases a <;> rfl⟩
  have hb := blocks m c hx t l
  have hp := pooled_block (m ((c.tc : Thread nD τ).loc main_arg0)) t.val r.val l.val r.isLt l.isLt
  blk_simp [idx t]; rw [after0_2]
  by_cases h0 : t.val % 8 ≤ 1
  · rw [outsAt0_A m c t (by omega) (by omega) (by omega) (by omega)]; frame_out
    exact (pay1_at hb r).trans (hp 2 (by rw [show t.val % 8 / 2 = 0 by omega]; norm_num))
  by_cases h1 : t.val % 8 ≤ 3
  · rw [outsAt0_B m c t (by omega) (by omega) (by omega) (by omega)]; frame_out
    exact (pay2_at hb r).trans (hp 4 (by rw [show t.val % 8 / 2 = 1 by omega]; norm_num))
  by_cases h2 : t.val % 8 ≤ 5
  · rw [outsAt0_C m c t (by omega) (by omega) (by omega) (by omega)]; frame_out
    exact (pay3_at hb r).trans (hp 8 (by rw [show t.val % 8 / 2 = 2 by omega]; norm_num))
  · rw [outsAt0_D m c t (by omega) (by omega) (by omega) (by omega)]; frame_out
    exact (pay4_at hb r).trans (hp 16 (by rw [show t.val % 8 / 2 = 3 by omega]; norm_num))

/-- What was there when the call began is its second argument. -/
theorem V_main_v0 (c : Dev nD) : V m c main_v0 = m ((c.tc : Thread nD τ).loc main_arg1) := by
  unfold V; after_results; try rfl

end Cert.Pool
-- ==== Proof.PoolRef.lean ====
/- The reference's gradient of the pooling mixer, read at a row and a channel. -/
module
public import proofs.«01_k».proof.Proof.Gen.ReferenceIdeal.Run
public import proofs.«01_k».proof.Proof.PoolShare
public import Idealize.ShloMosaic.Lib.Pipeline.ValueKit
public import Idealize.ShloMosaic.Lib.Pointwise
public import Idealize.ShloMosaic.Lib.Claim
@[expose] public section
set_option maxRecDepth 16384
noncomputable section
namespace Cert.Pool
open Cert.ReferenceIdeal Cert.ReferenceIdeal.Gen Idealize.ShloMosaic Idealize.ShloMosaic.Pointwise Cert.ReferenceIdeal.Facts

/-- One group's gradient before the running sums are undone: row `s` gets its own share, row `s` less `w` the share's negative. -/
def laggedGrad (g n w : ℕ) (bits : BitVec 32) (hsl : S2x2048x4x2048.Slices ![0, 0, g, 0] S2x2048x1x2048)
    (hs : S2x2048x2048.Slices ![0, w, 0] ⟨3, ![2, n, 2048]⟩)
    (hp : Shape.Pads ⟨3, ![2, n, 2048]⟩ ![0, 0, 0] ![0, w, 0] ![0, 0, 0] S2x2048x2048)
    (d : FVec Ideal S2x2048x4x2048 .f32) : FVec Ideal S2x2048x2048 .f32 :=
  let q : FVec Ideal S2x2048x2048 .f32 := Host.divf (shapeCast S2x2048x2048 (extractStridedSlice S2x2048x1x2048 ![0, 0, g, 0] d hsl) shapeCasts_S2x2048x1x2048_S2x2048x2048)
    (broadcastInDim S2x2048x2048 ![0, 1, 2] bcast_S1x2048x1_S2x2048x2048_0_1_2 (broadcastInDim S1x2048x1 ![1, 2] bcast_S2048x1_S1x2048x1_1_2
      (broadcastInDim S2048x1 ![0] bcast_S2048_S2048x1_0 (minimumf (addf (broadcastInDim S2048 ![] bcast_S_S2048 (constant S_ .f32 0x3F800000#32)) (sitofp .f32 (iotaInDim S2048 32 0)))
        (broadcastInDim S2048 ![] bcast_S_S2048 (constant S_ .f32 bits))))))
  addf q (pad S2x2048x2048 ![0, 0, 0] ![0, w, 0] ![0, 0, 0] (extractStridedSlice ⟨3, ![2, n, 2048]⟩ ![0, w, 0] (Host.negf q) hs) (constant S_ .f32 0x00000000#32) hp h_S_)

/-- The four groups side by side. -/
def allLagged (d : FVec Ideal S2x2048x4x2048 .f32) : FVec Ideal S2x2048x4x2048 .f32 :=
  addf (addf (addf
    (pad S2x2048x4x2048 ![0, 0, 3, 0] ![0, 0, 0, 0] ![0, 0, 0, 0] (broadcastInDim S2x2048x1x2048 ![0, 1, 3] bcast_S2x2048x2048_S2x2048x1x2048_0_1_3
      (laggedGrad 3 2032 16 0x41800000#32 slices_S2x2048x4x2048_S2x2048x1x2048_0_0_3_0 slices_S2x2048x2048_S2x2032x2048_0_16_0 pads_S2x2032x2048_S2x2048x2048_000_0160_000 d))
      (constant S_ .f32 0x00000000#32) pads_S2x2048x1x2048_S2x2048x4x2048_000_000_300_000 h_S_)
    (pad S2x2048x4x2048 ![0, 0, 2, 0] ![0, 0, 1, 0] ![0, 0, 0, 0] (broadcastInDim S2x2048x1x2048 ![0, 1, 3] bcast_S2x2048x2048_S2x2048x1x2048_0_1_3
      (laggedGrad 2 2040 8 0x41000000#32 slices_S2x2048x4x2048_S2x2048x1x2048_0_0_2_0 slices_S2x2048x2048_S2x2040x2048_0_8_0 pads_S2x2040x2048_S2x2048x2048_000_080_000 d))
      (constant S_ .f32 0x00000000#32) pads_S2x2048x1x2048_S2x2048x4x2048_000_000_210_000 h_S_))
    (pad S2x2048x4x2048 ![0, 0, 1, 0] ![0, 0, 2, 0] ![0, 0, 0, 0] (broadcastInDim S2x2048x1x2048 ![0, 1, 3] bcast_S2x2048x2048_S2x2048x1x2048_0_1_3
      (laggedGrad 1 2044 4 0x40800000#32 slices_S2x2048x4x2048_S2x2048x1x2048_0_0_1_0 slices_S2x2048x2048_S2x2044x2048_0_4_0 pads_S2x2044x2048_S2x2048x2048_000_040_000 d))
      (constant S_ .f32 0x00000000#32) pads_S2x2048x1x2048_S2x2048x4x2048_000_000_120_000 h_S_))
    (pad S2x2048x4x2048 ![0, 0, 0, 0] ![0, 0, 3, 0] ![0, 0, 0, 0] (broadcastInDim S2x2048x1x2048 ![0, 1, 3] bcast_S2x2048x2048_S2x2048x1x2048_0_1_3
      (laggedGrad 0 2046 2 0x40000000#32 slices_S2x2048x4x2048_S2x2048x1x2048_0_0_0_0 slices_S2x2048x2048_S2x2046x2048_0_2_0 pads_S2x2046x2048_S2x2048x2048_000_020_000 d))
      (constant S_ .f32 0x00000000#32) pads_S2x2048x1x2048_S2x2048x4x2048_000_000_030_000 h_S_)

/-- The reverse running sum of the reference. -/
def reverseSum (y : FVec Ideal S2x2048x4x2048 .f32) : FVec Ideal S2x2048x4x2048 .f32 :=
  Host.reduceWindowAdd ![1, 2048, 1, 1] ![1, 1, 1, 1] ![0, 0, 0, 0] ![0, 2047, 0, 0] y (broadcastInDim S_ ![] bcast_S_S_ (constant S_ .f32 0x00000000#32))
    reduceWindows_S2x2048x4x2048_S2x2048x4x2048_w1s1p0_0_w2048s1p0_2047_w1s1p0_0_w1s1p0_0 h_S_

/-- The gradient of `p`, of the four groups. -/
def gradP (x : FVec Ideal S4096x8192 .f32) : FVec Ideal S4096x8192 .bf16 :=
  let d : FVec Ideal S2x2048x4x2048 .f32 := extf .f32 (shapeCast S2x2048x4x2048 (shapeCast S2x2048x8192 (truncf .bf16 x bitsLt_bf16_f32) shapeCasts_S4096x8192_S2x2048x8192) shapeCasts_S2x2048x8192_S2x2048x4x2048) bitsLt_bf16_f32
  shapeCast S4096x8192 (shapeCast S2x2048x8192 (truncf .bf16 (addf (Host.negf d) (reverseSum (allLagged d))) bitsLt_bf16_f32) shapeCasts_S2x2048x4x2048_S2x2048x8192) shapeCasts_S2x2048x8192_S4096x8192

variable (m : (ℓ : Loc nD τ sig) → Buf (Elt Ideal) ℓ)
set_option maxHeartbeats 1600000 in
/-- The reference's result, named in parts. -/
theorem res_eq (c : Dev nD) : Cert.ReferenceIdeal.Value.res_out0 m c = concatenate S4096x16384 1 [⟨S4096x8192, gradP (m ((c.tc : Thread nD τ).loc main_arg0))⟩,
    ⟨S4096x8192, extractStridedSlice S4096x8192 ![0, 8192] (m ((c.tc : Thread nD τ).loc main_arg1)) slices_S4096x16384_S4096x8192_0_8192⟩] concatenates_S4096x8192_S4096x8192_S4096x16384_d1 := by
  rfl

/-- A left fold of additions is the sum. -/
theorem foldl_add_eq {ι : Type} (f : ι → EReal) (l : List ι) (a : EReal) : l.foldl (fun r n => r + f n) a = a + (l.map f).sum := by
  induction l generalizing a with
  | nil => simp
  | cons x l ih => rw [List.foldl_cons, ih, List.map_cons, List.sum_cons, add_assoc]

/-- The positions of a window that is long on the second axis alone are the numbers below its length. -/
theorem windowPos_bijective : Function.Bijective (fun k : Fin 2048 => (ix4 0 k 0 0 : (⟨4, ![1, 2048, 1, 1]⟩ : Shape).Idx)) := by
  constructor
  · intro a b h
    exact congrFun h 1
  · intro j
    refine ⟨j 1, funext fun a => ?_⟩
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The reverse running sum at row `s`: the entries of the rows from `s` on. -/
theorem reverseSum_at (y : FVec Ideal S2x2048x4x2048 .f32) (b : Fin 2) (s : Fin 2048) (g : Fin 4) (e : Fin 2048) :
    reverseSum y (ix4 b s g e) = ∑ k : Fin 2048, if h : s.val + k.val < 2048 then y (ix4 b ⟨s.val + k.val, h⟩ g e) else 0 := by
  unfold reverseSum Host.reduceWindowAdd
  rw [Ideal.hostReduceWindowAdd_def]
  unfold Ideal.hostReduceWindowAdd Host.reduceWindow
  have hz : broadcastInDim S_ ![] bcast_S_S_ (constant (F := Ideal) S_ FTy.f32 0#32) (Shape.Idx.first h_S_) = (0 : EReal) := by pointwise
  refine (foldl_add_eq _ _ _).trans ?_
  rw [← Fin.sum_univ_def, ← Equiv.sum_comp (Shape.rowMajor ⟨4, ![1, 2048, 1, 1]⟩), ← windowPos_bijective.sum_comp]
  refine (congrArg (· + _) hz).trans ((zero_add _).trans (Finset.sum_congr rfl fun k _ => ?_))
  simp only [Equiv.symm_apply_apply]
  by_cases h : s.val + k.val < 2048
  · rw [dif_pos h, dif_pos (fun a => by
      match a with
      | ⟨0, _⟩ => exact ⟨Nat.zero_le _, by show b.val * 1 + 0 - 0 < 2; omega⟩
      | ⟨1, _⟩ => exact ⟨Nat.zero_le _, by show s.val * 1 + k.val - 0 < 2048; omega⟩
      | ⟨2, _⟩ => exact ⟨Nat.zero_le _, by show g.val * 1 + 0 - 0 < 4; omega⟩
      | ⟨3, _⟩ => exact ⟨Nat.zero_le _, by show e.val * 1 + 0 - 0 < 2048; omega⟩)]
    refine congrArg y (funext fun a => Fin.ext ?_)
    match a with
    | ⟨0, _⟩ => show b.val * 1 + 0 - 0 = b.val; omega
    | ⟨1, _⟩ => show s.val * 1 + k.val - 0 = s.val + k.val; omega
    | ⟨2, _⟩ => show g.val * 1 + 0 - 0 = g.val; omega
    | ⟨3, _⟩ => show e.val * 1 + 0 - 0 = e.val; omega
  · rw [dif_neg h, dif_neg (fun hin => h (by
      have h1 := (hin 1).2
      change s.val * 1 + k.val - 0 < 2048 at h1
      omega))]
    exact hz

/-- Rows moved up by `w`, zeros behind them. -/
theorem lag_at (n w : ℕ) (q : FVec Ideal S2x2048x2048 .f32) (hnw : n + w = 2048)
    (hs : S2x2048x2048.Slices ![0, w, 0] ⟨3, ![2, n, 2048]⟩)
    (hp : Shape.Pads ⟨3, ![2, n, 2048]⟩ ![0, 0, 0] ![0, w, 0] ![0, 0, 0] S2x2048x2048) (z : FVec Ideal S_ .f32) (b : Fin 2) (s : Fin 2048) (e : Fin 2048) :
    pad S2x2048x2048 ![0, 0, 0] ![0, w, 0] ![0, 0, 0] (extractStridedSlice ⟨3, ![2, n, 2048]⟩ ![0, w, 0] q hs) z hp h_S_ (ix3 b s e) =
      if h : s.val + w < 2048 then q (ix3 b ⟨s.val + w, h⟩ e) else z (Shape.Idx.first h_S_) := by
  pointwise
  by_cases h : s.val + w < 2048
  · rw [dif_pos h, dif_pos (show s.val < n by omega)]
    refine congrArg q (funext fun a => Fin.ext ?_)
    match a with
    | ⟨0, _⟩ => show (b.val - 0) / 1 = b.val; omega
    | ⟨1, _⟩ => show w + (s.val - 0) / 1 = s.val + w; omega
    | ⟨2, _⟩ => show (e.val - 0) / 1 = e.val; omega
  · rw [dif_neg h, dif_neg (show ¬s.val < n by omega)]

/-- One group's gradient at an index, of real numbers `δ`. -/
theorem laggedGrad_at (g n w : ℕ) (hg : g < 4) (hnw : n + w = 2048) (hw : 0 < w) (bits : BitVec 32) (hbits : Ideal.ofBits .f32 bits = ((w : ℝ) : EReal))
    (hsl : S2x2048x4x2048.Slices ![0, 0, g, 0] S2x2048x1x2048)
    (hs : S2x2048x2048.Slices ![0, w, 0] ⟨3, ![2, n, 2048]⟩)
    (hp : Shape.Pads ⟨3, ![2, n, 2048]⟩ ![0, 0, 0] ![0, w, 0] ![0, 0, 0] S2x2048x2048)
    (d : FVec Ideal S2x2048x4x2048 .f32) (b : Fin 2) (e : Fin 2048) (δ : ℕ → ℝ) (hd : ∀ s : Fin 2048, d (ix4 b s ⟨g, hg⟩ e) = (δ s.val : EReal)) (s : Fin 2048) :
    laggedGrad g n w bits hsl hs hp d (ix3 b s e) = ((share 2048 w δ s.val - share 2048 w δ (s.val + w) : ℝ) : EReal) := by
  have hs' := s.isLt
  unfold laggedGrad
  dsimp only
  rw [addf_apply, lag_at n w _ hnw]
  pointwise
  have hq : ∀ r : Fin 2048, Ideal.div (d (ix4 b r ⟨g, hg⟩ e)) (min (1 + FloatOps.sitofp (F := Ideal) FTy.f32 (BitVec.ofNat 32 r.val)) (Ideal.ofBits FTy.f32 bits))
      = ((share 2048 w δ r.val : ℝ) : EReal) := fun r => by
    have hr : FloatOps.sitofp (F := Ideal) FTy.f32 (BitVec.ofNat 32 r.val) = ((r.val : ℝ) : EReal) := toInt_row r.val (by omega)
    rw [hd, hr, div_count _ _ w hw _ hbits, share, if_pos r.isLt]
  rw [hq s]
  by_cases h : s.val + w < 2048
  · rw [dif_pos h, hq ⟨s.val + w, h⟩, ← EReal.coe_neg, ← EReal.coe_add, sub_eq_add_neg]
  · rw [dif_neg h, share_of_le 2048 w δ (s.val + w) (by omega), sub_zero, add_zero]

/-- All groups at an index. -/
theorem allLagged_at (d : FVec Ideal S2x2048x4x2048 .f32) (b : Fin 2) (g : Fin 4) (e : Fin 2048) (δ : ℕ → ℝ) (hd : ∀ s : Fin 2048, d (ix4 b s g e) = (δ s.val : EReal)) (s : Fin 2048) :
    allLagged d (ix4 b s g e) = ((share 2048 (2 ^ (g.val + 1)) δ s.val - share 2048 (2 ^ (g.val + 1)) δ (s.val + 2 ^ (g.val + 1)) : ℝ) : EReal) := by
  unfold allLagged
  pointwise
  fin_cases g
  all_goals simp
  all_goals rw [← EReal.coe_sub]
  · exact laggedGrad_at 0 2046 2 (by omega) (by omega) (by omega) _ bits_two _ _ _ d b e δ hd s
  · exact laggedGrad_at 1 2044 4 (by omega) (by omega) (by omega) _ bits_four _ _ _ d b e δ hd s
  · exact laggedGrad_at 2 2040 8 (by omega) (by omega) (by omega) _ bits_eight _ _ _ d b e δ hd s
  · exact laggedGrad_at 3 2032 16 (by omega) (by omega) (by omega) _ bits_sixteen _ _ _ d b e δ hd s

/-- The gradient of `p` at row `s` of sequence `b`, channel `e` of group `g`. -/
theorem gradP_at (x : FVec Ideal S4096x8192 .f32) (b : Fin 2) (s : Fin 2048) (g : Fin 4) (e : Fin 2048) (δ : ℕ → ℝ)
    (hx : ∀ s : Fin 2048, x (ix2 ⟨b.val * 2048 + s.val, by omega⟩ ⟨g.val * 2048 + e.val, by omega⟩) = (δ s.val : EReal)) :
    gradP x (ix2 ⟨b.val * 2048 + s.val, by omega⟩ ⟨g.val * 2048 + e.val, by omega⟩) = ((poolGrad 2048 (2 ^ (g.val + 1)) δ s.val : ℝ) : EReal) := by
  unfold gradP
  pointwise
  rw [reverseSum_at, hx]
  have hd : ∀ s : Fin 2048, (extf (F := Ideal) .f32 (shapeCast S2x2048x4x2048 (truncf .bf16 x bitsLt_bf16_f32) (by decide)) bitsLt_bf16_f32 : FVec Ideal S2x2048x4x2048 .f32) (ix4 b s g e) = (δ s.val : EReal) := fun s => by
    rw [← hx s]; pointwise
  have hk : ∀ k : Fin 2048, (if h : s.val + k.val < 2048 then allLagged (extf FTy.f32 (shapeCast S2x2048x4x2048 (truncf FTy.bf16 x bitsLt_bf16_f32) (by decide)) bitsLt_bf16_f32) (ix4 b ⟨s.val + k.val, h⟩ g e) else 0)
      = ((share 2048 (2 ^ (g.val + 1)) δ (s.val + k.val) - share 2048 (2 ^ (g.val + 1)) δ (s.val + k.val + 2 ^ (g.val + 1)) : ℝ) : EReal) := fun k => by
    by_cases h : s.val + k.val < 2048
    · rw [dif_pos h, allLagged_at _ b g e δ hd]
    · rw [dif_neg h, share_of_le _ _ _ _ (by omega), share_of_le _ _ _ _ (le_trans (by omega) (Nat.le_add_right _ _)), sub_zero, EReal.coe_zero]
  rw [Finset.sum_congr rfl fun k _ => hk k, Fin.sum_univ_eq_sum_range (fun k => ((share 2048 (2 ^ (g.val + 1)) δ (s.val + k) - share 2048 (2 ^ (g.val + 1)) δ (s.val + k + 2 ^ (g.val + 1)) : ℝ) : EReal)),
    ← coe_sum_range, suffix_of_window _ 2048 (fun n hn => share_of_le _ _ _ _ hn), ← EReal.coe_neg, ← EReal.coe_add, poolGrad, sub_eq_add_neg, add_comm]

end Cert.Pool
-- ==== Proof.Finite.lean ====
/- The comparison of a magnitude with infinity, read as finiteness. -/
module

public import Idealize.ShloMosaic.Lib.Pipeline.ValueKit
public import Idealize.ShloMosaic.Lib.Pointwise

@[expose] public section

noncomputable section

namespace Cert.Finite

open Idealize.ShloMosaic Idealize.ShloMosaic.Pointwise

/-- The word of positive infinity. -/
theorem bits_top : Ideal.ofBits .f32 0x7F800000#32 = (⊤ : EReal) := by
  simp [Ideal.ofBits, Ideal.ieee]

/-- A number whose magnitude is below infinity is neither of the infinities. -/
theorem ne_of_abs_lt (x : EReal) (h : BitVec.ofBool (decide (FloatOps.absf (F := Ideal) (φ := .f32) x < Ideal.ofBits .f32 0x7F800000#32)) = 1#1) : x ≠ ⊤ ∧ x ≠ ⊥ := by
  rw [bits_top] at h
  by_cases h1 : FloatOps.absf (F := Ideal) (φ := .f32) x < (⊤ : EReal)
  · refine ⟨fun e => ?_, fun e => ?_⟩
    · subst e; exact absurd h1 (by show ¬ max (⊤ : EReal) (-⊤) < ⊤; simp)
    · subst e; exact absurd h1 (by show ¬ max (⊥ : EReal) (-⊥) < ⊤; simp)
  · simp [h1] at h

/-- Two conditions that hold together hold each. -/
theorem both : ∀ a b : BitVec 1, IntOp.andi a b = 1#1 → a = 1#1 ∧ b = 1#1 := by decide

/-- What holds at every row and column holds at every position. -/
theorem at_all {n k : ℕ} {P : (⟨2, ![n, k]⟩ : Shape).Idx → Prop} (h : ∀ (r : Fin n) (l : Fin k), P (ix2 r l)) (i : (⟨2, ![n, k]⟩ : Shape).Idx) : P i := by
  have e : i = ix2 (i 0) (i 1) := by funext a; fin_cases a <;> rfl
  rw [e]; exact h (i 0) (i 1)

end Cert.Finite
-- ==== Proof.PoolClaim.lean ====
/- The pooling gradient's run and the reference's leave the same array. -/
module

public import proofs.«01_k».proof.Defs
public import proofs.«01_k».proof.Proof.PoolKernel
public import proofs.«01_k».proof.Proof.PoolRef
public import proofs.«01_k».proof.Proof.Finite

@[expose] public section

set_option maxRecDepth 16384

noncomputable section

namespace Cert.Pool

open Idealize.ShloMosaic Idealize.ShloMosaic.Pointwise

/-- The precondition's shape facts. -/
instance preFacts : Cert.Pre_dpooled_finite.Facts where
  bcast_S_S4096x8192 := by decide

/-- Where the precondition holds, no entry of the gradient is infinite. -/
theorem ne_of_pre (x : FVec Ideal ⟨2, ![4096, 8192]⟩ .f32) (y : FVec Ideal ⟨2, ![4096, 16384]⟩ .bf16) (h : Cert.Pre_dpooled_finite.fn (F := Ideal) x y = fun _ => 1#1)
    (i : (⟨2, ![4096, 8192]⟩ : Shape).Idx) : x i ≠ (⊤ : EReal) ∧ x i ≠ (⊥ : EReal) := by
  have h1 := congrFun h i
  revert h1
  pointwise [Cert.Pre_dpooled_finite.fn]
  exact fun h1 => Cert.Finite.ne_of_abs_lt _ h1

/-- The reference's result is the pooled channels' gradient, and beyond them the second argument. -/
theorem ref_eq (m : (ℓ : Loc Cert.ReferenceIdeal.nD Cert.ReferenceIdeal.τ Cert.ReferenceIdeal.sig) → Buf (Elt Ideal) ℓ) (c : Dev Cert.ReferenceIdeal.nD)
    (x : FVec Ideal ⟨2, ![4096, 8192]⟩ .f32) (z : FVec Ideal ⟨2, ![4096, 16384]⟩ .bf16)
    (ex : m ((c.tc : Thread Cert.ReferenceIdeal.nD Cert.ReferenceIdeal.τ).loc Cert.ReferenceIdeal.main_arg0) = x)
    (ez : m ((c.tc : Thread Cert.ReferenceIdeal.nD Cert.ReferenceIdeal.τ).loc Cert.ReferenceIdeal.main_arg1) = z)
    (hx : ∀ i, x i ≠ (⊤ : EReal) ∧ x i ≠ (⊥ : EReal)) :
    (Cert.ReferenceIdeal.Value.res_out0 m c : FVec Ideal ⟨2, ![4096, 16384]⟩ .bf16) = fun j => if (j 1).val < 8192 then pooled x (j 0).val (j 1).val else z j := by
  rw [res_eq, ex, ez]
  funext j
  obtain ⟨r, k, rfl⟩ : ∃ (r : Fin 4096) (k : Fin 16384), j = ix2 r k := ⟨j 0, j 1, by funext a; fin_cases a <;> rfl⟩
  pointwise
  by_cases hk : k.val < 8192
  · rw [dif_pos hk, if_pos hk]
    have h1 := gradP_at x ⟨r.val / 2048, by omega⟩ ⟨r.val % 2048, by omega⟩ ⟨k.val / 2048, by omega⟩ ⟨k.val % 2048, by omega⟩
      (fun s => entry x (r.val / 2048 * 2048 + s) k.val) (fun s => by
        refine Eq.trans ?_ (eq_entry x hx ⟨r.val / 2048 * 2048 + s.val, by omega⟩ ⟨k.val, hk⟩)
        exact congrArg (fun q => x (ix2 _ q)) (Fin.ext (by show k.val / 2048 * 2048 + k.val % 2048 = k.val; omega)))
    refine Eq.trans (congrArg₂ (fun p q => gradP x (ix2 p q)) (Fin.ext ?_) (Fin.ext ?_)) h1
    · show r.val = r.val / 2048 * 2048 + r.val % 2048; omega
    · show k.val = k.val / 2048 * 2048 + k.val % 2048; omega
  · rw [dif_neg hk, if_neg hk]
    exact congrArg (fun q => z (ix2 r q)) (Fin.ext (by show 8192 + (k.val - 8192) = k.val; omega))

set_option maxHeartbeats 1600000 in
/-- The two programs leave the same gradient. -/
theorem algebraic : Cert.algebraic_KernelIdeal_ReferenceIdeal_pre_dpooled_finite := by
  pair_intro
  · run_from Cert.KernelIdeal.Gen.run_main m g
  · run_from Cert.ReferenceIdeal.Value.run m' g'
    have hx := ne_of_pre _ _ (hpre c)
    exact (ref_eq m' c _ _ (hagree c).1 (hagree c).2 hx).trans ((final m c hx).trans (by rw [V_main_v0]; rfl)).symm

end Cert.Pool
-- ==== Proof.OutDw.lean ====
/- The gradient of the output projection's weight: the activations against the incoming gradient, over all tokens. -/
module

public import proofs.«01_k».proof.Proof.Gen.Kernel6Ideal.Frame
public import proofs.«01_k».proof.Proof.Gen.Reference6Ideal.Run
public import Idealize.ShloMosaic.Lib.Pipeline.ValueKit
public import Idealize.ShloMosaic.Lib.Claim

@[expose] public section

set_option maxRecDepth 16384

noncomputable section

namespace Cert.OutDw

open Cert.Kernel6Ideal Cert.Kernel6Ideal.Gen Idealize.ShloMosaic Idealize.ShloMosaic.TcCoe Idealize.ShloMosaic.Pointwise Idealize.SL.Sem Cert.Kernel6Ideal.Facts

variable (m : (ℓ : Loc nD τ sig) → Buf (Elt Ideal) ℓ)

/-- The reference's gradient of the weight. -/
abbrev product (x : FVec Ideal ⟨2, ![4096, 8192]⟩ .bf16) (w : FVec Ideal ⟨2, ![4096, 4096]⟩ .bf16) : FVec Ideal ⟨2, ![8192, 4096]⟩ .bf16 :=
  truncf .bf16 (transpose Cert.Reference6Ideal.S8192x4096 [1, 0] (Host.dotGeneral Cert.Reference6Ideal.dot_S4096x4096_S4096x8192_S4096x8192_0_0_1_1_n_n none (extf .f32 w Cert.Reference6Ideal.Gen.bitsLt_bf16_f32) (extf .f32 x Cert.Reference6Ideal.Gen.bitsLt_bf16_f32)) Cert.Reference6Ideal.Gen.transposes_S4096x8192_S8192x4096_1_0) Cert.Reference6Ideal.Gen.bitsLt_bf16_f32

/-- The blocks' indices at a grid point. -/
theorem idx : ∀ t : Fin cfg0.N, win0_0.index t = ![0, t.val / 4] ∧ win0_1.index t = ![0, t.val % 4] ∧ win0_2.index t = ![t.val / 4, t.val % 4] :=
  (by decide +kernel : ∀ t : Fin grid0.N, win0_0.index t = ![0, t.val / 4] ∧ win0_1.index t = ![0, t.val % 4] ∧ win0_2.index t = ![t.val / 4, t.val % 4])

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out
  pointwise [k0_pay1, product]
  refine Fin.sum_fin_congr fun k => ?_
  rw [mul_comm]
  blk_point [iblk, V, idx t]

end Cert.OutDw

end
-- ==== Proof.GroupDw.lean ====
/- The gradient of the grouped projection's weights: per group, the pooled channels against the incoming gradient, over all tokens. -/
module

public import proofs.«01_k».proof.Proof.Gen.Kernel7Ideal.Frame
public import proofs.«01_k».proof.Proof.Gen.Reference7Ideal.Run
public import Idealize.ShloMosaic.Lib.Pipeline.ValueKit
public import Idealize.ShloMosaic.Lib.Claim

@[expose] public section

set_option maxRecDepth 16384

noncomputable section

namespace Cert.GroupDw

open Cert.Kernel7Ideal Cert.Kernel7Ideal.Gen Idealize.ShloMosaic Idealize.ShloMosaic.TcCoe Idealize.ShloMosaic.Pointwise Idealize.SL.Sem Cert.Kernel7Ideal.Facts

variable (m : (ℓ : Loc nD τ sig) → Buf (Elt Ideal) ℓ)

/-- The reference's gradient of the grouped weights. -/
abbrev product (x : FVec Ideal ⟨2, ![4096, 8192]⟩ .bf16) (w : FVec Ideal ⟨2, ![4096, 8192]⟩ .bf16) : FVec Ideal ⟨3, ![4, 2048, 2048]⟩ .bf16 :=
  truncf .bf16 (transpose Cert.Reference7Ideal.S4x2048x2048 [0, 2, 1] (Host.dotGeneral Cert.Reference7Ideal.dot_S4x2048x2x2048_S2x2048x4x2048_S4x2048x2048_23_01_1_3_0_2 none (transpose Cert.Reference7Ideal.S4x2048x2x2048 [2, 3, 0, 1] (shapeCast _ (extf .f32 w Cert.Reference7Ideal.Gen.bitsLt_bf16_f32) Cert.Reference7Ideal.Gen.shapeCasts_S4096x8192_S2x2048x4x2048) Cert.Reference7Ideal.Gen.transposes_S2x2048x4x2048_S4x2048x2x2048_2_3_0_1) (shapeCast _ (extf .f32 x Cert.Reference7Ideal.Gen.bitsLt_bf16_f32) Cert.Reference7Ideal.Gen.shapeCasts_S4096x8192_S2x2048x4x2048)) Cert.Reference7Ideal.Gen.transposes_S4x2048x2048_S4x2048x2048_0_2_1) Cert.Reference7Ideal.Gen.bitsLt_bf16_f32

/-- The blocks' indices at a grid point. -/
theorem idx : ∀ t : Fin cfg0.N, win0_0.index t = ![0, t.val / 2] ∧ win0_1.index t = ![0, t.val / 4 * 2 + t.val % 2] ∧ win0_2.index t = ![t.val / 4, t.val / 2 % 2, t.val % 2] :=
  (by decide +kernel : ∀ t : Fin grid0.N, win0_0.index t = ![0, t.val / 2] ∧ win0_1.index t = ![0, t.val / 4 * 2 + t.val % 2] ∧ win0_2.index t = ![t.val / 4, t.val / 2 % 2, t.val % 2])

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out
  pointwise [k0_pay1, product]
  symm
  refine Fin.sum_mul_add_congr fun s k hl => ?_
  rw [mul_comm]
  blk_point [iblk, V, idx t]

end Cert.GroupDw

end
-- ==== Proof.GroupProj.lean ====
/- The grouped projection: per group, the pooled channels times the group's weight. -/
module

public import proofs.«01_k».proof.Proof.Gen.Kernel9Ideal.Frame
public import proofs.«01_k».proof.Proof.Gen.Reference9Ideal.Run
public import Idealize.ShloMosaic.Lib.Pipeline.ValueKit
public import Idealize.ShloMosaic.Lib.Claim

@[expose] public section

set_option maxRecDepth 16384

noncomputable section

namespace Cert.GroupProj

open Cert.Kernel9Ideal Cert.Kernel9Ideal.Gen Idealize.ShloMosaic Idealize.ShloMosaic.TcCoe Idealize.ShloMosaic.Pointwise Idealize.SL.Sem Cert.Kernel9Ideal.Facts

variable (m : (ℓ : Loc nD τ sig) → Buf (Elt Ideal) ℓ)

/-- The reference's grouped projection. -/
abbrev product (x : FVec Ideal ⟨2, ![4096, 8192]⟩ .bf16) (w : FVec Ideal ⟨3, ![4, 2048, 2048]⟩ .bf16) : FVec Ideal ⟨2, ![4096, 8192]⟩ .bf16 :=
  truncf .bf16 (shapeCast _ (transpose Cert.Reference9Ideal.S2x2048x4x2048 [2, 3, 0, 1] (Host.dotGeneral Cert.Reference9Ideal.dot_S4x2048x2048_S2x2048x4x2048_S4x2048x2x2048_1_3_2_01_0_2 none (extf .f32 w Cert.Reference9Ideal.Gen.bitsLt_bf16_f32) (shapeCast _ (extf .f32 x Cert.Reference9Ideal.Gen.bitsLt_bf16_f32) Cert.Reference9Ideal.Gen.shapeCasts_S4096x8192_S2x2048x4x2048)) Cert.Reference9Ideal.Gen.transposes_S4x2048x2x2048_S2x2048x4x2048_2_3_0_1) Cert.Reference9Ideal.Gen.shapeCasts_S2x2048x4x2048_S4096x8192) Cert.Reference9Ideal.Gen.bitsLt_bf16_f32

/-- The blocks' indices at a grid point. -/
theorem idx : ∀ t : Fin cfg0.N, win0_0.index t = ![t.val / 2 % 4, t.val / 8] ∧ win0_1.index t = ![t.val / 8, 0, t.val % 2] ∧ win0_2.index t = ![t.val / 2 % 4, t.val / 8 * 2 + t.val % 2] :=
  (by decide +kernel : ∀ t : Fin grid0.N, win0_0.index t = ![t.val / 2 % 4, t.val / 8] ∧ win0_1.index t = ![t.val / 8, 0, t.val % 2] ∧ win0_2.index t = ![t.val / 2 % 4, t.val / 8 * 2 + t.val % 2])

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out
  pointwise [k0_pay1, product]
  refine Fin.sum_fin_congr fun k => ?_
  rw [mul_comm]
  blk_point [iblk, V, idx t]

end Cert.GroupProj

end
-- ==== Proof.Carried.lean ====
/- A sum carried from point to point in a scratch and written out at the last point of each run. -/
module

public import Mathlib.Algebra.BigOperators.Fin
public import Mathlib.Data.EReal.Basic

@[expose] public section

namespace Cert.Carried

/-- In runs of `J` points a scratch `u` takes the first point's part `p`, adds the parts of the points between, and at the last point
    the part there is added to it: together the sum of the run's parts. -/
theorem run {N J : ℕ} (hJ : 2 ≤ J) (u p : (n : ℕ) → n < N → EReal) (h0 : ∀ n h, n % J = 0 → u n h = p n h)
    (hs : ∀ n h, n % J ≠ 0 → n % J ≠ J - 1 → u n h = u (n - 1) (by omega) + p n h) (t : ℕ) (ht : t < N) (hl : t % J = J - 1) :
    u (t - 1) (by omega) + p t ht = ∑ s : Fin J, p (J * (t / J) + s.val) (by have := Nat.div_add_mod t J; omega) := by
  have hd := Nat.div_add_mod t J
  have part : ∀ s (h : s < J - 1), u (J * (t / J) + s) (by omega) = ∑ k : Fin (s + 1), p (J * (t / J) + k.val) (by omega) := by
    intro s
    induction s with
    | zero =>
      intro h
      rw [h0 _ _ (by rw [Nat.add_zero, Nat.mul_mod_right])]
      simp
    | succ s ih =>
      intro h
      have hm : (J * (t / J) + (s + 1)) % J = s + 1 := by rw [Nat.mul_add_mod, Nat.mod_eq_of_lt (by omega)]
      rw [hs _ _ (by omega) (by omega), Fin.sum_univ_castSucc]
      refine congrArg₂ (· + ·) ?_ rfl
      exact (ih (by omega))
  obtain ⟨K, rfl⟩ : ∃ K, J = K + 2 := ⟨J - 2, by omega⟩
  rw [Fin.sum_univ_castSucc]
  have e1 : t - 1 = (K + 2) * (t / (K + 2)) + K := by omega
  have e2 : t = (K + 2) * (t / (K + 2)) + (K + 1) := by omega
  refine congrArg₂ (· + ·) ?_ ?_
  · refine Eq.trans ?_ (part K (by omega))
    congr 1
  · congr 1

end Cert.Carried

end
-- ==== Proof.OutProj.lean ====
/- The output projection: the gated activations times the weight, in two halves of the contraction. -/
module

public import proofs.«01_k».proof.Proof.Gen.Kernel11Ideal.Frame
public import Idealize.ShloMosaic.Lib.Pipeline.ReadBack
public import proofs.«01_k».proof.Proof.Carried
public import proofs.«01_k».proof.Proof.Gen.Reference11Ideal.Run
public import Idealize.ShloMosaic.Lib.Pipeline.ValueKit
public import Idealize.ShloMosaic.Lib.Claim

@[expose] public section

set_option maxRecDepth 16384

noncomputable section

namespace Cert.OutProj

open Cert.Kernel11Ideal Cert.Kernel11Ideal.Gen Idealize.ShloMosaic Idealize.ShloMosaic.TcCoe Idealize.ShloMosaic.Pointwise Idealize.SL.Sem Cert.Kernel11Ideal.Facts

variable (m : (ℓ : Loc nD τ sig) → Buf (Elt Ideal) ℓ)

/-- The reference's projection. -/
abbrev product (x : FVec Ideal ⟨2, ![4096, 8192]⟩ .bf16) (w : FVec Ideal ⟨2, ![8192, 4096]⟩ .bf16) : FVec Ideal ⟨2, ![4096, 4096]⟩ .f32 :=
  Host.dotGeneral Cert.Reference11Ideal.dot_S4096x8192_S8192x4096_S4096x4096_1_0_0_1_n_n none (extf .f32 x Cert.Reference11Ideal.Gen.bitsLt_bf16_f32) (extf .f32 w Cert.Reference11Ideal.Gen.bitsLt_bf16_f32)

/-- The blocks' indices at a grid point. -/
theorem idx : ∀ t : Fin cfg0.N, win0_0.index t = ![t.val / 8, t.val % 2] ∧ win0_1.index t = ![t.val % 2, t.val / 2 % 4] ∧ win0_2.index t = ![t.val / 8, t.val / 2 % 4] :=
  (by decide +kernel : ∀ t : Fin grid0.N, win0_0.index t = ![t.val / 8, t.val % 2] ∧ win0_1.index t = ![t.val % 2, t.val / 2 % 4] ∧ win0_2.index t = ![t.val / 8, t.val / 2 % 4])

/-- A point's part: the product of its two blocks. -/
def part (x : Vec Ideal S1024x4096 .bf16) (w : Vec Ideal S4096x1024 .bf16) (j : S1024x1024.Idx) : EReal :=
  ∑ k : Fin 4096, (show EReal from x (ix2 (j 0) k)) * (show EReal from w (ix2 k (j 1)))

/-- The first point of a run stores its part. -/
theorem first_at (x : Vec Ideal S1024x4096 .bf16) (w : Vec Ideal S4096x1024 .bf16) (j : S1024x1024.Idx) : k0_pay2 (F := Ideal) x w j = part x w j := by
  pointwise [k0_pay2, k0_pay1, part]

/-- The last point of a run writes the carried sum and its part. -/
theorem last_at (x : Vec Ideal S1024x4096 .bf16) (w : Vec Ideal S4096x1024 .bf16) (a : Vec Ideal S1024x1024 .f32) (j : S1024x1024.Idx) : k0_pay4 (F := Ideal) x w a j = a j + part x w j := by
  pointwise [k0_pay4, k0_pay1, part]

/-- What the last point of a run writes is the sum of the run's parts. -/
theorem written (c : Dev nD) (t : Fin cfg0.N) (hl : t.val % 2 = 1) (y : S1024x1024.Idx) :
    (outsAt0 m c t.val t.isLt).1 y = ∑ s : Fin 2, part (iblk m c 0 ⟨2 * (t.val / 2) + s.val, Pipeline.run_point_lt_of_flush t hl s⟩) (iblk m c 1 ⟨2 * (t.val / 2) + s.val, Pipeline.run_point_lt_of_flush t hl s⟩) y := by
  rw [outsAt0_B m c t (by omega) hl]; frame_out
  rw [read_unread_whole]
  refine (last_at _ _ _ _).trans ?_
  exact Cert.Carried.run (by omega) (fun n h => (outsAt0 m c n h).2 y) (fun n h => part (iblk m c 0 ⟨n, h⟩) (iblk m c 1 ⟨n, h⟩) y)
    (fun n h e => by
      show (outsAt0 m c (⟨n, h⟩ : Fin cfg0.N).val (⟨n, h⟩ : Fin cfg0.N).isLt).2 y = _
      rw [outsAt0_A m c ⟨n, h⟩ e (by dsimp only; omega)]; frame_out
      exact first_at _ _ _)
    (fun n h e e2 => absurd e2 (by omega)) t.val t.isLt hl

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hl := (flush0_2 t).mp hf
  blk_simp; rw [after0_2]
  refine (written m c t hl _).trans ?_
  pointwise [product]
  unfold part
  refine Fin.sum_mul_add_congr fun s k hl' => ?_
  refine congrArg₂ (fun a b : EReal => a * b) ?_ ?_ <;> blk_point [iblk, V, idx t, idx ⟨_, Pipeline.run_point_lt_of_flush t hl s⟩]

end Cert.OutProj

end
-- ==== Proof.InProjA.lean ====
/- The input projection of the gating layer: the normed tokens times the weight, its columns in eight pieces. -/
module

public import proofs.«01_k».proof.Proof.Gen.Kernel16Ideal.Frame
public import proofs.«01_k».proof.Proof.Gen.Reference16Ideal.Run
public import Idealize.ShloMosaic.Lib.Pipeline.ValueKit
public import Idealize.ShloMosaic.Lib.Claim

@[expose] public section

set_option maxRecDepth 16384

noncomputable section

namespace Cert.InProjA

open Cert.Kernel16Ideal Cert.Kernel16Ideal.Gen Idealize.ShloMosaic Idealize.ShloMosaic.TcCoe Idealize.ShloMosaic.Pointwise Idealize.SL.Sem Cert.Kernel16Ideal.Facts

variable (m : (ℓ : Loc nD τ sig) → Buf (Elt Ideal) ℓ)

/-- The reference's projection. -/
abbrev product (x : FVec Ideal ⟨2, ![4096, 4096]⟩ .bf16) (w : FVec Ideal ⟨3, ![8, 4096, 3072]⟩ .bf16) : FVec Ideal ⟨2, ![4096, 24576]⟩ .bf16 :=
  truncf .bf16 (Host.dotGeneral Cert.Reference16Ideal.dot_S4096x4096_S4096x24576_S4096x24576_1_0_0_1_n_n none (extf .f32 x Cert.Reference16Ideal.Gen.bitsLt_bf16_f32) (extf .f32 (shapeCast _ (transpose Cert.Reference16Ideal.S4096x8x3072 [1, 0, 2] w Cert.Reference16Ideal.Gen.transposes_S8x4096x3072_S4096x8x3072_1_0_2) Cert.Reference16Ideal.Gen.shapeCasts_S4096x8x3072_S4096x24576) Cert.Reference16Ideal.Gen.bitsLt_bf16_f32)) Cert.Reference16Ideal.Gen.bitsLt_bf16_f32

/-- The blocks' indices at a grid point. -/
theorem idx : ∀ t : Fin cfg0.N, win0_0.index t = ![t.val / 24, 0] ∧ win0_1.index t = ![t.val % 24 / 3, 0, t.val % 3] ∧ win0_2.index t = ![t.val / 24, t.val % 24] :=
  (by decide +kernel : ∀ t : Fin grid0.N, win0_0.index t = ![t.val / 24, 0] ∧ win0_1.index t = ![t.val % 24 / 3, 0, t.val % 3] ∧ win0_2.index t = ![t.val / 24, t.val % 24])

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out
  pointwise [k0_pay1, product]
  blk_point [iblk, V, idx t]

end Cert.InProjA

end
-- ==== Proof.InProjB.lean ====
/- The input projection of the pooling layer: the normed tokens times the weight, its columns in eight pieces. -/
module

public import proofs.«01_k».proof.Proof.Gen.Kernel17Ideal.Frame
public import proofs.«01_k».proof.Proof.Gen.Reference17Ideal.Run
public import Idealize.ShloMosaic.Lib.Pipeline.ValueKit
public import Idealize.ShloMosaic.Lib.Claim

@[expose] public section

set_option maxRecDepth 16384

noncomputable section

namespace Cert.InProjB

open Cert.Kernel17Ideal Cert.Kernel17Ideal.Gen Idealize.ShloMosaic Idealize.ShloMosaic.TcCoe Idealize.ShloMosaic.Pointwise Idealize.SL.Sem Cert.Kernel17Ideal.Facts

variable (m : (ℓ : Loc nD τ sig) → Buf (Elt Ideal) ℓ)

/-- The reference's projection. -/
abbrev product (x : FVec Ideal ⟨2, ![4096, 4096]⟩ .bf16) (w : FVec Ideal ⟨3, ![8, 4096, 2048]⟩ .bf16) : FVec Ideal ⟨2, ![4096, 16384]⟩ .bf16 :=
  truncf .bf16 (Host.dotGeneral Cert.Reference17Ideal.dot_S4096x4096_S4096x16384_S4096x16384_1_0_0_1_n_n none (extf .f32 x Cert.Reference17Ideal.Gen.bitsLt_bf16_f32) (extf .f32 (shapeCast _ (transpose Cert.Reference17Ideal.S4096x8x2048 [1, 0, 2] w Cert.Reference17Ideal.Gen.transposes_S8x4096x2048_S4096x8x2048_1_0_2) Cert.Reference17Ideal.Gen.shapeCasts_S4096x8x2048_S4096x16384) Cert.Reference17Ideal.Gen.bitsLt_bf16_f32)) Cert.Reference17Ideal.Gen.bitsLt_bf16_f32

/-- The blocks' indices at a grid point. -/
theorem idx : ∀ t : Fin cfg0.N, win0_0.index t = ![t.val / 16, 0] ∧ win0_1.index t = ![t.val % 16 / 2, 0, t.val % 2] ∧ win0_2.index t = ![t.val / 16, t.val % 16] :=
  (by decide +kernel : ∀ t : Fin grid0.N, win0_0.index t = ![t.val / 16, 0] ∧ win0_1.index t = ![t.val % 16 / 2, 0, t.val % 2] ∧ win0_2.index t = ![t.val / 16, t.val % 16])

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out
  pointwise [k0_pay1, product]
  blk_point [iblk, V, idx t]

end Cert.InProjB

end
-- ==== Proof.OutDact.lean ====
/- The gradient of the output projection's activations: the incoming gradient times the weight's transpose. -/
module

public import proofs.«01_k».proof.Proof.Gen.Kernel18Ideal.Frame
public import proofs.«01_k».proof.Proof.Gen.Reference18Ideal.Run
public import Idealize.ShloMosaic.Lib.Pipeline.ValueKit
public import Idealize.ShloMosaic.Lib.Claim

@[expose] public section

set_option maxRecDepth 16384

noncomputable section

namespace Cert.OutDact

open Cert.Kernel18Ideal Cert.Kernel18Ideal.Gen Idealize.ShloMosaic Idealize.ShloMosaic.TcCoe Idealize.ShloMosaic.Pointwise Idealize.SL.Sem Cert.Kernel18Ideal.Facts

variable (m : (ℓ : Loc nD τ sig) → Buf (Elt Ideal) ℓ)

/-- The reference's gradient of the activations. -/
abbrev product (x : FVec Ideal ⟨2, ![4096, 4096]⟩ .bf16) (w : FVec Ideal ⟨2, ![8192, 4096]⟩ .bf16) : FVec Ideal ⟨2, ![4096, 8192]⟩ .bf16 :=
  truncf .bf16 (Host.dotGeneral Cert.Reference18Ideal.dot_S4096x4096_S8192x4096_S4096x8192_1_1_0_0_n_n none (extf .f32 x Cert.Reference18Ideal.Gen.bitsLt_bf16_f32) (extf .f32 w Cert.Reference18Ideal.Gen.bitsLt_bf16_f32)) Cert.Reference18Ideal.Gen.bitsLt_bf16_f32

/-- The blocks' indices at a grid point. -/
theorem idx : ∀ t : Fin cfg0.N, win0_0.index t = ![t.val / 8, 0] ∧ win0_1.index t = ![t.val % 8, 0] ∧ win0_2.index t = ![t.val / 8, t.val % 8] :=
  (by decide +kernel : ∀ t : Fin grid0.N, win0_0.index t = ![t.val / 8, 0] ∧ win0_1.index t = ![t.val % 8, 0] ∧ win0_2.index t = ![t.val / 8, t.val % 8])

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out
  pointwise [k0_pay1, product]
  blk_point [iblk, V, idx t]

end Cert.OutDact

end
-- ==== Proof.GroupDact.lean ====
/- The gradient of the pooled channels: per group, the incoming gradient times the transpose of the group's weight. -/
module

public import proofs.«01_k».proof.Proof.Gen.Kernel19Ideal.Frame
public import proofs.«01_k».proof.Proof.Gen.Reference19Ideal.Run
public import Idealize.ShloMosaic.Lib.Pipeline.ValueKit
public import Idealize.ShloMosaic.Lib.Claim

@[expose] public section

set_option maxRecDepth 16384

noncomputable section

namespace Cert.GroupDact

open Cert.Kernel19Ideal Cert.Kernel19Ideal.Gen Idealize.ShloMosaic Idealize.ShloMosaic.TcCoe Idealize.ShloMosaic.Pointwise Idealize.SL.Sem Cert.Kernel19Ideal.Facts

variable (m : (ℓ : Loc nD τ sig) → Buf (Elt Ideal) ℓ)

/-- The reference's gradient of the pooled channels. -/
abbrev product (x : FVec Ideal ⟨2, ![4096, 8192]⟩ .bf16) (w : FVec Ideal ⟨3, ![4, 2048, 2048]⟩ .bf16) : FVec Ideal ⟨2, ![4096, 8192]⟩ .f32 :=
  shapeCast _ (transpose Cert.Reference19Ideal.S2x2048x4x2048 [1, 2, 0, 3] (Host.dotGeneral Cert.Reference19Ideal.dot_S4x2048x2x2048_S4x2048x2048_S4x2x2048x2048_1_2_23_1_0_0 none (transpose Cert.Reference19Ideal.S4x2048x2x2048 [2, 3, 0, 1] (shapeCast _ (extf .f32 x Cert.Reference19Ideal.Gen.bitsLt_bf16_f32) Cert.Reference19Ideal.Gen.shapeCasts_S4096x8192_S2x2048x4x2048) Cert.Reference19Ideal.Gen.transposes_S2x2048x4x2048_S4x2048x2x2048_2_3_0_1) (extf .f32 w Cert.Reference19Ideal.Gen.bitsLt_bf16_f32)) Cert.Reference19Ideal.Gen.transposes_S4x2x2048x2048_S2x2048x4x2048_1_2_0_3) Cert.Reference19Ideal.Gen.shapeCasts_S2x2048x4x2048_S4096x8192

/-- The blocks' indices at a grid point. -/
theorem idx : ∀ t : Fin cfg0.N, win0_0.index t = ![t.val / 2 % 4, t.val / 8] ∧ win0_1.index t = ![t.val / 8, t.val % 2, 0] ∧ win0_2.index t = ![t.val / 2 % 4, t.val / 8 * 2 + t.val % 2] :=
  (by decide +kernel : ∀ t : Fin grid0.N, win0_0.index t = ![t.val / 2 % 4, t.val / 8] ∧ win0_1.index t = ![t.val / 8, t.val % 2, 0] ∧ win0_2.index t = ![t.val / 2 % 4, t.val / 8 * 2 + t.val % 2])

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out
  pointwise [k0_pay1, product]
  blk_point [iblk, V, idx t]

end Cert.GroupDact

end
-- ==== Proof.InDwB.lean ====
/- The gradient of the pooling layer's input projection's weight, its columns in eight pieces. -/
module

public import proofs.«01_k».proof.Proof.Gen.Kernel20Ideal.Frame
public import proofs.«01_k».proof.Proof.Gen.Reference20Ideal.Run
public import Idealize.ShloMosaic.Lib.Pipeline.ValueKit
public import Idealize.ShloMosaic.Lib.Claim

@[expose] public section

set_option maxRecDepth 16384

noncomputable section

namespace Cert.InDwB

open Cert.Kernel20Ideal Cert.Kernel20Ideal.Gen Idealize.ShloMosaic Idealize.ShloMosaic.TcCoe Idealize.ShloMosaic.Pointwise Idealize.SL.Sem Cert.Kernel20Ideal.Facts

variable (m : (ℓ : Loc nD τ sig) → Buf (Elt Ideal) ℓ)

/-- The reference's gradient of the weight. -/
abbrev product (x : FVec Ideal ⟨2, ![4096, 4096]⟩ .bf16) (w : FVec Ideal ⟨2, ![4096, 16384]⟩ .bf16) : FVec Ideal ⟨3, ![8, 4096, 2048]⟩ .bf16 :=
  truncf .bf16 (transpose Cert.Reference20Ideal.S8x4096x2048 [1, 0, 2] (shapeCast _ (transpose Cert.Reference20Ideal.S4096x16384 [1, 0] (Host.dotGeneral Cert.Reference20Ideal.dot_S4096x16384_S4096x4096_S16384x4096_0_0_1_1_n_n none (extf .f32 w Cert.Reference20Ideal.Gen.bitsLt_bf16_f32) (extf .f32 x Cert.Reference20Ideal.Gen.bitsLt_bf16_f32)) Cert.Reference20Ideal.Gen.transposes_S16384x4096_S4096x16384_1_0) Cert.Reference20Ideal.Gen.shapeCasts_S4096x16384_S4096x8x2048) Cert.Reference20Ideal.Gen.transposes_S4096x8x2048_S8x4096x2048_1_0_2) Cert.Reference20Ideal.Gen.bitsLt_bf16_f32

/-- The blocks' indices at a grid point. -/
theorem idx : ∀ t : Fin cfg0.N, win0_0.index t = ![0, t.val / 16] ∧ win0_1.index t = ![0, t.val % 16] ∧ win0_2.index t = ![t.val % 16 / 2, t.val / 16, t.val % 2] :=
  (by decide +kernel : ∀ t : Fin grid0.N, win0_0.index t = ![0, t.val / 16] ∧ win0_1.index t = ![0, t.val % 16] ∧ win0_2.index t = ![t.val % 16 / 2, t.val / 16, t.val % 2])

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out
  pointwise [k0_pay1, product]
  refine Fin.sum_fin_congr fun k => ?_
  rw [mul_comm]
  blk_point [iblk, V, idx t]

end Cert.InDwB

end
-- ==== Proof.InDactB.lean ====
/- The gradient of the normed tokens: the gradient of the projection times the transpose of the weight, its columns in eight pieces. -/
module

public import proofs.«01_k».proof.Proof.Gen.Kernel21Ideal.Frame
public import Idealize.ShloMosaic.Lib.Pipeline.ReadBack
public import proofs.«01_k».proof.Proof.Carried
public import proofs.«01_k».proof.Proof.Gen.Reference21Ideal.Run
public import Idealize.ShloMosaic.Lib.Pipeline.ValueKit
public import Idealize.ShloMosaic.Lib.Claim

@[expose] public section

set_option maxRecDepth 16384

noncomputable section

namespace Cert.InDactB

open Cert.Kernel21Ideal Cert.Kernel21Ideal.Gen Idealize.ShloMosaic Idealize.ShloMosaic.TcCoe Idealize.ShloMosaic.Pointwise Idealize.SL.Sem Cert.Kernel21Ideal.Facts

variable (m : (ℓ : Loc nD τ sig) → Buf (Elt Ideal) ℓ)

/-- The reference's gradient of the tokens. -/
abbrev product (x : FVec Ideal ⟨2, ![4096, 16384]⟩ .bf16) (w : FVec Ideal ⟨3, ![8, 4096, 2048]⟩ .bf16) : FVec Ideal ⟨2, ![4096, 4096]⟩ .f32 :=
  Host.dotGeneral Cert.Reference21Ideal.dot_S4096x16384_S4096x16384_S4096x4096_1_1_0_0_n_n none (extf .f32 x Cert.Reference21Ideal.Gen.bitsLt_bf16_f32) (extf .f32 (shapeCast _ (transpose Cert.Reference21Ideal.S4096x8x2048 [1, 0, 2] w Cert.Reference21Ideal.Gen.transposes_S8x4096x2048_S4096x8x2048_1_0_2) Cert.Reference21Ideal.Gen.shapeCasts_S4096x8x2048_S4096x16384) Cert.Reference21Ideal.Gen.bitsLt_bf16_f32)

/-- The blocks' indices at a grid point. -/
theorem idx : ∀ t : Fin cfg0.N, win0_0.index t = ![t.val / 32, t.val % 8] ∧ win0_1.index t = ![t.val % 8, t.val / 8 % 4, 0] ∧ win0_2.index t = ![t.val / 32, t.val / 8 % 4] :=
  (by decide +kernel : ∀ t : Fin grid0.N, win0_0.index t = ![t.val / 32, t.val % 8] ∧ win0_1.index t = ![t.val % 8, t.val / 8 % 4, 0] ∧ win0_2.index t = ![t.val / 32, t.val / 8 % 4])

/-- A point's part: the product of its two blocks. -/
def part (x : Vec Ideal S1024x2048 .bf16) (w : Vec Ideal S1x1024x2048 .bf16) (j : S1024x1024.Idx) : EReal :=
  ∑ k : Fin 2048, (show EReal from x (ix2 (j 0) k)) * (show EReal from w (ix3 0 (j 1) k))

/-- The first point of a run stores its part. -/
theorem first_at (x : Vec Ideal S1024x2048 .bf16) (w : Vec Ideal S1x1024x2048 .bf16) (j : S1024x1024.Idx) : k0_pay2 (F := Ideal) x w j = part x w j := by
  pointwise [k0_pay2, k0_pay1, part]

/-- A step adds its part. -/
theorem step_at (x : Vec Ideal S1024x2048 .bf16) (w : Vec Ideal S1x1024x2048 .bf16) (a : Vec Ideal S1024x1024 .f32) (j : S1024x1024.Idx) : k0_pay3 (F := Ideal) x w a j = a j + part x w j := by
  pointwise [k0_pay3, k0_pay1, part]

/-- The last point of a run writes the carried sum and its part. -/
theorem last_at (x : Vec Ideal S1024x2048 .bf16) (w : Vec Ideal S1x1024x2048 .bf16) (a : Vec Ideal S1024x1024 .f32) (j : S1024x1024.Idx) : k0_pay4 (F := Ideal) x w a j = a j + part x w j := by
  pointwise [k0_pay4, k0_pay1, part]

/-- What the last point of a run writes is the sum of the run's parts. -/
theorem written (c : Dev nD) (t : Fin cfg0.N) (hl : t.val % 8 = 7) (y : S1024x1024.Idx) :
    (outsAt0 m c t.val t.isLt).1 y = ∑ s : Fin 8, part (iblk m c 0 ⟨8 * (t.val / 8) + s.val, Pipeline.run_point_lt_of_flush t hl s⟩) (iblk m c 1 ⟨8 * (t.val / 8) + s.val, Pipeline.run_point_lt_of_flush t hl s⟩) y := by
  rw [outsAt0_C m c t (by omega) (by omega) hl]; frame_out
  rw [read_unread_whole]
  refine (last_at _ _ _ _).trans ?_
  exact Cert.Carried.run (by omega) (fun n h => (outsAt0 m c n h).2 y) (fun n h => part (iblk m c 0 ⟨n, h⟩) (iblk m c 1 ⟨n, h⟩) y)
    (fun n h e => by
      show (outsAt0 m c (⟨n, h⟩ : Fin cfg0.N).val (⟨n, h⟩ : Fin cfg0.N).isLt).2 y = _
      rw [outsAt0_A m c ⟨n, h⟩ e (by dsimp only; omega) (by dsimp only; omega)]; frame_out
      exact first_at _ _ _)
    (fun n h e e2 => by
      show (outsAt0 m c (⟨n, h⟩ : Fin cfg0.N).val (⟨n, h⟩ : Fin cfg0.N).isLt).2 y = _
      rw [outsAt0_B m c ⟨n, h⟩ e (by dsimp only; omega) (by dsimp only; omega)]; frame_out
      rw [read_unread_whole]
      exact step_at _ _ _ _) t.val t.isLt hl

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hl := (flush0_2 t).mp hf
  blk_simp; rw [after0_2]
  refine (written m c t hl _).trans ?_
  pointwise [product]
  unfold part
  refine Fin.sum_mul_add_congr fun s k hl' => ?_
  refine congrArg₂ (fun a b : EReal => a * b) ?_ ?_ <;> blk_point [iblk, V, idx t, idx ⟨_, Pipeline.run_point_lt_of_flush t hl s⟩]

end Cert.InDactB

end
-- ==== Proof.InDactA.lean ====
/- The gradient of the normed tokens: the gradient of the projection times the transpose of the weight, its columns in eight pieces. -/
module

public import proofs.«01_k».proof.Proof.Gen.Kernel22Ideal.Frame
public import Idealize.ShloMosaic.Lib.Pipeline.ReadBack
public import proofs.«01_k».proof.Proof.Carried
public import proofs.«01_k».proof.Proof.Gen.Reference22Ideal.Run
public import Idealize.ShloMosaic.Lib.Pipeline.ValueKit
public import Idealize.ShloMosaic.Lib.Claim

@[expose] public section

set_option maxRecDepth 16384

noncomputable section

namespace Cert.InDactA

open Cert.Kernel22Ideal Cert.Kernel22Ideal.Gen Idealize.ShloMosaic Idealize.ShloMosaic.TcCoe Idealize.ShloMosaic.Pointwise Idealize.SL.Sem Cert.Kernel22Ideal.Facts

variable (m : (ℓ : Loc nD τ sig) → Buf (Elt Ideal) ℓ)

/-- The reference's gradient of the tokens. -/
abbrev product (x : FVec Ideal ⟨2, ![4096, 24576]⟩ .bf16) (w : FVec Ideal ⟨3, ![8, 4096, 3072]⟩ .bf16) : FVec Ideal ⟨2, ![4096, 4096]⟩ .f32 :=
  Host.dotGeneral Cert.Reference22Ideal.dot_S4096x24576_S4096x24576_S4096x4096_1_1_0_0_n_n none (extf .f32 x Cert.Reference22Ideal.Gen.bitsLt_bf16_f32) (extf .f32 (shapeCast _ (transpose Cert.Reference22Ideal.S4096x8x3072 [1, 0, 2] w Cert.Reference22Ideal.Gen.transposes_S8x4096x3072_S4096x8x3072_1_0_2) Cert.Reference22Ideal.Gen.shapeCasts_S4096x8x3072_S4096x24576) Cert.Reference22Ideal.Gen.bitsLt_bf16_f32)

/-- The blocks' indices at a grid point. -/
theorem idx : ∀ t : Fin cfg0.N, win0_0.index t = ![t.val / 32, t.val % 8] ∧ win0_1.index t = ![t.val % 8, t.val / 8 % 4, 0] ∧ win0_2.index t = ![t.val / 32, t.val / 8 % 4] :=
  (by decide +kernel : ∀ t : Fin grid0.N, win0_0.index t = ![t.val / 32, t.val % 8] ∧ win0_1.index t = ![t.val % 8, t.val / 8 % 4, 0] ∧ win0_2.index t = ![t.val / 32, t.val / 8 % 4])

/-- A point's part: the product of its two blocks. -/
def part (x : Vec Ideal S1024x3072 .bf16) (w : Vec Ideal S1x1024x3072 .bf16) (j : S1024x1024.Idx) : EReal :=
  ∑ k : Fin 3072, (show EReal from x (ix2 (j 0) k)) * (show EReal from w (ix3 0 (j 1) k))

/-- The first point of a run stores its part. -/
theorem first_at (x : Vec Ideal S1024x3072 .bf16) (w : Vec Ideal S1x1024x3072 .bf16) (j : S1024x1024.Idx) : k0_pay2 (F := Ideal) x w j = part x w j := by
  pointwise [k0_pay2, k0_pay1, part]

/-- A step adds its part. -/
theorem step_at (x : Vec Ideal S1024x3072 .bf16) (w : Vec Ideal S1x1024x3072 .bf16) (a : Vec Ideal S1024x1024 .f32) (j : S1024x1024.Idx) : k0_pay3 (F := Ideal) x w a j = a j + part x w j := by
  pointwise [k0_pay3, k0_pay1, part]

/-- The last point of a run writes the carried sum and its part. -/
theorem last_at (x : Vec Ideal S1024x3072 .bf16) (w : Vec Ideal S1x1024x3072 .bf16) (a : Vec Ideal S1024x1024 .f32) (j : S1024x1024.Idx) : k0_pay4 (F := Ideal) x w a j = a j + part x w j := by
  pointwise [k0_pay4, k0_pay1, part]

/-- What the last point of a run writes is the sum of the run's parts. -/
theorem written (c : Dev nD) (t : Fin cfg0.N) (hl : t.val % 8 = 7) (y : S1024x1024.Idx) :
    (outsAt0 m c t.val t.isLt).1 y = ∑ s : Fin 8, part (iblk m c 0 ⟨8 * (t.val / 8) + s.val, Pipeline.run_point_lt_of_flush t hl s⟩) (iblk m c 1 ⟨8 * (t.val / 8) + s.val, Pipeline.run_point_lt_of_flush t hl s⟩) y := by
  rw [outsAt0_C m c t (by omega) (by omega) hl]; frame_out
  rw [read_unread_whole]
  refine (last_at _ _ _ _).trans ?_
  exact Cert.Carried.run (by omega) (fun n h => (outsAt0 m c n h).2 y) (fun n h => part (iblk m c 0 ⟨n, h⟩) (iblk m c 1 ⟨n, h⟩) y)
    (fun n h e => by
      show (outsAt0 m c (⟨n, h⟩ : Fin cfg0.N).val (⟨n, h⟩ : Fin cfg0.N).isLt).2 y = _
      rw [outsAt0_A m c ⟨n, h⟩ e (by dsimp only; omega) (by dsimp only; omega)]; frame_out
      exact first_at _ _ _)
    (fun n h e e2 => by
      show (outsAt0 m c (⟨n, h⟩ : Fin cfg0.N).val (⟨n, h⟩ : Fin cfg0.N).isLt).2 y = _
      rw [outsAt0_B m c ⟨n, h⟩ e (by dsimp only; omega) (by dsimp only; omega)]; frame_out
      rw [read_unread_whole]
      exact step_at _ _ _ _) t.val t.isLt hl

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t hf y => ?_
  have hl := (flush0_2 t).mp hf
  blk_simp; rw [after0_2]
  refine (written m c t hl _).trans ?_
  pointwise [product]
  unfold part
  refine Fin.sum_mul_add_congr fun s k hl' => ?_
  refine congrArg₂ (fun a b : EReal => a * b) ?_ ?_ <;> blk_point [iblk, V, idx t, idx ⟨_, Pipeline.run_point_lt_of_flush t hl s⟩]

end Cert.InDactA

end
-- ==== Proof.InDwA.lean ====
/- The gradient of mixer A's input projection's weight, its columns in eight pieces. -/
module

public import proofs.«01_k».proof.Proof.Gen.Kernel25Ideal.Frame
public import proofs.«01_k».proof.Proof.Gen.Reference25Ideal.Run
public import Idealize.ShloMosaic.Lib.Pipeline.ValueKit
public import Idealize.ShloMosaic.Lib.Claim

@[expose] public section

set_option maxRecDepth 16384

noncomputable section

namespace Cert.InDwA

open Cert.Kernel25Ideal Cert.Kernel25Ideal.Gen Idealize.ShloMosaic Idealize.ShloMosaic.TcCoe Idealize.ShloMosaic.Pointwise Idealize.SL.Sem Cert.Kernel25Ideal.Facts

variable (m : (ℓ : Loc nD τ sig) → Buf (Elt Ideal) ℓ)

/-- The reference's gradient of the weight. -/
abbrev product (x : FVec Ideal ⟨2, ![4096, 4096]⟩ .bf16) (w : FVec Ideal ⟨2, ![4096, 24576]⟩ .bf16) : FVec Ideal ⟨3, ![8, 4096, 3072]⟩ .bf16 :=
  truncf .bf16 (transpose Cert.Reference25Ideal.S8x4096x3072 [1, 0, 2] (shapeCast _ (transpose Cert.Reference25Ideal.S4096x24576 [1, 0] (Host.dotGeneral Cert.Reference25Ideal.dot_S4096x24576_S4096x4096_S24576x4096_0_0_1_1_n_n none (extf .f32 w Cert.Reference25Ideal.Gen.bitsLt_bf16_f32) (extf .f32 x Cert.Reference25Ideal.Gen.bitsLt_bf16_f32)) Cert.Reference25Ideal.Gen.transposes_S24576x4096_S4096x24576_1_0) Cert.Reference25Ideal.Gen.shapeCasts_S4096x24576_S4096x8x3072) Cert.Reference25Ideal.Gen.transposes_S4096x8x3072_S8x4096x3072_1_0_2) Cert.Reference25Ideal.Gen.bitsLt_bf16_f32

/-- The blocks' indices at a grid point. -/
theorem idx : ∀ t : Fin cfg0.N, win0_0.index t = ![0, t.val / 24] ∧ win0_1.index t = ![0, t.val % 24] ∧ win0_2.index t = ![t.val % 24 / 3, t.val / 24, t.val % 3] :=
  (by decide +kernel : ∀ t : Fin grid0.N, win0_0.index t = ![0, t.val / 24] ∧ win0_1.index t = ![0, t.val % 24] ∧ win0_2.index t = ![t.val % 24 / 3, t.val / 24, t.val % 3])

/-- What the run leaves in the result is the product. -/
theorem final (c : Dev nD) : (dats m 0 c).arrAt 2 cfg0.N = product (m ((c.tc : Thread nD τ).loc main_arg0)) (m ((c.tc : Thread nD τ).loc main_arg1)) := by
  refine (dats m 0 c).arrAt_eq_of_covers 2 _ (by decide +kernel) fun t _ y => ?_
  blk_simp; rw [after0_2]; frame_out
  pointwise [k0_pay1, product]
  refine Fin.sum_fin_congr fun k => ?_
  rw [mul_comm]
  blk_point [iblk, V, idx t]

end Cert.InDwA

end
-- ==== Proof.Products.lean ====
/- The products' calls and their references leave the same arrays. -/
module

public import proofs.«01_k».proof.Defs
public import proofs.«01_k».proof.Proof.OutDw
public import proofs.«01_k».proof.Proof.GroupDw
public import proofs.«01_k».proof.Proof.GroupProj
public import proofs.«01_k».proof.Proof.OutProj
public import proofs.«01_k».proof.Proof.InProjA
public import proofs.«01_k».proof.Proof.InProjB
public import proofs.«01_k».proof.Proof.OutDact
public import proofs.«01_k».proof.Proof.GroupDact
public import proofs.«01_k».proof.Proof.InDwB
public import proofs.«01_k».proof.Proof.InDactB
public import proofs.«01_k».proof.Proof.InDactA
public import proofs.«01_k».proof.Proof.InDwA
public import Idealize.ShloMosaic.Lib.Claim
public import Idealize.ShloMosaic.Lib.Quiescent

@[expose] public section

set_option maxRecDepth 200000

noncomputable section

namespace Cert.Products

open Idealize.ShloMosaic Idealize.SL.Sem

/-- The reference of the output projection's weight gradient runs and leaves its arguments and every counter as they were. -/
theorem quiescent6 : Cert.quiescent_Reference6Ideal := by
  intro m g _
  exact (θ_run _ _ _).mono (fun r h => ⟨fun c => (h c).2, sem_eq_zero_of_no_sems (by decide) _⟩) (Cert.Reference6Ideal.Value.run m g)

/-- The call of the output projection's weight gradient and its reference leave the same array. -/
theorem same6 : Cert.algebraic_Kernel6Ideal_Reference6Ideal := by
  pair_intro
  · run_from Cert.Kernel6Ideal.Gen.run_main m g
  · run_from Cert.Reference6Ideal.Value.run m' g'
    exact (Cert.OutDw.final m c).symm

/-- The reference of the grouped projection's weight gradient runs and leaves its arguments and every counter as they were. -/
theorem quiescent7 : Cert.quiescent_Reference7Ideal := by
  intro m g _
  exact (θ_run _ _ _).mono (fun r h => ⟨fun c => (h c).2, sem_eq_zero_of_no_sems (by decide) _⟩) (Cert.Reference7Ideal.Value.run m g)

/-- The call of the grouped projection's weight gradient and its reference leave the same array. -/
theorem same7 : Cert.algebraic_Kernel7Ideal_Reference7Ideal := by
  pair_intro
  · run_from Cert.Kernel7Ideal.Gen.run_main m g
  · run_from Cert.Reference7Ideal.Value.run m' g'
    exact (Cert.GroupDw.final m c).symm

/-- The reference of the grouped projection runs and leaves its arguments and every counter as they were. -/
theorem quiescent9 : Cert.quiescent_Reference9Ideal := by
  intro m g _
  exact (θ_run _ _ _).mono (fun r h => ⟨fun c => (h c).2, sem_eq_zero_of_no_sems (by decide) _⟩) (Cert.Reference9Ideal.Value.run m g)

/-- The call of the grouped projection and its reference leave the same array. -/
theorem same9 : Cert.algebraic_Kernel9Ideal_Reference9Ideal := by
  pair_intro
  · run_from Cert.Kernel9Ideal.Gen.run_main m g
  · run_from Cert.Reference9Ideal.Value.run m' g'
    exact (Cert.GroupProj.final m c).symm

/-- The reference of the output projection runs and leaves its arguments and every counter as they were. -/
theorem quiescent11 : Cert.quiescent_Reference11Ideal := by
  intro m g _
  exact (θ_run _ _ _).mono (fun r h => ⟨fun c => (h c).2, sem_eq_zero_of_no_sems (by decide) _⟩) (Cert.Reference11Ideal.Value.run m g)

/-- The call of the output projection and its reference leave the same array. -/
theorem same11 : Cert.algebraic_Kernel11Ideal_Reference11Ideal := by
  pair_intro
  · run_from Cert.Kernel11Ideal.Gen.run_main m g
  · run_from Cert.Reference11Ideal.Value.run m' g'
    exact (Cert.OutProj.final m c).symm

/-- The reference of mixer A's input projection runs and leaves its arguments and every counter as they were. -/
theorem quiescent16 : Cert.quiescent_Reference16Ideal := by
  intro m g _
  exact (θ_run _ _ _).mono (fun r h => ⟨fun c => (h c).2, sem_eq_zero_of_no_sems (by decide) _⟩) (Cert.Reference16Ideal.Value.run m g)

/-- The call of mixer A's input projection and its reference leave the same array. -/
theorem same16 : Cert.algebraic_Kernel16Ideal_Reference16Ideal := by
  pair_intro
  · run_from Cert.Kernel16Ideal.Gen.run_main m g
  · run_from Cert.Reference16Ideal.Value.run m' g'
    exact (Cert.InProjA.final m c).symm

/-- The reference of mixer B's input projection runs and leaves its arguments and every counter as they were. -/
theorem quiescent17 : Cert.quiescent_Reference17Ideal := by
  intro m g _
  exact (θ_run _ _ _).mono (fun r h => ⟨fun c => (h c).2, sem_eq_zero_of_no_sems (by decide) _⟩) (Cert.Reference17Ideal.Value.run m g)

/-- The call of mixer B's input projection and its reference leave the same array. -/
theorem same17 : Cert.algebraic_Kernel17Ideal_Reference17Ideal := by
  pair_intro
  · run_from Cert.Kernel17Ideal.Gen.run_main m g
  · run_from Cert.Reference17Ideal.Value.run m' g'
    exact (Cert.InProjB.final m c).symm

/-- The reference of the gradient through the output projection runs and leaves its arguments and every counter as they were. -/
theorem quiescent18 : Cert.quiescent_Reference18Ideal := by
  intro m g _
  exact (θ_run _ _ _).mono (fun r h => ⟨fun c => (h c).2, sem_eq_zero_of_no_sems (by decide) _⟩) (Cert.Reference18Ideal.Value.run m g)

/-- The call of the gradient through the output projection and its reference leave the same array. -/
theorem same18 : Cert.algebraic_Kernel18Ideal_Reference18Ideal := by
  pair_intro
  · run_from Cert.Kernel18Ideal.Gen.run_main m g
  · run_from Cert.Reference18Ideal.Value.run m' g'
    exact (Cert.OutDact.final m c).symm

/-- The reference of the gradient through the grouped projection runs and leaves its arguments and every counter as they were. -/
theorem quiescent19 : Cert.quiescent_Reference19Ideal := by
  intro m g _
  exact (θ_run _ _ _).mono (fun r h => ⟨fun c => (h c).2, sem_eq_zero_of_no_sems (by decide) _⟩) (Cert.Reference19Ideal.Value.run m g)

/-- The call of the gradient through the grouped projection and its reference leave the same array. -/
theorem same19 : Cert.algebraic_Kernel19Ideal_Reference19Ideal := by
  pair_intro
  · run_from Cert.Kernel19Ideal.Gen.run_main m g
  · run_from Cert.Reference19Ideal.Value.run m' g'
    exact (Cert.GroupDact.final m c).symm

/-- The reference of mixer B's input weight gradient runs and leaves its arguments and every counter as they were. -/
theorem quiescent20 : Cert.quiescent_Reference20Ideal := by
  intro m g _
  exact (θ_run _ _ _).mono (fun r h => ⟨fun c => (h c).2, sem_eq_zero_of_no_sems (by decide) _⟩) (Cert.Reference20Ideal.Value.run m g)

/-- The call of mixer B's input weight gradient and its reference leave the same array. -/
theorem same20 : Cert.algebraic_Kernel20Ideal_Reference20Ideal := by
  pair_intro
  · run_from Cert.Kernel20Ideal.Gen.run_main m g
  · run_from Cert.Reference20Ideal.Value.run m' g'
    exact (Cert.InDwB.final m c).symm

/-- The reference of the gradient through mixer B's input projection runs and leaves its arguments and every counter as they were. -/
theorem quiescent21 : Cert.quiescent_Reference21Ideal := by
  intro m g _
  exact (θ_run _ _ _).mono (fun r h => ⟨fun c => (h c).2, sem_eq_zero_of_no_sems (by decide) _⟩) (Cert.Reference21Ideal.Value.run m g)

/-- The call of the gradient through mixer B's input projection and its reference leave the same array. -/
theorem same21 : Cert.algebraic_Kernel21Ideal_Reference21Ideal := by
  pair_intro
  · run_from Cert.Kernel21Ideal.Gen.run_main m g
  · run_from Cert.Reference21Ideal.Value.run m' g'
    exact (Cert.InDactB.final m c).symm

/-- The reference of the gradient through mixer A's input projection runs and leaves its arguments and every counter as they were. -/
theorem quiescent22 : Cert.quiescent_Reference22Ideal := by
  intro m g _
  exact (θ_run _ _ _).mono (fun r h => ⟨fun c => (h c).2, sem_eq_zero_of_no_sems (by decide) _⟩) (Cert.Reference22Ideal.Value.run m g)

/-- The call of the gradient through mixer A's input projection and its reference leave the same array. -/
theorem same22 : Cert.algebraic_Kernel22Ideal_Reference22Ideal := by
  pair_intro
  · run_from Cert.Kernel22Ideal.Gen.run_main m g
  · run_from Cert.Reference22Ideal.Value.run m' g'
    exact (Cert.InDactA.final m c).symm

/-- The reference of mixer A's input weight gradient runs and leaves its arguments and every counter as they were. -/
theorem quiescent25 : Cert.quiescent_Reference25Ideal := by
  intro m g _
  exact (θ_run _ _ _).mono (fun r h => ⟨fun c => (h c).2, sem_eq_zero_of_no_sems (by decide) _⟩) (Cert.Reference25Ideal.Value.run m g)

/-- The call of mixer A's input weight gradient and its reference leave the same array. -/
theorem same25 : Cert.algebraic_Kernel25Ideal_Reference25Ideal := by
  pair_intro
  · run_from Cert.Kernel25Ideal.Gen.run_main m g
  · run_from Cert.Reference25Ideal.Value.run m' g'
    exact (Cert.InDwA.final m c).symm

end Cert.Products

end
-- ==== Proof.GateBwd.lean ====
/- The gradient of mixer B's gate, block by block. -/
module

public import proofs.«01_k».proof.Proof.Gen.Kernel2Ideal.Frame
public import Idealize.ShloMosaic.Lib.Pipeline.ValueKit
public import Idealize.ShloMosaic.Lib.Pipeline.ReadBack

@[expose] public section

set_option maxRecDepth 16384

noncomputable section

namespace Cert.GateBwd

open Cert.Kernel2Ideal Cert.Kernel2Ideal.Gen Idealize.ShloMosaic Idealize.ShloMosaic.TcCoe Idealize.ShloMosaic.Pointwise Idealize.SL.Sem Cert.Kernel2Ideal.Facts

variable (m : (ℓ : Loc nD τ sig) → Buf (Elt Ideal) ℓ)

/-- The blocks' indices at a grid point. -/
theorem idx : ∀ t : Fin cfg0.N, win0_0.index t = ![t.val % 16, t.val / 16] ∧ win0_1.index t = ![t.val % 16, t.val / 16] ∧ win0_2.index t = ![t.val % 16, 8 + t.val / 16] ∧ win0_3.index t = ![0, t.val / 16] ∧ win0_4.index t = ![0, t.val / 16]
      ∧ win0_5.index t = ![t.val % 16, t.val / 16] ∧ win0_6.index t = ![t.val % 16, 8 + t.val / 16] ∧ win0_7.index t = ![0, t.val / 16] ∧ win0_8.index t = ![0, t.val / 16] :=
  (by decide +kernel : ∀ t : Fin grid0.N, win0_0.index t = ![t.val % 16, t.val / 16] ∧ win0_1.index t = ![t.val % 16, t.val / 16] ∧ win0_2.index t = ![t.val % 16, 8 + t.val / 16] ∧ win0_3.index t = ![0, t.val / 16] ∧ win0_4.index t = ![0, t.val / 16]
      ∧ win0_5.index t = ![t.val % 16, t.val / 16] ∧ win0_6.index t = ![t.val % 16, 8 + t.val / 16] ∧ win0_7.index t = ![0, t.val / 16] ∧ win0_8.index t = ![0, t.val / 16])

/-- The incoming gradient through the gate's factor `silu z`, at a row and a column. -/
def through (dy : FVec Ideal ⟨2, ![4096, 8192]⟩ .bf16) (p : FVec Ideal ⟨2, ![4096, 16384]⟩ .bf16) (r : Fin 4096) (k : Fin 8192) : EReal :=
  (show EReal from dy (ix2 r k)) * ((show EReal from p (ix2 r ⟨8192 + k.val, by omega⟩)) * Ideal.logistic (show EReal from p (ix2 r ⟨8192 + k.val, by omega⟩)))

/-- The gradient of the mixed value. -/
def dq (dy : FVec Ideal ⟨2, ![4096, 8192]⟩ .bf16) (p : FVec Ideal ⟨2, ![4096, 16384]⟩ .bf16) (s : FVec Ideal ⟨2, ![1, 8192]⟩ .f32) : FVec Ideal ⟨2, ![4096, 8192]⟩ .bf16 := fun j =>
  through dy p (j 0) (j 1) * (show EReal from s (ix2 0 (j 1)))

/-- The derivative of `silu`, times the incoming gradient and the scaled value. -/
def dsilu (a z : EReal) : EReal := a * (Ideal.logistic z * (1 + z * (1 - Ideal.logistic z)))

/-- The gradient of the gate's columns; what it says of the other columns is not used. -/
def dp (dy q : FVec Ideal ⟨2, ![4096, 8192]⟩ .bf16) (p : FVec Ideal ⟨2, ![4096, 16384]⟩ .bf16) (b s : FVec Ideal ⟨2, ![1, 8192]⟩ .f32) : FVec Ideal ⟨2, ![4096, 16384]⟩ .bf16 := fun j =>
  dsilu ((show EReal from dy (ix2 (j 0) ⟨(j 1).val - 8192, by have := (j 1).isLt; dsimp at this; omega⟩))
    * (((show EReal from q (ix2 (j 0) ⟨(j 1).val - 8192, by have := (j 1).isLt; dsimp at this; omega⟩)) + (show EReal from b (ix2 0 ⟨(j 1).val - 8192, by have := (j 1).isLt; dsimp at this; omega⟩)))
      * (show EReal from s (ix2 0 ⟨(j 1).val - 8192, by have := (j 1).isLt; dsimp at this; omega⟩)))) (p (ix2 (j 0) (j 1)))

/-- The gradient of the scale: over all rows. -/
def ds (dy q : FVec Ideal ⟨2, ![4096, 8192]⟩ .bf16) (p : FVec Ideal ⟨2, ![4096, 16384]⟩ .bf16) (b : FVec Ideal ⟨2, ![1, 8192]⟩ .f32) : FVec Ideal ⟨2, ![1, 8192]⟩ .f32 := fun j =>
  ∑ i : Fin 4096, through dy p i (j 1) * ((show EReal from q (ix2 i (j 1))) + (show EReal from b (ix2 0 (j 1))))

/-- The gradient of the bias: over all rows. -/
def db (dy : FVec Ideal ⟨2, ![4096, 8192]⟩ .bf16) (p : FVec Ideal ⟨2, ![4096, 16384]⟩ .bf16) (s : FVec Ideal ⟨2, ![1, 8192]⟩ .f32) : FVec Ideal ⟨2, ![1, 8192]⟩ .f32 := fun j =>
  ∑ i : Fin 4096, through dy p i (j 1) * (show EReal from s (ix2 0 (j 1)))

/-- The first result's contents after a point, in both cases. -/
theorem out5_at (c : Dev nD) (t : Fin cfg0.N) : (outsAt0 m c t.val t.isLt).1 = k0_pay9 (F := Ideal) (iblk m c 2 t) (iblk m c 0 t) (iblk m c 4 t) := by
  by_cases h : t.val % 16 = 0
  · rw [outsAt0_A m c t h]; frame_out
  · rw [outsAt0_B m c t h]; frame_out

/-- The second result's contents after a point, in both cases. -/
theorem out6_at (c : Dev nD) (t : Fin cfg0.N) : (outsAt0 m c t.val t.isLt).2.1 = k0_pay10 (F := Ideal) (iblk m c 2 t) (iblk m c 0 t) (iblk m c 1 t) (iblk m c 3 t) (iblk m c 4 t) := by
  by_cases h : t.val % 16 = 0
  · rw [outsAt0_A m c t h]; frame_out
  · rw [outsAt0_B m c t h]; frame_out

/-- What the run leaves in the first result. -/
theorem final_dq (c : Dev nD) : (dats m 0 c).arrAt 5 cfg0.N = dq (m ((c.tc : Thread nD τ).loc main_arg0)) (m ((c.tc : Thread nD τ).loc main_arg2)) (m ((c.tc : Thread nD τ).loc main_arg4)) := by
  refine (dats m 0 c).arrAt_eq_of_covers 5 _ (by decide +kernel) fun t _ y => ?_
  blk_simp; rw [after0_5, out5_at]
  pointwise [k0_pay9, k0_pay8, k0_pay7, k0_pay6, k0_pay5, k0_pay4, k0_pay3, dq, through]
  blk_point [iblk, V, idx t]

/-- What the run leaves in the gate's columns of the second result. -/
theorem final_dp (c : Dev nD) (i : S4096x16384.Idx) (hi : 8192 ≤ (i 1).val) : (dats m 0 c).arrAt 6 cfg0.N i
    = dp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) i := by
  refine ((dats m 0 c).arrAt_apply_of_coversWhere 6 (dp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)))
    (P := fun i : S4096x16384.Idx => 8192 ≤ (i 1).val) (fun β => 8 ≤ β 1) (by decide +kernel) (fun t hf y => ?_) (fun j => by blk_simp [Pipeline.Window.cell_apply]; omega) i).trans (if_pos hi)
  blk_simp; rw [after0_6, out6_at]
  pointwise [k0_pay10, k0_pay8, k0_pay7, k0_pay6, k0_pay5, k0_pay4, k0_pay3, dp, dsilu]
  blk_point [iblk, V, idx t]

/-- A point's part of the scale's gradient. -/
def partS (z : Vec Ideal S256x1024 .bf16) (dy q : Vec Ideal S256x1024 .bf16) (b : Vec Ideal S1x1024 .f32) (j : S1x1024.Idx) : EReal :=
  ∑ i : Fin 256, ((show EReal from dy (ix2 i (j 1))) * ((show EReal from z (ix2 i (j 1))) * Ideal.logistic (show EReal from z (ix2 i (j 1)))))
    * ((show EReal from q (ix2 i (j 1))) + (show EReal from b (ix2 0 (j 1))))

/-- A point's part of the bias's gradient. -/
def partB (z : Vec Ideal S256x1024 .bf16) (dy : Vec Ideal S256x1024 .bf16) (s : Vec Ideal S1x1024 .f32) (j : S1x1024.Idx) : EReal :=
  ∑ i : Fin 256, ((show EReal from dy (ix2 i (j 1))) * ((show EReal from z (ix2 i (j 1))) * Ideal.logistic (show EReal from z (ix2 i (j 1)))))
    * (show EReal from s (ix2 0 (j 1)))

/-- A point adds its part to the scale's gradient. -/
theorem stepS_at (z dy q : Vec Ideal S256x1024 .bf16) (b : Vec Ideal S1x1024 .f32) (a : Vec Ideal S1x1024 .f32) (j : S1x1024.Idx) :
    k0_pay1 (F := Ideal) (k0_pay13 a) (k0_pay14 z dy q b) j = a j + partS z dy q b j := by
  pointwise [k0_pay1, k0_pay13, k0_pay14, k0_pay7, k0_pay6, k0_pay5, k0_pay4, k0_pay3, partS]

/-- A point adds its part to the bias's gradient. -/
theorem stepB_at (z dy : Vec Ideal S256x1024 .bf16) (s : Vec Ideal S1x1024 .f32) (a : Vec Ideal S1x1024 .f32) (j : S1x1024.Idx) :
    k0_pay2 (F := Ideal) (k0_pay8 z dy s) a j = a j + partB z dy s j := by
  pointwise [k0_pay2, k0_pay8, k0_pay7, k0_pay5, k0_pay4, k0_pay3, partB]

/-- The first point of a column starts the scale's gradient from zero. -/
theorem zeroS_at (j : S1x1024.Idx) : k0_pay11 (F := Ideal) j = (0 : EReal) := by
  pointwise [k0_pay11]

/-- The first point of a column starts the bias's gradient from zero. -/
theorem zeroB_at (j : S1x1024.Idx) : k0_pay12 (F := Ideal) j = (0 : EReal) := by
  pointwise [k0_pay12]

/-- What the run leaves in the scale's gradient. -/
theorem final_ds (c : Dev nD) : (dats m 0 c).arrAt 7 cfg0.N = ds (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 7 _ (by decide +kernel) fun t hf y => ?_
  blk_simp
  rw [after0_7, Pipeline.eq_sum_fin_of_reset_step_apply_of_flush (fun n h => (outsAt0 m c n h).2.2.1) 16 (fun _ => 0)
    (fun t : Fin cfg0.N => fun j => partS (iblk m c 2 t) (iblk m c 0 t) (iblk m c 1 t) (iblk m c 3 t) j)
    (fun t h j => by rw [outsAt0_A m c t h]; frame_out; rw [stepS_at, zeroS_at])
    (fun t h j => by rw [outsAt0_B m c t h]; frame_out; rw [stepS_at]) t ((flush0_7 t).mp hf) _, zero_add]
  pointwise [ds]
  unfold partS through
  refine Fin.sum_mul_add_congr fun s k hl' => ?_
  refine congrArg₂ (fun a b : EReal => a * b) (congrArg₂ (fun a b : EReal => a * b) ?_ (congrArg₂ (fun a b : EReal => a * b) ?_ (congrArg Ideal.logistic ?_))) (congrArg₂ (fun a b : EReal => a + b) ?_ ?_) <;>
    blk_point [iblk, V, idx t, idx ⟨_, Pipeline.run_point_lt_of_flush t ((flush0_7 t).mp hf) s⟩]

/-- What the run leaves in the bias's gradient. -/
theorem final_db (c : Dev nD) : (dats m 0 c).arrAt 8 cfg0.N = db (m ((c.tc : Thread nD τ).loc main_arg0)) (m ((c.tc : Thread nD τ).loc main_arg2)) (m ((c.tc : Thread nD τ).loc main_arg4)) := by
  refine (dats m 0 c).arrAt_eq_of_covers 8 _ (by decide +kernel) fun t hf y => ?_
  blk_simp
  rw [after0_8, Pipeline.eq_sum_fin_of_reset_step_apply_of_flush (fun n h => (outsAt0 m c n h).2.2.2) 16 (fun _ => 0)
    (fun t : Fin cfg0.N => fun j => partB (iblk m c 2 t) (iblk m c 0 t) (iblk m c 4 t) j)
    (fun t h j => by rw [outsAt0_A m c t h]; frame_out; rw [stepB_at, zeroB_at])
    (fun t h j => by rw [outsAt0_B m c t h]; frame_out; rw [stepB_at]) t ((flush0_8 t).mp hf) _, zero_add]
  pointwise [db]
  unfold partB through
  refine Fin.sum_mul_add_congr fun s k hl' => ?_
  refine congrArg₂ (fun a b : EReal => a * b) (congrArg₂ (fun a b : EReal => a * b) ?_ (congrArg₂ (fun a b : EReal => a * b) ?_ (congrArg Ideal.logistic ?_))) ?_ <;>
    blk_point [iblk, V, idx t, idx ⟨_, Pipeline.run_point_lt_of_flush t ((flush0_8 t).mp hf) s⟩]

end Cert.GateBwd

end
-- ==== Proof.NormMath.lean ====
/- The gradient of a norm over the real numbers, and the norm's operations on real entries. -/
module

public import Idealize.ShloMosaic.Lib.Pointwise

@[expose] public section

noncomputable section

namespace Cert.Norm

open Idealize.ShloMosaic

/-- A sum of real numbers, taken among the extended reals. -/
theorem coe_sum {n : ℕ} (f : Fin n → ℝ) : ((∑ k, f k : ℝ) : EReal) = ∑ k, (f k : EReal) := by
  induction n with
  | zero => simp
  | succ n ih => rw [Fin.sum_univ_castSucc, Fin.sum_univ_castSucc, EReal.coe_add, ih]

/-- The quotient of two real numbers, the second not zero. -/
theorem coe_div (a b : ℝ) (hb : b ≠ 0) : Ideal.div (a : EReal) (b : EReal) = ((a / b : ℝ) : EReal) := by
  unfold Ideal.div
  rw [if_neg (by exact_mod_cast hb), div_eq_mul_inv, EReal.coe_mul, EReal.coe_inv]

/-- The reciprocal root of a positive number. -/
theorem coe_rsqrt (v : ℝ) (hv : 0 < v) : Ideal.rsqrt (v : EReal) = (((Real.sqrt v)⁻¹ : ℝ) : EReal) := by
  rw [Ideal.rsqrt_coe, if_neg (not_lt.mpr hv.le), if_neg hv.ne']

/-- The mean square of a row and the small number beside it. -/
def ms {n : ℕ} (c e : ℝ) (x : Fin n → ℝ) : ℝ := (∑ k, x k * x k) / c + e

theorem ms_pos {n : ℕ} (c e : ℝ) (x : Fin n → ℝ) (hc : 0 < c) (he : 0 < e) : 0 < ms c e x := by
  have : 0 ≤ ∑ k, x k * x k := Finset.sum_nonneg fun k _ => mul_self_nonneg _
  have := div_nonneg this hc.le
  unfold ms; linarith

/-- The reciprocal root mean square of a row. -/
def inv {n : ℕ} (c e : ℝ) (x : Fin n → ℝ) : ℝ := (Real.sqrt (ms c e x))⁻¹

/-- The reciprocal root mean square squared times the mean square is one. -/
theorem inv_sq {n : ℕ} (c e : ℝ) (x : Fin n → ℝ) (hc : 0 < c) (he : 0 < e) : inv c e x * inv c e x * ms c e x = 1 := by
  have h := ms_pos c e x hc he
  have hs := Real.sqrt_pos.mpr h
  unfold inv
  rw [← mul_inv, Real.mul_self_sqrt h.le, inv_mul_cancel₀ h.ne']

/-- The gradient of the norm at one entry: the direct term, and through the mean square. -/
def grad {n : ℕ} (c e : ℝ) (x d : Fin n → ℝ) (j : Fin n) : ℝ :=
  inv c e x * (d j - x j * inv c e x * ((∑ k, d k * (x k * inv c e x)) / c))

/-- The gradient of the norm as the sum of the direct term and the two equal terms through the mean square. -/
theorem grad_eq {n : ℕ} (c e : ℝ) (x d : Fin n → ℝ) (j : Fin n) (hc : 0 < c) (he : 0 < e) (t : ℝ)
    (ht : t = (∑ k, x k * d k) * (-(1 / 2) * (inv c e x / ms c e x)) / c) : grad c e x d j = d j * inv c e x + (t * x j + x j * t) := by
  have h := inv_sq c e x hc he
  have hm := (ms_pos c e x hc he).ne'
  have hs : ∑ k, d k * (x k * inv c e x) = (∑ k, x k * d k) * inv c e x := by
    rw [Finset.sum_mul]; exact Finset.sum_congr rfl fun k _ => by ring
  have hr : inv c e x / ms c e x = inv c e x * inv c e x * inv c e x := by
    rw [div_eq_iff hm]; linear_combination (-(inv c e x)) * h
  subst ht
  unfold grad
  rw [hs, hr]
  ring

/-- The number of entries of a row, and the small number beside the mean square. -/
abbrev C : EReal := Ideal.ofBits .f32 0x45800000#32
abbrev E : EReal := Ideal.ofBits .f32 0x358637BD#32

/-- The row's length is 4096. -/
theorem C_eq : C = ((4096 : ℝ) : EReal) := by
  simp [C, Ideal.ofBits, Ideal.ieee, zpow_neg]
  rw [← EReal.coe_mul]
  norm_num

/-- The small number is a positive real number. -/
theorem E_eq : ∃ e : ℝ, 0 < e ∧ E = (e : EReal) := by
  refine ⟨(2 ^ 23 + 407485 : ℕ) * (2 : ℝ) ^ (-43 : ℤ), by positivity, ?_⟩
  simp [E, Ideal.ofBits, Ideal.ieee]

/-- The word of minus one half. -/
theorem half_eq : Ideal.ofBits .f32 0xBF000000#32 = ((-(1 / 2) : ℝ) : EReal) := by
  simp [Ideal.ofBits, Ideal.ieee, zpow_neg]
  rw [← EReal.coe_mul]
  norm_num

/-- The mean square of a row with the small number, as the programs compute it. -/
def V {n : ℕ} (x : Fin n → EReal) : EReal := Ideal.div (∑ k, x k * x k) C + E

/-- The reciprocal root mean square, as the programs compute it. -/
def R {n : ℕ} (x : Fin n → EReal) : EReal := Ideal.rsqrt (V x)

/-- The gradient of the norm at one entry, as the kernels compute it. -/
def kgrad {n : ℕ} (x d : Fin n → EReal) (j : Fin n) : EReal :=
  R x * (d j - x j * R x * Ideal.div (∑ k, d k * (x k * R x)) C)

/-- What the derivative hands to the row through the mean square. -/
def through {n : ℕ} (x d : Fin n → EReal) : EReal :=
  Ideal.div ((∑ k, x k * d k) * (Ideal.ofBits .f32 0xBF000000#32 * Ideal.div (R x) (V x))) C

/-- On real entries the mean square is a positive real number and the reciprocal root is one. -/
theorem real_row {n : ℕ} (x : Fin n → ℝ) : ∃ e : ℝ, 0 < e ∧ V (fun k => (x k : EReal)) = (ms 4096 e x : ℝ) ∧ R (fun k => (x k : EReal)) = (inv 4096 e x : ℝ) := by
  obtain ⟨e, he, hE⟩ := E_eq
  have hV : V (fun k => (x k : EReal)) = (ms 4096 e x : ℝ) := by
    unfold V ms
    rw [C_eq, hE, EReal.coe_add, ← coe_div _ _ (by norm_num), coe_sum]
    simp only [EReal.coe_mul]
  exact ⟨e, he, hV, by unfold R inv; rw [hV, coe_rsqrt _ (ms_pos _ _ _ (by norm_num) he)]⟩

/-- On real entries the kernels' gradient is the sum of the direct term and the two terms through the mean square. -/
theorem kgrad_eq_real {n : ℕ} (x d : Fin n → ℝ) (j : Fin n) :
    kgrad (fun k => (x k : EReal)) (fun k => (d k : EReal)) j
      = (d j : EReal) * R (fun k => (x k : EReal)) + (through (fun k => (x k : EReal)) (fun k => (d k : EReal)) * (x j : EReal) + (x j : EReal) * through (fun k => (x k : EReal)) (fun k => (d k : EReal))) := by
  obtain ⟨e, he, hV, hR⟩ := real_row x
  have ht : through (fun k => (x k : EReal)) (fun k => (d k : EReal)) = (((∑ k, x k * d k) * (-(1 / 2) * (inv 4096 e x / ms 4096 e x)) / 4096 : ℝ) : EReal) := by
    unfold through
    rw [hV, hR, coe_div _ _ (ms_pos _ _ _ (by norm_num) he).ne', half_eq, C_eq]
    simp only [← EReal.coe_mul, ← coe_sum]
    rw [coe_div _ _ (by norm_num)]
  have hk : kgrad (fun k => (x k : EReal)) (fun k => (d k : EReal)) j = (grad 4096 e x d j : ℝ) := by
    unfold kgrad grad
    rw [hR, C_eq]
    simp only [← EReal.coe_mul, ← coe_sum]
    rw [coe_div _ _ (by norm_num)]
    simp only [← EReal.coe_mul, ← EReal.coe_sub]
  rw [hk, ht, hR, grad_eq 4096 e x d j (by norm_num) he _ rfl]
  simp only [← EReal.coe_mul, ← EReal.coe_add]

/-- A row of entries that are neither infinity is a row of real numbers. -/
theorem lift {n : ℕ} (x : Fin n → EReal) (h : ∀ k, x k ≠ ⊤ ∧ x k ≠ ⊥) : ∃ y : Fin n → ℝ, x = fun k => (y k : EReal) :=
  ⟨fun k => (x k).toReal, funext fun k => (EReal.coe_toReal (h k).1 (h k).2).symm⟩

/-- The product of two real numbers is neither infinity. -/
theorem mul_ne (a b : EReal) (ha : a ≠ ⊤ ∧ a ≠ ⊥) (hb : b ≠ ⊤ ∧ b ≠ ⊥) : a * b ≠ ⊤ ∧ a * b ≠ ⊥ := by
  lift a to ℝ using ha
  lift b to ℝ using hb
  rw [← EReal.coe_mul]
  exact ⟨EReal.coe_ne_top _, EReal.coe_ne_bot _⟩

/-- On entries that are neither infinity the kernels' gradient is the sum of the direct term and the two terms through the mean square. -/
theorem kgrad_eq {n : ℕ} (x d : Fin n → EReal) (j : Fin n) (hx : ∀ k, x k ≠ ⊤ ∧ x k ≠ ⊥) (hd : ∀ k, d k ≠ ⊤ ∧ d k ≠ ⊥) :
    kgrad x d j = d j * R x + (through x d * x j + x j * through x d) := by
  obtain ⟨y, rfl⟩ := lift x hx
  obtain ⟨w, rfl⟩ := lift d hd
  exact kgrad_eq_real y w j

/-- The kernels' gradient of real entries is neither infinity. -/
theorem kgrad_ne {n : ℕ} (x d : Fin n → EReal) (j : Fin n) (hx : ∀ k, x k ≠ ⊤ ∧ x k ≠ ⊥) (hd : ∀ k, d k ≠ ⊤ ∧ d k ≠ ⊥) :
    kgrad x d j ≠ ⊤ ∧ kgrad x d j ≠ ⊥ := by
  obtain ⟨y, rfl⟩ := lift x hx
  obtain ⟨w, rfl⟩ := lift d hd
  obtain ⟨e, he, hV, hR⟩ := real_row y
  unfold kgrad
  rw [hR, C_eq]
  simp only [← EReal.coe_mul, ← coe_sum]
  rw [coe_div _ _ (by norm_num)]
  simp only [← EReal.coe_mul, ← EReal.coe_sub]
  exact ⟨EReal.coe_ne_top _, EReal.coe_ne_bot _⟩

end Cert.Norm

end
-- ==== Proof.NormFinite.lean ====
/- Which of the norm's values are numbers. -/
module

public import proofs.«01_k».proof.Proof.NormMath

@[expose] public section

noncomputable section

namespace Cert.Norm

open Idealize.ShloMosaic

/-- The sum of two real numbers is neither infinity. -/
theorem add_ne (a b : EReal) (ha : a ≠ ⊤ ∧ a ≠ ⊥) (hb : b ≠ ⊤ ∧ b ≠ ⊥) : a + b ≠ ⊤ ∧ a + b ≠ ⊥ := by
  lift a to ℝ using ha
  lift b to ℝ using hb
  rw [← EReal.coe_add]
  exact ⟨EReal.coe_ne_top _, EReal.coe_ne_bot _⟩

/-- The difference of two real numbers is neither infinity. -/
theorem sub_ne (a b : EReal) (ha : a ≠ ⊤ ∧ a ≠ ⊥) (hb : b ≠ ⊤ ∧ b ≠ ⊥) : a - b ≠ ⊤ ∧ a - b ≠ ⊥ := by
  lift a to ℝ using ha
  lift b to ℝ using hb
  rw [← EReal.coe_sub]
  exact ⟨EReal.coe_ne_top _, EReal.coe_ne_bot _⟩

/-- The reciprocal root of a real row's mean square is neither infinity. -/
theorem R_ne {n : ℕ} (x : Fin n → EReal) (hx : ∀ k, x k ≠ ⊤ ∧ x k ≠ ⊥) : R x ≠ ⊤ ∧ R x ≠ ⊥ := by
  obtain ⟨y, rfl⟩ := lift x hx
  obtain ⟨e, he, hV, hR⟩ := real_row y
  rw [hR]
  exact ⟨EReal.coe_ne_top _, EReal.coe_ne_bot _⟩

/-- The word of two to the minus twelve. -/
theorem mean_eq : Ideal.ofBits .f32 0x39800000#32 = ((1 / 4096 : ℝ) : EReal) := by
  simp [Ideal.ofBits, Ideal.ieee, zpow_neg]
  rw [← EReal.coe_mul]
  norm_num

/-- Half the mean of a square has the derivative that the kernel scales the error by. -/
theorem half_mean (e : EReal) :
    Ideal.div (Ideal.ofBits .f32 0x3F000000#32 * Ideal.ofBits .f32 0x3F800000#32) C * (Ideal.ofBits .f32 0x40000000#32 * e) = e * Ideal.ofBits .f32 0x39800000#32 := by
  have h1 : Ideal.ofBits .f32 0x3F000000#32 = ((1 / 2 : ℝ) : EReal) := by
    simp [Ideal.ofBits, Ideal.ieee, zpow_neg]; rw [← EReal.coe_mul]; norm_num
  have h2 : Ideal.ofBits .f32 0x3F800000#32 = ((1 : ℝ) : EReal) := by
    simp [Ideal.ofBits, Ideal.ieee, zpow_neg]; rw [← EReal.coe_mul]; norm_num
  have h3 : Ideal.ofBits .f32 0x40000000#32 = ((2 : ℝ) : EReal) := by
    simp [Ideal.ofBits, Ideal.ieee, zpow_neg]; rw [← EReal.coe_mul]; norm_num
  rw [h1, h2, h3, C_eq, mean_eq, ← EReal.coe_mul, coe_div _ _ (by norm_num), ← mul_assoc, ← EReal.coe_mul, mul_comm e]
  norm_num

/-- A half times one. -/
theorem half_one : Ideal.ofBits .f32 0x3F000000#32 * Ideal.ofBits .f32 0x3F800000#32 = Ideal.ofBits .f32 0x3F000000#32 := by
  have h2 : Ideal.ofBits .f32 0x3F800000#32 = ((1 : ℝ) : EReal) := by
    simp [Ideal.ofBits, Ideal.ieee, zpow_neg]; rw [← EReal.coe_mul]; norm_num
  rw [h2, EReal.coe_one, mul_one]

end Cert.Norm

end
-- ==== Proof.GateBwdRef.lean ====
/- The reference's gradient of mixer B's gate is the kernel's. -/
module

public import proofs.«01_k».proof.Proof.Gen.Reference2Ideal.Run
public import proofs.«01_k».proof.Proof.GateBwd
public import proofs.«01_k».proof.Proof.NormFinite

@[expose] public section

set_option maxRecDepth 16384

noncomputable section

namespace Cert.GateBwd

open Cert.Reference2Ideal Cert.Reference2Ideal.Gen Idealize.ShloMosaic Idealize.ShloMosaic.TcCoe Idealize.ShloMosaic.Pointwise Idealize.SL.Sem

variable (m : (ℓ : Loc nD τ sig) → Buf (Elt Ideal) ℓ)

/-- The gate's columns of the projection. -/
def zs (p : FVec Ideal S4096x16384 .bf16) : FVec Ideal S4096x8192 .f32 := extf .f32 (extractStridedSlice S4096x8192 ![0, 8192] p slices_S4096x16384_S4096x8192_0_8192) bitsLt_bf16_f32

/-- The array of ones. -/
def ones : FVec Ideal S4096x8192 .f32 := broadcastInDim S4096x8192 ![] bcast_S_S4096x8192 (constant S_ .f32 0x3F800000#32)

/-- The logistic function, as the reference computes it. -/
def sigm (p : FVec Ideal S4096x16384 .bf16) : FVec Ideal S4096x8192 .f32 := Host.divf ones (addf ones (Host.exp (Host.negf (zs p))))

/-- A row of numbers, repeated in every row. -/
def rows (b : FVec Ideal S1x8192 .f32) : FVec Ideal S4096x8192 .f32 :=
  broadcastInDim S4096x8192 ![0, 1] bcast_S1x8192_S4096x8192_0_1 (broadcastInDim S1x8192 ![1] bcast_S8192_S1x8192_1 (shapeCast _ b shapeCasts_S1x8192_S8192))

/-- The mixed value with its bias. -/
def biased (q : FVec Ideal S4096x8192 .bf16) (b : FVec Ideal S1x8192 .f32) : FVec Ideal S4096x8192 .f32 := addf (extf .f32 q bitsLt_bf16_f32) (rows b)

/-- The incoming gradient times the gate's factor. -/
def dmix (dy : FVec Ideal S4096x8192 .bf16) (p : FVec Ideal S4096x16384 .bf16) : FVec Ideal S4096x8192 .f32 := mulf (extf .f32 dy bitsLt_bf16_f32) (mulf (zs p) (sigm p))

/-- The sum over the rows. -/
def rowSum (x : FVec Ideal S4096x8192 .f32) : FVec Ideal S1x8192 .f32 :=
  broadcastInDim S1x8192 ![1] bcast_S8192_S1x8192_1 (Host.reduceAdd (shapeCast _ (Host.reduceAdd x (constant S_ .f32 0x00000000#32) reducesTo_S4096x8192_S8192_d0 h_S_) shapeCasts_S8192_S1x8192) (constant S_ .f32 0x00000000#32) reducesTo_S1x8192_S8192_d0 h_S_)

/-- The gradient of the gate's factor. -/
def dfac (dy q : FVec Ideal S4096x8192 .bf16) (b s : FVec Ideal S1x8192 .f32) : FVec Ideal S4096x8192 .f32 := mulf (mulf (biased q b) (rows s)) (extf .f32 dy bitsLt_bf16_f32)

/-- The gradient of the gate's columns. -/
def dz (dy q : FVec Ideal S4096x8192 .bf16) (p : FVec Ideal S4096x16384 .bf16) (b s : FVec Ideal S1x8192 .f32) : FVec Ideal S4096x8192 .f32 :=
  addf (mulf (dfac dy q b s) (sigm p)) (mulf (mulf (zs p) (dfac dy q b s)) (mulf (sigm p) (subf ones (sigm p))))

/-- The reference's first result. -/
def refDq (dy : FVec Ideal S4096x8192 .bf16) (p : FVec Ideal S4096x16384 .bf16) (s : FVec Ideal S1x8192 .f32) : FVec Ideal S4096x8192 .bf16 := truncf .bf16 (mulf (dmix dy p) (rows s)) bitsLt_bf16_f32

/-- The reference's second result. -/
def refDp (dy q : FVec Ideal S4096x8192 .bf16) (p : FVec Ideal S4096x16384 .bf16) (b s : FVec Ideal S1x8192 .f32) : FVec Ideal S4096x16384 .bf16 :=
  truncf .bf16 (concatenate S4096x16384 1 [⟨S4096x8192, (broadcastInDim S4096x8192 ![] bcast_S_S4096x8192 (constant S_ .f32 0x00000000#32))⟩, ⟨S4096x8192, dz dy q p b s⟩] concatenates_S4096x8192_S4096x8192_S4096x16384_d1) bitsLt_bf16_f32

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem ((c.tc : Thread nD τ).loc main_v28) = refDq (m ((c.tc : Thread nD τ).loc main_arg0)) (m ((c.tc : Thread nD τ).loc main_arg2)) (m ((c.tc : Thread nD τ).loc main_arg4))
      ∧ r.2.mem ((c.tc : Thread nD τ).loc main_v29) = refDp (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_v30) = rowSum (mulf (biased (m ((c.tc : Thread nD τ).loc main_arg1)) (m ((c.tc : Thread nD τ).loc main_arg3))) (dmix (m ((c.tc : Thread nD τ).loc main_arg0)) (m ((c.tc : Thread nD τ).loc main_arg2))))
      ∧ r.2.mem ((c.tc : Thread nD τ).loc main_v31) = rowSum (mulf (dmix (m ((c.tc : Thread nD τ).loc main_arg0)) (m ((c.tc : Thread nD τ).loc main_arg2))) (rows (m ((c.tc : Thread nD τ).loc main_arg4))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by rfl), (h c).2.1.trans (by rfl), (h c).2.2.1.trans (by rfl), (h c).2.2.2.1.trans (by rfl), (h c).2.2.2.2⟩) (Value.run m ρ)

/-- The gate's column at an entry. -/
theorem zs_at (p : FVec Ideal S4096x16384 .bf16) (r : Fin 4096) (k : Fin 8192) : (zs p (ix2 r k) : EReal) = p (ix2 r ⟨8192 + k.val, Nat.add_lt_add_left k.isLt 8192⟩) := by
  pointwise [zs]
  first | rfl | blk_ext | skip

/-- The logistic function at an entry. -/
theorem sigm_at (p : FVec Ideal S4096x16384 .bf16) (r : Fin 4096) (k : Fin 8192) : (sigm p (ix2 r k) : EReal) = Ideal.logistic (p (ix2 r ⟨8192 + k.val, Nat.add_lt_add_left k.isLt 8192⟩)) := by
  rw [← zs_at p r k]
  pointwise [sigm, ones]
  rfl

/-- The repeated row at an entry. -/
theorem rows_at (b : FVec Ideal S1x8192 .f32) (r : Fin 4096) (k : Fin 8192) : (rows b (ix2 r k) : EReal) = b (ix2 0 k) := by
  pointwise [rows]

/-- The incoming gradient through the gate's factor at an entry. -/
theorem dmix_at (dy : FVec Ideal S4096x8192 .bf16) (p : FVec Ideal S4096x16384 .bf16) (r : Fin 4096) (k : Fin 8192) : (dmix dy p (ix2 r k) : EReal) = through dy p r k := by
  pointwise [dmix, through]
  rw [zs_at, sigm_at]

/-- The mixed value with its bias at an entry. -/
theorem biased_at (q : FVec Ideal S4096x8192 .bf16) (b : FVec Ideal S1x8192 .f32) (r : Fin 4096) (k : Fin 8192) : (biased q b (ix2 r k) : EReal) = (q (ix2 r k) : EReal) + (b (ix2 0 k) : EReal) := by
  pointwise [biased]
  rw [rows_at]

/-- The sum over the rows at an entry. -/
theorem rowSum_at (x : FVec Ideal S4096x8192 .f32) (z : Fin 1) (k : Fin 8192) : (rowSum x (ix2 z k) : EReal) = ∑ i : Fin 4096, (x (ix2 i k) : EReal) := by
  pointwise [rowSum, Fin.sum_univ_one]

/-- The first results agree. -/
theorem refDq_eq (dy : FVec Ideal S4096x8192 .bf16) (p : FVec Ideal S4096x16384 .bf16) (s : FVec Ideal S1x8192 .f32) : refDq dy p s = dq dy p s := by
  funext j
  obtain ⟨r, k, rfl⟩ : ∃ (r : Fin 4096) (k : Fin 8192), j = ix2 r k := ⟨j 0, j 1, by funext a; fin_cases a <;> rfl⟩
  pointwise [refDq]
  rw [dmix_at, rows_at]
  rfl

/-- The gradients of the scale agree. -/
theorem refDs_eq (dy q : FVec Ideal S4096x8192 .bf16) (p : FVec Ideal S4096x16384 .bf16) (b : FVec Ideal S1x8192 .f32) : rowSum (mulf (biased q b) (dmix dy p)) = ds dy q p b := by
  funext j
  obtain ⟨z, k, rfl⟩ : ∃ (z : Fin 1) (k : Fin 8192), j = ix2 z k := ⟨j 0, j 1, by funext a; fin_cases a <;> rfl⟩
  refine (rowSum_at _ z k).trans (Finset.sum_congr rfl fun i _ => ?_)
  exact (congrArg₂ (fun a b : EReal => a * b) (biased_at q b i k) (dmix_at dy p i k)).trans (mul_comm _ _)

/-- The gradients of the bias agree. -/
theorem refDb_eq (dy : FVec Ideal S4096x8192 .bf16) (p : FVec Ideal S4096x16384 .bf16) (s : FVec Ideal S1x8192 .f32) : rowSum (mulf (dmix dy p) (rows s)) = db dy p s := by
  funext j
  obtain ⟨z, k, rfl⟩ : ∃ (z : Fin 1) (k : Fin 8192), j = ix2 z k := ⟨j 0, j 1, by funext a; fin_cases a <;> rfl⟩
  refine (rowSum_at _ z k).trans (Finset.sum_congr rfl fun i _ => ?_)
  exact congrArg₂ (fun a b : EReal => a * b) (dmix_at dy p i k) (rows_at s i k)

/-- The two ways of writing the derivative of `silu` agree for a gradient that is a number. -/
theorem dsilu_eq (a z : EReal) (ha : a ≠ ⊤ ∧ a ≠ ⊥) : a * Ideal.logistic z + z * a * (Ideal.logistic z * (1 - Ideal.logistic z)) = dsilu a z := by
  unfold dsilu
  lift a to ℝ using ⟨ha.1, ha.2⟩
  induction z using EReal.rec with
  | bot => simp [Ideal.logistic_bot]
  | top =>
    have h : (1 : EReal) - 1 = 0 := by rw [← EReal.coe_one, ← EReal.coe_sub, sub_self, EReal.coe_zero]
    rw [Ideal.logistic_top, h]; simp
  | coe x =>
    rw [Ideal.logistic_coe]
    norm_cast
    push_cast
    ring_nf

/-- The gate's columns of the second results agree where the entries read are numbers. -/
theorem refDp_eq (dy q : FVec Ideal S4096x8192 .bf16) (p : FVec Ideal S4096x16384 .bf16) (b s : FVec Ideal S1x8192 .f32)
    (h : ∀ (r : Fin 4096) (k : Fin 8192), (dy (ix2 r k) ≠ (⊤ : EReal) ∧ dy (ix2 r k) ≠ (⊥ : EReal)) ∧ (q (ix2 r k) ≠ (⊤ : EReal) ∧ q (ix2 r k) ≠ (⊥ : EReal)) ∧ (b (ix2 0 k) ≠ (⊤ : EReal) ∧ b (ix2 0 k) ≠ (⊥ : EReal)) ∧ (s (ix2 0 k) ≠ (⊤ : EReal) ∧ s (ix2 0 k) ≠ (⊥ : EReal)))
    (i : S4096x16384.Idx) (hi : 8192 ≤ (i 1).val) : refDp dy q p b s i = dp dy q p b s i := by
  obtain ⟨r, k, rfl⟩ : ∃ (r : Fin 4096) (k : Fin 8192), i = ix2 r ⟨8192 + k.val, Nat.add_lt_add_left k.isLt 8192⟩ :=
    ⟨i 0, ⟨(i 1).val - 8192, by have := (i 1).isLt; dsimp at this; omega⟩, by
      funext a; fin_cases a
      · rfl
      · exact Fin.ext (show (i 1).val = 8192 + ((i 1).val - 8192) by omega)⟩
  obtain ⟨h1, h2, h3, h4⟩ := h r k
  have e : (refDp dy q p b s (ix2 r ⟨8192 + k.val, Nat.add_lt_add_left k.isLt 8192⟩) : EReal) = dz dy q p b s (ix2 r k) := by
    pointwise [refDp]
  rw [e]
  have e2 : (dz dy q p b s (ix2 r k) : EReal) = dsilu (((q (ix2 r k) : EReal) + (b (ix2 0 k) : EReal)) * (s (ix2 0 k) : EReal) * (dy (ix2 r k) : EReal)) (p (ix2 r ⟨8192 + k.val, Nat.add_lt_add_left k.isLt 8192⟩)) := by
    rw [← dsilu_eq _ _ (Norm.mul_ne _ _ (Norm.mul_ne _ _ (Norm.add_ne _ _ h2 h3) h4) h1)]
    pointwise [dz, dfac, ones]
    rw [zs_at, sigm_at, biased_at, rows_at]
  rw [e2, mul_comm _ (dy (ix2 r k) : EReal)]
  have hk : (⟨8192 + k.val - 8192, by omega⟩ : Fin 8192) = k := Fin.ext (by simp)
  show _ = dsilu ((dy (ix2 r (⟨8192 + k.val - 8192, by omega⟩ : Fin 8192)) : EReal) * (((q (ix2 r (⟨8192 + k.val - 8192, by omega⟩ : Fin 8192)) : EReal) + (b (ix2 0 (⟨8192 + k.val - 8192, by omega⟩ : Fin 8192)) : EReal)) * (s (ix2 0 (⟨8192 + k.val - 8192, by omega⟩ : Fin 8192)) : EReal))) (p (ix2 r ⟨8192 + k.val, Nat.add_lt_add_left k.isLt 8192⟩))
  rw [hk]

end Cert.GateBwd

end
-- ==== Proof.GateBwdClaim.lean ====
/- The gate's gradient's run and the reference's leave the same arrays. -/
module

public import proofs.«01_k».proof.Defs
public import proofs.«01_k».proof.Proof.GateBwdRef
public import proofs.«01_k».proof.Proof.Finite
public import Idealize.ShloMosaic.Lib.Claim

@[expose] public section

set_option maxRecDepth 200000

noncomputable section

namespace Cert.GateBwdClaim

open Idealize.ShloMosaic Idealize.ShloMosaic.Pointwise Idealize.SL.Sem

/-- The precondition's shape facts. -/
instance preFacts : Cert.Pre_gate_bwd_finite.Facts where
  bitsLt_bf16_f32 := by decide
  bcast_S_S4096x8192 := by decide
  bcast_S_S1x8192 := by decide
  bcast_S1x8192_S4096x8192_0_1 := by decide

/-- The shape facts of the mask of the entries compared. -/
instance onFacts : Cert.On_z_columns.Facts where
  bcast_S_S4096x8192 := by decide
  bcast_S_S4096x16384 := by decide
  bcast_S_S1x8192 := by decide

/-- Where the precondition holds, the entries that multiply the gate are numbers. -/
theorem ne_of_pre (dy q : FVec Ideal ⟨2, ![4096, 8192]⟩ .bf16) (p : FVec Ideal ⟨2, ![4096, 16384]⟩ .bf16) (b s : FVec Ideal ⟨2, ![1, 8192]⟩ .f32)
    (h : Cert.Pre_gate_bwd_finite.fn (F := Ideal) dy q p b s = fun _ => 1#1) (r : Fin 4096) (k : Fin 8192) :
    (dy (ix2 r k) ≠ (⊤ : EReal) ∧ dy (ix2 r k) ≠ (⊥ : EReal)) ∧ (q (ix2 r k) ≠ (⊤ : EReal) ∧ q (ix2 r k) ≠ (⊥ : EReal)) ∧ (b (ix2 0 k) ≠ (⊤ : EReal) ∧ b (ix2 0 k) ≠ (⊥ : EReal)) ∧ (s (ix2 0 k) ≠ (⊤ : EReal) ∧ s (ix2 0 k) ≠ (⊥ : EReal)) := by
  have h1 := congrFun h (ix2 r k)
  revert h1
  pointwise [Cert.Pre_gate_bwd_finite.fn]
  intro h1
  obtain ⟨h2, h3⟩ := Finite.both _ _ h1
  obtain ⟨h4, h5⟩ := Finite.both _ _ h2
  obtain ⟨h6, h7⟩ := Finite.both _ _ h4
  exact ⟨Finite.ne_of_abs_lt _ h6, Finite.ne_of_abs_lt _ h7, Finite.ne_of_abs_lt _ h5, Finite.ne_of_abs_lt _ h3⟩

/-- A column below 16384 that compares as at least 8192 is at least 8192. -/
theorem le_of_sge (k : ℕ) (hk : k < 16384) (h : IntOp.cmpi .sge (BitVec.ofNat 32 k) 8192#32 = 1#1) : 8192 ≤ k := by
  by_contra hlt
  have h1 : (BitVec.ofNat 32 k).toInt = k := by
    rw [BitVec.toInt_eq_toNat_of_lt (by simp; omega)]; simp; omega
  have h2 : (8192#32 : BitVec 32).toInt = 8192 := by decide
  simp [IntOp.cmpi, BitVec.sle, h1, h2] at h
  rw [decide_eq_false hlt] at h
  exact absurd h (by decide)

/-- The mask of the second result's entries is its upper half of the columns. -/
theorem cols_of_on (dy q : FVec Ideal ⟨2, ![4096, 8192]⟩ .bf16) (p : FVec Ideal ⟨2, ![4096, 16384]⟩ .bf16) (b s : FVec Ideal ⟨2, ![1, 8192]⟩ .f32)
    (i : (⟨2, ![4096, 16384]⟩ : Shape).Idx) (h : (Cert.On_z_columns.fn (F := Ideal) dy q p b s).2.1 i = 1#1) : 8192 ≤ (i 1).val :=
  le_of_sge (i 1).val (i 1).isLt h

/-- The reference's every execution ends, with nothing left in flight. -/
theorem quiescent : Cert.quiescent_Reference2Ideal := by
  intro m g _
  exact (θ_run _ _ _).mono (fun r h => ⟨fun c => (h c).2.2.2.2, sem_eq_zero_of_no_sems (by decide) _⟩) (Cert.Reference2Ideal.Value.run m g)

set_option maxHeartbeats 1600000 in
/-- What the kernel leaves, result by result. -/
theorem kernel_run (m : (ℓ : Loc Cert.Kernel2Ideal.nD Cert.Kernel2Ideal.τ Cert.Kernel2Ideal.sig) → Buf (Elt Ideal) ℓ) (g : Dev Cert.Kernel2Ideal.nD → PrngReg) :
    θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
      r.2.mem ((c.tc : Thread Cert.Kernel2Ideal.nD Cert.Kernel2Ideal.τ).loc Cert.Kernel2Ideal.main_v0_0) = (Cert.Kernel2Ideal.Gen.dats m 0 c).arrAt 5 Cert.Kernel2Ideal.cfg0.N
      ∧ r.2.mem ((c.tc : Thread Cert.Kernel2Ideal.nD Cert.Kernel2Ideal.τ).loc Cert.Kernel2Ideal.main_v0_1) = (Cert.Kernel2Ideal.Gen.dats m 0 c).arrAt 6 Cert.Kernel2Ideal.cfg0.N
      ∧ r.2.mem ((c.tc : Thread Cert.Kernel2Ideal.nD Cert.Kernel2Ideal.τ).loc Cert.Kernel2Ideal.main_v0_2) = (Cert.Kernel2Ideal.Gen.dats m 0 c).arrAt 7 Cert.Kernel2Ideal.cfg0.N
      ∧ r.2.mem ((c.tc : Thread Cert.Kernel2Ideal.nD Cert.Kernel2Ideal.τ).loc Cert.Kernel2Ideal.main_v0_3) = (Cert.Kernel2Ideal.Gen.dats m 0 c).arrAt 8 Cert.Kernel2Ideal.cfg0.N
      ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
) := by
  run_from Cert.Kernel2Ideal.Gen.run_main m g

set_option maxHeartbeats 1600000 in
/-- The two programs leave the same gradients. -/
theorem same : Cert.algebraic_Kernel2Ideal_Reference2Ideal_on_z_columns_pre_gate_bwd_finite := by
  intro m g m' g' hpre hagree
  refine ⟨fun c => Cert.GateBwd.dq (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4)), fun c => Cert.GateBwd.dp (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)),
    fun c => Cert.GateBwd.ds (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)), fun c => Cert.GateBwd.db (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg4)), ?_, ?_⟩
  · refine (θ_run _ _ _).mono (fun r h c => ?_) (kernel_run m g)
    obtain ⟨h0, h1, h2, h3, h4⟩ := h c
    exact ⟨fun i _ => congrFun (h0.trans (Cert.GateBwd.final_dq m c)) i,
      fun i hi => (congrFun h1 i).trans (Cert.GateBwd.final_dp m c i (cols_of_on _ _ _ _ _ i hi)),
      fun i _ => congrFun (h2.trans (Cert.GateBwd.final_ds m c)) i,
      fun i _ => congrFun (h3.trans (Cert.GateBwd.final_db m c)) i, h4⟩
  · refine (θ_run _ _ _).mono (fun r h c => ?_) (Cert.GateBwd.run m' g')
    obtain ⟨h0, h1, h2, h3, h4⟩ := h c
    obtain ⟨a0, a1, a2, a3, a4⟩ := hagree c
    rw [a0, a2, a4] at h0
    rw [a0, a1, a2, a3, a4] at h1
    rw [a0, a1, a2, a3] at h2
    rw [a0, a2, a4] at h3
    exact ⟨fun i _ => congrFun (h0.trans (Cert.GateBwd.refDq_eq _ _ _)) i,
      fun i hi => (congrFun h1 i).trans (Cert.GateBwd.refDp_eq _ _ _ _ _ (ne_of_pre _ _ _ _ _ (hpre c)) i (cols_of_on _ _ _ _ _ i hi)),
      fun i _ => congrFun (h2.trans (Cert.GateBwd.refDs_eq _ _ _ _)) i,
      fun i _ => congrFun (h3.trans (Cert.GateBwd.refDb_eq _ _ _)) i, h4⟩

end Cert.GateBwdClaim

end
-- ==== Proof.NormRef.lean ====
/- The derivative of a norm as the references state it, part by part and entry by entry. -/
module

public import proofs.«01_k».proof.Proof.Gen.Reference3Ideal.Run
public import proofs.«01_k».proof.Proof.NormMath
public import Idealize.ShloMosaic.Lib.Pipeline.ValueKit
public import Idealize.ShloMosaic.Lib.Claim

@[expose] public section

set_option maxRecDepth 16384

noncomputable section

namespace Cert.NormRef

open Cert.Reference3Ideal Cert.Reference3Ideal.Gen Idealize.ShloMosaic Idealize.ShloMosaic.Pointwise

/-- Every row's mean square and the small number beside it. -/
def meanSq (x : FVec Ideal S4096x4096 .f32) : FVec Ideal S4096x1 .f32 :=
  addf (Host.divf (broadcastInDim S4096x1 ![0] bcast_S4096_S4096x1_0 (Host.reduceAdd (mulf x x) (constant S_ .f32 0x00000000#32) reducesTo_S4096x4096_S4096_d1 h_S_))
    (broadcastInDim S4096x1 ![] bcast_S_S4096x1 (constant S_ .f32 0x45800000#32))) (broadcastInDim S4096x1 ![] bcast_S_S4096x1 (constant S_ .f32 0x358637BD#32))

/-- The gradient that reaches the normed entry: the incoming one times the scale. -/
def scaled (d : FVec Ideal S4096x4096 .f32) (g : FVec Ideal S1x4096 .f32) : FVec Ideal S4096x4096 .f32 :=
  mulf d (broadcastInDim S4096x4096 ![0, 1] bcast_S1x4096_S4096x4096_0_1 (broadcastInDim S1x4096 ![1] bcast_S4096_S1x4096_1 (shapeCast _ g shapeCasts_S1x4096_S4096)))

/-- Every entry times its row's reciprocal root mean square. -/
def direct (x d : FVec Ideal S4096x4096 .f32) : FVec Ideal S4096x4096 .f32 :=
  mulf d (broadcastInDim S4096x4096 ![0, 1] bcast_S4096x1_S4096x4096_0_1 (Host.rsqrt (meanSq x)))

/-- What reaches a row through its mean square. -/
def through (x d : FVec Ideal S4096x4096 .f32) : FVec Ideal S4096x4096 .f32 :=
  broadcastInDim S4096x4096 ![0] bcast_S4096_S4096x4096_0 (Host.reduceAdd (Host.divf (mulf (shapeCast _ (Host.reduceAdd (mulf x d) (constant S_ .f32 0x00000000#32) reducesTo_S4096x4096_S4096_d1 h_S_) shapeCasts_S4096_S4096x1)
    (mulf (broadcastInDim S4096x1 ![] bcast_S_S4096x1 (constant S_ .f32 0xBF000000#32)) (Host.divf (Host.rsqrt (meanSq x)) (meanSq x))))
    (broadcastInDim S4096x1 ![] bcast_S_S4096x1 (constant S_ .f32 0x45800000#32))) (constant S_ .f32 0x00000000#32) reducesTo_S4096x1_S4096_d1 h_S_)

/-- The scale's gradient. -/
def scaleGrad (x d : FVec Ideal S4096x4096 .f32) : FVec Ideal S1x4096 .f32 :=
  broadcastInDim S1x4096 ![1] bcast_S4096_S1x4096_1 (Host.reduceAdd (shapeCast _ (Host.reduceAdd (mulf (direct x x) d) (constant S_ .f32 0x00000000#32) reducesTo_S4096x4096_S4096_d0 h_S_) shapeCasts_S4096_S1x4096) (constant S_ .f32 0x00000000#32) reducesTo_S1x4096_S4096_d0 h_S_)

/-- The mean square at a row. -/
theorem meanSq_at (x : FVec Ideal S4096x4096 .f32) (r : Fin 4096) (z : Fin 1) : (meanSq x (ix2 r z) : EReal) = Cert.Norm.V (fun k : Fin 4096 => x (ix2 r k)) := by
  pointwise [meanSq, Cert.Norm.V]

/-- The scaled gradient at an entry. -/
theorem scaled_at (d : FVec Ideal S4096x4096 .f32) (g : FVec Ideal S1x4096 .f32) (r k : Fin 4096) :
    (scaled d g (ix2 r k) : EReal) = (show EReal from d (ix2 r k)) * (show EReal from g (ix2 0 k)) := by
  pointwise [scaled]

/-- An entry times its row's reciprocal root. -/
theorem direct_at (x d : FVec Ideal S4096x4096 .f32) (r k : Fin 4096) :
    (direct x d (ix2 r k) : EReal) = (show EReal from d (ix2 r k)) * Cert.Norm.R (fun k : Fin 4096 => x (ix2 r k)) := by
  unfold Cert.Norm.R
  rw [← meanSq_at x r 0]
  pointwise [direct]

/-- What comes through the mean square, at a row. -/
theorem through_at (x d : FVec Ideal S4096x4096 .f32) (r k : Fin 4096) :
    (through x d (ix2 r k) : EReal) = Cert.Norm.through (fun k : Fin 4096 => x (ix2 r k)) (fun k : Fin 4096 => d (ix2 r k)) := by
  unfold Cert.Norm.through Cert.Norm.R
  rw [← meanSq_at x r 0]
  pointwise [through]
  exact Fin.sum_univ_one _

/-- The scale's gradient at a column. -/
theorem scaleGrad_at (x d : FVec Ideal S4096x4096 .f32) (z : Fin 1) (k : Fin 4096) :
    (scaleGrad x d (ix2 z k) : EReal) = ∑ i : Fin 4096, (show EReal from d (ix2 i k)) * ((show EReal from x (ix2 i k)) * Cert.Norm.R (fun k : Fin 4096 => x (ix2 i k))) := by
  have h : ∀ i : Fin 4096, (show EReal from d (ix2 i k)) * ((show EReal from x (ix2 i k)) * Cert.Norm.R (fun k : Fin 4096 => x (ix2 i k))) = (show EReal from direct x x (ix2 i k)) * (show EReal from d (ix2 i k)) :=
    fun i => by rw [mul_comm]; exact congrArg (fun q : EReal => q * _) (direct_at x x i k).symm
  rw [Finset.sum_congr rfl fun i _ => h i]
  pointwise [scaleGrad]
  exact Fin.sum_univ_one _

/-- The three terms of the derivative are the kernels' gradient, where the entries are numbers. -/
theorem terms_at (x d : FVec Ideal S4096x4096 .f32) (r k : Fin 4096) (hx : ∀ i, x i ≠ (⊤ : EReal) ∧ x i ≠ (⊥ : EReal)) (hd : ∀ i, d i ≠ (⊤ : EReal) ∧ d i ≠ (⊥ : EReal)) :
    (show EReal from direct x d (ix2 r k)) + ((show EReal from x (ix2 r k)) * (show EReal from through x d (ix2 r k)) + (show EReal from through x d (ix2 r k)) * (show EReal from x (ix2 r k)))
      = Cert.Norm.kgrad (fun k : Fin 4096 => (x (ix2 r k) : EReal)) (fun k : Fin 4096 => (d (ix2 r k) : EReal)) k := by
  rw [Cert.Norm.kgrad_eq _ _ _ (fun k => hx _) (fun k => hd _), add_comm (Cert.Norm.through _ _ * _)]
  exact congrArg₂ (fun a b : EReal => a + ((show EReal from x (ix2 r k)) * b + b * (show EReal from x (ix2 r k)))) (direct_at x d r k) (through_at x d r k)

end Cert.NormRef

end
-- ==== Proof.First.lean ====
/- The gradient of the first norm with the residual, block by block, and of the norm's scale. -/
module

public import proofs.«01_k».proof.Proof.Gen.Kernel3Ideal.Frame
public import proofs.«01_k».proof.Proof.NormMath
public import Idealize.ShloMosaic.Lib.Pipeline.ValueKit
public import Idealize.ShloMosaic.Lib.Pipeline.ReadBack

@[expose] public section

set_option maxRecDepth 16384

noncomputable section

namespace Cert.First

open Cert.Kernel3Ideal Cert.Kernel3Ideal.Gen Idealize.ShloMosaic Idealize.ShloMosaic.TcCoe Idealize.ShloMosaic.Pointwise Idealize.SL.Sem Cert.Kernel3Ideal.Facts

variable (m : (ℓ : Loc nD τ sig) → Buf (Elt Ideal) ℓ)

/-- The blocks' indices at a grid point. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![0, 0])

/-- The gradient at every entry: the residual's, and the norm's. -/
def dx (dres dh x : FVec Ideal ⟨2, ![4096, 4096]⟩ .f32) (g : FVec Ideal ⟨2, ![1, 4096]⟩ .f32) : FVec Ideal ⟨2, ![4096, 4096]⟩ .f32 := fun j =>
  (show EReal from dres j) + Cert.Norm.kgrad (fun k : Fin 4096 => x (ix2 (j 0) k)) (fun k : Fin 4096 => (show EReal from dh (ix2 (j 0) k)) * (show EReal from g (ix2 0 k))) (j 1)

/-- The gradient of the scale: over all rows, the incoming gradient times the normed entry. -/
def dg (dh x : FVec Ideal ⟨2, ![4096, 4096]⟩ .f32) : FVec Ideal ⟨2, ![1, 4096]⟩ .f32 := fun j =>
  ∑ i : Fin 4096, (show EReal from dh (ix2 i (j 1))) * ((show EReal from x (ix2 i (j 1))) * Cert.Norm.R (fun k : Fin 4096 => x (ix2 i k)))

/-- The first result's contents after a point, in both cases. -/
theorem out_at (c : Dev nD) (t : Fin cfg0.N) : (outsAt0 m c t.val t.isLt).1 = k0_pay3 (F := Ideal) (iblk m c 1 t) (iblk m c 2 t) (iblk m c 3 t) (iblk m c 0 t) := by
  by_cases h : t.val % 32 = 0
  · rw [outsAt0_A m c t h]; frame_out
  · rw [outsAt0_B m c t h]; frame_out

/-- What the run leaves in the first result. -/
theorem final_dx (c : Dev nD) : (dats m 0 c).arrAt 4 cfg0.N = dx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp; rw [after0_4, out_at]
  pointwise [k0_pay3, k0_pay2, k0_pay1, dx, Cert.Norm.kgrad, Cert.Norm.R, Cert.Norm.V]
  blk_point [iblk, V, idx t]

/-- A point's part of the scale's gradient. -/
def part (dh x : Vec Ideal S128x4096 .f32) (j : S1x4096.Idx) : EReal :=
  ∑ i : Fin 128, (show EReal from dh (ix2 i (j 1))) * ((show EReal from x (ix2 i (j 1))) * Cert.Norm.R (fun k : Fin 4096 => x (ix2 i k)))

/-- A point adds its part. -/
theorem step_at (dh x : Vec Ideal S128x4096 .f32) (a : Vec Ideal S1x4096 .f32) (j : S1x4096.Idx) : k0_pay5 (F := Ideal) dh x a j = a j + part dh x j := by
  pointwise [k0_pay5, k0_pay2, k0_pay1, part, Cert.Norm.R, Cert.Norm.V]

/-- The first point starts from zero. -/
theorem zero_at (j : S1x4096.Idx) : k0_pay4 (F := Ideal) j = (0 : EReal) := by
  pointwise [k0_pay4]

/-- What the run leaves in the second result. -/
theorem final_dg (c : Dev nD) : (dats m 0 c).arrAt 5 cfg0.N = dg (m ((c.tc : Thread nD τ).loc main_arg1)) (m ((c.tc : Thread nD τ).loc main_arg2)) := by
  refine (dats m 0 c).arrAt_eq_of_covers 5 _ (by decide +kernel) fun t hf y => ?_
  blk_simp
  rw [after0_5, Pipeline.eq_sum_fin_of_reset_step_apply_of_flush (fun n h => (outsAt0 m c n h).2) 32 (fun _ => 0)
    (fun t : Fin cfg0.N => fun j => part (iblk m c 1 t) (iblk m c 2 t) j)
    (fun t h j => by rw [outsAt0_A m c t h]; frame_out; rw [step_at, zero_at])
    (fun t h j => by rw [outsAt0_B m c t h]; frame_out; rw [step_at]) t ((flush0_5 t).mp hf) _, zero_add]
  pointwise [dg]
  unfold part
  refine Fin.sum_mul_add_congr fun s k hl' => ?_
  refine congrArg₂ (fun a b : EReal => a * b) ?_ (congrArg₂ (fun a b : EReal => a * b) ?_ (congrArg Cert.Norm.R (funext fun l => ?_))) <;>
    blk_point [iblk, V, idx t, idx ⟨_, Pipeline.run_point_lt_of_flush t ((flush0_5 t).mp hf) s⟩]

end Cert.First

end
-- ==== Proof.FirstRef.lean ====
/- The reference's gradients of the first norm are the kernel's. -/
module

public import proofs.«01_k».proof.Proof.NormRef
public import proofs.«01_k».proof.Proof.First

@[expose] public section

set_option maxRecDepth 16384

noncomputable section

namespace Cert.First

open Cert.Reference3Ideal Cert.Reference3Ideal.Gen Idealize.ShloMosaic Idealize.ShloMosaic.TcCoe Idealize.ShloMosaic.Pointwise Idealize.SL.Sem

variable (m : (ℓ : Loc nD τ sig) → Buf (Elt Ideal) ℓ)

/-- The sum of the residual's gradient and the three terms of the norm's derivative. -/
def refDx (dres dh x : FVec Ideal S4096x4096 .f32) (g : FVec Ideal S1x4096 .f32) : FVec Ideal S4096x4096 .f32 :=
  addf (addf (addf dres (NormRef.direct x (NormRef.scaled dh g))) (mulf x (NormRef.through x (NormRef.scaled dh g)))) (mulf (NormRef.through x (NormRef.scaled dh g)) x)

set_option maxHeartbeats 1600000 in
/-- The reference's first result, named in parts. -/
theorem res_eq (c : Dev nD) : Value.res_main_v37 m c = refDx (m ((c.tc : Thread nD τ).loc main_arg0)) (m ((c.tc : Thread nD τ).loc main_arg1)) (m ((c.tc : Thread nD τ).loc main_arg2)) (m ((c.tc : Thread nD τ).loc main_arg3)) := by
  rfl

/-- The scaled gradient's entries are numbers. -/
theorem scaled_ne (dh : FVec Ideal S4096x4096 .f32) (g : FVec Ideal S1x4096 .f32) (hd : ∀ i, dh i ≠ (⊤ : EReal) ∧ dh i ≠ (⊥ : EReal)) (hg : ∀ i, g i ≠ (⊤ : EReal) ∧ g i ≠ (⊥ : EReal))
    (i : S4096x4096.Idx) : NormRef.scaled dh g i ≠ (⊤ : EReal) ∧ NormRef.scaled dh g i ≠ (⊥ : EReal) := by
  obtain ⟨r, k, rfl⟩ : ∃ (r : Fin 4096) (k : Fin 4096), i = ix2 r k := ⟨i 0, i 1, by funext a; fin_cases a <;> rfl⟩
  rw [NormRef.scaled_at]
  exact Norm.mul_ne _ _ (hd _) (hg _)

/-- The reference's first result is the kernel's, where the entries it multiplies are numbers. -/
theorem refDx_eq (dres dh x : FVec Ideal S4096x4096 .f32) (g : FVec Ideal S1x4096 .f32)
    (hd : ∀ i, dh i ≠ (⊤ : EReal) ∧ dh i ≠ (⊥ : EReal)) (hx : ∀ i, x i ≠ (⊤ : EReal) ∧ x i ≠ (⊥ : EReal)) (hg : ∀ i, g i ≠ (⊤ : EReal) ∧ g i ≠ (⊥ : EReal)) :
    refDx dres dh x g = dx dres dh x g := by
  funext j
  obtain ⟨r, k, rfl⟩ : ∃ (r : Fin 4096) (k : Fin 4096), j = ix2 r k := ⟨j 0, j 1, by funext a; fin_cases a <;> rfl⟩
  show (_ : EReal) = (dres (ix2 r k) : EReal) + Norm.kgrad (fun l : Fin 4096 => (x (ix2 r l) : EReal)) (fun l : Fin 4096 => (dh (ix2 r l) : EReal) * (g (ix2 0 l) : EReal)) k
  rw [← funext fun l : Fin 4096 => NormRef.scaled_at dh g r l, ← NormRef.terms_at x (NormRef.scaled dh g) r k hx (scaled_ne dh g hd hg)]
  pointwise [refDx]
  rw [add_assoc, add_assoc]

/-- The reference's second result is the kernel's. -/
theorem refDg_eq (dh x : FVec Ideal S4096x4096 .f32) : NormRef.scaleGrad x dh = dg dh x := by
  funext j
  obtain ⟨z, k, rfl⟩ : ∃ (z : Fin 1) (k : Fin 4096), j = ix2 z k := ⟨j 0, j 1, by funext a; fin_cases a <;> rfl⟩
  exact NormRef.scaleGrad_at x dh z k

end Cert.First

end
-- ==== Proof.FirstClaim.lean ====
/- The first norm's gradient's run and the reference's leave the same arrays. -/
module

public import proofs.«01_k».proof.Defs
public import proofs.«01_k».proof.Proof.FirstRef
public import proofs.«01_k».proof.Proof.Finite
public import Idealize.ShloMosaic.Lib.Claim

@[expose] public section

set_option maxRecDepth 200000

noncomputable section

namespace Cert.FirstClaim

open Idealize.ShloMosaic Idealize.ShloMosaic.Pointwise Idealize.SL.Sem

/-- The precondition's shape facts. -/
instance preFacts : Cert.Pre_first_finite.Facts where
  bcast_S_S4096x4096 := by decide
  bcast_S_S1x4096 := by decide
  bcast_S1x4096_S4096x4096_0_1 := by decide

/-- Where the precondition holds, the entries the norm's derivative multiplies are numbers. -/
theorem ne_of_pre (dres dh x : FVec Ideal ⟨2, ![4096, 4096]⟩ .f32) (g : FVec Ideal ⟨2, ![1, 4096]⟩ .f32) (h : Cert.Pre_first_finite.fn (F := Ideal) dres dh x g = fun _ => 1#1)
    (r k : Fin 4096) : (dh (ix2 r k) ≠ (⊤ : EReal) ∧ dh (ix2 r k) ≠ (⊥ : EReal)) ∧ (x (ix2 r k) ≠ (⊤ : EReal) ∧ x (ix2 r k) ≠ (⊥ : EReal)) ∧ (g (ix2 0 k) ≠ (⊤ : EReal) ∧ g (ix2 0 k) ≠ (⊥ : EReal)) := by
  have h1 := congrFun h (ix2 r k)
  revert h1
  pointwise [Cert.Pre_first_finite.fn]
  intro h1
  obtain ⟨h2, h5⟩ := Finite.both _ _ h1
  obtain ⟨h3, h4⟩ := Finite.both _ _ h2
  exact ⟨Finite.ne_of_abs_lt _ h3, Finite.ne_of_abs_lt _ h4, Finite.ne_of_abs_lt _ h5⟩

/-- The reference's every execution ends, with nothing left in flight. -/
theorem quiescent : Cert.quiescent_Reference3Ideal := by
  intro m g _
  exact (θ_run _ _ _).mono (fun r h => ⟨fun c => (h c).2.2, sem_eq_zero_of_no_sems (by decide) _⟩) (Cert.Reference3Ideal.Value.run m g)

set_option maxHeartbeats 1600000 in
/-- The two programs leave the same gradients. -/
theorem same : Cert.algebraic_Kernel3Ideal_Reference3Ideal_pre_first_finite := by
  pair_intro
  · run_from Cert.Kernel3Ideal.Gen.run_main m g
  · run_from Cert.Reference3Ideal.Value.run m' g'
    · have h := ne_of_pre _ _ _ _ (hpre c)
      obtain ⟨h0, h1, h2, h3⟩ := hagree c
      refine (Cert.First.res_eq m' c).trans ?_
      rw [h0, h1, h2, h3]
      exact (Cert.First.refDx_eq _ _ _ _ (Finite.at_all fun r k => (h r k).1) (Finite.at_all fun r k => (h r k).2.1)
        (Finite.at_all fun r k => by rw [Subsingleton.elim r 0]; exact (h 0 k).2.2)).trans (Cert.First.final_dx m c).symm
    · exact (Cert.First.refDg_eq _ _).trans (Cert.First.final_dg m c).symm

end Cert.FirstClaim

end
-- ==== Proof.Mid.lean ====
/- The gradients of the two norms between the mixers, block by block, and of the norms' scales. -/
module

public import proofs.«01_k».proof.Proof.Gen.Kernel4Ideal.Frame
public import proofs.«01_k».proof.Proof.First

@[expose] public section

set_option maxRecDepth 16384

noncomputable section

namespace Cert.Mid

open Cert.Kernel4Ideal Cert.Kernel4Ideal.Gen Idealize.ShloMosaic Idealize.ShloMosaic.TcCoe Idealize.ShloMosaic.Pointwise Idealize.SL.Sem Cert.Kernel4Ideal.Facts

variable (m : (ℓ : Loc nD τ sig) → Buf (Elt Ideal) ℓ)

/-- The blocks' indices at a grid point. -/
theorem idx : ∀ t : Fin cfg0.N, win0_0.index t = ![t.val, 0] ∧ win0_1.index t = ![t.val, 0] ∧ win0_2.index t = ![t.val, 0] ∧ win0_3.index t = ![0, 0] ∧ win0_4.index t = ![t.val, 0] ∧ win0_5.index t = ![0, 0]
    ∧ win0_6.index t = ![t.val, 0] ∧ win0_7.index t = ![t.val, 0] ∧ win0_8.index t = ![0, 0] ∧ win0_9.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![t.val, 0] ∧ win0_5.index t = ![0, 0]
    ∧ win0_6.index t = ![t.val, 0] ∧ win0_7.index t = ![t.val, 0] ∧ win0_8.index t = ![0, 0] ∧ win0_9.index t = ![0, 0])

/-- The second norm's gradient at every entry, of the gradient that reaches its result. -/
def dm (d x : FVec Ideal ⟨2, ![4096, 4096]⟩ .f32) (g : FVec Ideal ⟨2, ![1, 4096]⟩ .f32) : FVec Ideal ⟨2, ![4096, 4096]⟩ .bf16 := fun j =>
  Cert.Norm.kgrad (fun k : Fin 4096 => x (ix2 (j 0) k)) (fun k : Fin 4096 => (show EReal from d (ix2 (j 0) k)) * (show EReal from g (ix2 0 k))) (j 1)

/-- A point's block of the first norm's gradient. -/
abbrev dxb (c : Dev nD) (t : Fin cfg0.N) : Vec Ideal S128x4096 .f32 := k0_pay11 (F := Ideal) (iblk m c 1 t) (iblk m c 2 t) (iblk m c 3 t) (iblk m c 0 t)

/-- The first result's contents after a point, in both cases. -/
theorem out6_at (c : Dev nD) (t : Fin cfg0.N) : (outsAt0 m c t.val t.isLt).1 = dxb m c t := by
  by_cases h : t.val % 32 = 0
  · rw [outsAt0_A m c t h]; frame_out
  · rw [outsAt0_B m c t h]; frame_out

/-- The second result's contents after a point, in both cases. -/
theorem out7_at (c : Dev nD) (t : Fin cfg0.N) : (outsAt0 m c t.val t.isLt).2.1 = k0_pay3 (F := Ideal) (dxb m c t) (iblk m c 4 t) (iblk m c 5 t) (k0_pay12 (iblk m c 4 t)) (Scalar.ofBits .f32 0x358637BD#32) := by
  by_cases h : t.val % 32 = 0
  · rw [outsAt0_A m c t h]; frame_out
  · rw [outsAt0_B m c t h]; frame_out

/-- What the run leaves in the first result. -/
theorem final_dx (c : Dev nD) : (dats m 0 c).arrAt 6 cfg0.N = Cert.First.dx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 6 _ (by decide +kernel) fun t _ y => ?_
  blk_simp; rw [after0_6, out6_at]
  pointwise [k0_pay11, k0_pay9, k0_pay8, Cert.First.dx, Cert.Norm.kgrad, Cert.Norm.R, Cert.Norm.V]
  blk_point [iblk, V, idx t]

/-- What the run leaves in the second result. -/
theorem final_dm (c : Dev nD) : (dats m 0 c).arrAt 7 cfg0.N = dm (Cert.First.dx (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4)) (m ((c.tc : Thread nD τ).loc main_arg5)) := by
  refine (dats m 0 c).arrAt_eq_of_covers 7 _ (by decide +kernel) fun t _ y => ?_
  blk_simp; rw [after0_7, out7_at]
  pointwise [k0_pay3, k0_pay2, k0_pay1, k0_pay12, k0_pay11, k0_pay9, k0_pay8, dm, Cert.First.dx, Cert.Norm.kgrad, Cert.Norm.R, Cert.Norm.V]
  blk_point [iblk, V, idx t]

/-- A point adds its part to the first scale's gradient. -/
theorem step8_at (dh x : Vec Ideal S128x4096 .f32) (a : Vec Ideal S1x4096 .f32) (j : S1x4096.Idx) : k0_pay6 (F := Ideal) (k0_pay10 dh x) a j = a j + Cert.First.part dh x j := by
  pointwise [k0_pay6, k0_pay10, k0_pay9, k0_pay8, Cert.First.part, Cert.Norm.R, Cert.Norm.V]

/-- A point adds its part to the second scale's gradient. -/
theorem step9_at (d x : Vec Ideal S128x4096 .f32) (a : Vec Ideal S1x4096 .f32) (j : S1x4096.Idx) :
    k0_pay7 (F := Ideal) d x (k0_pay12 x) (Scalar.ofBits .f32 0x358637BD#32) a j = a j + Cert.First.part d x j := by
  pointwise [k0_pay7, k0_pay2, k0_pay1, k0_pay12, Cert.First.part, Cert.Norm.R, Cert.Norm.V]

/-- The first point starts from zero. -/
theorem zero8_at (j : S1x4096.Idx) : k0_pay4 (F := Ideal) j = (0 : EReal) := by
  pointwise [k0_pay4]

/-- The first point starts from zero. -/
theorem zero9_at (j : S1x4096.Idx) : k0_pay5 (F := Ideal) j = (0 : EReal) := by
  pointwise [k0_pay5]

/-- What the run leaves in the third result. -/
theorem final_dgPre (c : Dev nD) : (dats m 0 c).arrAt 8 cfg0.N = Cert.First.dg (m ((c.tc : Thread nD τ).loc main_arg1)) (m ((c.tc : Thread nD τ).loc main_arg2)) := by
  refine (dats m 0 c).arrAt_eq_of_covers 8 _ (by decide +kernel) fun t hf y => ?_
  blk_simp
  rw [after0_8, Pipeline.eq_sum_fin_of_reset_step_apply_of_flush (fun n h => (outsAt0 m c n h).2.2.1) 32 (fun _ => 0)
    (fun t : Fin cfg0.N => fun j => Cert.First.part (iblk m c 1 t) (iblk m c 2 t) j)
    (fun t h j => by rw [outsAt0_A m c t h]; frame_out; rw [step8_at, zero8_at])
    (fun t h j => by rw [outsAt0_B m c t h]; frame_out; rw [step8_at]) t ((flush0_8 t).mp hf) _, zero_add]
  pointwise [Cert.First.dg]
  unfold Cert.First.part
  refine Fin.sum_mul_add_congr fun s k hl' => ?_
  refine congrArg₂ (fun a b : EReal => a * b) ?_ (congrArg₂ (fun a b : EReal => a * b) ?_ (congrArg Cert.Norm.R (funext fun l => ?_))) <;>
    blk_point [iblk, V, idx t, idx ⟨_, Pipeline.run_point_lt_of_flush t ((flush0_8 t).mp hf) s⟩]

/-- What the run leaves in the fourth result. -/
theorem final_dgPost (c : Dev nD) : (dats m 0 c).arrAt 9 cfg0.N = Cert.First.dg (Cert.First.dx (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4)) := by
  refine (dats m 0 c).arrAt_eq_of_covers 9 _ (by decide +kernel) fun t hf y => ?_
  blk_simp
  rw [after0_9, Pipeline.eq_sum_fin_of_reset_step_apply_of_flush (fun n h => (outsAt0 m c n h).2.2.2) 32 (fun _ => 0)
    (fun t : Fin cfg0.N => fun j => Cert.First.part (dxb m c t) (iblk m c 4 t) j)
    (fun t h j => by rw [outsAt0_A m c t h]; frame_out; rw [step9_at, zero9_at])
    (fun t h j => by rw [outsAt0_B m c t h]; frame_out; rw [step9_at]) t ((flush0_9 t).mp hf) _, zero_add]
  pointwise [Cert.First.dg]
  unfold Cert.First.part
  refine Fin.sum_mul_add_congr fun s k hl' => ?_
  refine congrArg₂ (fun a b : EReal => a * b) ?_ (congrArg₂ (fun a b : EReal => a * b) ?_ (congrArg Cert.Norm.R (funext fun l => ?_)))
  · pointwise [dxb, k0_pay11, k0_pay9, k0_pay8, Cert.First.dx, Cert.Norm.kgrad, Cert.Norm.R, Cert.Norm.V]
    blk_point [iblk, V, idx t, idx ⟨_, Pipeline.run_point_lt_of_flush t ((flush0_9 t).mp hf) s⟩]
  all_goals blk_point [iblk, V, idx t, idx ⟨_, Pipeline.run_point_lt_of_flush t ((flush0_9 t).mp hf) s⟩]

end Cert.Mid

end
-- ==== Proof.MidRef.lean ====
/- The reference's gradients of the two norms between the mixers are the kernel's. -/
module

public import proofs.«01_k».proof.Proof.Gen.Reference4Ideal.Run
public import proofs.«01_k».proof.Proof.FirstRef
public import proofs.«01_k».proof.Proof.NormFinite
public import proofs.«01_k».proof.Proof.Mid

@[expose] public section

set_option maxRecDepth 16384

noncomputable section

namespace Cert.Mid

open Cert.Reference4Ideal Cert.Reference4Ideal.Gen Idealize.ShloMosaic Idealize.ShloMosaic.TcCoe Idealize.ShloMosaic.Pointwise Idealize.SL.Sem

variable (m : (ℓ : Loc nD τ sig) → Buf (Elt Ideal) ℓ)

/-- The three terms of a norm's derivative, rounded. -/
def refDm (d x : FVec Ideal S4096x4096 .f32) (g : FVec Ideal S1x4096 .f32) : FVec Ideal S4096x4096 .bf16 :=
  truncf .bf16 (addf (addf (NormRef.direct x (NormRef.scaled d g)) (mulf x (NormRef.through x (NormRef.scaled d g)))) (mulf (NormRef.through x (NormRef.scaled d g)) x)) bitsLt_bf16_f32

set_option maxHeartbeats 1600000 in
/-- The reference's first result, named in parts. -/
theorem res0_eq (c : Dev nD) : Value.res_main_v37 m c = First.refDx (m ((c.tc : Thread nD τ).loc main_arg0)) (m ((c.tc : Thread nD τ).loc main_arg1)) (m ((c.tc : Thread nD τ).loc main_arg2)) (m ((c.tc : Thread nD τ).loc main_arg3)) := by
  rfl

set_option maxHeartbeats 1600000 in
/-- The reference's second result, named in parts. -/
theorem res1_eq (c : Dev nD) : Value.res_main_v75 m c = refDm (First.refDx (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg4)) (m ((c.tc : Thread nD τ).loc main_arg5)) := by
  rfl

set_option maxHeartbeats 1600000 in
/-- The reference's fourth result, named in parts. -/
theorem res3_eq (c : Dev nD) : Value.res_main_v77 m c = NormRef.scaleGrad (m ((c.tc : Thread nD τ).loc main_arg4))
    (First.refDx (m ((c.tc : Thread nD τ).loc main_arg0)) (m ((c.tc : Thread nD τ).loc main_arg1)) (m ((c.tc : Thread nD τ).loc main_arg2)) (m ((c.tc : Thread nD τ).loc main_arg3))) := by
  rfl

/-- The reference's gradient of the second norm is the kernel's, where the entries it multiplies are numbers. -/
theorem refDm_eq (d x : FVec Ideal S4096x4096 .f32) (g : FVec Ideal S1x4096 .f32)
    (hd : ∀ i, d i ≠ (⊤ : EReal) ∧ d i ≠ (⊥ : EReal)) (hx : ∀ i, x i ≠ (⊤ : EReal) ∧ x i ≠ (⊥ : EReal)) (hg : ∀ i, g i ≠ (⊤ : EReal) ∧ g i ≠ (⊥ : EReal)) :
    refDm d x g = dm d x g := by
  funext j
  obtain ⟨r, k, rfl⟩ : ∃ (r : Fin 4096) (k : Fin 4096), j = ix2 r k := ⟨j 0, j 1, by funext a; fin_cases a <;> rfl⟩
  show (_ : EReal) = Norm.kgrad (fun l : Fin 4096 => (x (ix2 r l) : EReal)) (fun l : Fin 4096 => (d (ix2 r l) : EReal) * (g (ix2 0 l) : EReal)) k
  rw [← funext fun l : Fin 4096 => NormRef.scaled_at d g r l, ← NormRef.terms_at x (NormRef.scaled d g) r k hx (First.scaled_ne d g hd hg)]
  pointwise [refDm]
  rw [add_assoc]

/-- The first norm's gradient is of numbers, where its arguments are. -/
theorem dx_ne (dres dh x : FVec Ideal S4096x4096 .f32) (g : FVec Ideal S1x4096 .f32) (hr : ∀ i, dres i ≠ (⊤ : EReal) ∧ dres i ≠ (⊥ : EReal))
    (hd : ∀ i, dh i ≠ (⊤ : EReal) ∧ dh i ≠ (⊥ : EReal)) (hx : ∀ i, x i ≠ (⊤ : EReal) ∧ x i ≠ (⊥ : EReal)) (hg : ∀ i, g i ≠ (⊤ : EReal) ∧ g i ≠ (⊥ : EReal)) (i : S4096x4096.Idx) :
    First.dx dres dh x g i ≠ (⊤ : EReal) ∧ First.dx dres dh x g i ≠ (⊥ : EReal) :=
  Norm.add_ne _ _ (hr i) (Norm.kgrad_ne _ _ _ (fun _ => hx _) fun _ => Norm.mul_ne _ _ (hd _) (hg _))

end Cert.Mid

end
-- ==== Proof.MidClaim.lean ====
/- The claims about the gradient of the two norms between the mixers. -/
module

public import proofs.«01_k».proof.Defs
public import proofs.«01_k».proof.Proof.MidRef
public import proofs.«01_k».proof.Proof.Finite
public import Idealize.ShloMosaic.Lib.Claim

@[expose] public section

set_option maxRecDepth 200000

noncomputable section

namespace Cert.MidClaim

open Idealize.ShloMosaic Idealize.ShloMosaic.Pointwise Idealize.SL.Sem

/-- The precondition's broadcasts fit. -/
instance preFacts : Cert.Pre_mid_finite.Facts where
  bcast_S_S4096x4096 := by decide
  bcast_S_S1x4096 := by decide
  bcast_S1x4096_S4096x4096_0_1 := by decide

/-- Where the precondition holds, the six arguments hold no infinities. -/
theorem ne_of_pre (dres dh x1 : FVec Ideal ⟨2, ![4096, 4096]⟩ .f32) (gp : FVec Ideal ⟨2, ![1, 4096]⟩ .f32) (mx : FVec Ideal ⟨2, ![4096, 4096]⟩ .f32) (g : FVec Ideal ⟨2, ![1, 4096]⟩ .f32)
    (h : Cert.Pre_mid_finite.fn (F := Ideal) dres dh x1 gp mx g = fun _ => 1#1) (r k : Fin 4096) :
    (dres (ix2 r k) ≠ (⊤ : EReal) ∧ dres (ix2 r k) ≠ (⊥ : EReal)) ∧ (dh (ix2 r k) ≠ (⊤ : EReal) ∧ dh (ix2 r k) ≠ (⊥ : EReal)) ∧ (x1 (ix2 r k) ≠ (⊤ : EReal) ∧ x1 (ix2 r k) ≠ (⊥ : EReal))
      ∧ (gp (ix2 0 k) ≠ (⊤ : EReal) ∧ gp (ix2 0 k) ≠ (⊥ : EReal)) ∧ (mx (ix2 r k) ≠ (⊤ : EReal) ∧ mx (ix2 r k) ≠ (⊥ : EReal)) ∧ (g (ix2 0 k) ≠ (⊤ : EReal) ∧ g (ix2 0 k) ≠ (⊥ : EReal)) := by
  have h1 := congrFun h (ix2 r k)
  revert h1
  pointwise [Cert.Pre_mid_finite.fn]
  intro h1
  obtain ⟨h2, e6⟩ := Finite.both _ _ h1
  obtain ⟨h3, e5⟩ := Finite.both _ _ h2
  obtain ⟨h4, e4⟩ := Finite.both _ _ h3
  obtain ⟨h5, e3⟩ := Finite.both _ _ h4
  obtain ⟨e1, e2⟩ := Finite.both _ _ h5
  exact ⟨Finite.ne_of_abs_lt _ e1, Finite.ne_of_abs_lt _ e2, Finite.ne_of_abs_lt _ e3, by revert e4; pointwise; exact fun e4 => Finite.ne_of_abs_lt _ e4, Finite.ne_of_abs_lt _ e5, by revert e6; pointwise; exact fun e6 => Finite.ne_of_abs_lt _ e6⟩

/-- The reference leaves no pending signals. -/
theorem quiescent : Cert.quiescent_Reference4Ideal := by
  intro m g _
  exact (θ_run _ _ _).mono (fun r h => ⟨fun c => (h c).2.2.2.2, sem_eq_zero_of_no_sems (by decide) _⟩) (Cert.Reference4Ideal.Value.run m g)

set_option maxHeartbeats 1600000 in
/-- The kernel and the reference leave the same four results, where the arguments are numbers. -/
theorem same : Cert.algebraic_Kernel4Ideal_Reference4Ideal_pre_mid_finite := by
  pair_intro
  · run_from Cert.Kernel4Ideal.Gen.run_main m g
  · run_from Cert.Reference4Ideal.Value.run m' g'
    · obtain ⟨h0, h1, h2, h3, h4, h5⟩ := hagree c
      have h := ne_of_pre _ _ _ _ _ _ (hpre c)
      refine (Cert.Mid.res0_eq m' c).trans ?_
      rw [h0, h1, h2, h3]
      exact (Cert.First.refDx_eq _ _ _ _ (Finite.at_all fun r k => (h r k).2.1) (Finite.at_all fun r k => (h r k).2.2.1)
        (Finite.at_all fun r k => by rw [Subsingleton.elim r 0]; exact (h 0 k).2.2.2.1)).trans (Cert.Mid.final_dx m c).symm
    · obtain ⟨h0, h1, h2, h3, h4, h5⟩ := hagree c
      have h := ne_of_pre _ _ _ _ _ _ (hpre c)
      refine (Cert.Mid.res1_eq m' c).trans ?_
      rw [h0, h1, h2, h3, h4, h5, Cert.First.refDx_eq _ _ _ _ (Finite.at_all fun r k => (h r k).2.1) (Finite.at_all fun r k => (h r k).2.2.1)
        (Finite.at_all fun r k => by rw [Subsingleton.elim r 0]; exact (h 0 k).2.2.2.1)]
      refine (Cert.Mid.refDm_eq _ _ _ (Cert.Mid.dx_ne _ _ _ _ (Finite.at_all fun r k => (h r k).1) (Finite.at_all fun r k => (h r k).2.1) (Finite.at_all fun r k => (h r k).2.2.1)
        (Finite.at_all fun r k => by rw [Subsingleton.elim r 0]; exact (h 0 k).2.2.2.1)) (Finite.at_all fun r k => (h r k).2.2.2.2.1)
        (Finite.at_all fun r k => by rw [Subsingleton.elim r 0]; exact (h 0 k).2.2.2.2.2)).trans (Cert.Mid.final_dm m c).symm
    · exact (Cert.First.refDg_eq _ _).trans (Cert.Mid.final_dgPre m c).symm
    · obtain ⟨h0, h1, h2, h3, h4, h5⟩ := hagree c
      have h := ne_of_pre _ _ _ _ _ _ (hpre c)
      refine (Cert.Mid.res3_eq m' c).trans ?_
      rw [h0, h1, h2, h3, h4, Cert.First.refDx_eq _ _ _ _ (Finite.at_all fun r k => (h r k).2.1) (Finite.at_all fun r k => (h r k).2.2.1)
        (Finite.at_all fun r k => by rw [Subsingleton.elim r 0]; exact (h 0 k).2.2.2.1)]
      exact (Cert.First.refDg_eq _ _).trans (Cert.Mid.final_dgPost m c).symm

end Cert.MidClaim

end
-- ==== Proof.Head.lean ====
/- The loss head's gradients and the columns' squared errors, block by block. -/
module

public import proofs.«01_k».proof.Proof.Gen.Kernel5Ideal.Frame
public import proofs.«01_k».proof.Proof.Mid

@[expose] public section

set_option maxRecDepth 16384

noncomputable section

namespace Cert.Head

open Cert.Kernel5Ideal Cert.Kernel5Ideal.Gen Idealize.ShloMosaic Idealize.ShloMosaic.TcCoe Idealize.ShloMosaic.Pointwise Idealize.SL.Sem Cert.Kernel5Ideal.Facts

variable (m : (ℓ : Loc nD τ sig) → Buf (Elt Ideal) ℓ)

/-- The blocks' indices at a grid point. -/
theorem idx : ∀ t : Fin cfg0.N, win0_0.index t = ![t.val, 0] ∧ win0_1.index t = ![t.val, 0] ∧ win0_2.index t = ![t.val, 0] ∧ win0_3.index t = ![0, 0] ∧ win0_4.index t = ![0, 0] ∧ win0_5.index t = ![t.val, 0]
    ∧ win0_6.index t = ![t.val, 0] ∧ win0_7.index t = ![0, 0] :=
  (by decide +kernel : ∀ t : Fin grid0.N, win0_0.index t = ![t.val, 0] ∧ win0_1.index t = ![t.val, 0] ∧ win0_2.index t = ![t.val, 0] ∧ win0_3.index t = ![0, 0] ∧ win0_4.index t = ![0, 0] ∧ win0_5.index t = ![t.val, 0]
    ∧ win0_6.index t = ![t.val, 0] ∧ win0_7.index t = ![0, 0])

/-- The error at every entry: the residual stream with the normed mixer, less the target. -/
def err (x1 mx tgt : FVec Ideal ⟨2, ![4096, 4096]⟩ .f32) (g : FVec Ideal ⟨2, ![1, 4096]⟩ .f32) : FVec Ideal ⟨2, ![4096, 4096]⟩ .f32 := fun j =>
  (show EReal from x1 (ix2 (j 0) (j 1))) + (show EReal from mx (ix2 (j 0) (j 1))) * Cert.Norm.R (fun k : Fin 4096 => mx (ix2 (j 0) k)) * (show EReal from g (ix2 0 (j 1))) - (show EReal from tgt (ix2 (j 0) (j 1)))

/-- The gradient of the loss with respect to the error. -/
def dx (x1 mx tgt : FVec Ideal ⟨2, ![4096, 4096]⟩ .f32) (g : FVec Ideal ⟨2, ![1, 4096]⟩ .f32) : FVec Ideal ⟨2, ![4096, 4096]⟩ .f32 := fun j =>
  (show EReal from err x1 mx tgt g j) * Ideal.ofBits .f32 0x39800000#32

/-- Every column's sum of squared errors. -/
def sq (x1 mx tgt : FVec Ideal ⟨2, ![4096, 4096]⟩ .f32) (g : FVec Ideal ⟨2, ![1, 4096]⟩ .f32) : FVec Ideal ⟨2, ![1, 4096]⟩ .f32 := fun j =>
  ∑ i : Fin 4096, (show EReal from err x1 mx tgt g (ix2 i (j 1))) * (show EReal from err x1 mx tgt g (ix2 i (j 1)))

/-- A point's block of the gradient. -/
abbrev dxb (c : Dev nD) (t : Fin cfg0.N) : Vec Ideal S128x4096 .f32 := k0_pay7 (F := Ideal) (iblk m c 1 t) (iblk m c 3 t) (iblk m c 0 t) (iblk m c 2 t)

/-- A point's block of the error. -/
abbrev errb (c : Dev nD) (t : Fin cfg0.N) : Vec Ideal S128x4096 .f32 := k0_pay6 (F := Ideal) (iblk m c 1 t) (iblk m c 3 t) (iblk m c 0 t) (iblk m c 2 t)

/-- The second result's contents after a point, in both cases. -/
theorem out5_at (c : Dev nD) (t : Fin cfg0.N) : (outsAt0 m c t.val t.isLt).2.1 = dxb m c t := by
  by_cases h : t.val % 32 = 0
  · rw [outsAt0_A m c t h]; frame_out
  · rw [outsAt0_B m c t h]; frame_out

/-- The third result's contents after a point, in both cases. -/
theorem out6_at (c : Dev nD) (t : Fin cfg0.N) : (outsAt0 m c t.val t.isLt).2.2.1 = k0_pay1 (F := Ideal) (k0_pay10 (iblk m c 1 t) (iblk m c 3 t) (iblk m c 0 t) (iblk m c 2 t)) := by
  by_cases h : t.val % 32 = 0
  · rw [outsAt0_A m c t h]; frame_out
  · rw [outsAt0_B m c t h]; frame_out

/-- What the run leaves in the second result. -/
theorem final_dx (c : Dev nD) : (dats m 0 c).arrAt 5 cfg0.N = dx (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 5 _ (by decide +kernel) fun t _ y => ?_
  blk_simp; rw [after0_5, out5_at]
  pointwise [dxb, k0_pay7, k0_pay6, dx, err, Cert.Norm.R, Cert.Norm.V]
  blk_point [iblk, V, idx t]

/-- What the run leaves in the third result. -/
theorem final_dm (c : Dev nD) : (dats m 0 c).arrAt 6 cfg0.N = Cert.Mid.dm (dx (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg1)) (m ((c.tc : Thread nD τ).loc main_arg3)) := by
  refine (dats m 0 c).arrAt_eq_of_covers 6 _ (by decide +kernel) fun t _ y => ?_
  blk_simp; rw [after0_6, out6_at]
  pointwise [k0_pay1, k0_pay10, k0_pay9, k0_pay8, k0_pay7, k0_pay6, Cert.Mid.dm, dx, err, Cert.Norm.kgrad, Cert.Norm.R, Cert.Norm.V]
  blk_point [iblk, V, idx t]

/-- A point's part of the columns' squared errors. -/
def sqPart (e : Vec Ideal S128x4096 .f32) (j : S1x4096.Idx) : EReal := ∑ i : Fin 128, (show EReal from e (ix2 i (j 1))) * (show EReal from e (ix2 i (j 1)))

/-- A point adds its part to the columns' squared errors. -/
theorem step4_at (e : Vec Ideal S128x4096 .f32) (a : Vec Ideal S1x4096 .f32) (j : S1x4096.Idx) : k0_pay4 (F := Ideal) e a j = a j + sqPart e j := by
  pointwise [k0_pay4, sqPart]

/-- A point adds its part to the scale's gradient. -/
theorem step7_at (d x : Vec Ideal S128x4096 .f32) (a : Vec Ideal S1x4096 .f32) (j : S1x4096.Idx) : k0_pay5 (F := Ideal) d (k0_pay9 x) a j = a j + Cert.First.part d x j := by
  pointwise [k0_pay5, k0_pay9, k0_pay8, Cert.First.part, Cert.Norm.R, Cert.Norm.V]

/-- The first point starts from zero. -/
theorem zero4_at (j : S1x4096.Idx) : k0_pay2 (F := Ideal) j = (0 : EReal) := by
  pointwise [k0_pay2]

/-- The first point starts from zero. -/
theorem zero7_at (j : S1x4096.Idx) : k0_pay3 (F := Ideal) j = (0 : EReal) := by
  pointwise [k0_pay3]

/-- What the run leaves in the first result. -/
theorem final_sq (c : Dev nD) : (dats m 0 c).arrAt 4 cfg0.N = sq (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t hf y => ?_
  blk_simp
  rw [after0_4, Pipeline.eq_sum_fin_of_reset_step_apply_of_flush (fun n h => (outsAt0 m c n h).1) 32 (fun _ => 0)
    (fun t : Fin cfg0.N => fun j => sqPart (errb m c t) j)
    (fun t h j => by rw [outsAt0_A m c t h]; frame_out; rw [step4_at, zero4_at])
    (fun t h j => by rw [outsAt0_B m c t h]; frame_out; rw [step4_at]) t ((flush0_4 t).mp hf) _, zero_add]
  pointwise [sq]
  unfold sqPart
  refine Fin.sum_mul_add_congr fun s k hl' => ?_
  refine congrArg (fun a : EReal => a * a) ?_
  pointwise [errb, k0_pay6, err, Cert.Norm.R, Cert.Norm.V]
  blk_point [iblk, V, idx t, idx ⟨_, Pipeline.run_point_lt_of_flush t ((flush0_4 t).mp hf) s⟩]

/-- What the run leaves in the fourth result. -/
theorem final_dg (c : Dev nD) : (dats m 0 c).arrAt 7 cfg0.N = Cert.First.dg (dx (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg1)) := by
  refine (dats m 0 c).arrAt_eq_of_covers 7 _ (by decide +kernel) fun t hf y => ?_
  blk_simp
  rw [after0_7, Pipeline.eq_sum_fin_of_reset_step_apply_of_flush (fun n h => (outsAt0 m c n h).2.2.2) 32 (fun _ => 0)
    (fun t : Fin cfg0.N => fun j => Cert.First.part (dxb m c t) (iblk m c 1 t) j)
    (fun t h j => by rw [outsAt0_A m c t h]; frame_out; rw [step7_at, zero7_at])
    (fun t h j => by rw [outsAt0_B m c t h]; frame_out; rw [step7_at]) t ((flush0_7 t).mp hf) _, zero_add]
  pointwise [Cert.First.dg]
  unfold Cert.First.part
  refine Fin.sum_mul_add_congr fun s k hl' => ?_
  refine congrArg₂ (fun a b : EReal => a * b) ?_ (congrArg₂ (fun a b : EReal => a * b) ?_ (congrArg Cert.Norm.R (funext fun l => ?_)))
  · pointwise [dxb, k0_pay7, k0_pay6, dx, err, Cert.Norm.R, Cert.Norm.V]
    blk_point [iblk, V, idx t, idx ⟨_, Pipeline.run_point_lt_of_flush t ((flush0_7 t).mp hf) s⟩]
  all_goals blk_point [iblk, V, idx t, idx ⟨_, Pipeline.run_point_lt_of_flush t ((flush0_7 t).mp hf) s⟩]

end Cert.Head

end
-- ==== Proof.HeadRef.lean ====
/- The reference's loss head is the kernel's. -/
module

public import proofs.«01_k».proof.Proof.Gen.Reference5Ideal.Run
public import proofs.«01_k».proof.Proof.MidRef
public import proofs.«01_k».proof.Proof.Head

@[expose] public section

set_option maxRecDepth 16384

noncomputable section

namespace Cert.Head

open Cert.Reference5Ideal Cert.Reference5Ideal.Gen Idealize.ShloMosaic Idealize.ShloMosaic.TcCoe Idealize.ShloMosaic.Pointwise Idealize.SL.Sem

variable (m : (ℓ : Loc nD τ sig) → Buf (Elt Ideal) ℓ)

/-- The reference's error. -/
def refErr (x1 mx tgt : FVec Ideal S4096x4096 .f32) (g : FVec Ideal S1x4096 .f32) : FVec Ideal S4096x4096 .f32 :=
  subf (addf x1 (NormRef.scaled (NormRef.direct mx mx) g)) tgt

/-- The reference's error is the kernel's. -/
theorem refErr_eq (x1 mx tgt : FVec Ideal S4096x4096 .f32) (g : FVec Ideal S1x4096 .f32) : refErr x1 mx tgt g = err x1 mx tgt g := by
  funext j
  obtain ⟨r, k, rfl⟩ : ∃ (r : Fin 4096) (k : Fin 4096), j = ix2 r k := ⟨j 0, j 1, by funext a; fin_cases a <;> rfl⟩
  show (x1 (ix2 r k) : EReal) + NormRef.scaled (NormRef.direct mx mx) g (ix2 r k) - tgt (ix2 r k) = _
  rw [NormRef.scaled_at, NormRef.direct_at]
  rfl

/-- The reference's sums of squared errors. -/
def refSq (x1 mx tgt : FVec Ideal S4096x4096 .f32) (g : FVec Ideal S1x4096 .f32) : FVec Ideal S1x4096 .f32 :=
  broadcastInDim S1x4096 ![1] bcast_S4096_S1x4096_1 (Host.reduceAdd (mulf (refErr x1 mx tgt g) (refErr x1 mx tgt g)) (constant S_ .f32 0x00000000#32) reducesTo_S4096x4096_S4096_d0 h_S_)

/-- The reference's sums of squared errors are the kernel's. -/
theorem refSq_eq (x1 mx tgt : FVec Ideal S4096x4096 .f32) (g : FVec Ideal S1x4096 .f32) : refSq x1 mx tgt g = sq x1 mx tgt g := by
  unfold refSq
  rw [refErr_eq]
  funext j
  obtain ⟨z, k, rfl⟩ : ∃ (z : Fin 1) (k : Fin 4096), j = ix2 z k := ⟨j 0, j 1, by funext a; fin_cases a <;> rfl⟩
  pointwise [sq]

/-- The reference's gradient with respect to the error. -/
def refD (x1 mx tgt : FVec Ideal S4096x4096 .f32) (g : FVec Ideal S1x4096 .f32) : FVec Ideal S4096x4096 .f32 :=
  mulf (broadcastInDim S4096x4096 ![0] bcast_S4096_S4096x4096_0 (Host.divf (broadcastInDim S4096 ![] bcast_S_S4096 (mulf (constant S_ .f32 0x3F000000#32) (constant S_ .f32 0x3F800000#32))) (broadcastInDim S4096 ![] bcast_S_S4096 (constant S_ .f32 0x45800000#32))))
    (mulf (broadcastInDim S4096x4096 ![] bcast_S_S4096x4096 (constant S_ .f32 0x40000000#32)) (refErr x1 mx tgt g))

/-- The reference's gradient with respect to the error is the kernel's. -/
theorem refD_eq (x1 mx tgt : FVec Ideal S4096x4096 .f32) (g : FVec Ideal S1x4096 .f32) : refD x1 mx tgt g = dx x1 mx tgt g := by
  unfold refD
  rw [refErr_eq]
  funext j
  obtain ⟨r, k, rfl⟩ : ∃ (r : Fin 4096) (k : Fin 4096), j = ix2 r k := ⟨j 0, j 1, by funext a; fin_cases a <;> rfl⟩
  pointwise [dx]
  exact (congrArg (fun a : EReal => Ideal.div a Norm.C * (Ideal.ofBits .f32 0x40000000#32 * _)) Norm.half_one.symm).trans (Norm.half_mean _)

set_option maxHeartbeats 1600000 in
/-- The reference's third result, named in parts. -/
theorem res_eq (c : Dev nD) : Value.res_main_v55 m c = Mid.refDm (refD (m ((c.tc : Thread nD τ).loc main_arg0)) (m ((c.tc : Thread nD τ).loc main_arg1)) (m ((c.tc : Thread nD τ).loc main_arg2)) (m ((c.tc : Thread nD τ).loc main_arg3)))
    (m ((c.tc : Thread nD τ).loc main_arg1)) (m ((c.tc : Thread nD τ).loc main_arg3)) := by
  rfl

set_option maxHeartbeats 1600000 in
/-- What the reference leaves: the kernel's sums and gradients, and its third result, named in parts. -/
theorem run (ρ : Dev nD → PrngReg) :
    θ_run defs (onTc (τ := τ) (main (F := Ideal))) ⟨m, fun _ => 0, ρ⟩ fun r => ∀ c : Dev nD,
      r.2.mem ((c.tc : Thread nD τ).loc main_v54) = refSq (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v32) = refD (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v55) = Mid.refDm (refD (m ((c.tc : Thread nD τ).loc main_arg0)) (m ((c.tc : Thread nD τ).loc main_arg1)) (m ((c.tc : Thread nD τ).loc main_arg2)) (m ((c.tc : Thread nD τ).loc main_arg3)))
        (m ((c.tc : Thread nD τ).loc main_arg1)) (m ((c.tc : Thread nD τ).loc main_arg3))
      ∧ r.2.mem ((c.tc : Thread nD τ).loc main_v56) = NormRef.scaleGrad (m ((c.tc : Thread nD τ).loc main_arg1)) (refD (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rfl), (h c).2.1.trans (by rfl), (h c).2.2.1.trans (res_eq m c), (h c).2.2.2.1.trans (by rfl), (h c).2.2.2.2⟩) (Value.run m ρ)

/-- The reference's gradient of the scale is the kernel's. -/
theorem refDg_eq (x1 mx tgt : FVec Ideal S4096x4096 .f32) (g : FVec Ideal S1x4096 .f32) : NormRef.scaleGrad mx (refD x1 mx tgt g) = First.dg (dx x1 mx tgt g) mx := by
  rw [refD_eq, First.refDg_eq]

/-- The gradient with respect to the error is of numbers, where the arguments are. -/
theorem dx_ne (x1 mx tgt : FVec Ideal S4096x4096 .f32) (g : FVec Ideal S1x4096 .f32) (h1 : ∀ i, x1 i ≠ (⊤ : EReal) ∧ x1 i ≠ (⊥ : EReal)) (hm : ∀ i, mx i ≠ (⊤ : EReal) ∧ mx i ≠ (⊥ : EReal))
    (ht : ∀ i, tgt i ≠ (⊤ : EReal) ∧ tgt i ≠ (⊥ : EReal)) (hg : ∀ i, g i ≠ (⊤ : EReal) ∧ g i ≠ (⊥ : EReal)) (i : S4096x4096.Idx) : dx x1 mx tgt g i ≠ (⊤ : EReal) ∧ dx x1 mx tgt g i ≠ (⊥ : EReal) := by
  refine Norm.mul_ne _ _ (Norm.sub_ne _ _ (Norm.add_ne _ _ (h1 _) (Norm.mul_ne _ _ (Norm.mul_ne _ _ (hm _) (Norm.R_ne _ fun _ => hm _)) (hg _))) (ht _)) ?_
  rw [Norm.mean_eq]
  exact ⟨EReal.coe_ne_top _, EReal.coe_ne_bot _⟩

end Cert.Head

end
-- ==== Proof.HeadClaim.lean ====
/- The claims about the loss head. -/
module

public import proofs.«01_k».proof.Defs
public import proofs.«01_k».proof.Proof.HeadRef
public import proofs.«01_k».proof.Proof.Finite
public import Idealize.ShloMosaic.Lib.Claim

@[expose] public section

set_option maxRecDepth 200000

noncomputable section

namespace Cert.HeadClaim

open Idealize.ShloMosaic Idealize.ShloMosaic.Pointwise Idealize.SL.Sem

/-- The precondition's broadcasts fit. -/
instance preFacts : Cert.Pre_head_finite.Facts where
  bcast_S_S4096x4096 := by decide
  bcast_S_S1x4096 := by decide
  bcast_S1x4096_S4096x4096_0_1 := by decide

/-- Where the precondition holds, the four arguments hold no infinities. -/
theorem ne_of_pre (x1 mx tgt : FVec Ideal ⟨2, ![4096, 4096]⟩ .f32) (g : FVec Ideal ⟨2, ![1, 4096]⟩ .f32)
    (h : Cert.Pre_head_finite.fn (F := Ideal) x1 mx tgt g = fun _ => 1#1) (r k : Fin 4096) :
    (x1 (ix2 r k) ≠ (⊤ : EReal) ∧ x1 (ix2 r k) ≠ (⊥ : EReal)) ∧ (mx (ix2 r k) ≠ (⊤ : EReal) ∧ mx (ix2 r k) ≠ (⊥ : EReal))
      ∧ (tgt (ix2 r k) ≠ (⊤ : EReal) ∧ tgt (ix2 r k) ≠ (⊥ : EReal)) ∧ (g (ix2 0 k) ≠ (⊤ : EReal) ∧ g (ix2 0 k) ≠ (⊥ : EReal)) := by
  have h1 := congrFun h (ix2 r k)
  revert h1
  pointwise [Cert.Pre_head_finite.fn]
  intro h1
  obtain ⟨h2, e4⟩ := Finite.both _ _ h1
  obtain ⟨h3, e3⟩ := Finite.both _ _ h2
  obtain ⟨e1, e2⟩ := Finite.both _ _ h3
  refine ⟨Finite.ne_of_abs_lt _ e1, Finite.ne_of_abs_lt _ e2, Finite.ne_of_abs_lt _ e3, ?_⟩
  revert e4
  pointwise
  exact fun e4 => Finite.ne_of_abs_lt _ e4

/-- The reference leaves no pending signals. -/
theorem quiescent : Cert.quiescent_Reference5Ideal := by
  intro m g _
  exact (θ_run _ _ _).mono (fun r h => ⟨fun c => (h c).2.2.2.2, sem_eq_zero_of_no_sems (by decide) _⟩) (Cert.Reference5Ideal.Value.run m g)

set_option maxHeartbeats 1600000 in
/-- The kernel and the reference leave the same four results, where the arguments are numbers. -/
theorem same : Cert.algebraic_Kernel5Ideal_Reference5Ideal_pre_head_finite := by
  pair_intro
  · run_from Cert.Kernel5Ideal.Gen.run_main m g
  · run_from Cert.Head.run m' g'
    · exact (Cert.Head.refSq_eq _ _ _ _).trans (Cert.Head.final_sq m c).symm
    · exact (Cert.Head.refD_eq _ _ _ _).trans (Cert.Head.final_dx m c).symm
    · have h := ne_of_pre _ _ _ _ (hpre c)
      have hg := Finite.at_all (P := fun i => m ((c.tc : Thread _ _).loc Cert.Kernel5Ideal.main_arg3) i ≠ (⊤ : EReal) ∧ m ((c.tc : Thread _ _).loc Cert.Kernel5Ideal.main_arg3) i ≠ (⊥ : EReal))
        fun r k => by rw [Subsingleton.elim r 0]; exact (h 0 k).2.2.2
      rw [Cert.Head.refD_eq]
      exact (Cert.Mid.refDm_eq _ _ _ (Cert.Head.dx_ne _ _ _ _ (Finite.at_all fun r k => (h r k).1) (Finite.at_all fun r k => (h r k).2.1) (Finite.at_all fun r k => (h r k).2.2.1) hg)
        (Finite.at_all fun r k => (h r k).2.1) hg).trans (Cert.Head.final_dm m c).symm
    · exact (Cert.Head.refDg_eq _ _ _ _).trans (Cert.Head.final_dg m c).symm

end Cert.HeadClaim

end
-- ==== Proof.PoolPast.lean ====
/- The arithmetic of the causal pooling: a difference of running sums at distance `w` is a sum over the last `w` rows. -/
module

public import proofs.«01_k».proof.Proof.PoolShare

@[expose] public section

namespace Cert.Pool

open Finset Idealize.ShloMosaic

/-- Row `s - u` of a sequence that begins at row 0, and zero before it. -/
noncomputable def before (a : ℕ → ℝ) (s u : ℕ) : ℝ := if u ≤ s then a (s - u) else 0

/-- The sum of the last `w` rows up to row `s`. -/
noncomputable def past (w : ℕ) (a : ℕ → ℝ) (s : ℕ) : ℝ := ∑ u ∈ range w, before a s u

/-- The pooled channel: the mean of the last `w` rows, fewer at the beginning, less the row itself. -/
noncomputable def poolOf (w : ℕ) (a : ℕ → ℝ) (s : ℕ) : ℝ := past w a s * (1 / min ((s : ℝ) + 1) w) - a s

/-- The running sum up to row `s` less the one `w` rows before. -/
theorem past_eq (a : ℕ → ℝ) (s w : ℕ) : ∑ j ∈ range (s + 1), a j - ∑ j ∈ range (s + 1 - w), a j = past w a s := by
  induction w with
  | zero => simp [past]
  | succ w ih =>
    have hp : past (w + 1) a s = past w a s + before a s w := sum_range_succ _ _
    rw [hp, ← ih]
    by_cases h : w ≤ s
    · rw [before, if_pos h, show s + 1 - w = (s - w) + 1 by omega, sum_range_succ _ (s - w), show s + 1 - (w + 1) = s - w by omega]
      ring
    · rw [before, if_neg h, show s + 1 - (w + 1) = 0 by omega, show s + 1 - w = 0 by omega]
      ring

/-- Two neighbouring windows of length `n` make one of length `2 n`. -/
theorem past_double (ρ : ℕ → ℝ) (n p : ℕ) : ∑ u ∈ range (n + n), ρ (p - u) = ∑ u ∈ range n, ρ (p - u) + ∑ u ∈ range n, ρ (p - n - u) := by
  rw [sum_range_add]
  simp only [Nat.sub_sub]

/-- The running sum, its later terms zero. -/
theorem running (N s : ℕ) (hs : s < N) (y : ℕ → EReal) : ∑ k ∈ range N, (if N - 1 ≤ s + k then y (s + k - (N - 1)) else 0) = ∑ j ∈ range (s + 1), y j := by
  rw [show N = (N - (s + 1)) + (s + 1) by omega, sum_range_add]
  refine (congrArg₂ (· + ·) (sum_eq_zero fun k hk => ?_) (sum_congr rfl fun j hj => ?_)).trans (zero_add _)
  · rw [mem_range] at hk
    exact if_neg (by omega)
  · rw [if_pos (by omega)]
    exact congrArg y (by omega)

end Cert.Pool
-- ==== Proof.PoolFwdBody.lean ====
/- The body of the pooling at one grid point: its block of 512 rows and the 16 rows before it, read at a row. -/
module

public import proofs.«01_k».proof.Proof.Gen.Kernel8Ideal.Skeleton
public import proofs.«01_k».proof.Proof.PoolPast

@[expose] public section

set_option maxRecDepth 16384

noncomputable section

namespace Cert.PoolFwd

open Cert.Pool Cert.Kernel8Ideal Cert.Kernel8Ideal.Gen Idealize.ShloMosaic Idealize.ShloMosaic.Pointwise Cert.Kernel8Ideal.Facts

/-- The first row's number in its sequence, as the body computes it. -/
def firstRow (a : BitVec 32) : BitVec 32 :=
  let q := Scalar.muli a 512#32
  let n := Scalar.select (Scalar.cmpi .eq 2048#32 0#32) 1#32 2048#32
  let r := Scalar.remsi q n
  Scalar.select (Scalar.andi (Scalar.xori (Scalar.cmpi .slt r 0#32) (Scalar.cmpi .slt n 0#32)) (Scalar.cmpi .ne r 0#32)) (Scalar.addi r n) r

theorem firstRow_eq : ∀ i : Fin 8, firstRow (BitVec.ofNat 32 i.val) = BitVec.ofNat 32 (i.val % 4 * 512) := by decide +kernel

theorem atStart_eq : ∀ i : Fin 8, Scalar.cmpi .eq (BitVec.ofNat 32 (i.val % 4 * 512)) 0#32 = if i.val % 4 = 0 then 1#1 else 0#1 := by decide +kernel

/-- The 16 rows before the block, which count for nothing where a sequence begins, and behind them the block's rows. -/
def rowsOf (v27 : BitVec 32) (v28 : Vec Ideal S512x1024 .bf16) (v30 : Vec Ideal S16x1024 .bf16) : FVec Ideal S528x1024 .f32 :=
  concatenate S528x1024 0 [⟨S16x1024, mulf (extf .f32 v30 bitsLt_bf16_f32 : FVec Ideal S16x1024 .f32)
      (broadcast S16x1024 (Scalar.select (Scalar.cmpi .eq v27 0#32) (Scalar.ofBits .f32 0x00000000#32 : Ideal .f32) (Scalar.ofBits .f32 0x3F800000#32)))⟩,
    ⟨S512x1024, (extf .f32 v28 bitsLt_bf16_f32 : FVec Ideal S512x1024 .f32)⟩] concatenates_S16x1024_S512x1024_S528x1024_d0

theorem pay7_eq (i : grid0.Coords) (v28 : Vec Ideal S512x1024 .bf16) (v30 : Vec Ideal S16x1024 .bf16) :
    k0_pay7 i v28 v30 = rowsOf (firstRow (BitVec.ofNat 32 (i 0).val)) v28 v30 := rfl

/-- Each row plus the row `n` places before it. -/
def rollAdd (n : BitVec 32) (x : FVec Ideal S528x1024 .f32) : FVec Ideal S528x1024 .f32 := addf x (dynamicRotate 0 n none x rotates_S528x1024_d0)

/-- What the body stores: the windows' means, less the rows themselves. -/
def stored (bits v27 : BitVec 32) (v29 : FVec Ideal S512x1024 .f32) (x : FVec Ideal S528x1024 .f32) : FVec Ideal S512x1024 .bf16 :=
  truncf .bf16 (subf (divf (extractStridedSlice S512x1024 ![16, 0] x slices_S528x1024_o16_0_S512x1024)
    (broadcastTo S512x1024 (minimumf (addf (sitofp .f32 (addi (broadcast S512x1 v27) (iota .tc S512x1 32 [0] iota_S512x1_d0_w32))) (broadcast S512x1 (Scalar.ofBits .f32 0x3F800000#32)))
      (broadcast S512x1 (Scalar.ofBits .f32 bits))) broadcasts_S512x1_S512x1024)) v29) bitsLt_bf16_f32

section
variable (v27 : BitVec 32) (v29 : FVec Ideal S512x1024 .f32) (v36 : FVec Ideal S528x1024 .f32)

theorem pay2_eq : k0_pay2 v27 v29 v36 = stored 0x40000000#32 v27 v29 (rollAdd 1#32 v36) := rfl
theorem pay3_eq : k0_pay3 v27 v29 v36 = stored 0x40800000#32 v27 v29 (rollAdd 2#32 (rollAdd 1#32 v36)) := rfl
theorem pay4_eq : k0_pay4 v27 v29 v36 = stored 0x41000000#32 v27 v29 (rollAdd 4#32 (rollAdd 2#32 (rollAdd 1#32 v36))) := rfl
theorem pay5_eq : k0_pay5 v27 v29 v36 = stored 0x41800000#32 v27 v29 (rollAdd 8#32 (rollAdd 4#32 (rollAdd 2#32 (rollAdd 1#32 v36)))) := rfl
end

/-- What a grid point's blocks hold in column `l`: one channel `a` of one sequence, from row `s0` on, and before it either the beginning of the sequence or its 16 rows before. -/
structure Blocks (v27 : BitVec 32) (v28 : Vec Ideal S512x1024 .bf16) (v30 : Vec Ideal S16x1024 .bf16) (a : ℕ → ℝ) (s0 : ℕ) (l : Fin 1024) : Prop where
  rows : ∀ p : Fin 512, v28 (ix2 p l) = (a (s0 + p.val) : EReal)
  first : v27 = BitVec.ofNat 32 s0
  inside : s0 + 512 ≤ 2048
  ahead : (Scalar.cmpi .eq v27 0#32 = 1#1 ∧ s0 = 0) ∨
    (Scalar.cmpi .eq v27 0#32 = 0#1 ∧ 16 ≤ s0 ∧ ∀ q : Fin 16, v30 (ix2 q l) = (a (s0 + q.val - 16) : EReal))

variable {v27 : BitVec 32} {v28 : Vec Ideal S512x1024 .bf16} {v30 : Vec Ideal S16x1024 .bf16} {a : ℕ → ℝ} {s0 : ℕ} {l : Fin 1024}

/-- The 528 rows as a sequence that is zero before row 16 of the first block. -/
def row (a : ℕ → ℝ) (s0 p : ℕ) : ℝ := if 16 ≤ s0 + p then a (s0 + p - 16) else 0

theorem rowsOf_at (h : Blocks v27 v28 v30 a s0 l) (p : Fin 528) : rowsOf v27 v28 v30 (ix2 p l) = ((row a s0 p.val : ℝ) : EReal) := by
  have h0 := h.inside
  unfold rowsOf row
  pointwise
  by_cases hp : p.val < 16
  · rw [dif_pos hp]
    rcases h.ahead with ⟨he, hs⟩ | ⟨he, hs, hv⟩
    · rw [he, if_neg (by omega)]
      rw [EReal.coe_zero]
      rfl
    · rw [he, if_pos (by omega)]
      exact hv ⟨p.val, hp⟩
  · rw [dif_neg hp, h.rows ⟨p.val - 16, by omega⟩, if_pos (by omega)]
    rw [show s0 + p.val - 16 = s0 + (p.val - 16) by omega]

/-- One doubling of the window. -/
theorem rollAdd_at (x : FVec Ideal S528x1024 .f32) (l : Fin 1024) (ρ : ℕ → ℝ) (n : ℕ) (hn : n ≤ 8) (hn0 : 0 < n)
    (hx : ∀ p : Fin 528, n ≤ p.val + 1 → x (ix2 p l) = ((∑ u ∈ Finset.range n, ρ (p.val - u) : ℝ) : EReal)) (w : BitVec 32) (hw : w.toNat = n)
    (p : Fin 528) (hp : n + n ≤ p.val + 1) : rollAdd w x (ix2 p l) = ((∑ u ∈ Finset.range (n + n), ρ (p.val - u) : ℝ) : EReal) := by
  unfold rollAdd
  pointwise
  have hr : (⟨(p.val + 528 - w.toNat % 528) % 528, Nat.mod_lt _ (by omega)⟩ : Fin 528) = ⟨p.val - n, by omega⟩ := Fin.ext (by
    show (p.val + 528 - w.toNat % 528) % 528 = p.val - n
    rw [hw]; omega)
  rw [hx p (by omega)]
  refine (congrArg (fun r => ((∑ u ∈ Finset.range n, ρ (p.val - u) : ℝ) : EReal) + x (ix2 r l)) hr).trans ?_
  rw [hx ⟨p.val - n, by omega⟩ (by show n ≤ p.val - n + 1; omega), past_double, EReal.coe_add]

/-- A window of length one is the row itself. -/
theorem window_one (x : FVec Ideal S528x1024 .f32) (l : Fin 1024) (ρ : ℕ → ℝ) (hx : ∀ p : Fin 528, x (ix2 p l) = ((ρ p.val : ℝ) : EReal)) (p : Fin 528) (_ : 1 ≤ p.val + 1) :
    x (ix2 p l) = ((∑ u ∈ Finset.range 1, ρ (p.val - u) : ℝ) : EReal) := by
  rw [hx, Finset.sum_range_one, Nat.sub_zero]

/-- The windows' means less the rows are the pooled channel. -/
theorem stored_at (h : Blocks v27 v28 v30 a s0 l) (w : ℕ) (hw : 0 < w) (hw16 : w ≤ 16) (bits : BitVec 32) (hb : Ideal.ofBits .f32 bits = ((w : ℝ) : EReal))
    (x : FVec Ideal S528x1024 .f32)
    (hx : ∀ p : Fin 528, w ≤ p.val + 1 → x (ix2 p l) = ((∑ u ∈ Finset.range w, row a s0 (p.val - u) : ℝ) : EReal)) (r : Fin 512) :
    stored bits v27 (k0_pay6 v28) x (ix2 r l) = ((poolOf w a (s0 + r.val) : ℝ) : EReal) := by
  have h0 := h.inside
  have hs : ∑ u ∈ Finset.range w, row a s0 (16 + r.val - u) = past w a (s0 + r.val) := by
    refine Finset.sum_congr rfl fun u hu => ?_
    rw [Finset.mem_range] at hu
    unfold row before
    by_cases hc : u ≤ s0 + r.val
    · rw [if_pos hc, if_pos (by omega), show s0 + (16 + r.val - u) - 16 = s0 + r.val - u by omega]
    · rw [if_neg hc, if_neg (by omega)]
  have hp : ((((v27 + BitVec.ofNat 32 r.val : BitVec 32).toInt : ℝ)) : EReal) = (((s0 + r.val : ℕ) : ℝ) : EReal) := by
    rw [h.first, ← BitVec.ofNat_add]
    exact toInt_row _ (by omega)
  unfold stored k0_pay6
  pointwise
  rw [h.rows r, hx ⟨16 + r.val, by omega⟩ (by show w ≤ 16 + r.val + 1; omega), hs]
  refine (congrArg (fun q => Ideal.div ((past w a (s0 + r.val) : ℝ) : EReal) (min (q + 1) (Ideal.ofBits .f32 bits)) - (a (s0 + r.val) : EReal)) hp).trans ?_
  rw [add_comm _ (1 : EReal), div_count _ _ w hw _ hb, poolOf, EReal.coe_sub]

/-- What the body stores in group 0: windows of 2. -/
theorem pay2_at (h : Blocks v27 v28 v30 a s0 l) (r : Fin 512) : k0_pay2 v27 (k0_pay6 v28) (rowsOf v27 v28 v30) (ix2 r l) = ((poolOf 2 a (s0 + r.val) : ℝ) : EReal) := by
  have h0 := window_one _ l (row a s0) (rowsOf_at h)
  have h1 := rollAdd_at _ l (row a s0) 1 (by omega) (by omega) h0 1#32 (by decide)
  rw [pay2_eq]
  exact stored_at h 2 (by omega) (by omega) _ bits_two _ h1 r

/-- What the body stores in group 1: windows of 4. -/
theorem pay3_at (h : Blocks v27 v28 v30 a s0 l) (r : Fin 512) : k0_pay3 v27 (k0_pay6 v28) (rowsOf v27 v28 v30) (ix2 r l) = ((poolOf 4 a (s0 + r.val) : ℝ) : EReal) := by
  have h0 := window_one _ l (row a s0) (rowsOf_at h)
  have h1 := rollAdd_at _ l (row a s0) 1 (by omega) (by omega) h0 1#32 (by decide)
  have h2 := rollAdd_at _ l (row a s0) 2 (by omega) (by omega) h1 2#32 (by decide)
  rw [pay3_eq]
  exact stored_at h 4 (by omega) (by omega) _ bits_four _ h2 r

/-- What the body stores in group 2: windows of 8. -/
theorem pay4_at (h : Blocks v27 v28 v30 a s0 l) (r : Fin 512) : k0_pay4 v27 (k0_pay6 v28) (rowsOf v27 v28 v30) (ix2 r l) = ((poolOf 8 a (s0 + r.val) : ℝ) : EReal) := by
  have h0 := window_one _ l (row a s0) (rowsOf_at h)
  have h1 := rollAdd_at _ l (row a s0) 1 (by omega) (by omega) h0 1#32 (by decide)
  have h2 := rollAdd_at _ l (row a s0) 2 (by omega) (by omega) h1 2#32 (by decide)
  have h3 := rollAdd_at _ l (row a s0) 4 (by omega) (by omega) h2 4#32 (by decide)
  rw [pay4_eq]
  exact stored_at h 8 (by omega) (by omega) _ bits_eight _ h3 r

/-- What the body stores in group 3: windows of 16. -/
theorem pay5_at (h : Blocks v27 v28 v30 a s0 l) (r : Fin 512) : k0_pay5 v27 (k0_pay6 v28) (rowsOf v27 v28 v30) (ix2 r l) = ((poolOf 16 a (s0 + r.val) : ℝ) : EReal) := by
  have h0 := window_one _ l (row a s0) (rowsOf_at h)
  have h1 := rollAdd_at _ l (row a s0) 1 (by omega) (by omega) h0 1#32 (by decide)
  have h2 := rollAdd_at _ l (row a s0) 2 (by omega) (by omega) h1 2#32 (by decide)
  have h3 := rollAdd_at _ l (row a s0) 4 (by omega) (by omega) h2 4#32 (by decide)
  have h4 := rollAdd_at _ l (row a s0) 8 (by omega) (by omega) h3 8#32 (by decide)
  rw [pay5_eq]
  exact stored_at h 16 (by omega) (by omega) _ bits_sixteen _ h4 r

end Cert.PoolFwd
-- ==== Proof.PoolFwdKernel.lean ====
/- The pooling's result array after the run. -/
module

public import proofs.«01_k».proof.Proof.Gen.Kernel8Ideal.Value
public import proofs.«01_k».proof.Proof.PoolFwdBody
public import Idealize.ShloMosaic.Lib.Pipeline.ValueKit
public import Idealize.ShloMosaic.Lib.Claim

@[expose] public section

set_option maxRecDepth 16384

noncomputable section

namespace Cert.PoolFwd

open Cert.Pool Cert.Kernel8Ideal Cert.Kernel8Ideal.Gen Idealize.ShloMosaic Idealize.ShloMosaic.TcCoe Idealize.ShloMosaic.Pointwise Cert.Kernel8Ideal.Facts

variable (m : (ℓ : Loc nD τ sig) → Buf (Elt Ideal) ℓ)

/-- The blocks' indices at a grid point. -/
theorem idx : ∀ t : Fin cfg0.N, win0_0.index t = ![t.val / 8, t.val % 8] ∧ win0_1.index t = ![t.val / 8 * 32 - 1, t.val % 8] ∧ win0_2.index t = ![t.val / 8, t.val % 8] :=
  (by decide +kernel : ∀ t : Fin grid0.N, win0_0.index t = ![t.val / 8, t.val % 8] ∧ win0_1.index t = ![t.val / 8 * 32 - 1, t.val % 8] ∧ win0_2.index t = ![t.val / 8, t.val % 8])

/-- Entry `(R, C)` of the projections, as a real number. -/
def entry (x : FVec Ideal ⟨2, ![4096, 16384]⟩ .bf16) (R C : ℕ) : ℝ := if h : R < 4096 ∧ C < 16384 then (x (ix2 ⟨R, h.1⟩ ⟨C, h.2⟩) : EReal).toReal else 0

/-- The pooled channels at `(R, C)`: the channel's sequence is the 2048 rows around `R`, its window `2 ^ (C / 2048 + 1)`. -/
def pooled (x : FVec Ideal ⟨2, ![4096, 16384]⟩ .bf16) (R C : ℕ) : EReal :=
  ((poolOf (2 ^ (C / 2048 + 1)) (fun s => entry x (R / 2048 * 2048 + s) C) (R % 2048) : ℝ) : EReal)

/-- No entry of the pooled half is infinite. -/
def Real8 (x : FVec Ideal ⟨2, ![4096, 16384]⟩ .bf16) : Prop := ∀ (r : Fin 4096) (l : Fin 8192), x (ix2 r ⟨l.val, by omega⟩) ≠ (⊤ : EReal) ∧ x (ix2 r ⟨l.val, by omega⟩) ≠ (⊥ : EReal)

/-- The pooled half is its entries. -/
theorem eq_entry (x : FVec Ideal ⟨2, ![4096, 16384]⟩ .bf16) (hx : Real8 x) (r : Fin 4096) (l : Fin 16384) (hl : l.val < 8192) : x (ix2 r l) = (entry x r.val l.val : EReal) := by
  rw [entry, dif_pos ⟨r.isLt, l.isLt⟩]
  exact (EReal.coe_toReal (hx r ⟨l.val, hl⟩).1 (hx r ⟨l.val, hl⟩).2).symm

/-- The grid's coordinates. -/
theorem coords : ∀ t : Fin cfg0.N, (grid0.coords t 0).val = t.val / 8 ∧ (grid0.coords t 1).val = t.val % 8 :=
  (by decide +kernel : ∀ t : Fin grid0.N, (grid0.coords t 0).val = t.val / 8 ∧ (grid0.coords t 1).val = t.val % 8)

/-- Column `l` of the blocks at a grid point. -/
theorem blocks (c : Dev nD) (hx : Real8 (m ((c.tc : Thread nD τ).loc main_arg0))) (t : Fin cfg0.N) (l : Fin 1024) :
    Blocks (firstRow (BitVec.ofNat 32 (grid0.coords t 0).val)) (iblk m c 0 t) (iblk m c 1 t)
      (fun s => entry (m ((c.tc : Thread nD τ).loc main_arg0)) (t.val / 32 * 2048 + s) (t.val % 8 * 1024 + l.val)) (t.val / 8 % 4 * 512) l := by
  have ht : t.val < 64 := t.isLt
  have hc := (coords t).1
  have hf : firstRow (BitVec.ofNat 32 (grid0.coords t 0).val) = BitVec.ofNat 32 (t.val / 8 % 4 * 512) := by
    rw [hc]
    exact firstRow_eq ⟨t.val / 8, by omega⟩
  refine ⟨fun p => ?_, hf, by omega, ?_⟩
  · rw [show t.val / 32 * 2048 + (t.val / 8 % 4 * 512 + p.val) = t.val / 8 * 512 + p.val by omega]
    refine Eq.trans ?_ (eq_entry _ hx ⟨t.val / 8 * 512 + p.val, by omega⟩ ⟨t.val % 8 * 1024 + l.val, by omega⟩ (by show t.val % 8 * 1024 + l.val < 8192; omega))
    blk_ext [iblk, V, idx t]
  · rw [hf, atStart_eq ⟨t.val / 8, by omega⟩]
    by_cases h : t.val / 8 % 4 = 0
    · exact .inl ⟨if_pos h, by omega⟩
    · refine .inr ⟨if_neg h, by omega, fun q => ?_⟩
      rw [show t.val / 32 * 2048 + (t.val / 8 % 4 * 512 + q.val - 16) = (t.val / 8 * 32 - 1) * 16 + q.val by omega]
      refine Eq.trans ?_ (eq_entry _ hx ⟨(t.val / 8 * 32 - 1) * 16 + q.val, by omega⟩ ⟨t.val % 8 * 1024 + l.val, by omega⟩ (by show t.val % 8 * 1024 + l.val < 8192; omega))
      blk_ext [iblk, V, idx t]

/-- The pooled channel at a row of a grid point's block. -/
theorem pooled_block (x : FVec Ideal ⟨2, ![4096, 16384]⟩ .bf16) (t r l : ℕ) (hr : r < 512) (hl : l < 1024) (w : ℕ) (hw : 2 ^ (t % 8 / 2 + 1) = w) :
    ((poolOf w (fun s => entry x (t / 32 * 2048 + s) (t % 8 * 1024 + l)) (t / 8 % 4 * 512 + r) : ℝ) : EReal) = pooled x (t / 8 * 512 + r) (t % 8 * 1024 + l) := by
  unfold pooled
  rw [show (t / 8 * 512 + r) / 2048 = t / 32 by omega, show (t / 8 * 512 + r) % 2048 = t / 8 % 4 * 512 + r by omega, show (t % 8 * 1024 + l) / 2048 = t % 8 / 2 by omega, hw]

/-- What the run leaves in the result: the pooled channels. -/
theorem final (c : Dev nD) (hx : Real8 (m ((c.tc : Thread nD τ).loc main_arg0))) :
    (dats m 0 c).arrAt 2 cfg0.N = fun j => pooled (m ((c.tc : Thread nD τ).loc main_arg0)) (j 0).val (j 1).val := by
  refine (dats m 0 c).arrAt_eq_of_covers 2 _ (by decide +kernel) (fun t hf y => ?_)
  have ht : t.val < 64 := t.isLt
  obtain ⟨r, l, rfl⟩ : ∃ (r : Fin 512) (l : Fin 1024), y = ix2 r l := ⟨y 0, y 1, by funext a; fin_cases a <;> rfl⟩
  have hb := blocks m c hx t l
  have hp := pooled_block (m ((c.tc : Thread nD τ).loc main_arg0)) t.val r.val l.val r.isLt l.isLt
  blk_simp [idx t]; rw [after0_2]
  by_cases h0 : t.val % 8 ≤ 1
  · rw [outsAt0_A m c t (by omega) (by omega) (by omega) (by omega)]; frame_out
    exact (pay2_at hb r).trans (hp 2 (by rw [show t.val % 8 / 2 = 0 by omega]; norm_num))
  by_cases h1 : t.val % 8 ≤ 3
  · rw [outsAt0_B m c t (by omega) (by omega) (by omega) (by omega)]; frame_out
    exact (pay3_at hb r).trans (hp 4 (by rw [show t.val % 8 / 2 = 1 by omega]; norm_num))
  by_cases h2 : t.val % 8 ≤ 5
  · rw [outsAt0_C m c t (by omega) (by omega) (by omega) (by omega)]; frame_out
    exact (pay4_at hb r).trans (hp 8 (by rw [show t.val % 8 / 2 = 2 by omega]; norm_num))
  · rw [outsAt0_D m c t (by omega) (by omega) (by omega) (by omega)]; frame_out
    exact (pay5_at hb r).trans (hp 16 (by rw [show t.val % 8 / 2 = 3 by omega]; norm_num))

end Cert.PoolFwd
-- ==== Proof.PoolFwdRef.lean ====
/- The reference's pooling, read at a row and a channel. -/
module

public import proofs.«01_k».proof.Proof.Gen.Reference8Ideal.Run
public import proofs.«01_k».proof.Proof.PoolPast
public import Idealize.ShloMosaic.Lib.Pipeline.ValueKit
public import Idealize.ShloMosaic.Lib.Pointwise
public import Idealize.ShloMosaic.Lib.Claim

@[expose] public section

set_option maxRecDepth 16384

noncomputable section

namespace Cert.PoolFwd

open Cert.Pool Cert.Reference8Ideal Cert.Reference8Ideal.Gen Idealize.ShloMosaic Idealize.ShloMosaic.Pointwise Cert.Reference8Ideal.Facts

/-- One group's windows from the running sums: the running sum less the one `w` rows before, divided by the number of rows. -/
def means (g n w : ℕ) (bits : BitVec 32) (hsl : S2x2048x4x2048.Slices ![0, 0, g, 0] S2x2048x1x2048)
    (hs : S2x2048x2048.Slices ![0, 0, 0] ⟨3, ![2, n, 2048]⟩) (hb : S_.BroadcastsInDim (⟨3, ![2, w, 2048]⟩ : Shape) ![])
    (hc : Shape.Concatenates [⟨3, ![2, w, 2048]⟩, ⟨3, ![2, n, 2048]⟩] S2x2048x2048 1)
    (y : FVec Ideal S2x2048x4x2048 .f32) : FVec Ideal S2x2048x2048 .f32 :=
  let q : FVec Ideal S2x2048x2048 .f32 := shapeCast S2x2048x2048 (extractStridedSlice S2x2048x1x2048 ![0, 0, g, 0] y hsl) shapeCasts_S2x2048x1x2048_S2x2048x2048
  Host.divf (subf q (concatenate S2x2048x2048 1 [⟨⟨3, ![2, w, 2048]⟩, broadcastInDim ⟨3, ![2, w, 2048]⟩ ![] hb (constant S_ .f32 0x00000000#32)⟩,
      ⟨⟨3, ![2, n, 2048]⟩, extractStridedSlice ⟨3, ![2, n, 2048]⟩ ![0, 0, 0] q hs⟩] hc))
    (broadcastInDim S2x2048x2048 ![0, 1, 2] bcast_S1x2048x1_S2x2048x2048_0_1_2 (broadcastInDim S1x2048x1 ![1, 2] bcast_S2048x1_S1x2048x1_1_2
      (broadcastInDim S2048x1 ![0] bcast_S2048_S2048x1_0 (minimumf (addf (broadcastInDim S2048 ![] bcast_S_S2048 (constant S_ .f32 0x3F800000#32)) (sitofp .f32 (iotaInDim S2048 32 0)))
        (broadcastInDim S2048 ![] bcast_S_S2048 (constant S_ .f32 bits))))))

/-- The four groups side by side. -/
def allMeans (y : FVec Ideal S2x2048x4x2048 .f32) : FVec Ideal S2x2048x4x2048 .f32 :=
  concatenate S2x2048x4x2048 2 [
    ⟨S2x2048x1x2048, broadcastInDim S2x2048x1x2048 ![0, 1, 3] bcast_S2x2048x2048_S2x2048x1x2048_0_1_3
      (means 0 2046 2 0x40000000#32 slices_S2x2048x4x2048_S2x2048x1x2048_0_0_0_0 slices_S2x2048x2048_S2x2046x2048_0_0_0 bcast_S_S2x2x2048 concatenates_S2x2x2048_S2x2046x2048_S2x2048x2048_d1 y)⟩,
    ⟨S2x2048x1x2048, broadcastInDim S2x2048x1x2048 ![0, 1, 3] bcast_S2x2048x2048_S2x2048x1x2048_0_1_3
      (means 1 2044 4 0x40800000#32 slices_S2x2048x4x2048_S2x2048x1x2048_0_0_1_0 slices_S2x2048x2048_S2x2044x2048_0_0_0 bcast_S_S2x4x2048 concatenates_S2x4x2048_S2x2044x2048_S2x2048x2048_d1 y)⟩,
    ⟨S2x2048x1x2048, broadcastInDim S2x2048x1x2048 ![0, 1, 3] bcast_S2x2048x2048_S2x2048x1x2048_0_1_3
      (means 2 2040 8 0x41000000#32 slices_S2x2048x4x2048_S2x2048x1x2048_0_0_2_0 slices_S2x2048x2048_S2x2040x2048_0_0_0 bcast_S_S2x8x2048 concatenates_S2x8x2048_S2x2040x2048_S2x2048x2048_d1 y)⟩,
    ⟨S2x2048x1x2048, broadcastInDim S2x2048x1x2048 ![0, 1, 3] bcast_S2x2048x2048_S2x2048x1x2048_0_1_3
      (means 3 2032 16 0x41800000#32 slices_S2x2048x4x2048_S2x2048x1x2048_0_0_3_0 slices_S2x2048x2048_S2x2032x2048_0_0_0 bcast_S_S2x16x2048 concatenates_S2x16x2048_S2x2032x2048_S2x2048x2048_d1 y)⟩]
    concatenates_S2x2048x1x2048_S2x2048x1x2048_S2x2048x1x2048_S2x2048x1x2048_S2x2048x4x2048_d2

/-- The running sum of the reference. -/
def runningSum (y : FVec Ideal S2x2048x4x2048 .f32) : FVec Ideal S2x2048x4x2048 .f32 :=
  Host.reduceWindowAdd ![1, 2048, 1, 1] ![1, 1, 1, 1] ![0, 2047, 0, 0] ![0, 0, 0, 0] y (broadcastInDim S_ ![] bcast_S_S_ (constant S_ .f32 0x00000000#32))
    reduceWindows_S2x2048x4x2048_S2x2048x4x2048_w1s1p0_0_w2048s1p2047_0_w1s1p0_0_w1s1p0_0 h_S_

/-- The four groups' channels. -/
def groups (x : FVec Ideal S4096x16384 .bf16) : FVec Ideal S2x2048x4x2048 .f32 :=
  extf .f32 (shapeCast S2x2048x4x2048 (shapeCast S2x2048x8192 (extractStridedSlice S4096x8192 ![0, 0] x slices_S4096x16384_S4096x8192_0_0) shapeCasts_S4096x8192_S2x2048x8192)
    shapeCasts_S2x2048x8192_S2x2048x4x2048) bitsLt_bf16_f32

/-- The pooled channels. -/
def pooledRef (x : FVec Ideal S4096x16384 .bf16) : FVec Ideal S4096x8192 .bf16 :=
  shapeCast S4096x8192 (shapeCast S2x2048x8192 (truncf .bf16 (subf (allMeans (runningSum (groups x))) (groups x)) bitsLt_bf16_f32) shapeCasts_S2x2048x4x2048_S2x2048x8192)
    shapeCasts_S2x2048x8192_S4096x8192

variable (m : (ℓ : Loc nD τ sig) → Buf (Elt Ideal) ℓ)

set_option maxHeartbeats 1600000 in
/-- The reference's result, named in parts. -/
theorem res_eq (c : Dev nD) : Cert.Reference8Ideal.Value.res_out0 m c = pooledRef (m ((c.tc : Thread nD τ).loc main_arg0)) := by
  rfl

/-- A left fold of additions is the sum. -/
theorem foldl_add_eq {ι : Type} (f : ι → EReal) (l : List ι) (a : EReal) : l.foldl (fun r n => r + f n) a = a + (l.map f).sum := by
  induction l generalizing a with
  | nil => simp
  | cons x l ih => rw [List.foldl_cons, ih, List.map_cons, List.sum_cons, add_assoc]

/-- The positions of a window that is long on the second axis alone are the numbers below its length. -/
theorem windowPos_bijective : Function.Bijective (fun k : Fin 2048 => (ix4 0 k 0 0 : (⟨4, ![1, 2048, 1, 1]⟩ : Shape).Idx)) := by
  constructor
  · intro a b h
    exact congrFun h 1
  · intro j
    refine ⟨j 1, funext fun a => ?_⟩
    match a with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _

/-- The running sum at row `s`, over the window's positions. -/
theorem runningSum_window (y : FVec Ideal S2x2048x4x2048 .f32) (b : Fin 2) (s : Fin 2048) (g : Fin 4) (e : Fin 2048) :
    runningSum y (ix4 b s g e) = ∑ k : Fin 2048, if h : 2047 ≤ s.val + k.val then y (ix4 b ⟨s.val + k.val - 2047, by omega⟩ g e) else 0 := by
  unfold runningSum Host.reduceWindowAdd
  rw [Ideal.hostReduceWindowAdd_def]
  unfold Ideal.hostReduceWindowAdd Host.reduceWindow
  have hz : broadcastInDim S_ ![] bcast_S_S_ (constant (F := Ideal) S_ FTy.f32 0#32) (Shape.Idx.first h_S_) = (0 : EReal) := by pointwise
  refine (foldl_add_eq _ _ _).trans ?_
  rw [← Fin.sum_univ_def, ← Equiv.sum_comp (Shape.rowMajor ⟨4, ![1, 2048, 1, 1]⟩), ← windowPos_bijective.sum_comp]
  refine (congrArg (· + _) hz).trans ((zero_add _).trans (Finset.sum_congr rfl fun k _ => ?_))
  simp only [Equiv.symm_apply_apply]
  by_cases h : 2047 ≤ s.val + k.val
  · rw [dif_pos h, dif_pos (fun a => by
      match a with
      | ⟨0, _⟩ => exact ⟨Nat.zero_le _, by show b.val * 1 + 0 - 0 < 2; omega⟩
      | ⟨1, _⟩ => exact ⟨by show 2047 ≤ s.val * 1 + k.val; omega, by show s.val * 1 + k.val - 2047 < 2048; omega⟩
      | ⟨2, _⟩ => exact ⟨Nat.zero_le _, by show g.val * 1 + 0 - 0 < 4; omega⟩
      | ⟨3, _⟩ => exact ⟨Nat.zero_le _, by show e.val * 1 + 0 - 0 < 2048; omega⟩)]
    refine congrArg y (funext fun a => Fin.ext ?_)
    match a with
    | ⟨0, _⟩ => show b.val * 1 + 0 - 0 = b.val; omega
    | ⟨1, _⟩ => show s.val * 1 + k.val - 2047 = s.val + k.val - 2047; omega
    | ⟨2, _⟩ => show g.val * 1 + 0 - 0 = g.val; omega
    | ⟨3, _⟩ => show e.val * 1 + 0 - 0 = e.val; omega
  · rw [dif_neg h, dif_neg (fun hin => h (by
      have h1 := (hin 1).1
      change 2047 ≤ s.val * 1 + k.val at h1
      omega))]
    exact hz

/-- The running sum of real numbers. -/
theorem runningSum_at (y : FVec Ideal S2x2048x4x2048 .f32) (b : Fin 2) (g : Fin 4) (e : Fin 2048) (a : ℕ → ℝ) (hy : ∀ s : Fin 2048, y (ix4 b s g e) = (a s.val : EReal)) (s : Fin 2048) :
    runningSum y (ix4 b s g e) = ((∑ j ∈ Finset.range (s.val + 1), a j : ℝ) : EReal) := by
  rw [runningSum_window, coe_sum_range, ← running 2048 s.val s.isLt (fun j => (a j : EReal)), ← Fin.sum_univ_eq_sum_range (fun k => if 2048 - 1 ≤ s.val + k then (a (s.val + k - (2048 - 1)) : EReal) else 0)]
  refine Finset.sum_congr rfl fun k _ => ?_
  by_cases h : 2047 ≤ s.val + k.val
  · rw [dif_pos h, if_pos h, hy]
  · rw [dif_neg h, if_neg h]

/-- Rows moved down by `w`, zeros before them. -/
theorem lag_at (n w : ℕ) (q : FVec Ideal S2x2048x2048 .f32) (hnw : n + w = 2048)
    (hs : S2x2048x2048.Slices ![0, 0, 0] ⟨3, ![2, n, 2048]⟩) (hb : S_.BroadcastsInDim (⟨3, ![2, w, 2048]⟩ : Shape) ![])
    (hc : Shape.Concatenates [⟨3, ![2, w, 2048]⟩, ⟨3, ![2, n, 2048]⟩] S2x2048x2048 1) (b : Fin 2) (s : Fin 2048) (e : Fin 2048) :
    concatenate S2x2048x2048 1 [⟨⟨3, ![2, w, 2048]⟩, broadcastInDim ⟨3, ![2, w, 2048]⟩ ![] hb (constant (F := Ideal) S_ .f32 0x00000000#32)⟩,
      ⟨⟨3, ![2, n, 2048]⟩, extractStridedSlice ⟨3, ![2, n, 2048]⟩ ![0, 0, 0] q hs⟩] hc (ix3 b s e) =
      if h : w ≤ s.val then q (ix3 b ⟨s.val - w, by omega⟩ e) else (0 : EReal) := by
  pointwise
  by_cases h : w ≤ s.val
  · rw [dif_pos h, dif_neg (show ¬s.val < w by omega)]
    refine congrArg q (funext fun a => Fin.ext ?_)
    match a with
    | ⟨0, _⟩ => rfl
    | ⟨1, _⟩ => rfl
    | ⟨2, _⟩ => rfl
  · rw [dif_neg h, dif_pos (show s.val < w by omega)]

/-- One group's windows at an index, of running sums of real numbers. -/
theorem means_at (g n w : ℕ) (hg : g < 4) (hnw : n + w = 2048) (hw : 0 < w) (bits : BitVec 32) (hbits : Ideal.ofBits .f32 bits = ((w : ℝ) : EReal))
    (hsl : S2x2048x4x2048.Slices ![0, 0, g, 0] S2x2048x1x2048)
    (hs : S2x2048x2048.Slices ![0, 0, 0] ⟨3, ![2, n, 2048]⟩) (hb : S_.BroadcastsInDim (⟨3, ![2, w, 2048]⟩ : Shape) ![])
    (hc : Shape.Concatenates [⟨3, ![2, w, 2048]⟩, ⟨3, ![2, n, 2048]⟩] S2x2048x2048 1)
    (y : FVec Ideal S2x2048x4x2048 .f32) (b : Fin 2) (e : Fin 2048) (a : ℕ → ℝ)
    (hy : ∀ s : Fin 2048, y (ix4 b s ⟨g, hg⟩ e) = ((∑ j ∈ Finset.range (s.val + 1), a j : ℝ) : EReal)) (s : Fin 2048) :
    means g n w bits hsl hs hb hc y (ix3 b s e) = ((past w a s.val * (1 / min ((s.val : ℝ) + 1) w) : ℝ) : EReal) := by
  have hs' := s.isLt
  have hq : ∀ r : Fin 2048, (shapeCast S2x2048x2048 (extractStridedSlice S2x2048x1x2048 ![0, 0, g, 0] y hsl) shapeCasts_S2x2048x1x2048_S2x2048x2048 : FVec Ideal S2x2048x2048 .f32) (ix3 b r e)
      = ((∑ j ∈ Finset.range (r.val + 1), a j : ℝ) : EReal) := fun r => by
    rw [← hy r]; pointwise
  have hn : (subf (shapeCast S2x2048x2048 (extractStridedSlice S2x2048x1x2048 ![0, 0, g, 0] y hsl) shapeCasts_S2x2048x1x2048_S2x2048x2048 : FVec Ideal S2x2048x2048 .f32)
      (concatenate S2x2048x2048 1 [⟨⟨3, ![2, w, 2048]⟩, broadcastInDim ⟨3, ![2, w, 2048]⟩ ![] hb (constant (F := Ideal) S_ .f32 0x00000000#32)⟩,
      ⟨⟨3, ![2, n, 2048]⟩, extractStridedSlice ⟨3, ![2, n, 2048]⟩ ![0, 0, 0] (shapeCast S2x2048x2048 (extractStridedSlice S2x2048x1x2048 ![0, 0, g, 0] y hsl) shapeCasts_S2x2048x1x2048_S2x2048x2048 : FVec Ideal S2x2048x2048 .f32) hs⟩] hc)) (ix3 b s e)
      = ((past w a s.val : ℝ) : EReal) := by
    rw [subf_apply, lag_at n w _ hnw, hq s, ← past_eq, EReal.coe_sub]
    refine congrArg (fun z => ((∑ j ∈ Finset.range (s.val + 1), a j : ℝ) : EReal) - z) ?_
    by_cases h : w ≤ s.val
    · rw [dif_pos h, hq]
      rw [show s.val + 1 - w = s.val - w + 1 by omega]
    · rw [dif_neg h, show s.val + 1 - w = 0 by omega, Finset.sum_range_zero, EReal.coe_zero]
  have hr : FloatOps.sitofp (F := Ideal) FTy.f32 (BitVec.ofNat 32 s.val) = ((s.val : ℝ) : EReal) := toInt_row s.val (by omega)
  have hd : (broadcastInDim S2x2048x2048 ![0, 1, 2] bcast_S1x2048x1_S2x2048x2048_0_1_2 (broadcastInDim S1x2048x1 ![1, 2] bcast_S2048x1_S1x2048x1_1_2
      (broadcastInDim S2048x1 ![0] bcast_S2048_S2048x1_0 (minimumf (addf (broadcastInDim S2048 ![] bcast_S_S2048 (constant S_ .f32 0x3F800000#32)) (sitofp .f32 (iotaInDim S2048 32 0)))
        (broadcastInDim S2048 ![] bcast_S_S2048 (constant S_ .f32 bits))))) : FVec Ideal S2x2048x2048 .f32) (ix3 b s e) = min (1 + ((s.val : ℝ) : EReal)) (Ideal.ofBits .f32 bits) := by
    rw [← hr]; pointwise
  refine (congrArg₂ Ideal.div hn hd).trans ?_
  exact div_count _ _ w hw _ hbits

/-- All groups at an index. -/
theorem allMeans_at (y : FVec Ideal S2x2048x4x2048 .f32) (b : Fin 2) (g : Fin 4) (e : Fin 2048) (a : ℕ → ℝ)
    (hy : ∀ s : Fin 2048, y (ix4 b s g e) = ((∑ j ∈ Finset.range (s.val + 1), a j : ℝ) : EReal)) (s : Fin 2048) :
    allMeans y (ix4 b s g e) = ((past (2 ^ (g.val + 1)) a s.val * (1 / min ((s.val : ℝ) + 1) ((2 ^ (g.val + 1) : ℕ) : ℝ)) : ℝ) : EReal) := by
  unfold allMeans
  pointwise
  fin_cases g
  · exact means_at 0 2046 2 (by omega) (by omega) (by omega) _ bits_two _ _ _ _ y b e a hy s
  · exact means_at 1 2044 4 (by omega) (by omega) (by omega) _ bits_four _ _ _ _ y b e a hy s
  · exact means_at 2 2040 8 (by omega) (by omega) (by omega) _ bits_eight _ _ _ _ y b e a hy s
  · exact means_at 3 2032 16 (by omega) (by omega) (by omega) _ bits_sixteen _ _ _ _ y b e a hy s

/-- The pooled channel at row `s` of sequence `b`, channel `e` of group `g`. -/
theorem pooledRef_at (x : FVec Ideal S4096x16384 .bf16) (b : Fin 2) (s : Fin 2048) (g : Fin 4) (e : Fin 2048) (a : ℕ → ℝ)
    (hx : ∀ s : Fin 2048, x (ix2 ⟨b.val * 2048 + s.val, by omega⟩ ⟨g.val * 2048 + e.val, by omega⟩) = (a s.val : EReal)) :
    pooledRef x (ix2 ⟨b.val * 2048 + s.val, by omega⟩ ⟨g.val * 2048 + e.val, by omega⟩) = ((poolOf (2 ^ (g.val + 1)) a s.val : ℝ) : EReal) := by
  have hg : ∀ s : Fin 2048, groups x (ix4 b s g e) = (a s.val : EReal) := fun s => by
    rw [← hx s]; unfold groups; pointwise
  unfold pooledRef
  pointwise
  rw [allMeans_at _ b g e a (runningSum_at _ b g e a hg), hg, poolOf, EReal.coe_sub]

end Cert.PoolFwd
-- ==== Proof.PoolFwdClaim.lean ====
/- The pooling's run and the reference's leave the same array. -/
module

public import proofs.«01_k».proof.Defs
public import proofs.«01_k».proof.Proof.PoolFwdKernel
public import proofs.«01_k».proof.Proof.PoolFwdRef
public import proofs.«01_k».proof.Proof.Finite

@[expose] public section

set_option maxRecDepth 16384

noncomputable section

namespace Cert.PoolFwdClaim

open Cert.PoolFwd Idealize.ShloMosaic Idealize.ShloMosaic.Pointwise Idealize.SL.Sem

/-- The precondition's shape facts. -/
instance preFacts : Cert.Pre_proj_finite.Facts where
  bcast_S_S4096x8192 := by decide
  slices_S4096x16384_S4096x8192_0_0 := by decide
  bitsLt_bf16_f32 := by decide

/-- Where the precondition holds, no entry of the pooled half is infinite. -/
theorem real_of_pre (x : FVec Ideal ⟨2, ![4096, 16384]⟩ .bf16) (h : Cert.Pre_proj_finite.fn (F := Ideal) x = fun _ => 1#1) : Real8 x := by
  intro r l
  have h1 := congrFun h (ix2 r l)
  revert h1
  pointwise [Cert.Pre_proj_finite.fn]
  exact fun h1 => Cert.Finite.ne_of_abs_lt _ h1

/-- The reference's result is the pooled channels. -/
theorem ref_eq (x : FVec Ideal ⟨2, ![4096, 16384]⟩ .bf16) (hx : Real8 x) : pooledRef x = fun j => pooled x (j 0).val (j 1).val := by
  funext j
  obtain ⟨r, k, rfl⟩ : ∃ (r : Fin 4096) (k : Fin 8192), j = ix2 r k := ⟨j 0, j 1, by funext a; fin_cases a <;> rfl⟩
  have h1 := pooledRef_at x ⟨r.val / 2048, by omega⟩ ⟨r.val % 2048, by omega⟩ ⟨k.val / 2048, by omega⟩ ⟨k.val % 2048, by omega⟩
    (fun s => entry x (r.val / 2048 * 2048 + s) k.val) (fun s => by
      refine Eq.trans ?_ (eq_entry x hx ⟨r.val / 2048 * 2048 + s.val, by omega⟩ ⟨k.val, by omega⟩ k.isLt)
      exact congrArg (fun q => x (ix2 _ q)) (Fin.ext (by show k.val / 2048 * 2048 + k.val % 2048 = k.val; omega)))
  refine Eq.trans (congrArg₂ (fun p q => pooledRef x (ix2 p q)) (Fin.ext ?_) (Fin.ext ?_)) h1
  · show r.val = r.val / 2048 * 2048 + r.val % 2048; omega
  · show k.val = k.val / 2048 * 2048 + k.val % 2048; omega

/-- The reference leaves its arguments as they were and no pending signals. -/
theorem quiescent : Cert.quiescent_Reference8Ideal := by
  intro m g _
  exact (θ_run _ _ _).mono (fun r h => ⟨fun c => (h c).2, sem_eq_zero_of_no_sems (by decide) _⟩) (Cert.Reference8Ideal.Value.run m g)

set_option maxHeartbeats 1600000 in
/-- The two programs leave the same pooled channels. -/
theorem same : Cert.algebraic_Kernel8Ideal_Reference8Ideal_pre_proj_finite := by
  pair_intro
  · run_from Cert.Kernel8Ideal.Gen.run_main m g
  · run_from Cert.Reference8Ideal.Value.run m' g'
    have hx := real_of_pre _ (hpre c)
    have ha := hagree c
    exact (res_eq m' c).trans ((congrArg pooledRef ha).trans ((ref_eq _ hx).trans (final m c hx).symm))

end Cert.PoolFwdClaim
-- ==== Proof.Gate.lean ====
/- Mixer B's gate, block by block. -/
module

public import proofs.«01_k».proof.Proof.Gen.Kernel10Ideal.Frame
public import Idealize.ShloMosaic.Lib.Pipeline.ValueKit

@[expose] public section

set_option maxRecDepth 16384

noncomputable section

namespace Cert.Gate

open Cert.Kernel10Ideal Cert.Kernel10Ideal.Gen Idealize.ShloMosaic Idealize.ShloMosaic.TcCoe Idealize.ShloMosaic.Pointwise Idealize.SL.Sem

variable (m : (ℓ : Loc nD τ sig) → Buf (Elt Ideal) ℓ)

/-- The blocks' indices at a grid point. -/
theorem idx : ∀ t : Fin cfg0.N, win0_0.index t = ![t.val / 8, t.val % 8] ∧ win0_1.index t = ![t.val / 8, 8 + t.val % 8] ∧ win0_2.index t = ![0, t.val % 8] ∧ win0_3.index t = ![0, t.val % 8] ∧ win0_4.index t = ![t.val / 8, t.val % 8] :=
  (by decide +kernel : ∀ t : Fin grid0.N, win0_0.index t = ![t.val / 8, t.val % 8] ∧ win0_1.index t = ![t.val / 8, 8 + t.val % 8] ∧ win0_2.index t = ![0, t.val % 8] ∧ win0_3.index t = ![0, t.val % 8] ∧ win0_4.index t = ![t.val / 8, t.val % 8])

/-- The mixed value times the gate. -/
def gate (q : FVec Ideal ⟨2, ![4096, 8192]⟩ .bf16) (p : FVec Ideal ⟨2, ![4096, 16384]⟩ .bf16) (b s : FVec Ideal ⟨2, ![1, 8192]⟩ .f32) : FVec Ideal ⟨2, ![4096, 8192]⟩ .bf16 := fun j =>
  ((show EReal from q (ix2 (j 0) (j 1))) + (show EReal from b (ix2 0 (j 1)))) * (show EReal from s (ix2 0 (j 1)))
    * ((show EReal from p (ix2 (j 0) ⟨8192 + (j 1).val, by have := (j 1).isLt; dsimp at this; omega⟩)) * Ideal.logistic (show EReal from p (ix2 (j 0) ⟨8192 + (j 1).val, by have := (j 1).isLt; dsimp at this; omega⟩)))

/-- What the run leaves. -/
theorem final (c : Dev nD) : (dats m 0 c).arrAt 4 cfg0.N = gate (m ((c.tc : Thread nD τ).loc main_arg0)) (m ((c.tc : Thread nD τ).loc main_arg1)) (m ((c.tc : Thread nD τ).loc main_arg2)) (m ((c.tc : Thread nD τ).loc main_arg3)) := by
  refine (dats m 0 c).arrAt_eq_of_covers 4 _ (by decide +kernel) fun t _ y => ?_
  blk_simp; rw [after0_4]; frame_out
  pointwise [k0_pay1, gate]
  blk_point [iblk, V, idx t]

end Cert.Gate

end
-- ==== Proof.GateRef.lean ====
/- The reference's gate of mixer B is the kernel's. -/
module

public import proofs.«01_k».proof.Proof.Gen.Reference10Ideal.Run
public import proofs.«01_k».proof.Proof.Gate

@[expose] public section

set_option maxRecDepth 16384

noncomputable section

namespace Cert.Gate

open Cert.Reference10Ideal Cert.Reference10Ideal.Gen Idealize.ShloMosaic Idealize.ShloMosaic.TcCoe Idealize.ShloMosaic.Pointwise Idealize.SL.Sem

variable (m : (ℓ : Loc nD τ sig) → Buf (Elt Ideal) ℓ)

/-- The gate's columns of the projection. -/
def zs (p : FVec Ideal S4096x16384 .bf16) : FVec Ideal S4096x8192 .f32 := extf .f32 (extractStridedSlice S4096x8192 ![0, 8192] p slices_S4096x16384_S4096x8192_0_8192) bitsLt_bf16_f32

/-- The logistic function, as the reference computes it. -/
def sigm (p : FVec Ideal S4096x16384 .bf16) : FVec Ideal S4096x8192 .f32 :=
  Host.divf (broadcastInDim S4096x8192 ![] bcast_S_S4096x8192 (constant S_ .f32 0x3F800000#32)) (addf (broadcastInDim S4096x8192 ![] bcast_S_S4096x8192 (constant S_ .f32 0x3F800000#32)) (Host.exp (Host.negf (zs p))))

/-- The gate's column at an entry. -/
theorem zs_at (p : FVec Ideal S4096x16384 .bf16) (r : Fin 4096) (k : Fin 8192) : (zs p (ix2 r k) : EReal) = p (ix2 r ⟨8192 + k.val, by omega⟩) := by
  pointwise [zs]
  first | rfl | blk_ext | skip

/-- The logistic function at an entry. -/
theorem sigm_at (p : FVec Ideal S4096x16384 .bf16) (r : Fin 4096) (k : Fin 8192) : (sigm p (ix2 r k) : EReal) = Ideal.logistic (p (ix2 r ⟨8192 + k.val, by omega⟩)) := by
  rw [← zs_at p r k]
  pointwise [sigm]
  rfl

/-- The reference's gate. -/
def refGate (q : FVec Ideal S4096x8192 .bf16) (p : FVec Ideal S4096x16384 .bf16) (b s : FVec Ideal S1x8192 .f32) : FVec Ideal S4096x8192 .bf16 :=
  truncf .bf16 (mulf (mulf (addf (extf .f32 q bitsLt_bf16_f32) (broadcastInDim S4096x8192 ![0, 1] bcast_S1x8192_S4096x8192_0_1 b)) (broadcastInDim S4096x8192 ![0, 1] bcast_S1x8192_S4096x8192_0_1 s)) (mulf (zs p) (sigm p))) bitsLt_bf16_f32

/-- The reference's gate is the kernel's. -/
theorem refGate_eq (q : FVec Ideal S4096x8192 .bf16) (p : FVec Ideal S4096x16384 .bf16) (b s : FVec Ideal S1x8192 .f32) : refGate q p b s = gate q p b s := by
  funext j
  obtain ⟨r, k, rfl⟩ : ∃ (r : Fin 4096) (k : Fin 8192), j = ix2 r k := ⟨j 0, j 1, by funext a; fin_cases a <;> rfl⟩
  pointwise [refGate]
  rw [zs_at, sigm_at]
  rfl

set_option maxHeartbeats 1600000 in
/-- What the reference leaves, named in parts. -/
theorem run (ρ : Dev nD → PrngReg) :
    θ_run defs (onTc (τ := τ) (main (F := Ideal))) ⟨m, fun _ => 0, ρ⟩ fun r => ∀ c : Dev nD,
      r.2.mem ((c.tc : Thread nD τ).loc main_v9) = refGate (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rfl), (h c).2⟩) (Value.run m ρ)

end Cert.Gate

end
-- ==== Proof.GateClaim.lean ====
/- The claims about mixer B's gate. -/
module

public import proofs.«01_k».proof.Defs
public import proofs.«01_k».proof.Proof.GateRef
public import Idealize.ShloMosaic.Lib.Claim

@[expose] public section

set_option maxRecDepth 200000

noncomputable section

namespace Cert.GateClaim

open Idealize.ShloMosaic Idealize.ShloMosaic.Pointwise Idealize.SL.Sem

/-- The reference leaves its arguments as they were and no pending signals. -/
theorem quiescent : Cert.quiescent_Reference10Ideal := by
  intro m g _
  exact (θ_run _ _ _).mono (fun r h => ⟨fun c => (h c).2, sem_eq_zero_of_no_sems (by decide) _⟩) (Cert.Reference10Ideal.Value.run m g)

set_option maxHeartbeats 1600000 in
/-- The kernel and the reference leave the same results. -/
theorem same : Cert.algebraic_Kernel10Ideal_Reference10Ideal := by
  pair_intro
  · run_from Cert.Kernel10Ideal.Gen.run_main m g
  · run_from Cert.Gate.run m' g'
    exact (Cert.Gate.refGate_eq _ _ _ _).trans (Cert.Gate.final m c).symm

end Cert.GateClaim

end
-- ==== Proof.PreNorm.lean ====
/- The norm before mixer A, block by block. -/
module

public import proofs.«01_k».proof.Proof.Gen.Kernel12Ideal.Frame
public import proofs.«01_k».proof.Proof.NormMath
public import Idealize.ShloMosaic.Lib.Pipeline.ValueKit

@[expose] public section

set_option maxRecDepth 16384

noncomputable section

namespace Cert.PreNorm

open Cert.Kernel12Ideal Cert.Kernel12Ideal.Gen Idealize.ShloMosaic Idealize.ShloMosaic.TcCoe Idealize.ShloMosaic.Pointwise Idealize.SL.Sem

variable (m : (ℓ : Loc nD τ sig) → Buf (Elt Ideal) ℓ)

/-- The blocks' indices at a grid point. -/
theorem idx : ∀ t : Fin cfg0.N, win0_0.index t = ![t.val, 0] ∧ win0_1.index t = ![0, 0] ∧ win0_2.index t = ![t.val, 0] :=
  (by decide +kernel : ∀ t : Fin grid0.N, win0_0.index t = ![t.val, 0] ∧ win0_1.index t = ![0, 0] ∧ win0_2.index t = ![t.val, 0])

/-- A normed row times its scale. -/
def norm (x : FVec Ideal ⟨2, ![4096, 4096]⟩ .f32) (g : FVec Ideal ⟨2, ![1, 4096]⟩ .f32) : FVec Ideal ⟨2, ![4096, 4096]⟩ .f32 := fun j =>
  (show EReal from x (ix2 (j 0) (j 1))) * Cert.Norm.R (fun k : Fin 4096 => x (ix2 (j 0) k)) * (show EReal from g (ix2 0 (j 1)))

/-- The norm, rounded. -/
def normed (x : FVec Ideal ⟨2, ![4096, 4096]⟩ .f32) (g : FVec Ideal ⟨2, ![1, 4096]⟩ .f32) : FVec Ideal ⟨2, ![4096, 4096]⟩ .bf16 := fun j =>
  (show EReal from norm x g j)

/-- What the run leaves. -/
theorem final (c : Dev nD) : (dats m 0 c).arrAt 2 cfg0.N = normed (m ((c.tc : Thread nD τ).loc main_arg0)) (m ((c.tc : Thread nD τ).loc main_arg1)) := by
  refine (dats m 0 c).arrAt_eq_of_covers 2 _ (by decide +kernel) fun t _ y => ?_
  blk_simp; rw [after0_2]; frame_out
  pointwise [k0_pay1, normed, norm, Cert.Norm.R, Cert.Norm.V]
  blk_point [iblk, V, idx t]

end Cert.PreNorm

end
-- ==== Proof.PreNormRef.lean ====
/- The reference's norm is the kernel's. -/
module

public import proofs.«01_k».proof.Proof.Gen.Reference12Ideal.Run
public import proofs.«01_k».proof.Proof.NormRef
public import proofs.«01_k».proof.Proof.PreNorm

@[expose] public section

set_option maxRecDepth 16384

noncomputable section

namespace Cert.PreNorm

open Cert.Reference12Ideal Cert.Reference12Ideal.Gen Idealize.ShloMosaic Idealize.ShloMosaic.TcCoe Idealize.ShloMosaic.Pointwise Idealize.SL.Sem

variable (m : (ℓ : Loc nD τ sig) → Buf (Elt Ideal) ℓ)

/-- The reference's norm. -/
def refNorm (x : FVec Ideal S4096x4096 .f32) (g : FVec Ideal S1x4096 .f32) : FVec Ideal S4096x4096 .f32 := NormRef.scaled (NormRef.direct x x) g

/-- The reference's norm is the kernel's. -/
theorem refNorm_eq (x : FVec Ideal S4096x4096 .f32) (g : FVec Ideal S1x4096 .f32) : refNorm x g = norm x g := by
  funext j
  obtain ⟨r, k, rfl⟩ : ∃ (r : Fin 4096) (k : Fin 4096), j = ix2 r k := ⟨j 0, j 1, by funext a; fin_cases a <;> rfl⟩
  show (NormRef.scaled (NormRef.direct x x) g (ix2 r k) : EReal) = _
  rw [NormRef.scaled_at, NormRef.direct_at]
  rfl

/-- The reference's norm, rounded. -/
def refNormed (x : FVec Ideal S4096x4096 .f32) (g : FVec Ideal S1x4096 .f32) : FVec Ideal S4096x4096 .bf16 := truncf .bf16 (refNorm x g) bitsLt_bf16_f32

/-- The reference's rounded norm is the kernel's. -/
theorem refNormed_eq (x : FVec Ideal S4096x4096 .f32) (g : FVec Ideal S1x4096 .f32) : refNormed x g = normed x g := by
  unfold refNormed
  rw [refNorm_eq]
  rfl

set_option maxHeartbeats 1600000 in
/-- What the reference leaves, named in parts. -/
theorem run (ρ : Dev nD → PrngReg) :
    θ_run defs (onTc (τ := τ) (main (F := Ideal))) ⟨m, fun _ => 0, ρ⟩ fun r => ∀ c : Dev nD,
      r.2.mem ((c.tc : Thread nD τ).loc main_v14) = refNormed (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c => ⟨(h c).1.trans (by rfl), (h c).2⟩) (Value.run m ρ)

end Cert.PreNorm

end
-- ==== Proof.PreNormClaim.lean ====
/- The claims about the norm before mixer A. -/
module

public import proofs.«01_k».proof.Defs
public import proofs.«01_k».proof.Proof.PreNormRef
public import Idealize.ShloMosaic.Lib.Claim

@[expose] public section

set_option maxRecDepth 200000

noncomputable section

namespace Cert.PreNormClaim

open Idealize.ShloMosaic Idealize.ShloMosaic.Pointwise Idealize.SL.Sem

/-- The reference leaves its arguments as they were and no pending signals. -/
theorem quiescent : Cert.quiescent_Reference12Ideal := by
  intro m g _
  exact (θ_run _ _ _).mono (fun r h => ⟨fun c => (h c).2, sem_eq_zero_of_no_sems (by decide) _⟩) (Cert.Reference12Ideal.Value.run m g)

set_option maxHeartbeats 1600000 in
/-- The kernel and the reference leave the same results. -/
theorem same : Cert.algebraic_Kernel12Ideal_Reference12Ideal := by
  pair_intro
  · run_from Cert.Kernel12Ideal.Gen.run_main m g
  · run_from Cert.PreNorm.run m' g'
    exact (Cert.PreNorm.refNormed_eq _ _).trans (Cert.PreNorm.final m c).symm

end Cert.PreNormClaim

end
-- ==== Proof.PostPre.lean ====
/- The norm after mixer A, the residual, and the norm before mixer B, block by block. -/
module

public import proofs.«01_k».proof.Proof.Gen.Kernel13Ideal.Frame
public import proofs.«01_k».proof.Proof.PreNorm
public import Idealize.ShloMosaic.Lib.Pipeline.ValueKit

@[expose] public section

set_option maxRecDepth 16384

noncomputable section

namespace Cert.PostPre

open Cert.Kernel13Ideal Cert.Kernel13Ideal.Gen Idealize.ShloMosaic Idealize.ShloMosaic.TcCoe Idealize.ShloMosaic.Pointwise Idealize.SL.Sem

variable (m : (ℓ : Loc nD τ sig) → Buf (Elt Ideal) ℓ)

/-- The blocks' indices at a grid point. -/
theorem idx : ∀ t : Fin cfg0.N, win0_0.index t = ![t.val, 0] ∧ win0_1.index t = ![t.val, 0] ∧ win0_2.index t = ![0, 0] ∧ win0_3.index t = ![0, 0] ∧ win0_4.index t = ![t.val, 0] ∧ win0_5.index t = ![t.val, 0] :=
  (by decide +kernel : ∀ t : Fin grid0.N, win0_0.index t = ![t.val, 0] ∧ win0_1.index t = ![t.val, 0] ∧ win0_2.index t = ![0, 0] ∧ win0_3.index t = ![0, 0] ∧ win0_4.index t = ![t.val, 0] ∧ win0_5.index t = ![t.val, 0])

/-- The residual stream with the normed mixer. -/
def x1 (x mx : FVec Ideal ⟨2, ![4096, 4096]⟩ .f32) (g : FVec Ideal ⟨2, ![1, 4096]⟩ .f32) : FVec Ideal ⟨2, ![4096, 4096]⟩ .f32 := fun j =>
  (show EReal from x (ix2 (j 0) (j 1))) + (show EReal from Cert.PreNorm.norm mx g j)

/-- What the run leaves in the first result. -/
theorem final_x1 (c : Dev nD) : (dats m 0 c).arrAt 4 cfg0.N = x1 (m ((c.tc : Thread nD τ).loc main_arg0)) (m ((c.tc : Thread nD τ).loc main_arg1)) (m ((c.tc : Thread nD τ).loc main_arg2)) := by
  refine (dats m 0 c).arrAt_eq_of_covers 4 _ (by decide +kernel) fun t _ y => ?_
  blk_simp; rw [after0_4]; frame_out
  pointwise [k0_pay1, x1, Cert.PreNorm.norm, Cert.Norm.R, Cert.Norm.V]
  blk_point [iblk, V, idx t]

/-- What the run leaves in the second result. -/
theorem final_h (c : Dev nD) : (dats m 0 c).arrAt 5 cfg0.N = Cert.PreNorm.normed (x1 (m ((c.tc : Thread nD τ).loc main_arg0)) (m ((c.tc : Thread nD τ).loc main_arg1)) (m ((c.tc : Thread nD τ).loc main_arg2))) (m ((c.tc : Thread nD τ).loc main_arg3)) := by
  refine (dats m 0 c).arrAt_eq_of_covers 5 _ (by decide +kernel) fun t _ y => ?_
  blk_simp; rw [after0_5]; frame_out
  pointwise [k0_pay2, k0_pay1, Cert.PreNorm.normed, x1, Cert.PreNorm.norm, Cert.Norm.R, Cert.Norm.V]
  blk_point [iblk, V, idx t]

end Cert.PostPre

end
-- ==== Proof.PostPreRef.lean ====
/- The reference's norms between the mixers are the kernel's. -/
module

public import proofs.«01_k».proof.Proof.Gen.Reference13Ideal.Run
public import proofs.«01_k».proof.Proof.PreNormRef
public import proofs.«01_k».proof.Proof.PostPre

@[expose] public section

set_option maxRecDepth 16384

noncomputable section

namespace Cert.PostPre

open Cert.Reference13Ideal Cert.Reference13Ideal.Gen Idealize.ShloMosaic Idealize.ShloMosaic.TcCoe Idealize.ShloMosaic.Pointwise Idealize.SL.Sem

variable (m : (ℓ : Loc nD τ sig) → Buf (Elt Ideal) ℓ)

/-- The reference's residual stream. -/
def refX1 (x mx : FVec Ideal S4096x4096 .f32) (g : FVec Ideal S1x4096 .f32) : FVec Ideal S4096x4096 .f32 := addf x (PreNorm.refNorm mx g)

/-- The reference's residual stream is the kernel's. -/
theorem refX1_eq (x mx : FVec Ideal S4096x4096 .f32) (g : FVec Ideal S1x4096 .f32) : refX1 x mx g = x1 x mx g := by
  unfold refX1
  rw [PreNorm.refNorm_eq]
  funext j
  obtain ⟨r, k, rfl⟩ : ∃ (r : Fin 4096) (k : Fin 4096), j = ix2 r k := ⟨j 0, j 1, by funext a; fin_cases a <;> rfl⟩
  rfl

/-- The reference's second result is the kernel's. -/
theorem refH_eq (x mx : FVec Ideal S4096x4096 .f32) (g g' : FVec Ideal S1x4096 .f32) : PreNorm.refNormed (refX1 x mx g) g' = PreNorm.normed (x1 x mx g) g' := by
  rw [refX1_eq, PreNorm.refNormed_eq]

set_option maxHeartbeats 1600000 in
/-- What the reference leaves, named in parts. -/
theorem run (ρ : Dev nD → PrngReg) :
    θ_run defs (onTc (τ := τ) (main (F := Ideal))) ⟨m, fun _ => 0, ρ⟩ fun r => ∀ c : Dev nD,
      r.2.mem ((c.tc : Thread nD τ).loc main_v14) = refX1 (m ((c.tc : Thread nD τ).loc main_arg0)) (m ((c.tc : Thread nD τ).loc main_arg1)) (m ((c.tc : Thread nD τ).loc main_arg2))
      ∧ r.2.mem ((c.tc : Thread nD τ).loc main_v29) = PreNorm.refNormed (refX1 (m ((c.tc : Thread nD τ).loc main_arg0)) (m ((c.tc : Thread nD τ).loc main_arg1)) (m ((c.tc : Thread nD τ).loc main_arg2))) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c => ⟨(h c).1.trans (by rfl), (h c).2.1.trans (by rfl), (h c).2.2⟩) (Value.run m ρ)

end Cert.PostPre

end
-- ==== Proof.PostPreClaim.lean ====
/- The claims about the norms between the mixers. -/
module

public import proofs.«01_k».proof.Defs
public import proofs.«01_k».proof.Proof.PostPreRef
public import Idealize.ShloMosaic.Lib.Claim

@[expose] public section

set_option maxRecDepth 200000

noncomputable section

namespace Cert.PostPreClaim

open Idealize.ShloMosaic Idealize.ShloMosaic.Pointwise Idealize.SL.Sem

/-- The reference leaves its arguments as they were and no pending signals. -/
theorem quiescent : Cert.quiescent_Reference13Ideal := by
  intro m g _
  exact (θ_run _ _ _).mono (fun r h => ⟨fun c => (h c).2.2, sem_eq_zero_of_no_sems (by decide) _⟩) (Cert.Reference13Ideal.Value.run m g)

set_option maxHeartbeats 1600000 in
/-- The kernel and the reference leave the same results. -/
theorem same : Cert.algebraic_Kernel13Ideal_Reference13Ideal := by
  pair_intro
  · run_from Cert.Kernel13Ideal.Gen.run_main m g
  · run_from Cert.PostPre.run m' g'
    · exact (Cert.PostPre.refX1_eq _ _ _).trans (Cert.PostPre.final_x1 m c).symm
    · exact (Cert.PostPre.refH_eq _ _ _ _).trans (Cert.PostPre.final_h m c).symm

end Cert.PostPreClaim

end
-- ==== Proof.Small.lean ====
/- The small weights' summed gradient and their update. -/
module

public import proofs.«01_k».proof.Proof.Gen.Kernel26Ideal.Frame
public import proofs.«01_k».proof.Proof.Gen.Reference26Ideal.Run
public import Idealize.ShloMosaic.Lib.Pipeline.ValueKit

@[expose] public section

set_option maxRecDepth 16384

noncomputable section

namespace Cert.Small

open Cert.Kernel26Ideal Cert.Kernel26Ideal.Gen Idealize.ShloMosaic Idealize.ShloMosaic.TcCoe Idealize.ShloMosaic.Pointwise Idealize.SL.Sem

variable (m : (ℓ : Loc nD τ sig) → Buf (Elt Ideal) ℓ)

/-- The blocks are the whole arrays. -/
theorem idx : ∀ t : Fin cfg0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] :=
  (by decide +kernel : ∀ t : Fin grid0.N, win0_0.index t = ![0, 0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0])

/-- The gradient: the eight devices' gradients added, and masked. -/
def grad (g : FVec Ideal ⟨3, ![8, 2320, 128]⟩ .f32) (k : FVec Ideal ⟨2, ![2320, 128]⟩ .f32) : FVec Ideal ⟨2, ![2320, 128]⟩ .f32 := fun j =>
  (∑ d : Fin 8, (show EReal from g (ix3 d (j 0) (j 1)))) * (show EReal from k (ix2 (j 0) (j 1)))

/-- What the run leaves in the first result. -/
theorem final_g (c : Dev nD) : (dats m 0 c).arrAt 5 cfg0.N = grad (m ((c.tc : Thread nD τ).loc main_arg0)) (m ((c.tc : Thread nD τ).loc main_arg1)) := by
  refine (dats m 0 c).arrAt_eq_of_after_last 5 t0_0 (by decide +kernel) _ fun j => ?_
  blk_simp; rw [after0_5]; frame_out
  pointwise [k0_pay4, grad]
  rw [Fin.sum_univ_eight]
  blk_point [iblk, V, idx t0_0]

/-- The first moment. -/
def mom (g mo : FVec Ideal ⟨2, ![2320, 128]⟩ .f32) : FVec Ideal ⟨2, ![2320, 128]⟩ .f32 := fun j =>
  Ideal.ofBits .f32 0x3F666666#32 * (show EReal from mo j) + Ideal.ofBits .f32 0x3DCCCCCD#32 * (show EReal from g j)

/-- The second moment. -/
def vel (g ve : FVec Ideal ⟨2, ![2320, 128]⟩ .f32) : FVec Ideal ⟨2, ![2320, 128]⟩ .f32 := fun j =>
  Ideal.ofBits .f32 0x3F7FBE77#32 * (show EReal from ve j) + Ideal.ofBits .f32 0x3A83126F#32 * ((show EReal from g j) * (show EReal from g j))

/-- The weight's change. -/
def delta (g w mo ve : FVec Ideal ⟨2, ![2320, 128]⟩ .f32) : FVec Ideal ⟨2, ![2320, 128]⟩ .f32 := fun j =>
  Ideal.ofBits .f32 0xBA83126F#32 * (Ideal.div (Ideal.div (show EReal from mom g mo j) (Ideal.ofBits .f32 0x3F26BD02#32)) (Ideal.sqrt (Ideal.div (show EReal from vel g ve j) (Ideal.ofBits .f32 0x3C231ACC#32)) + Ideal.ofBits .f32 0x322BCC77#32)
    + Ideal.ofBits .f32 0x3C23D70A#32 * (show EReal from w j))

/-- The gradient that the body computes from its blocks. -/
theorem grad_of (x0 : Vec Ideal S8x2320x128 .f32) (x1 x2 x3 x4 : Vec Ideal S2320x128 .f32) : k0_pay5 (F := Ideal) x0 x1 x2 x3 x4 = grad x0 x1 := by
  funext j
  unfold k0_pay5
  frame_out
  pointwise [k0_pay4, grad]
  rw [Fin.sum_univ_eight]

/-- The blocks' gradient is the arrays'. -/
theorem grad_blk (c : Dev nD) : grad (iblk m c 0 t0_0) (iblk m c 1 t0_0) = grad (m ((c.tc : Thread nD τ).loc main_arg0)) (m ((c.tc : Thread nD τ).loc main_arg1)) := by
  funext j
  pointwise [grad]
  blk_point [iblk, V, idx t0_0]

/-- What the run leaves in the second result. -/
theorem final_d (c : Dev nD) : (dats m 0 c).arrAt 6 cfg0.N = delta (grad (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4)) := by
  refine (dats m 0 c).arrAt_eq_of_after_last 6 t0_0 (by decide +kernel) _ fun j => ?_
  blk_simp; rw [after0_6]; frame_out
  rw [grad_of, grad_blk]
  pointwise [k0_pay3, k0_pay2, k0_pay1, delta, mom, vel]
  blk_point [iblk, V, idx t0_0]

/-- What the run leaves in the third result. -/
theorem final_m (c : Dev nD) : (dats m 0 c).arrAt 7 cfg0.N = mom (grad (m ((c.tc : Thread nD τ).loc main_arg0)) (m ((c.tc : Thread nD τ).loc main_arg1))) (m ((c.tc : Thread nD τ).loc main_arg3)) := by
  refine (dats m 0 c).arrAt_eq_of_after_last 7 t0_0 (by decide +kernel) _ fun j => ?_
  blk_simp; rw [after0_7]; frame_out
  rw [grad_of, grad_blk]
  pointwise [k0_pay1, mom]
  blk_point [iblk, V, idx t0_0]

/-- What the run leaves in the fourth result. -/
theorem final_v (c : Dev nD) : (dats m 0 c).arrAt 8 cfg0.N = vel (grad (m ((c.tc : Thread nD τ).loc main_arg0)) (m ((c.tc : Thread nD τ).loc main_arg1))) (m ((c.tc : Thread nD τ).loc main_arg4)) := by
  refine (dats m 0 c).arrAt_eq_of_after_last 8 t0_0 (by decide +kernel) _ fun j => ?_
  blk_simp; rw [after0_8]; frame_out
  rw [grad_of, grad_blk]
  pointwise [k0_pay2, vel]
  blk_point [iblk, V, idx t0_0]

end Cert.Small

end
-- ==== Proof.SmallRef.lean ====
/- The reference's update of the small weights is the kernel's. -/
module

public import proofs.«01_k».proof.Proof.Gen.Reference26Ideal.Run
public import proofs.«01_k».proof.Proof.Small

@[expose] public section

set_option maxRecDepth 16384

noncomputable section

namespace Cert.Small

open Cert.Reference26Ideal Cert.Reference26Ideal.Gen Idealize.ShloMosaic Idealize.ShloMosaic.TcCoe Idealize.ShloMosaic.Pointwise Idealize.SL.Sem

variable (m : (ℓ : Loc nD τ sig) → Buf (Elt Ideal) ℓ)

/-- The reference's gradient. -/
def refGrad (g : FVec Ideal S8x2320x128 .f32) (k : FVec Ideal S2320x128 .f32) : FVec Ideal S2320x128 .f32 := mulf (Host.reduceAdd g (constant S_ .f32 0x00000000#32) reducesTo_S8x2320x128_S2320x128_d0 h_S_) k

/-- The reference's gradient is the kernel's. -/
theorem refGrad_eq (g : FVec Ideal S8x2320x128 .f32) (k : FVec Ideal S2320x128 .f32) : refGrad g k = grad g k := by
  funext j
  obtain ⟨r, l, rfl⟩ : ∃ (r : Fin 2320) (l : Fin 128), j = ix2 r l := ⟨j 0, j 1, by funext a; fin_cases a <;> rfl⟩
  pointwise [refGrad, grad]

/-- The reference's first moment. -/
def refMom (g mo : FVec Ideal S2320x128 .f32) : FVec Ideal S2320x128 .f32 := addf (mulf (broadcastInDim S2320x128 ![] bcast_S_S2320x128 (constant S_ .f32 0x3F666666#32)) mo) (mulf (broadcastInDim S2320x128 ![] bcast_S_S2320x128 (constant S_ .f32 0x3DCCCCCD#32)) g)

/-- The reference's second moment. -/
def refVel (g ve : FVec Ideal S2320x128 .f32) : FVec Ideal S2320x128 .f32 := addf (mulf (broadcastInDim S2320x128 ![] bcast_S_S2320x128 (constant S_ .f32 0x3F7FBE77#32)) ve) (mulf (broadcastInDim S2320x128 ![] bcast_S_S2320x128 (constant S_ .f32 0x3A83126F#32)) (mulf g g))

/-- The reference's change of the weight. -/
def refDelta (g w mo ve : FVec Ideal S2320x128 .f32) : FVec Ideal S2320x128 .f32 :=
  mulf (broadcastInDim S2320x128 ![] bcast_S_S2320x128 (constant S_ .f32 0xBA83126F#32)) (addf (Host.divf (Host.divf (refMom g mo) (broadcastInDim S2320x128 ![] bcast_S_S2320x128 (constant S_ .f32 0x3F26BD02#32))) (addf (Host.sqrt (Host.divf (refVel g ve) (broadcastInDim S2320x128 ![] bcast_S_S2320x128 (constant S_ .f32 0x3C231ACC#32)))) (broadcastInDim S2320x128 ![] bcast_S_S2320x128 (constant S_ .f32 0x322BCC77#32)))) (mulf (broadcastInDim S2320x128 ![] bcast_S_S2320x128 (constant S_ .f32 0x3C23D70A#32)) w))

/-- The reference's first moment is the kernel's. -/
theorem refMom_eq (g mo : FVec Ideal S2320x128 .f32) : refMom g mo = mom g mo := by
  funext j
  pointwise [refMom, mom]

/-- The reference's second moment is the kernel's. -/
theorem refVel_eq (g ve : FVec Ideal S2320x128 .f32) : refVel g ve = vel g ve := by
  funext j
  pointwise [refVel, vel]

/-- The reference's change of the weight is the kernel's. -/
theorem refDelta_eq (g w mo ve : FVec Ideal S2320x128 .f32) : refDelta g w mo ve = delta g w mo ve := by
  unfold refDelta
  rw [refMom_eq, refVel_eq]
  funext j
  pointwise [delta]

/-- From the gathered gradients: the change. -/
theorem refD_eq (g : FVec Ideal S8x2320x128 .f32) (k w mo ve : FVec Ideal S2320x128 .f32) : refDelta (refGrad g k) w mo ve = delta (grad g k) w mo ve := by
  rw [refGrad_eq, refDelta_eq]

/-- From the gathered gradients: the first moment. -/
theorem refM_eq (g : FVec Ideal S8x2320x128 .f32) (k mo : FVec Ideal S2320x128 .f32) : refMom (refGrad g k) mo = mom (grad g k) mo := by
  rw [refGrad_eq, refMom_eq]

/-- From the gathered gradients: the second moment. -/
theorem refV_eq (g : FVec Ideal S8x2320x128 .f32) (k ve : FVec Ideal S2320x128 .f32) : refVel (refGrad g k) ve = vel (grad g k) ve := by
  rw [refGrad_eq, refVel_eq]

set_option maxHeartbeats 1600000 in
/-- What the reference leaves, named in parts. -/
theorem run (ρ : Dev nD → PrngReg) :
    θ_run defs (onTc (τ := τ) (main (F := Ideal))) ⟨m, fun _ => 0, ρ⟩ fun r => ∀ c : Dev nD,
      r.2.mem ((c.tc : Thread nD τ).loc main_v1) = refGrad (m ((c.tc : Thread nD τ).loc main_arg0)) (m ((c.tc : Thread nD τ).loc main_arg1))
      ∧ r.2.mem ((c.tc : Thread nD τ).loc main_v25) = refDelta (refGrad (m ((c.tc : Thread nD τ).loc main_arg0)) (m ((c.tc : Thread nD τ).loc main_arg1))) (m ((c.tc : Thread nD τ).loc main_arg2)) (m ((c.tc : Thread nD τ).loc main_arg3)) (m ((c.tc : Thread nD τ).loc main_arg4))
      ∧ r.2.mem ((c.tc : Thread nD τ).loc main_v6) = refMom (refGrad (m ((c.tc : Thread nD τ).loc main_arg0)) (m ((c.tc : Thread nD τ).loc main_arg1))) (m ((c.tc : Thread nD τ).loc main_arg3))
      ∧ r.2.mem ((c.tc : Thread nD τ).loc main_v12) = refVel (refGrad (m ((c.tc : Thread nD τ).loc main_arg0)) (m ((c.tc : Thread nD τ).loc main_arg1))) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c => ⟨(h c).1.trans (by rfl), (h c).2.1.trans (by rfl), (h c).2.2.1.trans (by rfl), (h c).2.2.2.1.trans (by rfl), (h c).2.2.2.2⟩) (Value.run m ρ)

end Cert.Small

end
-- ==== Proof.SmallClaim.lean ====
/- The claims about the small weights' update. -/
module

public import proofs.«01_k».proof.Defs
public import proofs.«01_k».proof.Proof.SmallRef
public import Idealize.ShloMosaic.Lib.Claim

@[expose] public section

set_option maxRecDepth 200000

noncomputable section

namespace Cert.SmallClaim

open Idealize.ShloMosaic Idealize.ShloMosaic.Pointwise Idealize.SL.Sem

/-- The reference leaves its arguments as they were and no pending signals. -/
theorem quiescent : Cert.quiescent_Reference26Ideal := by
  intro m g _
  exact (θ_run _ _ _).mono (fun r h => ⟨fun c => (h c).2.2.2.2, sem_eq_zero_of_no_sems (by decide) _⟩) (Cert.Reference26Ideal.Value.run m g)

set_option maxHeartbeats 1600000 in
/-- The kernel and the reference leave the same results. -/
theorem same : Cert.algebraic_Kernel26Ideal_Reference26Ideal := by
  pair_intro
  · run_from Cert.Kernel26Ideal.Gen.run_main m g
  · run_from Cert.Small.run m' g'
    · exact (Cert.Small.refGrad_eq _ _).trans (Cert.Small.final_g m c).symm
    · exact (Cert.Small.refD_eq _ _ _ _ _).trans (Cert.Small.final_d m c).symm
    · exact (Cert.Small.refM_eq _ _ _).trans (Cert.Small.final_m m c).symm
    · exact (Cert.Small.refV_eq _ _ _).trans (Cert.Small.final_v m c).symm

end Cert.SmallClaim

end
-- ==== Proof.AdamwMath.lean ====
/- One entry of the optimiser's update, and the choice of one block out of several. -/
module

public import Idealize.ShloMosaic.Lib.Pipeline.ValueKit
public import Idealize.ShloMosaic.Lib.Pointwise

@[expose] public section

noncomputable section

namespace Cert.Adamw

open Idealize.ShloMosaic Idealize.ShloMosaic.Pointwise

/-- The entry that a word names out of `n` entries; zero if it names none. -/
def pick {n : ℕ} (w : BitVec 32) (a : Fin n → EReal) : EReal := ∑ d : Fin n, if BitVec.ofNat 32 d.val = w then a d else 0

/-- A word below `n` names the entry of its number. -/
theorem pick_eq {n : ℕ} (hn : n ≤ 8) (w : BitVec 32) (hw : w.toNat < n) (a : Fin n → EReal) : pick w a = a ⟨w.toNat, hw⟩ := by
  unfold pick
  rw [Finset.sum_eq_single ⟨w.toNat, hw⟩]
  · rw [if_pos (by simp)]
  · intro d _ hd
    rw [if_neg]
    intro e
    apply hd
    apply Fin.ext
    have := congrArg BitVec.toNat e
    rw [BitVec.toNat_ofNat, Nat.mod_eq_of_lt (by have := d.isLt; omega)] at this
    exact this
  · intro h; exact absurd (Finset.mem_univ _) h

/-- The first element of a table's unit rectangle is the element it names. -/
theorem emb_first (k : Fin 8) (inb : ∀ a, (![k.val] : Fin 1 → ℕ) a + (⟨1, ![1]⟩ : Shape).size a ≤ (⟨1, ![8]⟩ : Shape).size a) (h : 0 < (Rect.unit (s := ⟨1, ![8]⟩) ![k.val] (⟨1, ![1]⟩ : Shape).size inb).shape.numel) :
    (Rect.unit (s := ⟨1, ![8]⟩) ![k.val] (⟨1, ![1]⟩ : Shape).size inb).emb (Shape.Idx.first h) = ix1 k := by
  funext a
  fin_cases a
  refine Fin.ext ?_
  have hj : ((Shape.Idx.first h) 0).val < 1 := ((Shape.Idx.first h) 0).isLt
  show k.val + 1 * ((Shape.Idx.first h) 0).val = k.val
  omega

/-- A block of one column of blocks is a point's. -/
theorem point_of {n : ℕ} (β : Fin 2 → ℕ) (h : ∀ a, β a < (![n, 1] : Fin 2 → ℕ) a) : ∃ t : Fin n, ∀ a, (![t.val, 0] : Fin 2 → ℕ) a = β a := by
  refine ⟨⟨β 0, h 0⟩, fun a => ?_⟩
  have h1 : β 1 < 1 := h 1
  fin_cases a
  · rfl
  · show 0 = β 1
    omega

/-- The first moment's entry. -/
def mom (g mo : EReal) : EReal := Ideal.ofBits .f32 0x3F666666#32 * mo + Ideal.ofBits .f32 0x3DCCCCCD#32 * g

/-- The second moment's entry. -/
def vel (g ve : EReal) : EReal := Ideal.ofBits .f32 0x3F7FBE77#32 * ve + Ideal.ofBits .f32 0x3A83126F#32 * (g * g)

/-- The entry of the weight's change. -/
def delta (g w mo ve : EReal) : EReal :=
  Ideal.ofBits .f32 0xBA83126F#32 * (Ideal.div (Ideal.div (mom g mo) (Ideal.ofBits .f32 0x3F26BD02#32)) (Ideal.sqrt (Ideal.div (vel g ve) (Ideal.ofBits .f32 0x3C231ACC#32)) + Ideal.ofBits .f32 0x322BCC77#32)
    + Ideal.ofBits .f32 0x3C23D70A#32 * w)

/-- A signed word between zero and `n` is a number below `n`. -/
theorem toNat_lt (w : BitVec 32) (n : ℕ) (hn : n ≤ 8) (h0 : IntOp.cmpi .sge w 0#32 = 1#1) (h1 : IntOp.cmpi .slt w (BitVec.ofNat 32 n) = 1#1) : w.toNat < n := by
  have e0 : (0#32 : BitVec 32).toInt = 0 := by decide
  have e1 : (BitVec.ofNat 32 n).toInt = n := by
    rw [BitVec.toInt_eq_toNat_of_lt (by simp; omega)]; simp; omega
  have a0 : 0 ≤ w.toInt := by
    by_contra hlt
    simp only [IntOp.cmpi, BitVec.sle, e0] at h0
    rw [decide_eq_false hlt] at h0
    exact absurd h0 (by decide)
  have a1 : w.toInt < n := by
    by_contra hlt
    simp only [IntOp.cmpi, BitVec.slt, e1] at h1
    rw [decide_eq_false hlt] at h1
    exact absurd h1 (by decide)
  have : w.toInt = w.toNat := by
    rw [BitVec.toInt_eq_toNat_cond] at a0 ⊢
    split
    · rfl
    · rename_i hge
      rw [if_neg hge] at a0
      have := w.isLt
      omega
  omega

/-- Equal inputs, equal changes. -/
theorem delta_eq {g g' w w' mo mo' ve ve' : EReal} (hg : g = g') (hw : w = w') (hm : mo = mo') (hv : ve = ve') : delta g w mo ve = delta g' w' mo' ve' := by
  subst hg hw hm hv
  rfl

/-- A term that is kept where two numbers agree. -/
theorem masked (a b : BitVec 32) (x z : EReal) (hz : z = 0) : Scalar.select (IntOp.cmpi .eq a b) x z = if a = b then x else 0 := by
  subst hz
  by_cases h : a = b
  · subst h
    simp [Scalar.select, IntOp.cmpi]
  · have hb : (a == b) = false := beq_eq_false_iff_ne.mpr h
    simp [Scalar.select, IntOp.cmpi, h, hb]

end Cert.Adamw

end
-- ==== Proof.AdamwBOut.lean ====
/- The reduced gradient and the update of an output projection's weight. -/
module

public import proofs.«01_k».proof.Proof.Gen.Kernel27Ideal.Frame
public import proofs.«01_k».proof.Proof.AdamwMath
public import Idealize.ShloMosaic.Lib.Pipeline.ValueKit
public import Idealize.ShloMosaic.Lib.Pipeline.Covers

@[expose] public section

set_option maxRecDepth 16384

noncomputable section

namespace Cert.AdamwBOut

open Cert.Kernel27Ideal Cert.Kernel27Ideal.Gen Idealize.ShloMosaic Idealize.ShloMosaic.TcCoe Idealize.ShloMosaic.Pointwise Idealize.SL.Sem

variable (m : (ℓ : Loc nD τ sig) → Buf (Elt Ideal) ℓ)

/-- The table's entry 5 is block 0's number. -/
theorem at0 {F : FTy → Type} [FloatOps F] (pf : pre0.Contents (Elt F)) (i : grid0.Coords) : cc0_transform_0 inb_S8_S1_5 numel1_S1 pf i = ![(pf 0 (ix1 (5 : Fin 8))).toNat, (i 0).val, 0] := by
  have hx : (Rect.unit (s := S8) ![5] S1.size inb_S8_S1_5).emb (Shape.Idx.first (numel1_S1.symm ▸ Nat.one_pos)) = ix1 (5 : Fin 8) := Adamw.emb_first 5 _ _
  have hi : (i 0).val < 16 := (i 0).isLt
  have h32 : (BitVec.ofNat 32 (i 0).val).toNat = (i 0).val := by
    rw [BitVec.toNat_ofNat]; exact Nat.mod_eq_of_lt (by omega)
  show ![(pf 0 ((Rect.unit (s := S8) ![5] S1.size inb_S8_S1_5).emb (Shape.Idx.first (numel1_S1.symm ▸ Nat.one_pos)))).toNat, (BitVec.ofNat 32 (i 0).val).toNat, 0] = _
  rw [hx, h32]

/-- The table's entry 4 is block 1's number. -/
theorem at1 {F : FTy → Type} [FloatOps F] (pf : pre0.Contents (Elt F)) (i : grid0.Coords) : cc0_transform_1 inb_S8_S1_4 numel1_S1 pf i = ![(pf 0 (ix1 (4 : Fin 8))).toNat, (i 0).val, 0] := by
  have hx : (Rect.unit (s := S8) ![4] S1.size inb_S8_S1_4).emb (Shape.Idx.first (numel1_S1.symm ▸ Nat.one_pos)) = ix1 (4 : Fin 8) := Adamw.emb_first 4 _ _
  have hi : (i 0).val < 16 := (i 0).isLt
  have h32 : (BitVec.ofNat 32 (i 0).val).toNat = (i 0).val := by
    rw [BitVec.toNat_ofNat]; exact Nat.mod_eq_of_lt (by omega)
  show ![(pf 0 ((Rect.unit (s := S8) ![4] S1.size inb_S8_S1_4).emb (Shape.Idx.first (numel1_S1.symm ▸ Nat.one_pos)))).toNat, (BitVec.ofNat 32 (i 0).val).toNat, 0] = _
  rw [hx, h32]

/-- A table that names blocks that exist is one the call accepts. -/
theorem ok_of {F : FTy → Type} [FloatOps F] (pf : pre0.Contents (Elt F)) (h4 : (pf 0 (ix1 (4 : Fin 8))).toNat < 4) (h5 : (pf 0 (ix1 (5 : Fin 8))).toNat < 8) : ok0 pf := by
  refine ⟨fun i => ?_, fun i => ?_⟩
  · rw [at0]
    have hi : (i 0).val < 16 := (i 0).isLt
    refine ⟨fun a => ?_, .inr (.inl (.inr ⟨by decide, rfl, .inl ⟨?_, ?_⟩⟩))⟩
    · fin_cases a
      · show ((pf 0 (ix1 (5 : Fin 8))).toNat + 1) * 1 ≤ 8
        omega
      · show ((i 0).val + 1) * 64 ≤ 1024
        omega
      · show (0 + 1) * 4096 ≤ 4096
        omega
    · show 2 ∣ (i 0).val * 64
      omega
    · show 2 ∣ 64
      omega
  · rw [at1]
    have hi : (i 0).val < 16 := (i 0).isLt
    refine ⟨fun a => ?_, .inr (.inl (.inr ⟨by decide, rfl, .inl ⟨?_, ?_⟩⟩))⟩
    · fin_cases a
      · show ((pf 0 (ix1 (4 : Fin 8))).toNat + 1) * 1 ≤ 4
        omega
      · show ((i 0).val + 1) * 64 ≤ 1024
        omega
      · show (0 + 1) * 4096 ≤ 4096
        omega
    · show 2 ∣ (i 0).val * 64
      omega
    · show 2 ∣ 64
      omega

/-- The block numbers that no table gives. -/
theorem ixs : ∀ t : Fin grid0.N, cc0_transform_6 (grid0.coords t) = ![t.val, 0] ∧ cc0_transform_2 (grid0.coords t) = ![0, t.val, 0] ∧ (grid0.coords t 0).val = t.val := by decide +kernel

/-- The array's row that is the block's row `p` at point `t`. -/
abbrev row (t : Fin grid0.N) (p : Fin 64) : Fin 1024 := ⟨t.val * 64 + p.val, by have h : t.val < 16 := lt_of_lt_of_eq t.isLt N_0; omega⟩

/-- Window 3's block at coordinates. -/
theorem emb3 (hO : Ok m) (t : Fin grid0.N) (p : Fin 64) (q : Fin 4096) : (((cfgM m hO).win 3).rect t).emb (ix2 p q) = ix2 (row t p) q := by
  funext a
  refine Fin.ext ((Pipeline.Window.rect_emb_val _ t _ a).trans ?_)
  rw [show ((cfgM m hO).win 3).index t = ![t.val, 0] from (ixs t).1]
  fin_cases a
  · rfl
  · show 0 * 4096 + q.val = q.val
    omega

/-- Window 4's block at coordinates. -/
theorem emb4 (hO : Ok m) (t : Fin grid0.N) (p : Fin 64) (q : Fin 4096) : (((cfgM m hO).win 4).rect t).emb (ix2 p q) = ix2 (row t p) q := emb3 m hO t p q

/-- Window 5's block at coordinates. -/
theorem emb5 (hO : Ok m) (t : Fin grid0.N) (p : Fin 64) (q : Fin 4096) : (((cfgM m hO).win 5).rect t).emb (ix2 p q) = ix2 (row t p) q := emb3 m hO t p q

/-- Window 6's block at coordinates. -/
theorem emb6 (hO : Ok m) (t : Fin grid0.N) (p : Fin 64) (q : Fin 4096) : (((cfgM m hO).win 6).rect t).emb (ix2 p q) = ix2 (row t p) q := emb3 m hO t p q

/-- Window 7's block at coordinates. -/
theorem emb7 (hO : Ok m) (t : Fin grid0.N) (p : Fin 64) (q : Fin 4096) : (((cfgM m hO).win 7).rect t).emb (ix2 p q) = ix2 (row t p) q := emb3 m hO t p q

/-- Window 8's block at coordinates. -/
theorem emb8 (hO : Ok m) (t : Fin grid0.N) (p : Fin 64) (q : Fin 4096) : (((cfgM m hO).win 8).rect t).emb (ix2 p q) = ix2 (row t p) q := emb3 m hO t p q

/-- Window 9's block at coordinates. -/
theorem emb9 (hO : Ok m) (t : Fin grid0.N) (p : Fin 64) (q : Fin 4096) : (((cfgM m hO).win 9).rect t).emb (ix2 p q) = ix2 (row t p) q := emb3 m hO t p q

/-- Window 2's block at coordinates. -/
theorem emb2 (hO : Ok m) (t : Fin grid0.N) (d : Fin 3) (p : Fin 64) (q : Fin 4096) : (((cfgM m hO).win 2).rect t).emb (ix3 d p q) = ix3 d (row t p) q := by
  funext a
  refine Fin.ext ((Pipeline.Window.rect_emb_val _ t _ a).trans ?_)
  rw [show ((cfgM m hO).win 2).index t = ![0, t.val, 0] from (ixs t).2.1]
  fin_cases a
  · show 0 * 3 + d.val = d.val
    omega
  · rfl
  · show 0 * 4096 + q.val = q.val
    omega

/-- Window 0's block at coordinates: the block of the table's number. -/
theorem emb0 (hO : Ok m) (h : (tbl m 0 (ix1 (5 : Fin 8))).toNat < 8) (t : Fin grid0.N) (p : Fin 64) (q : Fin 4096) : (((cfgM m hO).win 0).rect t).emb (ix3 0 p q) = ix3 (⟨(tbl m 0 (ix1 (5 : Fin 8))).toNat, h⟩ : Fin 8) (row t p) q := by
  funext a
  refine Fin.ext ((Pipeline.Window.rect_emb_val _ t _ a).trans ?_)
  rw [show ((cfgM m hO).win 0).index t = ![(tbl m 0 (ix1 (5 : Fin 8))).toNat, t.val, 0] from (at0 (tbl m) (grid0.coords t)).trans (by rw [(ixs t).2.2])]
  fin_cases a
  · show (tbl m 0 (ix1 (5 : Fin 8))).toNat * 1 + 0 = (tbl m 0 (ix1 (5 : Fin 8))).toNat
    omega
  · rfl
  · show 0 * 4096 + q.val = q.val
    omega

/-- Window 1's block at coordinates: the block of the table's number. -/
theorem emb1 (hO : Ok m) (h : (tbl m 0 (ix1 (4 : Fin 8))).toNat < 4) (t : Fin grid0.N) (p : Fin 64) (q : Fin 4096) : (((cfgM m hO).win 1).rect t).emb (ix3 0 p q) = ix3 (⟨(tbl m 0 (ix1 (4 : Fin 8))).toNat, h⟩ : Fin 4) (row t p) q := by
  funext a
  refine Fin.ext ((Pipeline.Window.rect_emb_val _ t _ a).trans ?_)
  rw [show ((cfgM m hO).win 1).index t = ![(tbl m 0 (ix1 (4 : Fin 8))).toNat, t.val, 0] from (at1 (tbl m) (grid0.coords t)).trans (by rw [(ixs t).2.2])]
  fin_cases a
  · show (tbl m 0 (ix1 (4 : Fin 8))).toNat * 1 + 0 = (tbl m 0 (ix1 (4 : Fin 8))).toNat
    omega
  · rfl
  · show 0 * 4096 + q.val = q.val
    omega

/-- Every block of result 0 is written. -/
theorem covers6 (hO : Ok m) : ((cfgM m hO).win 6).Covers := by
  refine Pipeline.Window.covers_of_index_surj _ rfl (show ∀ a : Fin 2, 0 < (![64, 4096] : Fin 2 → ℕ) a by decide) (fun β => ?_)
  have hn : ∀ a : Fin 2, ((cfgM m hO).win 6).nblk a = (![16, 1] : Fin 2 → ℕ) a := by
    intro a
    fin_cases a
    · show (1024 + 64 - 1) / 64 = 16
      rfl
    · show (4096 + 4096 - 1) / 4096 = 1
      rfl
  obtain ⟨t, ht⟩ := Adamw.point_of (n := 16) (fun a : Fin 2 => (β a).val) fun a => lt_of_lt_of_eq (β a).isLt (hn a)
  refine ⟨t.cast N_0.symm, fun a => (congrFun (ixs (t.cast N_0.symm)).1 a).trans (ht a)⟩

/-- Every block of result 1 is written. -/
theorem covers7 (hO : Ok m) : ((cfgM m hO).win 7).Covers := covers6 m hO

/-- Every block of result 2 is written. -/
theorem covers8 (hO : Ok m) : ((cfgM m hO).win 8).Covers := covers6 m hO

/-- Every block of result 3 is written. -/
theorem covers9 (hO : Ok m) : ((cfgM m hO).win 9).Covers := covers6 m hO

/-- Result 0's contents after a point. -/
theorem out6_at (hO : Ok m) (c : Dev nD) (t : Fin grid0.N) : (outsAt0 m hO c t).1 = k0_pay3 (F := Ideal) (iblk m hO c 0 t) (iblk m hO c 1 t) (View.ld (iblk m hO c 2 t) (Rect.unit (s := S3x64x4096) ![0, 0, 0] ![1, 64, 4096] inb_S3x64x4096_S1x64x4096_0_0_0)) (View.ld (iblk m hO c 2 t) (Rect.unit (s := S3x64x4096) ![1, 0, 0] ![1, 64, 4096] inb_S3x64x4096_S1x64x4096_1_0_0)) (View.ld (iblk m hO c 2 t) (Rect.unit (s := S3x64x4096) ![2, 0, 0] ![1, 64, 4096] inb_S3x64x4096_S1x64x4096_2_0_0)) := by
  frame_out
  rw [(hs0_0 m hO t).read_unread (iblk m hO c 0 t), (hs0_1 m hO t).read_unread (iblk m hO c 1 t), (hs0_2 m hO t).read_unread (iblk m hO c 2 t)]
  rfl

/-- Result 1's contents after a point. -/
theorem out7_at (hO : Ok m) (c : Dev nD) (t : Fin grid0.N) : (outsAt0 m hO c t).2.1 = k0_pay2 (F := Ideal) (iblk m hO c 3 t) (k0_pay4 (iblk m hO c 0 t) (iblk m hO c 1 t) (View.ld (iblk m hO c 2 t) (Rect.unit (s := S3x64x4096) ![0, 0, 0] ![1, 64, 4096] inb_S3x64x4096_S1x64x4096_0_0_0)) (View.ld (iblk m hO c 2 t) (Rect.unit (s := S3x64x4096) ![1, 0, 0] ![1, 64, 4096] inb_S3x64x4096_S1x64x4096_1_0_0)) (View.ld (iblk m hO c 2 t) (Rect.unit (s := S3x64x4096) ![2, 0, 0] ![1, 64, 4096] inb_S3x64x4096_S1x64x4096_2_0_0)) (iblk m hO c 4 t)) (k0_pay5 (iblk m hO c 5 t)) (k0_pay6 (iblk m hO c 0 t) (iblk m hO c 1 t) (View.ld (iblk m hO c 2 t) (Rect.unit (s := S3x64x4096) ![0, 0, 0] ![1, 64, 4096] inb_S3x64x4096_S1x64x4096_0_0_0)) (View.ld (iblk m hO c 2 t) (Rect.unit (s := S3x64x4096) ![1, 0, 0] ![1, 64, 4096] inb_S3x64x4096_S1x64x4096_1_0_0)) (View.ld (iblk m hO c 2 t) (Rect.unit (s := S3x64x4096) ![2, 0, 0] ![1, 64, 4096] inb_S3x64x4096_S1x64x4096_2_0_0))) (Scalar.ofBits .f32 0x3A83126F#32) := by
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t)]
  rfl

/-- Result 2's contents after a point. -/
theorem out8_at (hO : Ok m) (c : Dev nD) (t : Fin grid0.N) : (outsAt0 m hO c t).2.2.1 = k0_pay4 (F := Ideal) (iblk m hO c 0 t) (iblk m hO c 1 t) (View.ld (iblk m hO c 2 t) (Rect.unit (s := S3x64x4096) ![0, 0, 0] ![1, 64, 4096] inb_S3x64x4096_S1x64x4096_0_0_0)) (View.ld (iblk m hO c 2 t) (Rect.unit (s := S3x64x4096) ![1, 0, 0] ![1, 64, 4096] inb_S3x64x4096_S1x64x4096_1_0_0)) (View.ld (iblk m hO c 2 t) (Rect.unit (s := S3x64x4096) ![2, 0, 0] ![1, 64, 4096] inb_S3x64x4096_S1x64x4096_2_0_0)) (iblk m hO c 4 t) := by
  frame_out
  rw [(hs0_0 m hO t).read_unread (iblk m hO c 0 t), (hs0_1 m hO t).read_unread (iblk m hO c 1 t), (hs0_2 m hO t).read_unread (iblk m hO c 2 t), (hs0_4 m hO t).read_unread (iblk m hO c 4 t)]
  rfl

/-- Result 3's contents after a point. -/
theorem out9_at (hO : Ok m) (c : Dev nD) (t : Fin grid0.N) : (outsAt0 m hO c t).2.2.2 = k0_pay1 (F := Ideal) (k0_pay5 (iblk m hO c 5 t)) (k0_pay6 (iblk m hO c 0 t) (iblk m hO c 1 t) (View.ld (iblk m hO c 2 t) (Rect.unit (s := S3x64x4096) ![0, 0, 0] ![1, 64, 4096] inb_S3x64x4096_S1x64x4096_0_0_0)) (View.ld (iblk m hO c 2 t) (Rect.unit (s := S3x64x4096) ![1, 0, 0] ![1, 64, 4096] inb_S3x64x4096_S1x64x4096_1_0_0)) (View.ld (iblk m hO c 2 t) (Rect.unit (s := S3x64x4096) ![2, 0, 0] ![1, 64, 4096] inb_S3x64x4096_S1x64x4096_2_0_0))) (Scalar.ofBits .f32 0x3A83126F#32) := by
  frame_out
  rw [(hs0_0 m hO t).read_unread (iblk m hO c 0 t), (hs0_1 m hO t).read_unread (iblk m hO c 1 t), (hs0_2 m hO t).read_unread (iblk m hO c 2 t), (hs0_5 m hO t).read_unread (iblk m hO c 5 t)]
  rfl

/-- The gradient: the device's own block, its sibling's, and those of the three other chips of the pair's group. -/
def grad (ids : IVec ⟨1, ![8]⟩ 32) (own : FVec Ideal ⟨3, ![8, 1024, 4096]⟩ .bf16) (sib : FVec Ideal ⟨3, ![4, 1024, 4096]⟩ .bf16) (chips : FVec Ideal ⟨3, ![3, 1024, 4096]⟩ .bf16) : FVec Ideal ⟨2, ![1024, 4096]⟩ .f32 := fun j =>
  Adamw.pick (ids (ix1 5)) (fun d : Fin 8 => own (ix3 d (j 0) (j 1))) + Adamw.pick (ids (ix1 4)) (fun d : Fin 4 => sib (ix3 d (j 0) (j 1)))
    + (show EReal from chips (ix3 0 (j 0) (j 1))) + (show EReal from chips (ix3 1 (j 0) (j 1))) + (show EReal from chips (ix3 2 (j 0) (j 1)))

/-- The blocks' sum is the arrays'. -/
theorem g_at (hO : Ok m) (h4 : (tbl m 0 (ix1 (4 : Fin 8))).toNat < 4) (h5 : (tbl m 0 (ix1 (5 : Fin 8))).toNat < 8) (c : Dev nD) (t : Fin grid0.N) (p : Fin 64) (q : Fin 4096) :
    (show EReal from iblk m hO c 0 t (ix3 0 p q : S1x64x4096.Idx)) + (show EReal from iblk m hO c 1 t (ix3 0 p q : S1x64x4096.Idx)) + (show EReal from iblk m hO c 2 t (ix3 0 p q : S3x64x4096.Idx)) + (show EReal from iblk m hO c 2 t (ix3 1 p q : S3x64x4096.Idx)) + (show EReal from iblk m hO c 2 t (ix3 2 p q : S3x64x4096.Idx))
      = grad (m (c.tc.loc main_arg0)) (m (c.tc.loc main_arg1)) (m (c.tc.loc main_arg2)) (m (c.tc.loc main_arg3)) (ix2 (row t p) q) := by
  have e0 : iblk m hO c 0 t (ix3 0 p q : S1x64x4096.Idx) = m (c.tc.loc main_arg1) (ix3 (⟨(tbl m 0 (ix1 (5 : Fin 8))).toNat, h5⟩ : Fin 8) (row t p) q) := congrArg (m (c.tc.loc main_arg1)) (emb0 m hO h5 t p q)
  have e1 : iblk m hO c 1 t (ix3 0 p q : S1x64x4096.Idx) = m (c.tc.loc main_arg2) (ix3 (⟨(tbl m 0 (ix1 (4 : Fin 8))).toNat, h4⟩ : Fin 4) (row t p) q) := congrArg (m (c.tc.loc main_arg2)) (emb1 m hO h4 t p q)
  have e2 : ∀ d : Fin 3, iblk m hO c 2 t (ix3 d p q : S3x64x4096.Idx) = m (c.tc.loc main_arg3) (ix3 d (row t p) q) := fun d => congrArg (m (c.tc.loc main_arg3)) (emb2 m hO t d p q)
  have et : m (c.tc.loc main_arg0) = tbl m 0 := V_pre m c 0
  show _ = Adamw.pick (m (c.tc.loc main_arg0) (ix1 5)) (fun d : Fin 8 => m (c.tc.loc main_arg1) (ix3 d (row t p) q)) + Adamw.pick (m (c.tc.loc main_arg0) (ix1 4)) (fun d : Fin 4 => m (c.tc.loc main_arg2) (ix3 d (row t p) q))
    + (show EReal from m (c.tc.loc main_arg3) (ix3 0 (row t p) q)) + (show EReal from m (c.tc.loc main_arg3) (ix3 1 (row t p) q)) + (show EReal from m (c.tc.loc main_arg3) (ix3 2 (row t p) q))
  rw [et, Adamw.pick_eq (by omega) _ h5, Adamw.pick_eq (by omega) _ h4, e0, e1, e2, e2, e2]

/-- A block's position is a row and a column. -/
theorem split (y : S64x4096.Idx) : ∃ (p : Fin 64) (q : Fin 4096), y = ix2 p q := ⟨y 0, y 1, by funext a; fin_cases a <;> rfl⟩

/-- The first moment. -/
def mom (g mo : FVec Ideal ⟨2, ![1024, 4096]⟩ .f32) : FVec Ideal ⟨2, ![1024, 4096]⟩ .f32 := fun j => Adamw.mom (g j) (mo j)

/-- The second moment. -/
def vel (g ve : FVec Ideal ⟨2, ![1024, 4096]⟩ .f32) : FVec Ideal ⟨2, ![1024, 4096]⟩ .f32 := fun j => Adamw.vel (g j) (ve j)

/-- The weight's change. -/
def delta (g w mo ve : FVec Ideal ⟨2, ![1024, 4096]⟩ .f32) : FVec Ideal ⟨2, ![1024, 4096]⟩ .f32 := fun j => Adamw.delta (g j) (w j) (mo j) (ve j)

/-- What the run leaves in result 0. -/
theorem final_g (hO : Ok m) (h4 : (tbl m 0 (ix1 (4 : Fin 8))).toNat < 4) (h5 : (tbl m 0 (ix1 (5 : Fin 8))).toNat < 8) (c : Dev nD) : (dats m hO 0 c).arrAt 6 (cfgM m hO).N = grad (m (c.tc.loc main_arg0)) (m (c.tc.loc main_arg1)) (m (c.tc.loc main_arg2)) (m (c.tc.loc main_arg3)) := by
  refine (dats m hO 0 c).arrAt_eq_of_covers 6 _ (covers6 m hO) fun t _ y => ?_
  obtain ⟨p, q, rfl⟩ := split y
  refine Eq.trans ?_ (congrArg _ (emb6 m hO t p q)).symm
  refine (congrFun ((after0_6 m hO c t).trans (out6_at m hO c t)) (ix2 p q : S64x4096.Idx)).trans ?_
  pointwise [k0_pay1, k0_pay2, k0_pay3, k0_pay4, k0_pay5, k0_pay6]
  exact g_at m hO h4 h5 c t p q

/-- What the run leaves in result 1. -/
theorem final_d (hO : Ok m) (h4 : (tbl m 0 (ix1 (4 : Fin 8))).toNat < 4) (h5 : (tbl m 0 (ix1 (5 : Fin 8))).toNat < 8) (c : Dev nD) : (dats m hO 0 c).arrAt 7 (cfgM m hO).N = delta (grad (m (c.tc.loc main_arg0)) (m (c.tc.loc main_arg1)) (m (c.tc.loc main_arg2)) (m (c.tc.loc main_arg3))) (m (c.tc.loc main_arg4)) (m (c.tc.loc main_arg5)) (m (c.tc.loc main_arg6)) := by
  refine (dats m hO 0 c).arrAt_eq_of_covers 7 _ (covers7 m hO) fun t _ y => ?_
  obtain ⟨p, q, rfl⟩ := split y
  refine Eq.trans ?_ (congrArg _ (emb7 m hO t p q)).symm
  refine (congrFun ((after0_7 m hO c t).trans (out7_at m hO c t)) (ix2 p q : S64x4096.Idx)).trans ?_
  pointwise [k0_pay1, k0_pay2, k0_pay3, k0_pay4, k0_pay5, k0_pay6]
  exact Adamw.delta_eq (g_at m hO h4 h5 c t p q) (congrArg (m (c.tc.loc main_arg4)) (emb3 m hO t p q)) (congrArg (m (c.tc.loc main_arg5)) (emb4 m hO t p q)) (congrArg (m (c.tc.loc main_arg6)) (emb5 m hO t p q))

/-- What the run leaves in result 2. -/
theorem final_m (hO : Ok m) (h4 : (tbl m 0 (ix1 (4 : Fin 8))).toNat < 4) (h5 : (tbl m 0 (ix1 (5 : Fin 8))).toNat < 8) (c : Dev nD) : (dats m hO 0 c).arrAt 8 (cfgM m hO).N = mom (grad (m (c.tc.loc main_arg0)) (m (c.tc.loc main_arg1)) (m (c.tc.loc main_arg2)) (m (c.tc.loc main_arg3))) (m (c.tc.loc main_arg5)) := by
  refine (dats m hO 0 c).arrAt_eq_of_covers 8 _ (covers8 m hO) fun t _ y => ?_
  obtain ⟨p, q, rfl⟩ := split y
  refine Eq.trans ?_ (congrArg _ (emb8 m hO t p q)).symm
  refine (congrFun ((after0_8 m hO c t).trans (out8_at m hO c t)) (ix2 p q : S64x4096.Idx)).trans ?_
  pointwise [k0_pay1, k0_pay2, k0_pay3, k0_pay4, k0_pay5, k0_pay6]
  exact congrArg₂ Adamw.mom (g_at m hO h4 h5 c t p q) (congrArg (m (c.tc.loc main_arg5)) (emb4 m hO t p q))

/-- What the run leaves in result 3. -/
theorem final_v (hO : Ok m) (h4 : (tbl m 0 (ix1 (4 : Fin 8))).toNat < 4) (h5 : (tbl m 0 (ix1 (5 : Fin 8))).toNat < 8) (c : Dev nD) : (dats m hO 0 c).arrAt 9 (cfgM m hO).N = vel (grad (m (c.tc.loc main_arg0)) (m (c.tc.loc main_arg1)) (m (c.tc.loc main_arg2)) (m (c.tc.loc main_arg3))) (m (c.tc.loc main_arg6)) := by
  refine (dats m hO 0 c).arrAt_eq_of_covers 9 _ (covers9 m hO) fun t _ y => ?_
  obtain ⟨p, q, rfl⟩ := split y
  refine Eq.trans ?_ (congrArg _ (emb9 m hO t p q)).symm
  refine (congrFun ((after0_9 m hO c t).trans (out9_at m hO c t)) (ix2 p q : S64x4096.Idx)).trans ?_
  pointwise [k0_pay1, k0_pay2, k0_pay3, k0_pay4, k0_pay5, k0_pay6]
  exact congrArg₂ Adamw.vel (g_at m hO h4 h5 c t p q) (congrArg (m (c.tc.loc main_arg6)) (emb5 m hO t p q))

/-- The whole run: the four results, and the arguments as they were. -/
theorem run_kernel (ρ : Dev nD → PrngReg) (hO : Ok m) (h4 : (tbl m 0 (ix1 (4 : Fin 8))).toNat < 4) (h5 : (tbl m 0 (ix1 (5 : Fin 8))).toNat < 8) :
    θ_run defs (onTc (τ := τ) (main (F := Ideal))) ⟨m, fun _ => 0, ρ⟩ fun r => ∀ c : Dev nD,
      r.2.mem (c.tc.loc main_v0_0) = grad (m (c.tc.loc main_arg0)) (m (c.tc.loc main_arg1)) (m (c.tc.loc main_arg2)) (m (c.tc.loc main_arg3))
      ∧ r.2.mem (c.tc.loc main_v0_1) = delta (grad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v0_2) = mom (grad (m (c.tc.loc main_arg0)) (m (c.tc.loc main_arg1)) (m (c.tc.loc main_arg2)) (m (c.tc.loc main_arg3))) (m (c.tc.loc main_arg5))
      ∧ r.2.mem (c.tc.loc main_v0_3) = vel (grad (m (c.tc.loc main_arg0)) (m (c.tc.loc main_arg1)) (m (c.tc.loc main_arg2)) (m (c.tc.loc main_arg3))) (m (c.tc.loc main_arg6))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) ∧ r.2.mem (c.tc.loc main_arg3) = (m (c.tc.loc main_arg3)) ∧ r.2.mem (c.tc.loc main_arg4) = (m (c.tc.loc main_arg4)) ∧ r.2.mem (c.tc.loc main_arg5) = (m (c.tc.loc main_arg5)) ∧ r.2.mem (c.tc.loc main_arg6) = (m (c.tc.loc main_arg6)) :=
  (θ_run defs _ _).mono (fun _ h c => ⟨((h.1 c).1 6).trans (final_g m hO h4 h5 c), ((h.1 c).1 7).trans (final_d m hO h4 h5 c), ((h.1 c).1 8).trans (final_m m hO h4 h5 c), ((h.1 c).1 9).trans (final_v m hO h4 h5 c), h.2 c⟩)
    (θ_run_and (run_main m ρ hO) (unchanged m ρ hO))

end Cert.AdamwBOut

end
-- ==== Proof.AdamwBOutRef.lean ====
/- The reference's gradient and update of an output projection's weight are the kernel's. -/
module

public import proofs.«01_k».proof.Proof.Gen.Reference27Ideal.Run
public import proofs.«01_k».proof.Proof.AdamwBOut

@[expose] public section

set_option maxRecDepth 16384

noncomputable section

namespace Cert.AdamwBOut

open Cert.Reference27Ideal Cert.Reference27Ideal.Gen Idealize.ShloMosaic Idealize.ShloMosaic.TcCoe Idealize.ShloMosaic.Pointwise Idealize.SL.Sem

variable (m : (ℓ : Loc nD τ sig) → Buf (Elt Ideal) ℓ)

/-- The reference's block of the device's own gradients: a sum of which the table keeps one term. -/
def refOwn (ids : IVec S8 32) (own : FVec Ideal S8x1024x4096 .bf16) : FVec Ideal S1024x4096 .f32 :=
  Host.reduceAdd (select (cmpi .eq (iotaInDim S8x1024x4096 32 0) (broadcastInDim S8x1024x4096 ![] bcast_S_S8x1024x4096 (shapeCast S_ (extractStridedSlice S1 ![5] ids slices_S8_S1_5) shapeCasts_S1_S_))) (extf .f32 own bitsLt_bf16_f32) (broadcastInDim S8x1024x4096 ![] bcast_S_S8x1024x4096 (id (constant S_ .f32 0x00000000#32)))) (constant S_ .f32 0x00000000#32) reducesTo_S8x1024x4096_S1024x4096_d0 h_S_

/-- The reference's block of the sibling's gradients. -/
def refSib (ids : IVec S8 32) (sib : FVec Ideal S4x1024x4096 .bf16) : FVec Ideal S1024x4096 .f32 :=
  Host.reduceAdd (select (cmpi .eq (iotaInDim S4x1024x4096 32 0) (broadcastInDim S4x1024x4096 ![] bcast_S_S4x1024x4096 (shapeCast S_ (extractStridedSlice S1 ![4] ids slices_S8_S1_4) shapeCasts_S1_S_))) (extf .f32 sib bitsLt_bf16_f32) (broadcastInDim S4x1024x4096 ![] bcast_S_S4x1024x4096 (id (constant S_ .f32 0x00000000#32)))) (constant S_ .f32 0x00000000#32) reducesTo_S4x1024x4096_S1024x4096_d0 h_S_

/-- The reference's sum over the other chips. -/
def refChips (chips : FVec Ideal S3x1024x4096 .bf16) : FVec Ideal S1024x4096 .f32 := Host.reduceAdd (extf .f32 chips bitsLt_bf16_f32) (constant S_ .f32 0x00000000#32) reducesTo_S3x1024x4096_S1024x4096_d0 h_S_

/-- The reference's gradient. -/
def refGrad (ids : IVec S8 32) (own : FVec Ideal S8x1024x4096 .bf16) (sib : FVec Ideal S4x1024x4096 .bf16) (chips : FVec Ideal S3x1024x4096 .bf16) : FVec Ideal S1024x4096 .f32 :=
  addf (addf (refOwn ids own) (refSib ids sib)) (refChips chips)

/-- The own block's entry. -/
theorem refOwn_eq (ids : IVec S8 32) (own : FVec Ideal S8x1024x4096 .bf16) (r : Fin 1024) (q : Fin 4096) : refOwn ids own (ix2 r q) = Adamw.pick (ids (ix1 5)) (fun d : Fin 8 => own (ix3 d r q)) := by
  pointwise [refOwn, Adamw.pick]
  exact Finset.sum_congr rfl fun d _ => Adamw.masked _ _ _ _ Ideal.ofBits_zero_f32

/-- The sibling's block's entry. -/
theorem refSib_eq (ids : IVec S8 32) (sib : FVec Ideal S4x1024x4096 .bf16) (r : Fin 1024) (q : Fin 4096) : refSib ids sib (ix2 r q) = Adamw.pick (ids (ix1 4)) (fun d : Fin 4 => sib (ix3 d r q)) := by
  pointwise [refSib, Adamw.pick]
  exact Finset.sum_congr rfl fun d _ => Adamw.masked _ _ _ _ Ideal.ofBits_zero_f32

/-- The other chips' entry. -/
theorem refChips_eq (chips : FVec Ideal S3x1024x4096 .bf16) (r : Fin 1024) (q : Fin 4096) : refChips chips (ix2 r q) = (show EReal from chips (ix3 0 r q)) + (show EReal from chips (ix3 1 r q)) + (show EReal from chips (ix3 2 r q)) := by
  pointwise [refChips]
  exact Fin.sum_univ_three _

/-- The reference's gradient is the kernel's. -/
theorem refGrad_eq (ids : IVec S8 32) (own : FVec Ideal S8x1024x4096 .bf16) (sib : FVec Ideal S4x1024x4096 .bf16) (chips : FVec Ideal S3x1024x4096 .bf16) : refGrad ids own sib chips = grad ids own sib chips := by
  funext j
  obtain ⟨r, q, rfl⟩ : ∃ (r : Fin 1024) (q : Fin 4096), j = ix2 r q := ⟨j 0, j 1, by funext a; fin_cases a <;> rfl⟩
  show (show EReal from refOwn ids own (ix2 r q)) + (show EReal from refSib ids sib (ix2 r q)) + (show EReal from refChips chips (ix2 r q))
    = Adamw.pick (ids (ix1 5)) (fun d : Fin 8 => own (ix3 d r q)) + Adamw.pick (ids (ix1 4)) (fun d : Fin 4 => sib (ix3 d r q))
      + (show EReal from chips (ix3 0 r q)) + (show EReal from chips (ix3 1 r q)) + (show EReal from chips (ix3 2 r q))
  rw [refOwn_eq, refSib_eq, refChips_eq, ← add_assoc, ← add_assoc]

/-- The reference's first moment. -/
def refMom (g mo : FVec Ideal S1024x4096 .f32) : FVec Ideal S1024x4096 .f32 := addf (mulf (broadcastInDim S1024x4096 ![] bcast_S_S1024x4096 (constant S_ .f32 0x3F666666#32)) mo) (mulf (broadcastInDim S1024x4096 ![] bcast_S_S1024x4096 (constant S_ .f32 0x3DCCCCCD#32)) g)

/-- The reference's second moment. -/
def refVel (g ve : FVec Ideal S1024x4096 .f32) : FVec Ideal S1024x4096 .f32 := addf (mulf (broadcastInDim S1024x4096 ![] bcast_S_S1024x4096 (constant S_ .f32 0x3F7FBE77#32)) ve) (mulf (broadcastInDim S1024x4096 ![] bcast_S_S1024x4096 (constant S_ .f32 0x3A83126F#32)) (mulf g g))

/-- The reference's change of the weight. -/
def refDelta (g w mo ve : FVec Ideal S1024x4096 .f32) : FVec Ideal S1024x4096 .f32 :=
  mulf (broadcastInDim S1024x4096 ![] bcast_S_S1024x4096 (constant S_ .f32 0xBA83126F#32)) (addf (Host.divf (Host.divf (refMom g mo) (broadcastInDim S1024x4096 ![] bcast_S_S1024x4096 (constant S_ .f32 0x3F26BD02#32))) (addf (Host.sqrt (Host.divf (refVel g ve) (broadcastInDim S1024x4096 ![] bcast_S_S1024x4096 (constant S_ .f32 0x3C231ACC#32)))) (broadcastInDim S1024x4096 ![] bcast_S_S1024x4096 (constant S_ .f32 0x322BCC77#32)))) (mulf (broadcastInDim S1024x4096 ![] bcast_S_S1024x4096 (constant S_ .f32 0x3C23D70A#32)) w))

/-- The reference's first moment is the kernel's. -/
theorem refMom_eq (g mo : FVec Ideal S1024x4096 .f32) : refMom g mo = mom g mo := by
  funext j
  pointwise [refMom, mom, Adamw.mom]

/-- The reference's second moment is the kernel's. -/
theorem refVel_eq (g ve : FVec Ideal S1024x4096 .f32) : refVel g ve = vel g ve := by
  funext j
  pointwise [refVel, vel, Adamw.vel]

/-- The reference's change of the weight is the kernel's. -/
theorem refDelta_eq (g w mo ve : FVec Ideal S1024x4096 .f32) : refDelta g w mo ve = delta g w mo ve := by
  unfold refDelta
  rw [refMom_eq, refVel_eq]
  funext j
  pointwise [delta, mom, vel, Adamw.delta]

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v19) = refGrad (m (c.tc.loc main_arg0)) (m (c.tc.loc main_arg1)) (m (c.tc.loc main_arg2)) (m (c.tc.loc main_arg3))
      ∧ r.2.mem (c.tc.loc main_v43) = refDelta (refGrad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v24) = refMom (refGrad (m (c.tc.loc main_arg0)) (m (c.tc.loc main_arg1)) (m (c.tc.loc main_arg2)) (m (c.tc.loc main_arg3))) (m (c.tc.loc main_arg5))
      ∧ r.2.mem (c.tc.loc main_v30) = refVel (refGrad (m (c.tc.loc main_arg0)) (m (c.tc.loc main_arg1)) (m (c.tc.loc main_arg2)) (m (c.tc.loc main_arg3))) (m (c.tc.loc main_arg6))
      ∧ r.2.mem (c.tc.loc main_arg0) = m (c.tc.loc main_arg0) ∧ r.2.mem (c.tc.loc main_arg1) = m (c.tc.loc main_arg1) ∧ r.2.mem (c.tc.loc main_arg2) = m (c.tc.loc main_arg2) ∧ r.2.mem (c.tc.loc main_arg3) = m (c.tc.loc main_arg3) ∧ r.2.mem (c.tc.loc main_arg4) = m (c.tc.loc main_arg4) ∧ r.2.mem (c.tc.loc main_arg5) = m (c.tc.loc main_arg5) ∧ r.2.mem (c.tc.loc main_arg6) = m (c.tc.loc main_arg6) :=
  (θ_run defs _ _).mono (fun _ h c => ⟨(h c).1.trans (by rfl), (h c).2.1.trans (by rfl), (h c).2.2.1.trans (by rfl), (h c).2.2.2.1.trans (by rfl), (h c).2.2.2.2⟩) (Value.run m ρ)

end Cert.AdamwBOut

end
-- ==== Proof.AdamwBOutClaim.lean ====
/- The claims about the update of an output projection's weight. -/
module

public import proofs.«01_k».proof.Defs
public import proofs.«01_k».proof.Proof.Gen.Kernel27.Frame
public import proofs.«01_k».proof.Proof.AdamwBOutRef
public import proofs.«01_k».proof.Proof.Finite
public import Idealize.ShloMosaic.Lib.Claim

@[expose] public section

set_option maxRecDepth 200000

noncomputable section

namespace Cert.AdamwBOutClaim

open Idealize.ShloMosaic Idealize.ShloMosaic.Pointwise Idealize.SL.Sem

/-- The precondition's slices fit. -/
instance preFacts : Cert.Pre_b_w_out_named.Facts where
  slices_S8_S1_4 := by decide
  shapeCasts_S1_S_ := by decide
  slices_S8_S1_5 := by decide

/-- Where the precondition holds, the table's entries are blocks' numbers. -/
theorem lt_of_pre {F : FTy → Type} [FloatOps F] (ids : IVec ⟨1, ![8]⟩ 32) (own : FVec F ⟨3, ![8, 1024, 4096]⟩ .bf16) (sib : FVec F ⟨3, ![4, 1024, 4096]⟩ .bf16) (chips : FVec F ⟨3, ![3, 1024, 4096]⟩ .bf16) (w mo ve : FVec F ⟨2, ![1024, 4096]⟩ .f32)
    (h : Cert.Pre_b_w_out_named.fn (F := F) ids own sib chips w mo ve = fun _ => 1#1) : (ids (ix1 (4 : Fin 8))).toNat < 4 ∧ (ids (ix1 (5 : Fin 8))).toNat < 8 := by
  have h1 := congrFun h ix0
  revert h1
  pointwise [Cert.Pre_b_w_out_named.fn]
  intro h1
  obtain ⟨h2, h3⟩ := Finite.both _ _ h1
  obtain ⟨a0, a1⟩ := Finite.both _ _ h2
  obtain ⟨b0, b1⟩ := Finite.both _ _ h3
  exact ⟨Adamw.toNat_lt _ 4 (by omega) a0 a1, Adamw.toNat_lt _ 8 (by omega) b0 b1⟩

/-- Where the precondition holds of `Kernel27`'s arguments, the table names blocks that exist. -/
theorem tbl_Kernel27 (m : (ℓ : Loc Cert.Kernel27.nD Cert.Kernel27.τ Cert.Kernel27.sig) → Buf (Elt Bits) ℓ) (h : Cert.Pre_Kernel27 m) : (Cert.Kernel27.Gen.tbl m 0 (ix1 (4 : Fin 8))).toNat < 4 ∧ (Cert.Kernel27.Gen.tbl m 0 (ix1 (5 : Fin 8))).toNat < 8 := by
  have e : m (((0 : Dev Cert.Kernel27.nD).tc : Thread Cert.Kernel27.nD Cert.Kernel27.τ).loc Cert.Kernel27.main_arg0) = Cert.Kernel27.Gen.tbl m 0 := Cert.Kernel27.Gen.V_pre m 0 0
  rw [← e]
  exact lt_of_pre _ _ _ _ _ _ _ (h 0)

/-- Such a table is one `Kernel27` accepts. -/
theorem ok_Kernel27 (m : (ℓ : Loc Cert.Kernel27.nD Cert.Kernel27.τ Cert.Kernel27.sig) → Buf (Elt Bits) ℓ) (h : Cert.Pre_Kernel27 m) : Cert.Kernel27.Gen.Ok m :=
  have h := tbl_Kernel27 m h
  AdamwBOut.ok_of (F := Bits) (Cert.Kernel27.Gen.tbl m) h.1 h.2

/-- `Kernel27` runs and leaves its arguments and every counter as they were. -/
theorem quiescentB : Cert.quiescent_Kernel27 := fun m g h => Cert.Kernel27.Gen.frame m g (ok_Kernel27 m h)

/-- Where the precondition holds of `Kernel27Ideal`'s arguments, the table names blocks that exist. -/
theorem tbl_Kernel27Ideal (m : (ℓ : Loc Cert.Kernel27Ideal.nD Cert.Kernel27Ideal.τ Cert.Kernel27Ideal.sig) → Buf (Elt Ideal) ℓ) (h : Cert.Pre_Kernel27Ideal m) : (Cert.Kernel27Ideal.Gen.tbl m 0 (ix1 (4 : Fin 8))).toNat < 4 ∧ (Cert.Kernel27Ideal.Gen.tbl m 0 (ix1 (5 : Fin 8))).toNat < 8 := by
  have e : m (((0 : Dev Cert.Kernel27Ideal.nD).tc : Thread Cert.Kernel27Ideal.nD Cert.Kernel27Ideal.τ).loc Cert.Kernel27Ideal.main_arg0) = Cert.Kernel27Ideal.Gen.tbl m 0 := Cert.Kernel27Ideal.Gen.V_pre m 0 0
  rw [← e]
  exact lt_of_pre _ _ _ _ _ _ _ (h 0)

/-- Such a table is one `Kernel27Ideal` accepts. -/
theorem ok_Kernel27Ideal (m : (ℓ : Loc Cert.Kernel27Ideal.nD Cert.Kernel27Ideal.τ Cert.Kernel27Ideal.sig) → Buf (Elt Ideal) ℓ) (h : Cert.Pre_Kernel27Ideal m) : Cert.Kernel27Ideal.Gen.Ok m :=
  have h := tbl_Kernel27Ideal m h
  AdamwBOut.ok_of (F := Ideal) (Cert.Kernel27Ideal.Gen.tbl m) h.1 h.2

/-- `Kernel27Ideal` runs and leaves its arguments and every counter as they were. -/
theorem quiescentI : Cert.quiescent_Kernel27Ideal := fun m g h => Cert.Kernel27Ideal.Gen.frame m g (ok_Kernel27Ideal m h)

/-- The reference leaves its arguments as they were and no pending signals. -/
theorem quiescent : Cert.quiescent_Reference27Ideal := by
  intro m g _
  exact (θ_run _ _ _).mono (fun r h => ⟨fun c => (h c).2.2.2.2, sem_eq_zero_of_no_sems (by decide) _⟩) (Cert.Reference27Ideal.Value.run m g)

set_option maxHeartbeats 1600000 in
/-- The kernel and the reference leave the same results, where the table names blocks that exist. -/
theorem same : Cert.algebraic_Kernel27Ideal_Reference27Ideal := by
  pair_intro
  · run_from Cert.AdamwBOut.run_kernel m g (ok_Kernel27Ideal m hpre) (tbl_Kernel27Ideal m hpre).1 (tbl_Kernel27Ideal m hpre).2
  · run_from Cert.AdamwBOut.run m' g'
    · exact Cert.AdamwBOut.refGrad_eq _ _ _ _
    · rw [Cert.AdamwBOut.refGrad_eq, Cert.AdamwBOut.refDelta_eq]
    · rw [Cert.AdamwBOut.refGrad_eq, Cert.AdamwBOut.refMom_eq]
    · rw [Cert.AdamwBOut.refGrad_eq, Cert.AdamwBOut.refVel_eq]

end Cert.AdamwBOutClaim

end
-- ==== Proof.AdamwBGrp.lean ====
/- The reduced gradient and the update of the grouped projection's weight. -/
module

public import proofs.«01_k».proof.Proof.Gen.Kernel28Ideal.Frame
public import proofs.«01_k».proof.Proof.AdamwMath
public import Idealize.ShloMosaic.Lib.Pipeline.ValueKit
public import Idealize.ShloMosaic.Lib.Pipeline.Covers

@[expose] public section

set_option maxRecDepth 16384

noncomputable section

namespace Cert.AdamwBGrp

open Cert.Kernel28Ideal Cert.Kernel28Ideal.Gen Idealize.ShloMosaic Idealize.ShloMosaic.TcCoe Idealize.ShloMosaic.Pointwise Idealize.SL.Sem

variable (m : (ℓ : Loc nD τ sig) → Buf (Elt Ideal) ℓ)

/-- The table's entry 5 is block 0's number. -/
theorem at0 {F : FTy → Type} [FloatOps F] (pf : pre0.Contents (Elt F)) (i : grid0.Coords) : cc0_transform_0 inb_S8_S1_5 numel1_S1 pf i = ![(pf 0 (ix1 (5 : Fin 8))).toNat, (i 0).val, 0] := by
  have hx : (Rect.unit (s := S8) ![5] S1.size inb_S8_S1_5).emb (Shape.Idx.first (numel1_S1.symm ▸ Nat.one_pos)) = ix1 (5 : Fin 8) := Adamw.emb_first 5 _ _
  have hi : (i 0).val < 8 := (i 0).isLt
  have h32 : (BitVec.ofNat 32 (i 0).val).toNat = (i 0).val := by
    rw [BitVec.toNat_ofNat]; exact Nat.mod_eq_of_lt (by omega)
  show ![(pf 0 ((Rect.unit (s := S8) ![5] S1.size inb_S8_S1_5).emb (Shape.Idx.first (numel1_S1.symm ▸ Nat.one_pos)))).toNat, (BitVec.ofNat 32 (i 0).val).toNat, 0] = _
  rw [hx, h32]

/-- The table's entry 4 is block 1's number. -/
theorem at1 {F : FTy → Type} [FloatOps F] (pf : pre0.Contents (Elt F)) (i : grid0.Coords) : cc0_transform_1 inb_S8_S1_4 numel1_S1 pf i = ![(pf 0 (ix1 (4 : Fin 8))).toNat, (i 0).val, 0] := by
  have hx : (Rect.unit (s := S8) ![4] S1.size inb_S8_S1_4).emb (Shape.Idx.first (numel1_S1.symm ▸ Nat.one_pos)) = ix1 (4 : Fin 8) := Adamw.emb_first 4 _ _
  have hi : (i 0).val < 8 := (i 0).isLt
  have h32 : (BitVec.ofNat 32 (i 0).val).toNat = (i 0).val := by
    rw [BitVec.toNat_ofNat]; exact Nat.mod_eq_of_lt (by omega)
  show ![(pf 0 ((Rect.unit (s := S8) ![4] S1.size inb_S8_S1_4).emb (Shape.Idx.first (numel1_S1.symm ▸ Nat.one_pos)))).toNat, (BitVec.ofNat 32 (i 0).val).toNat, 0] = _
  rw [hx, h32]

/-- A table that names blocks that exist is one the call accepts. -/
theorem ok_of {F : FTy → Type} [FloatOps F] (pf : pre0.Contents (Elt F)) (h4 : (pf 0 (ix1 (4 : Fin 8))).toNat < 4) (h5 : (pf 0 (ix1 (5 : Fin 8))).toNat < 8) : ok0 pf := by
  refine ⟨fun i => ?_, fun i => ?_⟩
  · rw [at0]
    have hi : (i 0).val < 8 := (i 0).isLt
    refine ⟨fun a => ?_, .inr (.inl (.inr ⟨by decide, rfl, .inl ⟨?_, ?_⟩⟩))⟩
    · fin_cases a
      · show ((pf 0 (ix1 (5 : Fin 8))).toNat + 1) * 1 ≤ 8
        omega
      · show ((i 0).val + 1) * 128 ≤ 1024
        omega
      · show (0 + 1) * 2048 ≤ 2048
        omega
    · show 2 ∣ (i 0).val * 128
      omega
    · show 2 ∣ 128
      omega
  · rw [at1]
    have hi : (i 0).val < 8 := (i 0).isLt
    refine ⟨fun a => ?_, .inr (.inl (.inr ⟨by decide, rfl, .inl ⟨?_, ?_⟩⟩))⟩
    · fin_cases a
      · show ((pf 0 (ix1 (4 : Fin 8))).toNat + 1) * 1 ≤ 4
        omega
      · show ((i 0).val + 1) * 128 ≤ 1024
        omega
      · show (0 + 1) * 2048 ≤ 2048
        omega
    · show 2 ∣ (i 0).val * 128
      omega
    · show 2 ∣ 128
      omega

/-- The block numbers that no table gives. -/
theorem ixs : ∀ t : Fin grid0.N, cc0_transform_6 (grid0.coords t) = ![t.val, 0] ∧ cc0_transform_2 (grid0.coords t) = ![0, t.val, 0] ∧ (grid0.coords t 0).val = t.val := by decide +kernel

/-- The array's row that is the block's row `p` at point `t`. -/
abbrev row (t : Fin grid0.N) (p : Fin 128) : Fin 1024 := ⟨t.val * 128 + p.val, by have h : t.val < 8 := lt_of_lt_of_eq t.isLt N_0; omega⟩

/-- Window 3's block at coordinates. -/
theorem emb3 (hO : Ok m) (t : Fin grid0.N) (p : Fin 128) (q : Fin 2048) : (((cfgM m hO).win 3).rect t).emb (ix2 p q) = ix2 (row t p) q := by
  funext a
  refine Fin.ext ((Pipeline.Window.rect_emb_val _ t _ a).trans ?_)
  rw [show ((cfgM m hO).win 3).index t = ![t.val, 0] from (ixs t).1]
  fin_cases a
  · rfl
  · show 0 * 2048 + q.val = q.val
    omega

/-- Window 4's block at coordinates. -/
theorem emb4 (hO : Ok m) (t : Fin grid0.N) (p : Fin 128) (q : Fin 2048) : (((cfgM m hO).win 4).rect t).emb (ix2 p q) = ix2 (row t p) q := emb3 m hO t p q

/-- Window 5's block at coordinates. -/
theorem emb5 (hO : Ok m) (t : Fin grid0.N) (p : Fin 128) (q : Fin 2048) : (((cfgM m hO).win 5).rect t).emb (ix2 p q) = ix2 (row t p) q := emb3 m hO t p q

/-- Window 6's block at coordinates. -/
theorem emb6 (hO : Ok m) (t : Fin grid0.N) (p : Fin 128) (q : Fin 2048) : (((cfgM m hO).win 6).rect t).emb (ix2 p q) = ix2 (row t p) q := emb3 m hO t p q

/-- Window 7's block at coordinates. -/
theorem emb7 (hO : Ok m) (t : Fin grid0.N) (p : Fin 128) (q : Fin 2048) : (((cfgM m hO).win 7).rect t).emb (ix2 p q) = ix2 (row t p) q := emb3 m hO t p q

/-- Window 8's block at coordinates. -/
theorem emb8 (hO : Ok m) (t : Fin grid0.N) (p : Fin 128) (q : Fin 2048) : (((cfgM m hO).win 8).rect t).emb (ix2 p q) = ix2 (row t p) q := emb3 m hO t p q

/-- Window 9's block at coordinates. -/
theorem emb9 (hO : Ok m) (t : Fin grid0.N) (p : Fin 128) (q : Fin 2048) : (((cfgM m hO).win 9).rect t).emb (ix2 p q) = ix2 (row t p) q := emb3 m hO t p q

/-- Window 2's block at coordinates. -/
theorem emb2 (hO : Ok m) (t : Fin grid0.N) (d : Fin 3) (p : Fin 128) (q : Fin 2048) : (((cfgM m hO).win 2).rect t).emb (ix3 d p q) = ix3 d (row t p) q := by
  funext a
  refine Fin.ext ((Pipeline.Window.rect_emb_val _ t _ a).trans ?_)
  rw [show ((cfgM m hO).win 2).index t = ![0, t.val, 0] from (ixs t).2.1]
  fin_cases a
  · show 0 * 3 + d.val = d.val
    omega
  · rfl
  · show 0 * 2048 + q.val = q.val
    omega

/-- Window 0's block at coordinates: the block of the table's number. -/
theorem emb0 (hO : Ok m) (h : (tbl m 0 (ix1 (5 : Fin 8))).toNat < 8) (t : Fin grid0.N) (p : Fin 128) (q : Fin 2048) : (((cfgM m hO).win 0).rect t).emb (ix3 0 p q) = ix3 (⟨(tbl m 0 (ix1 (5 : Fin 8))).toNat, h⟩ : Fin 8) (row t p) q := by
  funext a
  refine Fin.ext ((Pipeline.Window.rect_emb_val _ t _ a).trans ?_)
  rw [show ((cfgM m hO).win 0).index t = ![(tbl m 0 (ix1 (5 : Fin 8))).toNat, t.val, 0] from (at0 (tbl m) (grid0.coords t)).trans (by rw [(ixs t).2.2])]
  fin_cases a
  · show (tbl m 0 (ix1 (5 : Fin 8))).toNat * 1 + 0 = (tbl m 0 (ix1 (5 : Fin 8))).toNat
    omega
  · rfl
  · show 0 * 2048 + q.val = q.val
    omega

/-- Window 1's block at coordinates: the block of the table's number. -/
theorem emb1 (hO : Ok m) (h : (tbl m 0 (ix1 (4 : Fin 8))).toNat < 4) (t : Fin grid0.N) (p : Fin 128) (q : Fin 2048) : (((cfgM m hO).win 1).rect t).emb (ix3 0 p q) = ix3 (⟨(tbl m 0 (ix1 (4 : Fin 8))).toNat, h⟩ : Fin 4) (row t p) q := by
  funext a
  refine Fin.ext ((Pipeline.Window.rect_emb_val _ t _ a).trans ?_)
  rw [show ((cfgM m hO).win 1).index t = ![(tbl m 0 (ix1 (4 : Fin 8))).toNat, t.val, 0] from (at1 (tbl m) (grid0.coords t)).trans (by rw [(ixs t).2.2])]
  fin_cases a
  · show (tbl m 0 (ix1 (4 : Fin 8))).toNat * 1 + 0 = (tbl m 0 (ix1 (4 : Fin 8))).toNat
    omega
  · rfl
  · show 0 * 2048 + q.val = q.val
    omega

/-- Every block of result 0 is written. -/
theorem covers6 (hO : Ok m) : ((cfgM m hO).win 6).Covers := by
  refine Pipeline.Window.covers_of_index_surj _ rfl (show ∀ a : Fin 2, 0 < (![128, 2048] : Fin 2 → ℕ) a by decide) (fun β => ?_)
  have hn : ∀ a : Fin 2, ((cfgM m hO).win 6).nblk a = (![8, 1] : Fin 2 → ℕ) a := by
    intro a
    fin_cases a
    · show (1024 + 128 - 1) / 128 = 8
      rfl
    · show (2048 + 2048 - 1) / 2048 = 1
      rfl
  obtain ⟨t, ht⟩ := Adamw.point_of (n := 8) (fun a : Fin 2 => (β a).val) fun a => lt_of_lt_of_eq (β a).isLt (hn a)
  refine ⟨t.cast N_0.symm, fun a => (congrFun (ixs (t.cast N_0.symm)).1 a).trans (ht a)⟩

/-- Every block of result 1 is written. -/
theorem covers7 (hO : Ok m) : ((cfgM m hO).win 7).Covers := covers6 m hO

/-- Every block of result 2 is written. -/
theorem covers8 (hO : Ok m) : ((cfgM m hO).win 8).Covers := covers6 m hO

/-- Every block of result 3 is written. -/
theorem covers9 (hO : Ok m) : ((cfgM m hO).win 9).Covers := covers6 m hO

/-- Result 0's contents after a point. -/
theorem out6_at (hO : Ok m) (c : Dev nD) (t : Fin grid0.N) : (outsAt0 m hO c t).1 = k0_pay3 (F := Ideal) (iblk m hO c 0 t) (iblk m hO c 1 t) (View.ld (iblk m hO c 2 t) (Rect.unit (s := S3x128x2048) ![0, 0, 0] ![1, 128, 2048] inb_S3x128x2048_S1x128x2048_0_0_0)) (View.ld (iblk m hO c 2 t) (Rect.unit (s := S3x128x2048) ![1, 0, 0] ![1, 128, 2048] inb_S3x128x2048_S1x128x2048_1_0_0)) (View.ld (iblk m hO c 2 t) (Rect.unit (s := S3x128x2048) ![2, 0, 0] ![1, 128, 2048] inb_S3x128x2048_S1x128x2048_2_0_0)) := by
  frame_out
  rw [(hs0_0 m hO t).read_unread (iblk m hO c 0 t), (hs0_1 m hO t).read_unread (iblk m hO c 1 t), (hs0_2 m hO t).read_unread (iblk m hO c 2 t)]
  rfl

/-- Result 1's contents after a point. -/
theorem out7_at (hO : Ok m) (c : Dev nD) (t : Fin grid0.N) : (outsAt0 m hO c t).2.1 = k0_pay2 (F := Ideal) (iblk m hO c 3 t) (k0_pay4 (iblk m hO c 0 t) (iblk m hO c 1 t) (View.ld (iblk m hO c 2 t) (Rect.unit (s := S3x128x2048) ![0, 0, 0] ![1, 128, 2048] inb_S3x128x2048_S1x128x2048_0_0_0)) (View.ld (iblk m hO c 2 t) (Rect.unit (s := S3x128x2048) ![1, 0, 0] ![1, 128, 2048] inb_S3x128x2048_S1x128x2048_1_0_0)) (View.ld (iblk m hO c 2 t) (Rect.unit (s := S3x128x2048) ![2, 0, 0] ![1, 128, 2048] inb_S3x128x2048_S1x128x2048_2_0_0)) (iblk m hO c 4 t)) (k0_pay5 (iblk m hO c 5 t)) (k0_pay6 (iblk m hO c 0 t) (iblk m hO c 1 t) (View.ld (iblk m hO c 2 t) (Rect.unit (s := S3x128x2048) ![0, 0, 0] ![1, 128, 2048] inb_S3x128x2048_S1x128x2048_0_0_0)) (View.ld (iblk m hO c 2 t) (Rect.unit (s := S3x128x2048) ![1, 0, 0] ![1, 128, 2048] inb_S3x128x2048_S1x128x2048_1_0_0)) (View.ld (iblk m hO c 2 t) (Rect.unit (s := S3x128x2048) ![2, 0, 0] ![1, 128, 2048] inb_S3x128x2048_S1x128x2048_2_0_0))) (Scalar.ofBits .f32 0x3A83126F#32) := by
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t)]
  rfl

/-- Result 2's contents after a point. -/
theorem out8_at (hO : Ok m) (c : Dev nD) (t : Fin grid0.N) : (outsAt0 m hO c t).2.2.1 = k0_pay4 (F := Ideal) (iblk m hO c 0 t) (iblk m hO c 1 t) (View.ld (iblk m hO c 2 t) (Rect.unit (s := S3x128x2048) ![0, 0, 0] ![1, 128, 2048] inb_S3x128x2048_S1x128x2048_0_0_0)) (View.ld (iblk m hO c 2 t) (Rect.unit (s := S3x128x2048) ![1, 0, 0] ![1, 128, 2048] inb_S3x128x2048_S1x128x2048_1_0_0)) (View.ld (iblk m hO c 2 t) (Rect.unit (s := S3x128x2048) ![2, 0, 0] ![1, 128, 2048] inb_S3x128x2048_S1x128x2048_2_0_0)) (iblk m hO c 4 t) := by
  frame_out
  rw [(hs0_0 m hO t).read_unread (iblk m hO c 0 t), (hs0_1 m hO t).read_unread (iblk m hO c 1 t), (hs0_2 m hO t).read_unread (iblk m hO c 2 t), (hs0_4 m hO t).read_unread (iblk m hO c 4 t)]
  rfl

/-- Result 3's contents after a point. -/
theorem out9_at (hO : Ok m) (c : Dev nD) (t : Fin grid0.N) : (outsAt0 m hO c t).2.2.2 = k0_pay1 (F := Ideal) (k0_pay5 (iblk m hO c 5 t)) (k0_pay6 (iblk m hO c 0 t) (iblk m hO c 1 t) (View.ld (iblk m hO c 2 t) (Rect.unit (s := S3x128x2048) ![0, 0, 0] ![1, 128, 2048] inb_S3x128x2048_S1x128x2048_0_0_0)) (View.ld (iblk m hO c 2 t) (Rect.unit (s := S3x128x2048) ![1, 0, 0] ![1, 128, 2048] inb_S3x128x2048_S1x128x2048_1_0_0)) (View.ld (iblk m hO c 2 t) (Rect.unit (s := S3x128x2048) ![2, 0, 0] ![1, 128, 2048] inb_S3x128x2048_S1x128x2048_2_0_0))) (Scalar.ofBits .f32 0x3A83126F#32) := by
  frame_out
  rw [(hs0_0 m hO t).read_unread (iblk m hO c 0 t), (hs0_1 m hO t).read_unread (iblk m hO c 1 t), (hs0_2 m hO t).read_unread (iblk m hO c 2 t), (hs0_5 m hO t).read_unread (iblk m hO c 5 t)]
  rfl

/-- The gradient: the device's own block, its sibling's, and those of the three other chips of the pair's group. -/
def grad (ids : IVec ⟨1, ![8]⟩ 32) (own : FVec Ideal ⟨3, ![8, 1024, 2048]⟩ .bf16) (sib : FVec Ideal ⟨3, ![4, 1024, 2048]⟩ .bf16) (chips : FVec Ideal ⟨3, ![3, 1024, 2048]⟩ .bf16) : FVec Ideal ⟨2, ![1024, 2048]⟩ .f32 := fun j =>
  Adamw.pick (ids (ix1 5)) (fun d : Fin 8 => own (ix3 d (j 0) (j 1))) + Adamw.pick (ids (ix1 4)) (fun d : Fin 4 => sib (ix3 d (j 0) (j 1)))
    + (show EReal from chips (ix3 0 (j 0) (j 1))) + (show EReal from chips (ix3 1 (j 0) (j 1))) + (show EReal from chips (ix3 2 (j 0) (j 1)))

/-- The blocks' sum is the arrays'. -/
theorem g_at (hO : Ok m) (h4 : (tbl m 0 (ix1 (4 : Fin 8))).toNat < 4) (h5 : (tbl m 0 (ix1 (5 : Fin 8))).toNat < 8) (c : Dev nD) (t : Fin grid0.N) (p : Fin 128) (q : Fin 2048) :
    (show EReal from iblk m hO c 0 t (ix3 0 p q : S1x128x2048.Idx)) + (show EReal from iblk m hO c 1 t (ix3 0 p q : S1x128x2048.Idx)) + (show EReal from iblk m hO c 2 t (ix3 0 p q : S3x128x2048.Idx)) + (show EReal from iblk m hO c 2 t (ix3 1 p q : S3x128x2048.Idx)) + (show EReal from iblk m hO c 2 t (ix3 2 p q : S3x128x2048.Idx))
      = grad (m (c.tc.loc main_arg0)) (m (c.tc.loc main_arg1)) (m (c.tc.loc main_arg2)) (m (c.tc.loc main_arg3)) (ix2 (row t p) q) := by
  have e0 : iblk m hO c 0 t (ix3 0 p q : S1x128x2048.Idx) = m (c.tc.loc main_arg1) (ix3 (⟨(tbl m 0 (ix1 (5 : Fin 8))).toNat, h5⟩ : Fin 8) (row t p) q) := congrArg (m (c.tc.loc main_arg1)) (emb0 m hO h5 t p q)
  have e1 : iblk m hO c 1 t (ix3 0 p q : S1x128x2048.Idx) = m (c.tc.loc main_arg2) (ix3 (⟨(tbl m 0 (ix1 (4 : Fin 8))).toNat, h4⟩ : Fin 4) (row t p) q) := congrArg (m (c.tc.loc main_arg2)) (emb1 m hO h4 t p q)
  have e2 : ∀ d : Fin 3, iblk m hO c 2 t (ix3 d p q : S3x128x2048.Idx) = m (c.tc.loc main_arg3) (ix3 d (row t p) q) := fun d => congrArg (m (c.tc.loc main_arg3)) (emb2 m hO t d p q)
  have et : m (c.tc.loc main_arg0) = tbl m 0 := V_pre m c 0
  show _ = Adamw.pick (m (c.tc.loc main_arg0) (ix1 5)) (fun d : Fin 8 => m (c.tc.loc main_arg1) (ix3 d (row t p) q)) + Adamw.pick (m (c.tc.loc main_arg0) (ix1 4)) (fun d : Fin 4 => m (c.tc.loc main_arg2) (ix3 d (row t p) q))
    + (show EReal from m (c.tc.loc main_arg3) (ix3 0 (row t p) q)) + (show EReal from m (c.tc.loc main_arg3) (ix3 1 (row t p) q)) + (show EReal from m (c.tc.loc main_arg3) (ix3 2 (row t p) q))
  rw [et, Adamw.pick_eq (by omega) _ h5, Adamw.pick_eq (by omega) _ h4, e0, e1, e2, e2, e2]

/-- A block's position is a row and a column. -/
theorem split (y : S128x2048.Idx) : ∃ (p : Fin 128) (q : Fin 2048), y = ix2 p q := ⟨y 0, y 1, by funext a; fin_cases a <;> rfl⟩

/-- The first moment. -/
def mom (g mo : FVec Ideal ⟨2, ![1024, 2048]⟩ .f32) : FVec Ideal ⟨2, ![1024, 2048]⟩ .f32 := fun j => Adamw.mom (g j) (mo j)

/-- The second moment. -/
def vel (g ve : FVec Ideal ⟨2, ![1024, 2048]⟩ .f32) : FVec Ideal ⟨2, ![1024, 2048]⟩ .f32 := fun j => Adamw.vel (g j) (ve j)

/-- The weight's change. -/
def delta (g w mo ve : FVec Ideal ⟨2, ![1024, 2048]⟩ .f32) : FVec Ideal ⟨2, ![1024, 2048]⟩ .f32 := fun j => Adamw.delta (g j) (w j) (mo j) (ve j)

/-- What the run leaves in result 0. -/
theorem final_g (hO : Ok m) (h4 : (tbl m 0 (ix1 (4 : Fin 8))).toNat < 4) (h5 : (tbl m 0 (ix1 (5 : Fin 8))).toNat < 8) (c : Dev nD) : (dats m hO 0 c).arrAt 6 (cfgM m hO).N = grad (m (c.tc.loc main_arg0)) (m (c.tc.loc main_arg1)) (m (c.tc.loc main_arg2)) (m (c.tc.loc main_arg3)) := by
  refine (dats m hO 0 c).arrAt_eq_of_covers 6 _ (covers6 m hO) fun t _ y => ?_
  obtain ⟨p, q, rfl⟩ := split y
  refine Eq.trans ?_ (congrArg _ (emb6 m hO t p q)).symm
  refine (congrFun ((after0_6 m hO c t).trans (out6_at m hO c t)) (ix2 p q : S128x2048.Idx)).trans ?_
  pointwise [k0_pay1, k0_pay2, k0_pay3, k0_pay4, k0_pay5, k0_pay6]
  exact g_at m hO h4 h5 c t p q

/-- What the run leaves in result 1. -/
theorem final_d (hO : Ok m) (h4 : (tbl m 0 (ix1 (4 : Fin 8))).toNat < 4) (h5 : (tbl m 0 (ix1 (5 : Fin 8))).toNat < 8) (c : Dev nD) : (dats m hO 0 c).arrAt 7 (cfgM m hO).N = delta (grad (m (c.tc.loc main_arg0)) (m (c.tc.loc main_arg1)) (m (c.tc.loc main_arg2)) (m (c.tc.loc main_arg3))) (m (c.tc.loc main_arg4)) (m (c.tc.loc main_arg5)) (m (c.tc.loc main_arg6)) := by
  refine (dats m hO 0 c).arrAt_eq_of_covers 7 _ (covers7 m hO) fun t _ y => ?_
  obtain ⟨p, q, rfl⟩ := split y
  refine Eq.trans ?_ (congrArg _ (emb7 m hO t p q)).symm
  refine (congrFun ((after0_7 m hO c t).trans (out7_at m hO c t)) (ix2 p q : S128x2048.Idx)).trans ?_
  pointwise [k0_pay1, k0_pay2, k0_pay3, k0_pay4, k0_pay5, k0_pay6]
  exact Adamw.delta_eq (g_at m hO h4 h5 c t p q) (congrArg (m (c.tc.loc main_arg4)) (emb3 m hO t p q)) (congrArg (m (c.tc.loc main_arg5)) (emb4 m hO t p q)) (congrArg (m (c.tc.loc main_arg6)) (emb5 m hO t p q))

/-- What the run leaves in result 2. -/
theorem final_m (hO : Ok m) (h4 : (tbl m 0 (ix1 (4 : Fin 8))).toNat < 4) (h5 : (tbl m 0 (ix1 (5 : Fin 8))).toNat < 8) (c : Dev nD) : (dats m hO 0 c).arrAt 8 (cfgM m hO).N = mom (grad (m (c.tc.loc main_arg0)) (m (c.tc.loc main_arg1)) (m (c.tc.loc main_arg2)) (m (c.tc.loc main_arg3))) (m (c.tc.loc main_arg5)) := by
  refine (dats m hO 0 c).arrAt_eq_of_covers 8 _ (covers8 m hO) fun t _ y => ?_
  obtain ⟨p, q, rfl⟩ := split y
  refine Eq.trans ?_ (congrArg _ (emb8 m hO t p q)).symm
  refine (congrFun ((after0_8 m hO c t).trans (out8_at m hO c t)) (ix2 p q : S128x2048.Idx)).trans ?_
  pointwise [k0_pay1, k0_pay2, k0_pay3, k0_pay4, k0_pay5, k0_pay6]
  exact congrArg₂ Adamw.mom (g_at m hO h4 h5 c t p q) (congrArg (m (c.tc.loc main_arg5)) (emb4 m hO t p q))

/-- What the run leaves in result 3. -/
theorem final_v (hO : Ok m) (h4 : (tbl m 0 (ix1 (4 : Fin 8))).toNat < 4) (h5 : (tbl m 0 (ix1 (5 : Fin 8))).toNat < 8) (c : Dev nD) : (dats m hO 0 c).arrAt 9 (cfgM m hO).N = vel (grad (m (c.tc.loc main_arg0)) (m (c.tc.loc main_arg1)) (m (c.tc.loc main_arg2)) (m (c.tc.loc main_arg3))) (m (c.tc.loc main_arg6)) := by
  refine (dats m hO 0 c).arrAt_eq_of_covers 9 _ (covers9 m hO) fun t _ y => ?_
  obtain ⟨p, q, rfl⟩ := split y
  refine Eq.trans ?_ (congrArg _ (emb9 m hO t p q)).symm
  refine (congrFun ((after0_9 m hO c t).trans (out9_at m hO c t)) (ix2 p q : S128x2048.Idx)).trans ?_
  pointwise [k0_pay1, k0_pay2, k0_pay3, k0_pay4, k0_pay5, k0_pay6]
  exact congrArg₂ Adamw.vel (g_at m hO h4 h5 c t p q) (congrArg (m (c.tc.loc main_arg6)) (emb5 m hO t p q))

/-- The whole run: the four results, and the arguments as they were. -/
theorem run_kernel (ρ : Dev nD → PrngReg) (hO : Ok m) (h4 : (tbl m 0 (ix1 (4 : Fin 8))).toNat < 4) (h5 : (tbl m 0 (ix1 (5 : Fin 8))).toNat < 8) :
    θ_run defs (onTc (τ := τ) (main (F := Ideal))) ⟨m, fun _ => 0, ρ⟩ fun r => ∀ c : Dev nD,
      r.2.mem (c.tc.loc main_v0_0) = grad (m (c.tc.loc main_arg0)) (m (c.tc.loc main_arg1)) (m (c.tc.loc main_arg2)) (m (c.tc.loc main_arg3))
      ∧ r.2.mem (c.tc.loc main_v0_1) = delta (grad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v0_2) = mom (grad (m (c.tc.loc main_arg0)) (m (c.tc.loc main_arg1)) (m (c.tc.loc main_arg2)) (m (c.tc.loc main_arg3))) (m (c.tc.loc main_arg5))
      ∧ r.2.mem (c.tc.loc main_v0_3) = vel (grad (m (c.tc.loc main_arg0)) (m (c.tc.loc main_arg1)) (m (c.tc.loc main_arg2)) (m (c.tc.loc main_arg3))) (m (c.tc.loc main_arg6))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) ∧ r.2.mem (c.tc.loc main_arg3) = (m (c.tc.loc main_arg3)) ∧ r.2.mem (c.tc.loc main_arg4) = (m (c.tc.loc main_arg4)) ∧ r.2.mem (c.tc.loc main_arg5) = (m (c.tc.loc main_arg5)) ∧ r.2.mem (c.tc.loc main_arg6) = (m (c.tc.loc main_arg6)) :=
  (θ_run defs _ _).mono (fun _ h c => ⟨((h.1 c).1 6).trans (final_g m hO h4 h5 c), ((h.1 c).1 7).trans (final_d m hO h4 h5 c), ((h.1 c).1 8).trans (final_m m hO h4 h5 c), ((h.1 c).1 9).trans (final_v m hO h4 h5 c), h.2 c⟩)
    (θ_run_and (run_main m ρ hO) (unchanged m ρ hO))

end Cert.AdamwBGrp

end
-- ==== Proof.AdamwBGrpRef.lean ====
/- The reference's gradient and update of the grouped projection's weight are the kernel's. -/
module

public import proofs.«01_k».proof.Proof.Gen.Reference28Ideal.Run
public import proofs.«01_k».proof.Proof.AdamwBGrp

@[expose] public section

set_option maxRecDepth 16384

noncomputable section

namespace Cert.AdamwBGrp

open Cert.Reference28Ideal Cert.Reference28Ideal.Gen Idealize.ShloMosaic Idealize.ShloMosaic.TcCoe Idealize.ShloMosaic.Pointwise Idealize.SL.Sem

variable (m : (ℓ : Loc nD τ sig) → Buf (Elt Ideal) ℓ)

/-- The reference's block of the device's own gradients: a sum of which the table keeps one term. -/
def refOwn (ids : IVec S8 32) (own : FVec Ideal S8x1024x2048 .bf16) : FVec Ideal S1024x2048 .f32 :=
  Host.reduceAdd (select (cmpi .eq (iotaInDim S8x1024x2048 32 0) (broadcastInDim S8x1024x2048 ![] bcast_S_S8x1024x2048 (shapeCast S_ (extractStridedSlice S1 ![5] ids slices_S8_S1_5) shapeCasts_S1_S_))) (extf .f32 own bitsLt_bf16_f32) (broadcastInDim S8x1024x2048 ![] bcast_S_S8x1024x2048 (id (constant S_ .f32 0x00000000#32)))) (constant S_ .f32 0x00000000#32) reducesTo_S8x1024x2048_S1024x2048_d0 h_S_

/-- The reference's block of the sibling's gradients. -/
def refSib (ids : IVec S8 32) (sib : FVec Ideal S4x1024x2048 .bf16) : FVec Ideal S1024x2048 .f32 :=
  Host.reduceAdd (select (cmpi .eq (iotaInDim S4x1024x2048 32 0) (broadcastInDim S4x1024x2048 ![] bcast_S_S4x1024x2048 (shapeCast S_ (extractStridedSlice S1 ![4] ids slices_S8_S1_4) shapeCasts_S1_S_))) (extf .f32 sib bitsLt_bf16_f32) (broadcastInDim S4x1024x2048 ![] bcast_S_S4x1024x2048 (id (constant S_ .f32 0x00000000#32)))) (constant S_ .f32 0x00000000#32) reducesTo_S4x1024x2048_S1024x2048_d0 h_S_

/-- The reference's sum over the other chips. -/
def refChips (chips : FVec Ideal S3x1024x2048 .bf16) : FVec Ideal S1024x2048 .f32 := Host.reduceAdd (extf .f32 chips bitsLt_bf16_f32) (constant S_ .f32 0x00000000#32) reducesTo_S3x1024x2048_S1024x2048_d0 h_S_

/-- The reference's gradient. -/
def refGrad (ids : IVec S8 32) (own : FVec Ideal S8x1024x2048 .bf16) (sib : FVec Ideal S4x1024x2048 .bf16) (chips : FVec Ideal S3x1024x2048 .bf16) : FVec Ideal S1024x2048 .f32 :=
  addf (addf (refOwn ids own) (refSib ids sib)) (refChips chips)

/-- The own block's entry. -/
theorem refOwn_eq (ids : IVec S8 32) (own : FVec Ideal S8x1024x2048 .bf16) (r : Fin 1024) (q : Fin 2048) : refOwn ids own (ix2 r q) = Adamw.pick (ids (ix1 5)) (fun d : Fin 8 => own (ix3 d r q)) := by
  pointwise [refOwn, Adamw.pick]
  exact Finset.sum_congr rfl fun d _ => Adamw.masked _ _ _ _ Ideal.ofBits_zero_f32

/-- The sibling's block's entry. -/
theorem refSib_eq (ids : IVec S8 32) (sib : FVec Ideal S4x1024x2048 .bf16) (r : Fin 1024) (q : Fin 2048) : refSib ids sib (ix2 r q) = Adamw.pick (ids (ix1 4)) (fun d : Fin 4 => sib (ix3 d r q)) := by
  pointwise [refSib, Adamw.pick]
  exact Finset.sum_congr rfl fun d _ => Adamw.masked _ _ _ _ Ideal.ofBits_zero_f32

/-- The other chips' entry. -/
theorem refChips_eq (chips : FVec Ideal S3x1024x2048 .bf16) (r : Fin 1024) (q : Fin 2048) : refChips chips (ix2 r q) = (show EReal from chips (ix3 0 r q)) + (show EReal from chips (ix3 1 r q)) + (show EReal from chips (ix3 2 r q)) := by
  pointwise [refChips]
  exact Fin.sum_univ_three _

/-- The reference's gradient is the kernel's. -/
theorem refGrad_eq (ids : IVec S8 32) (own : FVec Ideal S8x1024x2048 .bf16) (sib : FVec Ideal S4x1024x2048 .bf16) (chips : FVec Ideal S3x1024x2048 .bf16) : refGrad ids own sib chips = grad ids own sib chips := by
  funext j
  obtain ⟨r, q, rfl⟩ : ∃ (r : Fin 1024) (q : Fin 2048), j = ix2 r q := ⟨j 0, j 1, by funext a; fin_cases a <;> rfl⟩
  show (show EReal from refOwn ids own (ix2 r q)) + (show EReal from refSib ids sib (ix2 r q)) + (show EReal from refChips chips (ix2 r q))
    = Adamw.pick (ids (ix1 5)) (fun d : Fin 8 => own (ix3 d r q)) + Adamw.pick (ids (ix1 4)) (fun d : Fin 4 => sib (ix3 d r q))
      + (show EReal from chips (ix3 0 r q)) + (show EReal from chips (ix3 1 r q)) + (show EReal from chips (ix3 2 r q))
  rw [refOwn_eq, refSib_eq, refChips_eq, ← add_assoc, ← add_assoc]

/-- The reference's first moment. -/
def refMom (g mo : FVec Ideal S1024x2048 .f32) : FVec Ideal S1024x2048 .f32 := addf (mulf (broadcastInDim S1024x2048 ![] bcast_S_S1024x2048 (constant S_ .f32 0x3F666666#32)) mo) (mulf (broadcastInDim S1024x2048 ![] bcast_S_S1024x2048 (constant S_ .f32 0x3DCCCCCD#32)) g)

/-- The reference's second moment. -/
def refVel (g ve : FVec Ideal S1024x2048 .f32) : FVec Ideal S1024x2048 .f32 := addf (mulf (broadcastInDim S1024x2048 ![] bcast_S_S1024x2048 (constant S_ .f32 0x3F7FBE77#32)) ve) (mulf (broadcastInDim S1024x2048 ![] bcast_S_S1024x2048 (constant S_ .f32 0x3A83126F#32)) (mulf g g))

/-- The reference's change of the weight. -/
def refDelta (g w mo ve : FVec Ideal S1024x2048 .f32) : FVec Ideal S1024x2048 .f32 :=
  mulf (broadcastInDim S1024x2048 ![] bcast_S_S1024x2048 (constant S_ .f32 0xBA83126F#32)) (addf (Host.divf (Host.divf (refMom g mo) (broadcastInDim S1024x2048 ![] bcast_S_S1024x2048 (constant S_ .f32 0x3F26BD02#32))) (addf (Host.sqrt (Host.divf (refVel g ve) (broadcastInDim S1024x2048 ![] bcast_S_S1024x2048 (constant S_ .f32 0x3C231ACC#32)))) (broadcastInDim S1024x2048 ![] bcast_S_S1024x2048 (constant S_ .f32 0x322BCC77#32)))) (mulf (broadcastInDim S1024x2048 ![] bcast_S_S1024x2048 (constant S_ .f32 0x3C23D70A#32)) w))

/-- The reference's first moment is the kernel's. -/
theorem refMom_eq (g mo : FVec Ideal S1024x2048 .f32) : refMom g mo = mom g mo := by
  funext j
  pointwise [refMom, mom, Adamw.mom]

/-- The reference's second moment is the kernel's. -/
theorem refVel_eq (g ve : FVec Ideal S1024x2048 .f32) : refVel g ve = vel g ve := by
  funext j
  pointwise [refVel, vel, Adamw.vel]

/-- The reference's change of the weight is the kernel's. -/
theorem refDelta_eq (g w mo ve : FVec Ideal S1024x2048 .f32) : refDelta g w mo ve = delta g w mo ve := by
  unfold refDelta
  rw [refMom_eq, refVel_eq]
  funext j
  pointwise [delta, mom, vel, Adamw.delta]

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v19) = refGrad (m (c.tc.loc main_arg0)) (m (c.tc.loc main_arg1)) (m (c.tc.loc main_arg2)) (m (c.tc.loc main_arg3))
      ∧ r.2.mem (c.tc.loc main_v43) = refDelta (refGrad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v24) = refMom (refGrad (m (c.tc.loc main_arg0)) (m (c.tc.loc main_arg1)) (m (c.tc.loc main_arg2)) (m (c.tc.loc main_arg3))) (m (c.tc.loc main_arg5))
      ∧ r.2.mem (c.tc.loc main_v30) = refVel (refGrad (m (c.tc.loc main_arg0)) (m (c.tc.loc main_arg1)) (m (c.tc.loc main_arg2)) (m (c.tc.loc main_arg3))) (m (c.tc.loc main_arg6))
      ∧ r.2.mem (c.tc.loc main_arg0) = m (c.tc.loc main_arg0) ∧ r.2.mem (c.tc.loc main_arg1) = m (c.tc.loc main_arg1) ∧ r.2.mem (c.tc.loc main_arg2) = m (c.tc.loc main_arg2) ∧ r.2.mem (c.tc.loc main_arg3) = m (c.tc.loc main_arg3) ∧ r.2.mem (c.tc.loc main_arg4) = m (c.tc.loc main_arg4) ∧ r.2.mem (c.tc.loc main_arg5) = m (c.tc.loc main_arg5) ∧ r.2.mem (c.tc.loc main_arg6) = m (c.tc.loc main_arg6) :=
  (θ_run defs _ _).mono (fun _ h c => ⟨(h c).1.trans (by rfl), (h c).2.1.trans (by rfl), (h c).2.2.1.trans (by rfl), (h c).2.2.2.1.trans (by rfl), (h c).2.2.2.2⟩) (Value.run m ρ)

end Cert.AdamwBGrp

end
-- ==== Proof.AdamwBGrpClaim.lean ====
/- The claims about the update of the grouped projection's weight. -/
module

public import proofs.«01_k».proof.Defs
public import proofs.«01_k».proof.Proof.Gen.Kernel28.Frame
public import proofs.«01_k».proof.Proof.AdamwBGrpRef
public import proofs.«01_k».proof.Proof.Finite
public import Idealize.ShloMosaic.Lib.Claim

@[expose] public section

set_option maxRecDepth 200000

noncomputable section

namespace Cert.AdamwBGrpClaim

open Idealize.ShloMosaic Idealize.ShloMosaic.Pointwise Idealize.SL.Sem

/-- The precondition's slices fit. -/
instance preFacts : Cert.Pre_b_w_grp_named.Facts where
  slices_S8_S1_4 := by decide
  shapeCasts_S1_S_ := by decide
  slices_S8_S1_5 := by decide

/-- Where the precondition holds, the table's entries are blocks' numbers. -/
theorem lt_of_pre {F : FTy → Type} [FloatOps F] (ids : IVec ⟨1, ![8]⟩ 32) (own : FVec F ⟨3, ![8, 1024, 2048]⟩ .bf16) (sib : FVec F ⟨3, ![4, 1024, 2048]⟩ .bf16) (chips : FVec F ⟨3, ![3, 1024, 2048]⟩ .bf16) (w mo ve : FVec F ⟨2, ![1024, 2048]⟩ .f32)
    (h : Cert.Pre_b_w_grp_named.fn (F := F) ids own sib chips w mo ve = fun _ => 1#1) : (ids (ix1 (4 : Fin 8))).toNat < 4 ∧ (ids (ix1 (5 : Fin 8))).toNat < 8 := by
  have h1 := congrFun h ix0
  revert h1
  pointwise [Cert.Pre_b_w_grp_named.fn]
  intro h1
  obtain ⟨h2, h3⟩ := Finite.both _ _ h1
  obtain ⟨a0, a1⟩ := Finite.both _ _ h2
  obtain ⟨b0, b1⟩ := Finite.both _ _ h3
  exact ⟨Adamw.toNat_lt _ 4 (by omega) a0 a1, Adamw.toNat_lt _ 8 (by omega) b0 b1⟩

/-- Where the precondition holds of `Kernel28`'s arguments, the table names blocks that exist. -/
theorem tbl_Kernel28 (m : (ℓ : Loc Cert.Kernel28.nD Cert.Kernel28.τ Cert.Kernel28.sig) → Buf (Elt Bits) ℓ) (h : Cert.Pre_Kernel28 m) : (Cert.Kernel28.Gen.tbl m 0 (ix1 (4 : Fin 8))).toNat < 4 ∧ (Cert.Kernel28.Gen.tbl m 0 (ix1 (5 : Fin 8))).toNat < 8 := by
  have e : m (((0 : Dev Cert.Kernel28.nD).tc : Thread Cert.Kernel28.nD Cert.Kernel28.τ).loc Cert.Kernel28.main_arg0) = Cert.Kernel28.Gen.tbl m 0 := Cert.Kernel28.Gen.V_pre m 0 0
  rw [← e]
  exact lt_of_pre _ _ _ _ _ _ _ (h 0)

/-- Such a table is one `Kernel28` accepts. -/
theorem ok_Kernel28 (m : (ℓ : Loc Cert.Kernel28.nD Cert.Kernel28.τ Cert.Kernel28.sig) → Buf (Elt Bits) ℓ) (h : Cert.Pre_Kernel28 m) : Cert.Kernel28.Gen.Ok m :=
  have h := tbl_Kernel28 m h
  AdamwBGrp.ok_of (F := Bits) (Cert.Kernel28.Gen.tbl m) h.1 h.2

/-- `Kernel28` runs and leaves its arguments and every counter as they were. -/
theorem quiescentB : Cert.quiescent_Kernel28 := fun m g h => Cert.Kernel28.Gen.frame m g (ok_Kernel28 m h)

/-- Where the precondition holds of `Kernel28Ideal`'s arguments, the table names blocks that exist. -/
theorem tbl_Kernel28Ideal (m : (ℓ : Loc Cert.Kernel28Ideal.nD Cert.Kernel28Ideal.τ Cert.Kernel28Ideal.sig) → Buf (Elt Ideal) ℓ) (h : Cert.Pre_Kernel28Ideal m) : (Cert.Kernel28Ideal.Gen.tbl m 0 (ix1 (4 : Fin 8))).toNat < 4 ∧ (Cert.Kernel28Ideal.Gen.tbl m 0 (ix1 (5 : Fin 8))).toNat < 8 := by
  have e : m (((0 : Dev Cert.Kernel28Ideal.nD).tc : Thread Cert.Kernel28Ideal.nD Cert.Kernel28Ideal.τ).loc Cert.Kernel28Ideal.main_arg0) = Cert.Kernel28Ideal.Gen.tbl m 0 := Cert.Kernel28Ideal.Gen.V_pre m 0 0
  rw [← e]
  exact lt_of_pre _ _ _ _ _ _ _ (h 0)

/-- Such a table is one `Kernel28Ideal` accepts. -/
theorem ok_Kernel28Ideal (m : (ℓ : Loc Cert.Kernel28Ideal.nD Cert.Kernel28Ideal.τ Cert.Kernel28Ideal.sig) → Buf (Elt Ideal) ℓ) (h : Cert.Pre_Kernel28Ideal m) : Cert.Kernel28Ideal.Gen.Ok m :=
  have h := tbl_Kernel28Ideal m h
  AdamwBGrp.ok_of (F := Ideal) (Cert.Kernel28Ideal.Gen.tbl m) h.1 h.2

/-- `Kernel28Ideal` runs and leaves its arguments and every counter as they were. -/
theorem quiescentI : Cert.quiescent_Kernel28Ideal := fun m g h => Cert.Kernel28Ideal.Gen.frame m g (ok_Kernel28Ideal m h)

/-- The reference leaves its arguments as they were and no pending signals. -/
theorem quiescent : Cert.quiescent_Reference28Ideal := by
  intro m g _
  exact (θ_run _ _ _).mono (fun r h => ⟨fun c => (h c).2.2.2.2, sem_eq_zero_of_no_sems (by decide) _⟩) (Cert.Reference28Ideal.Value.run m g)

set_option maxHeartbeats 1600000 in
/-- The kernel and the reference leave the same results, where the table names blocks that exist. -/
theorem same : Cert.algebraic_Kernel28Ideal_Reference28Ideal := by
  pair_intro
  · run_from Cert.AdamwBGrp.run_kernel m g (ok_Kernel28Ideal m hpre) (tbl_Kernel28Ideal m hpre).1 (tbl_Kernel28Ideal m hpre).2
  · run_from Cert.AdamwBGrp.run m' g'
    · exact Cert.AdamwBGrp.refGrad_eq _ _ _ _
    · rw [Cert.AdamwBGrp.refGrad_eq, Cert.AdamwBGrp.refDelta_eq]
    · rw [Cert.AdamwBGrp.refGrad_eq, Cert.AdamwBGrp.refMom_eq]
    · rw [Cert.AdamwBGrp.refGrad_eq, Cert.AdamwBGrp.refVel_eq]

end Cert.AdamwBGrpClaim

end
-- ==== Proof.AdamwBIn.lean ====
/- The reduced gradient and the update of mixer B's input projection's weight. -/
module

public import proofs.«01_k».proof.Proof.Gen.Kernel29Ideal.Frame
public import proofs.«01_k».proof.Proof.AdamwMath
public import Idealize.ShloMosaic.Lib.Pipeline.ValueKit
public import Idealize.ShloMosaic.Lib.Pipeline.Covers

@[expose] public section

set_option maxRecDepth 16384

noncomputable section

namespace Cert.AdamwBIn

open Cert.Kernel29Ideal Cert.Kernel29Ideal.Gen Idealize.ShloMosaic Idealize.ShloMosaic.TcCoe Idealize.ShloMosaic.Pointwise Idealize.SL.Sem

variable (m : (ℓ : Loc nD τ sig) → Buf (Elt Ideal) ℓ)

/-- The table's entry 5 is block 0's number. -/
theorem at0 {F : FTy → Type} [FloatOps F] (pf : pre0.Contents (Elt F)) (i : grid0.Coords) : cc0_transform_0 inb_S8_S1_5 numel1_S1 pf i = ![(pf 0 (ix1 (5 : Fin 8))).toNat, (i 0).val, 0] := by
  have hx : (Rect.unit (s := S8) ![5] S1.size inb_S8_S1_5).emb (Shape.Idx.first (numel1_S1.symm ▸ Nat.one_pos)) = ix1 (5 : Fin 8) := Adamw.emb_first 5 _ _
  have hi : (i 0).val < 32 := (i 0).isLt
  have h32 : (BitVec.ofNat 32 (i 0).val).toNat = (i 0).val := by
    rw [BitVec.toNat_ofNat]; exact Nat.mod_eq_of_lt (by omega)
  show ![(pf 0 ((Rect.unit (s := S8) ![5] S1.size inb_S8_S1_5).emb (Shape.Idx.first (numel1_S1.symm ▸ Nat.one_pos)))).toNat, (BitVec.ofNat 32 (i 0).val).toNat, 0] = _
  rw [hx, h32]

/-- The table's entry 4 is block 1's number. -/
theorem at1 {F : FTy → Type} [FloatOps F] (pf : pre0.Contents (Elt F)) (i : grid0.Coords) : cc0_transform_1 inb_S8_S1_4 numel1_S1 pf i = ![(pf 0 (ix1 (4 : Fin 8))).toNat, (i 0).val, 0] := by
  have hx : (Rect.unit (s := S8) ![4] S1.size inb_S8_S1_4).emb (Shape.Idx.first (numel1_S1.symm ▸ Nat.one_pos)) = ix1 (4 : Fin 8) := Adamw.emb_first 4 _ _
  have hi : (i 0).val < 32 := (i 0).isLt
  have h32 : (BitVec.ofNat 32 (i 0).val).toNat = (i 0).val := by
    rw [BitVec.toNat_ofNat]; exact Nat.mod_eq_of_lt (by omega)
  show ![(pf 0 ((Rect.unit (s := S8) ![4] S1.size inb_S8_S1_4).emb (Shape.Idx.first (numel1_S1.symm ▸ Nat.one_pos)))).toNat, (BitVec.ofNat 32 (i 0).val).toNat, 0] = _
  rw [hx, h32]

/-- A table that names blocks that exist is one the call accepts. -/
theorem ok_of {F : FTy → Type} [FloatOps F] (pf : pre0.Contents (Elt F)) (h4 : (pf 0 (ix1 (4 : Fin 8))).toNat < 4) (h5 : (pf 0 (ix1 (5 : Fin 8))).toNat < 8) : ok0 pf := by
  refine ⟨fun i => ?_, fun i => ?_⟩
  · rw [at0]
    have hi : (i 0).val < 32 := (i 0).isLt
    refine ⟨fun a => ?_, .inr (.inl (.inr ⟨by decide, rfl, .inl ⟨?_, ?_⟩⟩))⟩
    · fin_cases a
      · show ((pf 0 (ix1 (5 : Fin 8))).toNat + 1) * 1 ≤ 8
        omega
      · show ((i 0).val + 1) * 128 ≤ 4096
        omega
      · show (0 + 1) * 2048 ≤ 2048
        omega
    · show 2 ∣ (i 0).val * 128
      omega
    · show 2 ∣ 128
      omega
  · rw [at1]
    have hi : (i 0).val < 32 := (i 0).isLt
    refine ⟨fun a => ?_, .inr (.inl (.inr ⟨by decide, rfl, .inl ⟨?_, ?_⟩⟩))⟩
    · fin_cases a
      · show ((pf 0 (ix1 (4 : Fin 8))).toNat + 1) * 1 ≤ 4
        omega
      · show ((i 0).val + 1) * 128 ≤ 4096
        omega
      · show (0 + 1) * 2048 ≤ 2048
        omega
    · show 2 ∣ (i 0).val * 128
      omega
    · show 2 ∣ 128
      omega

/-- The block numbers that no table gives. -/
theorem ixs : ∀ t : Fin grid0.N, cc0_transform_6 (grid0.coords t) = ![t.val, 0] ∧ cc0_transform_2 (grid0.coords t) = ![0, t.val, 0] ∧ (grid0.coords t 0).val = t.val := by decide +kernel

/-- The array's row that is the block's row `p` at point `t`. -/
abbrev row (t : Fin grid0.N) (p : Fin 128) : Fin 4096 := ⟨t.val * 128 + p.val, by have h : t.val < 32 := lt_of_lt_of_eq t.isLt N_0; omega⟩

/-- Window 3's block at coordinates. -/
theorem emb3 (hO : Ok m) (t : Fin grid0.N) (p : Fin 128) (q : Fin 2048) : (((cfgM m hO).win 3).rect t).emb (ix2 p q) = ix2 (row t p) q := by
  funext a
  refine Fin.ext ((Pipeline.Window.rect_emb_val _ t _ a).trans ?_)
  rw [show ((cfgM m hO).win 3).index t = ![t.val, 0] from (ixs t).1]
  fin_cases a
  · rfl
  · show 0 * 2048 + q.val = q.val
    omega

/-- Window 4's block at coordinates. -/
theorem emb4 (hO : Ok m) (t : Fin grid0.N) (p : Fin 128) (q : Fin 2048) : (((cfgM m hO).win 4).rect t).emb (ix2 p q) = ix2 (row t p) q := emb3 m hO t p q

/-- Window 5's block at coordinates. -/
theorem emb5 (hO : Ok m) (t : Fin grid0.N) (p : Fin 128) (q : Fin 2048) : (((cfgM m hO).win 5).rect t).emb (ix2 p q) = ix2 (row t p) q := emb3 m hO t p q

/-- Window 6's block at coordinates. -/
theorem emb6 (hO : Ok m) (t : Fin grid0.N) (p : Fin 128) (q : Fin 2048) : (((cfgM m hO).win 6).rect t).emb (ix2 p q) = ix2 (row t p) q := emb3 m hO t p q

/-- Window 7's block at coordinates. -/
theorem emb7 (hO : Ok m) (t : Fin grid0.N) (p : Fin 128) (q : Fin 2048) : (((cfgM m hO).win 7).rect t).emb (ix2 p q) = ix2 (row t p) q := emb3 m hO t p q

/-- Window 8's block at coordinates. -/
theorem emb8 (hO : Ok m) (t : Fin grid0.N) (p : Fin 128) (q : Fin 2048) : (((cfgM m hO).win 8).rect t).emb (ix2 p q) = ix2 (row t p) q := emb3 m hO t p q

/-- Window 9's block at coordinates. -/
theorem emb9 (hO : Ok m) (t : Fin grid0.N) (p : Fin 128) (q : Fin 2048) : (((cfgM m hO).win 9).rect t).emb (ix2 p q) = ix2 (row t p) q := emb3 m hO t p q

/-- Window 2's block at coordinates. -/
theorem emb2 (hO : Ok m) (t : Fin grid0.N) (d : Fin 3) (p : Fin 128) (q : Fin 2048) : (((cfgM m hO).win 2).rect t).emb (ix3 d p q) = ix3 d (row t p) q := by
  funext a
  refine Fin.ext ((Pipeline.Window.rect_emb_val _ t _ a).trans ?_)
  rw [show ((cfgM m hO).win 2).index t = ![0, t.val, 0] from (ixs t).2.1]
  fin_cases a
  · show 0 * 3 + d.val = d.val
    omega
  · rfl
  · show 0 * 2048 + q.val = q.val
    omega

/-- Window 0's block at coordinates: the block of the table's number. -/
theorem emb0 (hO : Ok m) (h : (tbl m 0 (ix1 (5 : Fin 8))).toNat < 8) (t : Fin grid0.N) (p : Fin 128) (q : Fin 2048) : (((cfgM m hO).win 0).rect t).emb (ix3 0 p q) = ix3 (⟨(tbl m 0 (ix1 (5 : Fin 8))).toNat, h⟩ : Fin 8) (row t p) q := by
  funext a
  refine Fin.ext ((Pipeline.Window.rect_emb_val _ t _ a).trans ?_)
  rw [show ((cfgM m hO).win 0).index t = ![(tbl m 0 (ix1 (5 : Fin 8))).toNat, t.val, 0] from (at0 (tbl m) (grid0.coords t)).trans (by rw [(ixs t).2.2])]
  fin_cases a
  · show (tbl m 0 (ix1 (5 : Fin 8))).toNat * 1 + 0 = (tbl m 0 (ix1 (5 : Fin 8))).toNat
    omega
  · rfl
  · show 0 * 2048 + q.val = q.val
    omega

/-- Window 1's block at coordinates: the block of the table's number. -/
theorem emb1 (hO : Ok m) (h : (tbl m 0 (ix1 (4 : Fin 8))).toNat < 4) (t : Fin grid0.N) (p : Fin 128) (q : Fin 2048) : (((cfgM m hO).win 1).rect t).emb (ix3 0 p q) = ix3 (⟨(tbl m 0 (ix1 (4 : Fin 8))).toNat, h⟩ : Fin 4) (row t p) q := by
  funext a
  refine Fin.ext ((Pipeline.Window.rect_emb_val _ t _ a).trans ?_)
  rw [show ((cfgM m hO).win 1).index t = ![(tbl m 0 (ix1 (4 : Fin 8))).toNat, t.val, 0] from (at1 (tbl m) (grid0.coords t)).trans (by rw [(ixs t).2.2])]
  fin_cases a
  · show (tbl m 0 (ix1 (4 : Fin 8))).toNat * 1 + 0 = (tbl m 0 (ix1 (4 : Fin 8))).toNat
    omega
  · rfl
  · show 0 * 2048 + q.val = q.val
    omega

/-- Every block of result 0 is written. -/
theorem covers6 (hO : Ok m) : ((cfgM m hO).win 6).Covers := by
  refine Pipeline.Window.covers_of_index_surj _ rfl (show ∀ a : Fin 2, 0 < (![128, 2048] : Fin 2 → ℕ) a by decide) (fun β => ?_)
  have hn : ∀ a : Fin 2, ((cfgM m hO).win 6).nblk a = (![32, 1] : Fin 2 → ℕ) a := by
    intro a
    fin_cases a
    · show (4096 + 128 - 1) / 128 = 32
      rfl
    · show (2048 + 2048 - 1) / 2048 = 1
      rfl
  obtain ⟨t, ht⟩ := Adamw.point_of (n := 32) (fun a : Fin 2 => (β a).val) fun a => lt_of_lt_of_eq (β a).isLt (hn a)
  refine ⟨t.cast N_0.symm, fun a => (congrFun (ixs (t.cast N_0.symm)).1 a).trans (ht a)⟩

/-- Every block of result 1 is written. -/
theorem covers7 (hO : Ok m) : ((cfgM m hO).win 7).Covers := covers6 m hO

/-- Every block of result 2 is written. -/
theorem covers8 (hO : Ok m) : ((cfgM m hO).win 8).Covers := covers6 m hO

/-- Every block of result 3 is written. -/
theorem covers9 (hO : Ok m) : ((cfgM m hO).win 9).Covers := covers6 m hO

/-- Result 0's contents after a point. -/
theorem out6_at (hO : Ok m) (c : Dev nD) (t : Fin grid0.N) : (outsAt0 m hO c t).1 = k0_pay3 (F := Ideal) (iblk m hO c 0 t) (iblk m hO c 1 t) (View.ld (iblk m hO c 2 t) (Rect.unit (s := S3x128x2048) ![0, 0, 0] ![1, 128, 2048] inb_S3x128x2048_S1x128x2048_0_0_0)) (View.ld (iblk m hO c 2 t) (Rect.unit (s := S3x128x2048) ![1, 0, 0] ![1, 128, 2048] inb_S3x128x2048_S1x128x2048_1_0_0)) (View.ld (iblk m hO c 2 t) (Rect.unit (s := S3x128x2048) ![2, 0, 0] ![1, 128, 2048] inb_S3x128x2048_S1x128x2048_2_0_0)) := by
  frame_out
  rw [(hs0_0 m hO t).read_unread (iblk m hO c 0 t), (hs0_1 m hO t).read_unread (iblk m hO c 1 t), (hs0_2 m hO t).read_unread (iblk m hO c 2 t)]
  rfl

/-- Result 1's contents after a point. -/
theorem out7_at (hO : Ok m) (c : Dev nD) (t : Fin grid0.N) : (outsAt0 m hO c t).2.1 = k0_pay2 (F := Ideal) (iblk m hO c 3 t) (k0_pay4 (iblk m hO c 0 t) (iblk m hO c 1 t) (View.ld (iblk m hO c 2 t) (Rect.unit (s := S3x128x2048) ![0, 0, 0] ![1, 128, 2048] inb_S3x128x2048_S1x128x2048_0_0_0)) (View.ld (iblk m hO c 2 t) (Rect.unit (s := S3x128x2048) ![1, 0, 0] ![1, 128, 2048] inb_S3x128x2048_S1x128x2048_1_0_0)) (View.ld (iblk m hO c 2 t) (Rect.unit (s := S3x128x2048) ![2, 0, 0] ![1, 128, 2048] inb_S3x128x2048_S1x128x2048_2_0_0)) (iblk m hO c 4 t)) (k0_pay5 (iblk m hO c 5 t)) (k0_pay6 (iblk m hO c 0 t) (iblk m hO c 1 t) (View.ld (iblk m hO c 2 t) (Rect.unit (s := S3x128x2048) ![0, 0, 0] ![1, 128, 2048] inb_S3x128x2048_S1x128x2048_0_0_0)) (View.ld (iblk m hO c 2 t) (Rect.unit (s := S3x128x2048) ![1, 0, 0] ![1, 128, 2048] inb_S3x128x2048_S1x128x2048_1_0_0)) (View.ld (iblk m hO c 2 t) (Rect.unit (s := S3x128x2048) ![2, 0, 0] ![1, 128, 2048] inb_S3x128x2048_S1x128x2048_2_0_0))) (Scalar.ofBits .f32 0x3A83126F#32) := by
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t)]
  rfl

/-- Result 2's contents after a point. -/
theorem out8_at (hO : Ok m) (c : Dev nD) (t : Fin grid0.N) : (outsAt0 m hO c t).2.2.1 = k0_pay4 (F := Ideal) (iblk m hO c 0 t) (iblk m hO c 1 t) (View.ld (iblk m hO c 2 t) (Rect.unit (s := S3x128x2048) ![0, 0, 0] ![1, 128, 2048] inb_S3x128x2048_S1x128x2048_0_0_0)) (View.ld (iblk m hO c 2 t) (Rect.unit (s := S3x128x2048) ![1, 0, 0] ![1, 128, 2048] inb_S3x128x2048_S1x128x2048_1_0_0)) (View.ld (iblk m hO c 2 t) (Rect.unit (s := S3x128x2048) ![2, 0, 0] ![1, 128, 2048] inb_S3x128x2048_S1x128x2048_2_0_0)) (iblk m hO c 4 t) := by
  frame_out
  rw [(hs0_0 m hO t).read_unread (iblk m hO c 0 t), (hs0_1 m hO t).read_unread (iblk m hO c 1 t), (hs0_2 m hO t).read_unread (iblk m hO c 2 t), (hs0_4 m hO t).read_unread (iblk m hO c 4 t)]
  rfl

/-- Result 3's contents after a point. -/
theorem out9_at (hO : Ok m) (c : Dev nD) (t : Fin grid0.N) : (outsAt0 m hO c t).2.2.2 = k0_pay1 (F := Ideal) (k0_pay5 (iblk m hO c 5 t)) (k0_pay6 (iblk m hO c 0 t) (iblk m hO c 1 t) (View.ld (iblk m hO c 2 t) (Rect.unit (s := S3x128x2048) ![0, 0, 0] ![1, 128, 2048] inb_S3x128x2048_S1x128x2048_0_0_0)) (View.ld (iblk m hO c 2 t) (Rect.unit (s := S3x128x2048) ![1, 0, 0] ![1, 128, 2048] inb_S3x128x2048_S1x128x2048_1_0_0)) (View.ld (iblk m hO c 2 t) (Rect.unit (s := S3x128x2048) ![2, 0, 0] ![1, 128, 2048] inb_S3x128x2048_S1x128x2048_2_0_0))) (Scalar.ofBits .f32 0x3A83126F#32) := by
  frame_out
  rw [(hs0_0 m hO t).read_unread (iblk m hO c 0 t), (hs0_1 m hO t).read_unread (iblk m hO c 1 t), (hs0_2 m hO t).read_unread (iblk m hO c 2 t), (hs0_5 m hO t).read_unread (iblk m hO c 5 t)]
  rfl

/-- The gradient: the device's own block, its sibling's, and those of the three other chips of the pair's group. -/
def grad (ids : IVec ⟨1, ![8]⟩ 32) (own : FVec Ideal ⟨3, ![8, 4096, 2048]⟩ .bf16) (sib : FVec Ideal ⟨3, ![4, 4096, 2048]⟩ .bf16) (chips : FVec Ideal ⟨3, ![3, 4096, 2048]⟩ .bf16) : FVec Ideal ⟨2, ![4096, 2048]⟩ .f32 := fun j =>
  Adamw.pick (ids (ix1 5)) (fun d : Fin 8 => own (ix3 d (j 0) (j 1))) + Adamw.pick (ids (ix1 4)) (fun d : Fin 4 => sib (ix3 d (j 0) (j 1)))
    + (show EReal from chips (ix3 0 (j 0) (j 1))) + (show EReal from chips (ix3 1 (j 0) (j 1))) + (show EReal from chips (ix3 2 (j 0) (j 1)))

/-- The blocks' sum is the arrays'. -/
theorem g_at (hO : Ok m) (h4 : (tbl m 0 (ix1 (4 : Fin 8))).toNat < 4) (h5 : (tbl m 0 (ix1 (5 : Fin 8))).toNat < 8) (c : Dev nD) (t : Fin grid0.N) (p : Fin 128) (q : Fin 2048) :
    (show EReal from iblk m hO c 0 t (ix3 0 p q : S1x128x2048.Idx)) + (show EReal from iblk m hO c 1 t (ix3 0 p q : S1x128x2048.Idx)) + (show EReal from iblk m hO c 2 t (ix3 0 p q : S3x128x2048.Idx)) + (show EReal from iblk m hO c 2 t (ix3 1 p q : S3x128x2048.Idx)) + (show EReal from iblk m hO c 2 t (ix3 2 p q : S3x128x2048.Idx))
      = grad (m (c.tc.loc main_arg0)) (m (c.tc.loc main_arg1)) (m (c.tc.loc main_arg2)) (m (c.tc.loc main_arg3)) (ix2 (row t p) q) := by
  have e0 : iblk m hO c 0 t (ix3 0 p q : S1x128x2048.Idx) = m (c.tc.loc main_arg1) (ix3 (⟨(tbl m 0 (ix1 (5 : Fin 8))).toNat, h5⟩ : Fin 8) (row t p) q) := congrArg (m (c.tc.loc main_arg1)) (emb0 m hO h5 t p q)
  have e1 : iblk m hO c 1 t (ix3 0 p q : S1x128x2048.Idx) = m (c.tc.loc main_arg2) (ix3 (⟨(tbl m 0 (ix1 (4 : Fin 8))).toNat, h4⟩ : Fin 4) (row t p) q) := congrArg (m (c.tc.loc main_arg2)) (emb1 m hO h4 t p q)
  have e2 : ∀ d : Fin 3, iblk m hO c 2 t (ix3 d p q : S3x128x2048.Idx) = m (c.tc.loc main_arg3) (ix3 d (row t p) q) := fun d => congrArg (m (c.tc.loc main_arg3)) (emb2 m hO t d p q)
  have et : m (c.tc.loc main_arg0) = tbl m 0 := V_pre m c 0
  show _ = Adamw.pick (m (c.tc.loc main_arg0) (ix1 5)) (fun d : Fin 8 => m (c.tc.loc main_arg1) (ix3 d (row t p) q)) + Adamw.pick (m (c.tc.loc main_arg0) (ix1 4)) (fun d : Fin 4 => m (c.tc.loc main_arg2) (ix3 d (row t p) q))
    + (show EReal from m (c.tc.loc main_arg3) (ix3 0 (row t p) q)) + (show EReal from m (c.tc.loc main_arg3) (ix3 1 (row t p) q)) + (show EReal from m (c.tc.loc main_arg3) (ix3 2 (row t p) q))
  rw [et, Adamw.pick_eq (by omega) _ h5, Adamw.pick_eq (by omega) _ h4, e0, e1, e2, e2, e2]

/-- A block's position is a row and a column. -/
theorem split (y : S128x2048.Idx) : ∃ (p : Fin 128) (q : Fin 2048), y = ix2 p q := ⟨y 0, y 1, by funext a; fin_cases a <;> rfl⟩

/-- The first moment. -/
def mom (g mo : FVec Ideal ⟨2, ![4096, 2048]⟩ .f32) : FVec Ideal ⟨2, ![4096, 2048]⟩ .f32 := fun j => Adamw.mom (g j) (mo j)

/-- The second moment. -/
def vel (g ve : FVec Ideal ⟨2, ![4096, 2048]⟩ .f32) : FVec Ideal ⟨2, ![4096, 2048]⟩ .f32 := fun j => Adamw.vel (g j) (ve j)

/-- The weight's change. -/
def delta (g w mo ve : FVec Ideal ⟨2, ![4096, 2048]⟩ .f32) : FVec Ideal ⟨2, ![4096, 2048]⟩ .f32 := fun j => Adamw.delta (g j) (w j) (mo j) (ve j)

/-- What the run leaves in result 0. -/
theorem final_g (hO : Ok m) (h4 : (tbl m 0 (ix1 (4 : Fin 8))).toNat < 4) (h5 : (tbl m 0 (ix1 (5 : Fin 8))).toNat < 8) (c : Dev nD) : (dats m hO 0 c).arrAt 6 (cfgM m hO).N = grad (m (c.tc.loc main_arg0)) (m (c.tc.loc main_arg1)) (m (c.tc.loc main_arg2)) (m (c.tc.loc main_arg3)) := by
  refine (dats m hO 0 c).arrAt_eq_of_covers 6 _ (covers6 m hO) fun t _ y => ?_
  obtain ⟨p, q, rfl⟩ := split y
  refine Eq.trans ?_ (congrArg _ (emb6 m hO t p q)).symm
  refine (congrFun ((after0_6 m hO c t).trans (out6_at m hO c t)) (ix2 p q : S128x2048.Idx)).trans ?_
  pointwise [k0_pay1, k0_pay2, k0_pay3, k0_pay4, k0_pay5, k0_pay6]
  exact g_at m hO h4 h5 c t p q

/-- What the run leaves in result 1. -/
theorem final_d (hO : Ok m) (h4 : (tbl m 0 (ix1 (4 : Fin 8))).toNat < 4) (h5 : (tbl m 0 (ix1 (5 : Fin 8))).toNat < 8) (c : Dev nD) : (dats m hO 0 c).arrAt 7 (cfgM m hO).N = delta (grad (m (c.tc.loc main_arg0)) (m (c.tc.loc main_arg1)) (m (c.tc.loc main_arg2)) (m (c.tc.loc main_arg3))) (m (c.tc.loc main_arg4)) (m (c.tc.loc main_arg5)) (m (c.tc.loc main_arg6)) := by
  refine (dats m hO 0 c).arrAt_eq_of_covers 7 _ (covers7 m hO) fun t _ y => ?_
  obtain ⟨p, q, rfl⟩ := split y
  refine Eq.trans ?_ (congrArg _ (emb7 m hO t p q)).symm
  refine (congrFun ((after0_7 m hO c t).trans (out7_at m hO c t)) (ix2 p q : S128x2048.Idx)).trans ?_
  pointwise [k0_pay1, k0_pay2, k0_pay3, k0_pay4, k0_pay5, k0_pay6]
  exact Adamw.delta_eq (g_at m hO h4 h5 c t p q) (congrArg (m (c.tc.loc main_arg4)) (emb3 m hO t p q)) (congrArg (m (c.tc.loc main_arg5)) (emb4 m hO t p q)) (congrArg (m (c.tc.loc main_arg6)) (emb5 m hO t p q))

/-- What the run leaves in result 2. -/
theorem final_m (hO : Ok m) (h4 : (tbl m 0 (ix1 (4 : Fin 8))).toNat < 4) (h5 : (tbl m 0 (ix1 (5 : Fin 8))).toNat < 8) (c : Dev nD) : (dats m hO 0 c).arrAt 8 (cfgM m hO).N = mom (grad (m (c.tc.loc main_arg0)) (m (c.tc.loc main_arg1)) (m (c.tc.loc main_arg2)) (m (c.tc.loc main_arg3))) (m (c.tc.loc main_arg5)) := by
  refine (dats m hO 0 c).arrAt_eq_of_covers 8 _ (covers8 m hO) fun t _ y => ?_
  obtain ⟨p, q, rfl⟩ := split y
  refine Eq.trans ?_ (congrArg _ (emb8 m hO t p q)).symm
  refine (congrFun ((after0_8 m hO c t).trans (out8_at m hO c t)) (ix2 p q : S128x2048.Idx)).trans ?_
  pointwise [k0_pay1, k0_pay2, k0_pay3, k0_pay4, k0_pay5, k0_pay6]
  exact congrArg₂ Adamw.mom (g_at m hO h4 h5 c t p q) (congrArg (m (c.tc.loc main_arg5)) (emb4 m hO t p q))

/-- What the run leaves in result 3. -/
theorem final_v (hO : Ok m) (h4 : (tbl m 0 (ix1 (4 : Fin 8))).toNat < 4) (h5 : (tbl m 0 (ix1 (5 : Fin 8))).toNat < 8) (c : Dev nD) : (dats m hO 0 c).arrAt 9 (cfgM m hO).N = vel (grad (m (c.tc.loc main_arg0)) (m (c.tc.loc main_arg1)) (m (c.tc.loc main_arg2)) (m (c.tc.loc main_arg3))) (m (c.tc.loc main_arg6)) := by
  refine (dats m hO 0 c).arrAt_eq_of_covers 9 _ (covers9 m hO) fun t _ y => ?_
  obtain ⟨p, q, rfl⟩ := split y
  refine Eq.trans ?_ (congrArg _ (emb9 m hO t p q)).symm
  refine (congrFun ((after0_9 m hO c t).trans (out9_at m hO c t)) (ix2 p q : S128x2048.Idx)).trans ?_
  pointwise [k0_pay1, k0_pay2, k0_pay3, k0_pay4, k0_pay5, k0_pay6]
  exact congrArg₂ Adamw.vel (g_at m hO h4 h5 c t p q) (congrArg (m (c.tc.loc main_arg6)) (emb5 m hO t p q))

/-- The whole run: the four results, and the arguments as they were. -/
theorem run_kernel (ρ : Dev nD → PrngReg) (hO : Ok m) (h4 : (tbl m 0 (ix1 (4 : Fin 8))).toNat < 4) (h5 : (tbl m 0 (ix1 (5 : Fin 8))).toNat < 8) :
    θ_run defs (onTc (τ := τ) (main (F := Ideal))) ⟨m, fun _ => 0, ρ⟩ fun r => ∀ c : Dev nD,
      r.2.mem (c.tc.loc main_v0_0) = grad (m (c.tc.loc main_arg0)) (m (c.tc.loc main_arg1)) (m (c.tc.loc main_arg2)) (m (c.tc.loc main_arg3))
      ∧ r.2.mem (c.tc.loc main_v0_1) = delta (grad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v0_2) = mom (grad (m (c.tc.loc main_arg0)) (m (c.tc.loc main_arg1)) (m (c.tc.loc main_arg2)) (m (c.tc.loc main_arg3))) (m (c.tc.loc main_arg5))
      ∧ r.2.mem (c.tc.loc main_v0_3) = vel (grad (m (c.tc.loc main_arg0)) (m (c.tc.loc main_arg1)) (m (c.tc.loc main_arg2)) (m (c.tc.loc main_arg3))) (m (c.tc.loc main_arg6))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) ∧ r.2.mem (c.tc.loc main_arg3) = (m (c.tc.loc main_arg3)) ∧ r.2.mem (c.tc.loc main_arg4) = (m (c.tc.loc main_arg4)) ∧ r.2.mem (c.tc.loc main_arg5) = (m (c.tc.loc main_arg5)) ∧ r.2.mem (c.tc.loc main_arg6) = (m (c.tc.loc main_arg6)) :=
  (θ_run defs _ _).mono (fun _ h c => ⟨((h.1 c).1 6).trans (final_g m hO h4 h5 c), ((h.1 c).1 7).trans (final_d m hO h4 h5 c), ((h.1 c).1 8).trans (final_m m hO h4 h5 c), ((h.1 c).1 9).trans (final_v m hO h4 h5 c), h.2 c⟩)
    (θ_run_and (run_main m ρ hO) (unchanged m ρ hO))

end Cert.AdamwBIn

end
-- ==== Proof.AdamwBInRef.lean ====
/- The reference's gradient and update of mixer B's input projection's weight are the kernel's. -/
module

public import proofs.«01_k».proof.Proof.Gen.Reference29Ideal.Run
public import proofs.«01_k».proof.Proof.AdamwBIn

@[expose] public section

set_option maxRecDepth 16384

noncomputable section

namespace Cert.AdamwBIn

open Cert.Reference29Ideal Cert.Reference29Ideal.Gen Idealize.ShloMosaic Idealize.ShloMosaic.TcCoe Idealize.ShloMosaic.Pointwise Idealize.SL.Sem

variable (m : (ℓ : Loc nD τ sig) → Buf (Elt Ideal) ℓ)

/-- The reference's block of the device's own gradients: a sum of which the table keeps one term. -/
def refOwn (ids : IVec S8 32) (own : FVec Ideal S8x4096x2048 .bf16) : FVec Ideal S4096x2048 .f32 :=
  Host.reduceAdd (select (cmpi .eq (iotaInDim S8x4096x2048 32 0) (broadcastInDim S8x4096x2048 ![] bcast_S_S8x4096x2048 (shapeCast S_ (extractStridedSlice S1 ![5] ids slices_S8_S1_5) shapeCasts_S1_S_))) (extf .f32 own bitsLt_bf16_f32) (broadcastInDim S8x4096x2048 ![] bcast_S_S8x4096x2048 (id (constant S_ .f32 0x00000000#32)))) (constant S_ .f32 0x00000000#32) reducesTo_S8x4096x2048_S4096x2048_d0 h_S_

/-- The reference's block of the sibling's gradients. -/
def refSib (ids : IVec S8 32) (sib : FVec Ideal S4x4096x2048 .bf16) : FVec Ideal S4096x2048 .f32 :=
  Host.reduceAdd (select (cmpi .eq (iotaInDim S4x4096x2048 32 0) (broadcastInDim S4x4096x2048 ![] bcast_S_S4x4096x2048 (shapeCast S_ (extractStridedSlice S1 ![4] ids slices_S8_S1_4) shapeCasts_S1_S_))) (extf .f32 sib bitsLt_bf16_f32) (broadcastInDim S4x4096x2048 ![] bcast_S_S4x4096x2048 (id (constant S_ .f32 0x00000000#32)))) (constant S_ .f32 0x00000000#32) reducesTo_S4x4096x2048_S4096x2048_d0 h_S_

/-- The reference's sum over the other chips. -/
def refChips (chips : FVec Ideal S3x4096x2048 .bf16) : FVec Ideal S4096x2048 .f32 := Host.reduceAdd (extf .f32 chips bitsLt_bf16_f32) (constant S_ .f32 0x00000000#32) reducesTo_S3x4096x2048_S4096x2048_d0 h_S_

/-- The reference's gradient. -/
def refGrad (ids : IVec S8 32) (own : FVec Ideal S8x4096x2048 .bf16) (sib : FVec Ideal S4x4096x2048 .bf16) (chips : FVec Ideal S3x4096x2048 .bf16) : FVec Ideal S4096x2048 .f32 :=
  addf (addf (refOwn ids own) (refSib ids sib)) (refChips chips)

/-- The own block's entry. -/
theorem refOwn_eq (ids : IVec S8 32) (own : FVec Ideal S8x4096x2048 .bf16) (r : Fin 4096) (q : Fin 2048) : refOwn ids own (ix2 r q) = Adamw.pick (ids (ix1 5)) (fun d : Fin 8 => own (ix3 d r q)) := by
  pointwise [refOwn, Adamw.pick]
  exact Finset.sum_congr rfl fun d _ => Adamw.masked _ _ _ _ Ideal.ofBits_zero_f32

/-- The sibling's block's entry. -/
theorem refSib_eq (ids : IVec S8 32) (sib : FVec Ideal S4x4096x2048 .bf16) (r : Fin 4096) (q : Fin 2048) : refSib ids sib (ix2 r q) = Adamw.pick (ids (ix1 4)) (fun d : Fin 4 => sib (ix3 d r q)) := by
  pointwise [refSib, Adamw.pick]
  exact Finset.sum_congr rfl fun d _ => Adamw.masked _ _ _ _ Ideal.ofBits_zero_f32

/-- The other chips' entry. -/
theorem refChips_eq (chips : FVec Ideal S3x4096x2048 .bf16) (r : Fin 4096) (q : Fin 2048) : refChips chips (ix2 r q) = (show EReal from chips (ix3 0 r q)) + (show EReal from chips (ix3 1 r q)) + (show EReal from chips (ix3 2 r q)) := by
  pointwise [refChips]
  exact Fin.sum_univ_three _

/-- The reference's gradient is the kernel's. -/
theorem refGrad_eq (ids : IVec S8 32) (own : FVec Ideal S8x4096x2048 .bf16) (sib : FVec Ideal S4x4096x2048 .bf16) (chips : FVec Ideal S3x4096x2048 .bf16) : refGrad ids own sib chips = grad ids own sib chips := by
  funext j
  obtain ⟨r, q, rfl⟩ : ∃ (r : Fin 4096) (q : Fin 2048), j = ix2 r q := ⟨j 0, j 1, by funext a; fin_cases a <;> rfl⟩
  show (show EReal from refOwn ids own (ix2 r q)) + (show EReal from refSib ids sib (ix2 r q)) + (show EReal from refChips chips (ix2 r q))
    = Adamw.pick (ids (ix1 5)) (fun d : Fin 8 => own (ix3 d r q)) + Adamw.pick (ids (ix1 4)) (fun d : Fin 4 => sib (ix3 d r q))
      + (show EReal from chips (ix3 0 r q)) + (show EReal from chips (ix3 1 r q)) + (show EReal from chips (ix3 2 r q))
  rw [refOwn_eq, refSib_eq, refChips_eq, ← add_assoc, ← add_assoc]

/-- The reference's first moment. -/
def refMom (g mo : FVec Ideal S4096x2048 .f32) : FVec Ideal S4096x2048 .f32 := addf (mulf (broadcastInDim S4096x2048 ![] bcast_S_S4096x2048 (constant S_ .f32 0x3F666666#32)) mo) (mulf (broadcastInDim S4096x2048 ![] bcast_S_S4096x2048 (constant S_ .f32 0x3DCCCCCD#32)) g)

/-- The reference's second moment. -/
def refVel (g ve : FVec Ideal S4096x2048 .f32) : FVec Ideal S4096x2048 .f32 := addf (mulf (broadcastInDim S4096x2048 ![] bcast_S_S4096x2048 (constant S_ .f32 0x3F7FBE77#32)) ve) (mulf (broadcastInDim S4096x2048 ![] bcast_S_S4096x2048 (constant S_ .f32 0x3A83126F#32)) (mulf g g))

/-- The reference's change of the weight. -/
def refDelta (g w mo ve : FVec Ideal S4096x2048 .f32) : FVec Ideal S4096x2048 .f32 :=
  mulf (broadcastInDim S4096x2048 ![] bcast_S_S4096x2048 (constant S_ .f32 0xBA83126F#32)) (addf (Host.divf (Host.divf (refMom g mo) (broadcastInDim S4096x2048 ![] bcast_S_S4096x2048 (constant S_ .f32 0x3F26BD02#32))) (addf (Host.sqrt (Host.divf (refVel g ve) (broadcastInDim S4096x2048 ![] bcast_S_S4096x2048 (constant S_ .f32 0x3C231ACC#32)))) (broadcastInDim S4096x2048 ![] bcast_S_S4096x2048 (constant S_ .f32 0x322BCC77#32)))) (mulf (broadcastInDim S4096x2048 ![] bcast_S_S4096x2048 (constant S_ .f32 0x3C23D70A#32)) w))

/-- The reference's first moment is the kernel's. -/
theorem refMom_eq (g mo : FVec Ideal S4096x2048 .f32) : refMom g mo = mom g mo := by
  funext j
  pointwise [refMom, mom, Adamw.mom]

/-- The reference's second moment is the kernel's. -/
theorem refVel_eq (g ve : FVec Ideal S4096x2048 .f32) : refVel g ve = vel g ve := by
  funext j
  pointwise [refVel, vel, Adamw.vel]

/-- The reference's change of the weight is the kernel's. -/
theorem refDelta_eq (g w mo ve : FVec Ideal S4096x2048 .f32) : refDelta g w mo ve = delta g w mo ve := by
  unfold refDelta
  rw [refMom_eq, refVel_eq]
  funext j
  pointwise [delta, mom, vel, Adamw.delta]

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v19) = refGrad (m (c.tc.loc main_arg0)) (m (c.tc.loc main_arg1)) (m (c.tc.loc main_arg2)) (m (c.tc.loc main_arg3))
      ∧ r.2.mem (c.tc.loc main_v43) = refDelta (refGrad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v24) = refMom (refGrad (m (c.tc.loc main_arg0)) (m (c.tc.loc main_arg1)) (m (c.tc.loc main_arg2)) (m (c.tc.loc main_arg3))) (m (c.tc.loc main_arg5))
      ∧ r.2.mem (c.tc.loc main_v30) = refVel (refGrad (m (c.tc.loc main_arg0)) (m (c.tc.loc main_arg1)) (m (c.tc.loc main_arg2)) (m (c.tc.loc main_arg3))) (m (c.tc.loc main_arg6))
      ∧ r.2.mem (c.tc.loc main_arg0) = m (c.tc.loc main_arg0) ∧ r.2.mem (c.tc.loc main_arg1) = m (c.tc.loc main_arg1) ∧ r.2.mem (c.tc.loc main_arg2) = m (c.tc.loc main_arg2) ∧ r.2.mem (c.tc.loc main_arg3) = m (c.tc.loc main_arg3) ∧ r.2.mem (c.tc.loc main_arg4) = m (c.tc.loc main_arg4) ∧ r.2.mem (c.tc.loc main_arg5) = m (c.tc.loc main_arg5) ∧ r.2.mem (c.tc.loc main_arg6) = m (c.tc.loc main_arg6) :=
  (θ_run defs _ _).mono (fun _ h c => ⟨(h c).1.trans (by rfl), (h c).2.1.trans (by rfl), (h c).2.2.1.trans (by rfl), (h c).2.2.2.1.trans (by rfl), (h c).2.2.2.2⟩) (Value.run m ρ)

end Cert.AdamwBIn

end
-- ==== Proof.AdamwBInClaim.lean ====
/- The claims about the update of mixer B's input projection's weight. -/
module

public import proofs.«01_k».proof.Defs
public import proofs.«01_k».proof.Proof.Gen.Kernel29.Frame
public import proofs.«01_k».proof.Proof.AdamwBInRef
public import proofs.«01_k».proof.Proof.Finite
public import Idealize.ShloMosaic.Lib.Claim

@[expose] public section

set_option maxRecDepth 200000

noncomputable section

namespace Cert.AdamwBInClaim

open Idealize.ShloMosaic Idealize.ShloMosaic.Pointwise Idealize.SL.Sem

/-- The precondition's slices fit. -/
instance preFacts : Cert.Pre_b_w_in_named.Facts where
  slices_S8_S1_4 := by decide
  shapeCasts_S1_S_ := by decide
  slices_S8_S1_5 := by decide

/-- Where the precondition holds, the table's entries are blocks' numbers. -/
theorem lt_of_pre {F : FTy → Type} [FloatOps F] (ids : IVec ⟨1, ![8]⟩ 32) (own : FVec F ⟨3, ![8, 4096, 2048]⟩ .bf16) (sib : FVec F ⟨3, ![4, 4096, 2048]⟩ .bf16) (chips : FVec F ⟨3, ![3, 4096, 2048]⟩ .bf16) (w mo ve : FVec F ⟨2, ![4096, 2048]⟩ .f32)
    (h : Cert.Pre_b_w_in_named.fn (F := F) ids own sib chips w mo ve = fun _ => 1#1) : (ids (ix1 (4 : Fin 8))).toNat < 4 ∧ (ids (ix1 (5 : Fin 8))).toNat < 8 := by
  have h1 := congrFun h ix0
  revert h1
  pointwise [Cert.Pre_b_w_in_named.fn]
  intro h1
  obtain ⟨h2, h3⟩ := Finite.both _ _ h1
  obtain ⟨a0, a1⟩ := Finite.both _ _ h2
  obtain ⟨b0, b1⟩ := Finite.both _ _ h3
  exact ⟨Adamw.toNat_lt _ 4 (by omega) a0 a1, Adamw.toNat_lt _ 8 (by omega) b0 b1⟩

/-- Where the precondition holds of `Kernel29`'s arguments, the table names blocks that exist. -/
theorem tbl_Kernel29 (m : (ℓ : Loc Cert.Kernel29.nD Cert.Kernel29.τ Cert.Kernel29.sig) → Buf (Elt Bits) ℓ) (h : Cert.Pre_Kernel29 m) : (Cert.Kernel29.Gen.tbl m 0 (ix1 (4 : Fin 8))).toNat < 4 ∧ (Cert.Kernel29.Gen.tbl m 0 (ix1 (5 : Fin 8))).toNat < 8 := by
  have e : m (((0 : Dev Cert.Kernel29.nD).tc : Thread Cert.Kernel29.nD Cert.Kernel29.τ).loc Cert.Kernel29.main_arg0) = Cert.Kernel29.Gen.tbl m 0 := Cert.Kernel29.Gen.V_pre m 0 0
  rw [← e]
  exact lt_of_pre _ _ _ _ _ _ _ (h 0)

/-- Such a table is one `Kernel29` accepts. -/
theorem ok_Kernel29 (m : (ℓ : Loc Cert.Kernel29.nD Cert.Kernel29.τ Cert.Kernel29.sig) → Buf (Elt Bits) ℓ) (h : Cert.Pre_Kernel29 m) : Cert.Kernel29.Gen.Ok m :=
  have h := tbl_Kernel29 m h
  AdamwBIn.ok_of (F := Bits) (Cert.Kernel29.Gen.tbl m) h.1 h.2

/-- `Kernel29` runs and leaves its arguments and every counter as they were. -/
theorem quiescentB : Cert.quiescent_Kernel29 := fun m g h => Cert.Kernel29.Gen.frame m g (ok_Kernel29 m h)

/-- Where the precondition holds of `Kernel29Ideal`'s arguments, the table names blocks that exist. -/
theorem tbl_Kernel29Ideal (m : (ℓ : Loc Cert.Kernel29Ideal.nD Cert.Kernel29Ideal.τ Cert.Kernel29Ideal.sig) → Buf (Elt Ideal) ℓ) (h : Cert.Pre_Kernel29Ideal m) : (Cert.Kernel29Ideal.Gen.tbl m 0 (ix1 (4 : Fin 8))).toNat < 4 ∧ (Cert.Kernel29Ideal.Gen.tbl m 0 (ix1 (5 : Fin 8))).toNat < 8 := by
  have e : m (((0 : Dev Cert.Kernel29Ideal.nD).tc : Thread Cert.Kernel29Ideal.nD Cert.Kernel29Ideal.τ).loc Cert.Kernel29Ideal.main_arg0) = Cert.Kernel29Ideal.Gen.tbl m 0 := Cert.Kernel29Ideal.Gen.V_pre m 0 0
  rw [← e]
  exact lt_of_pre _ _ _ _ _ _ _ (h 0)

/-- Such a table is one `Kernel29Ideal` accepts. -/
theorem ok_Kernel29Ideal (m : (ℓ : Loc Cert.Kernel29Ideal.nD Cert.Kernel29Ideal.τ Cert.Kernel29Ideal.sig) → Buf (Elt Ideal) ℓ) (h : Cert.Pre_Kernel29Ideal m) : Cert.Kernel29Ideal.Gen.Ok m :=
  have h := tbl_Kernel29Ideal m h
  AdamwBIn.ok_of (F := Ideal) (Cert.Kernel29Ideal.Gen.tbl m) h.1 h.2

/-- `Kernel29Ideal` runs and leaves its arguments and every counter as they were. -/
theorem quiescentI : Cert.quiescent_Kernel29Ideal := fun m g h => Cert.Kernel29Ideal.Gen.frame m g (ok_Kernel29Ideal m h)

/-- The reference leaves its arguments as they were and no pending signals. -/
theorem quiescent : Cert.quiescent_Reference29Ideal := by
  intro m g _
  exact (θ_run _ _ _).mono (fun r h => ⟨fun c => (h c).2.2.2.2, sem_eq_zero_of_no_sems (by decide) _⟩) (Cert.Reference29Ideal.Value.run m g)

set_option maxHeartbeats 1600000 in
/-- The kernel and the reference leave the same results, where the table names blocks that exist. -/
theorem same : Cert.algebraic_Kernel29Ideal_Reference29Ideal := by
  pair_intro
  · run_from Cert.AdamwBIn.run_kernel m g (ok_Kernel29Ideal m hpre) (tbl_Kernel29Ideal m hpre).1 (tbl_Kernel29Ideal m hpre).2
  · run_from Cert.AdamwBIn.run m' g'
    · exact Cert.AdamwBIn.refGrad_eq _ _ _ _
    · rw [Cert.AdamwBIn.refGrad_eq, Cert.AdamwBIn.refDelta_eq]
    · rw [Cert.AdamwBIn.refGrad_eq, Cert.AdamwBIn.refMom_eq]
    · rw [Cert.AdamwBIn.refGrad_eq, Cert.AdamwBIn.refVel_eq]

end Cert.AdamwBInClaim

end
-- ==== Proof.AdamwAIn.lean ====
/- The reduced gradient and the update of mixer A's input projection's weight. -/
module

public import proofs.«01_k».proof.Proof.Gen.Kernel30Ideal.Frame
public import proofs.«01_k».proof.Proof.AdamwMath
public import Idealize.ShloMosaic.Lib.Pipeline.ValueKit
public import Idealize.ShloMosaic.Lib.Pipeline.Covers

@[expose] public section

set_option maxRecDepth 16384

noncomputable section

namespace Cert.AdamwAIn

open Cert.Kernel30Ideal Cert.Kernel30Ideal.Gen Idealize.ShloMosaic Idealize.ShloMosaic.TcCoe Idealize.ShloMosaic.Pointwise Idealize.SL.Sem

variable (m : (ℓ : Loc nD τ sig) → Buf (Elt Ideal) ℓ)

/-- The table's entry 4 is block 0's number. -/
theorem at0 {F : FTy → Type} [FloatOps F] (pf : pre0.Contents (Elt F)) (i : grid0.Coords) : cc0_transform_0 inb_S8_S1_4 numel1_S1 pf i = ![(pf 0 (ix1 (4 : Fin 8))).toNat, (i 0).val, 0] := by
  have hx : (Rect.unit (s := S8) ![4] S1.size inb_S8_S1_4).emb (Shape.Idx.first (numel1_S1.symm ▸ Nat.one_pos)) = ix1 (4 : Fin 8) := Adamw.emb_first 4 _ _
  have hi : (i 0).val < 32 := (i 0).isLt
  have h32 : (BitVec.ofNat 32 (i 0).val).toNat = (i 0).val := by
    rw [BitVec.toNat_ofNat]; exact Nat.mod_eq_of_lt (by omega)
  show ![(pf 0 ((Rect.unit (s := S8) ![4] S1.size inb_S8_S1_4).emb (Shape.Idx.first (numel1_S1.symm ▸ Nat.one_pos)))).toNat, (BitVec.ofNat 32 (i 0).val).toNat, 0] = _
  rw [hx, h32]

/-- The table's entry 4 is block 1's number. -/
theorem at1 {F : FTy → Type} [FloatOps F] (pf : pre0.Contents (Elt F)) (i : grid0.Coords) : cc0_transform_1 inb_S8_S1_4 numel1_S1 pf i = ![(pf 0 (ix1 (4 : Fin 8))).toNat, (i 0).val, 0] := by
  have hx : (Rect.unit (s := S8) ![4] S1.size inb_S8_S1_4).emb (Shape.Idx.first (numel1_S1.symm ▸ Nat.one_pos)) = ix1 (4 : Fin 8) := Adamw.emb_first 4 _ _
  have hi : (i 0).val < 32 := (i 0).isLt
  have h32 : (BitVec.ofNat 32 (i 0).val).toNat = (i 0).val := by
    rw [BitVec.toNat_ofNat]; exact Nat.mod_eq_of_lt (by omega)
  show ![(pf 0 ((Rect.unit (s := S8) ![4] S1.size inb_S8_S1_4).emb (Shape.Idx.first (numel1_S1.symm ▸ Nat.one_pos)))).toNat, (BitVec.ofNat 32 (i 0).val).toNat, 0] = _
  rw [hx, h32]

/-- A table that names blocks that exist is one the call accepts. -/
theorem ok_of {F : FTy → Type} [FloatOps F] (pf : pre0.Contents (Elt F)) (h4 : (pf 0 (ix1 (4 : Fin 8))).toNat < 4) : ok0 pf := by
  refine ⟨fun i => ?_, fun i => ?_⟩
  · rw [at0]
    have hi : (i 0).val < 32 := (i 0).isLt
    refine ⟨fun a => ?_, .inr (.inl (.inr ⟨by decide, rfl, .inl ⟨?_, ?_⟩⟩))⟩
    · fin_cases a
      · show ((pf 0 (ix1 (4 : Fin 8))).toNat + 1) * 1 ≤ 4
        omega
      · show ((i 0).val + 1) * 128 ≤ 4096
        omega
      · show (0 + 1) * 3072 ≤ 3072
        omega
    · show 2 ∣ (i 0).val * 128
      omega
    · show 2 ∣ 128
      omega
  · rw [at1]
    have hi : (i 0).val < 32 := (i 0).isLt
    refine ⟨fun a => ?_, .inr (.inl (.inr ⟨by decide, rfl, .inl ⟨?_, ?_⟩⟩))⟩
    · fin_cases a
      · show ((pf 0 (ix1 (4 : Fin 8))).toNat + 1) * 1 ≤ 4
        omega
      · show ((i 0).val + 1) * 128 ≤ 4096
        omega
      · show (0 + 1) * 3072 ≤ 3072
        omega
    · show 2 ∣ (i 0).val * 128
      omega
    · show 2 ∣ 128
      omega

/-- The block numbers that no table gives. -/
theorem ixs : ∀ t : Fin grid0.N, cc0_transform_6 (grid0.coords t) = ![t.val, 0] ∧ cc0_transform_2 (grid0.coords t) = ![0, t.val, 0] ∧ (grid0.coords t 0).val = t.val := by decide +kernel

/-- The array's row that is the block's row `p` at point `t`. -/
abbrev row (t : Fin grid0.N) (p : Fin 128) : Fin 4096 := ⟨t.val * 128 + p.val, by have h : t.val < 32 := lt_of_lt_of_eq t.isLt N_0; omega⟩

/-- Window 3's block at coordinates. -/
theorem emb3 (hO : Ok m) (t : Fin grid0.N) (p : Fin 128) (q : Fin 3072) : (((cfgM m hO).win 3).rect t).emb (ix2 p q) = ix2 (row t p) q := by
  funext a
  refine Fin.ext ((Pipeline.Window.rect_emb_val _ t _ a).trans ?_)
  rw [show ((cfgM m hO).win 3).index t = ![t.val, 0] from (ixs t).1]
  fin_cases a
  · rfl
  · show 0 * 3072 + q.val = q.val
    omega

/-- Window 4's block at coordinates. -/
theorem emb4 (hO : Ok m) (t : Fin grid0.N) (p : Fin 128) (q : Fin 3072) : (((cfgM m hO).win 4).rect t).emb (ix2 p q) = ix2 (row t p) q := emb3 m hO t p q

/-- Window 5's block at coordinates. -/
theorem emb5 (hO : Ok m) (t : Fin grid0.N) (p : Fin 128) (q : Fin 3072) : (((cfgM m hO).win 5).rect t).emb (ix2 p q) = ix2 (row t p) q := emb3 m hO t p q

/-- Window 6's block at coordinates. -/
theorem emb6 (hO : Ok m) (t : Fin grid0.N) (p : Fin 128) (q : Fin 3072) : (((cfgM m hO).win 6).rect t).emb (ix2 p q) = ix2 (row t p) q := emb3 m hO t p q

/-- Window 7's block at coordinates. -/
theorem emb7 (hO : Ok m) (t : Fin grid0.N) (p : Fin 128) (q : Fin 3072) : (((cfgM m hO).win 7).rect t).emb (ix2 p q) = ix2 (row t p) q := emb3 m hO t p q

/-- Window 8's block at coordinates. -/
theorem emb8 (hO : Ok m) (t : Fin grid0.N) (p : Fin 128) (q : Fin 3072) : (((cfgM m hO).win 8).rect t).emb (ix2 p q) = ix2 (row t p) q := emb3 m hO t p q

/-- Window 9's block at coordinates. -/
theorem emb9 (hO : Ok m) (t : Fin grid0.N) (p : Fin 128) (q : Fin 3072) : (((cfgM m hO).win 9).rect t).emb (ix2 p q) = ix2 (row t p) q := emb3 m hO t p q

/-- Window 2's block at coordinates. -/
theorem emb2 (hO : Ok m) (t : Fin grid0.N) (d : Fin 3) (p : Fin 128) (q : Fin 3072) : (((cfgM m hO).win 2).rect t).emb (ix3 d p q) = ix3 d (row t p) q := by
  funext a
  refine Fin.ext ((Pipeline.Window.rect_emb_val _ t _ a).trans ?_)
  rw [show ((cfgM m hO).win 2).index t = ![0, t.val, 0] from (ixs t).2.1]
  fin_cases a
  · show 0 * 3 + d.val = d.val
    omega
  · rfl
  · show 0 * 3072 + q.val = q.val
    omega

/-- Window 0's block at coordinates: the block of the table's number. -/
theorem emb0 (hO : Ok m) (h : (tbl m 0 (ix1 (4 : Fin 8))).toNat < 4) (t : Fin grid0.N) (p : Fin 128) (q : Fin 3072) : (((cfgM m hO).win 0).rect t).emb (ix3 0 p q) = ix3 (⟨(tbl m 0 (ix1 (4 : Fin 8))).toNat, h⟩ : Fin 4) (row t p) q := by
  funext a
  refine Fin.ext ((Pipeline.Window.rect_emb_val _ t _ a).trans ?_)
  rw [show ((cfgM m hO).win 0).index t = ![(tbl m 0 (ix1 (4 : Fin 8))).toNat, t.val, 0] from (at0 (tbl m) (grid0.coords t)).trans (by rw [(ixs t).2.2])]
  fin_cases a
  · show (tbl m 0 (ix1 (4 : Fin 8))).toNat * 1 + 0 = (tbl m 0 (ix1 (4 : Fin 8))).toNat
    omega
  · rfl
  · show 0 * 3072 + q.val = q.val
    omega

/-- Window 1's block at coordinates: the block of the table's number. -/
theorem emb1 (hO : Ok m) (h : (tbl m 0 (ix1 (4 : Fin 8))).toNat < 4) (t : Fin grid0.N) (p : Fin 128) (q : Fin 3072) : (((cfgM m hO).win 1).rect t).emb (ix3 0 p q) = ix3 (⟨(tbl m 0 (ix1 (4 : Fin 8))).toNat, h⟩ : Fin 4) (row t p) q := by
  funext a
  refine Fin.ext ((Pipeline.Window.rect_emb_val _ t _ a).trans ?_)
  rw [show ((cfgM m hO).win 1).index t = ![(tbl m 0 (ix1 (4 : Fin 8))).toNat, t.val, 0] from (at1 (tbl m) (grid0.coords t)).trans (by rw [(ixs t).2.2])]
  fin_cases a
  · show (tbl m 0 (ix1 (4 : Fin 8))).toNat * 1 + 0 = (tbl m 0 (ix1 (4 : Fin 8))).toNat
    omega
  · rfl
  · show 0 * 3072 + q.val = q.val
    omega

/-- Every block of result 0 is written. -/
theorem covers6 (hO : Ok m) : ((cfgM m hO).win 6).Covers := by
  refine Pipeline.Window.covers_of_index_surj _ rfl (show ∀ a : Fin 2, 0 < (![128, 3072] : Fin 2 → ℕ) a by decide) (fun β => ?_)
  have hn : ∀ a : Fin 2, ((cfgM m hO).win 6).nblk a = (![32, 1] : Fin 2 → ℕ) a := by
    intro a
    fin_cases a
    · show (4096 + 128 - 1) / 128 = 32
      rfl
    · show (3072 + 3072 - 1) / 3072 = 1
      rfl
  obtain ⟨t, ht⟩ := Adamw.point_of (n := 32) (fun a : Fin 2 => (β a).val) fun a => lt_of_lt_of_eq (β a).isLt (hn a)
  refine ⟨t.cast N_0.symm, fun a => (congrFun (ixs (t.cast N_0.symm)).1 a).trans (ht a)⟩

/-- Every block of result 1 is written. -/
theorem covers7 (hO : Ok m) : ((cfgM m hO).win 7).Covers := covers6 m hO

/-- Every block of result 2 is written. -/
theorem covers8 (hO : Ok m) : ((cfgM m hO).win 8).Covers := covers6 m hO

/-- Every block of result 3 is written. -/
theorem covers9 (hO : Ok m) : ((cfgM m hO).win 9).Covers := covers6 m hO

/-- Result 0's contents after a point. -/
theorem out6_at (hO : Ok m) (c : Dev nD) (t : Fin grid0.N) : (outsAt0 m hO c t).1 = k0_pay3 (F := Ideal) (iblk m hO c 0 t) (iblk m hO c 1 t) (View.ld (iblk m hO c 2 t) (Rect.unit (s := S3x128x3072) ![0, 0, 0] ![1, 128, 3072] inb_S3x128x3072_S1x128x3072_0_0_0)) (View.ld (iblk m hO c 2 t) (Rect.unit (s := S3x128x3072) ![1, 0, 0] ![1, 128, 3072] inb_S3x128x3072_S1x128x3072_1_0_0)) (View.ld (iblk m hO c 2 t) (Rect.unit (s := S3x128x3072) ![2, 0, 0] ![1, 128, 3072] inb_S3x128x3072_S1x128x3072_2_0_0)) := by
  frame_out
  rw [(hs0_0 m hO t).read_unread (iblk m hO c 0 t), (hs0_1 m hO t).read_unread (iblk m hO c 1 t), (hs0_2 m hO t).read_unread (iblk m hO c 2 t)]
  rfl

/-- Result 1's contents after a point. -/
theorem out7_at (hO : Ok m) (c : Dev nD) (t : Fin grid0.N) : (outsAt0 m hO c t).2.1 = k0_pay2 (F := Ideal) (iblk m hO c 3 t) (k0_pay4 (iblk m hO c 0 t) (iblk m hO c 1 t) (View.ld (iblk m hO c 2 t) (Rect.unit (s := S3x128x3072) ![0, 0, 0] ![1, 128, 3072] inb_S3x128x3072_S1x128x3072_0_0_0)) (View.ld (iblk m hO c 2 t) (Rect.unit (s := S3x128x3072) ![1, 0, 0] ![1, 128, 3072] inb_S3x128x3072_S1x128x3072_1_0_0)) (View.ld (iblk m hO c 2 t) (Rect.unit (s := S3x128x3072) ![2, 0, 0] ![1, 128, 3072] inb_S3x128x3072_S1x128x3072_2_0_0)) (iblk m hO c 4 t)) (k0_pay5 (iblk m hO c 5 t)) (k0_pay6 (iblk m hO c 0 t) (iblk m hO c 1 t) (View.ld (iblk m hO c 2 t) (Rect.unit (s := S3x128x3072) ![0, 0, 0] ![1, 128, 3072] inb_S3x128x3072_S1x128x3072_0_0_0)) (View.ld (iblk m hO c 2 t) (Rect.unit (s := S3x128x3072) ![1, 0, 0] ![1, 128, 3072] inb_S3x128x3072_S1x128x3072_1_0_0)) (View.ld (iblk m hO c 2 t) (Rect.unit (s := S3x128x3072) ![2, 0, 0] ![1, 128, 3072] inb_S3x128x3072_S1x128x3072_2_0_0))) (Scalar.ofBits .f32 0x3A83126F#32) := by
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t)]
  rfl

/-- Result 2's contents after a point. -/
theorem out8_at (hO : Ok m) (c : Dev nD) (t : Fin grid0.N) : (outsAt0 m hO c t).2.2.1 = k0_pay4 (F := Ideal) (iblk m hO c 0 t) (iblk m hO c 1 t) (View.ld (iblk m hO c 2 t) (Rect.unit (s := S3x128x3072) ![0, 0, 0] ![1, 128, 3072] inb_S3x128x3072_S1x128x3072_0_0_0)) (View.ld (iblk m hO c 2 t) (Rect.unit (s := S3x128x3072) ![1, 0, 0] ![1, 128, 3072] inb_S3x128x3072_S1x128x3072_1_0_0)) (View.ld (iblk m hO c 2 t) (Rect.unit (s := S3x128x3072) ![2, 0, 0] ![1, 128, 3072] inb_S3x128x3072_S1x128x3072_2_0_0)) (iblk m hO c 4 t) := by
  frame_out
  rw [(hs0_0 m hO t).read_unread (iblk m hO c 0 t), (hs0_1 m hO t).read_unread (iblk m hO c 1 t), (hs0_2 m hO t).read_unread (iblk m hO c 2 t), (hs0_4 m hO t).read_unread (iblk m hO c 4 t)]
  rfl

/-- Result 3's contents after a point. -/
theorem out9_at (hO : Ok m) (c : Dev nD) (t : Fin grid0.N) : (outsAt0 m hO c t).2.2.2 = k0_pay1 (F := Ideal) (k0_pay5 (iblk m hO c 5 t)) (k0_pay6 (iblk m hO c 0 t) (iblk m hO c 1 t) (View.ld (iblk m hO c 2 t) (Rect.unit (s := S3x128x3072) ![0, 0, 0] ![1, 128, 3072] inb_S3x128x3072_S1x128x3072_0_0_0)) (View.ld (iblk m hO c 2 t) (Rect.unit (s := S3x128x3072) ![1, 0, 0] ![1, 128, 3072] inb_S3x128x3072_S1x128x3072_1_0_0)) (View.ld (iblk m hO c 2 t) (Rect.unit (s := S3x128x3072) ![2, 0, 0] ![1, 128, 3072] inb_S3x128x3072_S1x128x3072_2_0_0))) (Scalar.ofBits .f32 0x3A83126F#32) := by
  frame_out
  rw [(hs0_0 m hO t).read_unread (iblk m hO c 0 t), (hs0_1 m hO t).read_unread (iblk m hO c 1 t), (hs0_2 m hO t).read_unread (iblk m hO c 2 t), (hs0_5 m hO t).read_unread (iblk m hO c 5 t)]
  rfl

/-- The gradient: the device's own block, its sibling's, and those of the three other chips of the pair's group. -/
def grad (ids : IVec ⟨1, ![8]⟩ 32) (own : FVec Ideal ⟨3, ![4, 4096, 3072]⟩ .bf16) (sib : FVec Ideal ⟨3, ![4, 4096, 3072]⟩ .bf16) (chips : FVec Ideal ⟨3, ![3, 4096, 3072]⟩ .bf16) : FVec Ideal ⟨2, ![4096, 3072]⟩ .f32 := fun j =>
  Adamw.pick (ids (ix1 4)) (fun d : Fin 4 => own (ix3 d (j 0) (j 1))) + Adamw.pick (ids (ix1 4)) (fun d : Fin 4 => sib (ix3 d (j 0) (j 1)))
    + (show EReal from chips (ix3 0 (j 0) (j 1))) + (show EReal from chips (ix3 1 (j 0) (j 1))) + (show EReal from chips (ix3 2 (j 0) (j 1)))

/-- The blocks' sum is the arrays'. -/
theorem g_at (hO : Ok m) (h4 : (tbl m 0 (ix1 (4 : Fin 8))).toNat < 4) (c : Dev nD) (t : Fin grid0.N) (p : Fin 128) (q : Fin 3072) :
    (show EReal from iblk m hO c 0 t (ix3 0 p q : S1x128x3072.Idx)) + (show EReal from iblk m hO c 1 t (ix3 0 p q : S1x128x3072.Idx)) + (show EReal from iblk m hO c 2 t (ix3 0 p q : S3x128x3072.Idx)) + (show EReal from iblk m hO c 2 t (ix3 1 p q : S3x128x3072.Idx)) + (show EReal from iblk m hO c 2 t (ix3 2 p q : S3x128x3072.Idx))
      = grad (m (c.tc.loc main_arg0)) (m (c.tc.loc main_arg1)) (m (c.tc.loc main_arg2)) (m (c.tc.loc main_arg3)) (ix2 (row t p) q) := by
  have e0 : iblk m hO c 0 t (ix3 0 p q : S1x128x3072.Idx) = m (c.tc.loc main_arg1) (ix3 (⟨(tbl m 0 (ix1 (4 : Fin 8))).toNat, h4⟩ : Fin 4) (row t p) q) := congrArg (m (c.tc.loc main_arg1)) (emb0 m hO h4 t p q)
  have e1 : iblk m hO c 1 t (ix3 0 p q : S1x128x3072.Idx) = m (c.tc.loc main_arg2) (ix3 (⟨(tbl m 0 (ix1 (4 : Fin 8))).toNat, h4⟩ : Fin 4) (row t p) q) := congrArg (m (c.tc.loc main_arg2)) (emb1 m hO h4 t p q)
  have e2 : ∀ d : Fin 3, iblk m hO c 2 t (ix3 d p q : S3x128x3072.Idx) = m (c.tc.loc main_arg3) (ix3 d (row t p) q) := fun d => congrArg (m (c.tc.loc main_arg3)) (emb2 m hO t d p q)
  have et : m (c.tc.loc main_arg0) = tbl m 0 := V_pre m c 0
  show _ = Adamw.pick (m (c.tc.loc main_arg0) (ix1 4)) (fun d : Fin 4 => m (c.tc.loc main_arg1) (ix3 d (row t p) q)) + Adamw.pick (m (c.tc.loc main_arg0) (ix1 4)) (fun d : Fin 4 => m (c.tc.loc main_arg2) (ix3 d (row t p) q))
    + (show EReal from m (c.tc.loc main_arg3) (ix3 0 (row t p) q)) + (show EReal from m (c.tc.loc main_arg3) (ix3 1 (row t p) q)) + (show EReal from m (c.tc.loc main_arg3) (ix3 2 (row t p) q))
  rw [et, Adamw.pick_eq (by omega) _ h4, Adamw.pick_eq (by omega) _ h4, e0, e1, e2, e2, e2]

/-- A block's position is a row and a column. -/
theorem split (y : S128x3072.Idx) : ∃ (p : Fin 128) (q : Fin 3072), y = ix2 p q := ⟨y 0, y 1, by funext a; fin_cases a <;> rfl⟩

/-- The first moment. -/
def mom (g mo : FVec Ideal ⟨2, ![4096, 3072]⟩ .f32) : FVec Ideal ⟨2, ![4096, 3072]⟩ .f32 := fun j => Adamw.mom (g j) (mo j)

/-- The second moment. -/
def vel (g ve : FVec Ideal ⟨2, ![4096, 3072]⟩ .f32) : FVec Ideal ⟨2, ![4096, 3072]⟩ .f32 := fun j => Adamw.vel (g j) (ve j)

/-- The weight's change. -/
def delta (g w mo ve : FVec Ideal ⟨2, ![4096, 3072]⟩ .f32) : FVec Ideal ⟨2, ![4096, 3072]⟩ .f32 := fun j => Adamw.delta (g j) (w j) (mo j) (ve j)

/-- What the run leaves in result 0. -/
theorem final_g (hO : Ok m) (h4 : (tbl m 0 (ix1 (4 : Fin 8))).toNat < 4) (c : Dev nD) : (dats m hO 0 c).arrAt 6 (cfgM m hO).N = grad (m (c.tc.loc main_arg0)) (m (c.tc.loc main_arg1)) (m (c.tc.loc main_arg2)) (m (c.tc.loc main_arg3)) := by
  refine (dats m hO 0 c).arrAt_eq_of_covers 6 _ (covers6 m hO) fun t _ y => ?_
  obtain ⟨p, q, rfl⟩ := split y
  refine Eq.trans ?_ (congrArg _ (emb6 m hO t p q)).symm
  refine (congrFun ((after0_6 m hO c t).trans (out6_at m hO c t)) (ix2 p q : S128x3072.Idx)).trans ?_
  pointwise [k0_pay1, k0_pay2, k0_pay3, k0_pay4, k0_pay5, k0_pay6]
  exact g_at m hO h4 c t p q

/-- What the run leaves in result 1. -/
theorem final_d (hO : Ok m) (h4 : (tbl m 0 (ix1 (4 : Fin 8))).toNat < 4) (c : Dev nD) : (dats m hO 0 c).arrAt 7 (cfgM m hO).N = delta (grad (m (c.tc.loc main_arg0)) (m (c.tc.loc main_arg1)) (m (c.tc.loc main_arg2)) (m (c.tc.loc main_arg3))) (m (c.tc.loc main_arg4)) (m (c.tc.loc main_arg5)) (m (c.tc.loc main_arg6)) := by
  refine (dats m hO 0 c).arrAt_eq_of_covers 7 _ (covers7 m hO) fun t _ y => ?_
  obtain ⟨p, q, rfl⟩ := split y
  refine Eq.trans ?_ (congrArg _ (emb7 m hO t p q)).symm
  refine (congrFun ((after0_7 m hO c t).trans (out7_at m hO c t)) (ix2 p q : S128x3072.Idx)).trans ?_
  pointwise [k0_pay1, k0_pay2, k0_pay3, k0_pay4, k0_pay5, k0_pay6]
  exact Adamw.delta_eq (g_at m hO h4 c t p q) (congrArg (m (c.tc.loc main_arg4)) (emb3 m hO t p q)) (congrArg (m (c.tc.loc main_arg5)) (emb4 m hO t p q)) (congrArg (m (c.tc.loc main_arg6)) (emb5 m hO t p q))

/-- What the run leaves in result 2. -/
theorem final_m (hO : Ok m) (h4 : (tbl m 0 (ix1 (4 : Fin 8))).toNat < 4) (c : Dev nD) : (dats m hO 0 c).arrAt 8 (cfgM m hO).N = mom (grad (m (c.tc.loc main_arg0)) (m (c.tc.loc main_arg1)) (m (c.tc.loc main_arg2)) (m (c.tc.loc main_arg3))) (m (c.tc.loc main_arg5)) := by
  refine (dats m hO 0 c).arrAt_eq_of_covers 8 _ (covers8 m hO) fun t _ y => ?_
  obtain ⟨p, q, rfl⟩ := split y
  refine Eq.trans ?_ (congrArg _ (emb8 m hO t p q)).symm
  refine (congrFun ((after0_8 m hO c t).trans (out8_at m hO c t)) (ix2 p q : S128x3072.Idx)).trans ?_
  pointwise [k0_pay1, k0_pay2, k0_pay3, k0_pay4, k0_pay5, k0_pay6]
  exact congrArg₂ Adamw.mom (g_at m hO h4 c t p q) (congrArg (m (c.tc.loc main_arg5)) (emb4 m hO t p q))

/-- What the run leaves in result 3. -/
theorem final_v (hO : Ok m) (h4 : (tbl m 0 (ix1 (4 : Fin 8))).toNat < 4) (c : Dev nD) : (dats m hO 0 c).arrAt 9 (cfgM m hO).N = vel (grad (m (c.tc.loc main_arg0)) (m (c.tc.loc main_arg1)) (m (c.tc.loc main_arg2)) (m (c.tc.loc main_arg3))) (m (c.tc.loc main_arg6)) := by
  refine (dats m hO 0 c).arrAt_eq_of_covers 9 _ (covers9 m hO) fun t _ y => ?_
  obtain ⟨p, q, rfl⟩ := split y
  refine Eq.trans ?_ (congrArg _ (emb9 m hO t p q)).symm
  refine (congrFun ((after0_9 m hO c t).trans (out9_at m hO c t)) (ix2 p q : S128x3072.Idx)).trans ?_
  pointwise [k0_pay1, k0_pay2, k0_pay3, k0_pay4, k0_pay5, k0_pay6]
  exact congrArg₂ Adamw.vel (g_at m hO h4 c t p q) (congrArg (m (c.tc.loc main_arg6)) (emb5 m hO t p q))

/-- The whole run: the four results, and the arguments as they were. -/
theorem run_kernel (ρ : Dev nD → PrngReg) (hO : Ok m) (h4 : (tbl m 0 (ix1 (4 : Fin 8))).toNat < 4) :
    θ_run defs (onTc (τ := τ) (main (F := Ideal))) ⟨m, fun _ => 0, ρ⟩ fun r => ∀ c : Dev nD,
      r.2.mem (c.tc.loc main_v0_0) = grad (m (c.tc.loc main_arg0)) (m (c.tc.loc main_arg1)) (m (c.tc.loc main_arg2)) (m (c.tc.loc main_arg3))
      ∧ r.2.mem (c.tc.loc main_v0_1) = delta (grad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v0_2) = mom (grad (m (c.tc.loc main_arg0)) (m (c.tc.loc main_arg1)) (m (c.tc.loc main_arg2)) (m (c.tc.loc main_arg3))) (m (c.tc.loc main_arg5))
      ∧ r.2.mem (c.tc.loc main_v0_3) = vel (grad (m (c.tc.loc main_arg0)) (m (c.tc.loc main_arg1)) (m (c.tc.loc main_arg2)) (m (c.tc.loc main_arg3))) (m (c.tc.loc main_arg6))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) ∧ r.2.mem (c.tc.loc main_arg3) = (m (c.tc.loc main_arg3)) ∧ r.2.mem (c.tc.loc main_arg4) = (m (c.tc.loc main_arg4)) ∧ r.2.mem (c.tc.loc main_arg5) = (m (c.tc.loc main_arg5)) ∧ r.2.mem (c.tc.loc main_arg6) = (m (c.tc.loc main_arg6)) :=
  (θ_run defs _ _).mono (fun _ h c => ⟨((h.1 c).1 6).trans (final_g m hO h4 c), ((h.1 c).1 7).trans (final_d m hO h4 c), ((h.1 c).1 8).trans (final_m m hO h4 c), ((h.1 c).1 9).trans (final_v m hO h4 c), h.2 c⟩)
    (θ_run_and (run_main m ρ hO) (unchanged m ρ hO))

end Cert.AdamwAIn

end
-- ==== Proof.AdamwAInRef.lean ====
/- The reference's gradient and update of mixer A's input projection's weight are the kernel's. -/
module

public import proofs.«01_k».proof.Proof.Gen.Reference30Ideal.Run
public import proofs.«01_k».proof.Proof.AdamwAIn

@[expose] public section

set_option maxRecDepth 16384

noncomputable section

namespace Cert.AdamwAIn

open Cert.Reference30Ideal Cert.Reference30Ideal.Gen Idealize.ShloMosaic Idealize.ShloMosaic.TcCoe Idealize.ShloMosaic.Pointwise Idealize.SL.Sem

variable (m : (ℓ : Loc nD τ sig) → Buf (Elt Ideal) ℓ)

/-- The reference's block of the device's own gradients: a sum of which the table keeps one term. -/
def refOwn (ids : IVec S8 32) (own : FVec Ideal S4x4096x3072 .bf16) : FVec Ideal S4096x3072 .f32 :=
  Host.reduceAdd (select (cmpi .eq (iotaInDim S4x4096x3072 32 0) (broadcastInDim S4x4096x3072 ![] bcast_S_S4x4096x3072 (shapeCast S_ (extractStridedSlice S1 ![4] ids slices_S8_S1_4) shapeCasts_S1_S_))) (extf .f32 own bitsLt_bf16_f32) (broadcastInDim S4x4096x3072 ![] bcast_S_S4x4096x3072 (id (constant S_ .f32 0x00000000#32)))) (constant S_ .f32 0x00000000#32) reducesTo_S4x4096x3072_S4096x3072_d0 h_S_

/-- The reference's block of the sibling's gradients. -/
def refSib (ids : IVec S8 32) (sib : FVec Ideal S4x4096x3072 .bf16) : FVec Ideal S4096x3072 .f32 :=
  Host.reduceAdd (select (cmpi .eq (iotaInDim S4x4096x3072 32 0) (broadcastInDim S4x4096x3072 ![] bcast_S_S4x4096x3072 (shapeCast S_ (extractStridedSlice S1 ![4] ids slices_S8_S1_4) shapeCasts_S1_S_))) (extf .f32 sib bitsLt_bf16_f32) (broadcastInDim S4x4096x3072 ![] bcast_S_S4x4096x3072 (id (constant S_ .f32 0x00000000#32)))) (constant S_ .f32 0x00000000#32) reducesTo_S4x4096x3072_S4096x3072_d0 h_S_

/-- The reference's sum over the other chips. -/
def refChips (chips : FVec Ideal S3x4096x3072 .bf16) : FVec Ideal S4096x3072 .f32 := Host.reduceAdd (extf .f32 chips bitsLt_bf16_f32) (constant S_ .f32 0x00000000#32) reducesTo_S3x4096x3072_S4096x3072_d0 h_S_

/-- The reference's gradient. -/
def refGrad (ids : IVec S8 32) (own : FVec Ideal S4x4096x3072 .bf16) (sib : FVec Ideal S4x4096x3072 .bf16) (chips : FVec Ideal S3x4096x3072 .bf16) : FVec Ideal S4096x3072 .f32 :=
  addf (addf (refOwn ids own) (refSib ids sib)) (refChips chips)

/-- The own block's entry. -/
theorem refOwn_eq (ids : IVec S8 32) (own : FVec Ideal S4x4096x3072 .bf16) (r : Fin 4096) (q : Fin 3072) : refOwn ids own (ix2 r q) = Adamw.pick (ids (ix1 4)) (fun d : Fin 4 => own (ix3 d r q)) := by
  pointwise [refOwn, Adamw.pick]
  exact Finset.sum_congr rfl fun d _ => Adamw.masked _ _ _ _ Ideal.ofBits_zero_f32

/-- The sibling's block's entry. -/
theorem refSib_eq (ids : IVec S8 32) (sib : FVec Ideal S4x4096x3072 .bf16) (r : Fin 4096) (q : Fin 3072) : refSib ids sib (ix2 r q) = Adamw.pick (ids (ix1 4)) (fun d : Fin 4 => sib (ix3 d r q)) := by
  pointwise [refSib, Adamw.pick]
  exact Finset.sum_congr rfl fun d _ => Adamw.masked _ _ _ _ Ideal.ofBits_zero_f32

/-- The other chips' entry. -/
theorem refChips_eq (chips : FVec Ideal S3x4096x3072 .bf16) (r : Fin 4096) (q : Fin 3072) : refChips chips (ix2 r q) = (show EReal from chips (ix3 0 r q)) + (show EReal from chips (ix3 1 r q)) + (show EReal from chips (ix3 2 r q)) := by
  pointwise [refChips]
  exact Fin.sum_univ_three _

/-- The reference's gradient is the kernel's. -/
theorem refGrad_eq (ids : IVec S8 32) (own : FVec Ideal S4x4096x3072 .bf16) (sib : FVec Ideal S4x4096x3072 .bf16) (chips : FVec Ideal S3x4096x3072 .bf16) : refGrad ids own sib chips = grad ids own sib chips := by
  funext j
  obtain ⟨r, q, rfl⟩ : ∃ (r : Fin 4096) (q : Fin 3072), j = ix2 r q := ⟨j 0, j 1, by funext a; fin_cases a <;> rfl⟩
  show (show EReal from refOwn ids own (ix2 r q)) + (show EReal from refSib ids sib (ix2 r q)) + (show EReal from refChips chips (ix2 r q))
    = Adamw.pick (ids (ix1 4)) (fun d : Fin 4 => own (ix3 d r q)) + Adamw.pick (ids (ix1 4)) (fun d : Fin 4 => sib (ix3 d r q))
      + (show EReal from chips (ix3 0 r q)) + (show EReal from chips (ix3 1 r q)) + (show EReal from chips (ix3 2 r q))
  rw [refOwn_eq, refSib_eq, refChips_eq, ← add_assoc, ← add_assoc]

/-- The reference's first moment. -/
def refMom (g mo : FVec Ideal S4096x3072 .f32) : FVec Ideal S4096x3072 .f32 := addf (mulf (broadcastInDim S4096x3072 ![] bcast_S_S4096x3072 (constant S_ .f32 0x3F666666#32)) mo) (mulf (broadcastInDim S4096x3072 ![] bcast_S_S4096x3072 (constant S_ .f32 0x3DCCCCCD#32)) g)

/-- The reference's second moment. -/
def refVel (g ve : FVec Ideal S4096x3072 .f32) : FVec Ideal S4096x3072 .f32 := addf (mulf (broadcastInDim S4096x3072 ![] bcast_S_S4096x3072 (constant S_ .f32 0x3F7FBE77#32)) ve) (mulf (broadcastInDim S4096x3072 ![] bcast_S_S4096x3072 (constant S_ .f32 0x3A83126F#32)) (mulf g g))

/-- The reference's change of the weight. -/
def refDelta (g w mo ve : FVec Ideal S4096x3072 .f32) : FVec Ideal S4096x3072 .f32 :=
  mulf (broadcastInDim S4096x3072 ![] bcast_S_S4096x3072 (constant S_ .f32 0xBA83126F#32)) (addf (Host.divf (Host.divf (refMom g mo) (broadcastInDim S4096x3072 ![] bcast_S_S4096x3072 (constant S_ .f32 0x3F26BD02#32))) (addf (Host.sqrt (Host.divf (refVel g ve) (broadcastInDim S4096x3072 ![] bcast_S_S4096x3072 (constant S_ .f32 0x3C231ACC#32)))) (broadcastInDim S4096x3072 ![] bcast_S_S4096x3072 (constant S_ .f32 0x322BCC77#32)))) (mulf (broadcastInDim S4096x3072 ![] bcast_S_S4096x3072 (constant S_ .f32 0x3C23D70A#32)) w))

/-- The reference's first moment is the kernel's. -/
theorem refMom_eq (g mo : FVec Ideal S4096x3072 .f32) : refMom g mo = mom g mo := by
  funext j
  pointwise [refMom, mom, Adamw.mom]

/-- The reference's second moment is the kernel's. -/
theorem refVel_eq (g ve : FVec Ideal S4096x3072 .f32) : refVel g ve = vel g ve := by
  funext j
  pointwise [refVel, vel, Adamw.vel]

/-- The reference's change of the weight is the kernel's. -/
theorem refDelta_eq (g w mo ve : FVec Ideal S4096x3072 .f32) : refDelta g w mo ve = delta g w mo ve := by
  unfold refDelta
  rw [refMom_eq, refVel_eq]
  funext j
  pointwise [delta, mom, vel, Adamw.delta]

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v19) = refGrad (m (c.tc.loc main_arg0)) (m (c.tc.loc main_arg1)) (m (c.tc.loc main_arg2)) (m (c.tc.loc main_arg3))
      ∧ r.2.mem (c.tc.loc main_v43) = refDelta (refGrad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v24) = refMom (refGrad (m (c.tc.loc main_arg0)) (m (c.tc.loc main_arg1)) (m (c.tc.loc main_arg2)) (m (c.tc.loc main_arg3))) (m (c.tc.loc main_arg5))
      ∧ r.2.mem (c.tc.loc main_v30) = refVel (refGrad (m (c.tc.loc main_arg0)) (m (c.tc.loc main_arg1)) (m (c.tc.loc main_arg2)) (m (c.tc.loc main_arg3))) (m (c.tc.loc main_arg6))
      ∧ r.2.mem (c.tc.loc main_arg0) = m (c.tc.loc main_arg0) ∧ r.2.mem (c.tc.loc main_arg1) = m (c.tc.loc main_arg1) ∧ r.2.mem (c.tc.loc main_arg2) = m (c.tc.loc main_arg2) ∧ r.2.mem (c.tc.loc main_arg3) = m (c.tc.loc main_arg3) ∧ r.2.mem (c.tc.loc main_arg4) = m (c.tc.loc main_arg4) ∧ r.2.mem (c.tc.loc main_arg5) = m (c.tc.loc main_arg5) ∧ r.2.mem (c.tc.loc main_arg6) = m (c.tc.loc main_arg6) :=
  (θ_run defs _ _).mono (fun _ h c => ⟨(h c).1.trans (by rfl), (h c).2.1.trans (by rfl), (h c).2.2.1.trans (by rfl), (h c).2.2.2.1.trans (by rfl), (h c).2.2.2.2⟩) (Value.run m ρ)

end Cert.AdamwAIn

end
-- ==== Proof.AdamwAInClaim.lean ====
/- The claims about the update of mixer A's input projection's weight. -/
module

public import proofs.«01_k».proof.Defs
public import proofs.«01_k».proof.Proof.Gen.Kernel30.Frame
public import proofs.«01_k».proof.Proof.AdamwAInRef
public import proofs.«01_k».proof.Proof.Finite
public import Idealize.ShloMosaic.Lib.Claim

@[expose] public section

set_option maxRecDepth 200000

noncomputable section

namespace Cert.AdamwAInClaim

open Idealize.ShloMosaic Idealize.ShloMosaic.Pointwise Idealize.SL.Sem

/-- The precondition's slices fit. -/
instance preFacts : Cert.Pre_a_w_in_named.Facts where
  slices_S8_S1_4 := by decide
  shapeCasts_S1_S_ := by decide

/-- Where the precondition holds, the table's entries are blocks' numbers. -/
theorem lt_of_pre {F : FTy → Type} [FloatOps F] (ids : IVec ⟨1, ![8]⟩ 32) (own : FVec F ⟨3, ![4, 4096, 3072]⟩ .bf16) (sib : FVec F ⟨3, ![4, 4096, 3072]⟩ .bf16) (chips : FVec F ⟨3, ![3, 4096, 3072]⟩ .bf16) (w mo ve : FVec F ⟨2, ![4096, 3072]⟩ .f32)
    (h : Cert.Pre_a_w_in_named.fn (F := F) ids own sib chips w mo ve = fun _ => 1#1) : (ids (ix1 (4 : Fin 8))).toNat < 4 := by
  have h1 := congrFun h ix0
  revert h1
  pointwise [Cert.Pre_a_w_in_named.fn]
  intro h1
  obtain ⟨a0, a1⟩ := Finite.both _ _ h1
  exact Adamw.toNat_lt _ 4 (by omega) a0 a1

/-- Where the precondition holds of `Kernel30`'s arguments, the table names blocks that exist. -/
theorem tbl_Kernel30 (m : (ℓ : Loc Cert.Kernel30.nD Cert.Kernel30.τ Cert.Kernel30.sig) → Buf (Elt Bits) ℓ) (h : Cert.Pre_Kernel30 m) : (Cert.Kernel30.Gen.tbl m 0 (ix1 (4 : Fin 8))).toNat < 4 := by
  have e : m (((0 : Dev Cert.Kernel30.nD).tc : Thread Cert.Kernel30.nD Cert.Kernel30.τ).loc Cert.Kernel30.main_arg0) = Cert.Kernel30.Gen.tbl m 0 := Cert.Kernel30.Gen.V_pre m 0 0
  rw [← e]
  exact lt_of_pre _ _ _ _ _ _ _ (h 0)

/-- Such a table is one `Kernel30` accepts. -/
theorem ok_Kernel30 (m : (ℓ : Loc Cert.Kernel30.nD Cert.Kernel30.τ Cert.Kernel30.sig) → Buf (Elt Bits) ℓ) (h : Cert.Pre_Kernel30 m) : Cert.Kernel30.Gen.Ok m :=
  have h := tbl_Kernel30 m h
  AdamwAIn.ok_of (F := Bits) (Cert.Kernel30.Gen.tbl m) h

/-- `Kernel30` runs and leaves its arguments and every counter as they were. -/
theorem quiescentB : Cert.quiescent_Kernel30 := fun m g h => Cert.Kernel30.Gen.frame m g (ok_Kernel30 m h)

/-- Where the precondition holds of `Kernel30Ideal`'s arguments, the table names blocks that exist. -/
theorem tbl_Kernel30Ideal (m : (ℓ : Loc Cert.Kernel30Ideal.nD Cert.Kernel30Ideal.τ Cert.Kernel30Ideal.sig) → Buf (Elt Ideal) ℓ) (h : Cert.Pre_Kernel30Ideal m) : (Cert.Kernel30Ideal.Gen.tbl m 0 (ix1 (4 : Fin 8))).toNat < 4 := by
  have e : m (((0 : Dev Cert.Kernel30Ideal.nD).tc : Thread Cert.Kernel30Ideal.nD Cert.Kernel30Ideal.τ).loc Cert.Kernel30Ideal.main_arg0) = Cert.Kernel30Ideal.Gen.tbl m 0 := Cert.Kernel30Ideal.Gen.V_pre m 0 0
  rw [← e]
  exact lt_of_pre _ _ _ _ _ _ _ (h 0)

/-- Such a table is one `Kernel30Ideal` accepts. -/
theorem ok_Kernel30Ideal (m : (ℓ : Loc Cert.Kernel30Ideal.nD Cert.Kernel30Ideal.τ Cert.Kernel30Ideal.sig) → Buf (Elt Ideal) ℓ) (h : Cert.Pre_Kernel30Ideal m) : Cert.Kernel30Ideal.Gen.Ok m :=
  have h := tbl_Kernel30Ideal m h
  AdamwAIn.ok_of (F := Ideal) (Cert.Kernel30Ideal.Gen.tbl m) h

/-- `Kernel30Ideal` runs and leaves its arguments and every counter as they were. -/
theorem quiescentI : Cert.quiescent_Kernel30Ideal := fun m g h => Cert.Kernel30Ideal.Gen.frame m g (ok_Kernel30Ideal m h)

/-- The reference leaves its arguments as they were and no pending signals. -/
theorem quiescent : Cert.quiescent_Reference30Ideal := by
  intro m g _
  exact (θ_run _ _ _).mono (fun r h => ⟨fun c => (h c).2.2.2.2, sem_eq_zero_of_no_sems (by decide) _⟩) (Cert.Reference30Ideal.Value.run m g)

set_option maxHeartbeats 1600000 in
/-- The kernel and the reference leave the same results, where the table names blocks that exist. -/
theorem same : Cert.algebraic_Kernel30Ideal_Reference30Ideal := by
  pair_intro
  · run_from Cert.AdamwAIn.run_kernel m g (ok_Kernel30Ideal m hpre) (tbl_Kernel30Ideal m hpre)
  · run_from Cert.AdamwAIn.run m' g'
    · exact Cert.AdamwAIn.refGrad_eq _ _ _ _
    · rw [Cert.AdamwAIn.refGrad_eq, Cert.AdamwAIn.refDelta_eq]
    · rw [Cert.AdamwAIn.refGrad_eq, Cert.AdamwAIn.refMom_eq]
    · rw [Cert.AdamwAIn.refGrad_eq, Cert.AdamwAIn.refVel_eq]

end Cert.AdamwAInClaim

end
-- ==== Proof.AdamwBBias.lean ====
/- The reduced gradient and the update of the grouped projection's bias's weight. -/
module

public import proofs.«01_k».proof.Proof.Gen.Kernel31Ideal.Frame
public import proofs.«01_k».proof.Proof.AdamwMath
public import Idealize.ShloMosaic.Lib.Pipeline.ValueKit
public import Idealize.ShloMosaic.Lib.Pipeline.Covers

@[expose] public section

set_option maxRecDepth 16384

noncomputable section

namespace Cert.AdamwBBias

open Cert.Kernel31Ideal Cert.Kernel31Ideal.Gen Idealize.ShloMosaic Idealize.ShloMosaic.TcCoe Idealize.ShloMosaic.Pointwise Idealize.SL.Sem

variable (m : (ℓ : Loc nD τ sig) → Buf (Elt Ideal) ℓ)

/-- The table's entry 5 is block 0's number. -/
theorem at0 {F : FTy → Type} [FloatOps F] (pf : pre0.Contents (Elt F)) (i : grid0.Coords) : cc0_transform_0 inb_S8_S1_5 numel1_S1 pf i = ![(pf 0 (ix1 (5 : Fin 8))).toNat, (i 0).val, 0] := by
  have hx : (Rect.unit (s := S8) ![5] S1.size inb_S8_S1_5).emb (Shape.Idx.first (numel1_S1.symm ▸ Nat.one_pos)) = ix1 (5 : Fin 8) := Adamw.emb_first 5 _ _
  have hi : (i 0).val < 1 := (i 0).isLt
  have h32 : (BitVec.ofNat 32 (i 0).val).toNat = (i 0).val := by
    rw [BitVec.toNat_ofNat]; exact Nat.mod_eq_of_lt (by omega)
  show ![(pf 0 ((Rect.unit (s := S8) ![5] S1.size inb_S8_S1_5).emb (Shape.Idx.first (numel1_S1.symm ▸ Nat.one_pos)))).toNat, (BitVec.ofNat 32 (i 0).val).toNat, 0] = _
  rw [hx, h32]

/-- The table's entry 4 is block 1's number. -/
theorem at1 {F : FTy → Type} [FloatOps F] (pf : pre0.Contents (Elt F)) (i : grid0.Coords) : cc0_transform_1 inb_S8_S1_4 numel1_S1 pf i = ![(pf 0 (ix1 (4 : Fin 8))).toNat, (i 0).val, 0] := by
  have hx : (Rect.unit (s := S8) ![4] S1.size inb_S8_S1_4).emb (Shape.Idx.first (numel1_S1.symm ▸ Nat.one_pos)) = ix1 (4 : Fin 8) := Adamw.emb_first 4 _ _
  have hi : (i 0).val < 1 := (i 0).isLt
  have h32 : (BitVec.ofNat 32 (i 0).val).toNat = (i 0).val := by
    rw [BitVec.toNat_ofNat]; exact Nat.mod_eq_of_lt (by omega)
  show ![(pf 0 ((Rect.unit (s := S8) ![4] S1.size inb_S8_S1_4).emb (Shape.Idx.first (numel1_S1.symm ▸ Nat.one_pos)))).toNat, (BitVec.ofNat 32 (i 0).val).toNat, 0] = _
  rw [hx, h32]

/-- A table that names blocks that exist is one the call accepts. -/
theorem ok_of {F : FTy → Type} [FloatOps F] (pf : pre0.Contents (Elt F)) (h4 : (pf 0 (ix1 (4 : Fin 8))).toNat < 4) (h5 : (pf 0 (ix1 (5 : Fin 8))).toNat < 8) : ok0 pf := by
  refine ⟨fun i => ?_, fun i => ?_⟩
  · rw [at0]
    have hi : (i 0).val < 1 := (i 0).isLt
    refine ⟨fun a => ?_, .inl rfl⟩
    fin_cases a
    · show ((pf 0 (ix1 (5 : Fin 8))).toNat + 1) * 1 ≤ 8
      omega
    · show ((i 0).val + 1) * 4 ≤ 4
      omega
    · show (0 + 1) * 256 ≤ 256
      omega
  · rw [at1]
    have hi : (i 0).val < 1 := (i 0).isLt
    refine ⟨fun a => ?_, .inl rfl⟩
    fin_cases a
    · show ((pf 0 (ix1 (4 : Fin 8))).toNat + 1) * 1 ≤ 4
      omega
    · show ((i 0).val + 1) * 4 ≤ 4
      omega
    · show (0 + 1) * 256 ≤ 256
      omega

/-- The block numbers that no table gives. -/
theorem ixs : ∀ t : Fin grid0.N, cc0_transform_6 (grid0.coords t) = ![t.val, 0] ∧ cc0_transform_2 (grid0.coords t) = ![0, t.val, 0] ∧ (grid0.coords t 0).val = t.val := by decide +kernel

/-- The array's row that is the block's row `p` at point `t`. -/
abbrev row (t : Fin grid0.N) (p : Fin 4) : Fin 4 := ⟨t.val * 4 + p.val, by have h : t.val < 1 := lt_of_lt_of_eq t.isLt N_0; omega⟩

/-- Window 3's block at coordinates. -/
theorem emb3 (hO : Ok m) (t : Fin grid0.N) (p : Fin 4) (q : Fin 256) : (((cfgM m hO).win 3).rect t).emb (ix2 p q) = ix2 (row t p) q := by
  funext a
  refine Fin.ext ((Pipeline.Window.rect_emb_val _ t _ a).trans ?_)
  rw [show ((cfgM m hO).win 3).index t = ![t.val, 0] from (ixs t).1]
  fin_cases a
  · rfl
  · show 0 * 256 + q.val = q.val
    omega

/-- Window 4's block at coordinates. -/
theorem emb4 (hO : Ok m) (t : Fin grid0.N) (p : Fin 4) (q : Fin 256) : (((cfgM m hO).win 4).rect t).emb (ix2 p q) = ix2 (row t p) q := emb3 m hO t p q

/-- Window 5's block at coordinates. -/
theorem emb5 (hO : Ok m) (t : Fin grid0.N) (p : Fin 4) (q : Fin 256) : (((cfgM m hO).win 5).rect t).emb (ix2 p q) = ix2 (row t p) q := emb3 m hO t p q

/-- Window 6's block at coordinates. -/
theorem emb6 (hO : Ok m) (t : Fin grid0.N) (p : Fin 4) (q : Fin 256) : (((cfgM m hO).win 6).rect t).emb (ix2 p q) = ix2 (row t p) q := emb3 m hO t p q

/-- Window 7's block at coordinates. -/
theorem emb7 (hO : Ok m) (t : Fin grid0.N) (p : Fin 4) (q : Fin 256) : (((cfgM m hO).win 7).rect t).emb (ix2 p q) = ix2 (row t p) q := emb3 m hO t p q

/-- Window 8's block at coordinates. -/
theorem emb8 (hO : Ok m) (t : Fin grid0.N) (p : Fin 4) (q : Fin 256) : (((cfgM m hO).win 8).rect t).emb (ix2 p q) = ix2 (row t p) q := emb3 m hO t p q

/-- Window 9's block at coordinates. -/
theorem emb9 (hO : Ok m) (t : Fin grid0.N) (p : Fin 4) (q : Fin 256) : (((cfgM m hO).win 9).rect t).emb (ix2 p q) = ix2 (row t p) q := emb3 m hO t p q

/-- Window 2's block at coordinates. -/
theorem emb2 (hO : Ok m) (t : Fin grid0.N) (d : Fin 3) (p : Fin 4) (q : Fin 256) : (((cfgM m hO).win 2).rect t).emb (ix3 d p q) = ix3 d (row t p) q := by
  funext a
  refine Fin.ext ((Pipeline.Window.rect_emb_val _ t _ a).trans ?_)
  rw [show ((cfgM m hO).win 2).index t = ![0, t.val, 0] from (ixs t).2.1]
  fin_cases a
  · show 0 * 3 + d.val = d.val
    omega
  · rfl
  · show 0 * 256 + q.val = q.val
    omega

/-- Window 0's block at coordinates: the block of the table's number. -/
theorem emb0 (hO : Ok m) (h : (tbl m 0 (ix1 (5 : Fin 8))).toNat < 8) (t : Fin grid0.N) (p : Fin 4) (q : Fin 256) : (((cfgM m hO).win 0).rect t).emb (ix3 0 p q) = ix3 (⟨(tbl m 0 (ix1 (5 : Fin 8))).toNat, h⟩ : Fin 8) (row t p) q := by
  funext a
  refine Fin.ext ((Pipeline.Window.rect_emb_val _ t _ a).trans ?_)
  rw [show ((cfgM m hO).win 0).index t = ![(tbl m 0 (ix1 (5 : Fin 8))).toNat, t.val, 0] from (at0 (tbl m) (grid0.coords t)).trans (by rw [(ixs t).2.2])]
  fin_cases a
  · show (tbl m 0 (ix1 (5 : Fin 8))).toNat * 1 + 0 = (tbl m 0 (ix1 (5 : Fin 8))).toNat
    omega
  · rfl
  · show 0 * 256 + q.val = q.val
    omega

/-- Window 1's block at coordinates: the block of the table's number. -/
theorem emb1 (hO : Ok m) (h : (tbl m 0 (ix1 (4 : Fin 8))).toNat < 4) (t : Fin grid0.N) (p : Fin 4) (q : Fin 256) : (((cfgM m hO).win 1).rect t).emb (ix3 0 p q) = ix3 (⟨(tbl m 0 (ix1 (4 : Fin 8))).toNat, h⟩ : Fin 4) (row t p) q := by
  funext a
  refine Fin.ext ((Pipeline.Window.rect_emb_val _ t _ a).trans ?_)
  rw [show ((cfgM m hO).win 1).index t = ![(tbl m 0 (ix1 (4 : Fin 8))).toNat, t.val, 0] from (at1 (tbl m) (grid0.coords t)).trans (by rw [(ixs t).2.2])]
  fin_cases a
  · show (tbl m 0 (ix1 (4 : Fin 8))).toNat * 1 + 0 = (tbl m 0 (ix1 (4 : Fin 8))).toNat
    omega
  · rfl
  · show 0 * 256 + q.val = q.val
    omega

/-- Every block of result 0 is written. -/
theorem covers6 (hO : Ok m) : ((cfgM m hO).win 6).Covers := by
  refine Pipeline.Window.covers_of_index_surj _ rfl (show ∀ a : Fin 2, 0 < (![4, 256] : Fin 2 → ℕ) a by decide) (fun β => ?_)
  have hn : ∀ a : Fin 2, ((cfgM m hO).win 6).nblk a = (![1, 1] : Fin 2 → ℕ) a := by
    intro a
    fin_cases a
    · show (4 + 4 - 1) / 4 = 1
      rfl
    · show (256 + 256 - 1) / 256 = 1
      rfl
  obtain ⟨t, ht⟩ := Adamw.point_of (n := 1) (fun a : Fin 2 => (β a).val) fun a => lt_of_lt_of_eq (β a).isLt (hn a)
  refine ⟨t.cast N_0.symm, fun a => (congrFun (ixs (t.cast N_0.symm)).1 a).trans (ht a)⟩

/-- Every block of result 1 is written. -/
theorem covers7 (hO : Ok m) : ((cfgM m hO).win 7).Covers := covers6 m hO

/-- Every block of result 2 is written. -/
theorem covers8 (hO : Ok m) : ((cfgM m hO).win 8).Covers := covers6 m hO

/-- Every block of result 3 is written. -/
theorem covers9 (hO : Ok m) : ((cfgM m hO).win 9).Covers := covers6 m hO

/-- Result 0's contents after a point. -/
theorem out6_at (hO : Ok m) (c : Dev nD) (t : Fin grid0.N) : (outsAt0 m hO c t).1 = k0_pay2 (F := Ideal) (iblk m hO c 0 t) (iblk m hO c 1 t) (View.ld (iblk m hO c 2 t) (Rect.unit (s := S3x4x256) ![0, 0, 0] ![1, 4, 256] inb_S3x4x256_S1x4x256_0_0_0)) (View.ld (iblk m hO c 2 t) (Rect.unit (s := S3x4x256) ![1, 0, 0] ![1, 4, 256] inb_S3x4x256_S1x4x256_1_0_0)) (View.ld (iblk m hO c 2 t) (Rect.unit (s := S3x4x256) ![2, 0, 0] ![1, 4, 256] inb_S3x4x256_S1x4x256_2_0_0)) := by
  frame_out
  rw [(hs0_0 m hO t).read_unread (iblk m hO c 0 t), (hs0_1 m hO t).read_unread (iblk m hO c 1 t), (hs0_2 m hO t).read_unread (iblk m hO c 2 t)]
  rfl

/-- Result 1's contents after a point. -/
theorem out7_at (hO : Ok m) (c : Dev nD) (t : Fin grid0.N) : (outsAt0 m hO c t).2.1 = k0_pay1 (F := Ideal) (iblk m hO c 3 t) (k0_pay3 (iblk m hO c 0 t) (iblk m hO c 1 t) (View.ld (iblk m hO c 2 t) (Rect.unit (s := S3x4x256) ![0, 0, 0] ![1, 4, 256] inb_S3x4x256_S1x4x256_0_0_0)) (View.ld (iblk m hO c 2 t) (Rect.unit (s := S3x4x256) ![1, 0, 0] ![1, 4, 256] inb_S3x4x256_S1x4x256_1_0_0)) (View.ld (iblk m hO c 2 t) (Rect.unit (s := S3x4x256) ![2, 0, 0] ![1, 4, 256] inb_S3x4x256_S1x4x256_2_0_0)) (iblk m hO c 4 t)) (k0_pay4 (iblk m hO c 0 t) (iblk m hO c 1 t) (View.ld (iblk m hO c 2 t) (Rect.unit (s := S3x4x256) ![0, 0, 0] ![1, 4, 256] inb_S3x4x256_S1x4x256_0_0_0)) (View.ld (iblk m hO c 2 t) (Rect.unit (s := S3x4x256) ![1, 0, 0] ![1, 4, 256] inb_S3x4x256_S1x4x256_1_0_0)) (View.ld (iblk m hO c 2 t) (Rect.unit (s := S3x4x256) ![2, 0, 0] ![1, 4, 256] inb_S3x4x256_S1x4x256_2_0_0)) (iblk m hO c 5 t)) k0_pay5 := by
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t)]
  rfl

/-- Result 2's contents after a point. -/
theorem out8_at (hO : Ok m) (c : Dev nD) (t : Fin grid0.N) : (outsAt0 m hO c t).2.2.1 = k0_pay3 (F := Ideal) (iblk m hO c 0 t) (iblk m hO c 1 t) (View.ld (iblk m hO c 2 t) (Rect.unit (s := S3x4x256) ![0, 0, 0] ![1, 4, 256] inb_S3x4x256_S1x4x256_0_0_0)) (View.ld (iblk m hO c 2 t) (Rect.unit (s := S3x4x256) ![1, 0, 0] ![1, 4, 256] inb_S3x4x256_S1x4x256_1_0_0)) (View.ld (iblk m hO c 2 t) (Rect.unit (s := S3x4x256) ![2, 0, 0] ![1, 4, 256] inb_S3x4x256_S1x4x256_2_0_0)) (iblk m hO c 4 t) := by
  frame_out
  rw [(hs0_0 m hO t).read_unread (iblk m hO c 0 t), (hs0_1 m hO t).read_unread (iblk m hO c 1 t), (hs0_2 m hO t).read_unread (iblk m hO c 2 t), (hs0_4 m hO t).read_unread (iblk m hO c 4 t)]
  rfl

/-- Result 3's contents after a point. -/
theorem out9_at (hO : Ok m) (c : Dev nD) (t : Fin grid0.N) : (outsAt0 m hO c t).2.2.2 = k0_pay4 (F := Ideal) (iblk m hO c 0 t) (iblk m hO c 1 t) (View.ld (iblk m hO c 2 t) (Rect.unit (s := S3x4x256) ![0, 0, 0] ![1, 4, 256] inb_S3x4x256_S1x4x256_0_0_0)) (View.ld (iblk m hO c 2 t) (Rect.unit (s := S3x4x256) ![1, 0, 0] ![1, 4, 256] inb_S3x4x256_S1x4x256_1_0_0)) (View.ld (iblk m hO c 2 t) (Rect.unit (s := S3x4x256) ![2, 0, 0] ![1, 4, 256] inb_S3x4x256_S1x4x256_2_0_0)) (iblk m hO c 5 t) := by
  frame_out
  rw [(hs0_0 m hO t).read_unread (iblk m hO c 0 t), (hs0_1 m hO t).read_unread (iblk m hO c 1 t), (hs0_2 m hO t).read_unread (iblk m hO c 2 t), (hs0_5 m hO t).read_unread (iblk m hO c 5 t)]
  rfl

/-- The gradient: the device's own block, its sibling's, and those of the three other chips of the pair's group. -/
def grad (ids : IVec ⟨1, ![8]⟩ 32) (own : FVec Ideal ⟨3, ![8, 4, 256]⟩ .f32) (sib : FVec Ideal ⟨3, ![4, 4, 256]⟩ .f32) (chips : FVec Ideal ⟨3, ![3, 4, 256]⟩ .f32) : FVec Ideal ⟨2, ![4, 256]⟩ .f32 := fun j =>
  Adamw.pick (ids (ix1 5)) (fun d : Fin 8 => own (ix3 d (j 0) (j 1))) + Adamw.pick (ids (ix1 4)) (fun d : Fin 4 => sib (ix3 d (j 0) (j 1)))
    + (show EReal from chips (ix3 0 (j 0) (j 1))) + (show EReal from chips (ix3 1 (j 0) (j 1))) + (show EReal from chips (ix3 2 (j 0) (j 1)))

/-- The blocks' sum is the arrays'. -/
theorem g_at (hO : Ok m) (h4 : (tbl m 0 (ix1 (4 : Fin 8))).toNat < 4) (h5 : (tbl m 0 (ix1 (5 : Fin 8))).toNat < 8) (c : Dev nD) (t : Fin grid0.N) (p : Fin 4) (q : Fin 256) :
    (show EReal from iblk m hO c 0 t (ix3 0 p q : S1x4x256.Idx)) + (show EReal from iblk m hO c 1 t (ix3 0 p q : S1x4x256.Idx)) + (show EReal from iblk m hO c 2 t (ix3 0 p q : S3x4x256.Idx)) + (show EReal from iblk m hO c 2 t (ix3 1 p q : S3x4x256.Idx)) + (show EReal from iblk m hO c 2 t (ix3 2 p q : S3x4x256.Idx))
      = grad (m (c.tc.loc main_arg0)) (m (c.tc.loc main_arg1)) (m (c.tc.loc main_arg2)) (m (c.tc.loc main_arg3)) (ix2 (row t p) q) := by
  have e0 : iblk m hO c 0 t (ix3 0 p q : S1x4x256.Idx) = m (c.tc.loc main_arg1) (ix3 (⟨(tbl m 0 (ix1 (5 : Fin 8))).toNat, h5⟩ : Fin 8) (row t p) q) := congrArg (m (c.tc.loc main_arg1)) (emb0 m hO h5 t p q)
  have e1 : iblk m hO c 1 t (ix3 0 p q : S1x4x256.Idx) = m (c.tc.loc main_arg2) (ix3 (⟨(tbl m 0 (ix1 (4 : Fin 8))).toNat, h4⟩ : Fin 4) (row t p) q) := congrArg (m (c.tc.loc main_arg2)) (emb1 m hO h4 t p q)
  have e2 : ∀ d : Fin 3, iblk m hO c 2 t (ix3 d p q : S3x4x256.Idx) = m (c.tc.loc main_arg3) (ix3 d (row t p) q) := fun d => congrArg (m (c.tc.loc main_arg3)) (emb2 m hO t d p q)
  have et : m (c.tc.loc main_arg0) = tbl m 0 := V_pre m c 0
  show _ = Adamw.pick (m (c.tc.loc main_arg0) (ix1 5)) (fun d : Fin 8 => m (c.tc.loc main_arg1) (ix3 d (row t p) q)) + Adamw.pick (m (c.tc.loc main_arg0) (ix1 4)) (fun d : Fin 4 => m (c.tc.loc main_arg2) (ix3 d (row t p) q))
    + (show EReal from m (c.tc.loc main_arg3) (ix3 0 (row t p) q)) + (show EReal from m (c.tc.loc main_arg3) (ix3 1 (row t p) q)) + (show EReal from m (c.tc.loc main_arg3) (ix3 2 (row t p) q))
  rw [et, Adamw.pick_eq (by omega) _ h5, Adamw.pick_eq (by omega) _ h4, e0, e1, e2, e2, e2]

/-- A block's position is a row and a column. -/
theorem split (y : S4x256.Idx) : ∃ (p : Fin 4) (q : Fin 256), y = ix2 p q := ⟨y 0, y 1, by funext a; fin_cases a <;> rfl⟩

/-- The first moment. -/
def mom (g mo : FVec Ideal ⟨2, ![4, 256]⟩ .f32) : FVec Ideal ⟨2, ![4, 256]⟩ .f32 := fun j => Adamw.mom (g j) (mo j)

/-- The second moment. -/
def vel (g ve : FVec Ideal ⟨2, ![4, 256]⟩ .f32) : FVec Ideal ⟨2, ![4, 256]⟩ .f32 := fun j => Adamw.vel (g j) (ve j)

/-- The weight's change. -/
def delta (g w mo ve : FVec Ideal ⟨2, ![4, 256]⟩ .f32) : FVec Ideal ⟨2, ![4, 256]⟩ .f32 := fun j => Adamw.delta (g j) (w j) (mo j) (ve j)

/-- What the run leaves in result 0. -/
theorem final_g (hO : Ok m) (h4 : (tbl m 0 (ix1 (4 : Fin 8))).toNat < 4) (h5 : (tbl m 0 (ix1 (5 : Fin 8))).toNat < 8) (c : Dev nD) : (dats m hO 0 c).arrAt 6 (cfgM m hO).N = grad (m (c.tc.loc main_arg0)) (m (c.tc.loc main_arg1)) (m (c.tc.loc main_arg2)) (m (c.tc.loc main_arg3)) := by
  refine (dats m hO 0 c).arrAt_eq_of_covers 6 _ (covers6 m hO) fun t _ y => ?_
  obtain ⟨p, q, rfl⟩ := split y
  refine Eq.trans ?_ (congrArg _ (emb6 m hO t p q)).symm
  refine (congrFun ((after0_6 m hO c t).trans (out6_at m hO c t)) (ix2 p q : S4x256.Idx)).trans ?_
  pointwise [k0_pay1, k0_pay2, k0_pay3, k0_pay4, k0_pay5]
  exact g_at m hO h4 h5 c t p q

/-- What the run leaves in result 1. -/
theorem final_d (hO : Ok m) (h4 : (tbl m 0 (ix1 (4 : Fin 8))).toNat < 4) (h5 : (tbl m 0 (ix1 (5 : Fin 8))).toNat < 8) (c : Dev nD) : (dats m hO 0 c).arrAt 7 (cfgM m hO).N = delta (grad (m (c.tc.loc main_arg0)) (m (c.tc.loc main_arg1)) (m (c.tc.loc main_arg2)) (m (c.tc.loc main_arg3))) (m (c.tc.loc main_arg4)) (m (c.tc.loc main_arg5)) (m (c.tc.loc main_arg6)) := by
  refine (dats m hO 0 c).arrAt_eq_of_covers 7 _ (covers7 m hO) fun t _ y => ?_
  obtain ⟨p, q, rfl⟩ := split y
  refine Eq.trans ?_ (congrArg _ (emb7 m hO t p q)).symm
  refine (congrFun ((after0_7 m hO c t).trans (out7_at m hO c t)) (ix2 p q : S4x256.Idx)).trans ?_
  pointwise [k0_pay1, k0_pay2, k0_pay3, k0_pay4, k0_pay5]
  exact Adamw.delta_eq (g_at m hO h4 h5 c t p q) (congrArg (m (c.tc.loc main_arg4)) (emb3 m hO t p q)) (congrArg (m (c.tc.loc main_arg5)) (emb4 m hO t p q)) (congrArg (m (c.tc.loc main_arg6)) (emb5 m hO t p q))

/-- What the run leaves in result 2. -/
theorem final_m (hO : Ok m) (h4 : (tbl m 0 (ix1 (4 : Fin 8))).toNat < 4) (h5 : (tbl m 0 (ix1 (5 : Fin 8))).toNat < 8) (c : Dev nD) : (dats m hO 0 c).arrAt 8 (cfgM m hO).N = mom (grad (m (c.tc.loc main_arg0)) (m (c.tc.loc main_arg1)) (m (c.tc.loc main_arg2)) (m (c.tc.loc main_arg3))) (m (c.tc.loc main_arg5)) := by
  refine (dats m hO 0 c).arrAt_eq_of_covers 8 _ (covers8 m hO) fun t _ y => ?_
  obtain ⟨p, q, rfl⟩ := split y
  refine Eq.trans ?_ (congrArg _ (emb8 m hO t p q)).symm
  refine (congrFun ((after0_8 m hO c t).trans (out8_at m hO c t)) (ix2 p q : S4x256.Idx)).trans ?_
  pointwise [k0_pay1, k0_pay2, k0_pay3, k0_pay4, k0_pay5]
  exact congrArg₂ Adamw.mom (g_at m hO h4 h5 c t p q) (congrArg (m (c.tc.loc main_arg5)) (emb4 m hO t p q))

/-- What the run leaves in result 3. -/
theorem final_v (hO : Ok m) (h4 : (tbl m 0 (ix1 (4 : Fin 8))).toNat < 4) (h5 : (tbl m 0 (ix1 (5 : Fin 8))).toNat < 8) (c : Dev nD) : (dats m hO 0 c).arrAt 9 (cfgM m hO).N = vel (grad (m (c.tc.loc main_arg0)) (m (c.tc.loc main_arg1)) (m (c.tc.loc main_arg2)) (m (c.tc.loc main_arg3))) (m (c.tc.loc main_arg6)) := by
  refine (dats m hO 0 c).arrAt_eq_of_covers 9 _ (covers9 m hO) fun t _ y => ?_
  obtain ⟨p, q, rfl⟩ := split y
  refine Eq.trans ?_ (congrArg _ (emb9 m hO t p q)).symm
  refine (congrFun ((after0_9 m hO c t).trans (out9_at m hO c t)) (ix2 p q : S4x256.Idx)).trans ?_
  pointwise [k0_pay1, k0_pay2, k0_pay3, k0_pay4, k0_pay5]
  exact congrArg₂ Adamw.vel (g_at m hO h4 h5 c t p q) (congrArg (m (c.tc.loc main_arg6)) (emb5 m hO t p q))

/-- The whole run: the four results, and the arguments as they were. -/
theorem run_kernel (ρ : Dev nD → PrngReg) (hO : Ok m) (h4 : (tbl m 0 (ix1 (4 : Fin 8))).toNat < 4) (h5 : (tbl m 0 (ix1 (5 : Fin 8))).toNat < 8) :
    θ_run defs (onTc (τ := τ) (main (F := Ideal))) ⟨m, fun _ => 0, ρ⟩ fun r => ∀ c : Dev nD,
      r.2.mem (c.tc.loc main_v0_0) = grad (m (c.tc.loc main_arg0)) (m (c.tc.loc main_arg1)) (m (c.tc.loc main_arg2)) (m (c.tc.loc main_arg3))
      ∧ r.2.mem (c.tc.loc main_v0_1) = delta (grad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v0_2) = mom (grad (m (c.tc.loc main_arg0)) (m (c.tc.loc main_arg1)) (m (c.tc.loc main_arg2)) (m (c.tc.loc main_arg3))) (m (c.tc.loc main_arg5))
      ∧ r.2.mem (c.tc.loc main_v0_3) = vel (grad (m (c.tc.loc main_arg0)) (m (c.tc.loc main_arg1)) (m (c.tc.loc main_arg2)) (m (c.tc.loc main_arg3))) (m (c.tc.loc main_arg6))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) ∧ r.2.mem (c.tc.loc main_arg3) = (m (c.tc.loc main_arg3)) ∧ r.2.mem (c.tc.loc main_arg4) = (m (c.tc.loc main_arg4)) ∧ r.2.mem (c.tc.loc main_arg5) = (m (c.tc.loc main_arg5)) ∧ r.2.mem (c.tc.loc main_arg6) = (m (c.tc.loc main_arg6)) :=
  (θ_run defs _ _).mono (fun _ h c => ⟨((h.1 c).1 6).trans (final_g m hO h4 h5 c), ((h.1 c).1 7).trans (final_d m hO h4 h5 c), ((h.1 c).1 8).trans (final_m m hO h4 h5 c), ((h.1 c).1 9).trans (final_v m hO h4 h5 c), h.2 c⟩)
    (θ_run_and (run_main m ρ hO) (unchanged m ρ hO))

end Cert.AdamwBBias

end
-- ==== Proof.AdamwBBiasRef.lean ====
/- The reference's gradient and update of the grouped projection's bias's weight are the kernel's. -/
module

public import proofs.«01_k».proof.Proof.Gen.Reference31Ideal.Run
public import proofs.«01_k».proof.Proof.AdamwBBias

@[expose] public section

set_option maxRecDepth 16384

noncomputable section

namespace Cert.AdamwBBias

open Cert.Reference31Ideal Cert.Reference31Ideal.Gen Idealize.ShloMosaic Idealize.ShloMosaic.TcCoe Idealize.ShloMosaic.Pointwise Idealize.SL.Sem

variable (m : (ℓ : Loc nD τ sig) → Buf (Elt Ideal) ℓ)

/-- The reference's block of the device's own gradients: a sum of which the table keeps one term. -/
def refOwn (ids : IVec S8 32) (own : FVec Ideal S8x4x256 .f32) : FVec Ideal S4x256 .f32 :=
  Host.reduceAdd (select (cmpi .eq (iotaInDim S8x4x256 32 0) (broadcastInDim S8x4x256 ![] bcast_S_S8x4x256 (shapeCast S_ (extractStridedSlice S1 ![5] ids slices_S8_S1_5) shapeCasts_S1_S_))) own (broadcastInDim S8x4x256 ![] bcast_S_S8x4x256 (id (constant S_ .f32 0x00000000#32)))) (constant S_ .f32 0x00000000#32) reducesTo_S8x4x256_S4x256_d0 h_S_

/-- The reference's block of the sibling's gradients. -/
def refSib (ids : IVec S8 32) (sib : FVec Ideal S4x4x256 .f32) : FVec Ideal S4x256 .f32 :=
  Host.reduceAdd (select (cmpi .eq (iotaInDim S4x4x256 32 0) (broadcastInDim S4x4x256 ![] bcast_S_S4x4x256 (shapeCast S_ (extractStridedSlice S1 ![4] ids slices_S8_S1_4) shapeCasts_S1_S_))) sib (broadcastInDim S4x4x256 ![] bcast_S_S4x4x256 (id (constant S_ .f32 0x00000000#32)))) (constant S_ .f32 0x00000000#32) reducesTo_S4x4x256_S4x256_d0 h_S_

/-- The reference's sum over the other chips. -/
def refChips (chips : FVec Ideal S3x4x256 .f32) : FVec Ideal S4x256 .f32 := Host.reduceAdd chips (constant S_ .f32 0x00000000#32) reducesTo_S3x4x256_S4x256_d0 h_S_

/-- The reference's gradient. -/
def refGrad (ids : IVec S8 32) (own : FVec Ideal S8x4x256 .f32) (sib : FVec Ideal S4x4x256 .f32) (chips : FVec Ideal S3x4x256 .f32) : FVec Ideal S4x256 .f32 :=
  addf (addf (refOwn ids own) (refSib ids sib)) (refChips chips)

/-- The own block's entry. -/
theorem refOwn_eq (ids : IVec S8 32) (own : FVec Ideal S8x4x256 .f32) (r : Fin 4) (q : Fin 256) : refOwn ids own (ix2 r q) = Adamw.pick (ids (ix1 5)) (fun d : Fin 8 => own (ix3 d r q)) := by
  pointwise [refOwn, Adamw.pick]
  exact Finset.sum_congr rfl fun d _ => Adamw.masked _ _ _ _ Ideal.ofBits_zero_f32

/-- The sibling's block's entry. -/
theorem refSib_eq (ids : IVec S8 32) (sib : FVec Ideal S4x4x256 .f32) (r : Fin 4) (q : Fin 256) : refSib ids sib (ix2 r q) = Adamw.pick (ids (ix1 4)) (fun d : Fin 4 => sib (ix3 d r q)) := by
  pointwise [refSib, Adamw.pick]
  exact Finset.sum_congr rfl fun d _ => Adamw.masked _ _ _ _ Ideal.ofBits_zero_f32

/-- The other chips' entry. -/
theorem refChips_eq (chips : FVec Ideal S3x4x256 .f32) (r : Fin 4) (q : Fin 256) : refChips chips (ix2 r q) = (show EReal from chips (ix3 0 r q)) + (show EReal from chips (ix3 1 r q)) + (show EReal from chips (ix3 2 r q)) := by
  pointwise [refChips]
  exact Fin.sum_univ_three _

/-- The reference's gradient is the kernel's. -/
theorem refGrad_eq (ids : IVec S8 32) (own : FVec Ideal S8x4x256 .f32) (sib : FVec Ideal S4x4x256 .f32) (chips : FVec Ideal S3x4x256 .f32) : refGrad ids own sib chips = grad ids own sib chips := by
  funext j
  obtain ⟨r, q, rfl⟩ : ∃ (r : Fin 4) (q : Fin 256), j = ix2 r q := ⟨j 0, j 1, by funext a; fin_cases a <;> rfl⟩
  show (show EReal from refOwn ids own (ix2 r q)) + (show EReal from refSib ids sib (ix2 r q)) + (show EReal from refChips chips (ix2 r q))
    = Adamw.pick (ids (ix1 5)) (fun d : Fin 8 => own (ix3 d r q)) + Adamw.pick (ids (ix1 4)) (fun d : Fin 4 => sib (ix3 d r q))
      + (show EReal from chips (ix3 0 r q)) + (show EReal from chips (ix3 1 r q)) + (show EReal from chips (ix3 2 r q))
  rw [refOwn_eq, refSib_eq, refChips_eq, ← add_assoc, ← add_assoc]

/-- The reference's first moment. -/
def refMom (g mo : FVec Ideal S4x256 .f32) : FVec Ideal S4x256 .f32 := addf (mulf (broadcastInDim S4x256 ![] bcast_S_S4x256 (constant S_ .f32 0x3F666666#32)) mo) (mulf (broadcastInDim S4x256 ![] bcast_S_S4x256 (constant S_ .f32 0x3DCCCCCD#32)) g)

/-- The reference's second moment. -/
def refVel (g ve : FVec Ideal S4x256 .f32) : FVec Ideal S4x256 .f32 := addf (mulf (broadcastInDim S4x256 ![] bcast_S_S4x256 (constant S_ .f32 0x3F7FBE77#32)) ve) (mulf (broadcastInDim S4x256 ![] bcast_S_S4x256 (constant S_ .f32 0x3A83126F#32)) (mulf g g))

/-- The reference's change of the weight. -/
def refDelta (g w mo ve : FVec Ideal S4x256 .f32) : FVec Ideal S4x256 .f32 :=
  mulf (broadcastInDim S4x256 ![] bcast_S_S4x256 (constant S_ .f32 0xBA83126F#32)) (addf (Host.divf (Host.divf (refMom g mo) (broadcastInDim S4x256 ![] bcast_S_S4x256 (constant S_ .f32 0x3F26BD02#32))) (addf (Host.sqrt (Host.divf (refVel g ve) (broadcastInDim S4x256 ![] bcast_S_S4x256 (constant S_ .f32 0x3C231ACC#32)))) (broadcastInDim S4x256 ![] bcast_S_S4x256 (constant S_ .f32 0x322BCC77#32)))) (mulf (broadcastInDim S4x256 ![] bcast_S_S4x256 (constant S_ .f32 0x3C23D70A#32)) w))

/-- The reference's first moment is the kernel's. -/
theorem refMom_eq (g mo : FVec Ideal S4x256 .f32) : refMom g mo = mom g mo := by
  funext j
  pointwise [refMom, mom, Adamw.mom]

/-- The reference's second moment is the kernel's. -/
theorem refVel_eq (g ve : FVec Ideal S4x256 .f32) : refVel g ve = vel g ve := by
  funext j
  pointwise [refVel, vel, Adamw.vel]

/-- The reference's change of the weight is the kernel's. -/
theorem refDelta_eq (g w mo ve : FVec Ideal S4x256 .f32) : refDelta g w mo ve = delta g w mo ve := by
  unfold refDelta
  rw [refMom_eq, refVel_eq]
  funext j
  pointwise [delta, mom, vel, Adamw.delta]

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v16) = refGrad (m (c.tc.loc main_arg0)) (m (c.tc.loc main_arg1)) (m (c.tc.loc main_arg2)) (m (c.tc.loc main_arg3))
      ∧ r.2.mem (c.tc.loc main_v40) = refDelta (refGrad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v21) = refMom (refGrad (m (c.tc.loc main_arg0)) (m (c.tc.loc main_arg1)) (m (c.tc.loc main_arg2)) (m (c.tc.loc main_arg3))) (m (c.tc.loc main_arg5))
      ∧ r.2.mem (c.tc.loc main_v27) = refVel (refGrad (m (c.tc.loc main_arg0)) (m (c.tc.loc main_arg1)) (m (c.tc.loc main_arg2)) (m (c.tc.loc main_arg3))) (m (c.tc.loc main_arg6))
      ∧ r.2.mem (c.tc.loc main_arg0) = m (c.tc.loc main_arg0) ∧ r.2.mem (c.tc.loc main_arg1) = m (c.tc.loc main_arg1) ∧ r.2.mem (c.tc.loc main_arg2) = m (c.tc.loc main_arg2) ∧ r.2.mem (c.tc.loc main_arg3) = m (c.tc.loc main_arg3) ∧ r.2.mem (c.tc.loc main_arg4) = m (c.tc.loc main_arg4) ∧ r.2.mem (c.tc.loc main_arg5) = m (c.tc.loc main_arg5) ∧ r.2.mem (c.tc.loc main_arg6) = m (c.tc.loc main_arg6) :=
  (θ_run defs _ _).mono (fun _ h c => ⟨(h c).1.trans (by rfl), (h c).2.1.trans (by rfl), (h c).2.2.1.trans (by rfl), (h c).2.2.2.1.trans (by rfl), (h c).2.2.2.2⟩) (Value.run m ρ)

end Cert.AdamwBBias

end
-- ==== Proof.AdamwBBiasClaim.lean ====
/- The claims about the update of the grouped projection's bias's weight. -/
module

public import proofs.«01_k».proof.Defs
public import proofs.«01_k».proof.Proof.Gen.Kernel31.Frame
public import proofs.«01_k».proof.Proof.AdamwBBiasRef
public import proofs.«01_k».proof.Proof.Finite
public import Idealize.ShloMosaic.Lib.Claim

@[expose] public section

set_option maxRecDepth 200000

noncomputable section

namespace Cert.AdamwBBiasClaim

open Idealize.ShloMosaic Idealize.ShloMosaic.Pointwise Idealize.SL.Sem

/-- The precondition's slices fit. -/
instance preFacts : Cert.Pre_b_b_grp_named.Facts where
  slices_S8_S1_4 := by decide
  shapeCasts_S1_S_ := by decide
  slices_S8_S1_5 := by decide

/-- Where the precondition holds, the table's entries are blocks' numbers. -/
theorem lt_of_pre {F : FTy → Type} [FloatOps F] (ids : IVec ⟨1, ![8]⟩ 32) (own : FVec F ⟨3, ![8, 4, 256]⟩ .f32) (sib : FVec F ⟨3, ![4, 4, 256]⟩ .f32) (chips : FVec F ⟨3, ![3, 4, 256]⟩ .f32) (w mo ve : FVec F ⟨2, ![4, 256]⟩ .f32)
    (h : Cert.Pre_b_b_grp_named.fn (F := F) ids own sib chips w mo ve = fun _ => 1#1) : (ids (ix1 (4 : Fin 8))).toNat < 4 ∧ (ids (ix1 (5 : Fin 8))).toNat < 8 := by
  have h1 := congrFun h ix0
  revert h1
  pointwise [Cert.Pre_b_b_grp_named.fn]
  intro h1
  obtain ⟨h2, h3⟩ := Finite.both _ _ h1
  obtain ⟨a0, a1⟩ := Finite.both _ _ h2
  obtain ⟨b0, b1⟩ := Finite.both _ _ h3
  exact ⟨Adamw.toNat_lt _ 4 (by omega) a0 a1, Adamw.toNat_lt _ 8 (by omega) b0 b1⟩

/-- Where the precondition holds of `Kernel31`'s arguments, the table names blocks that exist. -/
theorem tbl_Kernel31 (m : (ℓ : Loc Cert.Kernel31.nD Cert.Kernel31.τ Cert.Kernel31.sig) → Buf (Elt Bits) ℓ) (h : Cert.Pre_Kernel31 m) : (Cert.Kernel31.Gen.tbl m 0 (ix1 (4 : Fin 8))).toNat < 4 ∧ (Cert.Kernel31.Gen.tbl m 0 (ix1 (5 : Fin 8))).toNat < 8 := by
  have e : m (((0 : Dev Cert.Kernel31.nD).tc : Thread Cert.Kernel31.nD Cert.Kernel31.τ).loc Cert.Kernel31.main_arg0) = Cert.Kernel31.Gen.tbl m 0 := Cert.Kernel31.Gen.V_pre m 0 0
  rw [← e]
  exact lt_of_pre _ _ _ _ _ _ _ (h 0)

/-- Such a table is one `Kernel31` accepts. -/
theorem ok_Kernel31 (m : (ℓ : Loc Cert.Kernel31.nD Cert.Kernel31.τ Cert.Kernel31.sig) → Buf (Elt Bits) ℓ) (h : Cert.Pre_Kernel31 m) : Cert.Kernel31.Gen.Ok m :=
  have h := tbl_Kernel31 m h
  AdamwBBias.ok_of (F := Bits) (Cert.Kernel31.Gen.tbl m) h.1 h.2

/-- `Kernel31` runs and leaves its arguments and every counter as they were. -/
theorem quiescentB : Cert.quiescent_Kernel31 := fun m g h => Cert.Kernel31.Gen.frame m g (ok_Kernel31 m h)

/-- Where the precondition holds of `Kernel31Ideal`'s arguments, the table names blocks that exist. -/
theorem tbl_Kernel31Ideal (m : (ℓ : Loc Cert.Kernel31Ideal.nD Cert.Kernel31Ideal.τ Cert.Kernel31Ideal.sig) → Buf (Elt Ideal) ℓ) (h : Cert.Pre_Kernel31Ideal m) : (Cert.Kernel31Ideal.Gen.tbl m 0 (ix1 (4 : Fin 8))).toNat < 4 ∧ (Cert.Kernel31Ideal.Gen.tbl m 0 (ix1 (5 : Fin 8))).toNat < 8 := by
  have e : m (((0 : Dev Cert.Kernel31Ideal.nD).tc : Thread Cert.Kernel31Ideal.nD Cert.Kernel31Ideal.τ).loc Cert.Kernel31Ideal.main_arg0) = Cert.Kernel31Ideal.Gen.tbl m 0 := Cert.Kernel31Ideal.Gen.V_pre m 0 0
  rw [← e]
  exact lt_of_pre _ _ _ _ _ _ _ (h 0)

/-- Such a table is one `Kernel31Ideal` accepts. -/
theorem ok_Kernel31Ideal (m : (ℓ : Loc Cert.Kernel31Ideal.nD Cert.Kernel31Ideal.τ Cert.Kernel31Ideal.sig) → Buf (Elt Ideal) ℓ) (h : Cert.Pre_Kernel31Ideal m) : Cert.Kernel31Ideal.Gen.Ok m :=
  have h := tbl_Kernel31Ideal m h
  AdamwBBias.ok_of (F := Ideal) (Cert.Kernel31Ideal.Gen.tbl m) h.1 h.2

/-- `Kernel31Ideal` runs and leaves its arguments and every counter as they were. -/
theorem quiescentI : Cert.quiescent_Kernel31Ideal := fun m g h => Cert.Kernel31Ideal.Gen.frame m g (ok_Kernel31Ideal m h)

/-- The reference leaves its arguments as they were and no pending signals. -/
theorem quiescent : Cert.quiescent_Reference31Ideal := by
  intro m g _
  exact (θ_run _ _ _).mono (fun r h => ⟨fun c => (h c).2.2.2.2, sem_eq_zero_of_no_sems (by decide) _⟩) (Cert.Reference31Ideal.Value.run m g)

set_option maxHeartbeats 1600000 in
/-- The kernel and the reference leave the same results, where the table names blocks that exist. -/
theorem same : Cert.algebraic_Kernel31Ideal_Reference31Ideal := by
  pair_intro
  · run_from Cert.AdamwBBias.run_kernel m g (ok_Kernel31Ideal m hpre) (tbl_Kernel31Ideal m hpre).1 (tbl_Kernel31Ideal m hpre).2
  · run_from Cert.AdamwBBias.run m' g'
    · exact Cert.AdamwBBias.refGrad_eq _ _ _ _
    · rw [Cert.AdamwBBias.refGrad_eq, Cert.AdamwBBias.refDelta_eq]
    · rw [Cert.AdamwBBias.refGrad_eq, Cert.AdamwBBias.refMom_eq]
    · rw [Cert.AdamwBBias.refGrad_eq, Cert.AdamwBBias.refVel_eq]

end Cert.AdamwBBiasClaim

end
-- ==== Proof.AdamwBScale.lean ====
/- The reduced gradient and the update of the mixed value's scale's weight. -/
module

public import proofs.«01_k».proof.Proof.Gen.Kernel32Ideal.Frame
public import proofs.«01_k».proof.Proof.AdamwMath
public import Idealize.ShloMosaic.Lib.Pipeline.ValueKit
public import Idealize.ShloMosaic.Lib.Pipeline.Covers

@[expose] public section

set_option maxRecDepth 16384

noncomputable section

namespace Cert.AdamwBScale

open Cert.Kernel32Ideal Cert.Kernel32Ideal.Gen Idealize.ShloMosaic Idealize.ShloMosaic.TcCoe Idealize.ShloMosaic.Pointwise Idealize.SL.Sem

variable (m : (ℓ : Loc nD τ sig) → Buf (Elt Ideal) ℓ)

/-- The table's entry 5 is block 0's number. -/
theorem at0 {F : FTy → Type} [FloatOps F] (pf : pre0.Contents (Elt F)) (i : grid0.Coords) : cc0_transform_0 inb_S8_S1_5 numel1_S1 pf i = ![(pf 0 (ix1 (5 : Fin 8))).toNat, (i 0).val, 0] := by
  have hx : (Rect.unit (s := S8) ![5] S1.size inb_S8_S1_5).emb (Shape.Idx.first (numel1_S1.symm ▸ Nat.one_pos)) = ix1 (5 : Fin 8) := Adamw.emb_first 5 _ _
  have hi : (i 0).val < 1 := (i 0).isLt
  have h32 : (BitVec.ofNat 32 (i 0).val).toNat = (i 0).val := by
    rw [BitVec.toNat_ofNat]; exact Nat.mod_eq_of_lt (by omega)
  show ![(pf 0 ((Rect.unit (s := S8) ![5] S1.size inb_S8_S1_5).emb (Shape.Idx.first (numel1_S1.symm ▸ Nat.one_pos)))).toNat, (BitVec.ofNat 32 (i 0).val).toNat, 0] = _
  rw [hx, h32]

/-- The table's entry 4 is block 1's number. -/
theorem at1 {F : FTy → Type} [FloatOps F] (pf : pre0.Contents (Elt F)) (i : grid0.Coords) : cc0_transform_1 inb_S8_S1_4 numel1_S1 pf i = ![(pf 0 (ix1 (4 : Fin 8))).toNat, (i 0).val, 0] := by
  have hx : (Rect.unit (s := S8) ![4] S1.size inb_S8_S1_4).emb (Shape.Idx.first (numel1_S1.symm ▸ Nat.one_pos)) = ix1 (4 : Fin 8) := Adamw.emb_first 4 _ _
  have hi : (i 0).val < 1 := (i 0).isLt
  have h32 : (BitVec.ofNat 32 (i 0).val).toNat = (i 0).val := by
    rw [BitVec.toNat_ofNat]; exact Nat.mod_eq_of_lt (by omega)
  show ![(pf 0 ((Rect.unit (s := S8) ![4] S1.size inb_S8_S1_4).emb (Shape.Idx.first (numel1_S1.symm ▸ Nat.one_pos)))).toNat, (BitVec.ofNat 32 (i 0).val).toNat, 0] = _
  rw [hx, h32]

/-- A table that names blocks that exist is one the call accepts. -/
theorem ok_of {F : FTy → Type} [FloatOps F] (pf : pre0.Contents (Elt F)) (h4 : (pf 0 (ix1 (4 : Fin 8))).toNat < 4) (h5 : (pf 0 (ix1 (5 : Fin 8))).toNat < 8) : ok0 pf := by
  refine ⟨fun i => ?_, fun i => ?_⟩
  · rw [at0]
    have hi : (i 0).val < 1 := (i 0).isLt
    refine ⟨fun a => ?_, .inl rfl⟩
    fin_cases a
    · show ((pf 0 (ix1 (5 : Fin 8))).toNat + 1) * 1 ≤ 8
      omega
    · show ((i 0).val + 1) * 1 ≤ 1
      omega
    · show (0 + 1) * 1024 ≤ 1024
      omega
  · rw [at1]
    have hi : (i 0).val < 1 := (i 0).isLt
    refine ⟨fun a => ?_, .inl rfl⟩
    fin_cases a
    · show ((pf 0 (ix1 (4 : Fin 8))).toNat + 1) * 1 ≤ 4
      omega
    · show ((i 0).val + 1) * 1 ≤ 1
      omega
    · show (0 + 1) * 1024 ≤ 1024
      omega

/-- The block numbers that no table gives. -/
theorem ixs : ∀ t : Fin grid0.N, cc0_transform_6 (grid0.coords t) = ![t.val, 0] ∧ cc0_transform_2 (grid0.coords t) = ![0, t.val, 0] ∧ (grid0.coords t 0).val = t.val := by decide +kernel

/-- The array's row that is the block's row `p` at point `t`. -/
abbrev row (t : Fin grid0.N) (p : Fin 1) : Fin 1 := ⟨t.val * 1 + p.val, by have h : t.val < 1 := lt_of_lt_of_eq t.isLt N_0; omega⟩

/-- Window 3's block at coordinates. -/
theorem emb3 (hO : Ok m) (t : Fin grid0.N) (p : Fin 1) (q : Fin 1024) : (((cfgM m hO).win 3).rect t).emb (ix2 p q) = ix2 (row t p) q := by
  funext a
  refine Fin.ext ((Pipeline.Window.rect_emb_val _ t _ a).trans ?_)
  rw [show ((cfgM m hO).win 3).index t = ![t.val, 0] from (ixs t).1]
  fin_cases a
  · rfl
  · show 0 * 1024 + q.val = q.val
    omega

/-- Window 4's block at coordinates. -/
theorem emb4 (hO : Ok m) (t : Fin grid0.N) (p : Fin 1) (q : Fin 1024) : (((cfgM m hO).win 4).rect t).emb (ix2 p q) = ix2 (row t p) q := emb3 m hO t p q

/-- Window 5's block at coordinates. -/
theorem emb5 (hO : Ok m) (t : Fin grid0.N) (p : Fin 1) (q : Fin 1024) : (((cfgM m hO).win 5).rect t).emb (ix2 p q) = ix2 (row t p) q := emb3 m hO t p q

/-- Window 6's block at coordinates. -/
theorem emb6 (hO : Ok m) (t : Fin grid0.N) (p : Fin 1) (q : Fin 1024) : (((cfgM m hO).win 6).rect t).emb (ix2 p q) = ix2 (row t p) q := emb3 m hO t p q

/-- Window 7's block at coordinates. -/
theorem emb7 (hO : Ok m) (t : Fin grid0.N) (p : Fin 1) (q : Fin 1024) : (((cfgM m hO).win 7).rect t).emb (ix2 p q) = ix2 (row t p) q := emb3 m hO t p q

/-- Window 8's block at coordinates. -/
theorem emb8 (hO : Ok m) (t : Fin grid0.N) (p : Fin 1) (q : Fin 1024) : (((cfgM m hO).win 8).rect t).emb (ix2 p q) = ix2 (row t p) q := emb3 m hO t p q

/-- Window 9's block at coordinates. -/
theorem emb9 (hO : Ok m) (t : Fin grid0.N) (p : Fin 1) (q : Fin 1024) : (((cfgM m hO).win 9).rect t).emb (ix2 p q) = ix2 (row t p) q := emb3 m hO t p q

/-- Window 2's block at coordinates. -/
theorem emb2 (hO : Ok m) (t : Fin grid0.N) (d : Fin 3) (p : Fin 1) (q : Fin 1024) : (((cfgM m hO).win 2).rect t).emb (ix3 d p q) = ix3 d (row t p) q := by
  funext a
  refine Fin.ext ((Pipeline.Window.rect_emb_val _ t _ a).trans ?_)
  rw [show ((cfgM m hO).win 2).index t = ![0, t.val, 0] from (ixs t).2.1]
  fin_cases a
  · show 0 * 3 + d.val = d.val
    omega
  · rfl
  · show 0 * 1024 + q.val = q.val
    omega

/-- Window 0's block at coordinates: the block of the table's number. -/
theorem emb0 (hO : Ok m) (h : (tbl m 0 (ix1 (5 : Fin 8))).toNat < 8) (t : Fin grid0.N) (p : Fin 1) (q : Fin 1024) : (((cfgM m hO).win 0).rect t).emb (ix3 0 p q) = ix3 (⟨(tbl m 0 (ix1 (5 : Fin 8))).toNat, h⟩ : Fin 8) (row t p) q := by
  funext a
  refine Fin.ext ((Pipeline.Window.rect_emb_val _ t _ a).trans ?_)
  rw [show ((cfgM m hO).win 0).index t = ![(tbl m 0 (ix1 (5 : Fin 8))).toNat, t.val, 0] from (at0 (tbl m) (grid0.coords t)).trans (by rw [(ixs t).2.2])]
  fin_cases a
  · show (tbl m 0 (ix1 (5 : Fin 8))).toNat * 1 + 0 = (tbl m 0 (ix1 (5 : Fin 8))).toNat
    omega
  · rfl
  · show 0 * 1024 + q.val = q.val
    omega

/-- Window 1's block at coordinates: the block of the table's number. -/
theorem emb1 (hO : Ok m) (h : (tbl m 0 (ix1 (4 : Fin 8))).toNat < 4) (t : Fin grid0.N) (p : Fin 1) (q : Fin 1024) : (((cfgM m hO).win 1).rect t).emb (ix3 0 p q) = ix3 (⟨(tbl m 0 (ix1 (4 : Fin 8))).toNat, h⟩ : Fin 4) (row t p) q := by
  funext a
  refine Fin.ext ((Pipeline.Window.rect_emb_val _ t _ a).trans ?_)
  rw [show ((cfgM m hO).win 1).index t = ![(tbl m 0 (ix1 (4 : Fin 8))).toNat, t.val, 0] from (at1 (tbl m) (grid0.coords t)).trans (by rw [(ixs t).2.2])]
  fin_cases a
  · show (tbl m 0 (ix1 (4 : Fin 8))).toNat * 1 + 0 = (tbl m 0 (ix1 (4 : Fin 8))).toNat
    omega
  · rfl
  · show 0 * 1024 + q.val = q.val
    omega

/-- Every block of result 0 is written. -/
theorem covers6 (hO : Ok m) : ((cfgM m hO).win 6).Covers := by
  refine Pipeline.Window.covers_of_index_surj _ rfl (show ∀ a : Fin 2, 0 < (![1, 1024] : Fin 2 → ℕ) a by decide) (fun β => ?_)
  have hn : ∀ a : Fin 2, ((cfgM m hO).win 6).nblk a = (![1, 1] : Fin 2 → ℕ) a := by
    intro a
    fin_cases a
    · show (1 + 1 - 1) / 1 = 1
      rfl
    · show (1024 + 1024 - 1) / 1024 = 1
      rfl
  obtain ⟨t, ht⟩ := Adamw.point_of (n := 1) (fun a : Fin 2 => (β a).val) fun a => lt_of_lt_of_eq (β a).isLt (hn a)
  refine ⟨t.cast N_0.symm, fun a => (congrFun (ixs (t.cast N_0.symm)).1 a).trans (ht a)⟩

/-- Every block of result 1 is written. -/
theorem covers7 (hO : Ok m) : ((cfgM m hO).win 7).Covers := covers6 m hO

/-- Every block of result 2 is written. -/
theorem covers8 (hO : Ok m) : ((cfgM m hO).win 8).Covers := covers6 m hO

/-- Every block of result 3 is written. -/
theorem covers9 (hO : Ok m) : ((cfgM m hO).win 9).Covers := covers6 m hO

/-- Result 0's contents after a point. -/
theorem out6_at (hO : Ok m) (c : Dev nD) (t : Fin grid0.N) : (outsAt0 m hO c t).1 = k0_pay2 (F := Ideal) (iblk m hO c 0 t) (iblk m hO c 1 t) (View.ld (iblk m hO c 2 t) (Rect.unit (s := S3x1x1024) ![0, 0, 0] ![1, 1, 1024] inb_S3x1x1024_S1x1x1024_0_0_0)) (View.ld (iblk m hO c 2 t) (Rect.unit (s := S3x1x1024) ![1, 0, 0] ![1, 1, 1024] inb_S3x1x1024_S1x1x1024_1_0_0)) (View.ld (iblk m hO c 2 t) (Rect.unit (s := S3x1x1024) ![2, 0, 0] ![1, 1, 1024] inb_S3x1x1024_S1x1x1024_2_0_0)) := by
  frame_out
  rw [(hs0_0 m hO t).read_unread (iblk m hO c 0 t), (hs0_1 m hO t).read_unread (iblk m hO c 1 t), (hs0_2 m hO t).read_unread (iblk m hO c 2 t)]
  rfl

/-- Result 1's contents after a point. -/
theorem out7_at (hO : Ok m) (c : Dev nD) (t : Fin grid0.N) : (outsAt0 m hO c t).2.1 = k0_pay1 (F := Ideal) (iblk m hO c 3 t) (k0_pay3 (iblk m hO c 0 t) (iblk m hO c 1 t) (View.ld (iblk m hO c 2 t) (Rect.unit (s := S3x1x1024) ![0, 0, 0] ![1, 1, 1024] inb_S3x1x1024_S1x1x1024_0_0_0)) (View.ld (iblk m hO c 2 t) (Rect.unit (s := S3x1x1024) ![1, 0, 0] ![1, 1, 1024] inb_S3x1x1024_S1x1x1024_1_0_0)) (View.ld (iblk m hO c 2 t) (Rect.unit (s := S3x1x1024) ![2, 0, 0] ![1, 1, 1024] inb_S3x1x1024_S1x1x1024_2_0_0)) (iblk m hO c 4 t)) (k0_pay4 (iblk m hO c 0 t) (iblk m hO c 1 t) (View.ld (iblk m hO c 2 t) (Rect.unit (s := S3x1x1024) ![0, 0, 0] ![1, 1, 1024] inb_S3x1x1024_S1x1x1024_0_0_0)) (View.ld (iblk m hO c 2 t) (Rect.unit (s := S3x1x1024) ![1, 0, 0] ![1, 1, 1024] inb_S3x1x1024_S1x1x1024_1_0_0)) (View.ld (iblk m hO c 2 t) (Rect.unit (s := S3x1x1024) ![2, 0, 0] ![1, 1, 1024] inb_S3x1x1024_S1x1x1024_2_0_0)) (iblk m hO c 5 t)) k0_pay5 := by
  frame_out
  rw [(hs0_0 m hO t).read_unread (iblk m hO c 0 t), (hs0_1 m hO t).read_unread (iblk m hO c 1 t), (hs0_2 m hO t).read_unread (iblk m hO c 2 t), (hs0_3 m hO t).read_unread (iblk m hO c 3 t), (hs0_4 m hO t).read_unread (iblk m hO c 4 t), (hs0_5 m hO t).read_unread (iblk m hO c 5 t)]
  rfl

/-- Result 2's contents after a point. -/
theorem out8_at (hO : Ok m) (c : Dev nD) (t : Fin grid0.N) : (outsAt0 m hO c t).2.2.1 = k0_pay3 (F := Ideal) (iblk m hO c 0 t) (iblk m hO c 1 t) (View.ld (iblk m hO c 2 t) (Rect.unit (s := S3x1x1024) ![0, 0, 0] ![1, 1, 1024] inb_S3x1x1024_S1x1x1024_0_0_0)) (View.ld (iblk m hO c 2 t) (Rect.unit (s := S3x1x1024) ![1, 0, 0] ![1, 1, 1024] inb_S3x1x1024_S1x1x1024_1_0_0)) (View.ld (iblk m hO c 2 t) (Rect.unit (s := S3x1x1024) ![2, 0, 0] ![1, 1, 1024] inb_S3x1x1024_S1x1x1024_2_0_0)) (iblk m hO c 4 t) := by
  frame_out
  rw [(hs0_0 m hO t).read_unread (iblk m hO c 0 t), (hs0_1 m hO t).read_unread (iblk m hO c 1 t), (hs0_2 m hO t).read_unread (iblk m hO c 2 t), (hs0_4 m hO t).read_unread (iblk m hO c 4 t)]
  rfl

/-- Result 3's contents after a point. -/
theorem out9_at (hO : Ok m) (c : Dev nD) (t : Fin grid0.N) : (outsAt0 m hO c t).2.2.2 = k0_pay4 (F := Ideal) (iblk m hO c 0 t) (iblk m hO c 1 t) (View.ld (iblk m hO c 2 t) (Rect.unit (s := S3x1x1024) ![0, 0, 0] ![1, 1, 1024] inb_S3x1x1024_S1x1x1024_0_0_0)) (View.ld (iblk m hO c 2 t) (Rect.unit (s := S3x1x1024) ![1, 0, 0] ![1, 1, 1024] inb_S3x1x1024_S1x1x1024_1_0_0)) (View.ld (iblk m hO c 2 t) (Rect.unit (s := S3x1x1024) ![2, 0, 0] ![1, 1, 1024] inb_S3x1x1024_S1x1x1024_2_0_0)) (iblk m hO c 5 t) := by
  frame_out
  rw [(hs0_0 m hO t).read_unread (iblk m hO c 0 t), (hs0_1 m hO t).read_unread (iblk m hO c 1 t), (hs0_2 m hO t).read_unread (iblk m hO c 2 t), (hs0_5 m hO t).read_unread (iblk m hO c 5 t)]
  rfl

/-- The gradient: the device's own block, its sibling's, and those of the three other chips of the pair's group. -/
def grad (ids : IVec ⟨1, ![8]⟩ 32) (own : FVec Ideal ⟨3, ![8, 1, 1024]⟩ .f32) (sib : FVec Ideal ⟨3, ![4, 1, 1024]⟩ .f32) (chips : FVec Ideal ⟨3, ![3, 1, 1024]⟩ .f32) : FVec Ideal ⟨2, ![1, 1024]⟩ .f32 := fun j =>
  Adamw.pick (ids (ix1 5)) (fun d : Fin 8 => own (ix3 d (j 0) (j 1))) + Adamw.pick (ids (ix1 4)) (fun d : Fin 4 => sib (ix3 d (j 0) (j 1)))
    + (show EReal from chips (ix3 0 (j 0) (j 1))) + (show EReal from chips (ix3 1 (j 0) (j 1))) + (show EReal from chips (ix3 2 (j 0) (j 1)))

/-- The blocks' sum is the arrays'. -/
theorem g_at (hO : Ok m) (h4 : (tbl m 0 (ix1 (4 : Fin 8))).toNat < 4) (h5 : (tbl m 0 (ix1 (5 : Fin 8))).toNat < 8) (c : Dev nD) (t : Fin grid0.N) (p : Fin 1) (q : Fin 1024) :
    (show EReal from iblk m hO c 0 t (ix3 0 p q : S1x1x1024.Idx)) + (show EReal from iblk m hO c 1 t (ix3 0 p q : S1x1x1024.Idx)) + (show EReal from iblk m hO c 2 t (ix3 0 p q : S3x1x1024.Idx)) + (show EReal from iblk m hO c 2 t (ix3 1 p q : S3x1x1024.Idx)) + (show EReal from iblk m hO c 2 t (ix3 2 p q : S3x1x1024.Idx))
      = grad (m (c.tc.loc main_arg0)) (m (c.tc.loc main_arg1)) (m (c.tc.loc main_arg2)) (m (c.tc.loc main_arg3)) (ix2 (row t p) q) := by
  have e0 : iblk m hO c 0 t (ix3 0 p q : S1x1x1024.Idx) = m (c.tc.loc main_arg1) (ix3 (⟨(tbl m 0 (ix1 (5 : Fin 8))).toNat, h5⟩ : Fin 8) (row t p) q) := congrArg (m (c.tc.loc main_arg1)) (emb0 m hO h5 t p q)
  have e1 : iblk m hO c 1 t (ix3 0 p q : S1x1x1024.Idx) = m (c.tc.loc main_arg2) (ix3 (⟨(tbl m 0 (ix1 (4 : Fin 8))).toNat, h4⟩ : Fin 4) (row t p) q) := congrArg (m (c.tc.loc main_arg2)) (emb1 m hO h4 t p q)
  have e2 : ∀ d : Fin 3, iblk m hO c 2 t (ix3 d p q : S3x1x1024.Idx) = m (c.tc.loc main_arg3) (ix3 d (row t p) q) := fun d => congrArg (m (c.tc.loc main_arg3)) (emb2 m hO t d p q)
  have et : m (c.tc.loc main_arg0) = tbl m 0 := V_pre m c 0
  show _ = Adamw.pick (m (c.tc.loc main_arg0) (ix1 5)) (fun d : Fin 8 => m (c.tc.loc main_arg1) (ix3 d (row t p) q)) + Adamw.pick (m (c.tc.loc main_arg0) (ix1 4)) (fun d : Fin 4 => m (c.tc.loc main_arg2) (ix3 d (row t p) q))
    + (show EReal from m (c.tc.loc main_arg3) (ix3 0 (row t p) q)) + (show EReal from m (c.tc.loc main_arg3) (ix3 1 (row t p) q)) + (show EReal from m (c.tc.loc main_arg3) (ix3 2 (row t p) q))
  rw [et, Adamw.pick_eq (by omega) _ h5, Adamw.pick_eq (by omega) _ h4, e0, e1, e2, e2, e2]

/-- A block's position is a row and a column. -/
theorem split (y : S1x1024.Idx) : ∃ (p : Fin 1) (q : Fin 1024), y = ix2 p q := ⟨y 0, y 1, by funext a; fin_cases a <;> rfl⟩

/-- The first moment. -/
def mom (g mo : FVec Ideal ⟨2, ![1, 1024]⟩ .f32) : FVec Ideal ⟨2, ![1, 1024]⟩ .f32 := fun j => Adamw.mom (g j) (mo j)

/-- The second moment. -/
def vel (g ve : FVec Ideal ⟨2, ![1, 1024]⟩ .f32) : FVec Ideal ⟨2, ![1, 1024]⟩ .f32 := fun j => Adamw.vel (g j) (ve j)

/-- The weight's change. -/
def delta (g w mo ve : FVec Ideal ⟨2, ![1, 1024]⟩ .f32) : FVec Ideal ⟨2, ![1, 1024]⟩ .f32 := fun j => Adamw.delta (g j) (w j) (mo j) (ve j)

/-- What the run leaves in result 0. -/
theorem final_g (hO : Ok m) (h4 : (tbl m 0 (ix1 (4 : Fin 8))).toNat < 4) (h5 : (tbl m 0 (ix1 (5 : Fin 8))).toNat < 8) (c : Dev nD) : (dats m hO 0 c).arrAt 6 (cfgM m hO).N = grad (m (c.tc.loc main_arg0)) (m (c.tc.loc main_arg1)) (m (c.tc.loc main_arg2)) (m (c.tc.loc main_arg3)) := by
  refine (dats m hO 0 c).arrAt_eq_of_covers 6 _ (covers6 m hO) fun t _ y => ?_
  obtain ⟨p, q, rfl⟩ := split y
  obtain rfl : p = 0 := Subsingleton.elim _ _
  refine Eq.trans ?_ (congrArg _ (emb6 m hO t 0 q)).symm
  refine (congrFun ((after0_6 m hO c t).trans (out6_at m hO c t)) (ix2 (0 : Fin 1) q : S1x1024.Idx)).trans ?_
  pointwise [k0_pay1, k0_pay2, k0_pay3, k0_pay4, k0_pay5]
  exact g_at m hO h4 h5 c t 0 q

/-- What the run leaves in result 1. -/
theorem final_d (hO : Ok m) (h4 : (tbl m 0 (ix1 (4 : Fin 8))).toNat < 4) (h5 : (tbl m 0 (ix1 (5 : Fin 8))).toNat < 8) (c : Dev nD) : (dats m hO 0 c).arrAt 7 (cfgM m hO).N = delta (grad (m (c.tc.loc main_arg0)) (m (c.tc.loc main_arg1)) (m (c.tc.loc main_arg2)) (m (c.tc.loc main_arg3))) (m (c.tc.loc main_arg4)) (m (c.tc.loc main_arg5)) (m (c.tc.loc main_arg6)) := by
  refine (dats m hO 0 c).arrAt_eq_of_covers 7 _ (covers7 m hO) fun t _ y => ?_
  obtain ⟨p, q, rfl⟩ := split y
  obtain rfl : p = 0 := Subsingleton.elim _ _
  refine Eq.trans ?_ (congrArg _ (emb7 m hO t 0 q)).symm
  refine (congrFun ((after0_7 m hO c t).trans (out7_at m hO c t)) (ix2 (0 : Fin 1) q : S1x1024.Idx)).trans ?_
  pointwise [k0_pay1, k0_pay2, k0_pay3, k0_pay4, k0_pay5]
  exact Adamw.delta_eq (g_at m hO h4 h5 c t 0 q) (congrArg (m (c.tc.loc main_arg4)) (emb3 m hO t 0 q)) (congrArg (m (c.tc.loc main_arg5)) (emb4 m hO t 0 q)) (congrArg (m (c.tc.loc main_arg6)) (emb5 m hO t 0 q))

/-- What the run leaves in result 2. -/
theorem final_m (hO : Ok m) (h4 : (tbl m 0 (ix1 (4 : Fin 8))).toNat < 4) (h5 : (tbl m 0 (ix1 (5 : Fin 8))).toNat < 8) (c : Dev nD) : (dats m hO 0 c).arrAt 8 (cfgM m hO).N = mom (grad (m (c.tc.loc main_arg0)) (m (c.tc.loc main_arg1)) (m (c.tc.loc main_arg2)) (m (c.tc.loc main_arg3))) (m (c.tc.loc main_arg5)) := by
  refine (dats m hO 0 c).arrAt_eq_of_covers 8 _ (covers8 m hO) fun t _ y => ?_
  obtain ⟨p, q, rfl⟩ := split y
  obtain rfl : p = 0 := Subsingleton.elim _ _
  refine Eq.trans ?_ (congrArg _ (emb8 m hO t 0 q)).symm
  refine (congrFun ((after0_8 m hO c t).trans (out8_at m hO c t)) (ix2 (0 : Fin 1) q : S1x1024.Idx)).trans ?_
  pointwise [k0_pay1, k0_pay2, k0_pay3, k0_pay4, k0_pay5]
  exact congrArg₂ Adamw.mom (g_at m hO h4 h5 c t 0 q) (congrArg (m (c.tc.loc main_arg5)) (emb4 m hO t 0 q))

/-- What the run leaves in result 3. -/
theorem final_v (hO : Ok m) (h4 : (tbl m 0 (ix1 (4 : Fin 8))).toNat < 4) (h5 : (tbl m 0 (ix1 (5 : Fin 8))).toNat < 8) (c : Dev nD) : (dats m hO 0 c).arrAt 9 (cfgM m hO).N = vel (grad (m (c.tc.loc main_arg0)) (m (c.tc.loc main_arg1)) (m (c.tc.loc main_arg2)) (m (c.tc.loc main_arg3))) (m (c.tc.loc main_arg6)) := by
  refine (dats m hO 0 c).arrAt_eq_of_covers 9 _ (covers9 m hO) fun t _ y => ?_
  obtain ⟨p, q, rfl⟩ := split y
  obtain rfl : p = 0 := Subsingleton.elim _ _
  refine Eq.trans ?_ (congrArg _ (emb9 m hO t 0 q)).symm
  refine (congrFun ((after0_9 m hO c t).trans (out9_at m hO c t)) (ix2 (0 : Fin 1) q : S1x1024.Idx)).trans ?_
  pointwise [k0_pay1, k0_pay2, k0_pay3, k0_pay4, k0_pay5]
  exact congrArg₂ Adamw.vel (g_at m hO h4 h5 c t 0 q) (congrArg (m (c.tc.loc main_arg6)) (emb5 m hO t 0 q))

/-- The whole run: the four results, and the arguments as they were. -/
theorem run_kernel (ρ : Dev nD → PrngReg) (hO : Ok m) (h4 : (tbl m 0 (ix1 (4 : Fin 8))).toNat < 4) (h5 : (tbl m 0 (ix1 (5 : Fin 8))).toNat < 8) :
    θ_run defs (onTc (τ := τ) (main (F := Ideal))) ⟨m, fun _ => 0, ρ⟩ fun r => ∀ c : Dev nD,
      r.2.mem (c.tc.loc main_v0_0) = grad (m (c.tc.loc main_arg0)) (m (c.tc.loc main_arg1)) (m (c.tc.loc main_arg2)) (m (c.tc.loc main_arg3))
      ∧ r.2.mem (c.tc.loc main_v0_1) = delta (grad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v0_2) = mom (grad (m (c.tc.loc main_arg0)) (m (c.tc.loc main_arg1)) (m (c.tc.loc main_arg2)) (m (c.tc.loc main_arg3))) (m (c.tc.loc main_arg5))
      ∧ r.2.mem (c.tc.loc main_v0_3) = vel (grad (m (c.tc.loc main_arg0)) (m (c.tc.loc main_arg1)) (m (c.tc.loc main_arg2)) (m (c.tc.loc main_arg3))) (m (c.tc.loc main_arg6))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) ∧ r.2.mem (c.tc.loc main_arg3) = (m (c.tc.loc main_arg3)) ∧ r.2.mem (c.tc.loc main_arg4) = (m (c.tc.loc main_arg4)) ∧ r.2.mem (c.tc.loc main_arg5) = (m (c.tc.loc main_arg5)) ∧ r.2.mem (c.tc.loc main_arg6) = (m (c.tc.loc main_arg6)) :=
  (θ_run defs _ _).mono (fun _ h c => ⟨((h.1 c).1 6).trans (final_g m hO h4 h5 c), ((h.1 c).1 7).trans (final_d m hO h4 h5 c), ((h.1 c).1 8).trans (final_m m hO h4 h5 c), ((h.1 c).1 9).trans (final_v m hO h4 h5 c), h.2 c⟩)
    (θ_run_and (run_main m ρ hO) (unchanged m ρ hO))

end Cert.AdamwBScale

end
-- ==== Proof.AdamwBScaleRef.lean ====
/- The reference's gradient and update of the mixed value's scale's weight are the kernel's. -/
module

public import proofs.«01_k».proof.Proof.Gen.Reference32Ideal.Run
public import proofs.«01_k».proof.Proof.AdamwBScale

@[expose] public section

set_option maxRecDepth 16384

noncomputable section

namespace Cert.AdamwBScale

open Cert.Reference32Ideal Cert.Reference32Ideal.Gen Idealize.ShloMosaic Idealize.ShloMosaic.TcCoe Idealize.ShloMosaic.Pointwise Idealize.SL.Sem

variable (m : (ℓ : Loc nD τ sig) → Buf (Elt Ideal) ℓ)

/-- The reference's block of the device's own gradients: a sum of which the table keeps one term. -/
def refOwn (ids : IVec S8 32) (own : FVec Ideal S8x1x1024 .f32) : FVec Ideal S1x1024 .f32 :=
  Host.reduceAdd (select (cmpi .eq (iotaInDim S8x1x1024 32 0) (broadcastInDim S8x1x1024 ![] bcast_S_S8x1x1024 (shapeCast S_ (extractStridedSlice S1 ![5] ids slices_S8_S1_5) shapeCasts_S1_S_))) own (broadcastInDim S8x1x1024 ![] bcast_S_S8x1x1024 (id (constant S_ .f32 0x00000000#32)))) (constant S_ .f32 0x00000000#32) reducesTo_S8x1x1024_S1x1024_d0 h_S_

/-- The reference's block of the sibling's gradients. -/
def refSib (ids : IVec S8 32) (sib : FVec Ideal S4x1x1024 .f32) : FVec Ideal S1x1024 .f32 :=
  Host.reduceAdd (select (cmpi .eq (iotaInDim S4x1x1024 32 0) (broadcastInDim S4x1x1024 ![] bcast_S_S4x1x1024 (shapeCast S_ (extractStridedSlice S1 ![4] ids slices_S8_S1_4) shapeCasts_S1_S_))) sib (broadcastInDim S4x1x1024 ![] bcast_S_S4x1x1024 (id (constant S_ .f32 0x00000000#32)))) (constant S_ .f32 0x00000000#32) reducesTo_S4x1x1024_S1x1024_d0 h_S_

/-- The reference's sum over the other chips. -/
def refChips (chips : FVec Ideal S3x1x1024 .f32) : FVec Ideal S1x1024 .f32 := Host.reduceAdd chips (constant S_ .f32 0x00000000#32) reducesTo_S3x1x1024_S1x1024_d0 h_S_

/-- The reference's gradient. -/
def refGrad (ids : IVec S8 32) (own : FVec Ideal S8x1x1024 .f32) (sib : FVec Ideal S4x1x1024 .f32) (chips : FVec Ideal S3x1x1024 .f32) : FVec Ideal S1x1024 .f32 :=
  addf (addf (refOwn ids own) (refSib ids sib)) (refChips chips)

/-- The own block's entry. -/
theorem refOwn_eq (ids : IVec S8 32) (own : FVec Ideal S8x1x1024 .f32) (r : Fin 1) (q : Fin 1024) : refOwn ids own (ix2 r q) = Adamw.pick (ids (ix1 5)) (fun d : Fin 8 => own (ix3 d r q)) := by
  obtain rfl : r = 0 := Subsingleton.elim _ _
  pointwise [refOwn, Adamw.pick]
  exact Finset.sum_congr rfl fun d _ => Adamw.masked _ _ _ _ Ideal.ofBits_zero_f32

/-- The sibling's block's entry. -/
theorem refSib_eq (ids : IVec S8 32) (sib : FVec Ideal S4x1x1024 .f32) (r : Fin 1) (q : Fin 1024) : refSib ids sib (ix2 r q) = Adamw.pick (ids (ix1 4)) (fun d : Fin 4 => sib (ix3 d r q)) := by
  obtain rfl : r = 0 := Subsingleton.elim _ _
  pointwise [refSib, Adamw.pick]
  exact Finset.sum_congr rfl fun d _ => Adamw.masked _ _ _ _ Ideal.ofBits_zero_f32

/-- The other chips' entry. -/
theorem refChips_eq (chips : FVec Ideal S3x1x1024 .f32) (r : Fin 1) (q : Fin 1024) : refChips chips (ix2 r q) = (show EReal from chips (ix3 0 r q)) + (show EReal from chips (ix3 1 r q)) + (show EReal from chips (ix3 2 r q)) := by
  obtain rfl : r = 0 := Subsingleton.elim _ _
  pointwise [refChips]
  exact Fin.sum_univ_three _

/-- The reference's gradient is the kernel's. -/
theorem refGrad_eq (ids : IVec S8 32) (own : FVec Ideal S8x1x1024 .f32) (sib : FVec Ideal S4x1x1024 .f32) (chips : FVec Ideal S3x1x1024 .f32) : refGrad ids own sib chips = grad ids own sib chips := by
  funext j
  obtain ⟨r, q, rfl⟩ : ∃ (r : Fin 1) (q : Fin 1024), j = ix2 r q := ⟨j 0, j 1, by funext a; fin_cases a <;> rfl⟩
  show (show EReal from refOwn ids own (ix2 r q)) + (show EReal from refSib ids sib (ix2 r q)) + (show EReal from refChips chips (ix2 r q))
    = Adamw.pick (ids (ix1 5)) (fun d : Fin 8 => own (ix3 d r q)) + Adamw.pick (ids (ix1 4)) (fun d : Fin 4 => sib (ix3 d r q))
      + (show EReal from chips (ix3 0 r q)) + (show EReal from chips (ix3 1 r q)) + (show EReal from chips (ix3 2 r q))
  rw [refOwn_eq, refSib_eq, refChips_eq, ← add_assoc, ← add_assoc]

/-- The reference's first moment. -/
def refMom (g mo : FVec Ideal S1x1024 .f32) : FVec Ideal S1x1024 .f32 := addf (mulf (broadcastInDim S1x1024 ![] bcast_S_S1x1024 (constant S_ .f32 0x3F666666#32)) mo) (mulf (broadcastInDim S1x1024 ![] bcast_S_S1x1024 (constant S_ .f32 0x3DCCCCCD#32)) g)

/-- The reference's second moment. -/
def refVel (g ve : FVec Ideal S1x1024 .f32) : FVec Ideal S1x1024 .f32 := addf (mulf (broadcastInDim S1x1024 ![] bcast_S_S1x1024 (constant S_ .f32 0x3F7FBE77#32)) ve) (mulf (broadcastInDim S1x1024 ![] bcast_S_S1x1024 (constant S_ .f32 0x3A83126F#32)) (mulf g g))

/-- The reference's change of the weight. -/
def refDelta (g w mo ve : FVec Ideal S1x1024 .f32) : FVec Ideal S1x1024 .f32 :=
  mulf (broadcastInDim S1x1024 ![] bcast_S_S1x1024 (constant S_ .f32 0xBA83126F#32)) (addf (Host.divf (Host.divf (refMom g mo) (broadcastInDim S1x1024 ![] bcast_S_S1x1024 (constant S_ .f32 0x3F26BD02#32))) (addf (Host.sqrt (Host.divf (refVel g ve) (broadcastInDim S1x1024 ![] bcast_S_S1x1024 (constant S_ .f32 0x3C231ACC#32)))) (broadcastInDim S1x1024 ![] bcast_S_S1x1024 (constant S_ .f32 0x322BCC77#32)))) (mulf (broadcastInDim S1x1024 ![] bcast_S_S1x1024 (constant S_ .f32 0x3C23D70A#32)) w))

/-- The reference's first moment is the kernel's. -/
theorem refMom_eq (g mo : FVec Ideal S1x1024 .f32) : refMom g mo = mom g mo := by
  funext j
  pointwise [refMom, mom, Adamw.mom]

/-- The reference's second moment is the kernel's. -/
theorem refVel_eq (g ve : FVec Ideal S1x1024 .f32) : refVel g ve = vel g ve := by
  funext j
  pointwise [refVel, vel, Adamw.vel]

/-- The reference's change of the weight is the kernel's. -/
theorem refDelta_eq (g w mo ve : FVec Ideal S1x1024 .f32) : refDelta g w mo ve = delta g w mo ve := by
  unfold refDelta
  rw [refMom_eq, refVel_eq]
  funext j
  pointwise [delta, mom, vel, Adamw.delta]

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v16) = refGrad (m (c.tc.loc main_arg0)) (m (c.tc.loc main_arg1)) (m (c.tc.loc main_arg2)) (m (c.tc.loc main_arg3))
      ∧ r.2.mem (c.tc.loc main_v40) = refDelta (refGrad (m (c.tc.loc main_arg0)) (m (c.tc.loc main_arg1)) (m (c.tc.loc main_arg2)) (m (c.tc.loc main_arg3))) (m (c.tc.loc main_arg4)) (m (c.tc.loc main_arg5)) (m (c.tc.loc main_arg6))
      ∧ r.2.mem (c.tc.loc main_v21) = refMom (refGrad (m (c.tc.loc main_arg0)) (m (c.tc.loc main_arg1)) (m (c.tc.loc main_arg2)) (m (c.tc.loc main_arg3))) (m (c.tc.loc main_arg5))
      ∧ r.2.mem (c.tc.loc main_v27) = refVel (refGrad (m (c.tc.loc main_arg0)) (m (c.tc.loc main_arg1)) (m (c.tc.loc main_arg2)) (m (c.tc.loc main_arg3))) (m (c.tc.loc main_arg6))
      ∧ r.2.mem (c.tc.loc main_arg0) = m (c.tc.loc main_arg0) ∧ r.2.mem (c.tc.loc main_arg1) = m (c.tc.loc main_arg1) ∧ r.2.mem (c.tc.loc main_arg2) = m (c.tc.loc main_arg2) ∧ r.2.mem (c.tc.loc main_arg3) = m (c.tc.loc main_arg3) ∧ r.2.mem (c.tc.loc main_arg4) = m (c.tc.loc main_arg4) ∧ r.2.mem (c.tc.loc main_arg5) = m (c.tc.loc main_arg5) ∧ r.2.mem (c.tc.loc main_arg6) = m (c.tc.loc main_arg6) :=
  (θ_run defs _ _).mono (fun _ h c => ⟨(h c).1.trans (by rfl), (h c).2.1.trans (by rfl), (h c).2.2.1.trans (by rfl), (h c).2.2.2.1.trans (by rfl), (h c).2.2.2.2⟩) (Value.run m ρ)

end Cert.AdamwBScale

end
-- ==== Proof.AdamwBScaleClaim.lean ====
/- The claims about the update of the mixed value's scale's weight. -/
module

public import proofs.«01_k».proof.Defs
public import proofs.«01_k».proof.Proof.Gen.Kernel32.Frame
public import proofs.«01_k».proof.Proof.AdamwBScaleRef
public import proofs.«01_k».proof.Proof.Finite
public import Idealize.ShloMosaic.Lib.Claim

@[expose] public section

set_option maxRecDepth 200000

noncomputable section

namespace Cert.AdamwBScaleClaim

open Idealize.ShloMosaic Idealize.ShloMosaic.Pointwise Idealize.SL.Sem

/-- The precondition's slices fit. -/
instance preFacts : Cert.Pre_b_scale_named.Facts where
  slices_S8_S1_4 := by decide
  shapeCasts_S1_S_ := by decide
  slices_S8_S1_5 := by decide

/-- Where the precondition holds, the table's entries are blocks' numbers. -/
theorem lt_of_pre {F : FTy → Type} [FloatOps F] (ids : IVec ⟨1, ![8]⟩ 32) (own : FVec F ⟨3, ![8, 1, 1024]⟩ .f32) (sib : FVec F ⟨3, ![4, 1, 1024]⟩ .f32) (chips : FVec F ⟨3, ![3, 1, 1024]⟩ .f32) (w mo ve : FVec F ⟨2, ![1, 1024]⟩ .f32)
    (h : Cert.Pre_b_scale_named.fn (F := F) ids own sib chips w mo ve = fun _ => 1#1) : (ids (ix1 (4 : Fin 8))).toNat < 4 ∧ (ids (ix1 (5 : Fin 8))).toNat < 8 := by
  have h1 := congrFun h ix0
  revert h1
  pointwise [Cert.Pre_b_scale_named.fn]
  intro h1
  obtain ⟨h2, h3⟩ := Finite.both _ _ h1
  obtain ⟨a0, a1⟩ := Finite.both _ _ h2
  obtain ⟨b0, b1⟩ := Finite.both _ _ h3
  exact ⟨Adamw.toNat_lt _ 4 (by omega) a0 a1, Adamw.toNat_lt _ 8 (by omega) b0 b1⟩

/-- Where the precondition holds of `Kernel32`'s arguments, the table names blocks that exist. -/
theorem tbl_Kernel32 (m : (ℓ : Loc Cert.Kernel32.nD Cert.Kernel32.τ Cert.Kernel32.sig) → Buf (Elt Bits) ℓ) (h : Cert.Pre_Kernel32 m) : (Cert.Kernel32.Gen.tbl m 0 (ix1 (4 : Fin 8))).toNat < 4 ∧ (Cert.Kernel32.Gen.tbl m 0 (ix1 (5 : Fin 8))).toNat < 8 := by
  have e : m (((0 : Dev Cert.Kernel32.nD).tc : Thread Cert.Kernel32.nD Cert.Kernel32.τ).loc Cert.Kernel32.main_arg0) = Cert.Kernel32.Gen.tbl m 0 := Cert.Kernel32.Gen.V_pre m 0 0
  rw [← e]
  exact lt_of_pre _ _ _ _ _ _ _ (h 0)

/-- Such a table is one `Kernel32` accepts. -/
theorem ok_Kernel32 (m : (ℓ : Loc Cert.Kernel32.nD Cert.Kernel32.τ Cert.Kernel32.sig) → Buf (Elt Bits) ℓ) (h : Cert.Pre_Kernel32 m) : Cert.Kernel32.Gen.Ok m :=
  have h := tbl_Kernel32 m h
  AdamwBScale.ok_of (F := Bits) (Cert.Kernel32.Gen.tbl m) h.1 h.2

/-- `Kernel32` runs and leaves its arguments and every counter as they were. -/
theorem quiescentB : Cert.quiescent_Kernel32 := fun m g h => Cert.Kernel32.Gen.frame m g (ok_Kernel32 m h)

/-- Where the precondition holds of `Kernel32Ideal`'s arguments, the table names blocks that exist. -/
theorem tbl_Kernel32Ideal (m : (ℓ : Loc Cert.Kernel32Ideal.nD Cert.Kernel32Ideal.τ Cert.Kernel32Ideal.sig) → Buf (Elt Ideal) ℓ) (h : Cert.Pre_Kernel32Ideal m) : (Cert.Kernel32Ideal.Gen.tbl m 0 (ix1 (4 : Fin 8))).toNat < 4 ∧ (Cert.Kernel32Ideal.Gen.tbl m 0 (ix1 (5 : Fin 8))).toNat < 8 := by
  have e : m (((0 : Dev Cert.Kernel32Ideal.nD).tc : Thread Cert.Kernel32Ideal.nD Cert.Kernel32Ideal.τ).loc Cert.Kernel32Ideal.main_arg0) = Cert.Kernel32Ideal.Gen.tbl m 0 := Cert.Kernel32Ideal.Gen.V_pre m 0 0
  rw [← e]
  exact lt_of_pre _ _ _ _ _ _ _ (h 0)

/-- Such a table is one `Kernel32Ideal` accepts. -/
theorem ok_Kernel32Ideal (m : (ℓ : Loc Cert.Kernel32Ideal.nD Cert.Kernel32Ideal.τ Cert.Kernel32Ideal.sig) → Buf (Elt Ideal) ℓ) (h : Cert.Pre_Kernel32Ideal m) : Cert.Kernel32Ideal.Gen.Ok m :=
  have h := tbl_Kernel32Ideal m h
  AdamwBScale.ok_of (F := Ideal) (Cert.Kernel32Ideal.Gen.tbl m) h.1 h.2

/-- `Kernel32Ideal` runs and leaves its arguments and every counter as they were. -/
theorem quiescentI : Cert.quiescent_Kernel32Ideal := fun m g h => Cert.Kernel32Ideal.Gen.frame m g (ok_Kernel32Ideal m h)

/-- The reference leaves its arguments as they were and no pending signals. -/
theorem quiescent : Cert.quiescent_Reference32Ideal := by
  intro m g _
  exact (θ_run _ _ _).mono (fun r h => ⟨fun c => (h c).2.2.2.2, sem_eq_zero_of_no_sems (by decide) _⟩) (Cert.Reference32Ideal.Value.run m g)

set_option maxHeartbeats 1600000 in
/-- The kernel and the reference leave the same results, where the table names blocks that exist. -/
theorem same : Cert.algebraic_Kernel32Ideal_Reference32Ideal := by
  pair_intro
  · run_from Cert.AdamwBScale.run_kernel m g (ok_Kernel32Ideal m hpre) (tbl_Kernel32Ideal m hpre).1 (tbl_Kernel32Ideal m hpre).2
  · run_from Cert.AdamwBScale.run m' g'
    · exact Cert.AdamwBScale.refGrad_eq _ _ _ _
    · rw [Cert.AdamwBScale.refGrad_eq, Cert.AdamwBScale.refDelta_eq]
    · rw [Cert.AdamwBScale.refGrad_eq, Cert.AdamwBScale.refMom_eq]
    · rw [Cert.AdamwBScale.refGrad_eq, Cert.AdamwBScale.refVel_eq]

end Cert.AdamwBScaleClaim

end
-- ==== Proof.ChipsMath.lean ====
/- The blocks that a table names for the three other chips. -/
module

public import proofs.«01_k».proof.Proof.AdamwMath

@[expose] public section

noncomputable section

namespace Cert.Chips

open Idealize.ShloMosaic Idealize.ShloMosaic.Pointwise

/-- The table's entry for one of the three other chips. -/
def ent (ids : IVec ⟨1, ![8]⟩ 32) (k : Fin 3) : BitVec 32 := ids (ix1 ⟨k.val, by omega⟩)

/-- The device of that chip that is in the same place of its pair: two devices a chip. -/
def num (ids : IVec ⟨1, ![8]⟩ 32) (k : Fin 3) : BitVec 32 := Scalar.addi (Scalar.muli 2#32 (ent ids k)) (ids (ix1 (3 : Fin 8)))

/-- Of four chips with two devices each, the device's number is below 8. -/
theorem num_lt (ids : IVec ⟨1, ![8]⟩ 32) (k : Fin 3) (h : (ent ids k).toNat < 4) (h3 : (ids (ix1 (3 : Fin 8))).toNat < 2) : (num ids k).toNat < 8 := by
  show (2#32 * ent ids k + ids (ix1 (3 : Fin 8))).toNat < 8
  rw [BitVec.toNat_add, BitVec.toNat_mul]
  show (2 * (ent ids k).toNat % 2 ^ 32 + (ids (ix1 (3 : Fin 8))).toNat) % 2 ^ 32 < 8
  omega

/-- A small number, made an index, is itself. -/
theorem index_eq : ∀ k : Fin 3, (Scalar.indexCast (BitVec.ofNat 32 k.val)).toNat = k.val := by decide +kernel

/-- The first element of a table's unit rectangle at a computed place. -/
theorem emb_at (k : Fin 8) (off : ℕ) (e : off = k.val) (inb : ∀ a, (![off] : Fin 1 → ℕ) a + (⟨1, ![1]⟩ : Shape).size a ≤ (⟨1, ![8]⟩ : Shape).size a)
    (h : 0 < (Rect.unit (s := ⟨1, ![8]⟩) ![off] (⟨1, ![1]⟩ : Shape).size inb).shape.numel) :
    (Rect.unit (s := ⟨1, ![8]⟩) ![off] (⟨1, ![1]⟩ : Shape).size inb).emb (Shape.Idx.first h) = ix1 k := by
  subst e
  exact Adamw.emb_first k inb h

/-- A block of `3` times `n` is a point's. -/
theorem point_of {n : ℕ} (β : Fin 3 → ℕ) (h : ∀ a, β a < (![3, n, 1] : Fin 3 → ℕ) a) : ∃ t : ℕ, t < 3 * n ∧ ∀ a, (![t / n, t % n, 0] : Fin 3 → ℕ) a = β a := by
  have h0 : β 0 < 3 := h 0
  have h1 : β 1 < n := h 1
  have h2 : β 2 < 1 := h 2
  have hn : 0 < n := by omega
  refine ⟨β 1 + n * β 0, ?_, fun a => ?_⟩
  · have : n * β 0 ≤ n * 2 := Nat.mul_le_mul_left n (by omega)
    omega
  · fin_cases a
    · show (β 1 + n * β 0) / n = β 0
      rw [Nat.add_mul_div_left _ _ hn, Nat.div_eq_of_lt h1, Nat.zero_add]
    · show (β 1 + n * β 0) % n = β 1
      rw [Nat.add_mul_mod_self_left, Nat.mod_eq_of_lt h1]
    · show 0 = β 2
      omega

end Cert.Chips

end
-- ==== Proof.ChipsBOut.lean ====
/- What the three other chips are sent of the output projection of mixer B's weight's gradient. -/
module

public import proofs.«01_k».proof.Proof.Gen.Kernel33Ideal.Frame
public import proofs.«01_k».proof.Proof.ChipsMath
public import Idealize.ShloMosaic.Lib.Pipeline.ValueKit
public import Idealize.ShloMosaic.Lib.Pipeline.Covers

@[expose] public section

set_option maxRecDepth 16384

noncomputable section

namespace Cert.ChipsBOut

open Cert.Kernel33Ideal Cert.Kernel33Ideal.Gen Idealize.ShloMosaic Idealize.ShloMosaic.TcCoe Idealize.ShloMosaic.Pointwise Idealize.SL.Sem

variable (m : (ℓ : Loc nD τ sig) → Buf (Elt Ideal) ℓ)

/-- The chip that a grid point is about. -/
abbrev chip (i : grid0.Coords) : Fin 3 := ⟨(i 0).val, (i 0).isLt⟩

/-- Block 0's number, as the table gives it. -/
theorem at0 {F : FTy → Type} [FloatOps F] (pf : pre0.Contents (Elt F)) (i : grid0.Coords) : cc0_transform_0 k0_off1_inb numel1_S1 inb_S8_S1_3 pf i = ![(Chips.num (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have h3 : (Rect.unit (s := S8) ![3] S1.size inb_S8_S1_3).emb (Shape.Idx.first (numel1_S1.symm ▸ Nat.one_pos)) = ix1 (3 : Fin 8) := Adamw.emb_first 3 _ _
  have hi : (i 1).val < 16 := (i 1).isLt
  have h32 : (BitVec.ofNat 32 (i 1).val).toNat = (i 1).val := by
    rw [BitVec.toNat_ofNat]; exact Nat.mod_eq_of_lt (by omega)
  show ![(Scalar.addi (Scalar.muli 2#32 (pf 0 ((Rect.unit (s := S8) ![(Scalar.indexCast (BitVec.ofNat 32 (i 0).val)).toNat] S1.size (k0_off1_inb i)).emb (Shape.Idx.first (numel1_S1.symm ▸ Nat.one_pos))))) (pf 0 ((Rect.unit (s := S8) ![3] S1.size inb_S8_S1_3).emb (Shape.Idx.first (numel1_S1.symm ▸ Nat.one_pos))))).toNat, (BitVec.ofNat 32 (i 1).val).toNat, 0] = _
  rw [hx, h3, h32]
  rfl

/-- Block 1's number, as the table gives it. -/
theorem at1 {F : FTy → Type} [FloatOps F] (pf : pre0.Contents (Elt F)) (i : grid0.Coords) : cc0_transform_1 k0_off1_inb numel1_S1 pf i = ![(Chips.ent (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have hi : (i 1).val < 16 := (i 1).isLt
  have h32 : (BitVec.ofNat 32 (i 1).val).toNat = (i 1).val := by
    rw [BitVec.toNat_ofNat]; exact Nat.mod_eq_of_lt (by omega)
  show ![(pf 0 ((Rect.unit (s := S8) ![(Scalar.indexCast (BitVec.ofNat 32 (i 0).val)).toNat] S1.size (k0_off1_inb i)).emb (Shape.Idx.first (numel1_S1.symm ▸ Nat.one_pos)))).toNat, (BitVec.ofNat 32 (i 1).val).toNat, 0] = _
  rw [hx, h32]
  rfl

/-- A table that names blocks that exist is one the call accepts. -/
theorem ok_of {F : FTy → Type} [FloatOps F] (pf : pre0.Contents (Elt F)) (h4 : ∀ k, (Chips.ent (pf 0) k).toNat < 4) (h8 : ∀ k, (Chips.num (pf 0) k).toNat < 8) : ok0 pf := by
  refine ⟨fun i => ?_, fun i => ?_⟩
  · rw [at0]
    have hi : (i 1).val < 16 := (i 1).isLt
    have hk := h8 (chip i)
    refine ⟨fun a => ?_, .inr (.inl (.inr ⟨by decide, rfl, .inl ⟨?_, ?_⟩⟩))⟩
    · fin_cases a
      · show ((Chips.num (pf 0) (chip i)).toNat + 1) * 1 ≤ 8
        omega
      · show ((i 1).val + 1) * 64 ≤ 1024
        omega
      · show (0 + 1) * 4096 ≤ 4096
        omega
    · show 2 ∣ (i 1).val * 64
      omega
    · show 2 ∣ 64
      omega
  · rw [at1]
    have hi : (i 1).val < 16 := (i 1).isLt
    have hk := h4 (chip i)
    refine ⟨fun a => ?_, .inr (.inl (.inr ⟨by decide, rfl, .inl ⟨?_, ?_⟩⟩))⟩
    · fin_cases a
      · show ((Chips.ent (pf 0) (chip i)).toNat + 1) * 1 ≤ 4
        omega
      · show ((i 1).val + 1) * 64 ≤ 1024
        omega
      · show (0 + 1) * 4096 ≤ 4096
        omega
    · show 2 ∣ (i 1).val * 64
      omega
    · show 2 ∣ 64
      omega

/-- The block numbers that no table gives. -/
theorem ixs : ∀ t : Fin grid0.N, cc0_transform_2 (grid0.coords t) = ![t.val / 16, t.val % 16, 0] ∧ (grid0.coords t 0).val = t.val / 16 ∧ (grid0.coords t 1).val = t.val % 16 := by decide +kernel

/-- The chip at point `t`. -/
abbrev of (t : Fin grid0.N) : Fin 3 := ⟨t.val / 16, by have h : t.val < 48 := lt_of_lt_of_eq t.isLt N_0; omega⟩

/-- The array's row that is the block's row `p` at point `t`. -/
abbrev row (t : Fin grid0.N) (p : Fin 64) : Fin 1024 := ⟨t.val % 16 * 64 + p.val, by omega⟩

/-- The result's block at coordinates. -/
theorem emb2 (hO : Ok m) (t : Fin grid0.N) (p : Fin 64) (q : Fin 4096) : (((cfgM m hO).win 2).rect t).emb (ix3 0 p q) = ix3 (of t) (row t p) q := by
  funext a
  refine Fin.ext ((Pipeline.Window.rect_emb_val _ t _ a).trans ?_)
  rw [show ((cfgM m hO).win 2).index t = ![t.val / 16, t.val % 16, 0] from (ixs t).1]
  fin_cases a
  · show t.val / 16 * 1 + 0 = t.val / 16
    omega
  · rfl
  · show 0 * 4096 + q.val = q.val
    omega

/-- Window 0's block at coordinates: the block of the table's number. -/
theorem emb0 (hO : Ok m) (h : ∀ k, (Chips.num (tbl m 0) k).toNat < 8) (t : Fin grid0.N) (p : Fin 64) (q : Fin 4096) : (((cfgM m hO).win 0).rect t).emb (ix3 0 p q) = ix3 (⟨(Chips.num (tbl m 0) (of t)).toNat, h _⟩ : Fin 8) (row t p) q := by
  have hk : chip (grid0.coords t) = of t := Fin.ext (ixs t).2.1
  funext a
  refine Fin.ext ((Pipeline.Window.rect_emb_val _ t _ a).trans ?_)
  rw [show ((cfgM m hO).win 0).index t = ![(Chips.num (tbl m 0) (of t)).toNat, t.val % 16, 0] from (at0 (tbl m) (grid0.coords t)).trans (by rw [(ixs t).2.2, hk])]
  fin_cases a
  · show (Chips.num (tbl m 0) (of t)).toNat * 1 + 0 = (Chips.num (tbl m 0) (of t)).toNat
    omega
  · rfl
  · show 0 * 4096 + q.val = q.val
    omega

/-- Window 1's block at coordinates: the block of the table's number. -/
theorem emb1 (hO : Ok m) (h : ∀ k, (Chips.ent (tbl m 0) k).toNat < 4) (t : Fin grid0.N) (p : Fin 64) (q : Fin 4096) : (((cfgM m hO).win 1).rect t).emb (ix3 0 p q) = ix3 (⟨(Chips.ent (tbl m 0) (of t)).toNat, h _⟩ : Fin 4) (row t p) q := by
  have hk : chip (grid0.coords t) = of t := Fin.ext (ixs t).2.1
  funext a
  refine Fin.ext ((Pipeline.Window.rect_emb_val _ t _ a).trans ?_)
  rw [show ((cfgM m hO).win 1).index t = ![(Chips.ent (tbl m 0) (of t)).toNat, t.val % 16, 0] from (at1 (tbl m) (grid0.coords t)).trans (by rw [(ixs t).2.2, hk])]
  fin_cases a
  · show (Chips.ent (tbl m 0) (of t)).toNat * 1 + 0 = (Chips.ent (tbl m 0) (of t)).toNat
    omega
  · rfl
  · show 0 * 4096 + q.val = q.val
    omega

/-- Every block of the result is written. -/
theorem covers2 (hO : Ok m) : ((cfgM m hO).win 2).Covers := by
  refine Pipeline.Window.covers_of_index_surj _ rfl (show ∀ a : Fin 3, 0 < (![1, 64, 4096] : Fin 3 → ℕ) a by decide) (fun β => ?_)
  have hn : ∀ a : Fin 3, ((cfgM m hO).win 2).nblk a = (![3, 16, 1] : Fin 3 → ℕ) a := by
    intro a
    fin_cases a
    · show (3 + 1 - 1) / 1 = 3
      rfl
    · show (1024 + 64 - 1) / 64 = 16
      rfl
    · show (4096 + 4096 - 1) / 4096 = 1
      rfl
  obtain ⟨t, hlt, ht⟩ := Chips.point_of (n := 16) (fun a : Fin 3 => (β a).val) fun a => lt_of_lt_of_eq (β a).isLt (hn a)
  exact ⟨⟨t, lt_of_lt_of_eq hlt N_0.symm⟩, fun a => (congrFun (ixs ⟨t, lt_of_lt_of_eq hlt N_0.symm⟩).1 a).trans (ht a)⟩

/-- The result's contents after a point. -/
theorem out2_at (hO : Ok m) (c : Dev nD) (t : Fin grid0.N) : outsAt0 m hO c t = k0_pay1 (F := Ideal) (iblk m hO c 0 t) (iblk m hO c 1 t) := by
  unfold outsAt0
  frame_out
  rw [(hs0_0 m hO t).read_unread (iblk m hO c 0 t), (hs0_1 m hO t).read_unread (iblk m hO c 1 t)]

/-- What each of the three chips is sent: the sum of the two devices' blocks that the table names for it. -/
def sums (ids : IVec ⟨1, ![8]⟩ 32) (own : FVec Ideal ⟨3, ![8, 1024, 4096]⟩ .bf16) (sib : FVec Ideal ⟨3, ![4, 1024, 4096]⟩ .bf16) : FVec Ideal ⟨3, ![3, 1024, 4096]⟩ .bf16 := fun j =>
  Adamw.pick (Chips.num ids (j 0)) (fun d : Fin 8 => own (ix3 d (j 1) (j 2))) + Adamw.pick (Chips.ent ids (j 0)) (fun d : Fin 4 => sib (ix3 d (j 1) (j 2)))

/-- A block's position is a row and a column. -/
theorem split (y : S1x64x4096.Idx) : ∃ (p : Fin 64) (q : Fin 4096), y = ix3 0 p q := ⟨y 1, y 2, by
  funext a
  match a with
  | ⟨0, _⟩ => exact Subsingleton.elim (α := Fin 1) _ _
  | ⟨1, _⟩ => rfl
  | ⟨2, _⟩ => rfl⟩

/-- The sum of two blocks' entries. -/
theorem pay_at (a b : Vec Ideal S1x64x4096 .bf16) (p : Fin 64) (q : Fin 4096) : k0_pay1 (F := Ideal) a b (ix3 0 p q) = (show EReal from a (ix3 0 p q)) + (show EReal from b (ix3 0 p q)) := by
  pointwise [k0_pay1]

/-- What the run leaves in the result. -/
theorem final (hO : Ok m) (h4 : ∀ k, (Chips.ent (tbl m 0) k).toNat < 4) (h8 : ∀ k, (Chips.num (tbl m 0) k).toNat < 8) (c : Dev nD) : (dats m hO 0 c).arrAt 2 (cfgM m hO).N = sums (m (c.tc.loc main_arg0)) (m (c.tc.loc main_arg1)) (m (c.tc.loc main_arg2)) := by
  refine (dats m hO 0 c).arrAt_eq_of_covers 2 _ (covers2 m hO) fun t _ y => ?_
  obtain ⟨p, q, rfl⟩ := split y
  refine Eq.trans ?_ (congrArg _ (emb2 m hO t p q)).symm
  refine (congrFun ((after0_2 m hO c t).trans (out2_at m hO c t)) (ix3 0 p q : S1x64x4096.Idx)).trans ?_
  refine (pay_at _ _ p q).trans ?_
  have e0 : iblk m hO c 0 t (ix3 0 p q : S1x64x4096.Idx) = m (c.tc.loc main_arg1) (ix3 (⟨(Chips.num (tbl m 0) (of t)).toNat, h8 _⟩ : Fin 8) (row t p) q) := congrArg (m (c.tc.loc main_arg1)) (emb0 m hO h8 t p q)
  have e1 : iblk m hO c 1 t (ix3 0 p q : S1x64x4096.Idx) = m (c.tc.loc main_arg2) (ix3 (⟨(Chips.ent (tbl m 0) (of t)).toNat, h4 _⟩ : Fin 4) (row t p) q) := congrArg (m (c.tc.loc main_arg2)) (emb1 m hO h4 t p q)
  have et : m (c.tc.loc main_arg0) = tbl m 0 := V_pre m c 0
  show _ = Adamw.pick (Chips.num (m (c.tc.loc main_arg0)) (of t)) (fun d : Fin 8 => m (c.tc.loc main_arg1) (ix3 d (row t p) q)) + Adamw.pick (Chips.ent (m (c.tc.loc main_arg0)) (of t)) (fun d : Fin 4 => m (c.tc.loc main_arg2) (ix3 d (row t p) q))
  rw [et, Adamw.pick_eq (by omega) _ (h8 (of t)), Adamw.pick_eq (by omega) _ (h4 (of t)), e0, e1]

/-- The whole run: the result, and the arguments as they were. -/
theorem run_kernel (ρ : Dev nD → PrngReg) (hO : Ok m) (h4 : ∀ k, (Chips.ent (tbl m 0) k).toNat < 4) (h8 : ∀ k, (Chips.num (tbl m 0) k).toNat < 8) :
    θ_run defs (onTc (τ := τ) (main (F := Ideal))) ⟨m, fun _ => 0, ρ⟩ fun r => ∀ c : Dev nD,
      r.2.mem (c.tc.loc main_v0) = sums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨((h.1 c).1 2).trans (final m hO h4 h8 c), h.2 c⟩)
    (θ_run_and (run_main m ρ hO) (unchanged m ρ hO))

end Cert.ChipsBOut

end
-- ==== Proof.ChipsBOutRef.lean ====
/- The reference sends the three other chips the same sums of the output projection of mixer B's weight's gradient. -/
module

public import proofs.«01_k».proof.Proof.Gen.Reference33Ideal.Run
public import proofs.«01_k».proof.Proof.ChipsBOut

@[expose] public section

set_option maxRecDepth 16384

noncomputable section

namespace Cert.ChipsBOut

open Cert.Reference33Ideal Cert.Reference33Ideal.Gen Idealize.ShloMosaic Idealize.ShloMosaic.TcCoe Idealize.ShloMosaic.Pointwise Idealize.SL.Sem

variable (m : (ℓ : Loc nD τ sig) → Buf (Elt Ideal) ℓ)

/-- The reference's entry for a chip. -/
def refEnt (ids : IVec S8 32) (k : ℕ) (hk : S8.Slices ![k] S1) : IVec S_ 32 := shapeCast S_ (extractStridedSlice S1 ![k] ids hk) shapeCasts_S1_S_

theorem refEnt_eq (ids : IVec S8 32) (k : Fin 3) (hk : S8.Slices ![k.val] S1) (j : S_.Idx) : refEnt ids k.val hk j = Chips.ent ids k := by
  unfold refEnt Chips.ent
  obtain rfl : j = ix0 := funext fun a => a.elim0
  pointwise
  try rfl

/-- The reference's number of the device. -/
def refNum (ids : IVec S8 32) (k : ℕ) (hk : S8.Slices ![k] S1) : IVec S_ 32 :=
  addi (muli (constantI S_ 32 2#32) (refEnt ids k hk)) (shapeCast S_ (extractStridedSlice S1 ![3] ids slices_S8_S1_3) shapeCasts_S1_S_)

theorem refNum_eq (ids : IVec S8 32) (k : Fin 3) (hk : S8.Slices ![k.val] S1) (j : S_.Idx) : refNum ids k.val hk j = Chips.num ids k := by
  unfold refNum Chips.num
  rw [← refEnt_eq ids k hk j]
  obtain rfl : j = ix0 := funext fun a => a.elim0
  pointwise
  try rfl

/-- The reference's block of the devices' gradients: a sum of which the table keeps one term. -/
def ref_own (ids : IVec S8 32) (own : FVec Ideal S8x1024x4096 .bf16) (k : ℕ) (hk : S8.Slices ![k] S1) : FVec Ideal S1024x4096 .f32 :=
  Host.reduceAdd (select (cmpi .eq (iotaInDim S8x1024x4096 32 0) (broadcastInDim S8x1024x4096 ![] bcast_S_S8x1024x4096 (refNum ids k hk))) (extf .f32 own bitsLt_bf16_f32) (broadcastInDim S8x1024x4096 ![] bcast_S_S8x1024x4096 (id (constant S_ .f32 0x00000000#32)))) (constant S_ .f32 0x00000000#32) reducesTo_S8x1024x4096_S1024x4096_d0 h_S_

/-- The reference's block of the siblings' gradients. -/
def ref_sib (ids : IVec S8 32) (sib : FVec Ideal S4x1024x4096 .bf16) (k : ℕ) (hk : S8.Slices ![k] S1) : FVec Ideal S1024x4096 .f32 :=
  Host.reduceAdd (select (cmpi .eq (iotaInDim S4x1024x4096 32 0) (broadcastInDim S4x1024x4096 ![] bcast_S_S4x1024x4096 (refEnt ids k hk))) (extf .f32 sib bitsLt_bf16_f32) (broadcastInDim S4x1024x4096 ![] bcast_S_S4x1024x4096 (id (constant S_ .f32 0x00000000#32)))) (constant S_ .f32 0x00000000#32) reducesTo_S4x1024x4096_S1024x4096_d0 h_S_

/-- The reference's sum for one chip. -/
def refBlock (ids : IVec S8 32) (own : FVec Ideal S8x1024x4096 .bf16) (sib : FVec Ideal S4x1024x4096 .bf16) (k : ℕ) (hk : S8.Slices ![k] S1) : FVec Ideal S1024x4096 .f32 := addf (ref_own ids own k hk) (ref_sib ids sib k hk)

/-- The reference's result. -/
def refSums (ids : IVec S8 32) (own : FVec Ideal S8x1024x4096 .bf16) (sib : FVec Ideal S4x1024x4096 .bf16) : FVec Ideal S3x1024x4096 .bf16 :=
  truncf .bf16 (concatenate S3x1024x4096 0 [⟨S1x1024x4096, broadcastInDim S1x1024x4096 ![1, 2] bcast_S1024x4096_S1x1024x4096_1_2 (refBlock ids own sib 0 slices_S8_S1_0)⟩, ⟨S1x1024x4096, broadcastInDim S1x1024x4096 ![1, 2] bcast_S1024x4096_S1x1024x4096_1_2 (refBlock ids own sib 1 slices_S8_S1_1)⟩, ⟨S1x1024x4096, broadcastInDim S1x1024x4096 ![1, 2] bcast_S1024x4096_S1x1024x4096_1_2 (refBlock ids own sib 2 slices_S8_S1_2)⟩] concatenates_S1x1024x4096_S1x1024x4096_S1x1024x4096_S3x1024x4096_d0) bitsLt_bf16_f32

/-- The named block's entry. -/
theorem own_at (ids : IVec S8 32) (own : FVec Ideal S8x1024x4096 .bf16) (k : Fin 3) (hk : S8.Slices ![k.val] S1) (r : Fin 1024) (q : Fin 4096) : ref_own ids own k.val hk (ix2 r q) = Adamw.pick (Chips.num ids k) (fun d : Fin 8 => own (ix3 d r q)) := by
  have hw := refNum_eq ids k hk ix0
  generalize Chips.num ids k = w at hw
  revert hw
  unfold ref_own
  generalize refNum ids k.val hk = u
  intro hw
  subst hw
  pointwise [Adamw.pick]
  exact Finset.sum_congr rfl fun d _ => Adamw.masked _ _ _ _ Ideal.ofBits_zero_f32

/-- The named block's entry. -/
theorem sib_at (ids : IVec S8 32) (sib : FVec Ideal S4x1024x4096 .bf16) (k : Fin 3) (hk : S8.Slices ![k.val] S1) (r : Fin 1024) (q : Fin 4096) : ref_sib ids sib k.val hk (ix2 r q) = Adamw.pick (Chips.ent ids k) (fun d : Fin 4 => sib (ix3 d r q)) := by
  have hw := refEnt_eq ids k hk ix0
  generalize Chips.ent ids k = w at hw
  revert hw
  unfold ref_sib
  generalize refEnt ids k.val hk = u
  intro hw
  subst hw
  pointwise [Adamw.pick]
  exact Finset.sum_congr rfl fun d _ => Adamw.masked _ _ _ _ Ideal.ofBits_zero_f32

/-- One chip's sum. -/
theorem refBlock_at (ids : IVec S8 32) (own : FVec Ideal S8x1024x4096 .bf16) (sib : FVec Ideal S4x1024x4096 .bf16) (k : Fin 3) (hk : S8.Slices ![k.val] S1) (r : Fin 1024) (q : Fin 4096) : refBlock ids own sib k.val hk (ix2 r q) = sums ids own sib (ix3 k r q) :=
  congrArg₂ (fun x y : EReal => x + y) (own_at ids own k hk r q) (sib_at ids sib k hk r q)

/-- The reference's result is the kernel's. -/
theorem refSums_eq (ids : IVec S8 32) (own : FVec Ideal S8x1024x4096 .bf16) (sib : FVec Ideal S4x1024x4096 .bf16) : refSums ids own sib = sums ids own sib := by
  funext j
  obtain ⟨k, r, q, rfl⟩ : ∃ (k : Fin 3) (r : Fin 1024) (q : Fin 4096), j = ix3 k r q := ⟨j 0, j 1, j 2, by funext a; fin_cases a <;> rfl⟩
  unfold refSums
  pointwise
  fin_cases k
  · exact refBlock_at ids own sib 0 slices_S8_S1_0 r q
  · exact refBlock_at ids own sib 1 slices_S8_S1_1 r q
  · exact refBlock_at ids own sib 2 slices_S8_S1_2 r q

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v67) = refSums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨(h c).1.trans (by rfl), (h c).2⟩) (Value.run m ρ)

end Cert.ChipsBOut

end
-- ==== Proof.ChipsBOutClaim.lean ====
/- The claims about what the three other chips are sent of the output projection of mixer B's weight's gradient. -/
module

public import proofs.«01_k».proof.Defs
public import proofs.«01_k».proof.Proof.Gen.Kernel33.Frame
public import proofs.«01_k».proof.Proof.ChipsBOutRef
public import proofs.«01_k».proof.Proof.Finite
public import Idealize.ShloMosaic.Lib.Claim

@[expose] public section

set_option maxRecDepth 200000

noncomputable section

namespace Cert.ChipsBOutClaim

open Idealize.ShloMosaic Idealize.ShloMosaic.Pointwise Idealize.SL.Sem

/-- The precondition's slices fit. -/
instance preFacts : Cert.Pre_b_w_out_chips_named.Facts where
  slices_S8_S1_0 := by decide
  shapeCasts_S1_S_ := by decide
  slices_S8_S1_1 := by decide
  slices_S8_S1_2 := by decide
  slices_S8_S1_3 := by decide

/-- Where the precondition holds, the table's entries are blocks' numbers. -/
theorem lt_of_pre {F : FTy → Type} [FloatOps F] (ids : IVec ⟨1, ![8]⟩ 32) (own : FVec F ⟨3, ![8, 1024, 4096]⟩ .bf16) (sib : FVec F ⟨3, ![4, 1024, 4096]⟩ .bf16)
    (h : Cert.Pre_b_w_out_chips_named.fn (F := F) ids own sib = fun _ => 1#1) : (∀ k, (Chips.ent ids k).toNat < 4) ∧ ∀ k, (Chips.num ids k).toNat < 8 := by
  have h1 := congrFun h ix0
  revert h1
  pointwise [Cert.Pre_b_w_out_chips_named.fn, Cert.Pre_b_w_out_chips_named.fn_part1]
  intro h1
  obtain ⟨h2, e3⟩ := Finite.both _ _ h1
  obtain ⟨h3, e2⟩ := Finite.both _ _ h2
  obtain ⟨e0, e1⟩ := Finite.both _ _ h3
  obtain ⟨a0, b0⟩ := Finite.both _ _ e0
  obtain ⟨a1, b1⟩ := Finite.both _ _ e1
  obtain ⟨a2, b2⟩ := Finite.both _ _ e2
  obtain ⟨a3, b3⟩ := Finite.both _ _ e3
  have h4 : ∀ k, (Chips.ent ids k).toNat < 4 := fun k => by
    fin_cases k
    · exact Adamw.toNat_lt _ 4 (by omega) a0 b0
    · exact Adamw.toNat_lt _ 4 (by omega) a1 b1
    · exact Adamw.toNat_lt _ 4 (by omega) a2 b2
  have h8 : ∀ k, (Chips.num ids k).toNat < 8 := fun k => Chips.num_lt ids k (h4 k) (Adamw.toNat_lt _ 2 (by omega) a3 b3)
  exact ⟨⟨h4 0, h4 1, h4 2⟩, h8 0, h8 1, h8 2⟩

/-- Where the precondition holds of `Kernel33`'s arguments, the table names blocks that exist. -/
theorem tbl_Kernel33 (m : (ℓ : Loc Cert.Kernel33.nD Cert.Kernel33.τ Cert.Kernel33.sig) → Buf (Elt Bits) ℓ) (h : Cert.Pre_Kernel33 m) : (∀ k, (Chips.ent (Cert.Kernel33.Gen.tbl m 0) k).toNat < 4) ∧ ∀ k, (Chips.num (Cert.Kernel33.Gen.tbl m 0) k).toNat < 8 := by
  have e : m (((0 : Dev Cert.Kernel33.nD).tc : Thread Cert.Kernel33.nD Cert.Kernel33.τ).loc Cert.Kernel33.main_arg0) = Cert.Kernel33.Gen.tbl m 0 := Cert.Kernel33.Gen.V_pre m 0 0
  rw [← e]
  exact lt_of_pre _ _ _ (h 0)

/-- Such a table is one `Kernel33` accepts. -/
theorem ok_Kernel33 (m : (ℓ : Loc Cert.Kernel33.nD Cert.Kernel33.τ Cert.Kernel33.sig) → Buf (Elt Bits) ℓ) (h : Cert.Pre_Kernel33 m) : Cert.Kernel33.Gen.Ok m :=
  have h := tbl_Kernel33 m h
  ChipsBOut.ok_of (F := Bits) (Cert.Kernel33.Gen.tbl m) h.1 h.2

/-- `Kernel33` runs and leaves its arguments and every counter as they were. -/
theorem quiescentB : Cert.quiescent_Kernel33 := fun m g h => Cert.Kernel33.Gen.frame m g (ok_Kernel33 m h)

/-- Where the precondition holds of `Kernel33Ideal`'s arguments, the table names blocks that exist. -/
theorem tbl_Kernel33Ideal (m : (ℓ : Loc Cert.Kernel33Ideal.nD Cert.Kernel33Ideal.τ Cert.Kernel33Ideal.sig) → Buf (Elt Ideal) ℓ) (h : Cert.Pre_Kernel33Ideal m) : (∀ k, (Chips.ent (Cert.Kernel33Ideal.Gen.tbl m 0) k).toNat < 4) ∧ ∀ k, (Chips.num (Cert.Kernel33Ideal.Gen.tbl m 0) k).toNat < 8 := by
  have e : m (((0 : Dev Cert.Kernel33Ideal.nD).tc : Thread Cert.Kernel33Ideal.nD Cert.Kernel33Ideal.τ).loc Cert.Kernel33Ideal.main_arg0) = Cert.Kernel33Ideal.Gen.tbl m 0 := Cert.Kernel33Ideal.Gen.V_pre m 0 0
  rw [← e]
  exact lt_of_pre _ _ _ (h 0)

/-- Such a table is one `Kernel33Ideal` accepts. -/
theorem ok_Kernel33Ideal (m : (ℓ : Loc Cert.Kernel33Ideal.nD Cert.Kernel33Ideal.τ Cert.Kernel33Ideal.sig) → Buf (Elt Ideal) ℓ) (h : Cert.Pre_Kernel33Ideal m) : Cert.Kernel33Ideal.Gen.Ok m :=
  have h := tbl_Kernel33Ideal m h
  ChipsBOut.ok_of (F := Ideal) (Cert.Kernel33Ideal.Gen.tbl m) h.1 h.2

/-- `Kernel33Ideal` runs and leaves its arguments and every counter as they were. -/
theorem quiescentI : Cert.quiescent_Kernel33Ideal := fun m g h => Cert.Kernel33Ideal.Gen.frame m g (ok_Kernel33Ideal m h)

/-- The reference leaves its arguments as they were and no pending signals. -/
theorem quiescent : Cert.quiescent_Reference33Ideal := by
  intro m g _
  exact (θ_run _ _ _).mono (fun r h => ⟨fun c => (h c).2, sem_eq_zero_of_no_sems (by decide) _⟩) (Cert.Reference33Ideal.Value.run m g)

set_option maxHeartbeats 1600000 in
/-- The kernel and the reference leave the same sums, where the table names blocks that exist. -/
theorem same : Cert.algebraic_Kernel33Ideal_Reference33Ideal := by
  pair_intro
  · run_from Cert.ChipsBOut.run_kernel m g (ok_Kernel33Ideal m hpre) (tbl_Kernel33Ideal m hpre).1 (tbl_Kernel33Ideal m hpre).2
  · run_from Cert.ChipsBOut.run m' g'
    exact Cert.ChipsBOut.refSums_eq _ _ _

end Cert.ChipsBOutClaim

end
-- ==== Proof.ChipsBGrp.lean ====
/- What the three other chips are sent of the grouped projection's weight's gradient. -/
module

public import proofs.«01_k».proof.Proof.Gen.Kernel34Ideal.Frame
public import proofs.«01_k».proof.Proof.ChipsMath
public import Idealize.ShloMosaic.Lib.Pipeline.ValueKit
public import Idealize.ShloMosaic.Lib.Pipeline.Covers

@[expose] public section

set_option maxRecDepth 16384

noncomputable section

namespace Cert.ChipsBGrp

open Cert.Kernel34Ideal Cert.Kernel34Ideal.Gen Idealize.ShloMosaic Idealize.ShloMosaic.TcCoe Idealize.ShloMosaic.Pointwise Idealize.SL.Sem

variable (m : (ℓ : Loc nD τ sig) → Buf (Elt Ideal) ℓ)

/-- The chip that a grid point is about. -/
abbrev chip (i : grid0.Coords) : Fin 3 := ⟨(i 0).val, (i 0).isLt⟩

/-- Block 0's number, as the table gives it. -/
theorem at0 {F : FTy → Type} [FloatOps F] (pf : pre0.Contents (Elt F)) (i : grid0.Coords) : cc0_transform_0 k0_off1_inb numel1_S1 inb_S8_S1_3 pf i = ![(Chips.num (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have h3 : (Rect.unit (s := S8) ![3] S1.size inb_S8_S1_3).emb (Shape.Idx.first (numel1_S1.symm ▸ Nat.one_pos)) = ix1 (3 : Fin 8) := Adamw.emb_first 3 _ _
  have hi : (i 1).val < 8 := (i 1).isLt
  have h32 : (BitVec.ofNat 32 (i 1).val).toNat = (i 1).val := by
    rw [BitVec.toNat_ofNat]; exact Nat.mod_eq_of_lt (by omega)
  show ![(Scalar.addi (Scalar.muli 2#32 (pf 0 ((Rect.unit (s := S8) ![(Scalar.indexCast (BitVec.ofNat 32 (i 0).val)).toNat] S1.size (k0_off1_inb i)).emb (Shape.Idx.first (numel1_S1.symm ▸ Nat.one_pos))))) (pf 0 ((Rect.unit (s := S8) ![3] S1.size inb_S8_S1_3).emb (Shape.Idx.first (numel1_S1.symm ▸ Nat.one_pos))))).toNat, (BitVec.ofNat 32 (i 1).val).toNat, 0] = _
  rw [hx, h3, h32]
  rfl

/-- Block 1's number, as the table gives it. -/
theorem at1 {F : FTy → Type} [FloatOps F] (pf : pre0.Contents (Elt F)) (i : grid0.Coords) : cc0_transform_1 k0_off1_inb numel1_S1 pf i = ![(Chips.ent (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have hi : (i 1).val < 8 := (i 1).isLt
  have h32 : (BitVec.ofNat 32 (i 1).val).toNat = (i 1).val := by
    rw [BitVec.toNat_ofNat]; exact Nat.mod_eq_of_lt (by omega)
  show ![(pf 0 ((Rect.unit (s := S8) ![(Scalar.indexCast (BitVec.ofNat 32 (i 0).val)).toNat] S1.size (k0_off1_inb i)).emb (Shape.Idx.first (numel1_S1.symm ▸ Nat.one_pos)))).toNat, (BitVec.ofNat 32 (i 1).val).toNat, 0] = _
  rw [hx, h32]
  rfl

/-- A table that names blocks that exist is one the call accepts. -/
theorem ok_of {F : FTy → Type} [FloatOps F] (pf : pre0.Contents (Elt F)) (h4 : ∀ k, (Chips.ent (pf 0) k).toNat < 4) (h8 : ∀ k, (Chips.num (pf 0) k).toNat < 8) : ok0 pf := by
  refine ⟨fun i => ?_, fun i => ?_⟩
  · rw [at0]
    have hi : (i 1).val < 8 := (i 1).isLt
    have hk := h8 (chip i)
    refine ⟨fun a => ?_, .inr (.inl (.inr ⟨by decide, rfl, .inl ⟨?_, ?_⟩⟩))⟩
    · fin_cases a
      · show ((Chips.num (pf 0) (chip i)).toNat + 1) * 1 ≤ 8
        omega
      · show ((i 1).val + 1) * 128 ≤ 1024
        omega
      · show (0 + 1) * 2048 ≤ 2048
        omega
    · show 2 ∣ (i 1).val * 128
      omega
    · show 2 ∣ 128
      omega
  · rw [at1]
    have hi : (i 1).val < 8 := (i 1).isLt
    have hk := h4 (chip i)
    refine ⟨fun a => ?_, .inr (.inl (.inr ⟨by decide, rfl, .inl ⟨?_, ?_⟩⟩))⟩
    · fin_cases a
      · show ((Chips.ent (pf 0) (chip i)).toNat + 1) * 1 ≤ 4
        omega
      · show ((i 1).val + 1) * 128 ≤ 1024
        omega
      · show (0 + 1) * 2048 ≤ 2048
        omega
    · show 2 ∣ (i 1).val * 128
      omega
    · show 2 ∣ 128
      omega

/-- The block numbers that no table gives. -/
theorem ixs : ∀ t : Fin grid0.N, cc0_transform_2 (grid0.coords t) = ![t.val / 8, t.val % 8, 0] ∧ (grid0.coords t 0).val = t.val / 8 ∧ (grid0.coords t 1).val = t.val % 8 := by decide +kernel

/-- The chip at point `t`. -/
abbrev of (t : Fin grid0.N) : Fin 3 := ⟨t.val / 8, by have h : t.val < 24 := lt_of_lt_of_eq t.isLt N_0; omega⟩

/-- The array's row that is the block's row `p` at point `t`. -/
abbrev row (t : Fin grid0.N) (p : Fin 128) : Fin 1024 := ⟨t.val % 8 * 128 + p.val, by omega⟩

/-- The result's block at coordinates. -/
theorem emb2 (hO : Ok m) (t : Fin grid0.N) (p : Fin 128) (q : Fin 2048) : (((cfgM m hO).win 2).rect t).emb (ix3 0 p q) = ix3 (of t) (row t p) q := by
  funext a
  refine Fin.ext ((Pipeline.Window.rect_emb_val _ t _ a).trans ?_)
  rw [show ((cfgM m hO).win 2).index t = ![t.val / 8, t.val % 8, 0] from (ixs t).1]
  fin_cases a
  · show t.val / 8 * 1 + 0 = t.val / 8
    omega
  · rfl
  · show 0 * 2048 + q.val = q.val
    omega

/-- Window 0's block at coordinates: the block of the table's number. -/
theorem emb0 (hO : Ok m) (h : ∀ k, (Chips.num (tbl m 0) k).toNat < 8) (t : Fin grid0.N) (p : Fin 128) (q : Fin 2048) : (((cfgM m hO).win 0).rect t).emb (ix3 0 p q) = ix3 (⟨(Chips.num (tbl m 0) (of t)).toNat, h _⟩ : Fin 8) (row t p) q := by
  have hk : chip (grid0.coords t) = of t := Fin.ext (ixs t).2.1
  funext a
  refine Fin.ext ((Pipeline.Window.rect_emb_val _ t _ a).trans ?_)
  rw [show ((cfgM m hO).win 0).index t = ![(Chips.num (tbl m 0) (of t)).toNat, t.val % 8, 0] from (at0 (tbl m) (grid0.coords t)).trans (by rw [(ixs t).2.2, hk])]
  fin_cases a
  · show (Chips.num (tbl m 0) (of t)).toNat * 1 + 0 = (Chips.num (tbl m 0) (of t)).toNat
    omega
  · rfl
  · show 0 * 2048 + q.val = q.val
    omega

/-- Window 1's block at coordinates: the block of the table's number. -/
theorem emb1 (hO : Ok m) (h : ∀ k, (Chips.ent (tbl m 0) k).toNat < 4) (t : Fin grid0.N) (p : Fin 128) (q : Fin 2048) : (((cfgM m hO).win 1).rect t).emb (ix3 0 p q) = ix3 (⟨(Chips.ent (tbl m 0) (of t)).toNat, h _⟩ : Fin 4) (row t p) q := by
  have hk : chip (grid0.coords t) = of t := Fin.ext (ixs t).2.1
  funext a
  refine Fin.ext ((Pipeline.Window.rect_emb_val _ t _ a).trans ?_)
  rw [show ((cfgM m hO).win 1).index t = ![(Chips.ent (tbl m 0) (of t)).toNat, t.val % 8, 0] from (at1 (tbl m) (grid0.coords t)).trans (by rw [(ixs t).2.2, hk])]
  fin_cases a
  · show (Chips.ent (tbl m 0) (of t)).toNat * 1 + 0 = (Chips.ent (tbl m 0) (of t)).toNat
    omega
  · rfl
  · show 0 * 2048 + q.val = q.val
    omega

/-- Every block of the result is written. -/
theorem covers2 (hO : Ok m) : ((cfgM m hO).win 2).Covers := by
  refine Pipeline.Window.covers_of_index_surj _ rfl (show ∀ a : Fin 3, 0 < (![1, 128, 2048] : Fin 3 → ℕ) a by decide) (fun β => ?_)
  have hn : ∀ a : Fin 3, ((cfgM m hO).win 2).nblk a = (![3, 8, 1] : Fin 3 → ℕ) a := by
    intro a
    fin_cases a
    · show (3 + 1 - 1) / 1 = 3
      rfl
    · show (1024 + 128 - 1) / 128 = 8
      rfl
    · show (2048 + 2048 - 1) / 2048 = 1
      rfl
  obtain ⟨t, hlt, ht⟩ := Chips.point_of (n := 8) (fun a : Fin 3 => (β a).val) fun a => lt_of_lt_of_eq (β a).isLt (hn a)
  exact ⟨⟨t, lt_of_lt_of_eq hlt N_0.symm⟩, fun a => (congrFun (ixs ⟨t, lt_of_lt_of_eq hlt N_0.symm⟩).1 a).trans (ht a)⟩

/-- The result's contents after a point. -/
theorem out2_at (hO : Ok m) (c : Dev nD) (t : Fin grid0.N) : outsAt0 m hO c t = k0_pay1 (F := Ideal) (iblk m hO c 0 t) (iblk m hO c 1 t) := by
  unfold outsAt0
  frame_out
  rw [(hs0_0 m hO t).read_unread (iblk m hO c 0 t), (hs0_1 m hO t).read_unread (iblk m hO c 1 t)]

/-- What each of the three chips is sent: the sum of the two devices' blocks that the table names for it. -/
def sums (ids : IVec ⟨1, ![8]⟩ 32) (own : FVec Ideal ⟨3, ![8, 1024, 2048]⟩ .bf16) (sib : FVec Ideal ⟨3, ![4, 1024, 2048]⟩ .bf16) : FVec Ideal ⟨3, ![3, 1024, 2048]⟩ .bf16 := fun j =>
  Adamw.pick (Chips.num ids (j 0)) (fun d : Fin 8 => own (ix3 d (j 1) (j 2))) + Adamw.pick (Chips.ent ids (j 0)) (fun d : Fin 4 => sib (ix3 d (j 1) (j 2)))

/-- A block's position is a row and a column. -/
theorem split (y : S1x128x2048.Idx) : ∃ (p : Fin 128) (q : Fin 2048), y = ix3 0 p q := ⟨y 1, y 2, by
  funext a
  match a with
  | ⟨0, _⟩ => exact Subsingleton.elim (α := Fin 1) _ _
  | ⟨1, _⟩ => rfl
  | ⟨2, _⟩ => rfl⟩

/-- The sum of two blocks' entries. -/
theorem pay_at (a b : Vec Ideal S1x128x2048 .bf16) (p : Fin 128) (q : Fin 2048) : k0_pay1 (F := Ideal) a b (ix3 0 p q) = (show EReal from a (ix3 0 p q)) + (show EReal from b (ix3 0 p q)) := by
  pointwise [k0_pay1]

/-- What the run leaves in the result. -/
theorem final (hO : Ok m) (h4 : ∀ k, (Chips.ent (tbl m 0) k).toNat < 4) (h8 : ∀ k, (Chips.num (tbl m 0) k).toNat < 8) (c : Dev nD) : (dats m hO 0 c).arrAt 2 (cfgM m hO).N = sums (m (c.tc.loc main_arg0)) (m (c.tc.loc main_arg1)) (m (c.tc.loc main_arg2)) := by
  refine (dats m hO 0 c).arrAt_eq_of_covers 2 _ (covers2 m hO) fun t _ y => ?_
  obtain ⟨p, q, rfl⟩ := split y
  refine Eq.trans ?_ (congrArg _ (emb2 m hO t p q)).symm
  refine (congrFun ((after0_2 m hO c t).trans (out2_at m hO c t)) (ix3 0 p q : S1x128x2048.Idx)).trans ?_
  refine (pay_at _ _ p q).trans ?_
  have e0 : iblk m hO c 0 t (ix3 0 p q : S1x128x2048.Idx) = m (c.tc.loc main_arg1) (ix3 (⟨(Chips.num (tbl m 0) (of t)).toNat, h8 _⟩ : Fin 8) (row t p) q) := congrArg (m (c.tc.loc main_arg1)) (emb0 m hO h8 t p q)
  have e1 : iblk m hO c 1 t (ix3 0 p q : S1x128x2048.Idx) = m (c.tc.loc main_arg2) (ix3 (⟨(Chips.ent (tbl m 0) (of t)).toNat, h4 _⟩ : Fin 4) (row t p) q) := congrArg (m (c.tc.loc main_arg2)) (emb1 m hO h4 t p q)
  have et : m (c.tc.loc main_arg0) = tbl m 0 := V_pre m c 0
  show _ = Adamw.pick (Chips.num (m (c.tc.loc main_arg0)) (of t)) (fun d : Fin 8 => m (c.tc.loc main_arg1) (ix3 d (row t p) q)) + Adamw.pick (Chips.ent (m (c.tc.loc main_arg0)) (of t)) (fun d : Fin 4 => m (c.tc.loc main_arg2) (ix3 d (row t p) q))
  rw [et, Adamw.pick_eq (by omega) _ (h8 (of t)), Adamw.pick_eq (by omega) _ (h4 (of t)), e0, e1]

/-- The whole run: the result, and the arguments as they were. -/
theorem run_kernel (ρ : Dev nD → PrngReg) (hO : Ok m) (h4 : ∀ k, (Chips.ent (tbl m 0) k).toNat < 4) (h8 : ∀ k, (Chips.num (tbl m 0) k).toNat < 8) :
    θ_run defs (onTc (τ := τ) (main (F := Ideal))) ⟨m, fun _ => 0, ρ⟩ fun r => ∀ c : Dev nD,
      r.2.mem (c.tc.loc main_v0) = sums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨((h.1 c).1 2).trans (final m hO h4 h8 c), h.2 c⟩)
    (θ_run_and (run_main m ρ hO) (unchanged m ρ hO))

end Cert.ChipsBGrp

end
-- ==== Proof.ChipsBGrpRef.lean ====
/- The reference sends the three other chips the same sums of the grouped projection's weight's gradient. -/
module

public import proofs.«01_k».proof.Proof.Gen.Reference34Ideal.Run
public import proofs.«01_k».proof.Proof.ChipsBGrp

@[expose] public section

set_option maxRecDepth 16384

noncomputable section

namespace Cert.ChipsBGrp

open Cert.Reference34Ideal Cert.Reference34Ideal.Gen Idealize.ShloMosaic Idealize.ShloMosaic.TcCoe Idealize.ShloMosaic.Pointwise Idealize.SL.Sem

variable (m : (ℓ : Loc nD τ sig) → Buf (Elt Ideal) ℓ)

/-- The reference's entry for a chip. -/
def refEnt (ids : IVec S8 32) (k : ℕ) (hk : S8.Slices ![k] S1) : IVec S_ 32 := shapeCast S_ (extractStridedSlice S1 ![k] ids hk) shapeCasts_S1_S_

theorem refEnt_eq (ids : IVec S8 32) (k : Fin 3) (hk : S8.Slices ![k.val] S1) (j : S_.Idx) : refEnt ids k.val hk j = Chips.ent ids k := by
  unfold refEnt Chips.ent
  obtain rfl : j = ix0 := funext fun a => a.elim0
  pointwise
  try rfl

/-- The reference's number of the device. -/
def refNum (ids : IVec S8 32) (k : ℕ) (hk : S8.Slices ![k] S1) : IVec S_ 32 :=
  addi (muli (constantI S_ 32 2#32) (refEnt ids k hk)) (shapeCast S_ (extractStridedSlice S1 ![3] ids slices_S8_S1_3) shapeCasts_S1_S_)

theorem refNum_eq (ids : IVec S8 32) (k : Fin 3) (hk : S8.Slices ![k.val] S1) (j : S_.Idx) : refNum ids k.val hk j = Chips.num ids k := by
  unfold refNum Chips.num
  rw [← refEnt_eq ids k hk j]
  obtain rfl : j = ix0 := funext fun a => a.elim0
  pointwise
  try rfl

/-- The reference's block of the devices' gradients: a sum of which the table keeps one term. -/
def ref_own (ids : IVec S8 32) (own : FVec Ideal S8x1024x2048 .bf16) (k : ℕ) (hk : S8.Slices ![k] S1) : FVec Ideal S1024x2048 .f32 :=
  Host.reduceAdd (select (cmpi .eq (iotaInDim S8x1024x2048 32 0) (broadcastInDim S8x1024x2048 ![] bcast_S_S8x1024x2048 (refNum ids k hk))) (extf .f32 own bitsLt_bf16_f32) (broadcastInDim S8x1024x2048 ![] bcast_S_S8x1024x2048 (id (constant S_ .f32 0x00000000#32)))) (constant S_ .f32 0x00000000#32) reducesTo_S8x1024x2048_S1024x2048_d0 h_S_

/-- The reference's block of the siblings' gradients. -/
def ref_sib (ids : IVec S8 32) (sib : FVec Ideal S4x1024x2048 .bf16) (k : ℕ) (hk : S8.Slices ![k] S1) : FVec Ideal S1024x2048 .f32 :=
  Host.reduceAdd (select (cmpi .eq (iotaInDim S4x1024x2048 32 0) (broadcastInDim S4x1024x2048 ![] bcast_S_S4x1024x2048 (refEnt ids k hk))) (extf .f32 sib bitsLt_bf16_f32) (broadcastInDim S4x1024x2048 ![] bcast_S_S4x1024x2048 (id (constant S_ .f32 0x00000000#32)))) (constant S_ .f32 0x00000000#32) reducesTo_S4x1024x2048_S1024x2048_d0 h_S_

/-- The reference's sum for one chip. -/
def refBlock (ids : IVec S8 32) (own : FVec Ideal S8x1024x2048 .bf16) (sib : FVec Ideal S4x1024x2048 .bf16) (k : ℕ) (hk : S8.Slices ![k] S1) : FVec Ideal S1024x2048 .f32 := addf (ref_own ids own k hk) (ref_sib ids sib k hk)

/-- The reference's result. -/
def refSums (ids : IVec S8 32) (own : FVec Ideal S8x1024x2048 .bf16) (sib : FVec Ideal S4x1024x2048 .bf16) : FVec Ideal S3x1024x2048 .bf16 :=
  truncf .bf16 (concatenate S3x1024x2048 0 [⟨S1x1024x2048, broadcastInDim S1x1024x2048 ![1, 2] bcast_S1024x2048_S1x1024x2048_1_2 (refBlock ids own sib 0 slices_S8_S1_0)⟩, ⟨S1x1024x2048, broadcastInDim S1x1024x2048 ![1, 2] bcast_S1024x2048_S1x1024x2048_1_2 (refBlock ids own sib 1 slices_S8_S1_1)⟩, ⟨S1x1024x2048, broadcastInDim S1x1024x2048 ![1, 2] bcast_S1024x2048_S1x1024x2048_1_2 (refBlock ids own sib 2 slices_S8_S1_2)⟩] concatenates_S1x1024x2048_S1x1024x2048_S1x1024x2048_S3x1024x2048_d0) bitsLt_bf16_f32

/-- The named block's entry. -/
theorem own_at (ids : IVec S8 32) (own : FVec Ideal S8x1024x2048 .bf16) (k : Fin 3) (hk : S8.Slices ![k.val] S1) (r : Fin 1024) (q : Fin 2048) : ref_own ids own k.val hk (ix2 r q) = Adamw.pick (Chips.num ids k) (fun d : Fin 8 => own (ix3 d r q)) := by
  have hw := refNum_eq ids k hk ix0
  generalize Chips.num ids k = w at hw
  revert hw
  unfold ref_own
  generalize refNum ids k.val hk = u
  intro hw
  subst hw
  pointwise [Adamw.pick]
  exact Finset.sum_congr rfl fun d _ => Adamw.masked _ _ _ _ Ideal.ofBits_zero_f32

/-- The named block's entry. -/
theorem sib_at (ids : IVec S8 32) (sib : FVec Ideal S4x1024x2048 .bf16) (k : Fin 3) (hk : S8.Slices ![k.val] S1) (r : Fin 1024) (q : Fin 2048) : ref_sib ids sib k.val hk (ix2 r q) = Adamw.pick (Chips.ent ids k) (fun d : Fin 4 => sib (ix3 d r q)) := by
  have hw := refEnt_eq ids k hk ix0
  generalize Chips.ent ids k = w at hw
  revert hw
  unfold ref_sib
  generalize refEnt ids k.val hk = u
  intro hw
  subst hw
  pointwise [Adamw.pick]
  exact Finset.sum_congr rfl fun d _ => Adamw.masked _ _ _ _ Ideal.ofBits_zero_f32

/-- One chip's sum. -/
theorem refBlock_at (ids : IVec S8 32) (own : FVec Ideal S8x1024x2048 .bf16) (sib : FVec Ideal S4x1024x2048 .bf16) (k : Fin 3) (hk : S8.Slices ![k.val] S1) (r : Fin 1024) (q : Fin 2048) : refBlock ids own sib k.val hk (ix2 r q) = sums ids own sib (ix3 k r q) :=
  congrArg₂ (fun x y : EReal => x + y) (own_at ids own k hk r q) (sib_at ids sib k hk r q)

/-- The reference's result is the kernel's. -/
theorem refSums_eq (ids : IVec S8 32) (own : FVec Ideal S8x1024x2048 .bf16) (sib : FVec Ideal S4x1024x2048 .bf16) : refSums ids own sib = sums ids own sib := by
  funext j
  obtain ⟨k, r, q, rfl⟩ : ∃ (k : Fin 3) (r : Fin 1024) (q : Fin 2048), j = ix3 k r q := ⟨j 0, j 1, j 2, by funext a; fin_cases a <;> rfl⟩
  unfold refSums
  pointwise
  fin_cases k
  · exact refBlock_at ids own sib 0 slices_S8_S1_0 r q
  · exact refBlock_at ids own sib 1 slices_S8_S1_1 r q
  · exact refBlock_at ids own sib 2 slices_S8_S1_2 r q

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v67) = refSums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨(h c).1.trans (by rfl), (h c).2⟩) (Value.run m ρ)

end Cert.ChipsBGrp

end
-- ==== Proof.ChipsBGrpClaim.lean ====
/- The claims about what the three other chips are sent of the grouped projection's weight's gradient. -/
module

public import proofs.«01_k».proof.Defs
public import proofs.«01_k».proof.Proof.Gen.Kernel34.Frame
public import proofs.«01_k».proof.Proof.ChipsBGrpRef
public import proofs.«01_k».proof.Proof.Finite
public import Idealize.ShloMosaic.Lib.Claim

@[expose] public section

set_option maxRecDepth 200000

noncomputable section

namespace Cert.ChipsBGrpClaim

open Idealize.ShloMosaic Idealize.ShloMosaic.Pointwise Idealize.SL.Sem

/-- The precondition's slices fit. -/
instance preFacts : Cert.Pre_b_w_grp_chips_named.Facts where
  slices_S8_S1_0 := by decide
  shapeCasts_S1_S_ := by decide
  slices_S8_S1_1 := by decide
  slices_S8_S1_2 := by decide
  slices_S8_S1_3 := by decide

/-- Where the precondition holds, the table's entries are blocks' numbers. -/
theorem lt_of_pre {F : FTy → Type} [FloatOps F] (ids : IVec ⟨1, ![8]⟩ 32) (own : FVec F ⟨3, ![8, 1024, 2048]⟩ .bf16) (sib : FVec F ⟨3, ![4, 1024, 2048]⟩ .bf16)
    (h : Cert.Pre_b_w_grp_chips_named.fn (F := F) ids own sib = fun _ => 1#1) : (∀ k, (Chips.ent ids k).toNat < 4) ∧ ∀ k, (Chips.num ids k).toNat < 8 := by
  have h1 := congrFun h ix0
  revert h1
  pointwise [Cert.Pre_b_w_grp_chips_named.fn, Cert.Pre_b_w_grp_chips_named.fn_part1]
  intro h1
  obtain ⟨h2, e3⟩ := Finite.both _ _ h1
  obtain ⟨h3, e2⟩ := Finite.both _ _ h2
  obtain ⟨e0, e1⟩ := Finite.both _ _ h3
  obtain ⟨a0, b0⟩ := Finite.both _ _ e0
  obtain ⟨a1, b1⟩ := Finite.both _ _ e1
  obtain ⟨a2, b2⟩ := Finite.both _ _ e2
  obtain ⟨a3, b3⟩ := Finite.both _ _ e3
  have h4 : ∀ k, (Chips.ent ids k).toNat < 4 := fun k => by
    fin_cases k
    · exact Adamw.toNat_lt _ 4 (by omega) a0 b0
    · exact Adamw.toNat_lt _ 4 (by omega) a1 b1
    · exact Adamw.toNat_lt _ 4 (by omega) a2 b2
  have h8 : ∀ k, (Chips.num ids k).toNat < 8 := fun k => Chips.num_lt ids k (h4 k) (Adamw.toNat_lt _ 2 (by omega) a3 b3)
  exact ⟨⟨h4 0, h4 1, h4 2⟩, h8 0, h8 1, h8 2⟩

/-- Where the precondition holds of `Kernel34`'s arguments, the table names blocks that exist. -/
theorem tbl_Kernel34 (m : (ℓ : Loc Cert.Kernel34.nD Cert.Kernel34.τ Cert.Kernel34.sig) → Buf (Elt Bits) ℓ) (h : Cert.Pre_Kernel34 m) : (∀ k, (Chips.ent (Cert.Kernel34.Gen.tbl m 0) k).toNat < 4) ∧ ∀ k, (Chips.num (Cert.Kernel34.Gen.tbl m 0) k).toNat < 8 := by
  have e : m (((0 : Dev Cert.Kernel34.nD).tc : Thread Cert.Kernel34.nD Cert.Kernel34.τ).loc Cert.Kernel34.main_arg0) = Cert.Kernel34.Gen.tbl m 0 := Cert.Kernel34.Gen.V_pre m 0 0
  rw [← e]
  exact lt_of_pre _ _ _ (h 0)

/-- Such a table is one `Kernel34` accepts. -/
theorem ok_Kernel34 (m : (ℓ : Loc Cert.Kernel34.nD Cert.Kernel34.τ Cert.Kernel34.sig) → Buf (Elt Bits) ℓ) (h : Cert.Pre_Kernel34 m) : Cert.Kernel34.Gen.Ok m :=
  have h := tbl_Kernel34 m h
  ChipsBGrp.ok_of (F := Bits) (Cert.Kernel34.Gen.tbl m) h.1 h.2

/-- `Kernel34` runs and leaves its arguments and every counter as they were. -/
theorem quiescentB : Cert.quiescent_Kernel34 := fun m g h => Cert.Kernel34.Gen.frame m g (ok_Kernel34 m h)

/-- Where the precondition holds of `Kernel34Ideal`'s arguments, the table names blocks that exist. -/
theorem tbl_Kernel34Ideal (m : (ℓ : Loc Cert.Kernel34Ideal.nD Cert.Kernel34Ideal.τ Cert.Kernel34Ideal.sig) → Buf (Elt Ideal) ℓ) (h : Cert.Pre_Kernel34Ideal m) : (∀ k, (Chips.ent (Cert.Kernel34Ideal.Gen.tbl m 0) k).toNat < 4) ∧ ∀ k, (Chips.num (Cert.Kernel34Ideal.Gen.tbl m 0) k).toNat < 8 := by
  have e : m (((0 : Dev Cert.Kernel34Ideal.nD).tc : Thread Cert.Kernel34Ideal.nD Cert.Kernel34Ideal.τ).loc Cert.Kernel34Ideal.main_arg0) = Cert.Kernel34Ideal.Gen.tbl m 0 := Cert.Kernel34Ideal.Gen.V_pre m 0 0
  rw [← e]
  exact lt_of_pre _ _ _ (h 0)

/-- Such a table is one `Kernel34Ideal` accepts. -/
theorem ok_Kernel34Ideal (m : (ℓ : Loc Cert.Kernel34Ideal.nD Cert.Kernel34Ideal.τ Cert.Kernel34Ideal.sig) → Buf (Elt Ideal) ℓ) (h : Cert.Pre_Kernel34Ideal m) : Cert.Kernel34Ideal.Gen.Ok m :=
  have h := tbl_Kernel34Ideal m h
  ChipsBGrp.ok_of (F := Ideal) (Cert.Kernel34Ideal.Gen.tbl m) h.1 h.2

/-- `Kernel34Ideal` runs and leaves its arguments and every counter as they were. -/
theorem quiescentI : Cert.quiescent_Kernel34Ideal := fun m g h => Cert.Kernel34Ideal.Gen.frame m g (ok_Kernel34Ideal m h)

/-- The reference leaves its arguments as they were and no pending signals. -/
theorem quiescent : Cert.quiescent_Reference34Ideal := by
  intro m g _
  exact (θ_run _ _ _).mono (fun r h => ⟨fun c => (h c).2, sem_eq_zero_of_no_sems (by decide) _⟩) (Cert.Reference34Ideal.Value.run m g)

set_option maxHeartbeats 1600000 in
/-- The kernel and the reference leave the same sums, where the table names blocks that exist. -/
theorem same : Cert.algebraic_Kernel34Ideal_Reference34Ideal := by
  pair_intro
  · run_from Cert.ChipsBGrp.run_kernel m g (ok_Kernel34Ideal m hpre) (tbl_Kernel34Ideal m hpre).1 (tbl_Kernel34Ideal m hpre).2
  · run_from Cert.ChipsBGrp.run m' g'
    exact Cert.ChipsBGrp.refSums_eq _ _ _

end Cert.ChipsBGrpClaim

end
-- ==== Proof.ChipsBIn.lean ====
/- What the three other chips are sent of mixer B's input projection's weight's gradient. -/
module

public import proofs.«01_k».proof.Proof.Gen.Kernel35Ideal.Frame
public import proofs.«01_k».proof.Proof.ChipsMath
public import Idealize.ShloMosaic.Lib.Pipeline.ValueKit
public import Idealize.ShloMosaic.Lib.Pipeline.Covers

@[expose] public section

set_option maxRecDepth 16384

noncomputable section

namespace Cert.ChipsBIn

open Cert.Kernel35Ideal Cert.Kernel35Ideal.Gen Idealize.ShloMosaic Idealize.ShloMosaic.TcCoe Idealize.ShloMosaic.Pointwise Idealize.SL.Sem

variable (m : (ℓ : Loc nD τ sig) → Buf (Elt Ideal) ℓ)

/-- The chip that a grid point is about. -/
abbrev chip (i : grid0.Coords) : Fin 3 := ⟨(i 0).val, (i 0).isLt⟩

/-- Block 0's number, as the table gives it. -/
theorem at0 {F : FTy → Type} [FloatOps F] (pf : pre0.Contents (Elt F)) (i : grid0.Coords) : cc0_transform_0 k0_off1_inb numel1_S1 inb_S8_S1_3 pf i = ![(Chips.num (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have h3 : (Rect.unit (s := S8) ![3] S1.size inb_S8_S1_3).emb (Shape.Idx.first (numel1_S1.symm ▸ Nat.one_pos)) = ix1 (3 : Fin 8) := Adamw.emb_first 3 _ _
  have hi : (i 1).val < 32 := (i 1).isLt
  have h32 : (BitVec.ofNat 32 (i 1).val).toNat = (i 1).val := by
    rw [BitVec.toNat_ofNat]; exact Nat.mod_eq_of_lt (by omega)
  show ![(Scalar.addi (Scalar.muli 2#32 (pf 0 ((Rect.unit (s := S8) ![(Scalar.indexCast (BitVec.ofNat 32 (i 0).val)).toNat] S1.size (k0_off1_inb i)).emb (Shape.Idx.first (numel1_S1.symm ▸ Nat.one_pos))))) (pf 0 ((Rect.unit (s := S8) ![3] S1.size inb_S8_S1_3).emb (Shape.Idx.first (numel1_S1.symm ▸ Nat.one_pos))))).toNat, (BitVec.ofNat 32 (i 1).val).toNat, 0] = _
  rw [hx, h3, h32]
  rfl

/-- Block 1's number, as the table gives it. -/
theorem at1 {F : FTy → Type} [FloatOps F] (pf : pre0.Contents (Elt F)) (i : grid0.Coords) : cc0_transform_1 k0_off1_inb numel1_S1 pf i = ![(Chips.ent (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have hi : (i 1).val < 32 := (i 1).isLt
  have h32 : (BitVec.ofNat 32 (i 1).val).toNat = (i 1).val := by
    rw [BitVec.toNat_ofNat]; exact Nat.mod_eq_of_lt (by omega)
  show ![(pf 0 ((Rect.unit (s := S8) ![(Scalar.indexCast (BitVec.ofNat 32 (i 0).val)).toNat] S1.size (k0_off1_inb i)).emb (Shape.Idx.first (numel1_S1.symm ▸ Nat.one_pos)))).toNat, (BitVec.ofNat 32 (i 1).val).toNat, 0] = _
  rw [hx, h32]
  rfl

/-- A table that names blocks that exist is one the call accepts. -/
theorem ok_of {F : FTy → Type} [FloatOps F] (pf : pre0.Contents (Elt F)) (h4 : ∀ k, (Chips.ent (pf 0) k).toNat < 4) (h8 : ∀ k, (Chips.num (pf 0) k).toNat < 8) : ok0 pf := by
  refine ⟨fun i => ?_, fun i => ?_⟩
  · rw [at0]
    have hi : (i 1).val < 32 := (i 1).isLt
    have hk := h8 (chip i)
    refine ⟨fun a => ?_, .inr (.inl (.inr ⟨by decide, rfl, .inl ⟨?_, ?_⟩⟩))⟩
    · fin_cases a
      · show ((Chips.num (pf 0) (chip i)).toNat + 1) * 1 ≤ 8
        omega
      · show ((i 1).val + 1) * 128 ≤ 4096
        omega
      · show (0 + 1) * 2048 ≤ 2048
        omega
    · show 2 ∣ (i 1).val * 128
      omega
    · show 2 ∣ 128
      omega
  · rw [at1]
    have hi : (i 1).val < 32 := (i 1).isLt
    have hk := h4 (chip i)
    refine ⟨fun a => ?_, .inr (.inl (.inr ⟨by decide, rfl, .inl ⟨?_, ?_⟩⟩))⟩
    · fin_cases a
      · show ((Chips.ent (pf 0) (chip i)).toNat + 1) * 1 ≤ 4
        omega
      · show ((i 1).val + 1) * 128 ≤ 4096
        omega
      · show (0 + 1) * 2048 ≤ 2048
        omega
    · show 2 ∣ (i 1).val * 128
      omega
    · show 2 ∣ 128
      omega

/-- The block numbers that no table gives. -/
theorem ixs : ∀ t : Fin grid0.N, cc0_transform_2 (grid0.coords t) = ![t.val / 32, t.val % 32, 0] ∧ (grid0.coords t 0).val = t.val / 32 ∧ (grid0.coords t 1).val = t.val % 32 := by decide +kernel

/-- The chip at point `t`. -/
abbrev of (t : Fin grid0.N) : Fin 3 := ⟨t.val / 32, by have h : t.val < 96 := lt_of_lt_of_eq t.isLt N_0; omega⟩

/-- The array's row that is the block's row `p` at point `t`. -/
abbrev row (t : Fin grid0.N) (p : Fin 128) : Fin 4096 := ⟨t.val % 32 * 128 + p.val, by omega⟩

/-- The result's block at coordinates. -/
theorem emb2 (hO : Ok m) (t : Fin grid0.N) (p : Fin 128) (q : Fin 2048) : (((cfgM m hO).win 2).rect t).emb (ix3 0 p q) = ix3 (of t) (row t p) q := by
  funext a
  refine Fin.ext ((Pipeline.Window.rect_emb_val _ t _ a).trans ?_)
  rw [show ((cfgM m hO).win 2).index t = ![t.val / 32, t.val % 32, 0] from (ixs t).1]
  fin_cases a
  · show t.val / 32 * 1 + 0 = t.val / 32
    omega
  · rfl
  · show 0 * 2048 + q.val = q.val
    omega

/-- Window 0's block at coordinates: the block of the table's number. -/
theorem emb0 (hO : Ok m) (h : ∀ k, (Chips.num (tbl m 0) k).toNat < 8) (t : Fin grid0.N) (p : Fin 128) (q : Fin 2048) : (((cfgM m hO).win 0).rect t).emb (ix3 0 p q) = ix3 (⟨(Chips.num (tbl m 0) (of t)).toNat, h _⟩ : Fin 8) (row t p) q := by
  have hk : chip (grid0.coords t) = of t := Fin.ext (ixs t).2.1
  funext a
  refine Fin.ext ((Pipeline.Window.rect_emb_val _ t _ a).trans ?_)
  rw [show ((cfgM m hO).win 0).index t = ![(Chips.num (tbl m 0) (of t)).toNat, t.val % 32, 0] from (at0 (tbl m) (grid0.coords t)).trans (by rw [(ixs t).2.2, hk])]
  fin_cases a
  · show (Chips.num (tbl m 0) (of t)).toNat * 1 + 0 = (Chips.num (tbl m 0) (of t)).toNat
    omega
  · rfl
  · show 0 * 2048 + q.val = q.val
    omega

/-- Window 1's block at coordinates: the block of the table's number. -/
theorem emb1 (hO : Ok m) (h : ∀ k, (Chips.ent (tbl m 0) k).toNat < 4) (t : Fin grid0.N) (p : Fin 128) (q : Fin 2048) : (((cfgM m hO).win 1).rect t).emb (ix3 0 p q) = ix3 (⟨(Chips.ent (tbl m 0) (of t)).toNat, h _⟩ : Fin 4) (row t p) q := by
  have hk : chip (grid0.coords t) = of t := Fin.ext (ixs t).2.1
  funext a
  refine Fin.ext ((Pipeline.Window.rect_emb_val _ t _ a).trans ?_)
  rw [show ((cfgM m hO).win 1).index t = ![(Chips.ent (tbl m 0) (of t)).toNat, t.val % 32, 0] from (at1 (tbl m) (grid0.coords t)).trans (by rw [(ixs t).2.2, hk])]
  fin_cases a
  · show (Chips.ent (tbl m 0) (of t)).toNat * 1 + 0 = (Chips.ent (tbl m 0) (of t)).toNat
    omega
  · rfl
  · show 0 * 2048 + q.val = q.val
    omega

/-- Every block of the result is written. -/
theorem covers2 (hO : Ok m) : ((cfgM m hO).win 2).Covers := by
  refine Pipeline.Window.covers_of_index_surj _ rfl (show ∀ a : Fin 3, 0 < (![1, 128, 2048] : Fin 3 → ℕ) a by decide) (fun β => ?_)
  have hn : ∀ a : Fin 3, ((cfgM m hO).win 2).nblk a = (![3, 32, 1] : Fin 3 → ℕ) a := by
    intro a
    fin_cases a
    · show (3 + 1 - 1) / 1 = 3
      rfl
    · show (4096 + 128 - 1) / 128 = 32
      rfl
    · show (2048 + 2048 - 1) / 2048 = 1
      rfl
  obtain ⟨t, hlt, ht⟩ := Chips.point_of (n := 32) (fun a : Fin 3 => (β a).val) fun a => lt_of_lt_of_eq (β a).isLt (hn a)
  exact ⟨⟨t, lt_of_lt_of_eq hlt N_0.symm⟩, fun a => (congrFun (ixs ⟨t, lt_of_lt_of_eq hlt N_0.symm⟩).1 a).trans (ht a)⟩

/-- The result's contents after a point. -/
theorem out2_at (hO : Ok m) (c : Dev nD) (t : Fin grid0.N) : outsAt0 m hO c t = k0_pay1 (F := Ideal) (iblk m hO c 0 t) (iblk m hO c 1 t) := by
  unfold outsAt0
  frame_out
  rw [(hs0_0 m hO t).read_unread (iblk m hO c 0 t), (hs0_1 m hO t).read_unread (iblk m hO c 1 t)]

/-- What each of the three chips is sent: the sum of the two devices' blocks that the table names for it. -/
def sums (ids : IVec ⟨1, ![8]⟩ 32) (own : FVec Ideal ⟨3, ![8, 4096, 2048]⟩ .bf16) (sib : FVec Ideal ⟨3, ![4, 4096, 2048]⟩ .bf16) : FVec Ideal ⟨3, ![3, 4096, 2048]⟩ .bf16 := fun j =>
  Adamw.pick (Chips.num ids (j 0)) (fun d : Fin 8 => own (ix3 d (j 1) (j 2))) + Adamw.pick (Chips.ent ids (j 0)) (fun d : Fin 4 => sib (ix3 d (j 1) (j 2)))

/-- A block's position is a row and a column. -/
theorem split (y : S1x128x2048.Idx) : ∃ (p : Fin 128) (q : Fin 2048), y = ix3 0 p q := ⟨y 1, y 2, by
  funext a
  match a with
  | ⟨0, _⟩ => exact Subsingleton.elim (α := Fin 1) _ _
  | ⟨1, _⟩ => rfl
  | ⟨2, _⟩ => rfl⟩

/-- The sum of two blocks' entries. -/
theorem pay_at (a b : Vec Ideal S1x128x2048 .bf16) (p : Fin 128) (q : Fin 2048) : k0_pay1 (F := Ideal) a b (ix3 0 p q) = (show EReal from a (ix3 0 p q)) + (show EReal from b (ix3 0 p q)) := by
  pointwise [k0_pay1]

/-- What the run leaves in the result. -/
theorem final (hO : Ok m) (h4 : ∀ k, (Chips.ent (tbl m 0) k).toNat < 4) (h8 : ∀ k, (Chips.num (tbl m 0) k).toNat < 8) (c : Dev nD) : (dats m hO 0 c).arrAt 2 (cfgM m hO).N = sums (m (c.tc.loc main_arg0)) (m (c.tc.loc main_arg1)) (m (c.tc.loc main_arg2)) := by
  refine (dats m hO 0 c).arrAt_eq_of_covers 2 _ (covers2 m hO) fun t _ y => ?_
  obtain ⟨p, q, rfl⟩ := split y
  refine Eq.trans ?_ (congrArg _ (emb2 m hO t p q)).symm
  refine (congrFun ((after0_2 m hO c t).trans (out2_at m hO c t)) (ix3 0 p q : S1x128x2048.Idx)).trans ?_
  refine (pay_at _ _ p q).trans ?_
  have e0 : iblk m hO c 0 t (ix3 0 p q : S1x128x2048.Idx) = m (c.tc.loc main_arg1) (ix3 (⟨(Chips.num (tbl m 0) (of t)).toNat, h8 _⟩ : Fin 8) (row t p) q) := congrArg (m (c.tc.loc main_arg1)) (emb0 m hO h8 t p q)
  have e1 : iblk m hO c 1 t (ix3 0 p q : S1x128x2048.Idx) = m (c.tc.loc main_arg2) (ix3 (⟨(Chips.ent (tbl m 0) (of t)).toNat, h4 _⟩ : Fin 4) (row t p) q) := congrArg (m (c.tc.loc main_arg2)) (emb1 m hO h4 t p q)
  have et : m (c.tc.loc main_arg0) = tbl m 0 := V_pre m c 0
  show _ = Adamw.pick (Chips.num (m (c.tc.loc main_arg0)) (of t)) (fun d : Fin 8 => m (c.tc.loc main_arg1) (ix3 d (row t p) q)) + Adamw.pick (Chips.ent (m (c.tc.loc main_arg0)) (of t)) (fun d : Fin 4 => m (c.tc.loc main_arg2) (ix3 d (row t p) q))
  rw [et, Adamw.pick_eq (by omega) _ (h8 (of t)), Adamw.pick_eq (by omega) _ (h4 (of t)), e0, e1]

/-- The whole run: the result, and the arguments as they were. -/
theorem run_kernel (ρ : Dev nD → PrngReg) (hO : Ok m) (h4 : ∀ k, (Chips.ent (tbl m 0) k).toNat < 4) (h8 : ∀ k, (Chips.num (tbl m 0) k).toNat < 8) :
    θ_run defs (onTc (τ := τ) (main (F := Ideal))) ⟨m, fun _ => 0, ρ⟩ fun r => ∀ c : Dev nD,
      r.2.mem (c.tc.loc main_v0) = sums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨((h.1 c).1 2).trans (final m hO h4 h8 c), h.2 c⟩)
    (θ_run_and (run_main m ρ hO) (unchanged m ρ hO))

end Cert.ChipsBIn

end
-- ==== Proof.ChipsBInRef.lean ====
/- The reference sends the three other chips the same sums of mixer B's input projection's weight's gradient. -/
module

public import proofs.«01_k».proof.Proof.Gen.Reference35Ideal.Run
public import proofs.«01_k».proof.Proof.ChipsBIn

@[expose] public section

set_option maxRecDepth 16384

noncomputable section

namespace Cert.ChipsBIn

open Cert.Reference35Ideal Cert.Reference35Ideal.Gen Idealize.ShloMosaic Idealize.ShloMosaic.TcCoe Idealize.ShloMosaic.Pointwise Idealize.SL.Sem

variable (m : (ℓ : Loc nD τ sig) → Buf (Elt Ideal) ℓ)

/-- The reference's entry for a chip. -/
def refEnt (ids : IVec S8 32) (k : ℕ) (hk : S8.Slices ![k] S1) : IVec S_ 32 := shapeCast S_ (extractStridedSlice S1 ![k] ids hk) shapeCasts_S1_S_

theorem refEnt_eq (ids : IVec S8 32) (k : Fin 3) (hk : S8.Slices ![k.val] S1) (j : S_.Idx) : refEnt ids k.val hk j = Chips.ent ids k := by
  unfold refEnt Chips.ent
  obtain rfl : j = ix0 := funext fun a => a.elim0
  pointwise
  try rfl

/-- The reference's number of the device. -/
def refNum (ids : IVec S8 32) (k : ℕ) (hk : S8.Slices ![k] S1) : IVec S_ 32 :=
  addi (muli (constantI S_ 32 2#32) (refEnt ids k hk)) (shapeCast S_ (extractStridedSlice S1 ![3] ids slices_S8_S1_3) shapeCasts_S1_S_)

theorem refNum_eq (ids : IVec S8 32) (k : Fin 3) (hk : S8.Slices ![k.val] S1) (j : S_.Idx) : refNum ids k.val hk j = Chips.num ids k := by
  unfold refNum Chips.num
  rw [← refEnt_eq ids k hk j]
  obtain rfl : j = ix0 := funext fun a => a.elim0
  pointwise
  try rfl

/-- The reference's block of the devices' gradients: a sum of which the table keeps one term. -/
def ref_own (ids : IVec S8 32) (own : FVec Ideal S8x4096x2048 .bf16) (k : ℕ) (hk : S8.Slices ![k] S1) : FVec Ideal S4096x2048 .f32 :=
  Host.reduceAdd (select (cmpi .eq (iotaInDim S8x4096x2048 32 0) (broadcastInDim S8x4096x2048 ![] bcast_S_S8x4096x2048 (refNum ids k hk))) (extf .f32 own bitsLt_bf16_f32) (broadcastInDim S8x4096x2048 ![] bcast_S_S8x4096x2048 (id (constant S_ .f32 0x00000000#32)))) (constant S_ .f32 0x00000000#32) reducesTo_S8x4096x2048_S4096x2048_d0 h_S_

/-- The reference's block of the siblings' gradients. -/
def ref_sib (ids : IVec S8 32) (sib : FVec Ideal S4x4096x2048 .bf16) (k : ℕ) (hk : S8.Slices ![k] S1) : FVec Ideal S4096x2048 .f32 :=
  Host.reduceAdd (select (cmpi .eq (iotaInDim S4x4096x2048 32 0) (broadcastInDim S4x4096x2048 ![] bcast_S_S4x4096x2048 (refEnt ids k hk))) (extf .f32 sib bitsLt_bf16_f32) (broadcastInDim S4x4096x2048 ![] bcast_S_S4x4096x2048 (id (constant S_ .f32 0x00000000#32)))) (constant S_ .f32 0x00000000#32) reducesTo_S4x4096x2048_S4096x2048_d0 h_S_

/-- The reference's sum for one chip. -/
def refBlock (ids : IVec S8 32) (own : FVec Ideal S8x4096x2048 .bf16) (sib : FVec Ideal S4x4096x2048 .bf16) (k : ℕ) (hk : S8.Slices ![k] S1) : FVec Ideal S4096x2048 .f32 := addf (ref_own ids own k hk) (ref_sib ids sib k hk)

/-- The reference's result. -/
def refSums (ids : IVec S8 32) (own : FVec Ideal S8x4096x2048 .bf16) (sib : FVec Ideal S4x4096x2048 .bf16) : FVec Ideal S3x4096x2048 .bf16 :=
  truncf .bf16 (concatenate S3x4096x2048 0 [⟨S1x4096x2048, broadcastInDim S1x4096x2048 ![1, 2] bcast_S4096x2048_S1x4096x2048_1_2 (refBlock ids own sib 0 slices_S8_S1_0)⟩, ⟨S1x4096x2048, broadcastInDim S1x4096x2048 ![1, 2] bcast_S4096x2048_S1x4096x2048_1_2 (refBlock ids own sib 1 slices_S8_S1_1)⟩, ⟨S1x4096x2048, broadcastInDim S1x4096x2048 ![1, 2] bcast_S4096x2048_S1x4096x2048_1_2 (refBlock ids own sib 2 slices_S8_S1_2)⟩] concatenates_S1x4096x2048_S1x4096x2048_S1x4096x2048_S3x4096x2048_d0) bitsLt_bf16_f32

/-- The named block's entry. -/
theorem own_at (ids : IVec S8 32) (own : FVec Ideal S8x4096x2048 .bf16) (k : Fin 3) (hk : S8.Slices ![k.val] S1) (r : Fin 4096) (q : Fin 2048) : ref_own ids own k.val hk (ix2 r q) = Adamw.pick (Chips.num ids k) (fun d : Fin 8 => own (ix3 d r q)) := by
  have hw := refNum_eq ids k hk ix0
  generalize Chips.num ids k = w at hw
  revert hw
  unfold ref_own
  generalize refNum ids k.val hk = u
  intro hw
  subst hw
  pointwise [Adamw.pick]
  exact Finset.sum_congr rfl fun d _ => Adamw.masked _ _ _ _ Ideal.ofBits_zero_f32

/-- The named block's entry. -/
theorem sib_at (ids : IVec S8 32) (sib : FVec Ideal S4x4096x2048 .bf16) (k : Fin 3) (hk : S8.Slices ![k.val] S1) (r : Fin 4096) (q : Fin 2048) : ref_sib ids sib k.val hk (ix2 r q) = Adamw.pick (Chips.ent ids k) (fun d : Fin 4 => sib (ix3 d r q)) := by
  have hw := refEnt_eq ids k hk ix0
  generalize Chips.ent ids k = w at hw
  revert hw
  unfold ref_sib
  generalize refEnt ids k.val hk = u
  intro hw
  subst hw
  pointwise [Adamw.pick]
  exact Finset.sum_congr rfl fun d _ => Adamw.masked _ _ _ _ Ideal.ofBits_zero_f32

/-- One chip's sum. -/
theorem refBlock_at (ids : IVec S8 32) (own : FVec Ideal S8x4096x2048 .bf16) (sib : FVec Ideal S4x4096x2048 .bf16) (k : Fin 3) (hk : S8.Slices ![k.val] S1) (r : Fin 4096) (q : Fin 2048) : refBlock ids own sib k.val hk (ix2 r q) = sums ids own sib (ix3 k r q) :=
  congrArg₂ (fun x y : EReal => x + y) (own_at ids own k hk r q) (sib_at ids sib k hk r q)

/-- The reference's result is the kernel's. -/
theorem refSums_eq (ids : IVec S8 32) (own : FVec Ideal S8x4096x2048 .bf16) (sib : FVec Ideal S4x4096x2048 .bf16) : refSums ids own sib = sums ids own sib := by
  funext j
  obtain ⟨k, r, q, rfl⟩ : ∃ (k : Fin 3) (r : Fin 4096) (q : Fin 2048), j = ix3 k r q := ⟨j 0, j 1, j 2, by funext a; fin_cases a <;> rfl⟩
  unfold refSums
  pointwise
  fin_cases k
  · exact refBlock_at ids own sib 0 slices_S8_S1_0 r q
  · exact refBlock_at ids own sib 1 slices_S8_S1_1 r q
  · exact refBlock_at ids own sib 2 slices_S8_S1_2 r q

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v67) = refSums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨(h c).1.trans (by rfl), (h c).2⟩) (Value.run m ρ)

end Cert.ChipsBIn

end
-- ==== Proof.ChipsBInClaim.lean ====
/- The claims about what the three other chips are sent of mixer B's input projection's weight's gradient. -/
module

public import proofs.«01_k».proof.Defs
public import proofs.«01_k».proof.Proof.Gen.Kernel35.Frame
public import proofs.«01_k».proof.Proof.ChipsBInRef
public import proofs.«01_k».proof.Proof.Finite
public import Idealize.ShloMosaic.Lib.Claim

@[expose] public section

set_option maxRecDepth 200000

noncomputable section

namespace Cert.ChipsBInClaim

open Idealize.ShloMosaic Idealize.ShloMosaic.Pointwise Idealize.SL.Sem

/-- The precondition's slices fit. -/
instance preFacts : Cert.Pre_b_w_in_chips_named.Facts where
  slices_S8_S1_0 := by decide
  shapeCasts_S1_S_ := by decide
  slices_S8_S1_1 := by decide
  slices_S8_S1_2 := by decide
  slices_S8_S1_3 := by decide

/-- Where the precondition holds, the table's entries are blocks' numbers. -/
theorem lt_of_pre {F : FTy → Type} [FloatOps F] (ids : IVec ⟨1, ![8]⟩ 32) (own : FVec F ⟨3, ![8, 4096, 2048]⟩ .bf16) (sib : FVec F ⟨3, ![4, 4096, 2048]⟩ .bf16)
    (h : Cert.Pre_b_w_in_chips_named.fn (F := F) ids own sib = fun _ => 1#1) : (∀ k, (Chips.ent ids k).toNat < 4) ∧ ∀ k, (Chips.num ids k).toNat < 8 := by
  have h1 := congrFun h ix0
  revert h1
  pointwise [Cert.Pre_b_w_in_chips_named.fn, Cert.Pre_b_w_in_chips_named.fn_part1]
  intro h1
  obtain ⟨h2, e3⟩ := Finite.both _ _ h1
  obtain ⟨h3, e2⟩ := Finite.both _ _ h2
  obtain ⟨e0, e1⟩ := Finite.both _ _ h3
  obtain ⟨a0, b0⟩ := Finite.both _ _ e0
  obtain ⟨a1, b1⟩ := Finite.both _ _ e1
  obtain ⟨a2, b2⟩ := Finite.both _ _ e2
  obtain ⟨a3, b3⟩ := Finite.both _ _ e3
  have h4 : ∀ k, (Chips.ent ids k).toNat < 4 := fun k => by
    fin_cases k
    · exact Adamw.toNat_lt _ 4 (by omega) a0 b0
    · exact Adamw.toNat_lt _ 4 (by omega) a1 b1
    · exact Adamw.toNat_lt _ 4 (by omega) a2 b2
  have h8 : ∀ k, (Chips.num ids k).toNat < 8 := fun k => Chips.num_lt ids k (h4 k) (Adamw.toNat_lt _ 2 (by omega) a3 b3)
  exact ⟨⟨h4 0, h4 1, h4 2⟩, h8 0, h8 1, h8 2⟩

/-- Where the precondition holds of `Kernel35`'s arguments, the table names blocks that exist. -/
theorem tbl_Kernel35 (m : (ℓ : Loc Cert.Kernel35.nD Cert.Kernel35.τ Cert.Kernel35.sig) → Buf (Elt Bits) ℓ) (h : Cert.Pre_Kernel35 m) : (∀ k, (Chips.ent (Cert.Kernel35.Gen.tbl m 0) k).toNat < 4) ∧ ∀ k, (Chips.num (Cert.Kernel35.Gen.tbl m 0) k).toNat < 8 := by
  have e : m (((0 : Dev Cert.Kernel35.nD).tc : Thread Cert.Kernel35.nD Cert.Kernel35.τ).loc Cert.Kernel35.main_arg0) = Cert.Kernel35.Gen.tbl m 0 := Cert.Kernel35.Gen.V_pre m 0 0
  rw [← e]
  exact lt_of_pre _ _ _ (h 0)

/-- Such a table is one `Kernel35` accepts. -/
theorem ok_Kernel35 (m : (ℓ : Loc Cert.Kernel35.nD Cert.Kernel35.τ Cert.Kernel35.sig) → Buf (Elt Bits) ℓ) (h : Cert.Pre_Kernel35 m) : Cert.Kernel35.Gen.Ok m :=
  have h := tbl_Kernel35 m h
  ChipsBIn.ok_of (F := Bits) (Cert.Kernel35.Gen.tbl m) h.1 h.2

/-- `Kernel35` runs and leaves its arguments and every counter as they were. -/
theorem quiescentB : Cert.quiescent_Kernel35 := fun m g h => Cert.Kernel35.Gen.frame m g (ok_Kernel35 m h)

/-- Where the precondition holds of `Kernel35Ideal`'s arguments, the table names blocks that exist. -/
theorem tbl_Kernel35Ideal (m : (ℓ : Loc Cert.Kernel35Ideal.nD Cert.Kernel35Ideal.τ Cert.Kernel35Ideal.sig) → Buf (Elt Ideal) ℓ) (h : Cert.Pre_Kernel35Ideal m) : (∀ k, (Chips.ent (Cert.Kernel35Ideal.Gen.tbl m 0) k).toNat < 4) ∧ ∀ k, (Chips.num (Cert.Kernel35Ideal.Gen.tbl m 0) k).toNat < 8 := by
  have e : m (((0 : Dev Cert.Kernel35Ideal.nD).tc : Thread Cert.Kernel35Ideal.nD Cert.Kernel35Ideal.τ).loc Cert.Kernel35Ideal.main_arg0) = Cert.Kernel35Ideal.Gen.tbl m 0 := Cert.Kernel35Ideal.Gen.V_pre m 0 0
  rw [← e]
  exact lt_of_pre _ _ _ (h 0)

/-- Such a table is one `Kernel35Ideal` accepts. -/
theorem ok_Kernel35Ideal (m : (ℓ : Loc Cert.Kernel35Ideal.nD Cert.Kernel35Ideal.τ Cert.Kernel35Ideal.sig) → Buf (Elt Ideal) ℓ) (h : Cert.Pre_Kernel35Ideal m) : Cert.Kernel35Ideal.Gen.Ok m :=
  have h := tbl_Kernel35Ideal m h
  ChipsBIn.ok_of (F := Ideal) (Cert.Kernel35Ideal.Gen.tbl m) h.1 h.2

/-- `Kernel35Ideal` runs and leaves its arguments and every counter as they were. -/
theorem quiescentI : Cert.quiescent_Kernel35Ideal := fun m g h => Cert.Kernel35Ideal.Gen.frame m g (ok_Kernel35Ideal m h)

/-- The reference leaves its arguments as they were and no pending signals. -/
theorem quiescent : Cert.quiescent_Reference35Ideal := by
  intro m g _
  exact (θ_run _ _ _).mono (fun r h => ⟨fun c => (h c).2, sem_eq_zero_of_no_sems (by decide) _⟩) (Cert.Reference35Ideal.Value.run m g)

set_option maxHeartbeats 1600000 in
/-- The kernel and the reference leave the same sums, where the table names blocks that exist. -/
theorem same : Cert.algebraic_Kernel35Ideal_Reference35Ideal := by
  pair_intro
  · run_from Cert.ChipsBIn.run_kernel m g (ok_Kernel35Ideal m hpre) (tbl_Kernel35Ideal m hpre).1 (tbl_Kernel35Ideal m hpre).2
  · run_from Cert.ChipsBIn.run m' g'
    exact Cert.ChipsBIn.refSums_eq _ _ _

end Cert.ChipsBInClaim

end
-- ==== Proof.ChipsAIn.lean ====
/- What the three other chips are sent of mixer A's input projection's weight's gradient. -/
module

public import proofs.«01_k».proof.Proof.Gen.Kernel36Ideal.Frame
public import proofs.«01_k».proof.Proof.ChipsMath
public import Idealize.ShloMosaic.Lib.Pipeline.ValueKit
public import Idealize.ShloMosaic.Lib.Pipeline.Covers

@[expose] public section

set_option maxRecDepth 16384

noncomputable section

namespace Cert.ChipsAIn

open Cert.Kernel36Ideal Cert.Kernel36Ideal.Gen Idealize.ShloMosaic Idealize.ShloMosaic.TcCoe Idealize.ShloMosaic.Pointwise Idealize.SL.Sem

variable (m : (ℓ : Loc nD τ sig) → Buf (Elt Ideal) ℓ)

/-- The chip that a grid point is about. -/
abbrev chip (i : grid0.Coords) : Fin 3 := ⟨(i 0).val, (i 0).isLt⟩

/-- Block 0's number, as the table gives it. -/
theorem at0 {F : FTy → Type} [FloatOps F] (pf : pre0.Contents (Elt F)) (i : grid0.Coords) : cc0_transform_0 k0_off1_inb numel1_S1 pf i = ![(Chips.ent (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have hi : (i 1).val < 32 := (i 1).isLt
  have h32 : (BitVec.ofNat 32 (i 1).val).toNat = (i 1).val := by
    rw [BitVec.toNat_ofNat]; exact Nat.mod_eq_of_lt (by omega)
  show ![(pf 0 ((Rect.unit (s := S8) ![(Scalar.indexCast (BitVec.ofNat 32 (i 0).val)).toNat] S1.size (k0_off1_inb i)).emb (Shape.Idx.first (numel1_S1.symm ▸ Nat.one_pos)))).toNat, (BitVec.ofNat 32 (i 1).val).toNat, 0] = _
  rw [hx, h32]
  rfl

/-- Block 1's number, as the table gives it. -/
theorem at1 {F : FTy → Type} [FloatOps F] (pf : pre0.Contents (Elt F)) (i : grid0.Coords) : cc0_transform_1 k0_off1_inb numel1_S1 pf i = ![(Chips.ent (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have hi : (i 1).val < 32 := (i 1).isLt
  have h32 : (BitVec.ofNat 32 (i 1).val).toNat = (i 1).val := by
    rw [BitVec.toNat_ofNat]; exact Nat.mod_eq_of_lt (by omega)
  show ![(pf 0 ((Rect.unit (s := S8) ![(Scalar.indexCast (BitVec.ofNat 32 (i 0).val)).toNat] S1.size (k0_off1_inb i)).emb (Shape.Idx.first (numel1_S1.symm ▸ Nat.one_pos)))).toNat, (BitVec.ofNat 32 (i 1).val).toNat, 0] = _
  rw [hx, h32]
  rfl

/-- A table that names blocks that exist is one the call accepts. -/
theorem ok_of {F : FTy → Type} [FloatOps F] (pf : pre0.Contents (Elt F)) (h4 : ∀ k, (Chips.ent (pf 0) k).toNat < 4) : ok0 pf := by
  refine ⟨fun i => ?_, fun i => ?_⟩
  · rw [at0]
    have hi : (i 1).val < 32 := (i 1).isLt
    have hk := h4 (chip i)
    refine ⟨fun a => ?_, .inr (.inl (.inr ⟨by decide, rfl, .inl ⟨?_, ?_⟩⟩))⟩
    · fin_cases a
      · show ((Chips.ent (pf 0) (chip i)).toNat + 1) * 1 ≤ 4
        omega
      · show ((i 1).val + 1) * 128 ≤ 4096
        omega
      · show (0 + 1) * 3072 ≤ 3072
        omega
    · show 2 ∣ (i 1).val * 128
      omega
    · show 2 ∣ 128
      omega
  · rw [at1]
    have hi : (i 1).val < 32 := (i 1).isLt
    have hk := h4 (chip i)
    refine ⟨fun a => ?_, .inr (.inl (.inr ⟨by decide, rfl, .inl ⟨?_, ?_⟩⟩))⟩
    · fin_cases a
      · show ((Chips.ent (pf 0) (chip i)).toNat + 1) * 1 ≤ 4
        omega
      · show ((i 1).val + 1) * 128 ≤ 4096
        omega
      · show (0 + 1) * 3072 ≤ 3072
        omega
    · show 2 ∣ (i 1).val * 128
      omega
    · show 2 ∣ 128
      omega

/-- The block numbers that no table gives. -/
theorem ixs : ∀ t : Fin grid0.N, cc0_transform_2 (grid0.coords t) = ![t.val / 32, t.val % 32, 0] ∧ (grid0.coords t 0).val = t.val / 32 ∧ (grid0.coords t 1).val = t.val % 32 := by decide +kernel

/-- The chip at point `t`. -/
abbrev of (t : Fin grid0.N) : Fin 3 := ⟨t.val / 32, by have h : t.val < 96 := lt_of_lt_of_eq t.isLt N_0; omega⟩

/-- The array's row that is the block's row `p` at point `t`. -/
abbrev row (t : Fin grid0.N) (p : Fin 128) : Fin 4096 := ⟨t.val % 32 * 128 + p.val, by omega⟩

/-- The result's block at coordinates. -/
theorem emb2 (hO : Ok m) (t : Fin grid0.N) (p : Fin 128) (q : Fin 3072) : (((cfgM m hO).win 2).rect t).emb (ix3 0 p q) = ix3 (of t) (row t p) q := by
  funext a
  refine Fin.ext ((Pipeline.Window.rect_emb_val _ t _ a).trans ?_)
  rw [show ((cfgM m hO).win 2).index t = ![t.val / 32, t.val % 32, 0] from (ixs t).1]
  fin_cases a
  · show t.val / 32 * 1 + 0 = t.val / 32
    omega
  · rfl
  · show 0 * 3072 + q.val = q.val
    omega

/-- Window 0's block at coordinates: the block of the table's number. -/
theorem emb0 (hO : Ok m) (h : ∀ k, (Chips.ent (tbl m 0) k).toNat < 4) (t : Fin grid0.N) (p : Fin 128) (q : Fin 3072) : (((cfgM m hO).win 0).rect t).emb (ix3 0 p q) = ix3 (⟨(Chips.ent (tbl m 0) (of t)).toNat, h _⟩ : Fin 4) (row t p) q := by
  have hk : chip (grid0.coords t) = of t := Fin.ext (ixs t).2.1
  funext a
  refine Fin.ext ((Pipeline.Window.rect_emb_val _ t _ a).trans ?_)
  rw [show ((cfgM m hO).win 0).index t = ![(Chips.ent (tbl m 0) (of t)).toNat, t.val % 32, 0] from (at0 (tbl m) (grid0.coords t)).trans (by rw [(ixs t).2.2, hk])]
  fin_cases a
  · show (Chips.ent (tbl m 0) (of t)).toNat * 1 + 0 = (Chips.ent (tbl m 0) (of t)).toNat
    omega
  · rfl
  · show 0 * 3072 + q.val = q.val
    omega

/-- Window 1's block at coordinates: the block of the table's number. -/
theorem emb1 (hO : Ok m) (h : ∀ k, (Chips.ent (tbl m 0) k).toNat < 4) (t : Fin grid0.N) (p : Fin 128) (q : Fin 3072) : (((cfgM m hO).win 1).rect t).emb (ix3 0 p q) = ix3 (⟨(Chips.ent (tbl m 0) (of t)).toNat, h _⟩ : Fin 4) (row t p) q := by
  have hk : chip (grid0.coords t) = of t := Fin.ext (ixs t).2.1
  funext a
  refine Fin.ext ((Pipeline.Window.rect_emb_val _ t _ a).trans ?_)
  rw [show ((cfgM m hO).win 1).index t = ![(Chips.ent (tbl m 0) (of t)).toNat, t.val % 32, 0] from (at1 (tbl m) (grid0.coords t)).trans (by rw [(ixs t).2.2, hk])]
  fin_cases a
  · show (Chips.ent (tbl m 0) (of t)).toNat * 1 + 0 = (Chips.ent (tbl m 0) (of t)).toNat
    omega
  · rfl
  · show 0 * 3072 + q.val = q.val
    omega

/-- Every block of the result is written. -/
theorem covers2 (hO : Ok m) : ((cfgM m hO).win 2).Covers := by
  refine Pipeline.Window.covers_of_index_surj _ rfl (show ∀ a : Fin 3, 0 < (![1, 128, 3072] : Fin 3 → ℕ) a by decide) (fun β => ?_)
  have hn : ∀ a : Fin 3, ((cfgM m hO).win 2).nblk a = (![3, 32, 1] : Fin 3 → ℕ) a := by
    intro a
    fin_cases a
    · show (3 + 1 - 1) / 1 = 3
      rfl
    · show (4096 + 128 - 1) / 128 = 32
      rfl
    · show (3072 + 3072 - 1) / 3072 = 1
      rfl
  obtain ⟨t, hlt, ht⟩ := Chips.point_of (n := 32) (fun a : Fin 3 => (β a).val) fun a => lt_of_lt_of_eq (β a).isLt (hn a)
  exact ⟨⟨t, lt_of_lt_of_eq hlt N_0.symm⟩, fun a => (congrFun (ixs ⟨t, lt_of_lt_of_eq hlt N_0.symm⟩).1 a).trans (ht a)⟩

/-- The result's contents after a point. -/
theorem out2_at (hO : Ok m) (c : Dev nD) (t : Fin grid0.N) : outsAt0 m hO c t = k0_pay1 (F := Ideal) (iblk m hO c 0 t) (iblk m hO c 1 t) := by
  unfold outsAt0
  frame_out
  rw [(hs0_0 m hO t).read_unread (iblk m hO c 0 t), (hs0_1 m hO t).read_unread (iblk m hO c 1 t)]

/-- What each of the three chips is sent: the sum of the two devices' blocks that the table names for it. -/
def sums (ids : IVec ⟨1, ![8]⟩ 32) (own : FVec Ideal ⟨3, ![4, 4096, 3072]⟩ .bf16) (sib : FVec Ideal ⟨3, ![4, 4096, 3072]⟩ .bf16) : FVec Ideal ⟨3, ![3, 4096, 3072]⟩ .bf16 := fun j =>
  Adamw.pick (Chips.ent ids (j 0)) (fun d : Fin 4 => own (ix3 d (j 1) (j 2))) + Adamw.pick (Chips.ent ids (j 0)) (fun d : Fin 4 => sib (ix3 d (j 1) (j 2)))

/-- A block's position is a row and a column. -/
theorem split (y : S1x128x3072.Idx) : ∃ (p : Fin 128) (q : Fin 3072), y = ix3 0 p q := ⟨y 1, y 2, by
  funext a
  match a with
  | ⟨0, _⟩ => exact Subsingleton.elim (α := Fin 1) _ _
  | ⟨1, _⟩ => rfl
  | ⟨2, _⟩ => rfl⟩

/-- The sum of two blocks' entries. -/
theorem pay_at (a b : Vec Ideal S1x128x3072 .bf16) (p : Fin 128) (q : Fin 3072) : k0_pay1 (F := Ideal) a b (ix3 0 p q) = (show EReal from a (ix3 0 p q)) + (show EReal from b (ix3 0 p q)) := by
  pointwise [k0_pay1]

/-- What the run leaves in the result. -/
theorem final (hO : Ok m) (h4 : ∀ k, (Chips.ent (tbl m 0) k).toNat < 4) (c : Dev nD) : (dats m hO 0 c).arrAt 2 (cfgM m hO).N = sums (m (c.tc.loc main_arg0)) (m (c.tc.loc main_arg1)) (m (c.tc.loc main_arg2)) := by
  refine (dats m hO 0 c).arrAt_eq_of_covers 2 _ (covers2 m hO) fun t _ y => ?_
  obtain ⟨p, q, rfl⟩ := split y
  refine Eq.trans ?_ (congrArg _ (emb2 m hO t p q)).symm
  refine (congrFun ((after0_2 m hO c t).trans (out2_at m hO c t)) (ix3 0 p q : S1x128x3072.Idx)).trans ?_
  refine (pay_at _ _ p q).trans ?_
  have e0 : iblk m hO c 0 t (ix3 0 p q : S1x128x3072.Idx) = m (c.tc.loc main_arg1) (ix3 (⟨(Chips.ent (tbl m 0) (of t)).toNat, h4 _⟩ : Fin 4) (row t p) q) := congrArg (m (c.tc.loc main_arg1)) (emb0 m hO h4 t p q)
  have e1 : iblk m hO c 1 t (ix3 0 p q : S1x128x3072.Idx) = m (c.tc.loc main_arg2) (ix3 (⟨(Chips.ent (tbl m 0) (of t)).toNat, h4 _⟩ : Fin 4) (row t p) q) := congrArg (m (c.tc.loc main_arg2)) (emb1 m hO h4 t p q)
  have et : m (c.tc.loc main_arg0) = tbl m 0 := V_pre m c 0
  show _ = Adamw.pick (Chips.ent (m (c.tc.loc main_arg0)) (of t)) (fun d : Fin 4 => m (c.tc.loc main_arg1) (ix3 d (row t p) q)) + Adamw.pick (Chips.ent (m (c.tc.loc main_arg0)) (of t)) (fun d : Fin 4 => m (c.tc.loc main_arg2) (ix3 d (row t p) q))
  rw [et, Adamw.pick_eq (by omega) _ (h4 (of t)), Adamw.pick_eq (by omega) _ (h4 (of t)), e0, e1]

/-- The whole run: the result, and the arguments as they were. -/
theorem run_kernel (ρ : Dev nD → PrngReg) (hO : Ok m) (h4 : ∀ k, (Chips.ent (tbl m 0) k).toNat < 4) :
    θ_run defs (onTc (τ := τ) (main (F := Ideal))) ⟨m, fun _ => 0, ρ⟩ fun r => ∀ c : Dev nD,
      r.2.mem (c.tc.loc main_v0) = sums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨((h.1 c).1 2).trans (final m hO h4 c), h.2 c⟩)
    (θ_run_and (run_main m ρ hO) (unchanged m ρ hO))

end Cert.ChipsAIn

end
-- ==== Proof.ChipsAInRef.lean ====
/- The reference sends the three other chips the same sums of mixer A's input projection's weight's gradient. -/
module

public import proofs.«01_k».proof.Proof.Gen.Reference36Ideal.Run
public import proofs.«01_k».proof.Proof.ChipsAIn

@[expose] public section

set_option maxRecDepth 16384

noncomputable section

namespace Cert.ChipsAIn

open Cert.Reference36Ideal Cert.Reference36Ideal.Gen Idealize.ShloMosaic Idealize.ShloMosaic.TcCoe Idealize.ShloMosaic.Pointwise Idealize.SL.Sem

variable (m : (ℓ : Loc nD τ sig) → Buf (Elt Ideal) ℓ)

/-- The reference's entry for a chip. -/
def refEnt (ids : IVec S8 32) (k : ℕ) (hk : S8.Slices ![k] S1) : IVec S_ 32 := shapeCast S_ (extractStridedSlice S1 ![k] ids hk) shapeCasts_S1_S_

theorem refEnt_eq (ids : IVec S8 32) (k : Fin 3) (hk : S8.Slices ![k.val] S1) (j : S_.Idx) : refEnt ids k.val hk j = Chips.ent ids k := by
  unfold refEnt Chips.ent
  obtain rfl : j = ix0 := funext fun a => a.elim0
  pointwise
  try rfl

/-- The reference's block of the devices' gradients: a sum of which the table keeps one term. -/
def ref_own (ids : IVec S8 32) (own : FVec Ideal S4x4096x3072 .bf16) (k : ℕ) (hk : S8.Slices ![k] S1) : FVec Ideal S4096x3072 .f32 :=
  Host.reduceAdd (select (cmpi .eq (iotaInDim S4x4096x3072 32 0) (broadcastInDim S4x4096x3072 ![] bcast_S_S4x4096x3072 (refEnt ids k hk))) (extf .f32 own bitsLt_bf16_f32) (broadcastInDim S4x4096x3072 ![] bcast_S_S4x4096x3072 (id (constant S_ .f32 0x00000000#32)))) (constant S_ .f32 0x00000000#32) reducesTo_S4x4096x3072_S4096x3072_d0 h_S_

/-- The reference's block of the siblings' gradients. -/
def ref_sib (ids : IVec S8 32) (sib : FVec Ideal S4x4096x3072 .bf16) (k : ℕ) (hk : S8.Slices ![k] S1) : FVec Ideal S4096x3072 .f32 :=
  Host.reduceAdd (select (cmpi .eq (iotaInDim S4x4096x3072 32 0) (broadcastInDim S4x4096x3072 ![] bcast_S_S4x4096x3072 (refEnt ids k hk))) (extf .f32 sib bitsLt_bf16_f32) (broadcastInDim S4x4096x3072 ![] bcast_S_S4x4096x3072 (id (constant S_ .f32 0x00000000#32)))) (constant S_ .f32 0x00000000#32) reducesTo_S4x4096x3072_S4096x3072_d0 h_S_

/-- The reference's sum for one chip. -/
def refBlock (ids : IVec S8 32) (own : FVec Ideal S4x4096x3072 .bf16) (sib : FVec Ideal S4x4096x3072 .bf16) (k : ℕ) (hk : S8.Slices ![k] S1) : FVec Ideal S4096x3072 .f32 := addf (ref_own ids own k hk) (ref_sib ids sib k hk)

/-- The reference's result. -/
def refSums (ids : IVec S8 32) (own : FVec Ideal S4x4096x3072 .bf16) (sib : FVec Ideal S4x4096x3072 .bf16) : FVec Ideal S3x4096x3072 .bf16 :=
  truncf .bf16 (concatenate S3x4096x3072 0 [⟨S1x4096x3072, broadcastInDim S1x4096x3072 ![1, 2] bcast_S4096x3072_S1x4096x3072_1_2 (refBlock ids own sib 0 slices_S8_S1_0)⟩, ⟨S1x4096x3072, broadcastInDim S1x4096x3072 ![1, 2] bcast_S4096x3072_S1x4096x3072_1_2 (refBlock ids own sib 1 slices_S8_S1_1)⟩, ⟨S1x4096x3072, broadcastInDim S1x4096x3072 ![1, 2] bcast_S4096x3072_S1x4096x3072_1_2 (refBlock ids own sib 2 slices_S8_S1_2)⟩] concatenates_S1x4096x3072_S1x4096x3072_S1x4096x3072_S3x4096x3072_d0) bitsLt_bf16_f32

/-- The named block's entry. -/
theorem own_at (ids : IVec S8 32) (own : FVec Ideal S4x4096x3072 .bf16) (k : Fin 3) (hk : S8.Slices ![k.val] S1) (r : Fin 4096) (q : Fin 3072) : ref_own ids own k.val hk (ix2 r q) = Adamw.pick (Chips.ent ids k) (fun d : Fin 4 => own (ix3 d r q)) := by
  have hw := refEnt_eq ids k hk ix0
  generalize Chips.ent ids k = w at hw
  revert hw
  unfold ref_own
  generalize refEnt ids k.val hk = u
  intro hw
  subst hw
  pointwise [Adamw.pick]
  exact Finset.sum_congr rfl fun d _ => Adamw.masked _ _ _ _ Ideal.ofBits_zero_f32

/-- The named block's entry. -/
theorem sib_at (ids : IVec S8 32) (sib : FVec Ideal S4x4096x3072 .bf16) (k : Fin 3) (hk : S8.Slices ![k.val] S1) (r : Fin 4096) (q : Fin 3072) : ref_sib ids sib k.val hk (ix2 r q) = Adamw.pick (Chips.ent ids k) (fun d : Fin 4 => sib (ix3 d r q)) := by
  have hw := refEnt_eq ids k hk ix0
  generalize Chips.ent ids k = w at hw
  revert hw
  unfold ref_sib
  generalize refEnt ids k.val hk = u
  intro hw
  subst hw
  pointwise [Adamw.pick]
  exact Finset.sum_congr rfl fun d _ => Adamw.masked _ _ _ _ Ideal.ofBits_zero_f32

/-- One chip's sum. -/
theorem refBlock_at (ids : IVec S8 32) (own : FVec Ideal S4x4096x3072 .bf16) (sib : FVec Ideal S4x4096x3072 .bf16) (k : Fin 3) (hk : S8.Slices ![k.val] S1) (r : Fin 4096) (q : Fin 3072) : refBlock ids own sib k.val hk (ix2 r q) = sums ids own sib (ix3 k r q) :=
  congrArg₂ (fun x y : EReal => x + y) (own_at ids own k hk r q) (sib_at ids sib k hk r q)

/-- The reference's result is the kernel's. -/
theorem refSums_eq (ids : IVec S8 32) (own : FVec Ideal S4x4096x3072 .bf16) (sib : FVec Ideal S4x4096x3072 .bf16) : refSums ids own sib = sums ids own sib := by
  funext j
  obtain ⟨k, r, q, rfl⟩ : ∃ (k : Fin 3) (r : Fin 4096) (q : Fin 3072), j = ix3 k r q := ⟨j 0, j 1, j 2, by funext a; fin_cases a <;> rfl⟩
  unfold refSums
  pointwise
  fin_cases k
  · exact refBlock_at ids own sib 0 slices_S8_S1_0 r q
  · exact refBlock_at ids own sib 1 slices_S8_S1_1 r q
  · exact refBlock_at ids own sib 2 slices_S8_S1_2 r q

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v55) = refSums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨(h c).1.trans (by rfl), (h c).2⟩) (Value.run m ρ)

end Cert.ChipsAIn

end
-- ==== Proof.ChipsAInClaim.lean ====
/- The claims about what the three other chips are sent of mixer A's input projection's weight's gradient. -/
module

public import proofs.«01_k».proof.Defs
public import proofs.«01_k».proof.Proof.Gen.Kernel36.Frame
public import proofs.«01_k».proof.Proof.ChipsAInRef
public import proofs.«01_k».proof.Proof.Finite
public import Idealize.ShloMosaic.Lib.Claim

@[expose] public section

set_option maxRecDepth 200000

noncomputable section

namespace Cert.ChipsAInClaim

open Idealize.ShloMosaic Idealize.ShloMosaic.Pointwise Idealize.SL.Sem

/-- The precondition's slices fit. -/
instance preFacts : Cert.Pre_a_w_in_chips_named.Facts where
  slices_S8_S1_0 := by decide
  shapeCasts_S1_S_ := by decide
  slices_S8_S1_1 := by decide
  slices_S8_S1_2 := by decide

/-- Where the precondition holds, the table's entries are blocks' numbers. -/
theorem lt_of_pre {F : FTy → Type} [FloatOps F] (ids : IVec ⟨1, ![8]⟩ 32) (own : FVec F ⟨3, ![4, 4096, 3072]⟩ .bf16) (sib : FVec F ⟨3, ![4, 4096, 3072]⟩ .bf16)
    (h : Cert.Pre_a_w_in_chips_named.fn (F := F) ids own sib = fun _ => 1#1) : (∀ k, (Chips.ent ids k).toNat < 4) := by
  have h1 := congrFun h ix0
  revert h1
  pointwise [Cert.Pre_a_w_in_chips_named.fn, Cert.Pre_a_w_in_chips_named.fn_part1]
  intro h1
  obtain ⟨h3, e2⟩ := Finite.both _ _ h1
  obtain ⟨e0, e1⟩ := Finite.both _ _ h3
  obtain ⟨a0, b0⟩ := Finite.both _ _ e0
  obtain ⟨a1, b1⟩ := Finite.both _ _ e1
  obtain ⟨a2, b2⟩ := Finite.both _ _ e2
  have h4 : ∀ k, (Chips.ent ids k).toNat < 4 := fun k => by
    fin_cases k
    · exact Adamw.toNat_lt _ 4 (by omega) a0 b0
    · exact Adamw.toNat_lt _ 4 (by omega) a1 b1
    · exact Adamw.toNat_lt _ 4 (by omega) a2 b2
  exact ⟨h4 0, h4 1, h4 2⟩

/-- Where the precondition holds of `Kernel36`'s arguments, the table names blocks that exist. -/
theorem tbl_Kernel36 (m : (ℓ : Loc Cert.Kernel36.nD Cert.Kernel36.τ Cert.Kernel36.sig) → Buf (Elt Bits) ℓ) (h : Cert.Pre_Kernel36 m) : (∀ k, (Chips.ent (Cert.Kernel36.Gen.tbl m 0) k).toNat < 4) := by
  have e : m (((0 : Dev Cert.Kernel36.nD).tc : Thread Cert.Kernel36.nD Cert.Kernel36.τ).loc Cert.Kernel36.main_arg0) = Cert.Kernel36.Gen.tbl m 0 := Cert.Kernel36.Gen.V_pre m 0 0
  rw [← e]
  exact lt_of_pre _ _ _ (h 0)

/-- Such a table is one `Kernel36` accepts. -/
theorem ok_Kernel36 (m : (ℓ : Loc Cert.Kernel36.nD Cert.Kernel36.τ Cert.Kernel36.sig) → Buf (Elt Bits) ℓ) (h : Cert.Pre_Kernel36 m) : Cert.Kernel36.Gen.Ok m :=
  have h := tbl_Kernel36 m h
  ChipsAIn.ok_of (F := Bits) (Cert.Kernel36.Gen.tbl m) h

/-- `Kernel36` runs and leaves its arguments and every counter as they were. -/
theorem quiescentB : Cert.quiescent_Kernel36 := fun m g h => Cert.Kernel36.Gen.frame m g (ok_Kernel36 m h)

/-- Where the precondition holds of `Kernel36Ideal`'s arguments, the table names blocks that exist. -/
theorem tbl_Kernel36Ideal (m : (ℓ : Loc Cert.Kernel36Ideal.nD Cert.Kernel36Ideal.τ Cert.Kernel36Ideal.sig) → Buf (Elt Ideal) ℓ) (h : Cert.Pre_Kernel36Ideal m) : (∀ k, (Chips.ent (Cert.Kernel36Ideal.Gen.tbl m 0) k).toNat < 4) := by
  have e : m (((0 : Dev Cert.Kernel36Ideal.nD).tc : Thread Cert.Kernel36Ideal.nD Cert.Kernel36Ideal.τ).loc Cert.Kernel36Ideal.main_arg0) = Cert.Kernel36Ideal.Gen.tbl m 0 := Cert.Kernel36Ideal.Gen.V_pre m 0 0
  rw [← e]
  exact lt_of_pre _ _ _ (h 0)

/-- Such a table is one `Kernel36Ideal` accepts. -/
theorem ok_Kernel36Ideal (m : (ℓ : Loc Cert.Kernel36Ideal.nD Cert.Kernel36Ideal.τ Cert.Kernel36Ideal.sig) → Buf (Elt Ideal) ℓ) (h : Cert.Pre_Kernel36Ideal m) : Cert.Kernel36Ideal.Gen.Ok m :=
  have h := tbl_Kernel36Ideal m h
  ChipsAIn.ok_of (F := Ideal) (Cert.Kernel36Ideal.Gen.tbl m) h

/-- `Kernel36Ideal` runs and leaves its arguments and every counter as they were. -/
theorem quiescentI : Cert.quiescent_Kernel36Ideal := fun m g h => Cert.Kernel36Ideal.Gen.frame m g (ok_Kernel36Ideal m h)

/-- The reference leaves its arguments as they were and no pending signals. -/
theorem quiescent : Cert.quiescent_Reference36Ideal := by
  intro m g _
  exact (θ_run _ _ _).mono (fun r h => ⟨fun c => (h c).2, sem_eq_zero_of_no_sems (by decide) _⟩) (Cert.Reference36Ideal.Value.run m g)

set_option maxHeartbeats 1600000 in
/-- The kernel and the reference leave the same sums, where the table names blocks that exist. -/
theorem same : Cert.algebraic_Kernel36Ideal_Reference36Ideal := by
  pair_intro
  · run_from Cert.ChipsAIn.run_kernel m g (ok_Kernel36Ideal m hpre) (tbl_Kernel36Ideal m hpre)
  · run_from Cert.ChipsAIn.run m' g'
    exact Cert.ChipsAIn.refSums_eq _ _ _

end Cert.ChipsAInClaim

end
-- ==== Proof.ChipsBBias.lean ====
/- What the three other chips are sent of the grouped projection's bias's gradient. -/
module

public import proofs.«01_k».proof.Proof.Gen.Kernel37Ideal.Frame
public import proofs.«01_k».proof.Proof.ChipsMath
public import Idealize.ShloMosaic.Lib.Pipeline.ValueKit
public import Idealize.ShloMosaic.Lib.Pipeline.Covers

@[expose] public section

set_option maxRecDepth 16384

noncomputable section

namespace Cert.ChipsBBias

open Cert.Kernel37Ideal Cert.Kernel37Ideal.Gen Idealize.ShloMosaic Idealize.ShloMosaic.TcCoe Idealize.ShloMosaic.Pointwise Idealize.SL.Sem

variable (m : (ℓ : Loc nD τ sig) → Buf (Elt Ideal) ℓ)

/-- The chip that a grid point is about. -/
abbrev chip (i : grid0.Coords) : Fin 3 := ⟨(i 0).val, (i 0).isLt⟩

/-- Block 0's number, as the table gives it. -/
theorem at0 {F : FTy → Type} [FloatOps F] (pf : pre0.Contents (Elt F)) (i : grid0.Coords) : cc0_transform_0 k0_off1_inb numel1_S1 inb_S8_S1_3 pf i = ![(Chips.num (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have h3 : (Rect.unit (s := S8) ![3] S1.size inb_S8_S1_3).emb (Shape.Idx.first (numel1_S1.symm ▸ Nat.one_pos)) = ix1 (3 : Fin 8) := Adamw.emb_first 3 _ _
  have hi : (i 1).val < 1 := (i 1).isLt
  have h32 : (BitVec.ofNat 32 (i 1).val).toNat = (i 1).val := by
    rw [BitVec.toNat_ofNat]; exact Nat.mod_eq_of_lt (by omega)
  show ![(Scalar.addi (Scalar.muli 2#32 (pf 0 ((Rect.unit (s := S8) ![(Scalar.indexCast (BitVec.ofNat 32 (i 0).val)).toNat] S1.size (k0_off1_inb i)).emb (Shape.Idx.first (numel1_S1.symm ▸ Nat.one_pos))))) (pf 0 ((Rect.unit (s := S8) ![3] S1.size inb_S8_S1_3).emb (Shape.Idx.first (numel1_S1.symm ▸ Nat.one_pos))))).toNat, (BitVec.ofNat 32 (i 1).val).toNat, 0] = _
  rw [hx, h3, h32]
  rfl

/-- Block 1's number, as the table gives it. -/
theorem at1 {F : FTy → Type} [FloatOps F] (pf : pre0.Contents (Elt F)) (i : grid0.Coords) : cc0_transform_1 k0_off1_inb numel1_S1 pf i = ![(Chips.ent (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have hi : (i 1).val < 1 := (i 1).isLt
  have h32 : (BitVec.ofNat 32 (i 1).val).toNat = (i 1).val := by
    rw [BitVec.toNat_ofNat]; exact Nat.mod_eq_of_lt (by omega)
  show ![(pf 0 ((Rect.unit (s := S8) ![(Scalar.indexCast (BitVec.ofNat 32 (i 0).val)).toNat] S1.size (k0_off1_inb i)).emb (Shape.Idx.first (numel1_S1.symm ▸ Nat.one_pos)))).toNat, (BitVec.ofNat 32 (i 1).val).toNat, 0] = _
  rw [hx, h32]
  rfl

/-- A table that names blocks that exist is one the call accepts. -/
theorem ok_of {F : FTy → Type} [FloatOps F] (pf : pre0.Contents (Elt F)) (h4 : ∀ k, (Chips.ent (pf 0) k).toNat < 4) (h8 : ∀ k, (Chips.num (pf 0) k).toNat < 8) : ok0 pf := by
  refine ⟨fun i => ?_, fun i => ?_⟩
  · rw [at0]
    have hi : (i 1).val < 1 := (i 1).isLt
    have hk := h8 (chip i)
    refine ⟨fun a => ?_, .inl rfl⟩
    fin_cases a
    · show ((Chips.num (pf 0) (chip i)).toNat + 1) * 1 ≤ 8
      omega
    · show ((i 1).val + 1) * 4 ≤ 4
      omega
    · show (0 + 1) * 256 ≤ 256
      omega
  · rw [at1]
    have hi : (i 1).val < 1 := (i 1).isLt
    have hk := h4 (chip i)
    refine ⟨fun a => ?_, .inl rfl⟩
    fin_cases a
    · show ((Chips.ent (pf 0) (chip i)).toNat + 1) * 1 ≤ 4
      omega
    · show ((i 1).val + 1) * 4 ≤ 4
      omega
    · show (0 + 1) * 256 ≤ 256
      omega

/-- The block numbers that no table gives. -/
theorem ixs : ∀ t : Fin grid0.N, cc0_transform_2 (grid0.coords t) = ![t.val / 1, t.val % 1, 0] ∧ (grid0.coords t 0).val = t.val / 1 ∧ (grid0.coords t 1).val = t.val % 1 := by decide +kernel

/-- The chip at point `t`. -/
abbrev of (t : Fin grid0.N) : Fin 3 := ⟨t.val / 1, by have h : t.val < 3 := lt_of_lt_of_eq t.isLt N_0; omega⟩

/-- The array's row that is the block's row `p` at point `t`. -/
abbrev row (t : Fin grid0.N) (p : Fin 4) : Fin 4 := ⟨t.val % 1 * 4 + p.val, by omega⟩

/-- The result's block at coordinates. -/
theorem emb2 (hO : Ok m) (t : Fin grid0.N) (p : Fin 4) (q : Fin 256) : (((cfgM m hO).win 2).rect t).emb (ix3 0 p q) = ix3 (of t) (row t p) q := by
  funext a
  refine Fin.ext ((Pipeline.Window.rect_emb_val _ t _ a).trans ?_)
  rw [show ((cfgM m hO).win 2).index t = ![t.val / 1, t.val % 1, 0] from (ixs t).1]
  fin_cases a
  · show t.val / 1 * 1 + 0 = t.val / 1
    omega
  · rfl
  · show 0 * 256 + q.val = q.val
    omega

/-- Window 0's block at coordinates: the block of the table's number. -/
theorem emb0 (hO : Ok m) (h : ∀ k, (Chips.num (tbl m 0) k).toNat < 8) (t : Fin grid0.N) (p : Fin 4) (q : Fin 256) : (((cfgM m hO).win 0).rect t).emb (ix3 0 p q) = ix3 (⟨(Chips.num (tbl m 0) (of t)).toNat, h _⟩ : Fin 8) (row t p) q := by
  have hk : chip (grid0.coords t) = of t := Fin.ext (ixs t).2.1
  funext a
  refine Fin.ext ((Pipeline.Window.rect_emb_val _ t _ a).trans ?_)
  rw [show ((cfgM m hO).win 0).index t = ![(Chips.num (tbl m 0) (of t)).toNat, t.val % 1, 0] from (at0 (tbl m) (grid0.coords t)).trans (by rw [(ixs t).2.2, hk])]
  fin_cases a
  · show (Chips.num (tbl m 0) (of t)).toNat * 1 + 0 = (Chips.num (tbl m 0) (of t)).toNat
    omega
  · rfl
  · show 0 * 256 + q.val = q.val
    omega

/-- Window 1's block at coordinates: the block of the table's number. -/
theorem emb1 (hO : Ok m) (h : ∀ k, (Chips.ent (tbl m 0) k).toNat < 4) (t : Fin grid0.N) (p : Fin 4) (q : Fin 256) : (((cfgM m hO).win 1).rect t).emb (ix3 0 p q) = ix3 (⟨(Chips.ent (tbl m 0) (of t)).toNat, h _⟩ : Fin 4) (row t p) q := by
  have hk : chip (grid0.coords t) = of t := Fin.ext (ixs t).2.1
  funext a
  refine Fin.ext ((Pipeline.Window.rect_emb_val _ t _ a).trans ?_)
  rw [show ((cfgM m hO).win 1).index t = ![(Chips.ent (tbl m 0) (of t)).toNat, t.val % 1, 0] from (at1 (tbl m) (grid0.coords t)).trans (by rw [(ixs t).2.2, hk])]
  fin_cases a
  · show (Chips.ent (tbl m 0) (of t)).toNat * 1 + 0 = (Chips.ent (tbl m 0) (of t)).toNat
    omega
  · rfl
  · show 0 * 256 + q.val = q.val
    omega

/-- Every block of the result is written. -/
theorem covers2 (hO : Ok m) : ((cfgM m hO).win 2).Covers := by
  refine Pipeline.Window.covers_of_index_surj _ rfl (show ∀ a : Fin 3, 0 < (![1, 4, 256] : Fin 3 → ℕ) a by decide) (fun β => ?_)
  have hn : ∀ a : Fin 3, ((cfgM m hO).win 2).nblk a = (![3, 1, 1] : Fin 3 → ℕ) a := by
    intro a
    fin_cases a
    · show (3 + 1 - 1) / 1 = 3
      rfl
    · show (4 + 4 - 1) / 4 = 1
      rfl
    · show (256 + 256 - 1) / 256 = 1
      rfl
  obtain ⟨t, hlt, ht⟩ := Chips.point_of (n := 1) (fun a : Fin 3 => (β a).val) fun a => lt_of_lt_of_eq (β a).isLt (hn a)
  exact ⟨⟨t, lt_of_lt_of_eq hlt N_0.symm⟩, fun a => (congrFun (ixs ⟨t, lt_of_lt_of_eq hlt N_0.symm⟩).1 a).trans (ht a)⟩

/-- The result's contents after a point. -/
theorem out2_at (hO : Ok m) (c : Dev nD) (t : Fin grid0.N) : outsAt0 m hO c t = k0_pay1 (F := Ideal) (iblk m hO c 0 t) (iblk m hO c 1 t) := by
  unfold outsAt0
  frame_out
  rw [(hs0_0 m hO t).read_unread (iblk m hO c 0 t), (hs0_1 m hO t).read_unread (iblk m hO c 1 t)]

/-- What each of the three chips is sent: the sum of the two devices' blocks that the table names for it. -/
def sums (ids : IVec ⟨1, ![8]⟩ 32) (own : FVec Ideal ⟨3, ![8, 4, 256]⟩ .f32) (sib : FVec Ideal ⟨3, ![4, 4, 256]⟩ .f32) : FVec Ideal ⟨3, ![3, 4, 256]⟩ .f32 := fun j =>
  Adamw.pick (Chips.num ids (j 0)) (fun d : Fin 8 => own (ix3 d (j 1) (j 2))) + Adamw.pick (Chips.ent ids (j 0)) (fun d : Fin 4 => sib (ix3 d (j 1) (j 2)))

/-- A block's position is a row and a column. -/
theorem split (y : S1x4x256.Idx) : ∃ (p : Fin 4) (q : Fin 256), y = ix3 0 p q := ⟨y 1, y 2, by
  funext a
  match a with
  | ⟨0, _⟩ => exact Subsingleton.elim (α := Fin 1) _ _
  | ⟨1, _⟩ => rfl
  | ⟨2, _⟩ => rfl⟩

/-- The sum of two blocks' entries. -/
theorem pay_at (a b : Vec Ideal S1x4x256 .f32) (p : Fin 4) (q : Fin 256) : k0_pay1 (F := Ideal) a b (ix3 0 p q) = (show EReal from a (ix3 0 p q)) + (show EReal from b (ix3 0 p q)) := by
  pointwise [k0_pay1]

/-- What the run leaves in the result. -/
theorem final (hO : Ok m) (h4 : ∀ k, (Chips.ent (tbl m 0) k).toNat < 4) (h8 : ∀ k, (Chips.num (tbl m 0) k).toNat < 8) (c : Dev nD) : (dats m hO 0 c).arrAt 2 (cfgM m hO).N = sums (m (c.tc.loc main_arg0)) (m (c.tc.loc main_arg1)) (m (c.tc.loc main_arg2)) := by
  refine (dats m hO 0 c).arrAt_eq_of_covers 2 _ (covers2 m hO) fun t _ y => ?_
  obtain ⟨p, q, rfl⟩ := split y
  refine Eq.trans ?_ (congrArg _ (emb2 m hO t p q)).symm
  refine (congrFun ((after0_2 m hO c t).trans (out2_at m hO c t)) (ix3 0 p q : S1x4x256.Idx)).trans ?_
  refine (pay_at _ _ p q).trans ?_
  have e0 : iblk m hO c 0 t (ix3 0 p q : S1x4x256.Idx) = m (c.tc.loc main_arg1) (ix3 (⟨(Chips.num (tbl m 0) (of t)).toNat, h8 _⟩ : Fin 8) (row t p) q) := congrArg (m (c.tc.loc main_arg1)) (emb0 m hO h8 t p q)
  have e1 : iblk m hO c 1 t (ix3 0 p q : S1x4x256.Idx) = m (c.tc.loc main_arg2) (ix3 (⟨(Chips.ent (tbl m 0) (of t)).toNat, h4 _⟩ : Fin 4) (row t p) q) := congrArg (m (c.tc.loc main_arg2)) (emb1 m hO h4 t p q)
  have et : m (c.tc.loc main_arg0) = tbl m 0 := V_pre m c 0
  show _ = Adamw.pick (Chips.num (m (c.tc.loc main_arg0)) (of t)) (fun d : Fin 8 => m (c.tc.loc main_arg1) (ix3 d (row t p) q)) + Adamw.pick (Chips.ent (m (c.tc.loc main_arg0)) (of t)) (fun d : Fin 4 => m (c.tc.loc main_arg2) (ix3 d (row t p) q))
  rw [et, Adamw.pick_eq (by omega) _ (h8 (of t)), Adamw.pick_eq (by omega) _ (h4 (of t)), e0, e1]

/-- The whole run: the result, and the arguments as they were. -/
theorem run_kernel (ρ : Dev nD → PrngReg) (hO : Ok m) (h4 : ∀ k, (Chips.ent (tbl m 0) k).toNat < 4) (h8 : ∀ k, (Chips.num (tbl m 0) k).toNat < 8) :
    θ_run defs (onTc (τ := τ) (main (F := Ideal))) ⟨m, fun _ => 0, ρ⟩ fun r => ∀ c : Dev nD,
      r.2.mem (c.tc.loc main_v0) = sums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨((h.1 c).1 2).trans (final m hO h4 h8 c), h.2 c⟩)
    (θ_run_and (run_main m ρ hO) (unchanged m ρ hO))

end Cert.ChipsBBias

end
-- ==== Proof.ChipsBBiasRef.lean ====
/- The reference sends the three other chips the same sums of the grouped projection's bias's gradient. -/
module

public import proofs.«01_k».proof.Proof.Gen.Reference37Ideal.Run
public import proofs.«01_k».proof.Proof.ChipsBBias

@[expose] public section

set_option maxRecDepth 16384

noncomputable section

namespace Cert.ChipsBBias

open Cert.Reference37Ideal Cert.Reference37Ideal.Gen Idealize.ShloMosaic Idealize.ShloMosaic.TcCoe Idealize.ShloMosaic.Pointwise Idealize.SL.Sem

variable (m : (ℓ : Loc nD τ sig) → Buf (Elt Ideal) ℓ)

/-- The reference's entry for a chip. -/
def refEnt (ids : IVec S8 32) (k : ℕ) (hk : S8.Slices ![k] S1) : IVec S_ 32 := shapeCast S_ (extractStridedSlice S1 ![k] ids hk) shapeCasts_S1_S_

theorem refEnt_eq (ids : IVec S8 32) (k : Fin 3) (hk : S8.Slices ![k.val] S1) (j : S_.Idx) : refEnt ids k.val hk j = Chips.ent ids k := by
  unfold refEnt Chips.ent
  obtain rfl : j = ix0 := funext fun a => a.elim0
  pointwise
  try rfl

/-- The reference's number of the device. -/
def refNum (ids : IVec S8 32) (k : ℕ) (hk : S8.Slices ![k] S1) : IVec S_ 32 :=
  addi (muli (constantI S_ 32 2#32) (refEnt ids k hk)) (shapeCast S_ (extractStridedSlice S1 ![3] ids slices_S8_S1_3) shapeCasts_S1_S_)

theorem refNum_eq (ids : IVec S8 32) (k : Fin 3) (hk : S8.Slices ![k.val] S1) (j : S_.Idx) : refNum ids k.val hk j = Chips.num ids k := by
  unfold refNum Chips.num
  rw [← refEnt_eq ids k hk j]
  obtain rfl : j = ix0 := funext fun a => a.elim0
  pointwise
  try rfl

/-- The reference's block of the devices' gradients: a sum of which the table keeps one term. -/
def ref_own (ids : IVec S8 32) (own : FVec Ideal S8x4x256 .f32) (k : ℕ) (hk : S8.Slices ![k] S1) : FVec Ideal S4x256 .f32 :=
  Host.reduceAdd (select (cmpi .eq (iotaInDim S8x4x256 32 0) (broadcastInDim S8x4x256 ![] bcast_S_S8x4x256 (refNum ids k hk))) own (broadcastInDim S8x4x256 ![] bcast_S_S8x4x256 (id (constant S_ .f32 0x00000000#32)))) (constant S_ .f32 0x00000000#32) reducesTo_S8x4x256_S4x256_d0 h_S_

/-- The reference's block of the siblings' gradients. -/
def ref_sib (ids : IVec S8 32) (sib : FVec Ideal S4x4x256 .f32) (k : ℕ) (hk : S8.Slices ![k] S1) : FVec Ideal S4x256 .f32 :=
  Host.reduceAdd (select (cmpi .eq (iotaInDim S4x4x256 32 0) (broadcastInDim S4x4x256 ![] bcast_S_S4x4x256 (refEnt ids k hk))) sib (broadcastInDim S4x4x256 ![] bcast_S_S4x4x256 (id (constant S_ .f32 0x00000000#32)))) (constant S_ .f32 0x00000000#32) reducesTo_S4x4x256_S4x256_d0 h_S_

/-- The reference's sum for one chip. -/
def refBlock (ids : IVec S8 32) (own : FVec Ideal S8x4x256 .f32) (sib : FVec Ideal S4x4x256 .f32) (k : ℕ) (hk : S8.Slices ![k] S1) : FVec Ideal S4x256 .f32 := addf (ref_own ids own k hk) (ref_sib ids sib k hk)

/-- The reference's result. -/
def refSums (ids : IVec S8 32) (own : FVec Ideal S8x4x256 .f32) (sib : FVec Ideal S4x4x256 .f32) : FVec Ideal S3x4x256 .f32 :=
  concatenate S3x4x256 0 [⟨S1x4x256, broadcastInDim S1x4x256 ![1, 2] bcast_S4x256_S1x4x256_1_2 (refBlock ids own sib 0 slices_S8_S1_0)⟩, ⟨S1x4x256, broadcastInDim S1x4x256 ![1, 2] bcast_S4x256_S1x4x256_1_2 (refBlock ids own sib 1 slices_S8_S1_1)⟩, ⟨S1x4x256, broadcastInDim S1x4x256 ![1, 2] bcast_S4x256_S1x4x256_1_2 (refBlock ids own sib 2 slices_S8_S1_2)⟩] concatenates_S1x4x256_S1x4x256_S1x4x256_S3x4x256_d0

/-- The named block's entry. -/
theorem own_at (ids : IVec S8 32) (own : FVec Ideal S8x4x256 .f32) (k : Fin 3) (hk : S8.Slices ![k.val] S1) (r : Fin 4) (q : Fin 256) : ref_own ids own k.val hk (ix2 r q) = Adamw.pick (Chips.num ids k) (fun d : Fin 8 => own (ix3 d r q)) := by
  have hw := refNum_eq ids k hk ix0
  generalize Chips.num ids k = w at hw
  revert hw
  unfold ref_own
  generalize refNum ids k.val hk = u
  intro hw
  subst hw
  pointwise [Adamw.pick]
  exact Finset.sum_congr rfl fun d _ => Adamw.masked _ _ _ _ Ideal.ofBits_zero_f32

/-- The named block's entry. -/
theorem sib_at (ids : IVec S8 32) (sib : FVec Ideal S4x4x256 .f32) (k : Fin 3) (hk : S8.Slices ![k.val] S1) (r : Fin 4) (q : Fin 256) : ref_sib ids sib k.val hk (ix2 r q) = Adamw.pick (Chips.ent ids k) (fun d : Fin 4 => sib (ix3 d r q)) := by
  have hw := refEnt_eq ids k hk ix0
  generalize Chips.ent ids k = w at hw
  revert hw
  unfold ref_sib
  generalize refEnt ids k.val hk = u
  intro hw
  subst hw
  pointwise [Adamw.pick]
  exact Finset.sum_congr rfl fun d _ => Adamw.masked _ _ _ _ Ideal.ofBits_zero_f32

/-- One chip's sum. -/
theorem refBlock_at (ids : IVec S8 32) (own : FVec Ideal S8x4x256 .f32) (sib : FVec Ideal S4x4x256 .f32) (k : Fin 3) (hk : S8.Slices ![k.val] S1) (r : Fin 4) (q : Fin 256) : refBlock ids own sib k.val hk (ix2 r q) = sums ids own sib (ix3 k r q) :=
  congrArg₂ (fun x y : EReal => x + y) (own_at ids own k hk r q) (sib_at ids sib k hk r q)

/-- The reference's result is the kernel's. -/
theorem refSums_eq (ids : IVec S8 32) (own : FVec Ideal S8x4x256 .f32) (sib : FVec Ideal S4x4x256 .f32) : refSums ids own sib = sums ids own sib := by
  funext j
  obtain ⟨k, r, q, rfl⟩ : ∃ (k : Fin 3) (r : Fin 4) (q : Fin 256), j = ix3 k r q := ⟨j 0, j 1, j 2, by funext a; fin_cases a <;> rfl⟩
  unfold refSums
  pointwise
  fin_cases k
  · exact refBlock_at ids own sib 0 slices_S8_S1_0 r q
  · exact refBlock_at ids own sib 1 slices_S8_S1_1 r q
  · exact refBlock_at ids own sib 2 slices_S8_S1_2 r q

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v60) = refSums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨(h c).1.trans (by rfl), (h c).2⟩) (Value.run m ρ)

end Cert.ChipsBBias

end
-- ==== Proof.ChipsBBiasClaim.lean ====
/- The claims about what the three other chips are sent of the grouped projection's bias's gradient. -/
module

public import proofs.«01_k».proof.Defs
public import proofs.«01_k».proof.Proof.Gen.Kernel37.Frame
public import proofs.«01_k».proof.Proof.ChipsBBiasRef
public import proofs.«01_k».proof.Proof.Finite
public import Idealize.ShloMosaic.Lib.Claim

@[expose] public section

set_option maxRecDepth 200000

noncomputable section

namespace Cert.ChipsBBiasClaim

open Idealize.ShloMosaic Idealize.ShloMosaic.Pointwise Idealize.SL.Sem

/-- The precondition's slices fit. -/
instance preFacts : Cert.Pre_b_b_grp_chips_named.Facts where
  slices_S8_S1_0 := by decide
  shapeCasts_S1_S_ := by decide
  slices_S8_S1_1 := by decide
  slices_S8_S1_2 := by decide
  slices_S8_S1_3 := by decide

/-- Where the precondition holds, the table's entries are blocks' numbers. -/
theorem lt_of_pre {F : FTy → Type} [FloatOps F] (ids : IVec ⟨1, ![8]⟩ 32) (own : FVec F ⟨3, ![8, 4, 256]⟩ .f32) (sib : FVec F ⟨3, ![4, 4, 256]⟩ .f32)
    (h : Cert.Pre_b_b_grp_chips_named.fn (F := F) ids own sib = fun _ => 1#1) : (∀ k, (Chips.ent ids k).toNat < 4) ∧ ∀ k, (Chips.num ids k).toNat < 8 := by
  have h1 := congrFun h ix0
  revert h1
  pointwise [Cert.Pre_b_b_grp_chips_named.fn, Cert.Pre_b_b_grp_chips_named.fn_part1]
  intro h1
  obtain ⟨h2, e3⟩ := Finite.both _ _ h1
  obtain ⟨h3, e2⟩ := Finite.both _ _ h2
  obtain ⟨e0, e1⟩ := Finite.both _ _ h3
  obtain ⟨a0, b0⟩ := Finite.both _ _ e0
  obtain ⟨a1, b1⟩ := Finite.both _ _ e1
  obtain ⟨a2, b2⟩ := Finite.both _ _ e2
  obtain ⟨a3, b3⟩ := Finite.both _ _ e3
  have h4 : ∀ k, (Chips.ent ids k).toNat < 4 := fun k => by
    fin_cases k
    · exact Adamw.toNat_lt _ 4 (by omega) a0 b0
    · exact Adamw.toNat_lt _ 4 (by omega) a1 b1
    · exact Adamw.toNat_lt _ 4 (by omega) a2 b2
  have h8 : ∀ k, (Chips.num ids k).toNat < 8 := fun k => Chips.num_lt ids k (h4 k) (Adamw.toNat_lt _ 2 (by omega) a3 b3)
  exact ⟨⟨h4 0, h4 1, h4 2⟩, h8 0, h8 1, h8 2⟩

/-- Where the precondition holds of `Kernel37`'s arguments, the table names blocks that exist. -/
theorem tbl_Kernel37 (m : (ℓ : Loc Cert.Kernel37.nD Cert.Kernel37.τ Cert.Kernel37.sig) → Buf (Elt Bits) ℓ) (h : Cert.Pre_Kernel37 m) : (∀ k, (Chips.ent (Cert.Kernel37.Gen.tbl m 0) k).toNat < 4) ∧ ∀ k, (Chips.num (Cert.Kernel37.Gen.tbl m 0) k).toNat < 8 := by
  have e : m (((0 : Dev Cert.Kernel37.nD).tc : Thread Cert.Kernel37.nD Cert.Kernel37.τ).loc Cert.Kernel37.main_arg0) = Cert.Kernel37.Gen.tbl m 0 := Cert.Kernel37.Gen.V_pre m 0 0
  rw [← e]
  exact lt_of_pre _ _ _ (h 0)

/-- Such a table is one `Kernel37` accepts. -/
theorem ok_Kernel37 (m : (ℓ : Loc Cert.Kernel37.nD Cert.Kernel37.τ Cert.Kernel37.sig) → Buf (Elt Bits) ℓ) (h : Cert.Pre_Kernel37 m) : Cert.Kernel37.Gen.Ok m :=
  have h := tbl_Kernel37 m h
  ChipsBBias.ok_of (F := Bits) (Cert.Kernel37.Gen.tbl m) h.1 h.2

/-- `Kernel37` runs and leaves its arguments and every counter as they were. -/
theorem quiescentB : Cert.quiescent_Kernel37 := fun m g h => Cert.Kernel37.Gen.frame m g (ok_Kernel37 m h)

/-- Where the precondition holds of `Kernel37Ideal`'s arguments, the table names blocks that exist. -/
theorem tbl_Kernel37Ideal (m : (ℓ : Loc Cert.Kernel37Ideal.nD Cert.Kernel37Ideal.τ Cert.Kernel37Ideal.sig) → Buf (Elt Ideal) ℓ) (h : Cert.Pre_Kernel37Ideal m) : (∀ k, (Chips.ent (Cert.Kernel37Ideal.Gen.tbl m 0) k).toNat < 4) ∧ ∀ k, (Chips.num (Cert.Kernel37Ideal.Gen.tbl m 0) k).toNat < 8 := by
  have e : m (((0 : Dev Cert.Kernel37Ideal.nD).tc : Thread Cert.Kernel37Ideal.nD Cert.Kernel37Ideal.τ).loc Cert.Kernel37Ideal.main_arg0) = Cert.Kernel37Ideal.Gen.tbl m 0 := Cert.Kernel37Ideal.Gen.V_pre m 0 0
  rw [← e]
  exact lt_of_pre _ _ _ (h 0)

/-- Such a table is one `Kernel37Ideal` accepts. -/
theorem ok_Kernel37Ideal (m : (ℓ : Loc Cert.Kernel37Ideal.nD Cert.Kernel37Ideal.τ Cert.Kernel37Ideal.sig) → Buf (Elt Ideal) ℓ) (h : Cert.Pre_Kernel37Ideal m) : Cert.Kernel37Ideal.Gen.Ok m :=
  have h := tbl_Kernel37Ideal m h
  ChipsBBias.ok_of (F := Ideal) (Cert.Kernel37Ideal.Gen.tbl m) h.1 h.2

/-- `Kernel37Ideal` runs and leaves its arguments and every counter as they were. -/
theorem quiescentI : Cert.quiescent_Kernel37Ideal := fun m g h => Cert.Kernel37Ideal.Gen.frame m g (ok_Kernel37Ideal m h)

/-- The reference leaves its arguments as they were and no pending signals. -/
theorem quiescent : Cert.quiescent_Reference37Ideal := by
  intro m g _
  exact (θ_run _ _ _).mono (fun r h => ⟨fun c => (h c).2, sem_eq_zero_of_no_sems (by decide) _⟩) (Cert.Reference37Ideal.Value.run m g)

set_option maxHeartbeats 1600000 in
/-- The kernel and the reference leave the same sums, where the table names blocks that exist. -/
theorem same : Cert.algebraic_Kernel37Ideal_Reference37Ideal := by
  pair_intro
  · run_from Cert.ChipsBBias.run_kernel m g (ok_Kernel37Ideal m hpre) (tbl_Kernel37Ideal m hpre).1 (tbl_Kernel37Ideal m hpre).2
  · run_from Cert.ChipsBBias.run m' g'
    exact Cert.ChipsBBias.refSums_eq _ _ _

end Cert.ChipsBBiasClaim

end
-- ==== Proof.ChipsBScale.lean ====
/- What the three other chips are sent of the mixed value's scale's gradient. -/
module

public import proofs.«01_k».proof.Proof.Gen.Kernel38Ideal.Frame
public import proofs.«01_k».proof.Proof.ChipsMath
public import Idealize.ShloMosaic.Lib.Pipeline.ValueKit
public import Idealize.ShloMosaic.Lib.Pipeline.Covers

@[expose] public section

set_option maxRecDepth 16384

noncomputable section

namespace Cert.ChipsBScale

open Cert.Kernel38Ideal Cert.Kernel38Ideal.Gen Idealize.ShloMosaic Idealize.ShloMosaic.TcCoe Idealize.ShloMosaic.Pointwise Idealize.SL.Sem

variable (m : (ℓ : Loc nD τ sig) → Buf (Elt Ideal) ℓ)

/-- The chip that a grid point is about. -/
abbrev chip (i : grid0.Coords) : Fin 3 := ⟨(i 0).val, (i 0).isLt⟩

/-- Block 0's number, as the table gives it. -/
theorem at0 {F : FTy → Type} [FloatOps F] (pf : pre0.Contents (Elt F)) (i : grid0.Coords) : cc0_transform_0 k0_off1_inb numel1_S1 inb_S8_S1_3 pf i = ![(Chips.num (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have h3 : (Rect.unit (s := S8) ![3] S1.size inb_S8_S1_3).emb (Shape.Idx.first (numel1_S1.symm ▸ Nat.one_pos)) = ix1 (3 : Fin 8) := Adamw.emb_first 3 _ _
  have hi : (i 1).val < 1 := (i 1).isLt
  have h32 : (BitVec.ofNat 32 (i 1).val).toNat = (i 1).val := by
    rw [BitVec.toNat_ofNat]; exact Nat.mod_eq_of_lt (by omega)
  show ![(Scalar.addi (Scalar.muli 2#32 (pf 0 ((Rect.unit (s := S8) ![(Scalar.indexCast (BitVec.ofNat 32 (i 0).val)).toNat] S1.size (k0_off1_inb i)).emb (Shape.Idx.first (numel1_S1.symm ▸ Nat.one_pos))))) (pf 0 ((Rect.unit (s := S8) ![3] S1.size inb_S8_S1_3).emb (Shape.Idx.first (numel1_S1.symm ▸ Nat.one_pos))))).toNat, (BitVec.ofNat 32 (i 1).val).toNat, 0] = _
  rw [hx, h3, h32]
  rfl

/-- Block 1's number, as the table gives it. -/
theorem at1 {F : FTy → Type} [FloatOps F] (pf : pre0.Contents (Elt F)) (i : grid0.Coords) : cc0_transform_1 k0_off1_inb numel1_S1 pf i = ![(Chips.ent (pf 0) (chip i)).toNat, (i 1).val, 0] := by
  have hx : (Rect.unit (s := S8) ![(Scalar.indexCast (BitVec.ofNat 32 (i 0).val)).toNat] S1.size (k0_off1_inb i)).emb (Shape.Idx.first (numel1_S1.symm ▸ Nat.one_pos)) = ix1 (⟨(i 0).val, by have h : (i 0).val < 3 := (i 0).isLt; omega⟩ : Fin 8) :=
    Chips.emb_at _ _ (Chips.index_eq (chip i)) _ _
  have hi : (i 1).val < 1 := (i 1).isLt
  have h32 : (BitVec.ofNat 32 (i 1).val).toNat = (i 1).val := by
    rw [BitVec.toNat_ofNat]; exact Nat.mod_eq_of_lt (by omega)
  show ![(pf 0 ((Rect.unit (s := S8) ![(Scalar.indexCast (BitVec.ofNat 32 (i 0).val)).toNat] S1.size (k0_off1_inb i)).emb (Shape.Idx.first (numel1_S1.symm ▸ Nat.one_pos)))).toNat, (BitVec.ofNat 32 (i 1).val).toNat, 0] = _
  rw [hx, h32]
  rfl

/-- A table that names blocks that exist is one the call accepts. -/
theorem ok_of {F : FTy → Type} [FloatOps F] (pf : pre0.Contents (Elt F)) (h4 : ∀ k, (Chips.ent (pf 0) k).toNat < 4) (h8 : ∀ k, (Chips.num (pf 0) k).toNat < 8) : ok0 pf := by
  refine ⟨fun i => ?_, fun i => ?_⟩
  · rw [at0]
    have hi : (i 1).val < 1 := (i 1).isLt
    have hk := h8 (chip i)
    refine ⟨fun a => ?_, .inl rfl⟩
    fin_cases a
    · show ((Chips.num (pf 0) (chip i)).toNat + 1) * 1 ≤ 8
      omega
    · show ((i 1).val + 1) * 1 ≤ 1
      omega
    · show (0 + 1) * 1024 ≤ 1024
      omega
  · rw [at1]
    have hi : (i 1).val < 1 := (i 1).isLt
    have hk := h4 (chip i)
    refine ⟨fun a => ?_, .inl rfl⟩
    fin_cases a
    · show ((Chips.ent (pf 0) (chip i)).toNat + 1) * 1 ≤ 4
      omega
    · show ((i 1).val + 1) * 1 ≤ 1
      omega
    · show (0 + 1) * 1024 ≤ 1024
      omega

/-- The block numbers that no table gives. -/
theorem ixs : ∀ t : Fin grid0.N, cc0_transform_2 (grid0.coords t) = ![t.val / 1, t.val % 1, 0] ∧ (grid0.coords t 0).val = t.val / 1 ∧ (grid0.coords t 1).val = t.val % 1 := by decide +kernel

/-- The chip at point `t`. -/
abbrev of (t : Fin grid0.N) : Fin 3 := ⟨t.val / 1, by have h : t.val < 3 := lt_of_lt_of_eq t.isLt N_0; omega⟩

/-- The array's row that is the block's row `p` at point `t`. -/
abbrev row (t : Fin grid0.N) (p : Fin 1) : Fin 1 := ⟨t.val % 1 * 1 + p.val, by omega⟩

/-- The result's block at coordinates. -/
theorem emb2 (hO : Ok m) (t : Fin grid0.N) (p : Fin 1) (q : Fin 1024) : (((cfgM m hO).win 2).rect t).emb (ix3 0 p q) = ix3 (of t) (row t p) q := by
  funext a
  refine Fin.ext ((Pipeline.Window.rect_emb_val _ t _ a).trans ?_)
  rw [show ((cfgM m hO).win 2).index t = ![t.val / 1, t.val % 1, 0] from (ixs t).1]
  fin_cases a
  · show t.val / 1 * 1 + 0 = t.val / 1
    omega
  · rfl
  · show 0 * 1024 + q.val = q.val
    omega

/-- Window 0's block at coordinates: the block of the table's number. -/
theorem emb0 (hO : Ok m) (h : ∀ k, (Chips.num (tbl m 0) k).toNat < 8) (t : Fin grid0.N) (p : Fin 1) (q : Fin 1024) : (((cfgM m hO).win 0).rect t).emb (ix3 0 p q) = ix3 (⟨(Chips.num (tbl m 0) (of t)).toNat, h _⟩ : Fin 8) (row t p) q := by
  have hk : chip (grid0.coords t) = of t := Fin.ext (ixs t).2.1
  funext a
  refine Fin.ext ((Pipeline.Window.rect_emb_val _ t _ a).trans ?_)
  rw [show ((cfgM m hO).win 0).index t = ![(Chips.num (tbl m 0) (of t)).toNat, t.val % 1, 0] from (at0 (tbl m) (grid0.coords t)).trans (by rw [(ixs t).2.2, hk])]
  fin_cases a
  · show (Chips.num (tbl m 0) (of t)).toNat * 1 + 0 = (Chips.num (tbl m 0) (of t)).toNat
    omega
  · rfl
  · show 0 * 1024 + q.val = q.val
    omega

/-- Window 1's block at coordinates: the block of the table's number. -/
theorem emb1 (hO : Ok m) (h : ∀ k, (Chips.ent (tbl m 0) k).toNat < 4) (t : Fin grid0.N) (p : Fin 1) (q : Fin 1024) : (((cfgM m hO).win 1).rect t).emb (ix3 0 p q) = ix3 (⟨(Chips.ent (tbl m 0) (of t)).toNat, h _⟩ : Fin 4) (row t p) q := by
  have hk : chip (grid0.coords t) = of t := Fin.ext (ixs t).2.1
  funext a
  refine Fin.ext ((Pipeline.Window.rect_emb_val _ t _ a).trans ?_)
  rw [show ((cfgM m hO).win 1).index t = ![(Chips.ent (tbl m 0) (of t)).toNat, t.val % 1, 0] from (at1 (tbl m) (grid0.coords t)).trans (by rw [(ixs t).2.2, hk])]
  fin_cases a
  · show (Chips.ent (tbl m 0) (of t)).toNat * 1 + 0 = (Chips.ent (tbl m 0) (of t)).toNat
    omega
  · rfl
  · show 0 * 1024 + q.val = q.val
    omega

/-- Every block of the result is written. -/
theorem covers2 (hO : Ok m) : ((cfgM m hO).win 2).Covers := by
  refine Pipeline.Window.covers_of_index_surj _ rfl (show ∀ a : Fin 3, 0 < (![1, 1, 1024] : Fin 3 → ℕ) a by decide) (fun β => ?_)
  have hn : ∀ a : Fin 3, ((cfgM m hO).win 2).nblk a = (![3, 1, 1] : Fin 3 → ℕ) a := by
    intro a
    fin_cases a
    · show (3 + 1 - 1) / 1 = 3
      rfl
    · show (1 + 1 - 1) / 1 = 1
      rfl
    · show (1024 + 1024 - 1) / 1024 = 1
      rfl
  obtain ⟨t, hlt, ht⟩ := Chips.point_of (n := 1) (fun a : Fin 3 => (β a).val) fun a => lt_of_lt_of_eq (β a).isLt (hn a)
  exact ⟨⟨t, lt_of_lt_of_eq hlt N_0.symm⟩, fun a => (congrFun (ixs ⟨t, lt_of_lt_of_eq hlt N_0.symm⟩).1 a).trans (ht a)⟩

/-- The result's contents after a point. -/
theorem out2_at (hO : Ok m) (c : Dev nD) (t : Fin grid0.N) : outsAt0 m hO c t = k0_pay1 (F := Ideal) (iblk m hO c 0 t) (iblk m hO c 1 t) := by
  unfold outsAt0
  frame_out
  rw [(hs0_0 m hO t).read_unread (iblk m hO c 0 t), (hs0_1 m hO t).read_unread (iblk m hO c 1 t)]

/-- What each of the three chips is sent: the sum of the two devices' blocks that the table names for it. -/
def sums (ids : IVec ⟨1, ![8]⟩ 32) (own : FVec Ideal ⟨3, ![8, 1, 1024]⟩ .f32) (sib : FVec Ideal ⟨3, ![4, 1, 1024]⟩ .f32) : FVec Ideal ⟨3, ![3, 1, 1024]⟩ .f32 := fun j =>
  Adamw.pick (Chips.num ids (j 0)) (fun d : Fin 8 => own (ix3 d (j 1) (j 2))) + Adamw.pick (Chips.ent ids (j 0)) (fun d : Fin 4 => sib (ix3 d (j 1) (j 2)))

/-- A block's position is a row and a column. -/
theorem split (y : S1x1x1024.Idx) : ∃ (p : Fin 1) (q : Fin 1024), y = ix3 0 p q := ⟨y 1, y 2, by
  funext a
  match a with
  | ⟨0, _⟩ => exact Subsingleton.elim (α := Fin 1) _ _
  | ⟨1, _⟩ => rfl
  | ⟨2, _⟩ => rfl⟩

/-- The sum of two blocks' entries. -/
theorem pay_at (a b : Vec Ideal S1x1x1024 .f32) (p : Fin 1) (q : Fin 1024) : k0_pay1 (F := Ideal) a b (ix3 0 p q) = (show EReal from a (ix3 0 p q)) + (show EReal from b (ix3 0 p q)) := by
  obtain rfl : p = 0 := Subsingleton.elim _ _
  pointwise [k0_pay1]

/-- What the run leaves in the result. -/
theorem final (hO : Ok m) (h4 : ∀ k, (Chips.ent (tbl m 0) k).toNat < 4) (h8 : ∀ k, (Chips.num (tbl m 0) k).toNat < 8) (c : Dev nD) : (dats m hO 0 c).arrAt 2 (cfgM m hO).N = sums (m (c.tc.loc main_arg0)) (m (c.tc.loc main_arg1)) (m (c.tc.loc main_arg2)) := by
  refine (dats m hO 0 c).arrAt_eq_of_covers 2 _ (covers2 m hO) fun t _ y => ?_
  obtain ⟨p, q, rfl⟩ := split y
  refine Eq.trans ?_ (congrArg _ (emb2 m hO t p q)).symm
  refine (congrFun ((after0_2 m hO c t).trans (out2_at m hO c t)) (ix3 0 p q : S1x1x1024.Idx)).trans ?_
  refine (pay_at _ _ p q).trans ?_
  have e0 : iblk m hO c 0 t (ix3 0 p q : S1x1x1024.Idx) = m (c.tc.loc main_arg1) (ix3 (⟨(Chips.num (tbl m 0) (of t)).toNat, h8 _⟩ : Fin 8) (row t p) q) := congrArg (m (c.tc.loc main_arg1)) (emb0 m hO h8 t p q)
  have e1 : iblk m hO c 1 t (ix3 0 p q : S1x1x1024.Idx) = m (c.tc.loc main_arg2) (ix3 (⟨(Chips.ent (tbl m 0) (of t)).toNat, h4 _⟩ : Fin 4) (row t p) q) := congrArg (m (c.tc.loc main_arg2)) (emb1 m hO h4 t p q)
  have et : m (c.tc.loc main_arg0) = tbl m 0 := V_pre m c 0
  show _ = Adamw.pick (Chips.num (m (c.tc.loc main_arg0)) (of t)) (fun d : Fin 8 => m (c.tc.loc main_arg1) (ix3 d (row t p) q)) + Adamw.pick (Chips.ent (m (c.tc.loc main_arg0)) (of t)) (fun d : Fin 4 => m (c.tc.loc main_arg2) (ix3 d (row t p) q))
  rw [et, Adamw.pick_eq (by omega) _ (h8 (of t)), Adamw.pick_eq (by omega) _ (h4 (of t)), e0, e1]

/-- The whole run: the result, and the arguments as they were. -/
theorem run_kernel (ρ : Dev nD → PrngReg) (hO : Ok m) (h4 : ∀ k, (Chips.ent (tbl m 0) k).toNat < 4) (h8 : ∀ k, (Chips.num (tbl m 0) k).toNat < 8) :
    θ_run defs (onTc (τ := τ) (main (F := Ideal))) ⟨m, fun _ => 0, ρ⟩ fun r => ∀ c : Dev nD,
      r.2.mem (c.tc.loc main_v0) = sums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨((h.1 c).1 2).trans (final m hO h4 h8 c), h.2 c⟩)
    (θ_run_and (run_main m ρ hO) (unchanged m ρ hO))

end Cert.ChipsBScale

end
-- ==== Proof.ChipsBScaleRef.lean ====
/- The reference sends the three other chips the same sums of the mixed value's scale's gradient. -/
module

public import proofs.«01_k».proof.Proof.Gen.Reference38Ideal.Run
public import proofs.«01_k».proof.Proof.ChipsBScale

@[expose] public section

set_option maxRecDepth 16384

noncomputable section

namespace Cert.ChipsBScale

open Cert.Reference38Ideal Cert.Reference38Ideal.Gen Idealize.ShloMosaic Idealize.ShloMosaic.TcCoe Idealize.ShloMosaic.Pointwise Idealize.SL.Sem

variable (m : (ℓ : Loc nD τ sig) → Buf (Elt Ideal) ℓ)

/-- The reference's entry for a chip. -/
def refEnt (ids : IVec S8 32) (k : ℕ) (hk : S8.Slices ![k] S1) : IVec S_ 32 := shapeCast S_ (extractStridedSlice S1 ![k] ids hk) shapeCasts_S1_S_

theorem refEnt_eq (ids : IVec S8 32) (k : Fin 3) (hk : S8.Slices ![k.val] S1) (j : S_.Idx) : refEnt ids k.val hk j = Chips.ent ids k := by
  unfold refEnt Chips.ent
  obtain rfl : j = ix0 := funext fun a => a.elim0
  pointwise
  try rfl

/-- The reference's number of the device. -/
def refNum (ids : IVec S8 32) (k : ℕ) (hk : S8.Slices ![k] S1) : IVec S_ 32 :=
  addi (muli (constantI S_ 32 2#32) (refEnt ids k hk)) (shapeCast S_ (extractStridedSlice S1 ![3] ids slices_S8_S1_3) shapeCasts_S1_S_)

theorem refNum_eq (ids : IVec S8 32) (k : Fin 3) (hk : S8.Slices ![k.val] S1) (j : S_.Idx) : refNum ids k.val hk j = Chips.num ids k := by
  unfold refNum Chips.num
  rw [← refEnt_eq ids k hk j]
  obtain rfl : j = ix0 := funext fun a => a.elim0
  pointwise
  try rfl

/-- The reference's block of the devices' gradients: a sum of which the table keeps one term. -/
def ref_own (ids : IVec S8 32) (own : FVec Ideal S8x1x1024 .f32) (k : ℕ) (hk : S8.Slices ![k] S1) : FVec Ideal S1x1024 .f32 :=
  Host.reduceAdd (select (cmpi .eq (iotaInDim S8x1x1024 32 0) (broadcastInDim S8x1x1024 ![] bcast_S_S8x1x1024 (refNum ids k hk))) own (broadcastInDim S8x1x1024 ![] bcast_S_S8x1x1024 (id (constant S_ .f32 0x00000000#32)))) (constant S_ .f32 0x00000000#32) reducesTo_S8x1x1024_S1x1024_d0 h_S_

/-- The reference's block of the siblings' gradients. -/
def ref_sib (ids : IVec S8 32) (sib : FVec Ideal S4x1x1024 .f32) (k : ℕ) (hk : S8.Slices ![k] S1) : FVec Ideal S1x1024 .f32 :=
  Host.reduceAdd (select (cmpi .eq (iotaInDim S4x1x1024 32 0) (broadcastInDim S4x1x1024 ![] bcast_S_S4x1x1024 (refEnt ids k hk))) sib (broadcastInDim S4x1x1024 ![] bcast_S_S4x1x1024 (id (constant S_ .f32 0x00000000#32)))) (constant S_ .f32 0x00000000#32) reducesTo_S4x1x1024_S1x1024_d0 h_S_

/-- The reference's sum for one chip. -/
def refBlock (ids : IVec S8 32) (own : FVec Ideal S8x1x1024 .f32) (sib : FVec Ideal S4x1x1024 .f32) (k : ℕ) (hk : S8.Slices ![k] S1) : FVec Ideal S1x1024 .f32 := addf (ref_own ids own k hk) (ref_sib ids sib k hk)

/-- The reference's result. -/
def refSums (ids : IVec S8 32) (own : FVec Ideal S8x1x1024 .f32) (sib : FVec Ideal S4x1x1024 .f32) : FVec Ideal S3x1x1024 .f32 :=
  concatenate S3x1x1024 0 [⟨S1x1x1024, broadcastInDim S1x1x1024 ![1, 2] bcast_S1x1024_S1x1x1024_1_2 (refBlock ids own sib 0 slices_S8_S1_0)⟩, ⟨S1x1x1024, broadcastInDim S1x1x1024 ![1, 2] bcast_S1x1024_S1x1x1024_1_2 (refBlock ids own sib 1 slices_S8_S1_1)⟩, ⟨S1x1x1024, broadcastInDim S1x1x1024 ![1, 2] bcast_S1x1024_S1x1x1024_1_2 (refBlock ids own sib 2 slices_S8_S1_2)⟩] concatenates_S1x1x1024_S1x1x1024_S1x1x1024_S3x1x1024_d0

/-- The named block's entry. -/
theorem own_at (ids : IVec S8 32) (own : FVec Ideal S8x1x1024 .f32) (k : Fin 3) (hk : S8.Slices ![k.val] S1) (r : Fin 1) (q : Fin 1024) : ref_own ids own k.val hk (ix2 r q) = Adamw.pick (Chips.num ids k) (fun d : Fin 8 => own (ix3 d r q)) := by
  obtain rfl : r = 0 := Subsingleton.elim _ _
  have hw := refNum_eq ids k hk ix0
  generalize Chips.num ids k = w at hw
  revert hw
  unfold ref_own
  generalize refNum ids k.val hk = u
  intro hw
  subst hw
  pointwise [Adamw.pick]
  exact Finset.sum_congr rfl fun d _ => Adamw.masked _ _ _ _ Ideal.ofBits_zero_f32

/-- The named block's entry. -/
theorem sib_at (ids : IVec S8 32) (sib : FVec Ideal S4x1x1024 .f32) (k : Fin 3) (hk : S8.Slices ![k.val] S1) (r : Fin 1) (q : Fin 1024) : ref_sib ids sib k.val hk (ix2 r q) = Adamw.pick (Chips.ent ids k) (fun d : Fin 4 => sib (ix3 d r q)) := by
  obtain rfl : r = 0 := Subsingleton.elim _ _
  have hw := refEnt_eq ids k hk ix0
  generalize Chips.ent ids k = w at hw
  revert hw
  unfold ref_sib
  generalize refEnt ids k.val hk = u
  intro hw
  subst hw
  pointwise [Adamw.pick]
  exact Finset.sum_congr rfl fun d _ => Adamw.masked _ _ _ _ Ideal.ofBits_zero_f32

/-- One chip's sum. -/
theorem refBlock_at (ids : IVec S8 32) (own : FVec Ideal S8x1x1024 .f32) (sib : FVec Ideal S4x1x1024 .f32) (k : Fin 3) (hk : S8.Slices ![k.val] S1) (r : Fin 1) (q : Fin 1024) : refBlock ids own sib k.val hk (ix2 r q) = sums ids own sib (ix3 k r q) :=
  congrArg₂ (fun x y : EReal => x + y) (own_at ids own k hk r q) (sib_at ids sib k hk r q)

/-- The reference's result is the kernel's. -/
theorem refSums_eq (ids : IVec S8 32) (own : FVec Ideal S8x1x1024 .f32) (sib : FVec Ideal S4x1x1024 .f32) : refSums ids own sib = sums ids own sib := by
  funext j
  obtain ⟨k, r, q, rfl⟩ : ∃ (k : Fin 3) (r : Fin 1) (q : Fin 1024), j = ix3 k r q := ⟨j 0, j 1, j 2, by funext a; fin_cases a <;> rfl⟩
  obtain rfl : r = 0 := Subsingleton.elim _ _
  unfold refSums
  pointwise
  fin_cases k
  · exact refBlock_at ids own sib 0 slices_S8_S1_0 0 q
  · exact refBlock_at ids own sib 1 slices_S8_S1_1 0 q
  · exact refBlock_at ids own sib 2 slices_S8_S1_2 0 q

set_option maxHeartbeats 3200000 in
/-- What the reference leaves, named in parts. -/
theorem run (ρ : Dev nD → PrngReg) :
    θ_run defs (onTc (τ := τ) (main (F := Ideal))) ⟨m, fun _ => 0, ρ⟩ fun r => ∀ c : Dev nD,
      r.2.mem (c.tc.loc main_v60) = refSums (m (c.tc.loc main_arg0)) (m (c.tc.loc main_arg1)) (m (c.tc.loc main_arg2))
      ∧ r.2.mem (c.tc.loc main_arg0) = (m (c.tc.loc main_arg0)) ∧ r.2.mem (c.tc.loc main_arg1) = (m (c.tc.loc main_arg1)) ∧ r.2.mem (c.tc.loc main_arg2) = (m (c.tc.loc main_arg2)) :=
  (θ_run defs _ _).mono (fun _ h c => ⟨(h c).1.trans (by rfl), (h c).2⟩) (Value.run m ρ)

end Cert.ChipsBScale

end
-- ==== Proof.ChipsBScaleClaim.lean ====
/- The claims about what the three other chips are sent of the mixed value's scale's gradient. -/
module

public import proofs.«01_k».proof.Defs
public import proofs.«01_k».proof.Proof.Gen.Kernel38.Frame
public import proofs.«01_k».proof.Proof.ChipsBScaleRef
public import proofs.«01_k».proof.Proof.Finite
public import Idealize.ShloMosaic.Lib.Claim

@[expose] public section

set_option maxRecDepth 200000

noncomputable section

namespace Cert.ChipsBScaleClaim

open Idealize.ShloMosaic Idealize.ShloMosaic.Pointwise Idealize.SL.Sem

/-- The precondition's slices fit. -/
instance preFacts : Cert.Pre_b_scale_chips_named.Facts where
  slices_S8_S1_0 := by decide
  shapeCasts_S1_S_ := by decide
  slices_S8_S1_1 := by decide
  slices_S8_S1_2 := by decide
  slices_S8_S1_3 := by decide

/-- Where the precondition holds, the table's entries are blocks' numbers. -/
theorem lt_of_pre {F : FTy → Type} [FloatOps F] (ids : IVec ⟨1, ![8]⟩ 32) (own : FVec F ⟨3, ![8, 1, 1024]⟩ .f32) (sib : FVec F ⟨3, ![4, 1, 1024]⟩ .f32)
    (h : Cert.Pre_b_scale_chips_named.fn (F := F) ids own sib = fun _ => 1#1) : (∀ k, (Chips.ent ids k).toNat < 4) ∧ ∀ k, (Chips.num ids k).toNat < 8 := by
  have h1 := congrFun h ix0
  revert h1
  pointwise [Cert.Pre_b_scale_chips_named.fn, Cert.Pre_b_scale_chips_named.fn_part1]
  intro h1
  obtain ⟨h2, e3⟩ := Finite.both _ _ h1
  obtain ⟨h3, e2⟩ := Finite.both _ _ h2
  obtain ⟨e0, e1⟩ := Finite.both _ _ h3
  obtain ⟨a0, b0⟩ := Finite.both _ _ e0
  obtain ⟨a1, b1⟩ := Finite.both _ _ e1
  obtain ⟨a2, b2⟩ := Finite.both _ _ e2
  obtain ⟨a3, b3⟩ := Finite.both _ _ e3
  have h4 : ∀ k, (Chips.ent ids k).toNat < 4 := fun k => by
    fin_cases k
    · exact Adamw.toNat_lt _ 4 (by omega) a0 b0
    · exact Adamw.toNat_lt _ 4 (by omega) a1 b1
    · exact Adamw.toNat_lt _ 4 (by omega) a2 b2
  have h8 : ∀ k, (Chips.num ids k).toNat < 8 := fun k => Chips.num_lt ids k (h4 k) (Adamw.toNat_lt _ 2 (by omega) a3 b3)
  exact ⟨⟨h4 0, h4 1, h4 2⟩, h8 0, h8 1, h8 2⟩

/-- Where the precondition holds of `Kernel38`'s arguments, the table names blocks that exist. -/
theorem tbl_Kernel38 (m : (ℓ : Loc Cert.Kernel38.nD Cert.Kernel38.τ Cert.Kernel38.sig) → Buf (Elt Bits) ℓ) (h : Cert.Pre_Kernel38 m) : (∀ k, (Chips.ent (Cert.Kernel38.Gen.tbl m 0) k).toNat < 4) ∧ ∀ k, (Chips.num (Cert.Kernel38.Gen.tbl m 0) k).toNat < 8 := by
  have e : m (((0 : Dev Cert.Kernel38.nD).tc : Thread Cert.Kernel38.nD Cert.Kernel38.τ).loc Cert.Kernel38.main_arg0) = Cert.Kernel38.Gen.tbl m 0 := Cert.Kernel38.Gen.V_pre m 0 0
  rw [← e]
  exact lt_of_pre _ _ _ (h 0)

/-- Such a table is one `Kernel38` accepts. -/
theorem ok_Kernel38 (m : (ℓ : Loc Cert.Kernel38.nD Cert.Kernel38.τ Cert.Kernel38.sig) → Buf (Elt Bits) ℓ) (h : Cert.Pre_Kernel38 m) : Cert.Kernel38.Gen.Ok m :=
  have h := tbl_Kernel38 m h
  ChipsBScale.ok_of (F := Bits) (Cert.Kernel38.Gen.tbl m) h.1 h.2

/-- `Kernel38` runs and leaves its arguments and every counter as they were. -/
theorem quiescentB : Cert.quiescent_Kernel38 := fun m g h => Cert.Kernel38.Gen.frame m g (ok_Kernel38 m h)

/-- Where the precondition holds of `Kernel38Ideal`'s arguments, the table names blocks that exist. -/
theorem tbl_Kernel38Ideal (m : (ℓ : Loc Cert.Kernel38Ideal.nD Cert.Kernel38Ideal.τ Cert.Kernel38Ideal.sig) → Buf (Elt Ideal) ℓ) (h : Cert.Pre_Kernel38Ideal m) : (∀ k, (Chips.ent (Cert.Kernel38Ideal.Gen.tbl m 0) k).toNat < 4) ∧ ∀ k, (Chips.num (Cert.Kernel38Ideal.Gen.tbl m 0) k).toNat < 8 := by
  have e : m (((0 : Dev Cert.Kernel38Ideal.nD).tc : Thread Cert.Kernel38Ideal.nD Cert.Kernel38Ideal.τ).loc Cert.Kernel38Ideal.main_arg0) = Cert.Kernel38Ideal.Gen.tbl m 0 := Cert.Kernel38Ideal.Gen.V_pre m 0 0
  rw [← e]
  exact lt_of_pre _ _ _ (h 0)

/-- Such a table is one `Kernel38Ideal` accepts. -/
theorem ok_Kernel38Ideal (m : (ℓ : Loc Cert.Kernel38Ideal.nD Cert.Kernel38Ideal.τ Cert.Kernel38Ideal.sig) → Buf (Elt Ideal) ℓ) (h : Cert.Pre_Kernel38Ideal m) : Cert.Kernel38Ideal.Gen.Ok m :=
  have h := tbl_Kernel38Ideal m h
  ChipsBScale.ok_of (F := Ideal) (Cert.Kernel38Ideal.Gen.tbl m) h.1 h.2

/-- `Kernel38Ideal` runs and leaves its arguments and every counter as they were. -/
theorem quiescentI : Cert.quiescent_Kernel38Ideal := fun m g h => Cert.Kernel38Ideal.Gen.frame m g (ok_Kernel38Ideal m h)

/-- The reference leaves its arguments as they were and no pending signals. -/
theorem quiescent : Cert.quiescent_Reference38Ideal := by
  intro m g _
  exact (θ_run _ _ _).mono (fun r h => ⟨fun c => (h c).2, sem_eq_zero_of_no_sems (by decide) _⟩) (Cert.Reference38Ideal.Value.run m g)

set_option maxHeartbeats 1600000 in
/-- The kernel and the reference leave the same sums, where the table names blocks that exist. -/
theorem same : Cert.algebraic_Kernel38Ideal_Reference38Ideal := by
  pair_intro
  · run_from Cert.ChipsBScale.run_kernel m g (ok_Kernel38Ideal m hpre) (tbl_Kernel38Ideal m hpre).1 (tbl_Kernel38Ideal m hpre).2
  · run_from Cert.ChipsBScale.run m' g'
    exact Cert.ChipsBScale.refSums_eq _ _ _

end Cert.ChipsBScaleClaim

end
-- ==== Proof.lean ====
/- The certificate: every claim of `Cert.Claim`, from the modules under `Proof/`. -/
module

public import proofs.«01_k».proof.Defs
public import proofs.«01_k».proof.Proof.Gen.Kernel.Frame
public import proofs.«01_k».proof.Proof.Gen.KernelIdeal.Frame
public import proofs.«01_k».proof.Proof.Gen.ReferenceIdeal.Run
public import proofs.«01_k».proof.Proof.Gen.Kernel2.Frame
public import proofs.«01_k».proof.Proof.Gen.Kernel2Ideal.Frame
public import proofs.«01_k».proof.Proof.Gen.Reference2Ideal.Run
public import proofs.«01_k».proof.Proof.Gen.Kernel3.Frame
public import proofs.«01_k».proof.Proof.Gen.Kernel3Ideal.Frame
public import proofs.«01_k».proof.Proof.Gen.Reference3Ideal.Run
public import proofs.«01_k».proof.Proof.Gen.Kernel4.Frame
public import proofs.«01_k».proof.Proof.Gen.Kernel4Ideal.Frame
public import proofs.«01_k».proof.Proof.Gen.Reference4Ideal.Run
public import proofs.«01_k».proof.Proof.Gen.Kernel5.Frame
public import proofs.«01_k».proof.Proof.Gen.Kernel5Ideal.Frame
public import proofs.«01_k».proof.Proof.Gen.Reference5Ideal.Run
public import proofs.«01_k».proof.Proof.Gen.Kernel6.Frame
public import proofs.«01_k».proof.Proof.Gen.Kernel6Ideal.Frame
public import proofs.«01_k».proof.Proof.Gen.Reference6Ideal.Run
public import proofs.«01_k».proof.Proof.Gen.Kernel7.Frame
public import proofs.«01_k».proof.Proof.Gen.Kernel7Ideal.Frame
public import proofs.«01_k».proof.Proof.Gen.Reference7Ideal.Run
public import proofs.«01_k».proof.Proof.Gen.Kernel8.Frame
public import proofs.«01_k».proof.Proof.Gen.Kernel8Ideal.Frame
public import proofs.«01_k».proof.Proof.Gen.Reference8Ideal.Run
public import proofs.«01_k».proof.Proof.Gen.Kernel9.Frame
public import proofs.«01_k».proof.Proof.Gen.Kernel9Ideal.Frame
public import proofs.«01_k».proof.Proof.Gen.Reference9Ideal.Run
public import proofs.«01_k».proof.Proof.Gen.Kernel10.Frame
public import proofs.«01_k».proof.Proof.Gen.Kernel10Ideal.Frame
public import proofs.«01_k».proof.Proof.Gen.Reference10Ideal.Run
public import proofs.«01_k».proof.Proof.Gen.Kernel11.Frame
public import proofs.«01_k».proof.Proof.Gen.Kernel11Ideal.Frame
public import proofs.«01_k».proof.Proof.Gen.Reference11Ideal.Run
public import proofs.«01_k».proof.Proof.Gen.Kernel12.Frame
public import proofs.«01_k».proof.Proof.Gen.Kernel12Ideal.Frame
public import proofs.«01_k».proof.Proof.Gen.Reference12Ideal.Run
public import proofs.«01_k».proof.Proof.Gen.Kernel13.Frame
public import proofs.«01_k».proof.Proof.Gen.Kernel13Ideal.Frame
public import proofs.«01_k».proof.Proof.Gen.Reference13Ideal.Run
public import proofs.«01_k».proof.Proof.Gen.Kernel16.Frame
public import proofs.«01_k».proof.Proof.Gen.Kernel16Ideal.Frame
public import proofs.«01_k».proof.Proof.Gen.Reference16Ideal.Run
public import proofs.«01_k».proof.Proof.Gen.Kernel17.Frame
public import proofs.«01_k».proof.Proof.Gen.Kernel17Ideal.Frame
public import proofs.«01_k».proof.Proof.Gen.Reference17Ideal.Run
public import proofs.«01_k».proof.Proof.Gen.Kernel18.Frame
public import proofs.«01_k».proof.Proof.Gen.Kernel18Ideal.Frame
public import proofs.«01_k».proof.Proof.Gen.Reference18Ideal.Run
public import proofs.«01_k».proof.Proof.Gen.Kernel19.Frame
public import proofs.«01_k».proof.Proof.Gen.Kernel19Ideal.Frame
public import proofs.«01_k».proof.Proof.Gen.Reference19Ideal.Run
public import proofs.«01_k».proof.Proof.Gen.Kernel20.Frame
public import proofs.«01_k».proof.Proof.Gen.Kernel20Ideal.Frame
public import proofs.«01_k».proof.Proof.Gen.Reference20Ideal.Run
public import proofs.«01_k».proof.Proof.Gen.Kernel21.Frame
public import proofs.«01_k».proof.Proof.Gen.Kernel21Ideal.Frame
public import proofs.«01_k».proof.Proof.Gen.Reference21Ideal.Run
public import proofs.«01_k».proof.Proof.Gen.Kernel22.Frame
public import proofs.«01_k».proof.Proof.Gen.Kernel22Ideal.Frame
public import proofs.«01_k».proof.Proof.Gen.Reference22Ideal.Run
public import proofs.«01_k».proof.Proof.Gen.Kernel25.Frame
public import proofs.«01_k».proof.Proof.Gen.Kernel25Ideal.Frame
public import proofs.«01_k».proof.Proof.Gen.Reference25Ideal.Run
public import proofs.«01_k».proof.Proof.Gen.Kernel26.Frame
public import proofs.«01_k».proof.Proof.Gen.Kernel26Ideal.Frame
public import proofs.«01_k».proof.Proof.Gen.Reference26Ideal.Run
public import proofs.«01_k».proof.Proof.Gen.Kernel27.Frame
public import proofs.«01_k».proof.Proof.Gen.Kernel27Ideal.Frame
public import proofs.«01_k».proof.Proof.Gen.Reference27Ideal.Run
public import proofs.«01_k».proof.Proof.Gen.Kernel28.Frame
public import proofs.«01_k».proof.Proof.Gen.Kernel28Ideal.Frame
public import proofs.«01_k».proof.Proof.Gen.Reference28Ideal.Run
public import proofs.«01_k».proof.Proof.Gen.Kernel29.Frame
public import proofs.«01_k».proof.Proof.Gen.Kernel29Ideal.Frame
public import proofs.«01_k».proof.Proof.Gen.Reference29Ideal.Run
public import proofs.«01_k».proof.Proof.Gen.Kernel30.Frame
public import proofs.«01_k».proof.Proof.Gen.Kernel30Ideal.Frame
public import proofs.«01_k».proof.Proof.Gen.Reference30Ideal.Run
public import proofs.«01_k».proof.Proof.Gen.Kernel31.Frame
public import proofs.«01_k».proof.Proof.Gen.Kernel31Ideal.Frame
public import proofs.«01_k».proof.Proof.Gen.Reference31Ideal.Run
public import proofs.«01_k».proof.Proof.Gen.Kernel32.Frame
public import proofs.«01_k».proof.Proof.Gen.Kernel32Ideal.Frame
public import proofs.«01_k».proof.Proof.Gen.Reference32Ideal.Run
public import proofs.«01_k».proof.Proof.Gen.Kernel33.Frame
public import proofs.«01_k».proof.Proof.Gen.Kernel33Ideal.Frame
public import proofs.«01_k».proof.Proof.Gen.Reference33Ideal.Run
public import proofs.«01_k».proof.Proof.Gen.Kernel34.Frame
public import proofs.«01_k».proof.Proof.Gen.Kernel34Ideal.Frame
public import proofs.«01_k».proof.Proof.Gen.Reference34Ideal.Run
public import proofs.«01_k».proof.Proof.Gen.Kernel35.Frame
public import proofs.«01_k».proof.Proof.Gen.Kernel35Ideal.Frame
public import proofs.«01_k».proof.Proof.Gen.Reference35Ideal.Run
public import proofs.«01_k».proof.Proof.Gen.Kernel36.Frame
public import proofs.«01_k».proof.Proof.Gen.Kernel36Ideal.Frame
public import proofs.«01_k».proof.Proof.Gen.Reference36Ideal.Run
public import proofs.«01_k».proof.Proof.Gen.Kernel37.Frame
public import proofs.«01_k».proof.Proof.Gen.Kernel37Ideal.Frame
public import proofs.«01_k».proof.Proof.Gen.Reference37Ideal.Run
public import proofs.«01_k».proof.Proof.Gen.Kernel38.Frame
public import proofs.«01_k».proof.Proof.Gen.Kernel38Ideal.Frame
public import proofs.«01_k».proof.Proof.Gen.Reference38Ideal.Run
public import proofs.«01_k».proof.Proof.PoolClaim
public import proofs.«01_k».proof.Proof.Products
public import proofs.«01_k».proof.Proof.GateBwdClaim
public import proofs.«01_k».proof.Proof.FirstClaim
public import proofs.«01_k».proof.Proof.MidClaim
public import proofs.«01_k».proof.Proof.HeadClaim
public import proofs.«01_k».proof.Proof.PoolFwdClaim
public import proofs.«01_k».proof.Proof.GateClaim
public import proofs.«01_k».proof.Proof.PreNormClaim
public import proofs.«01_k».proof.Proof.PostPreClaim
public import proofs.«01_k».proof.Proof.SmallClaim
public import proofs.«01_k».proof.Proof.AdamwBOutClaim
public import proofs.«01_k».proof.Proof.AdamwBGrpClaim
public import proofs.«01_k».proof.Proof.AdamwBInClaim
public import proofs.«01_k».proof.Proof.AdamwAInClaim
public import proofs.«01_k».proof.Proof.AdamwBBiasClaim
public import proofs.«01_k».proof.Proof.AdamwBScaleClaim
public import proofs.«01_k».proof.Proof.ChipsBOutClaim
public import proofs.«01_k».proof.Proof.ChipsBGrpClaim
public import proofs.«01_k».proof.Proof.ChipsBInClaim
public import proofs.«01_k».proof.Proof.ChipsAInClaim
public import proofs.«01_k».proof.Proof.ChipsBBiasClaim
public import proofs.«01_k».proof.Proof.ChipsBScaleClaim
public import Idealize.ShloMosaic.Lib.Claim
public import Idealize.ShloMosaic.Lib.Quiescent

@[expose] public section

set_option maxRecDepth 16384

noncomputable section

namespace Cert.Proof

open Idealize.ShloMosaic Idealize.SL.Sem

/-- The reference runs and leaves its arguments and every counter as they were. -/
theorem reference_frame : Cert.quiescent_ReferenceIdeal := by
  intro m g _
  exact (θ_run _ _ _).mono (fun r h => ⟨fun c => (h c).2, sem_eq_zero_of_no_sems (by decide) _⟩) (Cert.ReferenceIdeal.Value.run m g)

/-- The certificate. -/
theorem claim : Cert.Claim := ⟨Cert.Kernel.Gen.facts,
  Cert.KernelIdeal.Gen.facts,
  Cert.ReferenceIdeal.Gen.facts,
  Cert.Kernel2.Gen.facts,
  Cert.Kernel2Ideal.Gen.facts,
  Cert.Reference2Ideal.Gen.facts,
  Cert.Kernel3.Gen.facts,
  Cert.Kernel3Ideal.Gen.facts,
  Cert.Reference3Ideal.Gen.facts,
  Cert.Kernel4.Gen.facts,
  Cert.Kernel4Ideal.Gen.facts,
  Cert.Reference4Ideal.Gen.facts,
  Cert.Kernel5.Gen.facts,
  Cert.Kernel5Ideal.Gen.facts,
  Cert.Reference5Ideal.Gen.facts,
  Cert.Kernel6.Gen.facts,
  Cert.Kernel6Ideal.Gen.facts,
  Cert.Reference6Ideal.Gen.facts,
  Cert.Kernel7.Gen.facts,
  Cert.Kernel7Ideal.Gen.facts,
  Cert.Reference7Ideal.Gen.facts,
  Cert.Kernel8.Gen.facts,
  Cert.Kernel8Ideal.Gen.facts,
  Cert.Reference8Ideal.Gen.facts,
  Cert.Kernel9.Gen.facts,
  Cert.Kernel9Ideal.Gen.facts,
  Cert.Reference9Ideal.Gen.facts,
  Cert.Kernel10.Gen.facts,
  Cert.Kernel10Ideal.Gen.facts,
  Cert.Reference10Ideal.Gen.facts,
  Cert.Kernel11.Gen.facts,
  Cert.Kernel11Ideal.Gen.facts,
  Cert.Reference11Ideal.Gen.facts,
  Cert.Kernel12.Gen.facts,
  Cert.Kernel12Ideal.Gen.facts,
  Cert.Reference12Ideal.Gen.facts,
  Cert.Kernel13.Gen.facts,
  Cert.Kernel13Ideal.Gen.facts,
  Cert.Reference13Ideal.Gen.facts,
  Cert.Kernel16.Gen.facts,
  Cert.Kernel16Ideal.Gen.facts,
  Cert.Reference16Ideal.Gen.facts,
  Cert.Kernel17.Gen.facts,
  Cert.Kernel17Ideal.Gen.facts,
  Cert.Reference17Ideal.Gen.facts,
  Cert.Kernel18.Gen.facts,
  Cert.Kernel18Ideal.Gen.facts,
  Cert.Reference18Ideal.Gen.facts,
  Cert.Kernel19.Gen.facts,
  Cert.Kernel19Ideal.Gen.facts,
  Cert.Reference19Ideal.Gen.facts,
  Cert.Kernel20.Gen.facts,
  Cert.Kernel20Ideal.Gen.facts,
  Cert.Reference20Ideal.Gen.facts,
  Cert.Kernel21.Gen.facts,
  Cert.Kernel21Ideal.Gen.facts,
  Cert.Reference21Ideal.Gen.facts,
  Cert.Kernel22.Gen.facts,
  Cert.Kernel22Ideal.Gen.facts,
  Cert.Reference22Ideal.Gen.facts,
  Cert.Kernel25.Gen.facts,
  Cert.Kernel25Ideal.Gen.facts,
  Cert.Reference25Ideal.Gen.facts,
  Cert.Kernel26.Gen.facts,
  Cert.Kernel26Ideal.Gen.facts,
  Cert.Reference26Ideal.Gen.facts,
  Cert.Kernel27.Gen.facts,
  Cert.Kernel27Ideal.Gen.facts,
  Cert.Reference27Ideal.Gen.facts,
  Cert.Kernel28.Gen.facts,
  Cert.Kernel28Ideal.Gen.facts,
  Cert.Reference28Ideal.Gen.facts,
  Cert.Kernel29.Gen.facts,
  Cert.Kernel29Ideal.Gen.facts,
  Cert.Reference29Ideal.Gen.facts,
  Cert.Kernel30.Gen.facts,
  Cert.Kernel30Ideal.Gen.facts,
  Cert.Reference30Ideal.Gen.facts,
  Cert.Kernel31.Gen.facts,
  Cert.Kernel31Ideal.Gen.facts,
  Cert.Reference31Ideal.Gen.facts,
  Cert.Kernel32.Gen.facts,
  Cert.Kernel32Ideal.Gen.facts,
  Cert.Reference32Ideal.Gen.facts,
  Cert.Kernel33.Gen.facts,
  Cert.Kernel33Ideal.Gen.facts,
  Cert.Reference33Ideal.Gen.facts,
  Cert.Kernel34.Gen.facts,
  Cert.Kernel34Ideal.Gen.facts,
  Cert.Reference34Ideal.Gen.facts,
  Cert.Kernel35.Gen.facts,
  Cert.Kernel35Ideal.Gen.facts,
  Cert.Reference35Ideal.Gen.facts,
  Cert.Kernel36.Gen.facts,
  Cert.Kernel36Ideal.Gen.facts,
  Cert.Reference36Ideal.Gen.facts,
  Cert.Kernel37.Gen.facts,
  Cert.Kernel37Ideal.Gen.facts,
  Cert.Reference37Ideal.Gen.facts,
  Cert.Kernel38.Gen.facts,
  Cert.Kernel38Ideal.Gen.facts,
  Cert.Reference38Ideal.Gen.facts,
  Cert.Pool.preFacts,
  Cert.GateBwdClaim.preFacts,
  Cert.FirstClaim.preFacts,
  Cert.MidClaim.preFacts,
  Cert.HeadClaim.preFacts,
  Cert.PoolFwdClaim.preFacts,
  Cert.AdamwBOutClaim.preFacts,
  Cert.AdamwBGrpClaim.preFacts,
  Cert.AdamwBInClaim.preFacts,
  Cert.AdamwAInClaim.preFacts,
  Cert.AdamwBBiasClaim.preFacts,
  Cert.AdamwBScaleClaim.preFacts,
  Cert.ChipsBOutClaim.preFacts,
  Cert.ChipsBGrpClaim.preFacts,
  Cert.ChipsBInClaim.preFacts,
  Cert.ChipsAInClaim.preFacts,
  Cert.ChipsBBiasClaim.preFacts,
  Cert.ChipsBScaleClaim.preFacts,
  Cert.GateBwdClaim.onFacts,
  fun m g _ => Cert.Kernel.Gen.frame m g,
  fun m g _ => Cert.KernelIdeal.Gen.frame m g,
  fun m g _ => Cert.KernelIdeal.Gen.frame m g,
  reference_frame,
  fun m g _ => reference_frame m g trivial,
  fun m g _ => Cert.Kernel2.Gen.frame m g,
  fun m g _ => Cert.Kernel2Ideal.Gen.frame m g,
  fun m g _ => Cert.Kernel2Ideal.Gen.frame m g,
  Cert.GateBwdClaim.quiescent,
  fun m g _ => Cert.GateBwdClaim.quiescent m g trivial,
  fun m g _ => Cert.Kernel3.Gen.frame m g,
  fun m g _ => Cert.Kernel3Ideal.Gen.frame m g,
  fun m g _ => Cert.Kernel3Ideal.Gen.frame m g,
  Cert.FirstClaim.quiescent,
  fun m g _ => Cert.FirstClaim.quiescent m g trivial,
  fun m g _ => Cert.Kernel4.Gen.frame m g,
  fun m g _ => Cert.Kernel4Ideal.Gen.frame m g,
  fun m g _ => Cert.Kernel4Ideal.Gen.frame m g,
  Cert.MidClaim.quiescent,
  fun m g _ => Cert.MidClaim.quiescent m g trivial,
  fun m g _ => Cert.Kernel5.Gen.frame m g,
  fun m g _ => Cert.Kernel5Ideal.Gen.frame m g,
  fun m g _ => Cert.Kernel5Ideal.Gen.frame m g,
  Cert.HeadClaim.quiescent,
  fun m g _ => Cert.HeadClaim.quiescent m g trivial,
  fun m g _ => Cert.Kernel6.Gen.frame m g,
  fun m g _ => Cert.Kernel6Ideal.Gen.frame m g,
  Cert.Products.quiescent6,
  fun m g _ => Cert.Kernel7.Gen.frame m g,
  fun m g _ => Cert.Kernel7Ideal.Gen.frame m g,
  Cert.Products.quiescent7,
  fun m g _ => Cert.Kernel8.Gen.frame m g,
  fun m g _ => Cert.Kernel8Ideal.Gen.frame m g,
  fun m g _ => Cert.Kernel8Ideal.Gen.frame m g,
  Cert.PoolFwdClaim.quiescent,
  fun m g _ => Cert.PoolFwdClaim.quiescent m g trivial,
  fun m g _ => Cert.Kernel9.Gen.frame m g,
  fun m g _ => Cert.Kernel9Ideal.Gen.frame m g,
  Cert.Products.quiescent9,
  fun m g _ => Cert.Kernel10.Gen.frame m g,
  fun m g _ => Cert.Kernel10Ideal.Gen.frame m g,
  Cert.GateClaim.quiescent,
  fun m g _ => Cert.Kernel11.Gen.frame m g,
  fun m g _ => Cert.Kernel11Ideal.Gen.frame m g,
  Cert.Products.quiescent11,
  fun m g _ => Cert.Kernel12.Gen.frame m g,
  fun m g _ => Cert.Kernel12Ideal.Gen.frame m g,
  Cert.PreNormClaim.quiescent,
  fun m g _ => Cert.Kernel13.Gen.frame m g,
  fun m g _ => Cert.Kernel13Ideal.Gen.frame m g,
  Cert.PostPreClaim.quiescent,
  fun m g _ => Cert.Kernel16.Gen.frame m g,
  fun m g _ => Cert.Kernel16Ideal.Gen.frame m g,
  Cert.Products.quiescent16,
  fun m g _ => Cert.Kernel17.Gen.frame m g,
  fun m g _ => Cert.Kernel17Ideal.Gen.frame m g,
  Cert.Products.quiescent17,
  fun m g _ => Cert.Kernel18.Gen.frame m g,
  fun m g _ => Cert.Kernel18Ideal.Gen.frame m g,
  Cert.Products.quiescent18,
  fun m g _ => Cert.Kernel19.Gen.frame m g,
  fun m g _ => Cert.Kernel19Ideal.Gen.frame m g,
  Cert.Products.quiescent19,
  fun m g _ => Cert.Kernel20.Gen.frame m g,
  fun m g _ => Cert.Kernel20Ideal.Gen.frame m g,
  Cert.Products.quiescent20,
  fun m g _ => Cert.Kernel21.Gen.frame m g,
  fun m g _ => Cert.Kernel21Ideal.Gen.frame m g,
  Cert.Products.quiescent21,
  fun m g _ => Cert.Kernel22.Gen.frame m g,
  fun m g _ => Cert.Kernel22Ideal.Gen.frame m g,
  Cert.Products.quiescent22,
  fun m g _ => Cert.Kernel25.Gen.frame m g,
  fun m g _ => Cert.Kernel25Ideal.Gen.frame m g,
  Cert.Products.quiescent25,
  fun m g _ => Cert.Kernel26.Gen.frame m g,
  fun m g _ => Cert.Kernel26Ideal.Gen.frame m g,
  Cert.SmallClaim.quiescent,
  Cert.AdamwBOutClaim.quiescentB,
  Cert.AdamwBOutClaim.quiescentI,
  Cert.AdamwBOutClaim.quiescent,
  fun m g _ => Cert.AdamwBOutClaim.quiescent m g trivial,
  Cert.AdamwBGrpClaim.quiescentB,
  Cert.AdamwBGrpClaim.quiescentI,
  Cert.AdamwBGrpClaim.quiescent,
  fun m g _ => Cert.AdamwBGrpClaim.quiescent m g trivial,
  Cert.AdamwBInClaim.quiescentB,
  Cert.AdamwBInClaim.quiescentI,
  Cert.AdamwBInClaim.quiescent,
  fun m g _ => Cert.AdamwBInClaim.quiescent m g trivial,
  Cert.AdamwAInClaim.quiescentB,
  Cert.AdamwAInClaim.quiescentI,
  Cert.AdamwAInClaim.quiescent,
  fun m g _ => Cert.AdamwAInClaim.quiescent m g trivial,
  Cert.AdamwBBiasClaim.quiescentB,
  Cert.AdamwBBiasClaim.quiescentI,
  Cert.AdamwBBiasClaim.quiescent,
  fun m g _ => Cert.AdamwBBiasClaim.quiescent m g trivial,
  Cert.AdamwBScaleClaim.quiescentB,
  Cert.AdamwBScaleClaim.quiescentI,
  Cert.AdamwBScaleClaim.quiescent,
  fun m g _ => Cert.AdamwBScaleClaim.quiescent m g trivial,
  Cert.ChipsBOutClaim.quiescentB,
  Cert.ChipsBOutClaim.quiescentI,
  Cert.ChipsBOutClaim.quiescent,
  fun m g _ => Cert.ChipsBOutClaim.quiescent m g trivial,
  Cert.ChipsBGrpClaim.quiescentB,
  Cert.ChipsBGrpClaim.quiescentI,
  Cert.ChipsBGrpClaim.quiescent,
  fun m g _ => Cert.ChipsBGrpClaim.quiescent m g trivial,
  Cert.ChipsBInClaim.quiescentB,
  Cert.ChipsBInClaim.quiescentI,
  Cert.ChipsBInClaim.quiescent,
  fun m g _ => Cert.ChipsBInClaim.quiescent m g trivial,
  Cert.ChipsAInClaim.quiescentB,
  Cert.ChipsAInClaim.quiescentI,
  Cert.ChipsAInClaim.quiescent,
  fun m g _ => Cert.ChipsAInClaim.quiescent m g trivial,
  Cert.ChipsBBiasClaim.quiescentB,
  Cert.ChipsBBiasClaim.quiescentI,
  Cert.ChipsBBiasClaim.quiescent,
  fun m g _ => Cert.ChipsBBiasClaim.quiescent m g trivial,
  Cert.ChipsBScaleClaim.quiescentB,
  Cert.ChipsBScaleClaim.quiescentI,
  Cert.ChipsBScaleClaim.quiescent,
  fun m g _ => Cert.ChipsBScaleClaim.quiescent m g trivial,
  trivial,
  Cert.Pool.algebraic,
  trivial,
  Cert.GateBwdClaim.same,
  trivial,
  Cert.FirstClaim.same,
  trivial,
  Cert.MidClaim.same,
  trivial,
  Cert.HeadClaim.same,
  trivial,
  Cert.Products.same6,
  trivial,
  Cert.Products.same7,
  trivial,
  Cert.PoolFwdClaim.same,
  trivial,
  Cert.Products.same9,
  trivial,
  Cert.GateClaim.same,
  trivial,
  Cert.Products.same11,
  trivial,
  Cert.PreNormClaim.same,
  trivial,
  Cert.PostPreClaim.same,
  trivial,
  Cert.Products.same16,
  trivial,
  Cert.Products.same17,
  trivial,
  Cert.Products.same18,
  trivial,
  Cert.Products.same19,
  trivial,
  Cert.Products.same20,
  trivial,
  Cert.Products.same21,
  trivial,
  Cert.Products.same22,
  trivial,
  Cert.Products.same25,
  trivial,
  Cert.SmallClaim.same,
  trivial,
  Cert.AdamwBOutClaim.same,
  trivial,
  Cert.AdamwBGrpClaim.same,
  trivial,
  Cert.AdamwBInClaim.same,
  trivial,
  Cert.AdamwAInClaim.same,
  trivial,
  Cert.AdamwBBiasClaim.same,
  trivial,
  Cert.AdamwBScaleClaim.same,
  trivial,
  Cert.ChipsBOutClaim.same,
  trivial,
  Cert.ChipsBGrpClaim.same,
  trivial,
  Cert.ChipsBInClaim.same,
  trivial,
  Cert.ChipsAInClaim.same,
  trivial,
  Cert.ChipsBBiasClaim.same,
  trivial,
  Cert.ChipsBScaleClaim.same⟩

end Cert.Proof

end
